-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite5 [hPre_finite5 : Cert.Pre_finite5.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite5.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite5 [hPre_finite5 : Cert.Pre_finite5.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite5.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite6 [hPre_finite6 : Cert.Pre_finite6.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite6.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite6 [hPre_finite6 : Cert.Pre_finite6.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite6.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel10Ideal_finite10 [hPre_finite10 : Cert.Pre_finite10.Facts] (m : (ℓ : Loc Cert.Kernel10Ideal.nD Cert.Kernel10Ideal.τ Cert.Kernel10Ideal.sig) → Buf (Elt Ideal) ℓ) : Prop :=
  ∀ c : Dev Cert.Kernel10Ideal.nD,
    (Cert.Pre_finite10.fn (F := Ideal) (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2))) = (fun _ => 1#1)

def Pre_Reference10Ideal (m : (ℓ : Loc Cert.Reference10Ideal.nD Cert.Reference10Ideal.τ Cert.Reference10Ideal.sig) → Buf (Elt Ideal) ℓ) : Prop :=
  True

def Pre_Reference10Ideal_finite10 [hPre_finite10 : Cert.Pre_finite10.Facts] (m : (ℓ : Loc Cert.Reference10Ideal.nD Cert.Reference10Ideal.τ Cert.Reference10Ideal.sig) → Buf (Elt Ideal) ℓ) : Prop :=
  ∀ c : Dev Cert.Reference10Ideal.nD,
    (Cert.Pre_finite10.fn (F := Ideal) (m ((c.tc : Thread Cert.Reference10Ideal.nD Cert.Reference10Ideal.τ).loc Cert.Reference10Ideal.main_arg0)) (m ((c.tc : Thread Cert.Reference10Ideal.nD Cert.Reference10Ideal.τ).loc Cert.Reference10Ideal.main_arg1)) (m ((c.tc : Thread Cert.Reference10Ideal.nD Cert.Reference10Ideal.τ).loc Cert.Reference10Ideal.main_arg2))) = (fun _ => 1#1)

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Kernel5Ideal_pre_finite5 [hKernel5Ideal : Cert.Kernel5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite5 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Reference5Ideal_pre_finite5 [hReference5Ideal : Cert.Reference5Ideal.Facts] [hPre_finite5 : Cert.Pre_finite5.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite5 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite6 [hKernel6Ideal : Cert.Kernel6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite6 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite6 [hReference6Ideal : Cert.Reference6Ideal.Facts] [hPre_finite6 : Cert.Pre_finite6.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite6 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Kernel10Ideal_pre_finite10 [hKernel10Ideal : Cert.Kernel10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal_finite10 m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Reference10Ideal_pre_finite10 [hReference10Ideal : Cert.Reference10Ideal.Facts] [hPre_finite10 : Cert.Pre_finite10.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal_finite10 m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v56) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v50) = v0 c
          ∧ r.2.mem ((c.tc : Thread Cert.Reference2Ideal.nD Cert.Reference2Ideal.τ).loc Cert.Reference2Ideal.main_v51) = v1 c
          ∧ r.2.mem ((c.tc : Thread Cert.Reference2Ideal.nD Cert.Reference2Ideal.τ).loc Cert.Reference2Ideal.main_v52) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v1_2)) (v1 : (c : Dev Cert.Kernel3Ideal.nD) → Buf (Elt Ideal) ((c.tc : Thread Cert.Kernel3Ideal.nD Cert.Kernel3Ideal.τ).loc Cert.Kernel3Ideal.main_v1_0)) (v2 : (c : Dev Cert.Kernel3Ideal.nD) → Buf (Elt Ideal) ((c.tc : Thread Cert.Kernel3Ideal.nD Cert.Kernel3Ideal.τ).loc Cert.Kernel3Ideal.main_v1_1)) (v3 : (c : Dev Cert.Kernel3Ideal.nD) → Buf (Elt Ideal) ((c.tc : Thread Cert.Kernel3Ideal.nD Cert.Kernel3Ideal.τ).loc Cert.Kernel3Ideal.main_v1_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_2) = v0 c
          ∧ r.2.mem ((c.tc : Thread Cert.Kernel3Ideal.nD Cert.Kernel3Ideal.τ).loc Cert.Kernel3Ideal.main_v1_0) = v1 c
          ∧ r.2.mem ((c.tc : Thread Cert.Kernel3Ideal.nD Cert.Kernel3Ideal.τ).loc Cert.Kernel3Ideal.main_v1_1) = v2 c
          ∧ r.2.mem ((c.tc : Thread Cert.Kernel3Ideal.nD Cert.Kernel3Ideal.τ).loc Cert.Kernel3Ideal.main_v1_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v54) = v1 c
          ∧ r.2.mem ((c.tc : Thread Cert.Reference3Ideal.nD Cert.Reference3Ideal.τ).loc Cert.Reference3Ideal.main_v56) = v2 c
          ∧ r.2.mem ((c.tc : Thread Cert.Reference3Ideal.nD Cert.Reference3Ideal.τ).loc Cert.Reference3Ideal.main_v57) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)) (v2 : (c : Dev Cert.Kernel4Ideal.nD) → Buf (Elt Ideal) ((c.tc : Thread Cert.Kernel4Ideal.nD Cert.Kernel4Ideal.τ).loc Cert.Kernel4Ideal.main_v7_2)) (v3 : (c : Dev Cert.Kernel4Ideal.nD) → Buf (Elt Ideal) ((c.tc : Thread Cert.Kernel4Ideal.nD Cert.Kernel4Ideal.τ).loc Cert.Kernel4Ideal.main_v7_3)) (v4 : (c : Dev Cert.Kernel4Ideal.nD) → Buf (Elt Ideal) ((c.tc : Thread Cert.Kernel4Ideal.nD Cert.Kernel4Ideal.τ).loc Cert.Kernel4Ideal.main_v7_4)) (v5 : (c : Dev Cert.Kernel4Ideal.nD) → Buf (Elt Ideal) ((c.tc : Thread Cert.Kernel4Ideal.nD Cert.Kernel4Ideal.τ).loc Cert.Kernel4Ideal.main_v7_5)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_v7_2) = v2 c
          ∧ r.2.mem ((c.tc : Thread Cert.Kernel4Ideal.nD Cert.Kernel4Ideal.τ).loc Cert.Kernel4Ideal.main_v7_3) = v3 c
          ∧ r.2.mem ((c.tc : Thread Cert.Kernel4Ideal.nD Cert.Kernel4Ideal.τ).loc Cert.Kernel4Ideal.main_v7_4) = v4 c
          ∧ r.2.mem ((c.tc : Thread Cert.Kernel4Ideal.nD Cert.Kernel4Ideal.τ).loc Cert.Kernel4Ideal.main_v7_5) = v5 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v43) = v0 c
          ∧ r.2.mem ((c.tc : Thread Cert.Reference4Ideal.nD Cert.Reference4Ideal.τ).loc Cert.Reference4Ideal.main_v44) = v1 c
          ∧ r.2.mem ((c.tc : Thread Cert.Reference4Ideal.nD Cert.Reference4Ideal.τ).loc Cert.Reference4Ideal.main_v46) = v2 c
          ∧ r.2.mem ((c.tc : Thread Cert.Reference4Ideal.nD Cert.Reference4Ideal.τ).loc Cert.Reference4Ideal.main_v48) = v3 c
          ∧ r.2.mem ((c.tc : Thread Cert.Reference4Ideal.nD Cert.Reference4Ideal.τ).loc Cert.Reference4Ideal.main_v50) = v4 c
          ∧ r.2.mem ((c.tc : Thread Cert.Reference4Ideal.nD Cert.Reference4Ideal.τ).loc Cert.Reference4Ideal.main_v52) = v5 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  IdealRules.named_const.Statement Cert.Kernel5Ideal.κ "c01" .f32 0x3D122279#32 (((6693141 / 8388608) * (12003091 / 268435456) : ℝ) : EReal)
  ∧ IdealRules.named_const.Statement Cert.Kernel5Ideal.κ "tc01" .f32 0x3D5B33B6#32 ((((3 / 2) * (6693141 / 8388608)) * (12003091 / 268435456) : ℝ) : EReal)

def algebraic_Kernel5Ideal_Reference5Ideal_pre_finite5 [hKernel5Ideal : Cert.Kernel5Ideal.Facts] [hReference5Ideal : Cert.Reference5Ideal.Facts] [hPre_finite5 : Cert.Pre_finite5.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite5 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)) (v2 : (c : Dev Cert.Kernel5Ideal.nD) → Buf (Elt Ideal) ((c.tc : Thread Cert.Kernel5Ideal.nD Cert.Kernel5Ideal.τ).loc Cert.Kernel5Ideal.main_v2_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_v2_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v112) = v0 c
          ∧ r.2.mem ((c.tc : Thread Cert.Reference5Ideal.nD Cert.Reference5Ideal.τ).loc Cert.Reference5Ideal.main_v113) = v1 c
          ∧ r.2.mem ((c.tc : Thread Cert.Reference5Ideal.nD Cert.Reference5Ideal.τ).loc Cert.Reference5Ideal.main_v114) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal_pre_finite6 [hKernel6Ideal : Cert.Kernel6Ideal.Facts] [hReference6Ideal : Cert.Reference6Ideal.Facts] [hPre_finite6 : Cert.Pre_finite6.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite6 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)) (v2 : (c : Dev Cert.Kernel6Ideal.nD) → Buf (Elt Ideal) ((c.tc : Thread Cert.Kernel6Ideal.nD Cert.Kernel6Ideal.τ).loc Cert.Kernel6Ideal.main_v2_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_v2_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v126) = v0 c
          ∧ r.2.mem ((c.tc : Thread Cert.Reference6Ideal.nD Cert.Reference6Ideal.τ).loc Cert.Reference6Ideal.main_v77) = v1 c
          ∧ r.2.mem ((c.tc : Thread Cert.Reference6Ideal.nD Cert.Reference6Ideal.τ).loc Cert.Reference6Ideal.main_v127) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "c01" .f32 0x3D122279#32 (((6693141 / 8388608) * (12003091 / 268435456) : ℝ) : EReal)

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v42) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v2_0)) (v1 : (c : Dev Cert.Kernel8Ideal.nD) → Buf (Elt Ideal) ((c.tc : Thread Cert.Kernel8Ideal.nD Cert.Kernel8Ideal.τ).loc Cert.Kernel8Ideal.main_v2_1)) (v2 : (c : Dev Cert.Kernel8Ideal.nD) → Buf (Elt Ideal) ((c.tc : Thread Cert.Kernel8Ideal.nD Cert.Kernel8Ideal.τ).loc Cert.Kernel8Ideal.main_v2_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2_0) = v0 c
          ∧ r.2.mem ((c.tc : Thread Cert.Kernel8Ideal.nD Cert.Kernel8Ideal.τ).loc Cert.Kernel8Ideal.main_v2_1) = v1 c
          ∧ r.2.mem ((c.tc : Thread Cert.Kernel8Ideal.nD Cert.Kernel8Ideal.τ).loc Cert.Kernel8Ideal.main_v2_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_v6) = v1 c
          ∧ r.2.mem ((c.tc : Thread Cert.Reference8Ideal.nD Cert.Reference8Ideal.τ).loc Cert.Reference8Ideal.main_v25) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v1_0)) (v1 : (c : Dev Cert.Kernel9Ideal.nD) → Buf (Elt Ideal) ((c.tc : Thread Cert.Kernel9Ideal.nD Cert.Kernel9Ideal.τ).loc Cert.Kernel9Ideal.main_v1_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1_0) = v0 c
          ∧ r.2.mem ((c.tc : Thread Cert.Kernel9Ideal.nD Cert.Kernel9Ideal.τ).loc Cert.Kernel9Ideal.main_v1_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_v17) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal_pre_finite10 [hKernel10Ideal : Cert.Kernel10Ideal.Facts] [hReference10Ideal : Cert.Reference10Ideal.Facts] [hPre_finite10 : Cert.Pre_finite10.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal_finite10 m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v62) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v1) = v0 c
          ∧ r.2.mem ((c.tc : Thread Cert.Reference13Ideal.nD Cert.Reference13Ideal.τ).loc Cert.Reference13Ideal.main_v25) = v1 c
          ∧ r.2.mem ((c.tc : Thread Cert.Reference13Ideal.nD Cert.Reference13Ideal.τ).loc Cert.Reference13Ideal.main_v6) = v2 c
          ∧ r.2.mem ((c.tc : Thread Cert.Reference13Ideal.nD Cert.Reference13Ideal.τ).loc Cert.Reference13Ideal.main_v12) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite5 : Cert.Pre_finite5.Facts) (hPre_finite6 : Cert.Pre_finite6.Facts) (hPre_finite10 : Cert.Pre_finite10.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite5 (hKernel5Ideal := hKernel5Ideal) (hPre_finite5 := hPre_finite5)
    ∧ quiescent_Reference5Ideal (hReference5Ideal := hReference5Ideal)
    ∧ quiescent_Reference5Ideal_pre_finite5 (hReference5Ideal := hReference5Ideal) (hPre_finite5 := hPre_finite5)
    ∧ quiescent_Kernel6 (hKernel6 := hKernel6)
    ∧ quiescent_Kernel6Ideal (hKernel6Ideal := hKernel6Ideal)
    ∧ quiescent_Kernel6Ideal_pre_finite6 (hKernel6Ideal := hKernel6Ideal) (hPre_finite6 := hPre_finite6)
    ∧ quiescent_Reference6Ideal (hReference6Ideal := hReference6Ideal)
    ∧ quiescent_Reference6Ideal_pre_finite6 (hReference6Ideal := hReference6Ideal) (hPre_finite6 := hPre_finite6)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel10Ideal_pre_finite10 (hKernel10Ideal := hKernel10Ideal) (hPre_finite10 := hPre_finite10)
    ∧ quiescent_Reference10Ideal (hReference10Ideal := hReference10Ideal)
    ∧ quiescent_Reference10Ideal_pre_finite10 (hReference10Ideal := hReference10Ideal) (hPre_finite10 := hPre_finite10)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite5 (hKernel5Ideal := hKernel5Ideal) (hReference5Ideal := hReference5Ideal) (hPre_finite5 := hPre_finite5)
    ∧ preserves_Kernel6_Kernel6Ideal
    ∧ algebraic_Kernel6Ideal_Reference6Ideal_pre_finite6 (hKernel6Ideal := hKernel6Ideal) (hReference6Ideal := hReference6Ideal) (hPre_finite6 := hPre_finite6)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal_pre_finite10 (hKernel10Ideal := hKernel10Ideal) (hReference10Ideal := hReference10Ideal) (hPre_finite10 := hPre_finite10)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Pre_finite10.lean ====
abbrev S8192x9216 : Shape := ⟨2, ![8192, 9216]⟩
abbrev S1x4x256x256 : Shape := ⟨4, ![1, 4, 256, 256]⟩
abbrev S1x1024 : Shape := ⟨2, ![1, 1024]⟩
abbrev S_ : Shape := ⟨0, ![]⟩

class Facts : Prop where
  bcast_S_S8192x9216 : S_.BroadcastsInDim S8192x9216 (![] : Fin 0 → Fin S8192x9216.rank)
  reducesTo_S8192x9216_S_d0_1 : S8192x9216.ReducesTo [0, 1] S_
  h_S_ : 0 < S_.numel
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x1024 : S_.BroadcastsInDim S1x1024 (![] : Fin 0 → Fin S1x1024.rank)
  reducesTo_S1x1024_S_d0_1 : S1x1024.ReducesTo [0, 1] S_

variable [Facts]

def fn {F : FTy → Type} [FloatOps F] (main_arg0 : FVec F S8192x9216 .f32) (main_arg1 : FVec F S1x4x256x256 .f32) (main_arg2 : FVec F S1x1024 .f32) : IVec S_ 1 :=
  let main_v0 : FVec F S8192x9216 .f32 := Host.absf main_arg0
  let main_cst : FVec F S_ .f32 := constant S_ .f32 0x7F800000#32
  let main_v1 : FVec F S8192x9216 .f32 := broadcastInDim S8192x9216 ![] bcast_S_S8192x9216 main_cst
  let main_v2 : IVec S8192x9216 1 := cmpf .olt main_v0 main_v1
  let main_c : IVec S_ 1 := constantI S_ 1 1#1
  let main_v3 : IVec S_ 1 := (fun x v => Host.reduce IntOp.andi x v reducesTo_S8192x9216_S_d0_1 h_S_) main_v2 main_c
  let main_v4 : FVec F S1x4x256x256 .f32 := Host.absf main_arg1
  let main_cst_0 : FVec F S_ .f32 := constant S_ .f32 0x7F800000#32
  let main_v5 : FVec F S1x4x256x256 .f32 := broadcastInDim S1x4x256x256 ![] bcast_S_S1x4x256x256 main_cst_0
  let main_v6 : IVec S1x4x256x256 1 := cmpf .olt main_v4 main_v5
  let main_c_1 : IVec S_ 1 := constantI S_ 1 1#1
  let main_v7 : IVec S_ 1 := (fun x v => Host.reduce IntOp.andi x v reducesTo_S1x4x256x256_S_d0_1_2_3 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v3 main_v7
  let main_v13 : IVec S_ 1 := andi main_v12 main_v11
  main_v13
-- ==== Pre_finite5.lean ====
abbrev S8192x12288 : Shape := ⟨2, ![8192, 12288]⟩
abbrev S3x6144 : Shape := ⟨2, ![3, 6144]⟩
abbrev S1x6144 : Shape := ⟨2, ![1, 6144]⟩
abbrev S6144x2048 : Shape := ⟨2, ![6144, 2048]⟩
abbrev S8192x2048 : Shape := ⟨2, ![8192, 2048]⟩
abbrev S_ : Shape := ⟨0, ![]⟩

class Facts : Prop where
  bcast_S_S8192x12288 : S_.BroadcastsInDim S8192x12288 (![] : Fin 0 → Fin S8192x12288.rank)
  reducesTo_S8192x12288_S_d0_1 : S8192x12288.ReducesTo [0, 1] S_
  h_S_ : 0 < S_.numel
  bcast_S_S3x6144 : S_.BroadcastsInDim S3x6144 (![] : Fin 0 → Fin S3x6144.rank)
  reducesTo_S3x6144_S_d0_1 : S3x6144.ReducesTo [0, 1] S_
  bcast_S_S1x6144 : S_.BroadcastsInDim S1x6144 (![] : Fin 0 → Fin S1x6144.rank)
  reducesTo_S1x6144_S_d0_1 : S1x6144.ReducesTo [0, 1] S_
  bcast_S_S6144x2048 : S_.BroadcastsInDim S6144x2048 (![] : Fin 0 → Fin S6144x2048.rank)
  reducesTo_S6144x2048_S_d0_1 : S6144x2048.ReducesTo [0, 1] S_
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_arg4 : FVec F S8192x2048 .bf16) (main_v3 : IVec S_ 1) (main_v7 : IVec S_ 1) (main_v11 : IVec S_ 1) (main_v15 : IVec S_ 1) : IVec S_ 1 :=
  let main_v16 : FVec F S8192x2048 .bf16 := Host.absf main_arg4
  let main_cst_6 : FVec F S_ .bf16 := constant S_ .bf16 0x7F80#16
  let main_v17 : FVec F S8192x2048 .bf16 := broadcastInDim S8192x2048 ![] bcast_S_S8192x2048 main_cst_6
  let main_v18 : IVec S8192x2048 1 := cmpf .olt main_v16 main_v17
  let main_c_7 : IVec S_ 1 := constantI S_ 1 1#1
  let main_v19 : IVec S_ 1 := (fun x v => Host.reduce IntOp.andi x v reducesTo_S8192x2048_S_d0_1 h_S_) main_v18 main_c_7
  let main_v20 : IVec S_ 1 := andi main_v3 main_v7
  let main_v21 : IVec S_ 1 := andi main_v20 main_v11
  let main_v22 : IVec S_ 1 := andi main_v21 main_v15
  let main_v23 : IVec S_ 1 := andi main_v22 main_v19
  main_v23

def fn {F : FTy → Type} [FloatOps F] (main_arg0 : FVec F S8192x12288 .f32) (main_arg1 : FVec F S3x6144 .f32) (main_arg2 : FVec F S1x6144 .f32) (main_arg3 : FVec F S6144x2048 .f32) (main_arg4 : FVec F S8192x2048 .bf16) : IVec S_ 1 :=
  let main_v0 : FVec F S8192x12288 .f32 := Host.absf main_arg0
  let main_cst : FVec F S_ .f32 := constant S_ .f32 0x7F800000#32
  let main_v1 : FVec F S8192x12288 .f32 := broadcastInDim S8192x12288 ![] bcast_S_S8192x12288 main_cst
  let main_v2 : IVec S8192x12288 1 := cmpf .olt main_v0 main_v1
  let main_c : IVec S_ 1 := constantI S_ 1 1#1
  let main_v3 : IVec S_ 1 := (fun x v => Host.reduce IntOp.andi x v reducesTo_S8192x12288_S_d0_1 h_S_) main_v2 main_c
  let main_v4 : FVec F S3x6144 .f32 := Host.absf main_arg1
  let main_cst_0 : FVec F S_ .f32 := constant S_ .f32 0x7F800000#32
  let main_v5 : FVec F S3x6144 .f32 := broadcastInDim S3x6144 ![] bcast_S_S3x6144 main_cst_0
  let main_v6 : IVec S3x6144 1 := cmpf .olt main_v4 main_v5
  let main_c_1 : IVec S_ 1 := constantI S_ 1 1#1
  let main_v7 : IVec S_ 1 := (fun x v => Host.reduce IntOp.andi x v reducesTo_S3x6144_S_d0_1 h_S_) main_v6 main_c_1
  let main_v8 : FVec F S1x6144 .f32 := Host.absf main_arg2
  let main_cst_2 : FVec F S_ .f32 := constant S_ .f32 0x7F800000#32
  let main_v9 : FVec F S1x6144 .f32 := broadcastInDim S1x6144 ![] bcast_S_S1x6144 main_cst_2
  let main_v10 : IVec S1x6144 1 := cmpf .olt main_v8 main_v9
  let main_c_3 : IVec S_ 1 := constantI S_ 1 1#1
  let main_v11 : IVec S_ 1 := (fun x v => Host.reduce IntOp.andi x v reducesTo_S1x6144_S_d0_1 h_S_) main_v10 main_c_3
  let main_v12 : FVec F S6144x2048 .f32 := Host.absf main_arg3
  let main_cst_4 : FVec F S_ .f32 := constant S_ .f32 0x7F800000#32
  let main_v13 : FVec F S6144x2048 .f32 := broadcastInDim S6144x2048 ![] bcast_S_S6144x2048 main_cst_4
  let main_v14 : IVec S6144x2048 1 := cmpf .olt main_v12 main_v13
  let main_c_5 : IVec S_ 1 := constantI S_ 1 1#1
  let main_v15 : IVec S_ 1 := (fun x v => Host.reduce IntOp.andi x v reducesTo_S6144x2048_S_d0_1 h_S_) main_v14 main_c_5
  fn_part1 (F := F) main_arg4 main_v3 main_v7 main_v11 main_v15
-- ==== Pre_finite6.lean ====
abbrev S8192x9216 : Shape := ⟨2, ![8192, 9216]⟩
abbrev S1x4x256x256 : Shape := ⟨4, ![1, 4, 256, 256]⟩
abbrev S1x1024 : Shape := ⟨2, ![1, 1024]⟩
abbrev S8192x1024 : Shape := ⟨2, ![8192, 1024]⟩
abbrev S_ : Shape := ⟨0, ![]⟩

class Facts : Prop where
  bcast_S_S8192x9216 : S_.BroadcastsInDim S8192x9216 (![] : Fin 0 → Fin S8192x9216.rank)
  reducesTo_S8192x9216_S_d0_1 : S8192x9216.ReducesTo [0, 1] S_
  h_S_ : 0 < S_.numel
  bcast_S_S1x4x256x256 : S_.BroadcastsInDim S1x4x256x256 (![] : Fin 0 → Fin S1x4x256x256.rank)
  reducesTo_S1x4x256x256_S_d0_1_2_3 : S1x4x256x256.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S8192x9216 .f32) (main_arg1 : FVec F S1x4x256x256 .f32) (main_arg2 : FVec F S1x1024 .f32) (main_arg3 : FVec F S8192x1024 .f32) : IVec S_ 1 :=
  let main_v0 : FVec F S8192x9216 .f32 := Host.absf main_arg0
  let main_cst : FVec F S_ .f32 := constant S_ .f32 0x7F800000#32
  let main_v1 : FVec F S8192x9216 .f32 := broadcastInDim S8192x9216 ![] bcast_S_S8192x9216 main_cst
  let main_v2 : IVec S8192x9216 1 := cmpf .olt main_v0 main_v1
  let main_c : IVec S_ 1 := constantI S_ 1 1#1
  let main_v3 : IVec S_ 1 := (fun x v => Host.reduce IntOp.andi x v reducesTo_S8192x9216_S_d0_1 h_S_) main_v2 main_c
  let main_v4 : FVec F S1x4x256x256 .f32 := Host.absf main_arg1
  let main_cst_0 : FVec F S_ .f32 := constant S_ .f32 0x7F800000#32
  let main_v5 : FVec F S1x4x256x256 .f32 := broadcastInDim S1x4x256x256 ![] bcast_S_S1x4x256x256 main_cst_0
  let main_v6 : IVec S1x4x256x256 1 := cmpf .olt main_v4 main_v5
  let main_c_1 : IVec S_ 1 := constantI S_ 1 1#1
  let main_v7 : IVec S_ 1 := (fun x v => Host.reduce IntOp.andi x v reducesTo_S1x4x256x256_S_d0_1_2_3 h_S_) main_v6 main_c_1
  let main_v8 : FVec F S1x1024 .f32 := Host.absf main_arg2
  let main_cst_2 : FVec F S_ .f32 := constant S_ .f32 0x7F800000#32
  let main_v9 : FVec F S1x1024 .f32 := broadcastInDim S1x1024 ![] bcast_S_S1x1024 main_cst_2
  let main_v10 : IVec S1x1024 1 := cmpf .olt main_v8 main_v9
  let main_c_3 : IVec S_ 1 := constantI S_ 1 1#1
  let main_v11 : IVec S_ 1 := (fun x v => Host.reduce IntOp.andi x v reducesTo_S1x1024_S_d0_1 h_S_) main_v10 main_c_3
  let main_v12 : FVec F S8192x1024 .f32 := Host.absf main_arg3
  let main_cst_4 : FVec F S_ .f32 := constant S_ .f32 0x7F800000#32
  let main_v13 : FVec F S8192x1024 .f32 := broadcastInDim S8192x1024 ![] bcast_S_S8192x1024 main_cst_4
  let main_v14 : IVec S8192x1024 1 := cmpf .olt main_v12 main_v13
  let main_c_5 : IVec S_ 1 := constantI S_ 1 1#1
  let main_v15 : IVec S_ 1 := (fun x v => Host.reduce IntOp.andi x v reducesTo_S8192x1024_S_d0_1 h_S_) main_v14 main_c_5
  fn_part1 (F := F) main_v3 main_v7 main_v11 main_v15
-- ==== Kernel.lean ====
abbrev S8192x2048 : Shape := ⟨2, ![8192, 2048]⟩
abbrev S1x2048 : Shape := ⟨2, ![1, 2048]⟩
abbrev S2048x9216 : Shape := ⟨2, ![2048, 9216]⟩
abbrev S8192x1024 : Shape := ⟨2, ![8192, 1024]⟩
abbrev S8192x9216 : Shape := ⟨2, ![8192, 9216]⟩
abbrev S512x2304 : Shape := ⟨2, ![512, 2304]⟩
abbrev S2048x2304 : Shape := ⟨2, ![2048, 2304]⟩
abbrev S512x2048 : Shape := ⟨2, ![512, 2048]⟩
abbrev S8x2048 : Shape := ⟨2, ![8, 2048]⟩
abbrev S8 : Shape := ⟨1, ![8]⟩
abbrev S8x1 : Shape := ⟨2, ![8, 1]⟩
abbrev S2048 : Shape := ⟨1, ![2048]⟩

abbrev nBuf : Space → Nat
  | .hbm => 14
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x9216, .f32⟩
  | .hbm, ⟨3, _⟩ => ⟨S8192x1024, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .f32⟩
  | .hbm, ⟨9, _⟩ => ⟨S8192x9216, .bf16⟩
  | .hbm, ⟨10, _⟩ => ⟨S2048x9216, .bf16⟩
  | .hbm, ⟨11, _⟩ => ⟨S8192x2048, .f32⟩
  | .hbm, ⟨12, _⟩ => ⟨S8192x2048, .bf16⟩
  | .hbm, ⟨13, _⟩ => ⟨S1x2048, .f32⟩
  | .local _ .vmem, ⟨0, _⟩ => ⟨S512x2304, .bf16⟩
  | .local _ .vmem, ⟨1, _⟩ => ⟨S512x2304, .bf16⟩
  | .local _ .vmem, ⟨2, _⟩ => ⟨S2048x2304, .bf16⟩
  | .local _ .vmem, ⟨3, _⟩ => ⟨S2048x2304, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 4], ![false, false]⟩

def k0_cond4 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ReferenceIdeal.lean ====
abbrev S8192x2048 : Shape := ⟨2, ![8192, 2048]⟩
abbrev S1x2048 : Shape := ⟨2, ![1, 2048]⟩
abbrev S2048x9216 : Shape := ⟨2, ![2048, 9216]⟩
abbrev S8192x1024 : Shape := ⟨2, ![8192, 1024]⟩
abbrev S8192x4096 : Shape := ⟨2, ![8192, 4096]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x9216 : Shape := ⟨2, ![8192, 9216]⟩

abbrev nBuf : Space → Nat
  | .hbm => 79
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x9216, .f32⟩
  | .hbm, ⟨3, _⟩ => ⟨S8192x1024, .bf16⟩
  | .hbm, ⟨4, _⟩ => ⟨S8192x2048, .bf16⟩
  | .hbm, ⟨5, _⟩ => ⟨S8192x2048, .bf16⟩
  | .hbm, ⟨6, _⟩ => ⟨S8192x2048, .bf16⟩
  | .hbm, ⟨7, _⟩ => ⟨S8192x2048, .bf16⟩
  | .hbm, ⟨8, _⟩ => ⟨S8192x2048, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S8192x4096, .bf16⟩
  | .hbm, ⟨13, _⟩ => ⟨S8192x4096, .f32⟩
  | .hbm, ⟨14, _⟩ => ⟨S2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x2048, .f32⟩
  | .hbm, ⟨31, _⟩ => ⟨S8192x2048, .f32⟩
  | .hbm, ⟨32, _⟩ => ⟨S1x2048, .f32⟩
  | .hbm, ⟨33, _⟩ => ⟨S8192x2048, .f32⟩
  | .hbm, ⟨34, _⟩ => ⟨S8192x2048, .f32⟩
  | .hbm, ⟨35, _⟩ => ⟨S8192x9216, .f32⟩
  | .hbm, ⟨36, _⟩ => ⟨S8192x1024, .f32⟩
  | .hbm, ⟨37, _⟩ => ⟨S8192x2048, .f32⟩
  | .hbm, ⟨38, _⟩ => ⟨S8192x2048, .f32⟩
  | .hbm, ⟨39, _⟩ => ⟨S8192x4096, .f32⟩
  | .hbm, ⟨40, _⟩ => ⟨S_, .f32⟩
  | .hbm, ⟨41, _⟩ => ⟨S8192x9216, .f32⟩
  | .hbm, ⟨42, _⟩ => ⟨S_, .f32⟩
  | .hbm, ⟨43, _⟩ => ⟨S8192x9216, .f32⟩
  | .hbm, ⟨44, _⟩ => ⟨S8192x9216, .f32⟩
  | .hbm, ⟨45, _⟩ => ⟨S_, .f32⟩
  | .hbm, ⟨46, _⟩ => ⟨S8192x9216, .f32⟩
  | .hbm, ⟨47, _⟩ => ⟨S8192x9216, .f32⟩
  | .hbm, ⟨48, _⟩ => ⟨S_, .f32⟩
  | .hbm, ⟨49, _⟩ => ⟨S8192x9216, .f32⟩
  | .hbm, ⟨50, _⟩ => ⟨S8192x9216, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_3 : Ref sig .tc := ⟨.hbm, 40, rfl⟩
abbrev main_v27 : Ref sig .tc := ⟨.hbm, 41, rfl⟩
abbrev main_cst_4 : Ref sig .tc := ⟨.hbm, 42, rfl⟩
abbrev main_v28 : Ref sig .tc := ⟨.hbm, 43, rfl⟩
abbrev main_v29 : Ref sig .tc := ⟨.hbm, 44, rfl⟩
abbrev main_cst_5 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_8 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel2.lean ====
abbrev S8192x2048 : Shape := ⟨2, ![8192, 2048]⟩
abbrev S1x2048 : Shape := ⟨2, ![1, 2048]⟩
abbrev S2048x12288 : Shape := ⟨2, ![2048, 12288]⟩
abbrev S2x8192x6144 : Shape := ⟨3, ![2, 8192, 6144]⟩
abbrev S1x512x2048 : Shape := ⟨3, ![1, 512, 2048]⟩
abbrev S2048x2048 : Shape := ⟨2, ![2048, 2048]⟩
abbrev S512x2048 : Shape := ⟨2, ![512, 2048]⟩
abbrev S8x2048 : Shape := ⟨2, ![8, 2048]⟩
abbrev S8 : Shape := ⟨1, ![8]⟩
abbrev S8x1 : Shape := ⟨2, ![8, 1]⟩
abbrev S2048 : Shape := ⟨1, ![2048]⟩

abbrev nBuf : Space → Nat
  | .hbm => 9
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x12288, .f32⟩
  | .hbm, ⟨3, _⟩ => ⟨S2x8192x6144, .bf16⟩
  | .hbm, ⟨4, _⟩ => ⟨S8192x2048, .f32⟩
  | .hbm, ⟨5, _⟩ => ⟨S2048x12288, .bf16⟩
  | .hbm, ⟨6, _⟩ => ⟨S8192x2048, .f32⟩
  | .hbm, ⟨7, _⟩ => ⟨S8192x2048, .bf16⟩
  | .hbm, ⟨8, _⟩ => ⟨S1x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S1x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13

abbrev nD : Nat := 1
abbrev τ : Topo := Topo.v7x

variable {F : FTy → Type} [FloatOps F]

abbrev grid0 : Pipeline.Grid := ⟨2, ![16, 6], ![false, false]⟩

def k0_cond4 (i : grid0.Coords) : BitVec 1 :=
  let arg1 : BitVec 32 := BitVec.ofNat 32 (i 1).val
  let c5_i32 : BitVec 32 := 5#32
  let v11 : BitVec 1 := Scalar.cmpi .eq arg1 c5_i32
  let v12 : BitVec 32 := Scalar.extui v11
  let c0_i32_6 : BitVec 32 := 0#32
  let v13 : BitVec 1 := Scalar.cmpi .ne v12 c0_i32_6
  v13

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== Reference2Ideal.lean ====
abbrev S8192x2048 : Shape := ⟨2, ![8192, 2048]⟩
abbrev S1x2048 : Shape := ⟨2, ![1, 2048]⟩
abbrev S2048x12288 : Shape := ⟨2, ![2048, 12288]⟩
abbrev S2x8192x6144 : Shape := ⟨3, ![2, 8192, 6144]⟩
abbrev S1x8192x6144 : Shape := ⟨3, ![1, 8192, 6144]⟩
abbrev S8192x6144 : Shape := ⟨2, ![8192, 6144]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8192x12288 : Shape := ⟨2, ![8192, 12288]⟩

abbrev nBuf : Space → Nat
  | .hbm => 69
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S2048x12288, .f32⟩
  | .hbm, ⟨3, _⟩ => ⟨S2x8192x6144, .bf16⟩
  | .hbm, ⟨4, _⟩ => ⟨S8192x2048, .f32⟩
  | .hbm, ⟨5, _⟩ => ⟨S1x8192x6144, .bf16⟩
  | .hbm, ⟨6, _⟩ => ⟨S8192x6144, .bf16⟩
  | .hbm, ⟨7, _⟩ => ⟨S8192x6144, .f32⟩
  | .hbm, ⟨8, _⟩ => ⟨S1x8192x6144, .bf16⟩
  | .hbm, ⟨9, _⟩ => ⟨S8192x6144, .bf16⟩
  | .hbm, ⟨10, _⟩ => ⟨S8192x6144, .f32⟩
  | .hbm, ⟨11, _⟩ => ⟨S2048, .f32⟩
  | .hbm, ⟨12, _⟩ => ⟨S8192x2048, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x2048, .f32⟩
  | .hbm, ⟨28, _⟩ => ⟨S8192x2048, .f32⟩
  | .hbm, ⟨29, _⟩ => ⟨S1x2048, .f32⟩
  | .hbm, ⟨30, _⟩ => ⟨S8192x2048, .f32⟩
  | .hbm, ⟨31, _⟩ => ⟨S8192x2048, .f32⟩
  | .hbm, ⟨32, _⟩ => ⟨S8192x12288, .f32⟩
  | .hbm, ⟨33, _⟩ => ⟨S8192x6144, .f32⟩
  | .hbm, ⟨34, _⟩ => ⟨S8192x6144, .f32⟩
  | .hbm, ⟨35, _⟩ => ⟨S_, .f32⟩
  | .hbm, ⟨36, _⟩ => ⟨S8192x12288, .f32⟩
  | .hbm, ⟨37, _⟩ => ⟨S_, .f32⟩
  | .hbm, ⟨38, _⟩ => ⟨S8192x12288, .f32⟩
  | .hbm, ⟨39, _⟩ => ⟨S8192x12288, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S2048, .f32⟩
  | .hbm, ⟨44, _⟩ => ⟨S1x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S8192x2048, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S8192x2048, .f32⟩
  | .hbm, ⟨66, _⟩ => ⟨S8192x2048, .f32⟩
  | .hbm, ⟨67, _⟩ => ⟨S8192x2048, .bf16⟩
  | .hbm, ⟨68, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_3 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_8 : Ref sig .tc := ⟨.hbm, 57, rfl⟩
abbrev main_v43 : Ref sig .tc := ⟨.hbm, 58, rfl⟩
abbrev main_v44 : Ref sig .tc := ⟨.hbm, 59, rfl⟩
abbrev main_cst_9 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩

abbrev nD : Nat := 1
abbrev τ : Topo := Topo.v7x

variable {F : FTy → Type} [FloatOps F]
-- ==== Kernel3.lean ====
abbrev S8192x6144 : Shape := ⟨2, ![8192, 6144]⟩
abbrev S6144x2048 : Shape := ⟨2, ![6144, 2048]⟩
abbrev S8192x2048 : Shape := ⟨2, ![8192, 2048]⟩
abbrev S1x2048 : Shape := ⟨2, ![1, 2048]⟩
abbrev S8x128 : Shape := ⟨2, ![8, 128]⟩
abbrev S512x1536 : Shape := ⟨2, ![512, 1536]⟩
abbrev S1536x2048 : Shape := ⟨2, ![1536, 2048]⟩
abbrev S512x2048 : Shape := ⟨2, ![512, 2048]⟩
abbrev S8x1 : Shape := ⟨2, ![8, 1]⟩
abbrev S8x2048 : Shape := ⟨2, ![8, 2048]⟩
abbrev S8 : Shape := ⟨1, ![8]⟩
abbrev S1x8x1 : Shape := ⟨3, ![1, 8, 1]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 16
  | .smem => 0
  | _ => 0

abbrev bufTy : (tb : Table) → Fin (tcTables nBuf tb) → BufTy
  | .hbm, ⟨0, _⟩ => ⟨S8192x6144, .bf16⟩
  | .hbm, ⟨1, _⟩ => ⟨S6144x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S6144x2048, .bf16⟩
  | .hbm, ⟨6, _⟩ => ⟨S8192x2048, .f32⟩
  | .hbm, ⟨7, _⟩ => ⟨S8192x2048, .bf16⟩
  | .hbm, ⟨8, _⟩ => ⟨S8x128, .f32⟩
  | .hbm, ⟨9, _⟩ => ⟨S1x2048, .f32⟩
  | .local _ .vmem, ⟨0, _⟩ => ⟨S512x1536, .bf16⟩
  | .local _ .vmem, ⟨1, _⟩ => ⟨S512x1536, .bf16⟩
  | .local _ .vmem, ⟨2, _⟩ => ⟨S1536x2048, .bf16⟩
  | .local _ .vmem, ⟨3, _⟩ => ⟨S1536x2048, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | .local _ .vmem, ⟨13, _⟩ => ⟨S8x128, .f32⟩
  | .local _ .vmem, ⟨14, _⟩ => ⟨S1x2048, .f32⟩
  | .local _ .vmem, ⟨15, _⟩ => ⟨S512x2048, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![16, 4], ![false, false]⟩

def k0_cond3 (i : grid0.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_11 : BitVec 32 := 0#32
  let v19 : BitVec 1 := Scalar.cmpi .ne v18 c0_i32_11
  v19

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference3Ideal.lean ====
abbrev S8192x6144 : Shape := ⟨2, ![8192, 6144]⟩
abbrev S6144x2048 : Shape := ⟨2, ![6144, 2048]⟩
abbrev S8192x2048 : Shape := ⟨2, ![8192, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S8x128 : Shape := ⟨2, ![8, 128]⟩

abbrev nBuf : Space → Nat
  | .hbm => 80
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S6144x2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S2048, .f32⟩
  | .hbm, ⟨6, _⟩ => ⟨S8192x6144, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x2048, .f32⟩
  | .hbm, ⟨25, _⟩ => ⟨S8192x2048, .f32⟩
  | .hbm, ⟨26, _⟩ => ⟨S1x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S2048, .f32⟩
  | .hbm, ⟨60, _⟩ => ⟨S8192x2048, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x2048, .f32⟩
  | .hbm, ⟨65, _⟩ => ⟨S8192x2048, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x2048, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8x128, .f32⟩
  | .hbm, ⟨78, _⟩ => ⟨S8192x2048, .bf16⟩
  | .hbm, ⟨79, _⟩ => ⟨S1x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩

abbrev nD : Nat := 1
abbrev τ : Topo := Topo.v7x

variable {F : FTy → Type} [FloatOps F]
-- ==== Kernel4.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S8192x9216 : Shape := ⟨2, ![8192, 9216]⟩
abbrev S1x4096 : Shape := ⟨2, ![1, 4096]⟩
abbrev S1x2048 : Shape := ⟨2, ![1, 2048]⟩
abbrev S512x2048 : Shape := ⟨2, ![512, 2048]⟩
abbrev S512x1024 : Shape := ⟨2, ![512, 1024]⟩
abbrev S1x1024 : Shape := ⟨2, ![1, 1024]⟩
abbrev S8x512 : Shape := ⟨2, ![8, 512]⟩
abbrev S16x512 : Shape := ⟨2, ![16, 512]⟩
abbrev S1x512 : Shape := ⟨2, ![1, 512]⟩
abbrev S512 : Shape := ⟨1, ![512]⟩

abbrev nBuf : Space → Nat
  | .hbm => 21
  | .vmem => 29
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .hbm, ⟨3, _⟩ => ⟨S2048x2048, .f32⟩
  | .hbm, ⟨4, _⟩ => ⟨S8192x9216, .f32⟩
  | .hbm, ⟨5, _⟩ => ⟨S1x4096, .f32⟩
  | .hbm, ⟨6, _⟩ => ⟨S2048x2048, .f32⟩
  | .hbm, ⟨7, _⟩ => ⟨S8192x2048, .bf16⟩
  | .hbm, ⟨8, _⟩ => ⟨S8192x1024, .f32⟩
  | .hbm, ⟨9, _⟩ => ⟨S8192x2048, .f32⟩
  | .hbm, ⟨10, _⟩ => ⟨S8192x2048, .bf16⟩
  | .hbm, ⟨11, _⟩ => ⟨S8192x2048, .f32⟩
  | .hbm, ⟨12, _⟩ => ⟨S8192x2048, .f32⟩
  | .hbm, ⟨13, _⟩ => ⟨S8192x2048, .bf16⟩
  | .hbm, ⟨14, _⟩ => ⟨S2048x2048, .bf16⟩
  | .hbm, ⟨15, _⟩ => ⟨S8192x2048, .bf16⟩
  | .hbm, ⟨16, _⟩ => ⟨S8192x2048, .bf16⟩
  | .hbm, ⟨17, _⟩ => ⟨S8192x2048, .bf16⟩
  | .hbm, ⟨18, _⟩ => ⟨S8192x2048, .bf16⟩
  | .hbm, ⟨19, _⟩ => ⟨S1x2048, .f32⟩
  | .hbm, ⟨20, _⟩ => ⟨S1x2048, .f32⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S1x1024, .f32⟩
  | .local _ .vmem, ⟨28, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v7_3 : Ref sig .tc := ⟨.hbm, 18, rfl⟩
abbrev main_v7_4 : Ref sig .tc := ⟨.hbm, 19, rfl⟩
abbrev main_v7_5 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference4Ideal.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S8192x9216 : Shape := ⟨2, ![8192, 9216]⟩
abbrev S1x4096 : Shape := ⟨2, ![1, 4096]⟩
abbrev S8192x4096 : Shape := ⟨2, ![8192, 4096]⟩
abbrev S4096 : Shape := ⟨1, ![4096]⟩
abbrev S_ : Shape := ⟨0, ![]⟩
abbrev S8192x2x2048 : Shape := ⟨3, ![8192, 2, 2048]⟩
abbrev S8192x1x2048 : Shape := ⟨3, ![8192, 1, 2048]⟩
abbrev S2048 : Shape := ⟨1, ![2048]⟩
abbrev S1x2048 : Shape := ⟨2, ![1, 2048]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .hbm, ⟨3, _⟩ => ⟨S2048x2048, .f32⟩
  | .hbm, ⟨4, _⟩ => ⟨S8192x9216, .f32⟩
  | .hbm, ⟨5, _⟩ => ⟨S1x4096, .f32⟩
  | .hbm, ⟨6, _⟩ => ⟨S2048x2048, .f32⟩
  | .hbm, ⟨7, _⟩ => ⟨S8192x2048, .bf16⟩
  | .hbm, ⟨8, _⟩ => ⟨S8192x4096, .f32⟩
  | .hbm, ⟨9, _⟩ => ⟨S8192x1024, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S_, .f32⟩
  | .hbm, ⟨26, _⟩ => ⟨S8192x4096, .f32⟩
  | .hbm, ⟨27, _⟩ => ⟨S8192x4096, .f32⟩
  | .hbm, ⟨28, _⟩ => ⟨S8192x4096, .f32⟩
  | .hbm, ⟨29, _⟩ => ⟨S8192x2x2048, .f32⟩
  | .hbm, ⟨30, _⟩ => ⟨S8192x1x2048, .f32⟩
  | .hbm, ⟨31, _⟩ => ⟨S8192x2048, .f32⟩
  | .hbm, ⟨32, _⟩ => ⟨S8192x2048, .f32⟩
  | .hbm, ⟨33, _⟩ => ⟨S8192x1x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S8192x2048, .f32⟩
  | .hbm, ⟨42, _⟩ => ⟨S8192x1x2048, .f32⟩
  | .hbm, ⟨43, _⟩ => ⟨S_, .f32⟩
  | .hbm, ⟨44, _⟩ => ⟨S8192x2x2048, .f32⟩
  | .hbm, ⟨45, _⟩ => ⟨S8192x2048, .f32⟩
  | .hbm, ⟨46, _⟩ => ⟨S8192x2048, .f32⟩
  | .hbm, ⟨47, _⟩ => ⟨S8192x1x2048, .f32⟩
  | .hbm, ⟨48, _⟩ => ⟨S_, .f32⟩
  | .hbm, ⟨49, _⟩ => ⟨S8192x2x2048, .f32⟩
  | .hbm, ⟨50, _⟩ => ⟨S8192x2x2048, .f32⟩
  | .hbm, ⟨51, _⟩ => ⟨S8192x4096, .f32⟩
  | .hbm, ⟨52, _⟩ => ⟨S8192x4096, .f32⟩
  | .hbm, ⟨53, _⟩ => ⟨S_, .f32⟩
  | .hbm, ⟨54, _⟩ => ⟨S4096, .f32⟩
  | .hbm, ⟨55, _⟩ => ⟨S1x4096, .f32⟩
  | .hbm, ⟨56, _⟩ => ⟨S_, .f32⟩
  | .hbm, ⟨57, _⟩ => ⟨S4096, .f32⟩
  | .hbm, ⟨58, _⟩ => ⟨S8192x2048, .bf16⟩
  | .hbm, ⟨59, _⟩ => ⟨S8192x2048, .bf16⟩
  | .hbm, ⟨60, _⟩ => ⟨S8192x2048, .f32⟩
  | .hbm, ⟨61, _⟩ => ⟨S8192x2048, .bf16⟩
  | .hbm, ⟨62, _⟩ => ⟨S8192x2048, .f32⟩
  | .hbm, ⟨63, _⟩ => ⟨S8192x2048, .bf16⟩
  | .hbm, ⟨64, _⟩ => ⟨S2048, .f32⟩
  | .hbm, ⟨65, _⟩ => ⟨S1x2048, .f32⟩
  | .hbm, ⟨66, _⟩ => ⟨S2048, .f32⟩
  | .hbm, ⟨67, _⟩ => ⟨S1x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_cst_1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_4 : Ref sig .tc := ⟨.hbm, 53, rfl⟩
abbrev main_v40 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩

abbrev nD : Nat := 1
abbrev τ : Topo := Topo.v7x

variable {F : FTy → Type} [FloatOps F]
-- ==== Kernel5.lean ====
abbrev S8192x12288 : Shape := ⟨2, ![8192, 12288]⟩
abbrev S3x6144 : Shape := ⟨2, ![3, 6144]⟩
abbrev S1x6144 : Shape := ⟨2, ![1, 6144]⟩
abbrev S6144x2048 : Shape := ⟨2, ![6144, 2048]⟩
abbrev S8192x2048 : Shape := ⟨2, ![8192, 2048]⟩
abbrev S_ : Shape := ⟨0, ![]⟩
abbrev S8x6144 : Shape := ⟨2, ![8, 6144]⟩
abbrev S2x8192x6144 : Shape := ⟨3, ![2, 8192, 6144]⟩
abbrev S1024x2048 : Shape := ⟨2, ![1024, 2048]⟩
abbrev S1024x1024 : Shape := ⟨2, ![1024, 1024]⟩
abbrev S8x1024 : Shape := ⟨2, ![8, 1024]⟩
abbrev S1x1024 : Shape := ⟨2, ![1, 1024]⟩
abbrev S2x1024x1024 : Shape := ⟨3, ![2, 1024, 1024]⟩
abbrev S1032x1024 : Shape := ⟨2, ![1032, 1024]⟩
abbrev S8x512 : Shape := ⟨2, ![8, 512]⟩
abbrev S16x512 : Shape := ⟨2, ![16, 512]⟩
abbrev S1x512 : Shape := ⟨2, ![1, 512]⟩
abbrev S1x16x512 : Shape := ⟨3, ![1, 16, 512]⟩
abbrev S512 : Shape := ⟨1, ![512]⟩

abbrev nBuf : Space → Nat
  | .hbm => 12
  | .vmem => 23
  | .smem => 0
  | _ => 0

abbrev bufTy : (tb : Table) → Fin (tcTables nBuf tb) → BufTy
  | .hbm, ⟨0, _⟩ => ⟨S8192x12288, .f32⟩
  | .hbm, ⟨1, _⟩ => ⟨S3x6144, .f32⟩
  | .hbm, ⟨2, _⟩ => ⟨S1x6144, .f32⟩
  | .hbm, ⟨3, _⟩ => ⟨S6144x2048, .f32⟩
  | .hbm, ⟨4, _⟩ => ⟨S8192x2048, .bf16⟩
  | .hbm, ⟨5, _⟩ => ⟨S6144x2048, .bf16⟩
  | .hbm, ⟨6, _⟩ => ⟨S_, .i32⟩
  | .hbm, ⟨7, _⟩ => ⟨S_, .f32⟩
  | .hbm, ⟨8, _⟩ => ⟨S8x6144, .f32⟩
  | .hbm, ⟨9, _⟩ => ⟨S2x8192x6144, .bf16⟩
  | .hbm, ⟨10, _⟩ => ⟨S8x6144, .f32⟩
  | .hbm, ⟨11, _⟩ => ⟨S1x6144, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | .local _ .vmem, ⟨12, _⟩ => ⟨S1x1024, .f32⟩
  | .local _ .vmem, ⟨13, _⟩ => ⟨S1x1024, .f32⟩
  | .local _ .vmem, ⟨14, _⟩ => ⟨S2x1024x1024, .bf16⟩
  | .local _ .vmem, ⟨15, _⟩ => ⟨S2x1024x1024, .bf16⟩
  | .local _ .vmem, ⟨16, _⟩ => ⟨S8x1024, .f32⟩
  | .local _ .vmem, ⟨17, _⟩ => ⟨S8x1024, .f32⟩
  | .local _ .vmem, ⟨18, _⟩ => ⟨S1x1024, .f32⟩
  | .local _ .vmem, ⟨19, _⟩ => ⟨S1x1024, .f32⟩
  | .local _ .vmem, ⟨20, _⟩ => ⟨S1032x1024, .f32⟩
  | .local _ .vmem, ⟨21, _⟩ => ⟨S1032x1024, .f32⟩
  | .local _ .vmem, ⟨22, _⟩ => ⟨S1024x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c6_i32 : BitVec 32 := 6#32
  let v1 : BitVec 32 := Scalar.addi c6_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c128_i32 : BitVec 32 := 128#32
  let v1 : BitVec 32 := Scalar.muli v0 c128_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S2x1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Kernel5Ideal.lean ====
variable {F : FTy → Type} [FloatOps F] [Named F]
def κ : String → Option EReal := fun
  | "c01" => some (((6693141 / 8388608) * (12003091 / 268435456) : ℝ) : EReal)
  | "tc01" => some ((((3 / 2) * (6693141 / 8388608)) * (12003091 / 268435456) : ℝ) : EReal)
  | _ => none
-- ==== Reference5Ideal.lean ====
abbrev S8192x12288 : Shape := ⟨2, ![8192, 12288]⟩
abbrev S3x6144 : Shape := ⟨2, ![3, 6144]⟩
abbrev S1x6144 : Shape := ⟨2, ![1, 6144]⟩
abbrev S6144x2048 : Shape := ⟨2, ![6144, 2048]⟩
abbrev S8192x2048 : Shape := ⟨2, ![8192, 2048]⟩
abbrev S6144 : Shape := ⟨1, ![6144]⟩
abbrev S8192x6144 : Shape := ⟨2, ![8192, 6144]⟩
abbrev S_ : Shape := ⟨0, ![]⟩
abbrev S2x6144 : Shape := ⟨2, ![2, 6144]⟩
abbrev S8194x6144 : Shape := ⟨2, ![8194, 6144]⟩
abbrev S1x8192x6144 : Shape := ⟨3, ![1, 8192, 6144]⟩
abbrev S2x8192x6144 : Shape := ⟨3, ![2, 8192, 6144]⟩
abbrev S8x6144 : Shape := ⟨2, ![8, 6144]⟩

abbrev nBuf : Space → Nat
  | .hbm => 150
  | .vmem => 0
  | .smem => 0
  | _ => 0

abbrev hbmTy0_0 (i : Nat) : BufTy := match i % 128 with
  | 0 => ⟨S8192x12288, .f32⟩
  | 1 => ⟨S3x6144, .f32⟩
  | 2 => ⟨S1x6144, .f32⟩
  | 3 => ⟨S6144x2048, .f32⟩
  | 4 => ⟨S8192x2048, .bf16⟩
  | 5 => ⟨S6144, .f32⟩
  | 6 => ⟨S8192x6144, .f32⟩
  | 7 => ⟨S_, .f32⟩
  | 8 => ⟨S2x6144, .f32⟩
  | 9 => ⟨S8194x6144, .f32⟩
  | 10 => ⟨S_, .f32⟩
  | 11 => ⟨S2x6144, .f32⟩
  | 12 => ⟨S8192x6144, .f32⟩
  | 13 => ⟨S1x6144, .f32⟩
  | 14 => ⟨S6144, .f32⟩
  | 15 => ⟨S1x6144, .f32⟩
  | 16 => ⟨S8192x6144, .f32⟩
  | 17 => ⟨S8192x6144, .f32⟩
  | 18 => ⟨S1x6144, .f32⟩
  | 19 => ⟨S8192x6144, .f32⟩
  | 20 => ⟨S8192x6144, .f32⟩
  | 21 => ⟨S8192x6144, .f32⟩
  | 22 => ⟨S1x6144, .f32⟩
  | 23 => ⟨S6144, .f32⟩
  | 24 => ⟨S1x6144, .f32⟩
  | 25 => ⟨S8192x6144, .f32⟩
  | 26 => ⟨S8192x6144, .f32⟩
  | 27 => ⟨S8192x6144, .f32⟩
  | 28 => ⟨S8192x6144, .f32⟩
  | 29 => ⟨S1x6144, .f32⟩
  | 30 => ⟨S6144, .f32⟩
  | 31 => ⟨S1x6144, .f32⟩
  | 32 => ⟨S8192x6144, .f32⟩
  | 33 => ⟨S8192x6144, .f32⟩
  | 34 => ⟨S8192x6144, .f32⟩
  | 35 => ⟨S8192x6144, .f32⟩
  | 36 => ⟨S8192x6144, .f32⟩
  | 37 => ⟨S8192x6144, .f32⟩
  | 38 => ⟨S_, .f32⟩
  | 39 => ⟨S8192x6144, .f32⟩
  | 40 => ⟨S8192x6144, .f32⟩
  | 41 => ⟨S_, .f32⟩
  | 42 => ⟨S8192x6144, .f32⟩
  | 43 => ⟨S8192x6144, .f32⟩
  | 44 => ⟨S8192x6144, .f32⟩
  | 45 => ⟨S_, .f32⟩
  | 46 => ⟨S8192x6144, .f32⟩
  | 47 => ⟨S8192x6144, .f32⟩
  | 48 => ⟨S8192x6144, .f32⟩
  | 49 => ⟨S_, .f32⟩
  | 50 => ⟨S8192x6144, .f32⟩
  | 51 => ⟨S8192x6144, .f32⟩
  | 52 => ⟨S_, .f32⟩
  | 53 => ⟨S8192x6144, .f32⟩
  | 54 => ⟨S8192x6144, .f32⟩
  | 55 => ⟨S8192x6144, .f32⟩
  | 56 => ⟨S_, .f32⟩
  | 57 => ⟨S8192x6144, .f32⟩
  | 58 => ⟨S8192x6144, .f32⟩
  | 59 => ⟨S_, .f32⟩
  | 60 => ⟨S8192x6144, .f32⟩
  | 61 => ⟨S8192x6144, .f32⟩
  | 62 => ⟨S8192x6144, .f32⟩
  | 63 => ⟨S8192x6144, .f32⟩
  | 64 => ⟨S8192x6144, .f32⟩
  | 65 => ⟨S8192x2048, .f32⟩
  | 66 => ⟨S8192x2048, .f32⟩
  | 67 => ⟨S8192x6144, .f32⟩
  | 68 => ⟨S8192x6144, .f32⟩
  | 69 => ⟨S8192x6144, .f32⟩
  | 70 => ⟨S_, .f32⟩
  | 71 => ⟨S8192x12288, .f32⟩
  | 72 => ⟨S8192x6144, .f32⟩
  | 73 => ⟨S8192x6144, .f32⟩
  | 74 => ⟨S_, .f32⟩
  | 75 => ⟨S8192x6144, .f32⟩
  | 76 => ⟨S8192x6144, .f32⟩
  | 77 => ⟨S8192x6144, .f32⟩
  | 78 => ⟨S_, .f32⟩
  | 79 => ⟨S8192x6144, .f32⟩
  | 80 => ⟨S8192x6144, .f32⟩
  | 81 => ⟨S8192x6144, .f32⟩
  | 82 => ⟨S_, .f32⟩
  | 83 => ⟨S8192x6144, .f32⟩
  | 84 => ⟨S8192x6144, .f32⟩
  | 85 => ⟨S8192x6144, .f32⟩
  | 86 => ⟨S8192x6144, .f32⟩
  | 87 => ⟨S8192x6144, .f32⟩
  | 88 => ⟨S_, .f32⟩
  | 89 => ⟨S6144, .f32⟩
  | 90 => ⟨S1x6144, .f32⟩
  | 91 => ⟨S8192x6144, .f32⟩
  | 92 => ⟨S8192x6144, .f32⟩
  | 93 => ⟨S_, .f32⟩
  | 94 => ⟨S6144, .f32⟩
  | 95 => ⟨S1x6144, .f32⟩
  | 96 => ⟨S_, .f32⟩
  | 97 => ⟨S3x6144, .f32⟩
  | 98 => ⟨S_, .f32⟩
  | 99 => ⟨S8194x6144, .f32⟩
  | 100 => ⟨S8192x6144, .f32⟩
  | 101 => ⟨S_, .f32⟩
  | 102 => ⟨S6144, .f32⟩
  | 103 => ⟨S1x6144, .f32⟩
  | 104 => ⟨S8192x6144, .f32⟩
  | 105 => ⟨S8192x6144, .f32⟩
  | 106 => ⟨S_, .f32⟩
  | 107 => ⟨S6144, .f32⟩
  | 108 => ⟨S1x6144, .f32⟩
  | 109 => ⟨S_, .f32⟩
  | 110 => ⟨S3x6144, .f32⟩
  | 111 => ⟨S3x6144, .f32⟩
  | 112 => ⟨S_, .f32⟩
  | 113 => ⟨S8194x6144, .f32⟩
  | 114 => ⟨S8194x6144, .f32⟩
  | 115 => ⟨S_, .f32⟩
  | 116 => ⟨S6144, .f32⟩
  | 117 => ⟨S1x6144, .f32⟩
  | 118 => ⟨S_, .f32⟩
  | 119 => ⟨S6144, .f32⟩
  | 120 => ⟨S8192x6144, .f32⟩
  | 121 => ⟨S_, .f32⟩
  | 122 => ⟨S6144, .f32⟩
  | 123 => ⟨S1x6144, .f32⟩
  | 124 => ⟨S8192x6144, .f32⟩
  | 125 => ⟨S8192x6144, .f32⟩
  | 126 => ⟨S_, .f32⟩
  | 127 => ⟨S6144, .f32⟩
  | _ => ⟨S8192x12288, .f32⟩

abbrev hbmTy0_1 (i : Nat) : BufTy := match i % 128 with
  | 0 => ⟨S1x6144, .f32⟩
  | 1 => ⟨S_, .f32⟩
  | 2 => ⟨S3x6144, .f32⟩
  | 3 => ⟨S3x6144, .f32⟩
  | 4 => ⟨S_, .f32⟩
  | 5 => ⟨S8194x6144, .f32⟩
  | 6 => ⟨S8194x6144, .f32⟩
  | 7 => ⟨S2x6144, .f32⟩
  | 8 => ⟨S8192x6144, .f32⟩
  | 9 => ⟨S_, .f32⟩
  | 10 => ⟨S8192x12288, .f32⟩
  | 11 => ⟨S8192x12288, .f32⟩
  | 12 => ⟨S8192x6144, .f32⟩
  | 13 => ⟨S8192x6144, .f32⟩
  | 14 => ⟨S1x8192x6144, .f32⟩
  | 15 => ⟨S1x8192x6144, .f32⟩
  | 16 => ⟨S2x8192x6144, .f32⟩
  | 17 => ⟨S2x8192x6144, .bf16⟩
  | 18 => ⟨S_, .i32⟩
  | 19 => ⟨S_, .f32⟩
  | 20 => ⟨S8x6144, .f32⟩
  | 21 => ⟨S1x6144, .f32⟩
  | _ => ⟨S8192x12288, .f32⟩

abbrev hbmTy (i : Nat) : BufTy := match i / 128 with
  | 0 => hbmTy0_0 i
  | 1 => hbmTy0_1 i
  | _ => ⟨S8192x12288, .f32⟩

abbrev bufTy : (tb : Table) → Fin (tcTables nBuf tb) → BufTy
  | .hbm, ⟨i, _⟩ => hbmTy i
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_1 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_cst_5 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_cst_6 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_8 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_cst_9 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_10 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_11 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_cst_12 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_cst_13 : Ref sig .tc := ⟨.hbm, 93, rfl⟩
abbrev main_v74 : Ref sig .tc := ⟨.hbm, 94, rfl⟩
abbrev main_v75 : Ref sig .tc := ⟨.hbm, 95, rfl⟩
abbrev main_cst_14 : Ref sig .tc := ⟨.hbm, 96, rfl⟩
abbrev main_v76 : Ref sig .tc := ⟨.hbm, 97, rfl⟩
abbrev main_cst_15 : Ref sig .tc := ⟨.hbm, 98, rfl⟩
abbrev main_v77 : Ref sig .tc := ⟨.hbm, 99, rfl⟩
abbrev main_v78 : Ref sig .tc := ⟨.hbm, 100, rfl⟩
abbrev main_cst_16 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_cst_17 : Ref sig .tc := ⟨.hbm, 106, rfl⟩
abbrev main_v83 : Ref sig .tc := ⟨.hbm, 107, rfl⟩
abbrev main_v84 : Ref sig .tc := ⟨.hbm, 108, rfl⟩
abbrev main_cst_18 : Ref sig .tc := ⟨.hbm, 109, rfl⟩
abbrev main_v85 : Ref sig .tc := ⟨.hbm, 110, rfl⟩
abbrev main_v86 : Ref sig .tc := ⟨.hbm, 111, rfl⟩
abbrev main_cst_19 : Ref sig .tc := ⟨.hbm, 112, rfl⟩
abbrev main_v87 : Ref sig .tc := ⟨.hbm, 113, rfl⟩
abbrev main_v88 : Ref sig .tc := ⟨.hbm, 114, rfl⟩
abbrev main_cst_20 : Ref sig .tc := ⟨.hbm, 115, rfl⟩
abbrev main_v89 : Ref sig .tc := ⟨.hbm, 116, rfl⟩
abbrev main_v90 : Ref sig .tc := ⟨.hbm, 117, rfl⟩
abbrev main_cst_21 : Ref sig .tc := ⟨.hbm, 118, rfl⟩
abbrev main_v91 : Ref sig .tc := ⟨.hbm, 119, rfl⟩
abbrev main_v92 : Ref sig .tc := ⟨.hbm, 120, rfl⟩
abbrev main_cst_22 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_cst_23 : Ref sig .tc := ⟨.hbm, 126, rfl⟩
abbrev main_v97 : Ref sig .tc := ⟨.hbm, 127, rfl⟩
abbrev main_v98 : Ref sig .tc := ⟨.hbm, 128, rfl⟩
abbrev main_cst_24 : Ref sig .tc := ⟨.hbm, 129, rfl⟩
abbrev main_v99 : Ref sig .tc := ⟨.hbm, 130, rfl⟩
abbrev main_v100 : Ref sig .tc := ⟨.hbm, 131, rfl⟩
abbrev main_cst_25 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_cst_26 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_c : Ref sig .tc := ⟨.hbm, 146, rfl⟩
abbrev main_call0_v0 : Ref sig .tc := ⟨.hbm, 147, rfl⟩
abbrev main_v113 : Ref sig .tc := ⟨.hbm, 148, rfl⟩
abbrev main_v114 : Ref sig .tc := ⟨.hbm, 149, rfl⟩

abbrev nD : Nat := 1
abbrev τ : Topo := Topo.v7x

variable {F : FTy → Type} [FloatOps F]
-- ==== Kernel6.lean ====
abbrev S8192x9216 : Shape := ⟨2, ![8192, 9216]⟩
abbrev S1x4x256x256 : Shape := ⟨4, ![1, 4, 256, 256]⟩
abbrev S1x1024 : Shape := ⟨2, ![1, 1024]⟩
abbrev S8192x1024 : Shape := ⟨2, ![8192, 1024]⟩
abbrev S4x256x256 : Shape := ⟨3, ![4, 256, 256]⟩
abbrev S256x1024 : Shape := ⟨2, ![256, 1024]⟩
abbrev S16x1024 : Shape := ⟨2, ![16, 1024]⟩
abbrev S272x1024 : Shape := ⟨2, ![272, 1024]⟩
abbrev S256x1 : Shape := ⟨2, ![256, 1]⟩
abbrev S272x256 : Shape := ⟨2, ![272, 256]⟩
abbrev S256x256 : Shape := ⟨2, ![256, 256]⟩
abbrev S1x256x256 : Shape := ⟨3, ![1, 256, 256]⟩
abbrev S1x256 : Shape := ⟨2, ![1, 256]⟩
abbrev S256 : Shape := ⟨1, ![256]⟩

abbrev nBuf : Space → Nat
  | .hbm => 9
  | .vmem => 14
  | .smem => 0
  | _ => 0

abbrev bufTy : (tb : Table) → Fin (tcTables nBuf tb) → BufTy
  | .hbm, ⟨0, _⟩ => ⟨S8192x9216, .f32⟩
  | .hbm, ⟨1, _⟩ => ⟨S1x4x256x256, .f32⟩
  | .hbm, ⟨2, _⟩ => ⟨S1x1024, .f32⟩
  | .hbm, ⟨3, _⟩ => ⟨S8192x1024, .f32⟩
  | .hbm, ⟨4, _⟩ => ⟨S4x256x256, .f32⟩
  | .hbm, ⟨5, _⟩ => ⟨S4x256x256, .bf16⟩
  | .hbm, ⟨6, _⟩ => ⟨S8192x1024, .bf16⟩
  | .hbm, ⟨7, _⟩ => ⟨S4x256x256, .f32⟩
  | .hbm, ⟨8, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S4x256x256, .bf16⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | .local _ .vmem, ⟨10, _⟩ => ⟨S4x256x256, .f32⟩
  | .local _ .vmem, ⟨11, _⟩ => ⟨S1x1024, .f32⟩
  | .local _ .vmem, ⟨12, _⟩ => ⟨S272x1024, .f32⟩
  | .local _ .vmem, ⟨13, _⟩ => ⟨S272x1024, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c16_i32 : BitVec 32 := 16#32
  let v1 : BitVec 32 := Scalar.muli v0 c16_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S8192x9216 : Shape := ⟨2, ![8192, 9216]⟩
abbrev S1x4x256x256 : Shape := ⟨4, ![1, 4, 256, 256]⟩
abbrev S1x1024 : Shape := ⟨2, ![1, 1024]⟩
abbrev S8192x1024 : Shape := ⟨2, ![8192, 1024]⟩
abbrev S1x8192x1024 : Shape := ⟨3, ![1, 8192, 1024]⟩
abbrev S4x256x256 : Shape := ⟨3, ![4, 256, 256]⟩
abbrev S1024 : Shape := ⟨1, ![1024]⟩
abbrev S_ : Shape := ⟨0, ![]⟩
abbrev S8192 : Shape := ⟨1, ![8192]⟩
abbrev S1x8192x256 : Shape := ⟨3, ![1, 8192, 256]⟩
abbrev S1x2x256 : Shape := ⟨3, ![1, 2, 256]⟩
abbrev S1x8190x256 : Shape := ⟨3, ![1, 8190, 256]⟩
abbrev S1x8192x1 : Shape := ⟨3, ![1, 8192, 1]⟩
abbrev S1x4x256 : Shape := ⟨3, ![1, 4, 256]⟩
abbrev S1x8188x256 : Shape := ⟨3, ![1, 8188, 256]⟩
abbrev S1x8x256 : Shape := ⟨3, ![1, 8, 256]⟩
abbrev S1x8184x256 : Shape := ⟨3, ![1, 8184, 256]⟩
abbrev S1x16x256 : Shape := ⟨3, ![1, 16, 256]⟩
abbrev S1x8176x256 : Shape := ⟨3, ![1, 8176, 256]⟩
abbrev S1x8192x1x256 : Shape := ⟨4, ![1, 8192, 1, 256]⟩
abbrev S1x8192x4x256 : Shape := ⟨4, ![1, 8192, 4, 256]⟩
abbrev S4x256x1x8192 : Shape := ⟨4, ![4, 256, 1, 8192]⟩
abbrev S1x1x1024 : Shape := ⟨3, ![1, 1, 1024]⟩
abbrev S4x1x8192x256 : Shape := ⟨4, ![4, 1, 8192, 256]⟩

abbrev nBuf : Space → Nat
  | .hbm => 159
  | .vmem => 0
  | .smem => 0
  | _ => 0

abbrev hbmTy0_0 (i : Nat) : BufTy := match i % 128 with
  | 0 => ⟨S8192x9216, .f32⟩
  | 1 => ⟨S1x4x256x256, .f32⟩
  | 2 => ⟨S1x1024, .f32⟩
  | 3 => ⟨S8192x1024, .f32⟩
  | 4 => ⟨S8192x1024, .f32⟩
  | 5 => ⟨S1x8192x1024, .f32⟩
  | 6 => ⟨S4x256x256, .f32⟩
  | 7 => ⟨S1024, .f32⟩
  | 8 => ⟨S_, .f32⟩
  | 9 => ⟨S_, .f32⟩
  | 10 => ⟨S1x8192x1024, .f32⟩
  | 11 => ⟨S8192, .f32⟩
  | 12 => ⟨S_, .f32⟩
  | 13 => ⟨S8192, .f32⟩
  | 14 => ⟨S8192, .f32⟩
  | 15 => ⟨S1x8192x256, .f32⟩
  | 16 => ⟨S_, .f32⟩
  | 17 => ⟨S1x2x256, .f32⟩
  | 18 => ⟨S1x8190x256, .f32⟩
  | 19 => ⟨S1x8192x256, .f32⟩
  | 20 => ⟨S_, .f32⟩
  | 21 => ⟨S1x2x256, .f32⟩
  | 22 => ⟨S_, .f32⟩
  | 23 => ⟨S8192, .f32⟩
  | 24 => ⟨S8192, .f32⟩
  | 25 => ⟨S1x8192x1, .f32⟩
  | 26 => ⟨S1x8192x256, .f32⟩
  | 27 => ⟨S1x8192x256, .f32⟩
  | 28 => ⟨S1x8192x256, .f32⟩
  | 29 => ⟨S1x8192x256, .f32⟩
  | 30 => ⟨S_, .f32⟩
  | 31 => ⟨S1x4x256, .f32⟩
  | 32 => ⟨S1x8188x256, .f32⟩
  | 33 => ⟨S1x8192x256, .f32⟩
  | 34 => ⟨S_, .f32⟩
  | 35 => ⟨S1x4x256, .f32⟩
  | 36 => ⟨S_, .f32⟩
  | 37 => ⟨S8192, .f32⟩
  | 38 => ⟨S8192, .f32⟩
  | 39 => ⟨S1x8192x1, .f32⟩
  | 40 => ⟨S1x8192x256, .f32⟩
  | 41 => ⟨S1x8192x256, .f32⟩
  | 42 => ⟨S1x8192x256, .f32⟩
  | 43 => ⟨S1x8192x256, .f32⟩
  | 44 => ⟨S_, .f32⟩
  | 45 => ⟨S1x8x256, .f32⟩
  | 46 => ⟨S1x8184x256, .f32⟩
  | 47 => ⟨S1x8192x256, .f32⟩
  | 48 => ⟨S_, .f32⟩
  | 49 => ⟨S1x8x256, .f32⟩
  | 50 => ⟨S_, .f32⟩
  | 51 => ⟨S8192, .f32⟩
  | 52 => ⟨S8192, .f32⟩
  | 53 => ⟨S1x8192x1, .f32⟩
  | 54 => ⟨S1x8192x256, .f32⟩
  | 55 => ⟨S1x8192x256, .f32⟩
  | 56 => ⟨S1x8192x256, .f32⟩
  | 57 => ⟨S1x8192x256, .f32⟩
  | 58 => ⟨S_, .f32⟩
  | 59 => ⟨S1x16x256, .f32⟩
  | 60 => ⟨S1x8176x256, .f32⟩
  | 61 => ⟨S1x8192x256, .f32⟩
  | 62 => ⟨S_, .f32⟩
  | 63 => ⟨S1x16x256, .f32⟩
  | 64 => ⟨S_, .f32⟩
  | 65 => ⟨S8192, .f32⟩
  | 66 => ⟨S8192, .f32⟩
  | 67 => ⟨S1x8192x1, .f32⟩
  | 68 => ⟨S1x8192x256, .f32⟩
  | 69 => ⟨S1x8192x256, .f32⟩
  | 70 => ⟨S1x8192x256, .f32⟩
  | 71 => ⟨S1x8192x1x256, .f32⟩
  | 72 => ⟨S1x8192x1x256, .f32⟩
  | 73 => ⟨S1x8192x1x256, .f32⟩
  | 74 => ⟨S1x8192x1x256, .f32⟩
  | 75 => ⟨S1x8192x4x256, .f32⟩
  | 76 => ⟨S1x8192x4x256, .f32⟩
  | 77 => ⟨S1x8192x4x256, .f32⟩
  | 78 => ⟨S4x256x1x8192, .f32⟩
  | 79 => ⟨S1x8192x4x256, .f32⟩
  | 80 => ⟨S1x8192x1024, .f32⟩
  | 81 => ⟨S1x1x1024, .f32⟩
  | 82 => ⟨S1x8192x1024, .f32⟩
  | 83 => ⟨S1x8192x1024, .f32⟩
  | 84 => ⟨S1x8192x1024, .f32⟩
  | 85 => ⟨S1x8192x1024, .f32⟩
  | 86 => ⟨S_, .f32⟩
  | 87 => ⟨S1x1024, .f32⟩
  | 88 => ⟨S1x1x1024, .f32⟩
  | 89 => ⟨S1x8192x1024, .f32⟩
  | 90 => ⟨S1x8192x1024, .f32⟩
  | 91 => ⟨S_, .f32⟩
  | 92 => ⟨S1024, .f32⟩
  | 93 => ⟨S1x8192x4x256, .f32⟩
  | 94 => ⟨S4x256x1x8192, .f32⟩
  | 95 => ⟨S4x1x8192x256, .f32⟩
  | 96 => ⟨S1x8192x4x256, .f32⟩
  | 97 => ⟨S4x256x256, .f32⟩
  | 98 => ⟨S4x256x256, .f32⟩
  | 99 => ⟨S1x8192x4x256, .f32⟩
  | 100 => ⟨S1x8192x1024, .f32⟩
  | 101 => ⟨S1x8192x1x256, .f32⟩
  | 102 => ⟨S1x8192x256, .f32⟩
  | 103 => ⟨S1x8192x1x256, .f32⟩
  | 104 => ⟨S1x8192x256, .f32⟩
  | 105 => ⟨S1x8192x1x256, .f32⟩
  | 106 => ⟨S1x8192x256, .f32⟩
  | 107 => ⟨S1x8192x1x256, .f32⟩
  | 108 => ⟨S1x8192x256, .f32⟩
  | 109 => ⟨S1x8192x256, .f32⟩
  | 110 => ⟨S1x8192x256, .f32⟩
  | 111 => ⟨S1x8192x256, .f32⟩
  | 112 => ⟨S1x16x256, .f32⟩
  | 113 => ⟨S1x8176x256, .f32⟩
  | 114 => ⟨S_, .f32⟩
  | 115 => ⟨S1x8192x256, .f32⟩
  | 116 => ⟨S1x8192x256, .f32⟩
  | 117 => ⟨S_, .f32⟩
  | 118 => ⟨S1x8192x1024, .f32⟩
  | 119 => ⟨S1x8192x256, .f32⟩
  | 120 => ⟨S1x8192x256, .f32⟩
  | 121 => ⟨S1x8192x256, .f32⟩
  | 122 => ⟨S1x8x256, .f32⟩
  | 123 => ⟨S1x8184x256, .f32⟩
  | 124 => ⟨S_, .f32⟩
  | 125 => ⟨S1x8192x256, .f32⟩
  | 126 => ⟨S1x8192x256, .f32⟩
  | 127 => ⟨S_, .f32⟩
  | _ => ⟨S8192x9216, .f32⟩

abbrev hbmTy0_1 (i : Nat) : BufTy := match i % 128 with
  | 0 => ⟨S1x8192x1024, .f32⟩
  | 1 => ⟨S1x8192x1024, .f32⟩
  | 2 => ⟨S1x8192x256, .f32⟩
  | 3 => ⟨S1x8192x256, .f32⟩
  | 4 => ⟨S1x8192x256, .f32⟩
  | 5 => ⟨S1x4x256, .f32⟩
  | 6 => ⟨S1x8188x256, .f32⟩
  | 7 => ⟨S_, .f32⟩
  | 8 => ⟨S1x8192x256, .f32⟩
  | 9 => ⟨S1x8192x256, .f32⟩
  | 10 => ⟨S_, .f32⟩
  | 11 => ⟨S1x8192x1024, .f32⟩
  | 12 => ⟨S1x8192x1024, .f32⟩
  | 13 => ⟨S1x8192x256, .f32⟩
  | 14 => ⟨S1x8192x256, .f32⟩
  | 15 => ⟨S1x8192x256, .f32⟩
  | 16 => ⟨S1x2x256, .f32⟩
  | 17 => ⟨S1x8190x256, .f32⟩
  | 18 => ⟨S_, .f32⟩
  | 19 => ⟨S1x8192x256, .f32⟩
  | 20 => ⟨S1x8192x256, .f32⟩
  | 21 => ⟨S_, .f32⟩
  | 22 => ⟨S1x8192x1024, .f32⟩
  | 23 => ⟨S1x8192x1024, .f32⟩
  | 24 => ⟨S_, .f32⟩
  | 25 => ⟨S_, .f32⟩
  | 26 => ⟨S1x8192x1024, .f32⟩
  | 27 => ⟨S1x8192x1024, .f32⟩
  | 28 => ⟨S8192x1024, .f32⟩
  | 29 => ⟨S8192x1024, .bf16⟩
  | 30 => ⟨S1x1024, .f32⟩
  | _ => ⟨S8192x9216, .f32⟩

abbrev hbmTy (i : Nat) : BufTy := match i / 128 with
  | 0 => hbmTy0_0 i
  | 1 => hbmTy0_1 i
  | _ => ⟨S8192x9216, .f32⟩

abbrev bufTy : (tb : Table) → Fin (tcTables nBuf tb) → BufTy
  | .hbm, ⟨i, _⟩ => hbmTy i
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_call0_cst : Ref sig .tc := ⟨.hbm, 8, rfl⟩
abbrev main_call0_call0_v0 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_cst_8 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_cst_11 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_cst_12 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_cst_13 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_cst_14 : Ref sig .tc := ⟨.hbm, 114, rfl⟩
abbrev main_v93 : Ref sig .tc := ⟨.hbm, 115, rfl⟩
abbrev main_v94 : Ref sig .tc := ⟨.hbm, 116, rfl⟩
abbrev main_cst_15 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_cst_16 : Ref sig .tc := ⟨.hbm, 124, rfl⟩
abbrev main_v101 : Ref sig .tc := ⟨.hbm, 125, rfl⟩
abbrev main_v102 : Ref sig .tc := ⟨.hbm, 126, rfl⟩
abbrev main_cst_17 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_18 : Ref sig .tc := ⟨.hbm, 135, rfl⟩
abbrev main_v110 : Ref sig .tc := ⟨.hbm, 136, rfl⟩
abbrev main_v111 : Ref sig .tc := ⟨.hbm, 137, rfl⟩
abbrev main_cst_19 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_cst_20 : Ref sig .tc := ⟨.hbm, 146, rfl⟩
abbrev main_v119 : Ref sig .tc := ⟨.hbm, 147, rfl⟩
abbrev main_v120 : Ref sig .tc := ⟨.hbm, 148, rfl⟩
abbrev main_cst_21 : Ref sig .tc := ⟨.hbm, 149, rfl⟩
abbrev main_v121 : Ref sig .tc := ⟨.hbm, 150, rfl⟩
abbrev main_v122 : Ref sig .tc := ⟨.hbm, 151, rfl⟩
abbrev main_call1_call0_cst : Ref sig .tc := ⟨.hbm, 152, rfl⟩
abbrev main_call1_call0_v0 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩

abbrev nD : Nat := 1
abbrev τ : Topo := Topo.v7x

variable {F : FTy → Type} [FloatOps F]
-- ==== Kernel7.lean ====
abbrev S8192x12288 : Shape := ⟨2, ![8192, 12288]⟩
abbrev S3x6144 : Shape := ⟨2, ![3, 6144]⟩
abbrev S1x6144 : Shape := ⟨2, ![1, 6144]⟩
abbrev S_ : Shape := ⟨0, ![]⟩
abbrev S8x6144 : Shape := ⟨2, ![8, 6144]⟩
abbrev S8192x6144 : Shape := ⟨2, ![8192, 6144]⟩
abbrev S1024x1024 : Shape := ⟨2, ![1024, 1024]⟩
abbrev S8x1024 : Shape := ⟨2, ![8, 1024]⟩
abbrev S1x1024 : Shape := ⟨2, ![1, 1024]⟩
abbrev S1032x1024 : Shape := ⟨2, ![1032, 1024]⟩
abbrev S1x512 : Shape := ⟨2, ![1, 512]⟩
abbrev S16x512 : Shape := ⟨2, ![16, 512]⟩

abbrev nBuf : Space → Nat
  | .hbm => 7
  | .vmem => 11
  | .smem => 0
  | _ => 0

abbrev bufTy : (tb : Table) → Fin (tcTables nBuf tb) → BufTy
  | .hbm, ⟨0, _⟩ => ⟨S8192x12288, .f32⟩
  | .hbm, ⟨1, _⟩ => ⟨S3x6144, .f32⟩
  | .hbm, ⟨2, _⟩ => ⟨S1x6144, .f32⟩
  | .hbm, ⟨3, _⟩ => ⟨S_, .i32⟩
  | .hbm, ⟨4, _⟩ => ⟨S_, .f32⟩
  | .hbm, ⟨5, _⟩ => ⟨S8x6144, .f32⟩
  | .hbm, ⟨6, _⟩ => ⟨S8192x6144, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S8x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1032x1024, .f32⟩
  | _, _ => ⟨S8192x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c6_i32 : BitVec 32 := 6#32
  let v0 : BitVec 32 := Scalar.addi c6_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel7Ideal.lean ====
variable {F : FTy → Type} [FloatOps F] [Named F]
def κ : String → Option EReal := fun
  | "c01" => some (((6693141 / 8388608) * (12003091 / 268435456) : ℝ) : EReal)
  | _ => none
-- ==== Reference7Ideal.lean ====
abbrev S8192x12288 : Shape := ⟨2, ![8192, 12288]⟩
abbrev S3x6144 : Shape := ⟨2, ![3, 6144]⟩
abbrev S1x6144 : Shape := ⟨2, ![1, 6144]⟩
abbrev S6144 : Shape := ⟨1, ![6144]⟩
abbrev S8192x6144 : Shape := ⟨2, ![8192, 6144]⟩
abbrev S_ : Shape := ⟨0, ![]⟩
abbrev S2x6144 : Shape := ⟨2, ![2, 6144]⟩
abbrev S8194x6144 : Shape := ⟨2, ![8194, 6144]⟩

abbrev nBuf : Space → Nat
  | .hbm => 51
  | .vmem => 0
  | .smem => 0
  | _ => 0

abbrev bufTy : (tb : Table) → Fin (tcTables nBuf tb) → BufTy
  | .hbm, ⟨0, _⟩ => ⟨S8192x12288, .f32⟩
  | .hbm, ⟨1, _⟩ => ⟨S3x6144, .f32⟩
  | .hbm, ⟨2, _⟩ => ⟨S1x6144, .f32⟩
  | .hbm, ⟨3, _⟩ => ⟨S6144, .f32⟩
  | .hbm, ⟨4, _⟩ => ⟨S8192x6144, .f32⟩
  | .hbm, ⟨5, _⟩ => ⟨S_, .f32⟩
  | .hbm, ⟨6, _⟩ => ⟨S2x6144, .f32⟩
  | .hbm, ⟨7, _⟩ => ⟨S8194x6144, .f32⟩
  | .hbm, ⟨8, _⟩ => ⟨S8192x6144, .f32⟩
  | .hbm, ⟨9, _⟩ => ⟨S1x6144, .f32⟩
  | .hbm, ⟨10, _⟩ => ⟨S6144, .f32⟩
  | .hbm, ⟨11, _⟩ => ⟨S1x6144, .f32⟩
  | .hbm, ⟨12, _⟩ => ⟨S8192x6144, .f32⟩
  | .hbm, ⟨13, _⟩ => ⟨S8192x6144, .f32⟩
  | .hbm, ⟨14, _⟩ => ⟨S1x6144, .f32⟩
  | .hbm, ⟨15, _⟩ => ⟨S8192x6144, .f32⟩
  | .hbm, ⟨16, _⟩ => ⟨S8192x6144, .f32⟩
  | .hbm, ⟨17, _⟩ => ⟨S8192x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S8192x6144, .f32⟩
  | .hbm, ⟨22, _⟩ => ⟨S8192x6144, .f32⟩
  | .hbm, ⟨23, _⟩ => ⟨S8192x6144, .f32⟩
  | .hbm, ⟨24, _⟩ => ⟨S8192x6144, .f32⟩
  | .hbm, ⟨25, _⟩ => ⟨S1x6144, .f32⟩
  | .hbm, ⟨26, _⟩ => ⟨S6144, .f32⟩
  | .hbm, ⟨27, _⟩ => ⟨S1x6144, .f32⟩
  | .hbm, ⟨28, _⟩ => ⟨S8192x6144, .f32⟩
  | .hbm, ⟨29, _⟩ => ⟨S8192x6144, .f32⟩
  | .hbm, ⟨30, _⟩ => ⟨S8192x6144, .f32⟩
  | .hbm, ⟨31, _⟩ => ⟨S8192x6144, .f32⟩
  | .hbm, ⟨32, _⟩ => ⟨S8192x6144, .f32⟩
  | .hbm, ⟨33, _⟩ => ⟨S_, .f32⟩
  | .hbm, ⟨34, _⟩ => ⟨S8192x6144, .f32⟩
  | .hbm, ⟨35, _⟩ => ⟨S8192x6144, .f32⟩
  | .hbm, ⟨36, _⟩ => ⟨S8192x6144, .f32⟩
  | .hbm, ⟨37, _⟩ => ⟨S_, .f32⟩
  | .hbm, ⟨38, _⟩ => ⟨S8192x6144, .f32⟩
  | .hbm, ⟨39, _⟩ => ⟨S8192x6144, .f32⟩
  | .hbm, ⟨40, _⟩ => ⟨S8192x6144, .f32⟩
  | .hbm, ⟨41, _⟩ => ⟨S_, .f32⟩
  | .hbm, ⟨42, _⟩ => ⟨S8192x6144, .f32⟩
  | .hbm, ⟨43, _⟩ => ⟨S8192x6144, .f32⟩
  | .hbm, ⟨44, _⟩ => ⟨S_, .f32⟩
  | .hbm, ⟨45, _⟩ => ⟨S8192x6144, .f32⟩
  | .hbm, ⟨46, _⟩ => ⟨S8192x6144, .f32⟩
  | .hbm, ⟨47, _⟩ => ⟨S8192x6144, .f32⟩
  | .hbm, ⟨48, _⟩ => ⟨S8192x6144, .f32⟩
  | .hbm, ⟨49, _⟩ => ⟨S8192x6144, .f32⟩
  | .hbm, ⟨50, _⟩ => ⟨S8192x6144, .bf16⟩
  | _, _ => ⟨S8192x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_cst_0 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_cst_3 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩

abbrev nD : Nat := 1
abbrev τ : Topo := Topo.v7x

variable {F : FTy → Type} [FloatOps F]
-- ==== Kernel8.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S8192x9216 : Shape := ⟨2, ![8192, 9216]⟩
abbrev S1x4096 : Shape := ⟨2, ![1, 4096]⟩
abbrev S512x1024 : Shape := ⟨2, ![512, 1024]⟩
abbrev S512x2048 : Shape := ⟨2, ![512, 2048]⟩
abbrev S1024x1024 : Shape := ⟨2, ![1024, 1024]⟩
abbrev S2048x1024 : Shape := ⟨2, ![2048, 1024]⟩
abbrev S1x1024 : Shape := ⟨2, ![1, 1024]⟩
abbrev S16x512 : Shape := ⟨2, ![16, 512]⟩
abbrev S1x512 : Shape := ⟨2, ![1, 512]⟩

abbrev nBuf : Space → Nat
  | .hbm => 11
  | .vmem => 24
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .hbm, ⟨3, _⟩ => ⟨S2048x2048, .f32⟩
  | .hbm, ⟨4, _⟩ => ⟨S8192x9216, .f32⟩
  | .hbm, ⟨5, _⟩ => ⟨S1x4096, .f32⟩
  | .hbm, ⟨6, _⟩ => ⟨S1024x2048, .bf16⟩
  | .hbm, ⟨7, _⟩ => ⟨S2048x2048, .bf16⟩
  | .hbm, ⟨8, _⟩ => ⟨S8192x2048, .bf16⟩
  | .hbm, ⟨9, _⟩ => ⟨S8192x2048, .bf16⟩
  | .hbm, ⟨10, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1024x1024, .bf16⟩
  | .local _ .vmem, ⟨5, _⟩ => ⟨S1024x1024, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S512x1024, .bf16⟩
  | .local _ .vmem, ⟨21, _⟩ => ⟨S512x1024, .bf16⟩
  | .local _ .vmem, ⟨22, _⟩ => ⟨S512x1024, .f32⟩
  | .local _ .vmem, ⟨23, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg0
  let c0_i32 : BitVec 32 := 0#32
  ![arg1.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference8Ideal.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S8192x9216 : Shape := ⟨2, ![8192, 9216]⟩
abbrev S1x4096 : Shape := ⟨2, ![1, 4096]⟩
abbrev S8192x4096 : Shape := ⟨2, ![8192, 4096]⟩
abbrev S4096 : Shape := ⟨1, ![4096]⟩
abbrev S_ : Shape := ⟨0, ![]⟩
abbrev S8192x2x2048 : Shape := ⟨3, ![8192, 2, 2048]⟩
abbrev S8192x1x2048 : Shape := ⟨3, ![8192, 1, 2048]⟩

abbrev nBuf : Space → Nat
  | .hbm => 34
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S1024x2048, .f32⟩
  | .hbm, ⟨3, _⟩ => ⟨S2048x2048, .f32⟩
  | .hbm, ⟨4, _⟩ => ⟨S8192x9216, .f32⟩
  | .hbm, ⟨5, _⟩ => ⟨S1x4096, .f32⟩
  | .hbm, ⟨6, _⟩ => ⟨S8192x4096, .f32⟩
  | .hbm, ⟨7, _⟩ => ⟨S8192x1024, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .bf16⟩
  | .hbm, ⟨12, _⟩ => ⟨S8192x2048, .bf16⟩
  | .hbm, ⟨13, _⟩ => ⟨S4096, .f32⟩
  | .hbm, ⟨14, _⟩ => ⟨S1x4096, .f32⟩
  | .hbm, ⟨15, _⟩ => ⟨S8192x4096, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S_, .f32⟩
  | .hbm, ⟨23, _⟩ => ⟨S8192x4096, .f32⟩
  | .hbm, ⟨24, _⟩ => ⟨S8192x4096, .f32⟩
  | .hbm, ⟨25, _⟩ => ⟨S8192x2x2048, .f32⟩
  | .hbm, ⟨26, _⟩ => ⟨S8192x1x2048, .f32⟩
  | .hbm, ⟨27, _⟩ => ⟨S8192x2048, .f32⟩
  | .hbm, ⟨28, _⟩ => ⟨S8192x2048, .f32⟩
  | .hbm, ⟨29, _⟩ => ⟨S8192x1x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S8192x2048, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩

abbrev nD : Nat := 1
abbrev τ : Topo := Topo.v7x

variable {F : FTy → Type} [FloatOps F]
-- ==== Kernel9.lean ====
abbrev S8192x2048 : Shape := ⟨2, ![8192, 2048]⟩
abbrev S2048x2048 : Shape := ⟨2, ![2048, 2048]⟩
abbrev S1x2048 : Shape := ⟨2, ![1, 2048]⟩
abbrev S512x2048 : Shape := ⟨2, ![512, 2048]⟩
abbrev S16x2048 : Shape := ⟨2, ![16, 2048]⟩
abbrev S16 : Shape := ⟨1, ![16]⟩
abbrev S16x1 : Shape := ⟨2, ![16, 1]⟩
abbrev S16x512 : Shape := ⟨2, ![16, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S2048x2048, .bf16⟩
  | .hbm, ⟨5, _⟩ => ⟨S8192x2048, .f32⟩
  | .hbm, ⟨6, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S8192x2048 : Shape := ⟨2, ![8192, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S8192 : Shape := ⟨1, ![8192]⟩
abbrev S8192x1 : Shape := ⟨2, ![8192, 1]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel10.lean ====
abbrev S8192x9216 : Shape := ⟨2, ![8192, 9216]⟩
abbrev S1x4x256x256 : Shape := ⟨4, ![1, 4, 256, 256]⟩
abbrev S1x1024 : Shape := ⟨2, ![1, 1024]⟩
abbrev S4x256x256 : Shape := ⟨3, ![4, 256, 256]⟩
abbrev S8192x1024 : Shape := ⟨2, ![8192, 1024]⟩
abbrev S256x1024 : Shape := ⟨2, ![256, 1024]⟩
abbrev S272x1024 : Shape := ⟨2, ![272, 1024]⟩
abbrev S16x1024 : Shape := ⟨2, ![16, 1024]⟩
abbrev S256x1 : Shape := ⟨2, ![256, 1]⟩
abbrev S272x256 : Shape := ⟨2, ![272, 256]⟩
abbrev S256x256 : Shape := ⟨2, ![256, 256]⟩
abbrev S1x256x256 : Shape := ⟨3, ![1, 256, 256]⟩
abbrev S1x256 : Shape := ⟨2, ![1, 256]⟩

abbrev nBuf : Space → Nat
  | .hbm => 6
  | .vmem => 7
  | .smem => 0
  | _ => 0

abbrev bufTy : (tb : Table) → Fin (tcTables nBuf tb) → BufTy
  | .hbm, ⟨0, _⟩ => ⟨S8192x9216, .f32⟩
  | .hbm, ⟨1, _⟩ => ⟨S1x4x256x256, .f32⟩
  | .hbm, ⟨2, _⟩ => ⟨S1x1024, .f32⟩
  | .hbm, ⟨3, _⟩ => ⟨S4x256x256, .f32⟩
  | .hbm, ⟨4, _⟩ => ⟨S4x256x256, .bf16⟩
  | .hbm, ⟨5, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S4x256x256, .bf16⟩
  | .local _ .vmem, ⟨3, _⟩ => ⟨S1x1024, .f32⟩
  | .local _ .vmem, ⟨4, _⟩ => ⟨S256x1024, .bf16⟩
  | .local _ .vmem, ⟨5, _⟩ => ⟨S256x1024, .bf16⟩
  | .local _ .vmem, ⟨6, _⟩ => ⟨S272x1024, .f32⟩
  | _, _ => ⟨S8192x9216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference10Ideal.lean ====
abbrev S8192x9216 : Shape := ⟨2, ![8192, 9216]⟩
abbrev S1x4x256x256 : Shape := ⟨4, ![1, 4, 256, 256]⟩
abbrev S1x1024 : Shape := ⟨2, ![1, 1024]⟩
abbrev S8192x1024 : Shape := ⟨2, ![8192, 1024]⟩
abbrev S1x8192x1024 : Shape := ⟨3, ![1, 8192, 1024]⟩
abbrev S4x256x256 : Shape := ⟨3, ![4, 256, 256]⟩
abbrev S1024 : Shape := ⟨1, ![1024]⟩
abbrev S_ : Shape := ⟨0, ![]⟩
abbrev S8192 : Shape := ⟨1, ![8192]⟩
abbrev S1x8192x256 : Shape := ⟨3, ![1, 8192, 256]⟩
abbrev S1x2x256 : Shape := ⟨3, ![1, 2, 256]⟩
abbrev S1x8190x256 : Shape := ⟨3, ![1, 8190, 256]⟩
abbrev S1x8192x1 : Shape := ⟨3, ![1, 8192, 1]⟩
abbrev S1x4x256 : Shape := ⟨3, ![1, 4, 256]⟩
abbrev S1x8188x256 : Shape := ⟨3, ![1, 8188, 256]⟩
abbrev S1x8x256 : Shape := ⟨3, ![1, 8, 256]⟩
abbrev S1x8184x256 : Shape := ⟨3, ![1, 8184, 256]⟩
abbrev S1x16x256 : Shape := ⟨3, ![1, 16, 256]⟩
abbrev S1x8176x256 : Shape := ⟨3, ![1, 8176, 256]⟩
abbrev S1x8192x1x256 : Shape := ⟨4, ![1, 8192, 1, 256]⟩
abbrev S1x8192x4x256 : Shape := ⟨4, ![1, 8192, 4, 256]⟩
abbrev S4x256x1x8192 : Shape := ⟨4, ![4, 256, 1, 8192]⟩
abbrev S1x1x1024 : Shape := ⟨3, ![1, 1, 1024]⟩

abbrev nBuf : Space → Nat
  | .hbm => 77
  | .vmem => 0
  | .smem => 0
  | _ => 0

abbrev bufTy : (tb : Table) → Fin (tcTables nBuf tb) → BufTy
  | .hbm, ⟨0, _⟩ => ⟨S8192x9216, .f32⟩
  | .hbm, ⟨1, _⟩ => ⟨S1x4x256x256, .f32⟩
  | .hbm, ⟨2, _⟩ => ⟨S1x1024, .f32⟩
  | .hbm, ⟨3, _⟩ => ⟨S8192x1024, .f32⟩
  | .hbm, ⟨4, _⟩ => ⟨S1x8192x1024, .f32⟩
  | .hbm, ⟨5, _⟩ => ⟨S4x256x256, .f32⟩
  | .hbm, ⟨6, _⟩ => ⟨S1024, .f32⟩
  | .hbm, ⟨7, _⟩ => ⟨S_, .f32⟩
  | .hbm, ⟨8, _⟩ => ⟨S_, .f32⟩
  | .hbm, ⟨9, _⟩ => ⟨S1x8192x1024, .f32⟩
  | .hbm, ⟨10, _⟩ => ⟨S8192, .f32⟩
  | .hbm, ⟨11, _⟩ => ⟨S_, .f32⟩
  | .hbm, ⟨12, _⟩ => ⟨S8192, .f32⟩
  | .hbm, ⟨13, _⟩ => ⟨S8192, .f32⟩
  | .hbm, ⟨14, _⟩ => ⟨S1x8192x256, .f32⟩
  | .hbm, ⟨15, _⟩ => ⟨S_, .f32⟩
  | .hbm, ⟨16, _⟩ => ⟨S1x2x256, .f32⟩
  | .hbm, ⟨17, _⟩ => ⟨S1x8190x256, .f32⟩
  | .hbm, ⟨18, _⟩ => ⟨S1x8192x256, .f32⟩
  | .hbm, ⟨19, _⟩ => ⟨S_, .f32⟩
  | .hbm, ⟨20, _⟩ => ⟨S8192, .f32⟩
  | .hbm, ⟨21, _⟩ => ⟨S8192, .f32⟩
  | .hbm, ⟨22, _⟩ => ⟨S1x8192x1, .f32⟩
  | .hbm, ⟨23, _⟩ => ⟨S1x8192x256, .f32⟩
  | .hbm, ⟨24, _⟩ => ⟨S1x8192x256, .f32⟩
  | .hbm, ⟨25, _⟩ => ⟨S1x8192x256, .f32⟩
  | .hbm, ⟨26, _⟩ => ⟨S1x8192x256, .f32⟩
  | .hbm, ⟨27, _⟩ => ⟨S_, .f32⟩
  | .hbm, ⟨28, _⟩ => ⟨S1x4x256, .f32⟩
  | .hbm, ⟨29, _⟩ => ⟨S1x8188x256, .f32⟩
  | .hbm, ⟨30, _⟩ => ⟨S1x8192x256, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S1x8192x1, .f32⟩
  | .hbm, ⟨35, _⟩ => ⟨S1x8192x256, .f32⟩
  | .hbm, ⟨36, _⟩ => ⟨S1x8192x256, .f32⟩
  | .hbm, ⟨37, _⟩ => ⟨S1x8192x256, .f32⟩
  | .hbm, ⟨38, _⟩ => ⟨S1x8192x256, .f32⟩
  | .hbm, ⟨39, _⟩ => ⟨S_, .f32⟩
  | .hbm, ⟨40, _⟩ => ⟨S1x8x256, .f32⟩
  | .hbm, ⟨41, _⟩ => ⟨S1x8184x256, .f32⟩
  | .hbm, ⟨42, _⟩ => ⟨S1x8192x256, .f32⟩
  | .hbm, ⟨43, _⟩ => ⟨S_, .f32⟩
  | .hbm, ⟨44, _⟩ => ⟨S8192, .f32⟩
  | .hbm, ⟨45, _⟩ => ⟨S8192, .f32⟩
  | .hbm, ⟨46, _⟩ => ⟨S1x8192x1, .f32⟩
  | .hbm, ⟨47, _⟩ => ⟨S1x8192x256, .f32⟩
  | .hbm, ⟨48, _⟩ => ⟨S1x8192x256, .f32⟩
  | .hbm, ⟨49, _⟩ => ⟨S1x8192x256, .f32⟩
  | .hbm, ⟨50, _⟩ => ⟨S1x8192x256, .f32⟩
  | .hbm, ⟨51, _⟩ => ⟨S_, .f32⟩
  | .hbm, ⟨52, _⟩ => ⟨S1x16x256, .f32⟩
  | .hbm, ⟨53, _⟩ => ⟨S1x8176x256, .f32⟩
  | .hbm, ⟨54, _⟩ => ⟨S1x8192x256, .f32⟩
  | .hbm, ⟨55, _⟩ => ⟨S_, .f32⟩
  | .hbm, ⟨56, _⟩ => ⟨S8192, .f32⟩
  | .hbm, ⟨57, _⟩ => ⟨S8192, .f32⟩
  | .hbm, ⟨58, _⟩ => ⟨S1x8192x1, .f32⟩
  | .hbm, ⟨59, _⟩ => ⟨S1x8192x256, .f32⟩
  | .hbm, ⟨60, _⟩ => ⟨S1x8192x256, .f32⟩
  | .hbm, ⟨61, _⟩ => ⟨S1x8192x256, .f32⟩
  | .hbm, ⟨62, _⟩ => ⟨S1x8192x1x256, .f32⟩
  | .hbm, ⟨63, _⟩ => ⟨S1x8192x1x256, .f32⟩
  | .hbm, ⟨64, _⟩ => ⟨S1x8192x1x256, .f32⟩
  | .hbm, ⟨65, _⟩ => ⟨S1x8192x1x256, .f32⟩
  | .hbm, ⟨66, _⟩ => ⟨S1x8192x4x256, .f32⟩
  | .hbm, ⟨67, _⟩ => ⟨S1x8192x4x256, .f32⟩
  | .hbm, ⟨68, _⟩ => ⟨S1x8192x4x256, .f32⟩
  | .hbm, ⟨69, _⟩ => ⟨S4x256x1x8192, .f32⟩
  | .hbm, ⟨70, _⟩ => ⟨S1x8192x4x256, .f32⟩
  | .hbm, ⟨71, _⟩ => ⟨S1x8192x1024, .f32⟩
  | .hbm, ⟨72, _⟩ => ⟨S1x1x1024, .f32⟩
  | .hbm, ⟨73, _⟩ => ⟨S1x8192x1024, .f32⟩
  | .hbm, ⟨74, _⟩ => ⟨S1x8192x1024, .f32⟩
  | .hbm, ⟨75, _⟩ => ⟨S8192x1024, .f32⟩
  | .hbm, ⟨76, _⟩ => ⟨S8192x1024, .bf16⟩
  | _, _ => ⟨S8192x9216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_call0_cst : Ref sig .tc := ⟨.hbm, 7, rfl⟩
abbrev main_call0_call0_v0 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_4 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_6 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_cst_7 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩

abbrev nD : Nat := 1
abbrev τ : Topo := Topo.v7x

variable {F : FTy → Type} [FloatOps F]
-- ==== Kernel11.lean ====
abbrev S8192x2048 : Shape := ⟨2, ![8192, 2048]⟩
abbrev S2048x12288 : Shape := ⟨2, ![2048, 12288]⟩
abbrev S8192x12288 : Shape := ⟨2, ![8192, 12288]⟩
abbrev S1024x2048 : Shape := ⟨2, ![1024, 2048]⟩
abbrev S2048x1536 : Shape := ⟨2, ![2048, 1536]⟩
abbrev S1024x1536 : Shape := ⟨2, ![1024, 1536]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .f32⟩
  | .hbm, ⟨2, _⟩ => ⟨S2048x12288, .bf16⟩
  | .hbm, ⟨3, _⟩ => ⟨S8192x12288, .f32⟩
  | .local _ .vmem, ⟨0, _⟩ => ⟨S1024x2048, .bf16⟩
  | .local _ .vmem, ⟨1, _⟩ => ⟨S1024x2048, .bf16⟩
  | .local _ .vmem, ⟨2, _⟩ => ⟨S2048x1536, .bf16⟩
  | .local _ .vmem, ⟨3, _⟩ => ⟨S2048x1536, .bf16⟩
  | .local _ .vmem, ⟨4, _⟩ => ⟨S1024x1536, .f32⟩
  | .local _ .vmem, ⟨5, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S2048x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x2048 : Shape := ⟨2, ![8192, 2048]⟩
abbrev S2048x12288 : Shape := ⟨2, ![2048, 12288]⟩
abbrev S8192x12288 : Shape := ⟨2, ![8192, 12288]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x12288, .f32⟩
  | .hbm, ⟨2, _⟩ => ⟨S8192x2048, .f32⟩
  | .hbm, ⟨3, _⟩ => ⟨S8192x12288, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel12.lean ====
abbrev S8192x2048 : Shape := ⟨2, ![8192, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S2048x2048, .bf16⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x2048 : Shape := ⟨2, ![8192, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .f32⟩
  | .hbm, ⟨2, _⟩ => ⟨S8192x2048, .f32⟩
  | .hbm, ⟨3, _⟩ => ⟨S2048x2048, .f32⟩
  | .hbm, ⟨4, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S2048x1536 : Shape := ⟨2, ![2048, 1536]⟩
abbrev S8x2048x1536 : Shape := ⟨3, ![8, 2048, 1536]⟩
abbrev S256x1536 : Shape := ⟨2, ![256, 1536]⟩
abbrev S8x256x1536 : Shape := ⟨3, ![8, 256, 1536]⟩
abbrev S1x256x1536 : Shape := ⟨3, ![1, 256, 1536]⟩

abbrev nBuf : Space → Nat
  | .hbm => 8
  | .vmem => 16
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S8x2048x1536, .bf16⟩
  | .hbm, ⟨4, _⟩ => ⟨S2048x1536, .f32⟩
  | .hbm, ⟨5, _⟩ => ⟨S2048x1536, .f32⟩
  | .hbm, ⟨6, _⟩ => ⟨S2048x1536, .f32⟩
  | .hbm, ⟨7, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S8x256x1536, .bf16⟩
  | .local _ .vmem, ⟨7, _⟩ => ⟨S8x256x1536, .bf16⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S2048x1536 : Shape := ⟨2, ![2048, 1536]⟩
abbrev S8x2048x1536 : Shape := ⟨3, ![8, 2048, 1536]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S8x2048x1536, .bf16⟩
  | .hbm, ⟨4, _⟩ => ⟨S8x2048x1536, .f32⟩
  | .hbm, ⟨5, _⟩ => ⟨S_, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S_, .f32⟩
  | .hbm, ⟨11, _⟩ => ⟨S2048x1536, .f32⟩
  | .hbm, ⟨12, _⟩ => ⟨S2048x1536, .f32⟩
  | .hbm, ⟨13, _⟩ => ⟨S2048x1536, .f32⟩
  | .hbm, ⟨14, _⟩ => ⟨S_, .f32⟩
  | .hbm, ⟨15, _⟩ => ⟨S2048x1536, .f32⟩
  | .hbm, ⟨16, _⟩ => ⟨S2048x1536, .f32⟩
  | .hbm, ⟨17, _⟩ => ⟨S2048x1536, .f32⟩
  | .hbm, ⟨18, _⟩ => ⟨S_, .f32⟩
  | .hbm, ⟨19, _⟩ => ⟨S2048x1536, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S_, .f32⟩
  | .hbm, ⟨26, _⟩ => ⟨S2048x1536, .f32⟩
  | .hbm, ⟨27, _⟩ => ⟨S2048x1536, .f32⟩
  | .hbm, ⟨28, _⟩ => ⟨S2048x1536, .f32⟩
  | .hbm, ⟨29, _⟩ => ⟨S_, .f32⟩
  | .hbm, ⟨30, _⟩ => ⟨S2048x1536, .f32⟩
  | .hbm, ⟨31, _⟩ => ⟨S2048x1536, .f32⟩
  | .hbm, ⟨32, _⟩ => ⟨S2048x1536, .f32⟩
  | .hbm, ⟨33, _⟩ => ⟨S_, .f32⟩
  | .hbm, ⟨34, _⟩ => ⟨S2048x1536, .f32⟩
  | .hbm, ⟨35, _⟩ => ⟨S2048x1536, .f32⟩
  | .hbm, ⟨36, _⟩ => ⟨S2048x1536, .f32⟩
  | .hbm, ⟨37, _⟩ => ⟨S_, .f32⟩
  | .hbm, ⟨38, _⟩ => ⟨S2048x1536, .f32⟩
  | .hbm, ⟨39, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel14.lean ====
abbrev S8192x2048 : Shape := ⟨2, ![8192, 2048]⟩
abbrev S8192x9216 : Shape := ⟨2, ![8192, 9216]⟩
abbrev S2048x9216 : Shape := ⟨2, ![2048, 9216]⟩
abbrev S1024x2048 : Shape := ⟨2, ![1024, 2048]⟩
abbrev S1024x1536 : Shape := ⟨2, ![1024, 1536]⟩
abbrev S2048x1536 : Shape := ⟨2, ![2048, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S2048x9216, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1536, .bf16⟩
  | .local _ .vmem, ⟨3, _⟩ => ⟨S1024x1536, .bf16⟩
  | .local _ .vmem, ⟨4, _⟩ => ⟨S2048x1536, .bf16⟩
  | .local _ .vmem, ⟨5, _⟩ => ⟨S2048x1536, .bf16⟩
  | .local _ .vmem, ⟨6, _⟩ => ⟨S2048x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 6, 8], ![false, false, false]⟩

def k0_cond3 (i : grid0.Coords) : BitVec 1 :=
  let arg2 : BitVec 32 := BitVec.ofNat 32 (i 2).val
  let c7_i32_3 : BitVec 32 := 7#32
  let v8 : BitVec 1 := Scalar.cmpi .eq arg2 c7_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x2048 : Shape := ⟨2, ![8192, 2048]⟩
abbrev S8192x9216 : Shape := ⟨2, ![8192, 9216]⟩
abbrev S2048x8192 : Shape := ⟨2, ![2048, 8192]⟩
abbrev S2048x9216 : Shape := ⟨2, ![2048, 9216]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x9216, .bf16⟩
  | .hbm, ⟨2, _⟩ => ⟨S8192x2048, .f32⟩
  | .hbm, ⟨3, _⟩ => ⟨S2048x8192, .f32⟩
  | .hbm, ⟨4, _⟩ => ⟨S8192x9216, .f32⟩
  | .hbm, ⟨5, _⟩ => ⟨S2048x9216, .f32⟩
  | .hbm, ⟨6, _⟩ => ⟨S2048x9216, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Proof.Norm.Row.lean ====
/- The gradient of the root-mean-square norm, row by row: the formulas a kernel's body and the chain rule give, over the
   extended reals, and the body's eight-row step read at an index. -/
module

public import Idealize.ShloMosaic.Lib.Pointwise
public import Idealize.ShloMosaic.Lib.Pipeline.Value
public import Idealize.ShloMosaic.Lib.Pipeline.ValueKit.Tiles

@[expose] public section

noncomputable section

open scoped BigOperators

namespace Cert.RowNorm

open Idealize.ShloMosaic

/-! ## The body of the norm's gradient on eight rows, for any float instance -/

section Chunk
variable {F : FTy → Type} [FloatOps F]

/-- The shape of eight rows. -/
abbrev C8 : Shape := ⟨2, ![8, 2048]⟩
/-- One number for each of eight rows. -/
abbrev C8x1 : Shape := ⟨2, ![8, 1]⟩
/-- One row. -/
abbrev C1 : Shape := ⟨2, ![1, 2048]⟩
/-- A block of rows. -/
abbrev C512 : Shape := ⟨2, ![512, 2048]⟩

/-- The mean over each row. -/
def mean8 (x : FVec F C8 .f32) : FVec F C8x1 .f32 :=
  divf (shapeCast C8x1 (multiReduction .add [1] ⟨1, ![8]⟩ x 0x00000000#32 (by decide) (.inl rfl) rfl) (by decide))
    (broadcast C8x1 (Scalar.ofBits .f32 0x45000000#32))

/-- The reciprocal root of the rows' mean square. -/
def rinv8 (x : FVec F C8 .f32) : FVec F C8x1 .f32 :=
  rsqrt (addf (mean8 (mulf x x)) (broadcast C8x1 (Scalar.ofBits .f32 0x358637BD#32)))

/-- The gradient with respect to the rows. -/
def dx8 (g : FVec F C1 .f32) (x dh dr : FVec F C8 .f32) : FVec F C8 .f32 :=
  addf dr (subf (mulf (broadcastTo C8 (rinv8 x) (by decide)) (mulf dh (broadcastTo C8 g (by decide))))
    (mulf x (broadcastTo C8 (mulf (mulf (mulf (rinv8 x) (rinv8 x)) (rinv8 x))
      (mean8 (mulf x (mulf dh (broadcastTo C8 g (by decide)))))) (by decide))))

/-- The rows' addend to the scale's gradient. -/
def dg8 (x dh : FVec F C8 .f32) : FVec F C8 .f32 :=
  mulf dh (mulf x (broadcastTo C8 (rinv8 x) (by decide)))

/-- The addends of all the steps added up in turn, then summed over the eight rows. -/
def dgSum {n : ℕ} (D : Fin n → FVec F C8 .f32) : FVec F C1 .f32 :=
  shapeCast C1 (multiReduction .add [0] ⟨1, ![2048]⟩
    ((List.ofFn D).foldl addf (broadcast C8 (Scalar.ofBits .f32 0x00000000#32))) 0x00000000#32 (by decide) (.inl rfl) rfl) (by decide)

theorem inb8 (k : Fin 64) : ∀ a, (![8 * (63 - k.val), 0] : Fin 2 → ℕ) a + C8.size a ≤ C512.size a := by
  intro a; fin_cases a
  · show 8 * (63 - k.val) + 8 ≤ 512; omega
  · show 0 + 2048 ≤ 2048; omega

theorem inb8' (k : Fin 64) : ∀ a, (![8 * k.val, 0] : Fin 2 → ℕ) a + C8.size a ≤ C512.size a := by
  intro a; fin_cases a
  · show 8 * k.val + 8 ≤ 512; omega
  · show 0 + 2048 ≤ 2048; omega

/-- Step `k` from the end: its eight rows of a block. -/
abbrev rowsUp (k : Fin 64) : Rect C512 := Rect.unit (s := C512) ![8 * (63 - k.val), 0] C8.size (inb8 k)
/-- Step `k`: its eight rows of a block. -/
abbrev rowsAt (k : Fin 64) : Rect C512 := Rect.unit (s := C512) ![8 * k.val, 0] C8.size (inb8' k)

/-- A load of a whole buffer through a rectangle reads the contents' rectangle. -/
theorem readAt_unread {sig : RefSig} {κ : Kind} {sp : Space} {S : Shape} {e : EltTy} {Val : EltTy → Type} [∀ e, Nonempty (Val e)]
    (M : Memref sig κ sp S e) (h : M.IsWhole) (r : Rect S) (X : S.Idx → Val e) :
    View.readAt Val M.view r.toLoadRect (h.unread X) = View.ld X r := by
  rw [View.readAt_eq_ld, h.read_unread]

theorem zero_off : (![0, 0] : Fin 2 → ℕ) = fun _ => 0 := by funext a; fin_cases a <;> rfl

theorem zero_off_apply (a : Fin 2) : (![0, 0] : Fin 2 → ℕ) a = 0 := congrFun zero_off a

/-- The whole of a rank-2 array as a rectangle. -/
theorem ld_zero {Val : EltTy → Type} {e : EltTy} {n0 n1 : ℕ} (inb) (X : (⟨2, ![n0, n1]⟩ : Shape).Idx → Val e) :
    View.ld X (Rect.unit (s := ⟨2, ![n0, n1]⟩) ![0, 0] ![n0, n1] inb) = X :=
  View.ld_unit_zero (S := ⟨2, ![n0, n1]⟩) zero_off inb X

theorem zero_off3 : (![0, 0, 0] : Fin 3 → ℕ) = fun _ => 0 := by funext a; fin_cases a <;> rfl

/-- The whole of a rank-3 array as a rectangle. -/
theorem ld_zero3 {Val : EltTy → Type} {e : EltTy} {n0 n1 n2 : ℕ} (inb) (X : (⟨3, ![n0, n1, n2]⟩ : Shape).Idx → Val e) :
    View.ld X (Rect.unit (s := ⟨3, ![n0, n1, n2]⟩) ![0, 0, 0] ![n0, n1, n2] inb) = X :=
  View.ld_unit_zero (S := ⟨3, ![n0, n1, n2]⟩) zero_off3 inb X

/-- Sixty-four stores of eight rows each, the last rows stored last, leave the block whose rows they are. -/
theorem canon_rows {Val : EltTy → Type} [∀ e, Nonempty (Val e)] {e : EltTy} (P : Fin 64 → C8.Idx → Val e) (G : C512.Idx → Val e)
    (h : ∀ (k : Fin 64) (a : Fin 8) (b : Fin 2048), P k (ix2 a b) = G (ix2 (⟨8 * (63 - k.val) + a.val, by omega⟩ : Fin 512) b)) :
    View.canon (List.ofFn fun k : Fin 64 => (⟨rowsUp k, P k⟩ : View.Piece Val C512 e)) = G := by
  funext y
  refine View.canon_ofFn_unit_eq_of_forall (S := C512) (fun k : Fin 64 => ![8 * (63 - k.val), 0]) C8.size inb8 P y (G y) ?_ ?_
  · have h0 : (y 0).val < 512 := (y 0).isLt
    have h1 : (y 1).val < 2048 := (y 1).isLt
    refine ⟨⟨63 - (y 0).val / 8, by omega⟩, fun a => ?_⟩
    fin_cases a
    · show 8 * (63 - (63 - (y 0).val / 8)) ≤ (y 0).val ∧ (y 0).val < 8 * (63 - (63 - (y 0).val / 8)) + 8
      omega
    · show 0 ≤ (y 1).val ∧ (y 1).val < 0 + 2048
      omega
  · intro k x hx
    have e := h k (x 0) (x 1)
    have ex : x = ix2 (x 0) (x 1) := by funext a; fin_cases a <;> rfl
    rw [ex]
    refine e.trans (congrArg G ?_)
    funext a
    apply Fin.ext
    fin_cases a
    · exact (hx 0).symm
    · exact ((hx 1).trans (Nat.zero_add _)).symm

end Chunk

/-! ## The same at an index, over the extended reals -/

/-- The row length as the kernel's and the reference's constant reads. -/
abbrev len : EReal := Ideal.ofBits .f32 0x45000000#32
/-- The constant added under the root. -/
abbrev eps : EReal := Ideal.ofBits .f32 0x358637BD#32

/-- The mean square of a row plus the constant. -/
def msq (x : Fin 2048 → EReal) : EReal := Ideal.div (∑ j, x j * x j) len + eps
/-- Its reciprocal root. -/
def rinv (x : Fin 2048 → EReal) : EReal := Ideal.rsqrt (msq x)
/-- The gradient with respect to the row as the body computes it. -/
def rowDx (g x dh dr : Fin 2048 → EReal) (b : Fin 2048) : EReal :=
  dr b + (rinv x * (dh b * g b) - x b * (rinv x * rinv x * rinv x * Ideal.div (∑ j, x j * (dh j * g j)) len))
/-- The row's addend to the scale's gradient. -/
def rowDg (x dh : Fin 2048 → EReal) (b : Fin 2048) : EReal := dh b * (x b * rinv x)

theorem rowDx_congr {g g' x x' dh dh' dr dr' : Fin 2048 → EReal} (hg : ∀ j, g j = g' j) (hx : ∀ j, x j = x' j)
    (hh : ∀ j, dh j = dh' j) (hr : ∀ j, dr j = dr' j) (b : Fin 2048) : rowDx g x dh dr b = rowDx g' x' dh' dr' b := by
  rw [funext hg, funext hx, funext hh, funext hr]

theorem rowDg_congr {x x' dh dh' : Fin 2048 → EReal} (hx : ∀ j, x j = x' j) (hh : ∀ j, dh j = dh' j) (b : Fin 2048) :
    rowDg x dh b = rowDg x' dh' b := by rw [funext hx, funext hh]

theorem mean8_apply (x : FVec Ideal C8 .f32) (a : Fin 8) (b : Fin 1) :
    mean8 x (ix2 a b) = Ideal.div (∑ j : Fin 2048, x (ix2 a j)) len := by
  unfold mean8
  pointwise

theorem rinv8_apply (x : FVec Ideal C8 .f32) (a : Fin 8) (b : Fin 1) :
    rinv8 x (ix2 a b) = rinv fun j => x (ix2 a j) := by
  unfold rinv8 rinv msq
  pointwise [mean8_apply]

theorem dx8_apply (g : FVec Ideal C1 .f32) (x dh dr : FVec Ideal C8 .f32) (a : Fin 8) (b : Fin 2048) :
    dx8 g x dh dr (ix2 a b)
      = rowDx (fun j => g (ix2 0 j)) (fun j => x (ix2 a j)) (fun j => dh (ix2 a j)) (fun j => dr (ix2 a j)) b := by
  unfold dx8 rowDx
  pointwise [mean8_apply, rinv8_apply]

theorem dg8_apply (x dh : FVec Ideal C8 .f32) (a : Fin 8) (b : Fin 2048) :
    dg8 x dh (ix2 a b) = rowDg (fun j => x (ix2 a j)) (fun j => dh (ix2 a j)) b := by
  unfold dg8 rowDg
  pointwise [rinv8_apply]

theorem foldl_addf_apply (l : List (FVec Ideal C8 .f32)) (z : FVec Ideal C8 .f32) (i : C8.Idx) :
    l.foldl addf z i = z i + (l.map fun d => d i).sum := by
  induction l generalizing z with
  | nil => simp
  | cons d l ih => rw [List.foldl_cons, ih, List.map_cons, List.sum_cons, ← add_assoc]; rfl

theorem dgSum_apply {n : ℕ} (D : Fin n → FVec Ideal C8 .f32) (a : Fin 1) (b : Fin 2048) :
    dgSum D (ix2 a b) = ∑ r : Fin 8, ∑ k : Fin n, D k (ix2 r b) := by
  unfold dgSum
  pointwise [foldl_addf_apply]
  refine Finset.sum_congr rfl fun r _ => ?_
  rw [List.map_ofFn, List.sum_ofFn]
  rfl

/-- Eight rows of a block read at an index. -/
theorem ld_rowsUp (X : Vec Ideal C512 .f32) (k : Fin 64) (a : Fin 8) (b : Fin 2048) :
    (View.ld X (rowsUp k) : FVec Ideal C8 .f32) (ix2 a b) = X (ix2 (⟨8 * (63 - k.val) + a.val, by omega⟩ : Fin 512) b) := by
  rw [View.ld_apply]
  refine congrArg X (funext fun i => Fin.ext ?_)
  match i with
  | ⟨0, _⟩ => show 8 * (63 - k.val) + 1 * a.val = 8 * (63 - k.val) + a.val; omega
  | ⟨1, _⟩ => show 0 + 1 * b.val = b.val; omega

theorem ld_rowsAt (X : Vec Ideal C512 .f32) (k : Fin 64) (a : Fin 8) (b : Fin 2048) :
    (View.ld X (rowsAt k) : FVec Ideal C8 .f32) (ix2 a b) = X (ix2 (⟨8 * k.val + a.val, by omega⟩ : Fin 512) b) := by
  rw [View.ld_apply]
  refine congrArg X (funext fun i => Fin.ext ?_)
  match i with
  | ⟨0, _⟩ => show 8 * k.val + 1 * a.val = 8 * k.val + a.val; omega
  | ⟨1, _⟩ => show 0 + 1 * b.val = b.val; omega

end Cert.RowNorm

end
-- ==== Proof.Dh1.Points.lean ====
/- What one grid point of the gradient of the first norm leaves: the product's block is added to the carried sum, and at
   the last block of a row tile the norm's gradient is taken of that sum, eight rows at a time. -/
module

public import proofs.«01_k».proof.Proof.Gen.KernelIdeal.Frame
public import proofs.«01_k».proof.Proof.Norm.Row
public import Idealize.ShloMosaic.Lib.Pipeline.ReadBack

@[expose] public section

set_option maxRecDepth 16384

noncomputable section

namespace Cert.Dh1

open Cert.KernelIdeal Cert.KernelIdeal.Gen Cert.RowNorm
open Idealize.ShloMosaic Idealize.ShloMosaic.TcCoe Idealize.SL.Sem

variable {F : FTy → Type} [FloatOps F]
variable (m : (ℓ : Loc nD τ sig) → Buf (Elt F) ℓ)

/-- What the point before `t` left. -/
abbrev before (c : Dev nD) (t : Fin cfg0.N) :=
  outsAt0 m c (t.val - 1) (Nat.lt_of_le_of_lt (Nat.sub_le _ _) t.isLt)

/-- The carried sum after a point that is not a row tile's first. -/
abbrev accC (c : Dev nD) (t : Fin cfg0.N) : Vec F S512x2048 .f32 :=
  k0_pay3 (before m c t).2.2.2 (iblk m c 0 t) (iblk m c 1 t)

/-- Eight rows of the gradient with respect to the norm's input, from the carried sum `A`. -/
def rowsDx (c : Dev nD) (t : Fin cfg0.N) (A : Vec F S512x2048 .f32) (k : Fin 64) : FVec F C8 .f32 :=
  dx8 (iblk m c 3 t) (View.ld (iblk m c 2 t) (rowsUp k))
    (View.ld A (rowsUp k))
    (View.ld (iblk m c 4 t) (rowsUp k))

/-- Eight rows' addend to the scale's gradient, from the carried sum `A`. -/
def rowsDg (c : Dev nD) (t : Fin cfg0.N) (A : Vec F S512x2048 .f32) (k : Fin 64) : FVec F C8 .f32 :=
  dg8 (View.ld (iblk m c 2 t) (rowsAt k)) (View.ld A (rowsAt k))

/-- The store of the carried sum, as a run of the body finds it: every load still through its buffer. -/
abbrev accPiece (c : Dev nD) (t : Fin cfg0.N) : View.Piece (Elt F) C512 .f32 :=
  ⟨Rect.unit ![0, 0] S512x2048.size inb_S512x2048_S512x2048_0_0, k0_pay3
    (View.readAt (Elt F) scM0_0.view (Rect.unit ![0, 0] S512x2048.size inb_S512x2048_S512x2048_0_0).toLoadRect
      ((Memref.isWhole_whole cc0_scratch0).unread (before m c t).2.2.2))
    (View.readAt (Elt F) (ms0_0 t).view (Rect.unit ![0, 0] S512x2304.size inb_S512x2304_S512x2304_0_0).toLoadRect
      ((hs0_0 t).unread (iblk m c 0 t)))
    (View.readAt (Elt F) (ms0_1 t).view (Rect.unit ![0, 0] S2048x2304.size inb_S2048x2304_S2048x2304_0_0).toLoadRect
      ((hs0_1 t).unread (iblk m c 1 t)))⟩

/-- Its payload is the carried sum. -/
theorem accPiece_snd (c : Dev nD) (t : Fin cfg0.N) : (accPiece m c t).2 = accC m c t := by
  show k0_pay3 _ _ _ = k0_pay3 _ _ _
  rw [readAt_unread, readAt_unread, readAt_unread, ld_zero, ld_zero, ld_zero]

/-- Eight rows of the gradient as a run of the body finds them. -/
def rowsFound (c : Dev nD) (t : Fin cfg0.N) (k : Fin 64) : FVec F C8 .f32 :=
  dx8 (View.readAt (Elt F) (ms0_3 t).view (Rect.unit ![0, 0] S1x2048.size inb_S1x2048_S1x2048_0_0).toLoadRect ((hs0_3 t).unread (iblk m c 3 t)))
    (View.readAt (Elt F) (ms0_2 t).view (rowsUp k).toLoadRect ((hs0_2 t).unread (iblk m c 2 t)))
    (View.readCov (Val := Elt F) scM0_0.view [accPiece m c t] (rowsUp k).toLoadRect)
    (View.readAt (Elt F) (ms0_4 t).view (rowsUp k).toLoadRect ((hs0_4 t).unread (iblk m c 4 t)))

theorem readCov_accPiece (c : Dev nD) (t : Fin cfg0.N) (r : Rect C512) :
    View.readCov (Val := Elt F) scM0_0.view [accPiece m c t] r.toLoadRect = View.ld (accC m c t) r := by
  refine (View.readCov_fill _ _ _ _ r zero_off_apply).trans ?_
  exact congrArg (fun X => View.ld X r) (accPiece_snd m c t)

theorem rowsFound_eq (c : Dev nD) (t : Fin cfg0.N) (k : Fin 64) : rowsFound m c t k = rowsDx m c t (accC m c t) k := by
  unfold rowsFound rowsDx
  rw [readCov_accPiece, readAt_unread, readAt_unread, readAt_unread, ld_zero]
  rfl

/-- The points of a row tile's last block. -/
theorem outs_C (c : Dev nD) (t : Fin cfg0.N) (h0 : ¬t.val % 64 = 0) (h1 : ¬t.val % 4 = 0) (h2 : 1 ≤ t.val % 4) (h3 : t.val % 4 = 3) :
    outsAt0 m c t.val t.isLt =
      (View.canon (List.ofFn fun k : Fin 64 => (⟨rowsUp k, rowsDx m c t (accC m c t) k⟩ : View.Piece (Elt F) C512 .f32)),
       View.canon (List.ofFn fun k : Fin 64 => (⟨rowsUp k, truncf .bf16 (rowsDx m c t (accC m c t) k) (by decide)⟩ :
          View.Piece (Elt F) C512 .bf16)),
       addf (before m c t).2.2.1 (dgSum (rowsDg m c t (accC m c t))),
       accC m c t) := by
  rw [outsAt0_C m c t h0 h1 h2 h3]
  unfold out0_C_5 out0_C_6 out0_C_7 sout0_C_0
  simp only [View.read_writes_junk_eq_canon]
  generalize hr : kernelRun0_C (F := F) _ _ _ _ _ _ _ _ _ _ _ _ _ _ _ _ _ _ _ _ _ _ _ _ _ _ _ _ _ _ _ = r
  have e1 : r.1 = List.ofFn fun k : Fin 64 => (⟨rowsUp k, rowsDx m c t (accC m c t) k⟩ : View.Piece (Elt F) C512 .f32) := by
    simp only [← rowsFound_eq]
    subst hr; sl_kernel_rfl
  have e2 : r.2.1 = List.ofFn fun k : Fin 64 => (⟨rowsUp k, truncf .bf16 (rowsDx m c t (accC m c t) k) (by decide)⟩ :
      View.Piece (Elt F) C512 .bf16) := by
    simp only [← rowsFound_eq]
    subst hr; sl_kernel_rfl
  have e3 : r.2.2.1 = [⟨Rect.unit ![0, 0] S1x2048.size inb_S1x2048_S1x2048_0_0,
      addf (shapeCast S1x2048 (View.readAt (Elt F) (ms0_7 t).view (Rect.unit ![0, 0] S1x2048.size inb_S1x2048_S1x2048_0_0).toLoadRect
          ((hs0_7 t).unread (before m c t).2.2.1)) shapeCasts_S1x2048_S1x2048)
        (dgSum (rowsDg m c t (accC m c t)))⟩] := by
    have e : rowsDg m c t (accC m c t) = fun k : Fin 64 =>
        dg8 (View.readAt (Elt F) (ms0_2 t).view (rowsAt k).toLoadRect ((hs0_2 t).unread (iblk m c 2 t)))
          (View.readCov (Val := Elt F) scM0_0.view [accPiece m c t] (rowsAt k).toLoadRect) :=
      funext fun k => by unfold rowsDg; rw [readCov_accPiece, readAt_unread]; rfl
    rw [e]
    subst hr; sl_kernel_rfl
  have e4 : r.2.2.2.1 = [accPiece m c t] := by
    subst hr; sl_kernel_rfl
  clear hr
  obtain ⟨L5, L6, L7, LS, hL⟩ := r
  dsimp only at e1 e2 e3 e4 ⊢
  clear hL
  subst e1 e2 e3 e4
  refine congrArg (Prod.mk _) (congrArg (Prod.mk _) (congrArg₂ Prod.mk ?_ ?_))
  · refine (View.canon_unit_zero (S := S1x2048) zero_off _ _).trans ?_
    rw [readAt_unread, ld_zero]
    exact congrArg (fun X => addf X _) (shapeCast_self _ _)
  · exact (View.canon_unit_zero (S := C512) zero_off _ _).trans (accPiece_snd m c t)

theorem outs_C_dx (c : Dev nD) (t : Fin cfg0.N) (h3 : t.val % 4 = 3) : (outsAt0 m c t.val t.isLt).1
    = View.canon (List.ofFn fun k : Fin 64 => (⟨rowsUp k, rowsDx m c t (accC m c t) k⟩ : View.Piece (Elt F) C512 .f32)) := by
  rw [outs_C m c t (by omega) (by omega) (by omega) h3]

/-- The first point of all: the scale's gradient is cleared and the carried sum is the first block's product. -/
theorem outs_A (c : Dev nD) (t : Fin cfg0.N) (h0 : t.val % 64 = 0) (h1 : t.val % 4 = 0) (h2 : ¬1 ≤ t.val % 4) (h3 : ¬t.val % 4 = 3) :
    (outsAt0 m c t.val t.isLt).2.2 = (k0_pay1, k0_pay2 (iblk m c 0 t) (iblk m c 1 t)) := by
  rw [outsAt0_A m c t h0 h1 h2 h3]
  dsimp only
  unfold out0_A_7 sout0_A_0
  simp only [View.read_writes_junk_eq_canon]
  unfold kernelRun0_A
  dsimp only
  sl_unfold_words
  refine congrArg₂ Prod.mk ?_ ?_
  · exact View.canon_unit_zero (S := S1x2048) zero_off _ _
  · refine (View.canon_unit_zero (S := C512) zero_off _ _).trans ?_
    rw [readAt_unread, readAt_unread, ld_zero, ld_zero]

/-- A row tile's middle points: the block's product is added to the carried sum. -/
theorem outs_B (c : Dev nD) (t : Fin cfg0.N) (h0 : ¬t.val % 64 = 0) (h1 : ¬t.val % 4 = 0) (h2 : 1 ≤ t.val % 4) (h3 : ¬t.val % 4 = 3) :
    (outsAt0 m c t.val t.isLt).2.2 = ((before m c t).2.2.1, accC m c t) := by
  rw [outsAt0_B m c t h0 h1 h2 h3]
  dsimp only
  unfold out0_B_7 sout0_B_0
  simp only [View.read_writes_junk_eq_canon]
  unfold kernelRun0_B
  dsimp only
  sl_unfold_words
  refine congrArg₂ Prod.mk rfl ?_
  exact (View.canon_unit_zero (S := C512) zero_off _ _).trans (accPiece_snd m c t)

/-- A later row tile's first point: the carried sum is the first block's product. -/
theorem outs_D (c : Dev nD) (t : Fin cfg0.N) (h0 : ¬t.val % 64 = 0) (h1 : t.val % 4 = 0) (h2 : ¬1 ≤ t.val % 4) (h3 : ¬t.val % 4 = 3) :
    (outsAt0 m c t.val t.isLt).2.2 = ((before m c t).2.2.1, k0_pay2 (iblk m c 0 t) (iblk m c 1 t)) := by
  rw [outsAt0_D m c t h0 h1 h2 h3]
  dsimp only
  unfold out0_D_7 sout0_D_0
  simp only [View.read_writes_junk_eq_canon]
  unfold kernelRun0_D
  dsimp only
  sl_unfold_words
  refine congrArg₂ Prod.mk rfl ?_
  refine (View.canon_unit_zero (S := C512) zero_off _ _).trans ?_
  rw [readAt_unread, readAt_unread, ld_zero, ld_zero]

end Cert.Dh1

end
-- ==== Proof.Base.Sums.lean ====
/- Arrays of rank two read at numbers, and sums over consecutive numbers cut into equal runs. -/
module

public import Idealize.ShloMosaic.Lib.Pointwise

@[expose] public section

noncomputable section

open scoped BigOperators

namespace Cert.Sums

open Idealize.ShloMosaic

/-- The element in row `i` and column `j`; 0 outside the array. -/
def at2 {n0 n1 : ℕ} (X : (⟨2, ![n0, n1]⟩ : Shape).Idx → EReal) (i j : ℕ) : EReal :=
  if h : i < n0 ∧ j < n1 then X (ix2 ⟨i, h.1⟩ ⟨j, h.2⟩) else 0

theorem at2_of {n0 n1 : ℕ} (X : (⟨2, ![n0, n1]⟩ : Shape).Idx → EReal) (i j : ℕ) (hi : i < n0) (hj : j < n1) :
    at2 X i j = X (ix2 ⟨i, hi⟩ ⟨j, hj⟩) := dif_pos ⟨hi, hj⟩

@[simp] theorem at2_fin {n0 n1 : ℕ} (X : (⟨2, ![n0, n1]⟩ : Shape).Idx → EReal) (i : Fin n0) (j : Fin n1) :
    at2 X i.val j.val = X (ix2 i j) := at2_of X _ _ i.isLt j.isLt

/-- A sum over the first numbers, taken in runs of `w`. -/
theorem sum_runs (w n : ℕ) (f : ℕ → EReal) : ∑ k : Fin n, ∑ r : Fin w, f (w * k.val + r.val) = ∑ q ∈ Finset.range (w * n), f q := by
  induction n with
  | zero => simp
  | succ n ih =>
    rw [Fin.sum_univ_castSucc, Nat.mul_succ, Finset.sum_range_add]
    refine congrArg₂ (· + ·) ?_ (Fin.sum_univ_eq_sum_range (fun r => f (w * n + r)) w)
    simpa using ih

/-- One more run added. -/
theorem sum_next (w k : ℕ) (f : ℕ → EReal) :
    ∑ q ∈ Finset.range (w * k), f q + ∑ r : Fin w, f (w * k + r.val) = ∑ q ∈ Finset.range (w * (k + 1)), f q := by
  rw [Nat.mul_succ, Finset.sum_range_add]
  exact congrArg _ (Fin.sum_univ_eq_sum_range (fun r => f (w * k + r)) w)

/-- The first run. -/
theorem sum_first (w : ℕ) (f : ℕ → EReal) : ∑ r : Fin w, f r.val = ∑ q ∈ Finset.range w, f q := Fin.sum_univ_eq_sum_range f w

end Cert.Sums

end
-- ==== Proof.Dh1.Value.lean ====
/- What the gradient of the first norm leaves after every point, as sums over rows and columns of its arguments. -/
module

public import proofs.«01_k».proof.Proof.Dh1.Points
public import proofs.«01_k».proof.Proof.Base.Sums
public import proofs.«01_k».proof.Proof.Gen.KernelIdeal.Value

@[expose] public section

set_option maxRecDepth 16384

noncomputable section

open scoped BigOperators

namespace Cert.Dh1

open Cert.KernelIdeal Cert.KernelIdeal.Gen Cert.RowNorm Cert.Sums
open Idealize.ShloMosaic Idealize.ShloMosaic.TcCoe Idealize.SL.Sem

variable (m : (ℓ : Loc nD τ sig) → Buf (Elt Ideal) ℓ)

theorem pay1_apply (b : Fin 2048) : (k0_pay1 : FVec Ideal S1x2048 .f32) (ix2 0 b) = 0 := by
  unfold k0_pay1
  pointwise

theorem pay2_apply (a : FVec Ideal S512x2304 .bf16) (w : FVec Ideal S2048x2304 .bf16) (r : Fin 512) (c : Fin 2048) :
    k0_pay2 (F := Ideal) a w (ix2 r c) = ∑ j : Fin 2304, a (ix2 r j) * w (ix2 c j) := by
  unfold k0_pay2
  pointwise

theorem pay3_apply (s : FVec Ideal S512x2048 .f32) (a : FVec Ideal S512x2304 .bf16) (w : FVec Ideal S2048x2304 .bf16) (r : Fin 512) (c : Fin 2048) :
    k0_pay3 (F := Ideal) s a w (ix2 r c) = s (ix2 r c) + ∑ j : Fin 2304, a (ix2 r j) * w (ix2 c j) := by
  unfold k0_pay3
  pointwise

/-! ## The windows' blocks -/

theorem at0 : ∀ t : Fin cfg0.N, win0_0.index t 0 = t.val / 4 ∧ win0_0.index t 1 = t.val % 4 := by decide
theorem at1 : ∀ t : Fin cfg0.N, win0_1.index t 0 = 0 ∧ win0_1.index t 1 = t.val % 4 := by decide
theorem at2' : ∀ t : Fin cfg0.N, win0_2.index t 0 = t.val / 4 ∧ win0_2.index t 1 = 0 := by decide
theorem at3 : ∀ t : Fin cfg0.N, win0_3.index t 0 = 0 ∧ win0_3.index t 1 = 0 := by decide
theorem at4 : ∀ t : Fin cfg0.N, win0_4.index t 0 = t.val / 4 ∧ win0_4.index t 1 = 0 := by decide

theorem lt_N (t : Fin cfg0.N) : t.val < 64 := t.isLt

/-- A block read at an index is the array read where the window's index map puts it. -/
theorem iblk0 (c : Dev nD) (t : Fin cfg0.N) (r : Fin 512) (j : Fin 2304) :
    (iblk m c 0 t : Vec Ideal S512x2304 .bf16) (ix2 r j) = at2 (V m c main_v0) (512 * (t.val / 4) + r.val) (2304 * (t.val % 4) + j.val) := by
  have ht := lt_N t
  rw [at2_of _ _ _ (by omega) (by omega)]
  unfold iblk
  rw [View.read_apply]
  show V m c main_v0 _ = V m c main_v0 _
  refine congrArg _ (funext fun a => Fin.ext ?_)
  match a with
  | ⟨0, _⟩ => show win0_0.index t 0 * 512 + 1 * r.val = 512 * (t.val / 4) + r.val; rw [(at0 t).1]; omega
  | ⟨1, _⟩ => show win0_0.index t 1 * 2304 + 1 * j.val = 2304 * (t.val % 4) + j.val; rw [(at0 t).2]; omega

theorem iblk1 (c : Dev nD) (t : Fin cfg0.N) (b : Fin 2048) (j : Fin 2304) :
    (iblk m c 1 t : Vec Ideal S2048x2304 .bf16) (ix2 b j) = at2 (V m c main_v1) b.val (2304 * (t.val % 4) + j.val) := by
  rw [at2_of _ _ _ (by omega) (by omega)]
  unfold iblk
  rw [View.read_apply]
  show V m c main_v1 _ = V m c main_v1 _
  refine congrArg _ (funext fun a => Fin.ext ?_)
  match a with
  | ⟨0, _⟩ => show win0_1.index t 0 * 2048 + 1 * b.val = b.val; rw [(at1 t).1]; omega
  | ⟨1, _⟩ => show win0_1.index t 1 * 2304 + 1 * j.val = 2304 * (t.val % 4) + j.val; rw [(at1 t).2]; omega

theorem iblk2 (c : Dev nD) (t : Fin cfg0.N) (r : Fin 512) (j : Fin 2048) :
    (iblk m c 2 t : Vec Ideal S512x2048 .f32) (ix2 r j) = at2 (V m c main_arg0) (512 * (t.val / 4) + r.val) j.val := by
  have ht := lt_N t
  rw [at2_of _ _ _ (by omega) (by omega)]
  unfold iblk
  rw [View.read_apply]
  show V m c main_arg0 _ = V m c main_arg0 _
  refine congrArg _ (funext fun a => Fin.ext ?_)
  match a with
  | ⟨0, _⟩ => show win0_2.index t 0 * 512 + 1 * r.val = 512 * (t.val / 4) + r.val; rw [(at2' t).1]; omega
  | ⟨1, _⟩ => show win0_2.index t 1 * 2048 + 1 * j.val = j.val; rw [(at2' t).2]; omega

theorem iblk3 (c : Dev nD) (t : Fin cfg0.N) (j : Fin 2048) :
    (iblk m c 3 t : Vec Ideal S1x2048 .f32) (ix2 0 j) = at2 (V m c main_arg1) 0 j.val := by
  rw [at2_of _ _ _ (by omega) (by omega)]
  unfold iblk
  rw [View.read_apply]
  show V m c main_arg1 _ = V m c main_arg1 _
  refine congrArg _ (funext fun a => Fin.ext ?_)
  match a with
  | ⟨0, _⟩ => show win0_3.index t 0 * 1 + 1 * 0 = 0; rw [(at3 t).1]
  | ⟨1, _⟩ => show win0_3.index t 1 * 2048 + 1 * j.val = j.val; rw [(at3 t).2]; omega

theorem iblk4 (c : Dev nD) (t : Fin cfg0.N) (r : Fin 512) (j : Fin 2048) :
    (iblk m c 4 t : Vec Ideal S512x2048 .f32) (ix2 r j) = at2 (V m c main_arg8) (512 * (t.val / 4) + r.val) j.val := by
  have ht := lt_N t
  rw [at2_of _ _ _ (by omega) (by omega)]
  unfold iblk
  rw [View.read_apply]
  show V m c main_arg8 _ = V m c main_arg8 _
  refine congrArg _ (funext fun a => Fin.ext ?_)
  match a with
  | ⟨0, _⟩ => show win0_4.index t 0 * 512 + 1 * r.val = 512 * (t.val / 4) + r.val; rw [(at4 t).1]; omega
  | ⟨1, _⟩ => show win0_4.index t 1 * 2048 + 1 * j.val = j.val; rw [(at4 t).2]; omega

/-! ## The carried sum and the scale's gradient after every point -/

/-- One addend of the product's element in row `R` and column `b`. -/
def term (c : Dev nD) (R b q : ℕ) : EReal := at2 (V m c main_v0) R q * at2 (V m c main_v1) b q
/-- The product's element in row `R` and column `b`. -/
def dh (c : Dev nD) (R b : ℕ) : EReal := ∑ q ∈ Finset.range 9216, term m c R b q
/-- Row `R` of the norm's input. -/
def rowX (c : Dev nD) (R : ℕ) : Fin 2048 → EReal := fun j => at2 (V m c main_arg0) R j.val
/-- Row `R`'s addend to the scale's gradient. -/
def dgTerm (c : Dev nD) (b : Fin 2048) (R : ℕ) : EReal := rowDg (rowX m c R) (fun j => dh m c R j.val) b
/-- The gradient with respect to the norm's input. -/
def dxAt (c : Dev nD) (R : ℕ) (b : Fin 2048) : EReal :=
  rowDx (fun j => at2 (V m c main_arg1) 0 j.val) (rowX m c R) (fun j => dh m c R j.val) (fun j => at2 (V m c main_arg8) R j.val) b

theorem first_apply (c : Dev nD) (t : Fin cfg0.N) (h1 : t.val % 4 = 0) (r : Fin 512) (b : Fin 2048) :
    k0_pay2 (F := Ideal) (iblk m c 0 t) (iblk m c 1 t) (ix2 r b)
      = ∑ q ∈ Finset.range (2304 * (t.val % 4 + 1)), term m c (512 * (t.val / 4) + r.val) b.val q := by
  rw [pay2_apply]
  simp only [iblk0, iblk1, h1]
  rw [← sum_next 2304 0]
  simp [term]

theorem next_apply (c : Dev nD) (t : Fin cfg0.N) (h1 : ¬t.val % 4 = 0)
    (ih : ∀ (r : Fin 512) (b : Fin 2048), (before m c t).2.2.2 (ix2 r b)
      = ∑ q ∈ Finset.range (2304 * ((t.val - 1) % 4 + 1)), term m c (512 * ((t.val - 1) / 4) + r.val) b.val q)
    (r : Fin 512) (b : Fin 2048) :
    accC m c t (ix2 r b) = ∑ q ∈ Finset.range (2304 * (t.val % 4 + 1)), term m c (512 * (t.val / 4) + r.val) b.val q := by
  unfold accC
  rw [pay3_apply, ih]
  simp only [iblk0, iblk1]
  have e1 : (t.val - 1) % 4 + 1 = t.val % 4 := by omega
  have e2 : (t.val - 1) / 4 = t.val / 4 := by omega
  rw [e1, e2, ← sum_next 2304]
  rfl

theorem acc_full (c : Dev nD) (t : Fin cfg0.N) (A : Vec Ideal S512x2048 .f32) (h3 : t.val % 4 = 3)
    (hA : ∀ (r : Fin 512) (b : Fin 2048), A (ix2 r b)
      = ∑ q ∈ Finset.range (2304 * (t.val % 4 + 1)), term m c (512 * (t.val / 4) + r.val) b.val q) (r : Fin 512) (b : Fin 2048) :
    A (ix2 r b) = dh m c (512 * (t.val / 4) + r.val) b.val := by
  rw [hA, h3]; rfl

theorem rowsDx_apply (c : Dev nD) (t : Fin cfg0.N) (A : Vec Ideal S512x2048 .f32)
    (hA : ∀ (r : Fin 512) (b : Fin 2048), A (ix2 r b) = dh m c (512 * (t.val / 4) + r.val) b.val) (k : Fin 64) (a : Fin 8) (b : Fin 2048) :
    rowsDx m c t A k (ix2 a b) = dxAt m c (512 * (t.val / 4) + (8 * (63 - k.val) + a.val)) b :=
  (dx8_apply _ _ _ _ a b).trans (rowDx_congr (fun j => iblk3 m c t j) (fun j => (ld_rowsUp (iblk m c 2 t) k a j).trans (iblk2 m c t _ j))
    (fun j => (ld_rowsUp A k a j).trans (hA _ j)) (fun j => (ld_rowsUp (iblk m c 4 t) k a j).trans (iblk4 m c t _ j)) b)

theorem rowsDg_apply (c : Dev nD) (t : Fin cfg0.N) (A : Vec Ideal S512x2048 .f32)
    (hA : ∀ (r : Fin 512) (b : Fin 2048), A (ix2 r b) = dh m c (512 * (t.val / 4) + r.val) b.val) (k : Fin 64) (a : Fin 8) (b : Fin 2048) :
    rowsDg m c t A k (ix2 a b) = dgTerm m c b (512 * (t.val / 4) + (8 * k.val + a.val)) :=
  (dg8_apply _ _ a b).trans (rowDg_congr (fun j => (ld_rowsAt (iblk m c 2 t) k a j).trans (iblk2 m c t _ j))
    (fun j => (ld_rowsAt A k a j).trans (hA _ j)) b)

theorem dgSum_rows (c : Dev nD) (t : Fin cfg0.N) (A : Vec Ideal S512x2048 .f32)
    (hA : ∀ (r : Fin 512) (b : Fin 2048), A (ix2 r b) = dh m c (512 * (t.val / 4) + r.val) b.val) (b : Fin 2048) :
    dgSum (rowsDg m c t A) (ix2 0 b) = ∑ r : Fin 512, dgTerm m c b (512 * (t.val / 4) + r.val) := by
  rw [dgSum_apply, Finset.sum_comm]
  simp only [rowsDg_apply m c t A hA]
  rw [sum_runs 8 64 (fun q => dgTerm m c b (512 * (t.val / 4) + q))]
  exact (Fin.sum_univ_eq_sum_range _ 512).symm

/-- The carried sum and the scale's gradient after point `n`. -/
def Inv (c : Dev nD) (n : ℕ) (o : Vec Ideal S512x2048 .f32 × Vec Ideal S512x2048 .bf16 × Vec Ideal S1x2048 .f32 × Vec Ideal S512x2048 .f32) : Prop :=
  (∀ (r : Fin 512) (b : Fin 2048), o.2.2.2 (ix2 r b)
      = ∑ q ∈ Finset.range (2304 * (n % 4 + 1)), term m c (512 * (n / 4) + r.val) b.val q)
  ∧ ∀ b : Fin 2048, o.2.2.1 (ix2 0 b) = ∑ R ∈ Finset.range (512 * ((n + 1) / 4)), dgTerm m c b R

theorem inv_step (c : Dev nD) (t : Fin cfg0.N)
    (ih : ∀ (n : ℕ) (h : n < cfg0.N), n + 1 = t.val → Inv m c n (outsAt0 m c n h)) : Inv m c t.val (outsAt0 m c t.val t.isLt) := by
  have ht := lt_N t
  by_cases h1 : t.val % 4 = 0
  · by_cases h0 : t.val % 64 = 0
    · have e := outs_A m c t h0 h1 (by omega) (by omega)
      refine ⟨fun r b => ?_, fun b => ?_⟩
      · rw [e]; exact first_apply m c t h1 r b
      · rw [e, show (t.val + 1) / 4 = 0 by omega]
        simpa using pay1_apply b
    · have e := outs_D m c t h0 h1 (by omega) (by omega)
      have ih : Inv m c (t.val - 1) (before m c t) := ih (t.val - 1) (by omega) (by omega)
      refine ⟨fun r b => ?_, fun b => ?_⟩
      · rw [e]; exact first_apply m c t h1 r b
      · rw [e, show (t.val + 1) / 4 = (t.val - 1 + 1) / 4 by omega]
        exact ih.2 b
  · have ih : Inv m c (t.val - 1) (before m c t) := ih (t.val - 1) (by omega) (by omega)
    have hacc := next_apply m c t h1 ih.1
    by_cases h3 : t.val % 4 = 3
    · have e := outs_C m c t (by omega) h1 (by omega) h3
      refine ⟨fun r b => ?_, fun b => ?_⟩
      · rw [e]; exact hacc r b
      · rw [e]
        show (before m c t).2.2.1 (ix2 0 b) + dgSum (rowsDg m c t (accC m c t)) (ix2 0 b) = _
        rw [dgSum_rows m c t _ (acc_full m c t _ h3 hacc), ih.2 b,
          show (t.val - 1 + 1) / 4 = t.val / 4 by omega, show (t.val + 1) / 4 = t.val / 4 + 1 by omega]
        exact sum_next 512 _ _
    · have e := outs_B m c t (by omega) h1 (by omega) h3
      refine ⟨fun r b => ?_, fun b => ?_⟩
      · rw [e]; exact hacc r b
      · rw [e, show (t.val + 1) / 4 = (t.val - 1 + 1) / 4 by omega]
        exact ih.2 b

theorem inv_all (c : Dev nD) (n : ℕ) : ∀ h : n < cfg0.N, Inv m c n (outsAt0 m c n h) := by
  induction n with
  | zero => exact fun h => inv_step m c ⟨0, h⟩ fun n _ e => absurd e (Nat.succ_ne_zero n)
  | succ n ih =>
    intro h
    refine inv_step m c ⟨n + 1, h⟩ fun k hk e => ?_
    obtain rfl : k = n := Nat.succ.inj e
    exact ih hk

theorem acc_last (c : Dev nD) (t : Fin cfg0.N) (h3 : t.val % 4 = 3) (r : Fin 512) (b : Fin 2048) :
    accC m c t (ix2 r b) = dh m c (512 * (t.val / 4) + r.val) b.val :=
  acc_full m c t _ h3 (next_apply m c t (by omega) (inv_all m c (t.val - 1) _).1) r b

theorem rows_block (c : Dev nD) (t : Fin cfg0.N) (h3 : t.val % 4 = 3) :
    View.canon (List.ofFn fun k : Fin 64 => (⟨rowsUp k, rowsDx m c t (accC m c t) k⟩ : View.Piece (Elt Ideal) C512 .f32))
      = fun y : C512.Idx => dxAt m c (512 * (t.val / 4) + (y 0).val) (y 1) :=
  canon_rows (Val := Elt Ideal) (e := .f32) (rowsDx m c t (accC m c t)) _ fun k a b => rowsDx_apply m c t _ (acc_last m c t h3) k a b

/-- The gradient with respect to the norm's input at a row tile's last point. -/
theorem dx_block (c : Dev nD) (t : Fin cfg0.N) (h3 : t.val % 4 = 3) :
    (outsAt0 m c t.val t.isLt).1 = fun y : C512.Idx => dxAt m c (512 * (t.val / 4) + (y 0).val) (y 1) := by
  rw [outs_C_dx m c t h3, rows_block m c t h3]

/-! ## The arrays after the run -/

theorem dx_array (c : Dev nD) (R : Fin 8192) (b : Fin 2048) : (Value.G5 m c : Vec Ideal S8192x2048 .f32) (ix2 R b) = dxAt m c R.val b := by
  have e : Value.pt5Of (ix2 R b) = 4 * (R.val / 512) + 3 := by
    show 4 * (1 * (R.val / 512 - 0) + 1 * (b.val / 2048 - 0)) + 3 = _
    omega
  have hN : Value.pt5Of (ix2 R b) < cfg0.N := by rw [e, show cfg0.N = 64 from N_0]; omega
  have el : Value.loc5Of (ix2 R b) = ix2 (⟨R.val % 512, Nat.mod_lt _ (by decide)⟩ : Fin 512) b := by
    funext a
    match a with
    | ⟨0, _⟩ => rfl
    | ⟨1, _⟩ => exact Fin.ext (Nat.mod_eq_of_lt b.isLt)
  unfold Value.G5
  rw [dif_pos hN, ← Value.outsAt0_sweep m c _ hN, el]
  refine (congrFun (dx_block m c ⟨_, hN⟩ (by show Value.pt5Of (ix2 R b) % 4 = 3; omega)) (ix2 (⟨R.val % 512, Nat.mod_lt _ (by decide)⟩ : Fin 512) b)).trans ?_
  show dxAt m c (512 * (Value.pt5Of (ix2 R b) / 4) + R.val % 512) b = _
  rw [show 512 * (Value.pt5Of (ix2 R b) / 4) + R.val % 512 = R.val by omega]

theorem dg_array (c : Dev nD) (b : Fin 2048) : (Value.G7 m c : Vec Ideal S1x2048 .f32) (ix2 0 b) = ∑ R ∈ Finset.range 8192, dgTerm m c b R := by
  rw [Value.G7_last, ← Value.outsAt0_sweep m c 63 (lt_of_lt_of_eq (by decide) N_0.symm)]
  exact (inv_all m c 63 _).2 b

end Cert.Dh1

end
-- ==== Proof.Norm.Host.lean ====
/- The gradient of the root-mean-square norm as the chain rule's host lines compute it, read at an index. -/
module

public import proofs.«01_k».proof.Proof.Norm.Row

@[expose] public section

noncomputable section

open scoped BigOperators

namespace Cert.RowNorm

open Idealize.ShloMosaic

abbrev H : Shape := ⟨2, ![8192, 2048]⟩
abbrev Hx1 : Shape := ⟨2, ![8192, 1]⟩
abbrev HR : Shape := ⟨1, ![8192]⟩
abbrev HC : Shape := ⟨1, ![2048]⟩
abbrev H0 : Shape := ⟨0, ![]⟩

section Lines
variable {F : FTy → Type} [FloatOps F]

/-- Zero. -/
def zeroH : FVec F H0 .f32 := constant H0 .f32 0x00000000#32
/-- One number for every row. -/
def constH (w : BitVec 32) : FVec F Hx1 .f32 := broadcastInDim Hx1 ![] (by decide) (constant H0 .f32 w)

/-- The rows' mean squares plus the constant. -/
def msqH (x : FVec F H .f32) : FVec F Hx1 .f32 :=
  addf (Host.divf (broadcastInDim Hx1 ![0] (by decide) (Host.reduceAdd (t := HR) (axes := [1]) (mulf x x) zeroH (by decide) (by decide)))
    (constH 0x45000000#32)) (constH 0x358637BD#32)

/-- The rows scaled to unit mean square. -/
def unitH (x : FVec F H .f32) : FVec F H .f32 :=
  mulf x (broadcastInDim H ![0, 1] (by decide) (Host.rsqrt (msqH x)))

/-- The scale in every row. -/
def scaleH (g : FVec F C1 .f32) : FVec F H .f32 :=
  broadcastInDim H ![0, 1] (by decide) (broadcastInDim C1 ![1] (by decide) (shapeCast HC g (by decide)))

/-- The rows' derivative through the mean square. -/
def throughH (x dh g : FVec F H .f32) : FVec F H .f32 :=
  broadcastInDim H ![0] (by decide) (Host.reduceAdd (t := HR) (axes := [1]) (Host.divf
    (mulf (shapeCast Hx1 (Host.reduceAdd (t := HR) (axes := [1]) (mulf x (mulf dh g)) zeroH (by decide) (by decide)) (by decide))
      (mulf (constH 0xBF000000#32) (Host.divf (Host.rsqrt (msqH x)) (msqH x))))
    (constH 0x45000000#32)) zeroH (by decide) (by decide))

/-- The gradient with respect to the norm's input. -/
def dxH (x : FVec F H .f32) (g : FVec F C1 .f32) (dh dr : FVec F H .f32) : FVec F H .f32 :=
  addf (addf (addf dr (mulf (mulf dh (scaleH g)) (broadcastInDim H ![0, 1] (by decide) (Host.rsqrt (msqH x)))))
    (mulf x (throughH x dh (scaleH g)))) (mulf (throughH x dh (scaleH g)) x)

/-- The gradient with respect to the scale. -/
def dgH (x dh : FVec F H .f32) : FVec F C1 .f32 :=
  broadcastInDim C1 ![1] (by decide) (Host.reduceAdd (t := HC) (axes := [0])
    (shapeCast C1 (Host.reduceAdd (t := HC) (axes := [0]) (mulf (unitH x) dh) zeroH (by decide) (by decide)) (by decide)) zeroH (by decide) (by decide))

end Lines

theorem msqH_apply (x : FVec Ideal H .f32) (R : Fin 8192) (b : Fin 1) : msqH x (ix2 R b) = msq fun j => x (ix2 R j) := by
  unfold msqH msq constH zeroH
  pointwise

theorem scaleH_apply (g : FVec Ideal C1 .f32) (R : Fin 8192) (b : Fin 2048) : scaleH g (ix2 R b) = g (ix2 0 b) := by
  unfold scaleH
  pointwise

/-- The derivative through the mean square, one row. -/
def through (g x dh : Fin 2048 → EReal) : EReal :=
  Ideal.div ((∑ j, x j * (dh j * g j)) * (Ideal.ofBits .f32 0xBF000000#32 * Ideal.div (rinv x) (msq x))) len

theorem throughH_apply (x dh g : FVec Ideal H .f32) (R : Fin 8192) (b : Fin 2048) :
    throughH x dh g (ix2 R b) = through (fun j => g (ix2 R j)) (fun j => x (ix2 R j)) fun j => dh (ix2 R j) := by
  unfold throughH through constH zeroH rinv
  pointwise [msqH_apply]
  exact Fin.sum_univ_one _

/-- The chain rule's form of the gradient with respect to the norm's input, one row. -/
def rowDxH (g x dh dr : Fin 2048 → EReal) (b : Fin 2048) : EReal :=
  dr b + dh b * g b * rinv x + x b * through g x dh + through g x dh * x b

theorem dxH_apply (x : FVec Ideal H .f32) (g : FVec Ideal C1 .f32) (dh dr : FVec Ideal H .f32) (R : Fin 8192) (b : Fin 2048) :
    dxH x g dh dr (ix2 R b)
      = rowDxH (fun j => g (ix2 0 j)) (fun j => x (ix2 R j)) (fun j => dh (ix2 R j)) (fun j => dr (ix2 R j)) b := by
  unfold dxH rowDxH
  pointwise [msqH_apply, throughH_apply, scaleH_apply]
  rfl

theorem unitH_apply (x : FVec Ideal H .f32) (R : Fin 8192) (b : Fin 2048) :
    unitH x (ix2 R b) = x (ix2 R b) * rinv fun j => x (ix2 R j) := by
  unfold unitH rinv
  pointwise [msqH_apply]

theorem dgH_apply (x dh : FVec Ideal H .f32) (b : Fin 2048) :
    dgH x dh (ix2 0 b) = ∑ R : Fin 8192, rowDg (fun j => x (ix2 R j)) (fun j => dh (ix2 R j)) b := by
  unfold dgH zeroH rowDg
  pointwise [unitH_apply]
  refine (Fin.sum_univ_one _).trans (Finset.sum_congr rfl fun R _ => ?_)
  rw [mul_comm]

end Cert.RowNorm

end
-- ==== Proof.Norm.Equal.lean ====
/- The two forms of the norm's gradient are equal at all extended reals: a row's mean square plus the constant is positive,
   so its reciprocal root is a real number, or 0 where the mean square is infinite. -/
module

public import proofs.«01_k».proof.Proof.Norm.Host

@[expose] public section

noncomputable section

open scoped BigOperators

namespace Cert.RowNorm

open Idealize.ShloMosaic

theorem len_eq : len = ((2048 : ℝ) : EReal) := by
  simp [len, Ideal.ofBits, Ideal.ieee, -EReal.coe_mul]; norm_num

theorem half_eq : Ideal.ofBits .f32 0xBF000000#32 = ((-(1 / 2) : ℝ) : EReal) := by
  simp [Ideal.ofBits, Ideal.ieee, -EReal.coe_mul, -EReal.coe_neg]; norm_num

theorem eps_pos : 0 < eps := by
  have : ∃ r : ℝ, 0 < r ∧ eps = (r : EReal) := by
    refine ⟨_, ?_, by simp [eps, Ideal.ofBits, Ideal.ieee, -EReal.coe_mul]; rfl⟩
    positivity
  obtain ⟨r, hr, e⟩ := this
  rw [e]; exact EReal.coe_pos.mpr hr

theorem sq_nonneg' (x : EReal) : 0 ≤ x * x := by
  induction x with
  | bot => simp
  | top => simp
  | coe r => exact_mod_cast mul_self_nonneg r

theorem div_len (x : EReal) : Ideal.div x len = x * ((1 / 2048 : ℝ) : EReal) := by
  rw [len_eq, Ideal.div_coe (by norm_num)]

theorem msq_pos (x : Fin 2048 → EReal) : 0 < msq x := by
  unfold msq
  rw [div_len]
  have h : (0 : EReal) ≤ (∑ j, x j * x j) * ((1 / 2048 : ℝ) : EReal) :=
    mul_nonneg (Finset.sum_nonneg fun j _ => sq_nonneg' (x j)) (EReal.coe_nonneg.mpr (by norm_num))
  exact lt_of_lt_of_le eps_pos (le_add_of_nonneg_left h)

theorem neg_of_halves (u : EReal) : ((-(1 / 2) : ℝ) : EReal) * u + ((-(1 / 2) : ℝ) : EReal) * u = -u := by
  induction u with
  | bot =>
    rw [EReal.coe_mul_bot_of_neg (by norm_num)]; rfl
  | top =>
    rw [EReal.coe_mul_top_of_neg (by norm_num)]; rfl
  | coe r =>
    norm_cast
    ring

/-- The reciprocal root, its cube, and the quotient the chain rule takes: all one real. -/
theorem rinv_cases (x : Fin 2048 → EReal) : ∃ r : ℝ, rinv x = (r : EReal) ∧ Ideal.div (rinv x) (msq x) = ((r * r * r : ℝ) : EReal) := by
  unfold rinv
  have hp := msq_pos x
  generalize msq x = v at hp
  induction v with
  | bot => exact absurd hp (by simp)
  | top =>
    refine ⟨0, by simp, ?_⟩
    rw [Ideal.rsqrt_top]
    unfold Ideal.div
    simp
  | coe r =>
    have hr : 0 < r := EReal.coe_pos.mp hp
    refine ⟨(Real.sqrt r)⁻¹, ?_, ?_⟩
    · rw [Ideal.rsqrt_coe, if_neg (not_lt.mpr hr.le), if_neg hr.ne']
    · rw [Ideal.rsqrt_coe, if_neg (not_lt.mpr hr.le), if_neg hr.ne', Ideal.div_coe hr.ne', ← EReal.coe_mul]
      congr 1
      have h := Real.mul_self_sqrt hr.le
      have h0 : Real.sqrt r ≠ 0 := (Real.sqrt_pos.mpr hr).ne'
      rw [← mul_inv, h, one_div, mul_comm]

theorem rowDxH_eq (g x dh dr : Fin 2048 → EReal) (b : Fin 2048) : rowDxH g x dh dr b = rowDx g x dh dr b := by
  obtain ⟨r, hr, hq⟩ := rinv_cases x
  unfold rowDxH rowDx through
  rw [hq, hr, half_eq, div_len, div_len]
  generalize ∑ j, x j * (dh j * g j) = S
  generalize dh b * g b = a
  have ht : S * (((-(1 / 2) : ℝ) : EReal) * ((r * r * r : ℝ) : EReal)) * ((1 / 2048 : ℝ) : EReal)
      = ((-(1 / 2) : ℝ) : EReal) * ((r : EReal) * r * r * (S * ((1 / 2048 : ℝ) : EReal))) := by
    rw [EReal.coe_mul, EReal.coe_mul]; ac_rfl
  rw [ht, mul_comm _ (x b), mul_left_comm (x b), add_assoc, neg_of_halves, add_assoc, mul_comm a, sub_eq_add_neg]

end Cert.RowNorm

end
-- ==== Proof.Dh1.Reference.lean ====
/- The gradient of the first norm: the chain rule's host lines give the same sums over rows and columns. -/
module

public import proofs.«01_k».proof.Proof.Dh1.Value
public import proofs.«01_k».proof.Proof.Norm.Equal
public import proofs.«01_k».proof.Proof.Gen.ReferenceIdeal.Run

@[expose] public section

set_option maxRecDepth 16384

noncomputable section

open scoped BigOperators

namespace Cert.Dh1

open Cert.RowNorm Cert.Sums
open Idealize.ShloMosaic Idealize.ShloMosaic.TcCoe Idealize.SL.Sem

abbrev N1 : Shape := ⟨2, ![8192, 1024]⟩
abbrev N4 : Shape := ⟨2, ![8192, 4096]⟩
abbrev N9 : Shape := ⟨2, ![8192, 9216]⟩
abbrev W9 : Shape := ⟨2, ![2048, 9216]⟩

theorem parts5 : Shape.Concatenates [N1, H, H, H, H] N9 1 := by decide
theorem parts2 : Shape.Concatenates [H, H] N4 1 := by decide

section Lines
variable {F : FTy → Type} [FloatOps F]

/-- The five parts of the product's gradient, side by side. -/
def joined (p : FVec F N1 .bf16) (l e a b : FVec F H .bf16) : FVec F N9 .bf16 :=
  concatenate N9 1 [⟨N1, p⟩, ⟨H, l⟩, ⟨H, e⟩, ⟨H, a⟩, ⟨H, b⟩] parts5

/-- The same parts, each widened with zeros and added up. -/
def added (p : FVec F N1 .bf16) (l e a b : FVec F H .bf16) : FVec F N9 .f32 :=
  addf (addf (addf
    (pad N9 ![0, 5120] ![0, 0] ![0, 0] (extf .f32 (concatenate N4 1 [⟨H, a⟩, ⟨H, b⟩] parts2) (by decide)) zeroH (by decide) (by decide))
    (pad N9 ![0, 3072] ![0, 4096] ![0, 0] (extf .f32 e (by decide)) zeroH (by decide) (by decide)))
    (pad N9 ![0, 1024] ![0, 6144] ![0, 0] (extf .f32 l (by decide)) zeroH (by decide) (by decide)))
    (pad N9 ![0, 0] ![0, 8192] ![0, 0] (extf .f32 p (by decide)) zeroH (by decide) (by decide))

end Lines

theorem added_apply (p : FVec Ideal N1 .bf16) (l e a b : FVec Ideal H .bf16) (R : Fin 8192) (q : Fin 9216) :
    added p l e a b (ix2 R q) = joined p l e a b (ix2 R q) := by
  unfold added joined zeroH
  pointwise
  have hq := q.isLt
  simp only [Nat.sub_sub, Nat.reduceAdd]
  rcases Nat.lt_or_ge q.val 1024 with h1 | h1
  · simp (disch := omega) only [dif_pos, dif_neg, zero_add, add_zero]
  rcases Nat.lt_or_ge q.val 3072 with h2 | h2
  · simp (disch := omega) only [dif_pos, dif_neg, zero_add, add_zero]
  rcases Nat.lt_or_ge q.val 5120 with h3 | h3
  · simp (disch := omega) only [dif_pos, dif_neg, zero_add, add_zero]
  rcases Nat.lt_or_ge q.val 7168 with h4 | h4
  · simp (disch := omega) only [dif_pos, dif_neg, zero_add, add_zero]
  · simp (disch := omega) only [dif_pos, dif_neg, zero_add, add_zero]

section V
open Cert.KernelIdeal Cert.KernelIdeal.Gen
variable {F : FTy → Type} [FloatOps F]
variable (m : (ℓ : Loc nD τ sig) → Buf (Elt F) ℓ)
theorem V0 (c : Dev nD) : V m c main_v0 = joined (m ((c : Thread nD τ).loc main_arg3)) (m ((c : Thread nD τ).loc main_arg4))
    (m ((c : Thread nD τ).loc main_arg5)) (m ((c : Thread nD τ).loc main_arg6)) (m ((c : Thread nD τ).loc main_arg7)) := by
  unfold V joined
  after_results_simp <;> rfl

theorem V1 (c : Dev nD) : V m c main_v1 = truncf .bf16 (m ((c : Thread nD τ).loc main_arg2)) (by decide) := by
  unfold V
  after_results_simp <;> rfl
end V

open Cert.ReferenceIdeal Cert.ReferenceIdeal.Gen in
theorem res_dx {F : FTy → Type} [FloatOps F] (m : (ℓ : Loc nD τ sig) → Buf (Elt F) ℓ) (c : Dev nD) :
    Cert.ReferenceIdeal.Value.res_out0 m c = dxH (m ((c.tc : Thread nD τ).loc main_arg0)) (m ((c.tc : Thread nD τ).loc main_arg1))
      (Host.dotGeneral dot_S8192x9216_S2048x9216_S8192x2048_1_1_0_0_n_n none (added (m ((c.tc : Thread nD τ).loc main_arg3))
        (m ((c.tc : Thread nD τ).loc main_arg4)) (m ((c.tc : Thread nD τ).loc main_arg5)) (m ((c.tc : Thread nD τ).loc main_arg6))
        (m ((c.tc : Thread nD τ).loc main_arg7))) (m ((c.tc : Thread nD τ).loc main_arg2))) (m ((c.tc : Thread nD τ).loc main_arg8)) := rfl

open Cert.ReferenceIdeal Cert.ReferenceIdeal.Gen in
theorem dot_apply (a : FVec Ideal N9 .f32) (w : FVec Ideal W9 .f32) (R : Fin 8192) (b : Fin 2048) :
    (Host.dotGeneral dot_S8192x9216_S2048x9216_S8192x2048_1_1_0_0_n_n none a w : FVec Ideal H .f32) (ix2 R b)
      = ∑ q : Fin 9216, a (ix2 R q) * w (ix2 b q) := by
  pointwise

open Cert.ReferenceIdeal Cert.ReferenceIdeal.Gen in
/-- The product's gradient as the host lines compute it. -/
def dhH {F : FTy → Type} [FloatOps F] (p : FVec F N1 .bf16) (l e a b : FVec F H .bf16) (w : FVec F W9 .f32) : FVec F H .f32 :=
  Host.dotGeneral dot_S8192x9216_S2048x9216_S8192x2048_1_1_0_0_n_n none (added p l e a b) w

section Equal
open Cert.KernelIdeal Cert.KernelIdeal.Gen
variable (m : (ℓ : Loc nD τ sig) → Buf (Elt Ideal) ℓ)

/-- The host lines' product's gradient at the kernel's arguments. -/
abbrev dhK (c : Dev nD) : FVec Ideal H .f32 :=
  dhH (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg2))

theorem dh_eq (c : Dev nD) (R : Fin 8192) (b : Fin 2048) : dh m c R.val b.val = dhK m c (ix2 R b) := by
  refine Eq.trans ?_ (dot_apply _ _ R b).symm
  unfold dh term
  rw [← sum_first]
  refine Finset.sum_congr rfl fun q _ => ?_
  rw [at2_fin, at2_fin, V0, V1, added_apply]
  rfl

theorem dxAt_eq (c : Dev nD) (R : Fin 8192) (b : Fin 2048) : dxAt m c R.val b
    = dxH (m ((c : Thread nD τ).loc main_arg0)) (m ((c : Thread nD τ).loc main_arg1)) (dhK m c) (m ((c : Thread nD τ).loc main_arg8)) (ix2 R b) := by
  refine Eq.trans ?_ ((dxH_apply _ _ _ _ R b).trans (rowDxH_eq ..)).symm
  refine rowDx_congr (fun j => ?_) (fun j => ?_) (fun j => dh_eq m c R j) (fun j => ?_) b
  · rw [V_main_arg1]; exact at2_fin _ 0 j
  · unfold rowX; rw [V_main_arg0]; exact at2_fin _ R j
  · rw [V_main_arg8]; exact at2_fin _ R j

/-- The gradient with respect to the norm's input is the chain rule's. -/
theorem dx_eq (c : Dev nD) : (Value.G5 m c : Vec Ideal S8192x2048 .f32)
    = dxH (m ((c : Thread nD τ).loc main_arg0)) (m ((c : Thread nD τ).loc main_arg1)) (dhK m c) (m ((c : Thread nD τ).loc main_arg8)) := by
  funext y
  have ey : y = ix2 (y 0) (y 1) := by funext a; fin_cases a <;> rfl
  rw [ey]
  exact (dx_array m c (y 0) (y 1)).trans (dxAt_eq m c (y 0) (y 1))

/-- The gradient with respect to the scale is the chain rule's. -/
theorem dg_eq (c : Dev nD) : (Value.G7 m c : Vec Ideal S1x2048 .f32) = dgH (m ((c : Thread nD τ).loc main_arg0)) (dhK m c) := by
  funext y
  have ey : y = ix2 (0 : Fin 1) (y 1) := by
    funext a
    match a with
    | ⟨0, _⟩ => exact Subsingleton.elim (α := Fin 1) _ _
    | ⟨1, _⟩ => rfl
  rw [ey]
  refine (dg_array m c (y 1)).trans (Eq.trans ?_ (dgH_apply _ _ (y 1)).symm)
  show (∑ R ∈ Finset.range 8192, dgTerm m c (y 1) R : EReal) = _
  rw [← sum_first]
  refine Finset.sum_congr rfl fun R _ => rowDg_congr (fun j => ?_) (fun j => dh_eq m c R j) (y 1)
  unfold rowX; rw [V_main_arg0]; exact at2_fin _ R j

end Equal

section Ref
open Cert.ReferenceIdeal Cert.ReferenceIdeal.Gen
variable (m : (ℓ : Loc nD τ sig) → Buf (Elt Ideal) ℓ)

/-- The reference's results. -/
theorem run_ref (ρ : Dev nD → PrngReg) : θ_run defs (onTc (τ := τ) (main (F := Ideal))) ⟨m, fun _ => 0, ρ⟩ fun r => ∀ c : Dev nD,
    r.2.mem ((c.tc : Thread nD τ).loc main_v55) = dxH (F := Ideal) (m ((c.tc : Thread nD τ).loc main_arg0)) (m ((c.tc : Thread nD τ).loc main_arg1))
      (dhH (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg2)))
      (m ((c.tc : Thread nD τ).loc main_arg8))
    ∧ r.2.mem ((c.tc : Thread nD τ).loc main_v56) = dgH (F := Ideal) (m ((c.tc : Thread nD τ).loc main_arg0))
      (dhH (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg2)))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (res_dx m c), (h c).2.1, (h c).2.2⟩) (Value.run m ρ)

end Ref

end Cert.Dh1

end
-- ==== Proof.Dh1.Claims.lean ====
/- The claims about the gradient of the first norm. -/
module

public import proofs.«01_k».proof.Defs
public import proofs.«01_k».proof.Proof.Dh1.Reference

@[expose] public section

noncomputable section

namespace Cert.Dh1

open Idealize.ShloMosaic Idealize.SL.Sem

theorem frame_ref : Cert.quiescent_ReferenceIdeal := fun m ρ _ =>
  (θ_run Cert.ReferenceIdeal.defs _ _).mono
    (fun r h => ⟨fun c => (h c).2.2, Idealize.ShloMosaic.sem_eq_zero_of_no_sems (by decide) r.2⟩) (run_ref m ρ)

theorem algebraic : Cert.algebraic_KernelIdeal_ReferenceIdeal := by
  intro m g m' g' _ hagree
  refine ⟨fun c => Cert.KernelIdeal.Value.G5 m c, fun c => Cert.KernelIdeal.Value.G7 m c, ?_, ?_⟩
  · exact (θ_run Cert.KernelIdeal.defs _ _).mono (fun r h c => ⟨(h c).1, (h c).2.2⟩) (Cert.KernelIdeal.Value.run m g)
  · refine (θ_run Cert.ReferenceIdeal.defs _ _).mono (fun r h c => ?_) (run_ref m' g')
    obtain ⟨e0, e1, e2, e3, e4, e5, e6, e7, e8⟩ := hagree c
    refine ⟨(h c).1.trans ?_, (h c).2.1.trans ?_, (h c).2.2⟩
    · rw [e0, e1, e2, e3, e4, e5, e6, e7, e8]; exact (dx_eq m c).symm
    · rw [e0, e2, e3, e4, e5, e6, e7]; exact (dg_eq m c).symm

end Cert.Dh1

end
-- ==== Proof.Dh2.Points.lean ====
/- What one grid point of the gradient of the second norm leaves: the product's block is added to the carried sum, and at
   the last block of a row tile the norm's gradient is taken of that sum, eight rows at a time. -/
module

public import proofs.«01_k».proof.Proof.Gen.Kernel2Ideal.Frame
public import proofs.«01_k».proof.Proof.Norm.Row
public import Idealize.ShloMosaic.Lib.Pipeline.ReadBack

@[expose] public section

set_option maxRecDepth 16384

noncomputable section

namespace Cert.Dh2

open Cert.Kernel2Ideal Cert.Kernel2Ideal.Gen Cert.RowNorm
open Idealize.ShloMosaic Idealize.ShloMosaic.TcCoe Idealize.SL.Sem

variable {F : FTy → Type} [FloatOps F]
variable (m : (ℓ : Loc nD τ sig) → Buf (Elt F) ℓ)

/-- What the point before `t` left. -/
abbrev before (c : Dev nD) (t : Fin cfg0.N) :=
  outsAt0 m c (t.val - 1) (Nat.lt_of_le_of_lt (Nat.sub_le _ _) t.isLt)

/-- The carried sum after a point that is not a row tile's first. -/
abbrev accC (c : Dev nD) (t : Fin cfg0.N) : Vec F S512x2048 .f32 :=
  k0_pay3 (before m c t).2.2.2 (iblk m c 0 t) (iblk m c 1 t)

/-- Eight rows of the gradient with respect to the norm's input, from the carried sum `A`. -/
def rowsDx (c : Dev nD) (t : Fin cfg0.N) (A : Vec F S512x2048 .f32) (k : Fin 64) : FVec F C8 .f32 :=
  dx8 (iblk m c 3 t) (View.ld (iblk m c 2 t) (rowsUp k))
    (View.ld A (rowsUp k))
    (View.ld (iblk m c 4 t) (rowsUp k))

/-- Eight rows' addend to the scale's gradient, from the carried sum `A`. -/
def rowsDg (c : Dev nD) (t : Fin cfg0.N) (A : Vec F S512x2048 .f32) (k : Fin 64) : FVec F C8 .f32 :=
  dg8 (View.ld (iblk m c 2 t) (rowsAt k)) (View.ld A (rowsAt k))

/-- The store of the carried sum, as a run of the body finds it: every load still through its buffer. -/
abbrev accPiece (c : Dev nD) (t : Fin cfg0.N) : View.Piece (Elt F) C512 .f32 :=
  ⟨Rect.unit ![0, 0] S512x2048.size inb_S512x2048_S512x2048_0_0, k0_pay3
    (View.readAt (Elt F) scM0_0.view (Rect.unit ![0, 0] S512x2048.size inb_S512x2048_S512x2048_0_0).toLoadRect
      ((Memref.isWhole_whole cc0_scratch0).unread (before m c t).2.2.2))
    (View.readAt (Elt F) (ms0_0 t).view (Rect.unit ![0, 0, 0] S1x512x2048.size inb_S1x512x2048_S1x512x2048_0_0_0).toLoadRect
      ((hs0_0 t).unread (iblk m c 0 t)))
    (View.readAt (Elt F) (ms0_1 t).view (Rect.unit ![0, 0] S2048x2048.size inb_S2048x2048_S2048x2048_0_0).toLoadRect
      ((hs0_1 t).unread (iblk m c 1 t)))⟩

/-- Its payload is the carried sum. -/
theorem accPiece_snd (c : Dev nD) (t : Fin cfg0.N) : (accPiece m c t).2 = accC m c t := by
  show k0_pay3 _ _ _ = k0_pay3 _ _ _
  rw [readAt_unread, readAt_unread, readAt_unread, ld_zero, ld_zero3, ld_zero]

/-- Eight rows of the gradient as a run of the body finds them. -/
def rowsFound (c : Dev nD) (t : Fin cfg0.N) (k : Fin 64) : FVec F C8 .f32 :=
  dx8 (View.readAt (Elt F) (ms0_3 t).view (Rect.unit ![0, 0] S1x2048.size inb_S1x2048_S1x2048_0_0).toLoadRect ((hs0_3 t).unread (iblk m c 3 t)))
    (View.readAt (Elt F) (ms0_2 t).view (rowsUp k).toLoadRect ((hs0_2 t).unread (iblk m c 2 t)))
    (View.readCov (Val := Elt F) scM0_0.view [accPiece m c t] (rowsUp k).toLoadRect)
    (View.readAt (Elt F) (ms0_4 t).view (rowsUp k).toLoadRect ((hs0_4 t).unread (iblk m c 4 t)))

theorem readCov_accPiece (c : Dev nD) (t : Fin cfg0.N) (r : Rect C512) :
    View.readCov (Val := Elt F) scM0_0.view [accPiece m c t] r.toLoadRect = View.ld (accC m c t) r := by
  refine (View.readCov_fill _ _ _ _ r zero_off_apply).trans ?_
  exact congrArg (fun X => View.ld X r) (accPiece_snd m c t)

theorem rowsFound_eq (c : Dev nD) (t : Fin cfg0.N) (k : Fin 64) : rowsFound m c t k = rowsDx m c t (accC m c t) k := by
  unfold rowsFound rowsDx
  rw [readCov_accPiece, readAt_unread, readAt_unread, readAt_unread, ld_zero]
  rfl

/-- The points of a row tile's last block. -/
theorem outs_C (c : Dev nD) (t : Fin cfg0.N) (h0 : ¬t.val % 96 = 0) (h1 : ¬t.val % 6 = 0) (h2 : 1 ≤ t.val % 6) (h3 : t.val % 6 = 5) :
    outsAt0 m c t.val t.isLt =
      (View.canon (List.ofFn fun k : Fin 64 => (⟨rowsUp k, rowsDx m c t (accC m c t) k⟩ : View.Piece (Elt F) C512 .f32)),
       View.canon (List.ofFn fun k : Fin 64 => (⟨rowsUp k, truncf .bf16 (rowsDx m c t (accC m c t) k) (by decide)⟩ :
          View.Piece (Elt F) C512 .bf16)),
       addf (before m c t).2.2.1 (dgSum (rowsDg m c t (accC m c t))),
       accC m c t) := by
  rw [outsAt0_C m c t h0 h1 h2 h3]
  unfold out0_C_5 out0_C_6 out0_C_7 sout0_C_0
  simp only [View.read_writes_junk_eq_canon]
  generalize hr : kernelRun0_C (F := F) _ _ _ _ _ _ _ _ _ _ _ _ _ _ _ _ _ _ _ _ _ _ _ _ _ _ _ _ _ _ _ = r
  have e1 : r.1 = List.ofFn fun k : Fin 64 => (⟨rowsUp k, rowsDx m c t (accC m c t) k⟩ : View.Piece (Elt F) C512 .f32) := by
    simp only [← rowsFound_eq]
    subst hr; sl_kernel_rfl
  have e2 : r.2.1 = List.ofFn fun k : Fin 64 => (⟨rowsUp k, truncf .bf16 (rowsDx m c t (accC m c t) k) (by decide)⟩ :
      View.Piece (Elt F) C512 .bf16) := by
    simp only [← rowsFound_eq]
    subst hr; sl_kernel_rfl
  have e3 : r.2.2.1 = [⟨Rect.unit ![0, 0] S1x2048.size inb_S1x2048_S1x2048_0_0,
      addf (shapeCast S1x2048 (View.readAt (Elt F) (ms0_7 t).view (Rect.unit ![0, 0] S1x2048.size inb_S1x2048_S1x2048_0_0).toLoadRect
          ((hs0_7 t).unread (before m c t).2.2.1)) shapeCasts_S1x2048_S1x2048)
        (dgSum (rowsDg m c t (accC m c t)))⟩] := by
    have e : rowsDg m c t (accC m c t) = fun k : Fin 64 =>
        dg8 (View.readAt (Elt F) (ms0_2 t).view (rowsAt k).toLoadRect ((hs0_2 t).unread (iblk m c 2 t)))
          (View.readCov (Val := Elt F) scM0_0.view [accPiece m c t] (rowsAt k).toLoadRect) :=
      funext fun k => by unfold rowsDg; rw [readCov_accPiece, readAt_unread]; rfl
    rw [e]
    subst hr; sl_kernel_rfl
  have e4 : r.2.2.2.1 = [accPiece m c t] := by
    subst hr; sl_kernel_rfl
  clear hr
  obtain ⟨L5, L6, L7, LS, hL⟩ := r
  dsimp only at e1 e2 e3 e4 ⊢
  clear hL
  subst e1 e2 e3 e4
  refine congrArg (Prod.mk _) (congrArg (Prod.mk _) (congrArg₂ Prod.mk ?_ ?_))
  · refine (View.canon_unit_zero (S := S1x2048) zero_off _ _).trans ?_
    rw [readAt_unread, ld_zero]
    exact congrArg (fun X => addf X _) (shapeCast_self _ _)
  · exact (View.canon_unit_zero (S := C512) zero_off _ _).trans (accPiece_snd m c t)

theorem outs_C_dx (c : Dev nD) (t : Fin cfg0.N) (h3 : t.val % 6 = 5) : (outsAt0 m c t.val t.isLt).1
    = View.canon (List.ofFn fun k : Fin 64 => (⟨rowsUp k, rowsDx m c t (accC m c t) k⟩ : View.Piece (Elt F) C512 .f32)) := by
  rw [outs_C m c t (by omega) (by omega) (by omega) h3]

theorem outs_C_dxb (c : Dev nD) (t : Fin cfg0.N) (h3 : t.val % 6 = 5) : (outsAt0 m c t.val t.isLt).2.1
    = View.canon (List.ofFn fun k : Fin 64 => (⟨rowsUp k, truncf .bf16 (rowsDx m c t (accC m c t) k) (by decide)⟩ :
        View.Piece (Elt F) C512 .bf16)) := by
  rw [outs_C m c t (by omega) (by omega) (by omega) h3]

/-- The first point of all: the scale's gradient is cleared and the carried sum is the first block's product. -/
theorem outs_A (c : Dev nD) (t : Fin cfg0.N) (h0 : t.val % 96 = 0) (h1 : t.val % 6 = 0) (h2 : ¬1 ≤ t.val % 6) (h3 : ¬t.val % 6 = 5) :
    (outsAt0 m c t.val t.isLt).2.2 = (k0_pay1, k0_pay2 (iblk m c 0 t) (iblk m c 1 t)) := by
  rw [outsAt0_A m c t h0 h1 h2 h3]
  dsimp only
  unfold out0_A_7 sout0_A_0
  simp only [View.read_writes_junk_eq_canon]
  unfold kernelRun0_A
  dsimp only
  sl_unfold_words
  refine congrArg₂ Prod.mk ?_ ?_
  · exact View.canon_unit_zero (S := S1x2048) zero_off _ _
  · refine (View.canon_unit_zero (S := C512) zero_off _ _).trans ?_
    rw [readAt_unread, readAt_unread, ld_zero3, ld_zero]

/-- A row tile's middle points: the block's product is added to the carried sum. -/
theorem outs_B (c : Dev nD) (t : Fin cfg0.N) (h0 : ¬t.val % 96 = 0) (h1 : ¬t.val % 6 = 0) (h2 : 1 ≤ t.val % 6) (h3 : ¬t.val % 6 = 5) :
    (outsAt0 m c t.val t.isLt).2.2 = ((before m c t).2.2.1, accC m c t) := by
  rw [outsAt0_B m c t h0 h1 h2 h3]
  dsimp only
  unfold out0_B_7 sout0_B_0
  simp only [View.read_writes_junk_eq_canon]
  unfold kernelRun0_B
  dsimp only
  sl_unfold_words
  refine congrArg₂ Prod.mk rfl ?_
  exact (View.canon_unit_zero (S := C512) zero_off _ _).trans (accPiece_snd m c t)

/-- A later row tile's first point: the carried sum is the first block's product. -/
theorem outs_D (c : Dev nD) (t : Fin cfg0.N) (h0 : ¬t.val % 96 = 0) (h1 : t.val % 6 = 0) (h2 : ¬1 ≤ t.val % 6) (h3 : ¬t.val % 6 = 5) :
    (outsAt0 m c t.val t.isLt).2.2 = ((before m c t).2.2.1, k0_pay2 (iblk m c 0 t) (iblk m c 1 t)) := by
  rw [outsAt0_D m c t h0 h1 h2 h3]
  dsimp only
  unfold out0_D_7 sout0_D_0
  simp only [View.read_writes_junk_eq_canon]
  unfold kernelRun0_D
  dsimp only
  sl_unfold_words
  refine congrArg₂ Prod.mk rfl ?_
  refine (View.canon_unit_zero (S := C512) zero_off _ _).trans ?_
  rw [readAt_unread, readAt_unread, ld_zero3, ld_zero]

end Cert.Dh2

end
-- ==== Proof.Dh2.Value.lean ====
/- What the gradient of the second norm leaves after every point, as sums over rows and columns of its arguments. -/
module

public import proofs.«01_k».proof.Proof.Dh2.Points
public import proofs.«01_k».proof.Proof.Base.Sums
public import proofs.«01_k».proof.Proof.Gen.Kernel2Ideal.Value

@[expose] public section

set_option maxRecDepth 16384

noncomputable section

open scoped BigOperators

namespace Cert.Dh2

open Cert.Kernel2Ideal Cert.Kernel2Ideal.Gen Cert.RowNorm Cert.Sums
open Idealize.ShloMosaic Idealize.ShloMosaic.TcCoe Idealize.SL.Sem

variable (m : (ℓ : Loc nD τ sig) → Buf (Elt Ideal) ℓ)

theorem pay1_apply (b : Fin 2048) : (k0_pay1 : FVec Ideal S1x2048 .f32) (ix2 0 b) = 0 := by
  unfold k0_pay1
  pointwise

theorem pay2_apply (a : FVec Ideal S1x512x2048 .bf16) (w : FVec Ideal S2048x2048 .bf16) (r : Fin 512) (c : Fin 2048) :
    k0_pay2 (F := Ideal) a w (ix2 r c) = ∑ j : Fin 2048, a (ix3 0 r j) * w (ix2 c j) := by
  unfold k0_pay2
  pointwise

theorem pay3_apply (s : FVec Ideal S512x2048 .f32) (a : FVec Ideal S1x512x2048 .bf16) (w : FVec Ideal S2048x2048 .bf16) (r : Fin 512) (c : Fin 2048) :
    k0_pay3 (F := Ideal) s a w (ix2 r c) = s (ix2 r c) + ∑ j : Fin 2048, a (ix3 0 r j) * w (ix2 c j) := by
  unfold k0_pay3
  pointwise

/-! ## The windows' blocks -/

theorem at0 : ∀ t : Fin cfg0.N, win0_0.index t 0 = t.val % 6 / 3 ∧ win0_0.index t 1 = t.val / 6 ∧ win0_0.index t 2 = t.val % 6 % 3 := by decide
theorem at1 : ∀ t : Fin cfg0.N, win0_1.index t 0 = 0 ∧ win0_1.index t 1 = t.val % 6 := by decide
theorem at2' : ∀ t : Fin cfg0.N, win0_2.index t 0 = t.val / 6 ∧ win0_2.index t 1 = 0 := by decide
theorem at3 : ∀ t : Fin cfg0.N, win0_3.index t 0 = 0 ∧ win0_3.index t 1 = 0 := by decide
theorem at4 : ∀ t : Fin cfg0.N, win0_4.index t 0 = t.val / 6 ∧ win0_4.index t 1 = 0 := by decide

theorem lt_N (t : Fin cfg0.N) : t.val < 96 := t.isLt

/-- The product's two halves, side by side: row `R`, column `q`; 0 outside. -/
def halves (X : Vec Ideal S2x8192x6144 .bf16) (R q : ℕ) : EReal :=
  if h : R < 8192 ∧ q < 12288 then X (ix3 (⟨q / 6144, by omega⟩ : Fin 2) (⟨R, h.1⟩ : Fin 8192) (⟨q % 6144, by omega⟩ : Fin 6144)) else 0

/-- A block read at an index is the array read where the window's index map puts it. -/
theorem iblk0 (c : Dev nD) (t : Fin cfg0.N) (r : Fin 512) (j : Fin 2048) :
    (iblk m c 0 t : Vec Ideal S1x512x2048 .bf16) (ix3 0 r j)
      = halves (V m c main_arg3) (512 * (t.val / 6) + r.val) (2048 * (t.val % 6) + j.val) := by
  have ht := lt_N t
  rw [halves, dif_pos ⟨by omega, by omega⟩]
  unfold iblk
  rw [View.read_apply]
  show V m c main_arg3 _ = V m c main_arg3 _
  refine congrArg _ (funext fun a => Fin.ext ?_)
  match a with
  | ⟨0, _⟩ => show win0_0.index t 0 * 1 + 1 * 0 = (2048 * (t.val % 6) + j.val) / 6144; rw [(at0 t).1]; omega
  | ⟨1, _⟩ => show win0_0.index t 1 * 512 + 1 * r.val = 512 * (t.val / 6) + r.val; rw [(at0 t).2.1]; omega
  | ⟨2, _⟩ => show win0_0.index t 2 * 2048 + 1 * j.val = (2048 * (t.val % 6) + j.val) % 6144; rw [(at0 t).2.2]; omega

theorem iblk1 (c : Dev nD) (t : Fin cfg0.N) (b : Fin 2048) (j : Fin 2048) :
    (iblk m c 1 t : Vec Ideal S2048x2048 .bf16) (ix2 b j) = at2 (V m c main_v0) b.val (2048 * (t.val % 6) + j.val) := by
  rw [at2_of _ _ _ (by omega) (by omega)]
  unfold iblk
  rw [View.read_apply]
  show V m c main_v0 _ = V m c main_v0 _
  refine congrArg _ (funext fun a => Fin.ext ?_)
  match a with
  | ⟨0, _⟩ => show win0_1.index t 0 * 2048 + 1 * b.val = b.val; rw [(at1 t).1]; omega
  | ⟨1, _⟩ => show win0_1.index t 1 * 2048 + 1 * j.val = 2048 * (t.val % 6) + j.val; rw [(at1 t).2]; omega

theorem iblk2 (c : Dev nD) (t : Fin cfg0.N) (r : Fin 512) (j : Fin 2048) :
    (iblk m c 2 t : Vec Ideal S512x2048 .f32) (ix2 r j) = at2 (V m c main_arg0) (512 * (t.val / 6) + r.val) j.val := by
  have ht := lt_N t
  rw [at2_of _ _ _ (by omega) (by omega)]
  unfold iblk
  rw [View.read_apply]
  show V m c main_arg0 _ = V m c main_arg0 _
  refine congrArg _ (funext fun a => Fin.ext ?_)
  match a with
  | ⟨0, _⟩ => show win0_2.index t 0 * 512 + 1 * r.val = 512 * (t.val / 6) + r.val; rw [(at2' t).1]; omega
  | ⟨1, _⟩ => show win0_2.index t 1 * 2048 + 1 * j.val = j.val; rw [(at2' t).2]; omega

theorem iblk3 (c : Dev nD) (t : Fin cfg0.N) (j : Fin 2048) :
    (iblk m c 3 t : Vec Ideal S1x2048 .f32) (ix2 0 j) = at2 (V m c main_arg1) 0 j.val := by
  rw [at2_of _ _ _ (by omega) (by omega)]
  unfold iblk
  rw [View.read_apply]
  show V m c main_arg1 _ = V m c main_arg1 _
  refine congrArg _ (funext fun a => Fin.ext ?_)
  match a with
  | ⟨0, _⟩ => show win0_3.index t 0 * 1 + 1 * 0 = 0; rw [(at3 t).1]
  | ⟨1, _⟩ => show win0_3.index t 1 * 2048 + 1 * j.val = j.val; rw [(at3 t).2]; omega

theorem iblk4 (c : Dev nD) (t : Fin cfg0.N) (r : Fin 512) (j : Fin 2048) :
    (iblk m c 4 t : Vec Ideal S512x2048 .f32) (ix2 r j) = at2 (V m c main_arg4) (512 * (t.val / 6) + r.val) j.val := by
  have ht := lt_N t
  rw [at2_of _ _ _ (by omega) (by omega)]
  unfold iblk
  rw [View.read_apply]
  show V m c main_arg4 _ = V m c main_arg4 _
  refine congrArg _ (funext fun a => Fin.ext ?_)
  match a with
  | ⟨0, _⟩ => show win0_4.index t 0 * 512 + 1 * r.val = 512 * (t.val / 6) + r.val; rw [(at4 t).1]; omega
  | ⟨1, _⟩ => show win0_4.index t 1 * 2048 + 1 * j.val = j.val; rw [(at4 t).2]; omega

/-! ## The carried sum and the scale's gradient after every point -/

/-- One addend of the product's element in row `R` and column `b`. -/
def term (c : Dev nD) (R b q : ℕ) : EReal := halves (V m c main_arg3) R q * at2 (V m c main_v0) b q
/-- The product's element in row `R` and column `b`. -/
def dh (c : Dev nD) (R b : ℕ) : EReal := ∑ q ∈ Finset.range 12288, term m c R b q
/-- Row `R` of the norm's input. -/
def rowX (c : Dev nD) (R : ℕ) : Fin 2048 → EReal := fun j => at2 (V m c main_arg0) R j.val
/-- Row `R`'s addend to the scale's gradient. -/
def dgTerm (c : Dev nD) (b : Fin 2048) (R : ℕ) : EReal := rowDg (rowX m c R) (fun j => dh m c R j.val) b
/-- The gradient with respect to the norm's input. -/
def dxAt (c : Dev nD) (R : ℕ) (b : Fin 2048) : EReal :=
  rowDx (fun j => at2 (V m c main_arg1) 0 j.val) (rowX m c R) (fun j => dh m c R j.val) (fun j => at2 (V m c main_arg4) R j.val) b

theorem first_apply (c : Dev nD) (t : Fin cfg0.N) (h1 : t.val % 6 = 0) (r : Fin 512) (b : Fin 2048) :
    k0_pay2 (F := Ideal) (iblk m c 0 t) (iblk m c 1 t) (ix2 r b)
      = ∑ q ∈ Finset.range (2048 * (t.val % 6 + 1)), term m c (512 * (t.val / 6) + r.val) b.val q := by
  rw [pay2_apply]
  simp only [iblk0, iblk1, h1]
  rw [← sum_next 2048 0]
  simp [term]

theorem next_apply (c : Dev nD) (t : Fin cfg0.N) (h1 : ¬t.val % 6 = 0)
    (ih : ∀ (r : Fin 512) (b : Fin 2048), (before m c t).2.2.2 (ix2 r b)
      = ∑ q ∈ Finset.range (2048 * ((t.val - 1) % 6 + 1)), term m c (512 * ((t.val - 1) / 6) + r.val) b.val q)
    (r : Fin 512) (b : Fin 2048) :
    accC m c t (ix2 r b) = ∑ q ∈ Finset.range (2048 * (t.val % 6 + 1)), term m c (512 * (t.val / 6) + r.val) b.val q := by
  unfold accC
  rw [pay3_apply, ih]
  simp only [iblk0, iblk1]
  have e1 : (t.val - 1) % 6 + 1 = t.val % 6 := by omega
  have e2 : (t.val - 1) / 6 = t.val / 6 := by omega
  rw [e1, e2, ← sum_next 2048]
  rfl

theorem acc_full (c : Dev nD) (t : Fin cfg0.N) (A : Vec Ideal S512x2048 .f32) (h3 : t.val % 6 = 5)
    (hA : ∀ (r : Fin 512) (b : Fin 2048), A (ix2 r b)
      = ∑ q ∈ Finset.range (2048 * (t.val % 6 + 1)), term m c (512 * (t.val / 6) + r.val) b.val q) (r : Fin 512) (b : Fin 2048) :
    A (ix2 r b) = dh m c (512 * (t.val / 6) + r.val) b.val := by
  rw [hA, h3]; rfl

theorem rowsDx_apply (c : Dev nD) (t : Fin cfg0.N) (A : Vec Ideal S512x2048 .f32)
    (hA : ∀ (r : Fin 512) (b : Fin 2048), A (ix2 r b) = dh m c (512 * (t.val / 6) + r.val) b.val) (k : Fin 64) (a : Fin 8) (b : Fin 2048) :
    rowsDx m c t A k (ix2 a b) = dxAt m c (512 * (t.val / 6) + (8 * (63 - k.val) + a.val)) b :=
  (dx8_apply _ _ _ _ a b).trans (rowDx_congr (fun j => iblk3 m c t j) (fun j => (ld_rowsUp (iblk m c 2 t) k a j).trans (iblk2 m c t _ j))
    (fun j => (ld_rowsUp A k a j).trans (hA _ j)) (fun j => (ld_rowsUp (iblk m c 4 t) k a j).trans (iblk4 m c t _ j)) b)

theorem rowsDg_apply (c : Dev nD) (t : Fin cfg0.N) (A : Vec Ideal S512x2048 .f32)
    (hA : ∀ (r : Fin 512) (b : Fin 2048), A (ix2 r b) = dh m c (512 * (t.val / 6) + r.val) b.val) (k : Fin 64) (a : Fin 8) (b : Fin 2048) :
    rowsDg m c t A k (ix2 a b) = dgTerm m c b (512 * (t.val / 6) + (8 * k.val + a.val)) :=
  (dg8_apply _ _ a b).trans (rowDg_congr (fun j => (ld_rowsAt (iblk m c 2 t) k a j).trans (iblk2 m c t _ j))
    (fun j => (ld_rowsAt A k a j).trans (hA _ j)) b)

theorem dgSum_rows (c : Dev nD) (t : Fin cfg0.N) (A : Vec Ideal S512x2048 .f32)
    (hA : ∀ (r : Fin 512) (b : Fin 2048), A (ix2 r b) = dh m c (512 * (t.val / 6) + r.val) b.val) (b : Fin 2048) :
    dgSum (rowsDg m c t A) (ix2 0 b) = ∑ r : Fin 512, dgTerm m c b (512 * (t.val / 6) + r.val) := by
  rw [dgSum_apply, Finset.sum_comm]
  simp only [rowsDg_apply m c t A hA]
  rw [sum_runs 8 64 (fun q => dgTerm m c b (512 * (t.val / 6) + q))]
  exact (Fin.sum_univ_eq_sum_range _ 512).symm

/-- The carried sum and the scale's gradient after point `n`. -/
def Inv (c : Dev nD) (n : ℕ) (o : Vec Ideal S512x2048 .f32 × Vec Ideal S512x2048 .bf16 × Vec Ideal S1x2048 .f32 × Vec Ideal S512x2048 .f32) : Prop :=
  (∀ (r : Fin 512) (b : Fin 2048), o.2.2.2 (ix2 r b)
      = ∑ q ∈ Finset.range (2048 * (n % 6 + 1)), term m c (512 * (n / 6) + r.val) b.val q)
  ∧ ∀ b : Fin 2048, o.2.2.1 (ix2 0 b) = ∑ R ∈ Finset.range (512 * ((n + 1) / 6)), dgTerm m c b R

theorem inv_step (c : Dev nD) (t : Fin cfg0.N)
    (ih : ∀ (n : ℕ) (h : n < cfg0.N), n + 1 = t.val → Inv m c n (outsAt0 m c n h)) : Inv m c t.val (outsAt0 m c t.val t.isLt) := by
  have ht := lt_N t
  by_cases h1 : t.val % 6 = 0
  · by_cases h0 : t.val % 96 = 0
    · have e := outs_A m c t h0 h1 (by omega) (by omega)
      refine ⟨fun r b => ?_, fun b => ?_⟩
      · rw [e]; exact first_apply m c t h1 r b
      · rw [e, show (t.val + 1) / 6 = 0 by omega]
        simpa using pay1_apply b
    · have e := outs_D m c t h0 h1 (by omega) (by omega)
      have ih : Inv m c (t.val - 1) (before m c t) := ih (t.val - 1) (by omega) (by omega)
      refine ⟨fun r b => ?_, fun b => ?_⟩
      · rw [e]; exact first_apply m c t h1 r b
      · rw [e, show (t.val + 1) / 6 = (t.val - 1 + 1) / 6 by omega]
        exact ih.2 b
  · have ih : Inv m c (t.val - 1) (before m c t) := ih (t.val - 1) (by omega) (by omega)
    have hacc := next_apply m c t h1 ih.1
    by_cases h3 : t.val % 6 = 5
    · have e := outs_C m c t (by omega) h1 (by omega) h3
      refine ⟨fun r b => ?_, fun b => ?_⟩
      · rw [e]; exact hacc r b
      · rw [e]
        show (before m c t).2.2.1 (ix2 0 b) + dgSum (rowsDg m c t (accC m c t)) (ix2 0 b) = _
        rw [dgSum_rows m c t _ (acc_full m c t _ h3 hacc), ih.2 b,
          show (t.val - 1 + 1) / 6 = t.val / 6 by omega, show (t.val + 1) / 6 = t.val / 6 + 1 by omega]
        exact sum_next 512 _ _
    · have e := outs_B m c t (by omega) h1 (by omega) h3
      refine ⟨fun r b => ?_, fun b => ?_⟩
      · rw [e]; exact hacc r b
      · rw [e, show (t.val + 1) / 6 = (t.val - 1 + 1) / 6 by omega]
        exact ih.2 b

theorem inv_all (c : Dev nD) (n : ℕ) : ∀ h : n < cfg0.N, Inv m c n (outsAt0 m c n h) := by
  induction n with
  | zero => exact fun h => inv_step m c ⟨0, h⟩ fun n _ e => absurd e (Nat.succ_ne_zero n)
  | succ n ih =>
    intro h
    refine inv_step m c ⟨n + 1, h⟩ fun k hk e => ?_
    obtain rfl : k = n := Nat.succ.inj e
    exact ih hk

theorem acc_last (c : Dev nD) (t : Fin cfg0.N) (h3 : t.val % 6 = 5) (r : Fin 512) (b : Fin 2048) :
    accC m c t (ix2 r b) = dh m c (512 * (t.val / 6) + r.val) b.val :=
  acc_full m c t _ h3 (next_apply m c t (by omega) (inv_all m c (t.val - 1) _).1) r b

theorem rows_block (c : Dev nD) (t : Fin cfg0.N) (h3 : t.val % 6 = 5) :
    View.canon (List.ofFn fun k : Fin 64 => (⟨rowsUp k, rowsDx m c t (accC m c t) k⟩ : View.Piece (Elt Ideal) C512 .f32))
      = fun y : C512.Idx => dxAt m c (512 * (t.val / 6) + (y 0).val) (y 1) :=
  canon_rows (Val := Elt Ideal) (e := .f32) (rowsDx m c t (accC m c t)) _ fun k a b => rowsDx_apply m c t _ (acc_last m c t h3) k a b

/-- The gradient with respect to the norm's input at a row tile's last point. -/
theorem dx_block (c : Dev nD) (t : Fin cfg0.N) (h3 : t.val % 6 = 5) :
    (outsAt0 m c t.val t.isLt).1 = fun y : C512.Idx => dxAt m c (512 * (t.val / 6) + (y 0).val) (y 1) := by
  rw [outs_C_dx m c t h3, rows_block m c t h3]

/-- The same gradient rounded, which over the reals is the gradient. -/
theorem dxb_block (c : Dev nD) (t : Fin cfg0.N) (h3 : t.val % 6 = 5) :
    (outsAt0 m c t.val t.isLt).2.1 = fun y : C512.Idx => dxAt m c (512 * (t.val / 6) + (y 0).val) (y 1) := by
  rw [outs_C_dxb m c t h3]
  exact canon_rows (Val := Elt Ideal) (e := .bf16) (fun k => truncf (F := Ideal) .bf16 (rowsDx m c t (accC m c t) k) (by decide)) _
    fun k a b => rowsDx_apply m c t _ (acc_last m c t h3) k a b

/-! ## The arrays after the run -/

theorem dx_array (c : Dev nD) (R : Fin 8192) (b : Fin 2048) : (Value.G5 m c : Vec Ideal S8192x2048 .f32) (ix2 R b) = dxAt m c R.val b := by
  have e : Value.pt5Of (ix2 R b) = 6 * (R.val / 512) + 5 := by
    show 6 * (1 * (R.val / 512 - 0) + 1 * (b.val / 2048 - 0)) + 5 = _
    omega
  have hN : Value.pt5Of (ix2 R b) < cfg0.N := by rw [e, show cfg0.N = 96 from N_0]; omega
  have el : Value.loc5Of (ix2 R b) = ix2 (⟨R.val % 512, Nat.mod_lt _ (by decide)⟩ : Fin 512) b := by
    funext a
    match a with
    | ⟨0, _⟩ => rfl
    | ⟨1, _⟩ => exact Fin.ext (Nat.mod_eq_of_lt b.isLt)
  unfold Value.G5
  rw [dif_pos hN, ← Value.outsAt0_sweep m c _ hN, el]
  refine (congrFun (dx_block m c ⟨_, hN⟩ (by show Value.pt5Of (ix2 R b) % 6 = 5; omega)) (ix2 (⟨R.val % 512, Nat.mod_lt _ (by decide)⟩ : Fin 512) b)).trans ?_
  show dxAt m c (512 * (Value.pt5Of (ix2 R b) / 6) + R.val % 512) b = _
  rw [show 512 * (Value.pt5Of (ix2 R b) / 6) + R.val % 512 = R.val by omega]

theorem dxb_array (c : Dev nD) (R : Fin 8192) (b : Fin 2048) : (Value.G6 m c : Vec Ideal S8192x2048 .bf16) (ix2 R b) = dxAt m c R.val b := by
  have e : Value.pt6Of (ix2 R b) = 6 * (R.val / 512) + 5 := by
    show 6 * (1 * (R.val / 512 - 0) + 1 * (b.val / 2048 - 0)) + 5 = _
    omega
  have hN : Value.pt6Of (ix2 R b) < cfg0.N := by rw [e, show cfg0.N = 96 from N_0]; omega
  have el : Value.loc6Of (ix2 R b) = ix2 (⟨R.val % 512, Nat.mod_lt _ (by decide)⟩ : Fin 512) b := by
    funext a
    match a with
    | ⟨0, _⟩ => rfl
    | ⟨1, _⟩ => exact Fin.ext (Nat.mod_eq_of_lt b.isLt)
  unfold Value.G6
  rw [dif_pos hN, ← Value.outsAt0_sweep m c _ hN, el]
  refine (congrFun (dxb_block m c ⟨_, hN⟩ (by show Value.pt6Of (ix2 R b) % 6 = 5; omega)) (ix2 (⟨R.val % 512, Nat.mod_lt _ (by decide)⟩ : Fin 512) b)).trans ?_
  show dxAt m c (512 * (Value.pt6Of (ix2 R b) / 6) + R.val % 512) b = _
  rw [show 512 * (Value.pt6Of (ix2 R b) / 6) + R.val % 512 = R.val by omega]

theorem dg_array (c : Dev nD) (b : Fin 2048) : (Value.G7 m c : Vec Ideal S1x2048 .f32) (ix2 0 b) = ∑ R ∈ Finset.range 8192, dgTerm m c b R := by
  rw [Value.G7_last, ← Value.outsAt0_sweep m c 95 (lt_of_lt_of_eq (by decide) N_0.symm)]
  exact (inv_all m c 95 _).2 b

end Cert.Dh2

end
-- ==== Proof.Dh2.Reference.lean ====
/- The gradient of the second norm: the chain rule's host lines give the same sums over rows and columns. -/
module

public import proofs.«01_k».proof.Proof.Dh2.Value
public import proofs.«01_k».proof.Proof.Norm.Equal
public import proofs.«01_k».proof.Proof.Gen.Reference2Ideal.Run

@[expose] public section

set_option maxRecDepth 16384

noncomputable section

open scoped BigOperators

namespace Cert.Dh2

open Cert.RowNorm Cert.Sums
open Idealize.ShloMosaic Idealize.ShloMosaic.TcCoe Idealize.SL.Sem

abbrev N2 : Shape := ⟨3, ![2, 8192, 6144]⟩
abbrev N1 : Shape := ⟨3, ![1, 8192, 6144]⟩
abbrev N6 : Shape := ⟨2, ![8192, 6144]⟩
abbrev N12 : Shape := ⟨2, ![8192, 12288]⟩
abbrev W12 : Shape := ⟨2, ![2048, 12288]⟩

/-- The two halves of the product's gradient, each widened with zeros and added up. -/
def added {F : FTy → Type} [FloatOps F] (u : FVec F N2 .bf16) : FVec F N12 .f32 :=
  addf
    (pad N12 ![0, 6144] ![0, 0] ![0, 0] (extf .f32 (shapeCast N6 (extractStridedSlice N1 ![1, 0, 0] u (by decide)) (by decide)) (by decide))
      zeroH (by decide) (by decide))
    (pad N12 ![0, 0] ![0, 6144] ![0, 0] (extf .f32 (shapeCast N6 (extractStridedSlice N1 ![0, 0, 0] u (by decide)) (by decide)) (by decide))
      zeroH (by decide) (by decide))

theorem added_apply (u : FVec Ideal N2 .bf16) (R : Fin 8192) (q : Fin 12288) : added u (ix2 R q) = halves u R.val q.val := by
  rw [halves, dif_pos ⟨R.isLt, q.isLt⟩]
  unfold added zeroH
  pointwise
  have hq := q.isLt
  rcases Nat.lt_or_ge q.val 6144 with h1 | h1
  · simp (disch := omega) only [dif_pos, dif_neg, zero_add, add_zero]
    refine congrArg u (congrArg₂ (fun a b => ix3 a R b) (Fin.ext ?_) (Fin.ext ?_))
    · show 0 = q.val / 6144; omega
    · dsimp only; omega
  · simp (disch := omega) only [dif_pos, dif_neg, zero_add, add_zero]
    refine congrArg u (congrArg₂ (fun a b => ix3 a R b) (Fin.ext ?_) (Fin.ext ?_))
    · show 1 = q.val / 6144; omega
    · dsimp only; omega

section V
open Cert.Kernel2Ideal Cert.Kernel2Ideal.Gen
variable {F : FTy → Type} [FloatOps F]
variable (m : (ℓ : Loc nD τ sig) → Buf (Elt F) ℓ)

theorem V0 (c : Dev nD) : V m c main_v0 = truncf .bf16 (m ((c : Thread nD τ).loc main_arg2)) (by decide) := by
  unfold V
  after_results_simp <;> rfl
end V

section Lines
open Cert.Reference2Ideal Cert.Reference2Ideal.Gen

/-- The gradient that enters the norm, as the host lines compute it. -/
def dhH {F : FTy → Type} [FloatOps F] (u : FVec F N2 .bf16) (w : FVec F W12 .f32) : FVec F H .f32 :=
  Host.dotGeneral dot_S8192x12288_S2048x12288_S8192x2048_1_1_0_0_n_n none (added u) w

theorem dhH_apply (u : FVec Ideal N2 .bf16) (w : FVec Ideal W12 .f32) (R : Fin 8192) (b : Fin 2048) :
    dhH u w (ix2 R b) = ∑ q : Fin 12288, halves u R.val q.val * w (ix2 b q) := by
  unfold dhH
  pointwise [added_apply]

theorem res_dx {F : FTy → Type} [FloatOps F] (m : (ℓ : Loc nD τ sig) → Buf (Elt F) ℓ) (c : Dev nD) :
    Cert.Reference2Ideal.Value.res_main_v50 m c = dxH (m ((c.tc : Thread nD τ).loc main_arg0)) (m ((c.tc : Thread nD τ).loc main_arg1))
      (dhH (m ((c.tc : Thread nD τ).loc main_arg3)) (m ((c.tc : Thread nD τ).loc main_arg2))) (m ((c.tc : Thread nD τ).loc main_arg4)) := rfl

theorem res_dxb {F : FTy → Type} [FloatOps F] (m : (ℓ : Loc nD τ sig) → Buf (Elt F) ℓ) (c : Dev nD) :
    Cert.Reference2Ideal.Value.res_main_v51 m c = truncf .bf16 (Cert.Reference2Ideal.Value.res_main_v50 m c) (by decide) := rfl

end Lines

section Equal
open Cert.Kernel2Ideal Cert.Kernel2Ideal.Gen
variable (m : (ℓ : Loc nD τ sig) → Buf (Elt Ideal) ℓ)

/-- The host lines' gradient that enters the norm, at the kernel's arguments. -/
abbrev dhK (c : Dev nD) : FVec Ideal H .f32 := dhH (m ((c : Thread nD τ).loc main_arg3)) (m ((c : Thread nD τ).loc main_arg2))

theorem dh_eq (c : Dev nD) (R : Fin 8192) (b : Fin 2048) : dh m c R.val b.val = dhK m c (ix2 R b) := by
  refine Eq.trans ?_ (dhH_apply _ _ R b).symm
  unfold dh term
  rw [← sum_first]
  refine Finset.sum_congr rfl fun q _ => ?_
  rw [at2_fin, V0, V_main_arg3]
  rfl

theorem dxAt_eq (c : Dev nD) (R : Fin 8192) (b : Fin 2048) : dxAt m c R.val b
    = dxH (m ((c : Thread nD τ).loc main_arg0)) (m ((c : Thread nD τ).loc main_arg1)) (dhK m c) (m ((c : Thread nD τ).loc main_arg4)) (ix2 R b) := by
  refine Eq.trans ?_ ((dxH_apply _ _ _ _ R b).trans (rowDxH_eq ..)).symm
  refine rowDx_congr (fun j => ?_) (fun j => ?_) (fun j => dh_eq m c R j) (fun j => ?_) b
  · rw [V_main_arg1]; exact at2_fin _ 0 j
  · unfold rowX; rw [V_main_arg0]; exact at2_fin _ R j
  · rw [V_main_arg4]; exact at2_fin _ R j

/-- The gradient with respect to the norm's input is the chain rule's. -/
theorem dx_eq (c : Dev nD) : (Value.G5 m c : Vec Ideal S8192x2048 .f32)
    = dxH (m ((c : Thread nD τ).loc main_arg0)) (m ((c : Thread nD τ).loc main_arg1)) (dhK m c) (m ((c : Thread nD τ).loc main_arg4)) := by
  funext y
  have ey : y = ix2 (y 0) (y 1) := by funext a; fin_cases a <;> rfl
  rw [ey]
  exact (dx_array m c (y 0) (y 1)).trans (dxAt_eq m c (y 0) (y 1))

theorem dxb_eq (c : Dev nD) : (Value.G6 m c : Vec Ideal S8192x2048 .bf16)
    = dxH (m ((c : Thread nD τ).loc main_arg0)) (m ((c : Thread nD τ).loc main_arg1)) (dhK m c) (m ((c : Thread nD τ).loc main_arg4)) := by
  funext y
  have ey : y = ix2 (y 0) (y 1) := by funext a; fin_cases a <;> rfl
  rw [ey]
  exact (dxb_array m c (y 0) (y 1)).trans (dxAt_eq m c (y 0) (y 1))

/-- The gradient with respect to the scale is the chain rule's. -/
theorem dg_eq (c : Dev nD) : (Value.G7 m c : Vec Ideal S1x2048 .f32) = dgH (m ((c : Thread nD τ).loc main_arg0)) (dhK m c) := by
  funext y
  have ey : y = ix2 (0 : Fin 1) (y 1) := by
    funext a
    match a with
    | ⟨0, _⟩ => exact Subsingleton.elim (α := Fin 1) _ _
    | ⟨1, _⟩ => rfl
  rw [ey]
  refine (dg_array m c (y 1)).trans (Eq.trans ?_ (dgH_apply _ _ (y 1)).symm)
  show (∑ R ∈ Finset.range 8192, dgTerm m c (y 1) R : EReal) = _
  rw [← sum_first]
  refine Finset.sum_congr rfl fun R _ => rowDg_congr (fun j => ?_) (fun j => dh_eq m c R j) (y 1)
  unfold rowX; rw [V_main_arg0]; exact at2_fin _ R j

end Equal

section Ref
open Cert.Reference2Ideal Cert.Reference2Ideal.Gen
variable (m : (ℓ : Loc nD τ sig) → Buf (Elt Ideal) ℓ)

/-- The reference's results. -/
theorem run_ref (ρ : Dev nD → PrngReg) : θ_run defs (onTc (τ := τ) (main (F := Ideal))) ⟨m, fun _ => 0, ρ⟩ fun r => ∀ c : Dev nD,
    r.2.mem ((c.tc : Thread nD τ).loc main_v50) = dxH (F := Ideal) (m ((c.tc : Thread nD τ).loc main_arg0)) (m ((c.tc : Thread nD τ).loc main_arg1))
      (dhH (m ((c.tc : Thread nD τ).loc main_arg3)) (m ((c.tc : Thread nD τ).loc main_arg2))) (m ((c.tc : Thread nD τ).loc main_arg4))
    ∧ r.2.mem ((c.tc : Thread nD τ).loc main_v51) = dxH (F := Ideal) (m ((c.tc : Thread nD τ).loc main_arg0)) (m ((c.tc : Thread nD τ).loc main_arg1))
      (dhH (m ((c.tc : Thread nD τ).loc main_arg3)) (m ((c.tc : Thread nD τ).loc main_arg2))) (m ((c.tc : Thread nD τ).loc main_arg4))
    ∧ r.2.mem ((c.tc : Thread nD τ).loc main_v52) = dgH (F := Ideal) (m ((c.tc : Thread nD τ).loc main_arg0))
      (dhH (m ((c.tc : Thread nD τ).loc main_arg3)) (m ((c.tc : Thread nD τ).loc main_arg2)))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1.trans (res_dx m c), (h c).2.1.trans ((res_dxb m c).trans (res_dx m c)),
    (h c).2.2.1, (h c).2.2.2⟩) (Value.run m ρ)

end Ref

end Cert.Dh2

end
-- ==== Proof.Dh2.Claims.lean ====
/- The claims about the gradient of the second norm. -/
module

public import proofs.«01_k».proof.Defs
public import proofs.«01_k».proof.Proof.Dh2.Reference

@[expose] public section

noncomputable section

namespace Cert.Dh2

open Idealize.ShloMosaic Idealize.SL.Sem

theorem frame_ref : Cert.quiescent_Reference2Ideal := fun m ρ _ =>
  (θ_run Cert.Reference2Ideal.defs _ _).mono
    (fun r h => ⟨fun c => (h c).2.2.2, Idealize.ShloMosaic.sem_eq_zero_of_no_sems (by decide) r.2⟩) (run_ref m ρ)

theorem algebraic : Cert.algebraic_Kernel2Ideal_Reference2Ideal := by
  intro m g m' g' _ hagree
  refine ⟨fun c => Cert.Kernel2Ideal.Value.G5 m c, fun c => Cert.Kernel2Ideal.Value.G6 m c, fun c => Cert.Kernel2Ideal.Value.G7 m c, ?_, ?_⟩
  · exact Cert.Kernel2Ideal.Value.run m g
  · refine (θ_run Cert.Reference2Ideal.defs _ _).mono (fun r h c => ?_) (run_ref m' g')
    obtain ⟨e0, e1, e2, e3, e4⟩ := hagree c
    refine ⟨(h c).1.trans ?_, (h c).2.1.trans ?_, (h c).2.2.1.trans ?_, (h c).2.2.2⟩
    · rw [e0, e1, e2, e3, e4]; exact (dx_eq m c).symm
    · rw [e0, e1, e2, e3, e4]; exact (dxb_eq m c).symm
    · rw [e0, e2, e3]; exact (dg_eq m c).symm

end Cert.Dh2

end
-- ==== Proof.Norm.Loss.lean ====
/- The squared-error loss behind the root-mean-square norm and its gradient: the body's eight-row step and the host lines,
   read at an index over the extended reals, and that both say the same. -/
module

public import proofs.«01_k».proof.Proof.Norm.Equal

@[expose] public section

noncomputable section

open scoped BigOperators

namespace Cert.RowNorm

open Idealize.ShloMosaic

/-! ## The body on eight rows -/

section Chunk
variable {F : FTy → Type} [FloatOps F]

/-- The scaled unit rows minus the target. -/
def err8 (g : FVec F C1 .f32) (x t : FVec F C8 .f32) : FVec F C8 .f32 :=
  subf (mulf (mulf x (broadcastTo C8 (rinv8 x) (by decide))) (broadcastTo C8 g (by decide))) t

/-- The rows' squared errors. -/
def sq8 (g : FVec F C1 .f32) (x t : FVec F C8 .f32) : FVec F C8x1 .f32 :=
  shapeCast C8x1 (multiReduction .add [1] ⟨1, ![8]⟩ (mulf (err8 g x t) (err8 g x t)) 0x00000000#32 (by decide) (.inl rfl) rfl) (by decide)

/-- The loss's gradient with respect to the scaled unit rows. -/
def dy8 (g : FVec F C1 .f32) (x t : FVec F C8 .f32) : FVec F C8 .f32 :=
  mulf (err8 g x t) (broadcast C8 (Scalar.ofBits .f32 0x3A000000#32))

/-- The loss's gradient with respect to the rows. -/
def lossDx8 (g : FVec F C1 .f32) (x t : FVec F C8 .f32) : FVec F C8 .f32 :=
  subf (mulf (broadcastTo C8 (rinv8 x) (by decide)) (mulf (dy8 g x t) (broadcastTo C8 g (by decide))))
    (mulf x (broadcastTo C8 (mulf (mulf (mulf (rinv8 x) (rinv8 x)) (rinv8 x))
      (mean8 (mulf x (mulf (dy8 g x t) (broadcastTo C8 g (by decide)))))) (by decide)))

/-- The rows' addend to the scale's gradient. -/
def lossDg8 (g : FVec F C1 .f32) (x t : FVec F C8 .f32) : FVec F C8 .f32 :=
  mulf (dy8 g x t) (mulf x (broadcastTo C8 (rinv8 x) (by decide)))

/-- All the steps' squared errors added up in turn, then over the eight rows, times the loss's factor, in every place. -/
def lossSum {n : ℕ} (D : Fin n → FVec F C8x1 .f32) : FVec F ⟨2, ![8, 128]⟩ .f32 :=
  broadcast ⟨2, ![8, 128]⟩ (Scalar.mulf (Scalar.ofBits .f32 0x39800000#32) (extractAt ![0, 0, 0]
    (shapeCast ⟨3, ![1, 1, 1]⟩ (multiReduction .add [1, 2] ⟨1, ![1]⟩ (shapeCast ⟨3, ![1, 8, 1]⟩
      ((List.ofFn D).foldl addf (broadcast C8x1 (Scalar.ofBits .f32 0x00000000#32))) (by decide)) 0x00000000#32 (by decide) (.inl rfl) rfl)
      (by decide)) (by decide)))

end Chunk

/-! ## The same at an index -/

/-- A row's error. -/
def rowErr (g x t : Fin 2048 → EReal) (b : Fin 2048) : EReal := x b * rinv x * g b - t b
/-- A row's squared error. -/
def rowSq (g x t : Fin 2048 → EReal) : EReal := ∑ j, rowErr g x t j * rowErr g x t j
/-- The loss's gradient with respect to the scaled unit row. -/
def rowDy (g x t : Fin 2048 → EReal) (b : Fin 2048) : EReal := rowErr g x t b * Ideal.ofBits .f32 0x3A000000#32
/-- The loss's gradient with respect to the row. -/
def rowLossDx (g x t : Fin 2048 → EReal) (b : Fin 2048) : EReal := rowDx g x (rowDy g x t) 0 b
/-- A row's addend to the scale's gradient. -/
def rowLossDg (g x t : Fin 2048 → EReal) (b : Fin 2048) : EReal := rowDg x (rowDy g x t) b

theorem rowSq_congr {g g' x x' t t' : Fin 2048 → EReal} (hg : ∀ j, g j = g' j) (hx : ∀ j, x j = x' j) (ht : ∀ j, t j = t' j) :
    rowSq g x t = rowSq g' x' t' := by rw [funext hg, funext hx, funext ht]

theorem rowLossDx_congr {g g' x x' t t' : Fin 2048 → EReal} (hg : ∀ j, g j = g' j) (hx : ∀ j, x j = x' j) (ht : ∀ j, t j = t' j)
    (b : Fin 2048) : rowLossDx g x t b = rowLossDx g' x' t' b := by rw [funext hg, funext hx, funext ht]

theorem rowLossDg_congr {g g' x x' t t' : Fin 2048 → EReal} (hg : ∀ j, g j = g' j) (hx : ∀ j, x j = x' j) (ht : ∀ j, t j = t' j)
    (b : Fin 2048) : rowLossDg g x t b = rowLossDg g' x' t' b := by rw [funext hg, funext hx, funext ht]

section Rows
variable (g : FVec Ideal C1 .f32) (x t : FVec Ideal C8 .f32) (a : Fin 8)

theorem err8_apply (b : Fin 2048) :
    err8 g x t (ix2 a b) = rowErr (fun j => g (ix2 0 j)) (fun j => x (ix2 a j)) (fun j => t (ix2 a j)) b := by
  unfold err8 rowErr
  pointwise [rinv8_apply]

theorem sq8_apply (b : Fin 1) :
    sq8 g x t (ix2 a b) = rowSq (fun j => g (ix2 0 j)) (fun j => x (ix2 a j)) fun j => t (ix2 a j) := by
  unfold sq8 rowSq
  pointwise [err8_apply]

theorem dy8_apply (b : Fin 2048) :
    dy8 g x t (ix2 a b) = rowDy (fun j => g (ix2 0 j)) (fun j => x (ix2 a j)) (fun j => t (ix2 a j)) b := by
  unfold dy8 rowDy
  pointwise [err8_apply]

theorem lossDx8_apply (b : Fin 2048) :
    lossDx8 g x t (ix2 a b) = rowLossDx (fun j => g (ix2 0 j)) (fun j => x (ix2 a j)) (fun j => t (ix2 a j)) b := by
  unfold lossDx8 rowLossDx rowDx
  rw [Pi.zero_apply, zero_add]
  pointwise [mean8_apply, rinv8_apply, dy8_apply]

theorem lossDg8_apply (b : Fin 2048) :
    lossDg8 g x t (ix2 a b) = rowLossDg (fun j => g (ix2 0 j)) (fun j => x (ix2 a j)) (fun j => t (ix2 a j)) b := by
  unfold lossDg8 rowLossDg rowDg
  pointwise [rinv8_apply, dy8_apply]

end Rows

theorem foldl_addf_apply1 (l : List (FVec Ideal C8x1 .f32)) (z : FVec Ideal C8x1 .f32) (i : C8x1.Idx) :
    l.foldl addf z i = z i + (l.map fun d => d i).sum := by
  induction l generalizing z with
  | nil => simp
  | cons d l ih => rw [List.foldl_cons, ih, List.map_cons, List.sum_cons, ← add_assoc]; rfl

theorem lossSum_apply {n : ℕ} (D : Fin n → FVec Ideal C8x1 .f32) (a : Fin 8) (b : Fin 128) :
    lossSum D (ix2 a b) = Ideal.ofBits .f32 0x39800000#32 * ∑ r : Fin 8, ∑ k : Fin n, D k (ix2 r 0) := by
  unfold lossSum
  pointwise [foldl_addf_apply1]
  simp only [List.map_ofFn, List.sum_ofFn, Function.comp_apply, Fin.sum_univ_one]

/-! ## The host lines -/

section Lines
variable {F : FTy → Type} [FloatOps F]

/-- The scaled unit rows minus the target. -/
def errH (x : FVec F H .f32) (g : FVec F C1 .f32) (t : FVec F H .f32) : FVec F H .f32 := subf (mulf (unitH x) (scaleH g)) t

/-- The loss, in every place. -/
def lossH (x : FVec F H .f32) (g : FVec F C1 .f32) (t : FVec F H .f32) : FVec F ⟨2, ![8, 128]⟩ .f32 :=
  broadcastInDim ⟨2, ![8, 128]⟩ ![] (by decide) (mulf (constant H0 .f32 0x3F000000#32) (Host.reduceAdd (t := H0) (axes := [0])
    (Host.divf (Host.reduceAdd (t := HR) (axes := [1]) (mulf (errH x g t) (errH x g t)) zeroH (by decide) (by decide))
      (broadcastInDim HR ![] (by decide) (constant H0 .f32 0x45000000#32))) zeroH (by decide) (by decide)))

/-- The loss's gradient with respect to the scaled unit rows. -/
def dyH (x : FVec F H .f32) (g : FVec F C1 .f32) (t : FVec F H .f32) : FVec F H .f32 :=
  mulf (broadcastInDim H ![0] (by decide) (Host.divf (broadcastInDim HR ![] (by decide)
      (mulf (constant H0 .f32 0x3F000000#32) (constant H0 .f32 0x3F800000#32)))
      (broadcastInDim HR ![] (by decide) (constant H0 .f32 0x45000000#32))))
    (mulf (broadcastInDim H ![] (by decide) (constant H0 .f32 0x40000000#32)) (errH x g t))

/-- The loss's gradient with respect to the norm's input. -/
def lossDxH (x : FVec F H .f32) (g : FVec F C1 .f32) (t : FVec F H .f32) : FVec F H .f32 :=
  addf (addf (mulf (mulf (dyH x g t) (scaleH g)) (broadcastInDim H ![0, 1] (by decide) (Host.rsqrt (msqH x))))
    (mulf x (throughH x (dyH x g t) (scaleH g)))) (mulf (throughH x (dyH x g t) (scaleH g)) x)

end Lines

theorem errH_apply (x : FVec Ideal H .f32) (g : FVec Ideal C1 .f32) (t : FVec Ideal H .f32) (R : Fin 8192) (b : Fin 2048) :
    errH x g t (ix2 R b) = rowErr (fun j => g (ix2 0 j)) (fun j => x (ix2 R j)) (fun j => t (ix2 R j)) b := by
  unfold errH rowErr
  pointwise [unitH_apply, scaleH_apply]

theorem factor_eq : Ideal.ofBits .f32 0x39800000#32 = ((1 / 4096 : ℝ) : EReal) := by
  simp [Ideal.ofBits, Ideal.ieee, -EReal.coe_mul]; norm_num
theorem inv_len_eq : Ideal.ofBits .f32 0x3A000000#32 = ((1 / 2048 : ℝ) : EReal) := by
  simp [Ideal.ofBits, Ideal.ieee, -EReal.coe_mul]; norm_num
theorem pos_half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num

theorem rowSq_nonneg (g x t : Fin 2048 → EReal) : 0 ≤ rowSq g x t := Finset.sum_nonneg fun j _ => sq_nonneg' _

theorem sum_mul_of_nonneg {ι : Type} (s : Finset ι) (f : ι → EReal) (hf : ∀ i, 0 ≤ f i) (k : EReal) :
    ∑ i ∈ s, f i * k = (∑ i ∈ s, f i) * k := by
  classical
  induction s using Finset.induction_on with
  | empty => simp
  | insert i s hi ih =>
    rw [Finset.sum_insert hi, Finset.sum_insert hi, ih, EReal.right_distrib_of_nonneg (hf i) (Finset.sum_nonneg fun j _ => hf j)]

/-- The chain rule's gradient at the scaled unit rows is the error over the row length. -/
theorem dyH_apply (x : FVec Ideal H .f32) (g : FVec Ideal C1 .f32) (t : FVec Ideal H .f32) (R : Fin 8192) (b : Fin 2048) :
    dyH x g t (ix2 R b) = rowDy (fun j => g (ix2 0 j)) (fun j => x (ix2 R j)) (fun j => t (ix2 R j)) b := by
  unfold dyH rowDy
  pointwise [errH_apply]
  rw [div_len, pos_half_eq, two_eq, inv_len_eq, ← mul_assoc, mul_comm]
  refine congrArg _ ?_
  norm_cast
  norm_num

theorem lossH_apply (x : FVec Ideal H .f32) (g : FVec Ideal C1 .f32) (t : FVec Ideal H .f32) (a : Fin 8) (b : Fin 128) :
    lossH x g t (ix2 a b) = Ideal.ofBits .f32 0x39800000#32
      * ∑ R : Fin 8192, rowSq (fun j => g (ix2 0 j)) (fun j => x (ix2 R j)) fun j => t (ix2 R j) := by
  unfold lossH zeroH
  pointwise [errH_apply]
  show Ideal.ofBits .f32 0x3F000000#32 * ∑ R : Fin 8192, Ideal.div (rowSq (fun j => g (ix2 0 j)) (fun j => x (ix2 R j)) fun j => t (ix2 R j)) len = _
  simp only [div_len]
  rw [sum_mul_of_nonneg _ _ fun R => rowSq_nonneg _ _ _, pos_half_eq, factor_eq, mul_comm _ ((1 / 2048 : ℝ) : EReal), ← mul_assoc]
  refine congrArg (· * _) ?_
  norm_cast
  norm_num

theorem lossDxH_apply (x : FVec Ideal H .f32) (g : FVec Ideal C1 .f32) (t : FVec Ideal H .f32) (R : Fin 8192) (b : Fin 2048) :
    lossDxH x g t (ix2 R b) = rowLossDx (fun j => g (ix2 0 j)) (fun j => x (ix2 R j)) (fun j => t (ix2 R j)) b := by
  refine Eq.trans ?_ (rowDxH_eq ..)
  unfold lossDxH rowDxH
  rw [Pi.zero_apply, zero_add]
  pointwise [msqH_apply, throughH_apply, scaleH_apply, dyH_apply]
  rfl

end Cert.RowNorm

end
-- ==== Proof.DownLoss.Points.lean ====
/- What one grid point of the last projection with the loss leaves: the product's block is added to the carried sum, and at
   the last block of a row tile the loss and its gradients are taken of that sum, eight rows at a time. -/
module

public import proofs.«01_k».proof.Proof.Gen.Kernel3Ideal.Frame
public import proofs.«01_k».proof.Proof.Norm.Loss
public import Idealize.ShloMosaic.Lib.Pipeline.ReadBack

@[expose] public section

set_option maxRecDepth 16384

noncomputable section

namespace Cert.DownLoss

open Cert.Kernel3Ideal Cert.Kernel3Ideal.Gen Cert.RowNorm
open Idealize.ShloMosaic Idealize.ShloMosaic.TcCoe Idealize.SL.Sem

variable {F : FTy → Type} [FloatOps F]
variable (m : (ℓ : Loc nD τ sig) → Buf (Elt F) ℓ)

/-- What the point before `t` left. -/
abbrev before (c : Dev nD) (t : Fin cfg0.N) :=
  outsAt0 m c (t.val - 1) (Nat.lt_of_le_of_lt (Nat.sub_le _ _) t.isLt)

/-- The carried sum after a point that is not a row tile's first. -/
abbrev accC (c : Dev nD) (t : Fin cfg0.N) : Vec F S512x2048 .f32 :=
  k0_pay4 (before m c t).2.2.2.2 (iblk m c 0 t) (iblk m c 1 t)

/-- The carried sum after a row tile's first point. -/
abbrev accA (c : Dev nD) (t : Fin cfg0.N) : Vec F S512x2048 .f32 :=
  k0_pay4 (k0_pay1 (iblk m c 2 t)) (iblk m c 0 t) (iblk m c 1 t)

/-- Eight rows of the gradient with respect to the rows, from the carried sum `A`. -/
def rowsDx (c : Dev nD) (t : Fin cfg0.N) (A : Vec F S512x2048 .f32) (k : Fin 64) : FVec F C8 .f32 :=
  lossDx8 (iblk m c 4 t) (View.ld A (rowsUp k)) (View.ld (iblk m c 3 t) (rowsUp k))

/-- Eight rows' addend to the scale's gradient, from the carried sum `A`. -/
def rowsDg (c : Dev nD) (t : Fin cfg0.N) (A : Vec F S512x2048 .f32) (k : Fin 64) : FVec F C8 .f32 :=
  lossDg8 (iblk m c 4 t) (View.ld A (rowsAt k)) (View.ld (iblk m c 3 t) (rowsAt k))

/-- Eight rows' squared errors, from the carried sum `A`. -/
def rowsSq (c : Dev nD) (t : Fin cfg0.N) (A : Vec F S512x2048 .f32) (k : Fin 64) : FVec F C8x1 .f32 :=
  sq8 (iblk m c 4 t) (View.ld A (rowsAt k)) (View.ld (iblk m c 3 t) (rowsAt k))

/-- The store of the carried sum, as a run of the body finds it: every load still through its buffer. -/
abbrev accPiece (c : Dev nD) (t : Fin cfg0.N) : View.Piece (Elt F) C512 .f32 :=
  ⟨Rect.unit ![0, 0] S512x2048.size inb_S512x2048_S512x2048_0_0, k0_pay4
    (View.readAt (Elt F) scM0_0.view (Rect.unit ![0, 0] S512x2048.size inb_S512x2048_S512x2048_0_0).toLoadRect
      ((Memref.isWhole_whole cc0_scratch0).unread (before m c t).2.2.2.2))
    (View.readAt (Elt F) (ms0_0 t).view (Rect.unit ![0, 0] S512x1536.size inb_S512x1536_S512x1536_0_0).toLoadRect
      ((hs0_0 t).unread (iblk m c 0 t)))
    (View.readAt (Elt F) (ms0_1 t).view (Rect.unit ![0, 0] S1536x2048.size inb_S1536x2048_S1536x2048_0_0).toLoadRect
      ((hs0_1 t).unread (iblk m c 1 t)))⟩

/-- Its payload is the carried sum. -/
theorem accPiece_snd (c : Dev nD) (t : Fin cfg0.N) : (accPiece m c t).2 = accC m c t := by
  show k0_pay4 _ _ _ = k0_pay4 _ _ _
  rw [readAt_unread, readAt_unread, readAt_unread, ld_zero, ld_zero, ld_zero]

/-- The scale's row as a run of the body finds it. -/
abbrev scaleFound (c : Dev nD) (t : Fin cfg0.N) : FVec F C1 .f32 :=
  View.readAt (Elt F) (ms0_4 t).view (Rect.unit ![0, 0] S1x2048.size inb_S1x2048_S1x2048_0_0).toLoadRect ((hs0_4 t).unread (iblk m c 4 t))

theorem scaleFound_eq (c : Dev nD) (t : Fin cfg0.N) : scaleFound m c t = iblk m c 4 t := by
  unfold scaleFound
  rw [readAt_unread, ld_zero]

theorem readCov_accPiece (c : Dev nD) (t : Fin cfg0.N) (r : Rect C512) :
    View.readCov (Val := Elt F) scM0_0.view [accPiece m c t] r.toLoadRect = View.ld (accC m c t) r := by
  refine (View.readCov_fill _ _ _ _ r zero_off_apply).trans ?_
  exact congrArg (fun X => View.ld X r) (accPiece_snd m c t)

/-- Eight rows of the gradient as a run of the body finds them. -/
def dxFound (c : Dev nD) (t : Fin cfg0.N) (k : Fin 64) : FVec F C8 .f32 :=
  lossDx8 (scaleFound m c t) (View.readCov (Val := Elt F) scM0_0.view [accPiece m c t] (rowsUp k).toLoadRect)
    (View.readAt (Elt F) (ms0_3 t).view (rowsUp k).toLoadRect ((hs0_3 t).unread (iblk m c 3 t)))

/-- Eight rows' addend to the scale's gradient, likewise. -/
def dgFound (c : Dev nD) (t : Fin cfg0.N) (k : Fin 64) : FVec F C8 .f32 :=
  lossDg8 (scaleFound m c t) (View.readCov (Val := Elt F) scM0_0.view [accPiece m c t] (rowsAt k).toLoadRect)
    (View.readAt (Elt F) (ms0_3 t).view (rowsAt k).toLoadRect ((hs0_3 t).unread (iblk m c 3 t)))

/-- Eight rows' squared errors, likewise. -/
def sqFound (c : Dev nD) (t : Fin cfg0.N) (k : Fin 64) : FVec F C8x1 .f32 :=
  sq8 (scaleFound m c t) (View.readCov (Val := Elt F) scM0_0.view [accPiece m c t] (rowsAt k).toLoadRect)
    (View.readAt (Elt F) (ms0_3 t).view (rowsAt k).toLoadRect ((hs0_3 t).unread (iblk m c 3 t)))

theorem dxFound_eq (c : Dev nD) (t : Fin cfg0.N) (k : Fin 64) : dxFound m c t k = rowsDx m c t (accC m c t) k := by
  unfold dxFound rowsDx
  rw [readCov_accPiece, readAt_unread, scaleFound_eq]
  rfl

theorem dgFound_eq (c : Dev nD) (t : Fin cfg0.N) (k : Fin 64) : dgFound m c t k = rowsDg m c t (accC m c t) k := by
  unfold dgFound rowsDg
  rw [readCov_accPiece, readAt_unread, scaleFound_eq]
  rfl

theorem sqFound_eq (c : Dev nD) (t : Fin cfg0.N) (k : Fin 64) : sqFound m c t k = rowsSq m c t (accC m c t) k := by
  unfold sqFound rowsSq
  rw [readCov_accPiece, readAt_unread, scaleFound_eq]
  rfl

set_option maxHeartbeats 1600000 in
/-- The points of a row tile's last block. -/
theorem outs_C (c : Dev nD) (t : Fin cfg0.N) (h0 : ¬t.val % 4 = 0) (h1 : ¬t.val % 64 = 0) (h2 : t.val % 4 = 3) :
    outsAt0 m c t.val t.isLt =
      (View.canon (List.ofFn fun k : Fin 64 => (⟨rowsUp k, rowsDx m c t (accC m c t) k⟩ : View.Piece (Elt F) C512 .f32)),
       View.canon (List.ofFn fun k : Fin 64 => (⟨rowsUp k, truncf .bf16 (rowsDx m c t (accC m c t) k) (by decide)⟩ :
          View.Piece (Elt F) C512 .bf16)),
       addf (before m c t).2.2.1 (lossSum (rowsSq m c t (accC m c t))),
       addf (before m c t).2.2.2.1 (dgSum (rowsDg m c t (accC m c t))),
       accC m c t) := by
  rw [outsAt0_C m c t h0 h1 h2]
  unfold out0_C_5 out0_C_6 out0_C_7 out0_C_8 sout0_C_0
  simp only [View.read_writes_junk_eq_canon]
  generalize hr : kernelRun0_C (F := F) _ _ _ _ _ _ _ _ _ _ _ _ _ _ _ _ _ _ _ _ _ _ _ _ _ _ _ _ _ _ _ _ _ = r
  have e1 : r.1 = List.ofFn fun k : Fin 64 => (⟨rowsUp k, rowsDx m c t (accC m c t) k⟩ : View.Piece (Elt F) C512 .f32) := by
    simp only [← dxFound_eq]
    subst hr; sl_kernel_rfl
  have e2 : r.2.1 = List.ofFn fun k : Fin 64 => (⟨rowsUp k, truncf .bf16 (rowsDx m c t (accC m c t) k) (by decide)⟩ :
      View.Piece (Elt F) C512 .bf16) := by
    simp only [← dxFound_eq]
    subst hr; sl_kernel_rfl
  have e3 : r.2.2.1 = [⟨Rect.unit ![0, 0] S8x128.size inb_S8x128_S8x128_0_0,
      addf (shapeCast S8x128 (View.readAt (Elt F) (ms0_7 t).view (Rect.unit ![0, 0] S8x128.size inb_S8x128_S8x128_0_0).toLoadRect
          ((hs0_7 t).unread (before m c t).2.2.1)) shapeCasts_S8x128_S8x128)
        (lossSum (rowsSq m c t (accC m c t)))⟩] := by
    have e : rowsSq m c t (accC m c t) = sqFound m c t := funext fun k => (sqFound_eq m c t k).symm
    rw [e]
    subst hr; sl_kernel_rfl
  have e4 : r.2.2.2.1 = [⟨Rect.unit ![0, 0] S1x2048.size inb_S1x2048_S1x2048_0_0,
      addf (shapeCast S1x2048 (View.readAt (Elt F) (ms0_8 t).view (Rect.unit ![0, 0] S1x2048.size inb_S1x2048_S1x2048_0_0).toLoadRect
          ((hs0_8 t).unread (before m c t).2.2.2.1)) shapeCasts_S1x2048_S1x2048)
        (dgSum (rowsDg m c t (accC m c t)))⟩] := by
    have e : rowsDg m c t (accC m c t) = dgFound m c t := funext fun k => (dgFound_eq m c t k).symm
    rw [e]
    subst hr; sl_kernel_rfl
  have e5 : r.2.2.2.2.1 = [accPiece m c t] := by
    subst hr; sl_kernel_rfl
  clear hr
  obtain ⟨L5, L6, L7, L8, LS, hL⟩ := r
  dsimp only at e1 e2 e3 e4 e5 ⊢
  clear hL
  subst e1 e2 e3 e4 e5
  refine congrArg (Prod.mk _) (congrArg (Prod.mk _) (congrArg₂ Prod.mk ?_ (congrArg₂ Prod.mk ?_ ?_)))
  · refine (View.canon_unit_zero (S := S8x128) zero_off _ _).trans ?_
    rw [readAt_unread, ld_zero]
    exact congrArg (fun X => addf X _) (shapeCast_self _ _)
  · refine (View.canon_unit_zero (S := S1x2048) zero_off _ _).trans ?_
    rw [readAt_unread, ld_zero]
    exact congrArg (fun X => addf X _) (shapeCast_self _ _)
  · exact (View.canon_unit_zero (S := C512) zero_off _ _).trans (accPiece_snd m c t)

theorem outs_C_dx (c : Dev nD) (t : Fin cfg0.N) (h2 : t.val % 4 = 3) : (outsAt0 m c t.val t.isLt).1
    = View.canon (List.ofFn fun k : Fin 64 => (⟨rowsUp k, rowsDx m c t (accC m c t) k⟩ : View.Piece (Elt F) C512 .f32)) := by
  rw [outs_C m c t (by omega) (by omega) h2]

theorem outs_C_dxb (c : Dev nD) (t : Fin cfg0.N) (h2 : t.val % 4 = 3) : (outsAt0 m c t.val t.isLt).2.1
    = View.canon (List.ofFn fun k : Fin 64 => (⟨rowsUp k, truncf .bf16 (rowsDx m c t (accC m c t) k) (by decide)⟩ :
        View.Piece (Elt F) C512 .bf16)) := by
  rw [outs_C m c t (by omega) (by omega) h2]

/-- The first point of all: the loss and the scale's gradient are cleared, and the carried sum is the rows and the first
    block's product. -/
theorem outs_A (c : Dev nD) (t : Fin cfg0.N) (h0 : t.val % 4 = 0) (h1 : t.val % 64 = 0) (h2 : ¬t.val % 4 = 3) :
    (outsAt0 m c t.val t.isLt).2.2 = (k0_pay2, k0_pay3, accA m c t) := by
  rw [outsAt0_A m c t h0 h1 h2]
  dsimp only
  unfold out0_A_7 out0_A_8 sout0_A_0
  simp only [View.read_writes_junk_eq_canon]
  unfold kernelRun0_A
  dsimp only
  sl_unfold_words
  refine congrArg₂ Prod.mk ?_ (congrArg₂ Prod.mk ?_ ?_)
  · exact View.canon_unit_zero (S := S8x128) zero_off _ _
  · exact View.canon_unit_zero (S := S1x2048) zero_off _ _
  · refine (View.canon_cons_unit_zero (S := C512) zero_off _ _ _).trans ?_
    rw [readAt_unread, readAt_unread, readAt_unread, ld_zero, ld_zero, ld_zero]
    exact congrArg (fun X => k0_pay4 X _ _) (View.readCov_unit_zero (S := C512) _ zero_off _ _)

/-- A row tile's middle points: the block's product is added to the carried sum. -/
theorem outs_B (c : Dev nD) (t : Fin cfg0.N) (h0 : ¬t.val % 4 = 0) (h1 : ¬t.val % 64 = 0) (h2 : ¬t.val % 4 = 3) :
    (outsAt0 m c t.val t.isLt).2.2 = ((before m c t).2.2.1, (before m c t).2.2.2.1, accC m c t) := by
  rw [outsAt0_B m c t h0 h1 h2]
  dsimp only
  unfold out0_B_7 out0_B_8 sout0_B_0
  simp only [View.read_writes_junk_eq_canon]
  unfold kernelRun0_B
  dsimp only
  sl_unfold_words
  refine congrArg₂ Prod.mk rfl (congrArg₂ Prod.mk rfl ?_)
  exact (View.canon_unit_zero (S := C512) zero_off _ _).trans (accPiece_snd m c t)

/-- A later row tile's first point. -/
theorem outs_D (c : Dev nD) (t : Fin cfg0.N) (h0 : t.val % 4 = 0) (h1 : ¬t.val % 64 = 0) (h2 : ¬t.val % 4 = 3) :
    (outsAt0 m c t.val t.isLt).2.2 = ((before m c t).2.2.1, (before m c t).2.2.2.1, accA m c t) := by
  rw [outsAt0_D m c t h0 h1 h2]
  dsimp only
  unfold out0_D_7 out0_D_8 sout0_D_0
  simp only [View.read_writes_junk_eq_canon]
  unfold kernelRun0_D
  dsimp only
  sl_unfold_words
  refine congrArg₂ Prod.mk rfl (congrArg₂ Prod.mk rfl ?_)
  refine (View.canon_cons_unit_zero (S := C512) zero_off _ _ _).trans ?_
  rw [readAt_unread, readAt_unread, readAt_unread, ld_zero, ld_zero, ld_zero]
  exact congrArg (fun X => k0_pay4 X _ _) (View.readCov_unit_zero (S := C512) _ zero_off _ _)

end Cert.DownLoss

end
-- ==== Proof.DownLoss.Value.lean ====
/- What the last projection with the loss leaves after every point, as sums over rows and columns of its arguments. -/
module

public import proofs.«01_k».proof.Proof.DownLoss.Points
public import proofs.«01_k».proof.Proof.Base.Sums
public import proofs.«01_k».proof.Proof.Gen.Kernel3Ideal.Value

@[expose] public section

set_option maxRecDepth 16384

noncomputable section

open scoped BigOperators

namespace Cert.DownLoss

open Cert.Kernel3Ideal Cert.Kernel3Ideal.Gen Cert.RowNorm Cert.Sums
open Idealize.ShloMosaic Idealize.ShloMosaic.TcCoe Idealize.SL.Sem

variable (m : (ℓ : Loc nD τ sig) → Buf (Elt Ideal) ℓ)

theorem pay1_apply (x : FVec Ideal S512x2048 .f32) : (k0_pay1 x : FVec Ideal S512x2048 .f32) = x := by
  unfold k0_pay1
  exact shapeCast_self _ _

theorem pay2_apply (a : Fin 8) (b : Fin 128) : (k0_pay2 : FVec Ideal S8x128 .f32) (ix2 a b) = 0 := by
  unfold k0_pay2
  pointwise

theorem pay3_apply (b : Fin 2048) : (k0_pay3 : FVec Ideal S1x2048 .f32) (ix2 0 b) = 0 := by
  unfold k0_pay3
  pointwise

theorem pay4_apply (s : FVec Ideal S512x2048 .f32) (a : FVec Ideal S512x1536 .bf16) (w : FVec Ideal S1536x2048 .bf16) (r : Fin 512) (c : Fin 2048) :
    k0_pay4 (F := Ideal) s a w (ix2 r c) = s (ix2 r c) + ∑ j : Fin 1536, a (ix2 r j) * w (ix2 j c) := by
  unfold k0_pay4
  pointwise

/-! ## The windows' blocks -/

theorem at0' : ∀ t : Fin cfg0.N, win0_0.index t 0 = t.val / 4 ∧ win0_0.index t 1 = t.val % 4 := by decide
theorem at1' : ∀ t : Fin cfg0.N, win0_1.index t 0 = t.val % 4 ∧ win0_1.index t 1 = 0 := by decide
theorem at2' : ∀ t : Fin cfg0.N, win0_2.index t 0 = t.val / 4 ∧ win0_2.index t 1 = 0 := by decide
theorem at3' : ∀ t : Fin cfg0.N, win0_3.index t 0 = t.val / 4 ∧ win0_3.index t 1 = 0 := by decide
theorem at4' : ∀ t : Fin cfg0.N, win0_4.index t 0 = 0 ∧ win0_4.index t 1 = 0 := by decide

theorem lt_N (t : Fin cfg0.N) : t.val < 64 := t.isLt

/-- A block read at an index is the array read where the window's index map puts it. -/
theorem iblk0 (c : Dev nD) (t : Fin cfg0.N) (r : Fin 512) (j : Fin 1536) :
    (iblk m c 0 t : Vec Ideal S512x1536 .bf16) (ix2 r j) = at2 (V m c main_arg0) (512 * (t.val / 4) + r.val) (1536 * (t.val % 4) + j.val) := by
  have ht := lt_N t
  rw [at2_of _ _ _ (by omega) (by omega)]
  unfold iblk
  rw [View.read_apply]
  show V m c main_arg0 _ = V m c main_arg0 _
  refine congrArg _ (funext fun a => Fin.ext ?_)
  match a with
  | ⟨0, _⟩ => show win0_0.index t 0 * 512 + 1 * r.val = 512 * (t.val / 4) + r.val; rw [(at0' t).1]; omega
  | ⟨1, _⟩ => show win0_0.index t 1 * 1536 + 1 * j.val = 1536 * (t.val % 4) + j.val; rw [(at0' t).2]; omega

theorem iblk1 (c : Dev nD) (t : Fin cfg0.N) (r : Fin 1536) (j : Fin 2048) :
    (iblk m c 1 t : Vec Ideal S1536x2048 .bf16) (ix2 r j) = at2 (V m c main_v0) (1536 * (t.val % 4) + r.val) (j.val) := by
  have ht := lt_N t
  rw [at2_of _ _ _ (by omega) (by omega)]
  unfold iblk
  rw [View.read_apply]
  show V m c main_v0 _ = V m c main_v0 _
  refine congrArg _ (funext fun a => Fin.ext ?_)
  match a with
  | ⟨0, _⟩ => show win0_1.index t 0 * 1536 + 1 * r.val = 1536 * (t.val % 4) + r.val; rw [(at1' t).1]; omega
  | ⟨1, _⟩ => show win0_1.index t 1 * 2048 + 1 * j.val = j.val; rw [(at1' t).2]; omega

theorem iblk2 (c : Dev nD) (t : Fin cfg0.N) (r : Fin 512) (j : Fin 2048) :
    (iblk m c 2 t : Vec Ideal S512x2048 .f32) (ix2 r j) = at2 (V m c main_arg2) (512 * (t.val / 4) + r.val) (j.val) := by
  have ht := lt_N t
  rw [at2_of _ _ _ (by omega) (by omega)]
  unfold iblk
  rw [View.read_apply]
  show V m c main_arg2 _ = V m c main_arg2 _
  refine congrArg _ (funext fun a => Fin.ext ?_)
  match a with
  | ⟨0, _⟩ => show win0_2.index t 0 * 512 + 1 * r.val = 512 * (t.val / 4) + r.val; rw [(at2' t).1]; omega
  | ⟨1, _⟩ => show win0_2.index t 1 * 2048 + 1 * j.val = j.val; rw [(at2' t).2]; omega

theorem iblk3 (c : Dev nD) (t : Fin cfg0.N) (r : Fin 512) (j : Fin 2048) :
    (iblk m c 3 t : Vec Ideal S512x2048 .f32) (ix2 r j) = at2 (V m c main_arg3) (512 * (t.val / 4) + r.val) (j.val) := by
  have ht := lt_N t
  rw [at2_of _ _ _ (by omega) (by omega)]
  unfold iblk
  rw [View.read_apply]
  show V m c main_arg3 _ = V m c main_arg3 _
  refine congrArg _ (funext fun a => Fin.ext ?_)
  match a with
  | ⟨0, _⟩ => show win0_3.index t 0 * 512 + 1 * r.val = 512 * (t.val / 4) + r.val; rw [(at3' t).1]; omega
  | ⟨1, _⟩ => show win0_3.index t 1 * 2048 + 1 * j.val = j.val; rw [(at3' t).2]; omega

theorem iblk4 (c : Dev nD) (t : Fin cfg0.N) (j : Fin 2048) :
    (iblk m c 4 t : Vec Ideal S1x2048 .f32) (ix2 0 j) = at2 (V m c main_arg4) (0) (j.val) := by
  have ht := lt_N t
  rw [at2_of _ _ _ (by omega) (by omega)]
  unfold iblk
  rw [View.read_apply]
  show V m c main_arg4 _ = V m c main_arg4 _
  refine congrArg _ (funext fun a => Fin.ext ?_)
  match a with
  | ⟨0, _⟩ => show win0_4.index t 0 * 1 + 1 * 0 = 0; rw [(at4' t).1]
  | ⟨1, _⟩ => show win0_4.index t 1 * 2048 + 1 * j.val = j.val; rw [(at4' t).2]; omega

/-! ## The carried sum, the loss and the scale's gradient after every point -/

/-- One addend of the product's element in row `R` and column `b`. -/
def term (c : Dev nD) (R b q : ℕ) : EReal := at2 (V m c main_arg0) R q * at2 (V m c main_v0) q b
/-- The rows that enter the norm. -/
def x3 (c : Dev nD) (R b : ℕ) : EReal := at2 (V m c main_arg2) R b + ∑ q ∈ Finset.range 6144, term m c R b q
/-- Row `R` of the norm's input, the scale, and row `R` of the target. -/
def rowX (c : Dev nD) (R : ℕ) : Fin 2048 → EReal := fun j => x3 m c R j.val
def rowG (c : Dev nD) : Fin 2048 → EReal := fun j => at2 (V m c main_arg4) 0 j.val
def rowT (c : Dev nD) (R : ℕ) : Fin 2048 → EReal := fun j => at2 (V m c main_arg3) R j.val
/-- Row `R`'s squared error. -/
def sqTerm (c : Dev nD) (R : ℕ) : EReal := rowSq (rowG m c) (rowX m c R) (rowT m c R)
/-- Row `R`'s addend to the scale's gradient. -/
def dgTerm (c : Dev nD) (b : Fin 2048) (R : ℕ) : EReal := rowLossDg (rowG m c) (rowX m c R) (rowT m c R) b
/-- The gradient with respect to the norm's input. -/
def dxAt (c : Dev nD) (R : ℕ) (b : Fin 2048) : EReal := rowLossDx (rowG m c) (rowX m c R) (rowT m c R) b

/-- What the carried sum holds after point `n`. -/
def AccAt (c : Dev nD) (n : ℕ) (A : Vec Ideal S512x2048 .f32) : Prop := ∀ (r : Fin 512) (b : Fin 2048), A (ix2 r b)
  = at2 (V m c main_arg2) (512 * (n / 4) + r.val) b.val + ∑ q ∈ Finset.range (1536 * (n % 4 + 1)), term m c (512 * (n / 4) + r.val) b.val q

theorem first_apply (c : Dev nD) (t : Fin cfg0.N) (h1 : t.val % 4 = 0) : AccAt m c t.val (accA m c t) := by
  intro r b
  unfold accA
  rw [pay4_apply, pay1_apply, iblk2]
  simp only [iblk0, iblk1, h1]
  rw [← sum_next 1536 0]
  simp [term]

theorem next_apply (c : Dev nD) (t : Fin cfg0.N) (h1 : ¬t.val % 4 = 0) (ih : AccAt m c (t.val - 1) (before m c t).2.2.2.2) :
    AccAt m c t.val (accC m c t) := by
  intro r b
  unfold accC
  rw [pay4_apply, ih]
  simp only [iblk0, iblk1]
  have e1 : (t.val - 1) % 4 + 1 = t.val % 4 := by omega
  have e2 : (t.val - 1) / 4 = t.val / 4 := by omega
  rw [e1, e2, add_assoc, ← sum_next 1536]
  rfl

theorem acc_full (c : Dev nD) (t : Fin cfg0.N) (A : Vec Ideal S512x2048 .f32) (h3 : t.val % 4 = 3) (hA : AccAt m c t.val A)
    (r : Fin 512) (b : Fin 2048) : A (ix2 r b) = x3 m c (512 * (t.val / 4) + r.val) b.val := by
  rw [hA, h3]; rfl

section Rows
variable (c : Dev nD) (t : Fin cfg0.N) (A : Vec Ideal S512x2048 .f32)
variable (hA : ∀ (r : Fin 512) (b : Fin 2048), A (ix2 r b) = x3 m c (512 * (t.val / 4) + r.val) b.val)
include hA

theorem rowsDx_apply (k : Fin 64) (a : Fin 8) (b : Fin 2048) :
    rowsDx m c t A k (ix2 a b) = dxAt m c (512 * (t.val / 4) + (8 * (63 - k.val) + a.val)) b :=
  (lossDx8_apply _ _ _ a b).trans (rowLossDx_congr (fun j => iblk4 m c t j) (fun j => (ld_rowsUp A k a j).trans (hA _ j))
    (fun j => (ld_rowsUp (iblk m c 3 t) k a j).trans (iblk3 m c t _ j)) b)

theorem rowsDg_apply (k : Fin 64) (a : Fin 8) (b : Fin 2048) :
    rowsDg m c t A k (ix2 a b) = dgTerm m c b (512 * (t.val / 4) + (8 * k.val + a.val)) :=
  (lossDg8_apply _ _ _ a b).trans (rowLossDg_congr (fun j => iblk4 m c t j) (fun j => (ld_rowsAt A k a j).trans (hA _ j))
    (fun j => (ld_rowsAt (iblk m c 3 t) k a j).trans (iblk3 m c t _ j)) b)

theorem rowsSq_apply (k : Fin 64) (a : Fin 8) :
    rowsSq m c t A k (ix2 a 0) = sqTerm m c (512 * (t.val / 4) + (8 * k.val + a.val)) :=
  (sq8_apply _ _ _ a 0).trans (rowSq_congr (fun j => iblk4 m c t j) (fun j => (ld_rowsAt A k a j).trans (hA _ j))
    (fun j => (ld_rowsAt (iblk m c 3 t) k a j).trans (iblk3 m c t _ j)))

theorem dgSum_rows (b : Fin 2048) : dgSum (rowsDg m c t A) (ix2 0 b) = ∑ r : Fin 512, dgTerm m c b (512 * (t.val / 4) + r.val) := by
  rw [dgSum_apply, Finset.sum_comm]
  simp only [rowsDg_apply m c t A hA]
  rw [sum_runs 8 64 (fun q => dgTerm m c b (512 * (t.val / 4) + q))]
  exact (Fin.sum_univ_eq_sum_range _ 512).symm

theorem lossSum_rows (a : Fin 8) (b : Fin 128) : lossSum (rowsSq m c t A) (ix2 a b)
    = Ideal.ofBits .f32 0x39800000#32 * ∑ r : Fin 512, sqTerm m c (512 * (t.val / 4) + r.val) := by
  rw [lossSum_apply, Finset.sum_comm]
  simp only [rowsSq_apply m c t A hA]
  rw [sum_runs 8 64 (fun q => sqTerm m c (512 * (t.val / 4) + q))]
  exact congrArg _ (Fin.sum_univ_eq_sum_range _ 512).symm

end Rows

theorem sqTerm_nonneg (c : Dev nD) (R : ℕ) : 0 ≤ sqTerm m c R := rowSq_nonneg _ _ _

/-- The carried sum, the loss and the scale's gradient after point `n`. -/
def Inv (c : Dev nD) (n : ℕ) (o : Vec Ideal S512x2048 .f32 × Vec Ideal S512x2048 .bf16 × Vec Ideal S8x128 .f32 × Vec Ideal S1x2048 .f32
    × Vec Ideal S512x2048 .f32) : Prop :=
  AccAt m c n o.2.2.2.2
  ∧ (∀ (a : Fin 8) (b : Fin 128), o.2.2.1 (ix2 a b)
      = Ideal.ofBits .f32 0x39800000#32 * ∑ R ∈ Finset.range (512 * ((n + 1) / 4)), sqTerm m c R)
  ∧ ∀ b : Fin 2048, o.2.2.2.1 (ix2 0 b) = ∑ R ∈ Finset.range (512 * ((n + 1) / 4)), dgTerm m c b R

theorem inv_step (c : Dev nD) (t : Fin cfg0.N)
    (ih : ∀ (n : ℕ) (h : n < cfg0.N), n + 1 = t.val → Inv m c n (outsAt0 m c n h)) : Inv m c t.val (outsAt0 m c t.val t.isLt) := by
  have ht := lt_N t
  by_cases h1 : t.val % 4 = 0
  · by_cases h0 : t.val % 64 = 0
    · have e := outs_A m c t h1 h0 (by omega)
      refine ⟨?_, fun a b => ?_, fun b => ?_⟩
      · rw [e]; exact first_apply m c t h1
      · rw [e, show (t.val + 1) / 4 = 0 by omega]
        simpa using pay2_apply a b
      · rw [e, show (t.val + 1) / 4 = 0 by omega]
        simpa using pay3_apply b
    · have e := outs_D m c t h1 h0 (by omega)
      have ih : Inv m c (t.val - 1) (before m c t) := ih (t.val - 1) (by omega) (by omega)
      refine ⟨?_, fun a b => ?_, fun b => ?_⟩
      · rw [e]; exact first_apply m c t h1
      · rw [e, show (t.val + 1) / 4 = (t.val - 1 + 1) / 4 by omega]
        exact ih.2.1 a b
      · rw [e, show (t.val + 1) / 4 = (t.val - 1 + 1) / 4 by omega]
        exact ih.2.2 b
  · have ih : Inv m c (t.val - 1) (before m c t) := ih (t.val - 1) (by omega) (by omega)
    have hacc := next_apply m c t h1 ih.1
    by_cases h3 : t.val % 4 = 3
    · have e := outs_C m c t h1 (by omega) h3
      have e1 : (t.val - 1 + 1) / 4 = t.val / 4 := by omega
      have e2 : (t.val + 1) / 4 = t.val / 4 + 1 := by omega
      refine ⟨?_, fun a b => ?_, fun b => ?_⟩
      · rw [e]; exact hacc
      · rw [e]
        show (before m c t).2.2.1 (ix2 a b) + lossSum (rowsSq m c t (accC m c t)) (ix2 a b) = _
        rw [lossSum_rows m c t _ (acc_full m c t _ h3 hacc), ih.2.1 a b, e1, e2,
          ← EReal.left_distrib_of_nonneg (Finset.sum_nonneg fun R _ => sqTerm_nonneg m c R) (Finset.sum_nonneg fun R _ => sqTerm_nonneg m c _)]
        exact congrArg _ (sum_next 512 _ _)
      · rw [e]
        show (before m c t).2.2.2.1 (ix2 0 b) + dgSum (rowsDg m c t (accC m c t)) (ix2 0 b) = _
        rw [dgSum_rows m c t _ (acc_full m c t _ h3 hacc), ih.2.2 b, e1, e2]
        exact sum_next 512 _ _
    · have e := outs_B m c t h1 (by omega) h3
      refine ⟨?_, fun a b => ?_, fun b => ?_⟩
      · rw [e]; exact hacc
      · rw [e, show (t.val + 1) / 4 = (t.val - 1 + 1) / 4 by omega]
        exact ih.2.1 a b
      · rw [e, show (t.val + 1) / 4 = (t.val - 1 + 1) / 4 by omega]
        exact ih.2.2 b

theorem inv_all (c : Dev nD) (n : ℕ) : ∀ h : n < cfg0.N, Inv m c n (outsAt0 m c n h) := by
  induction n with
  | zero => exact fun h => inv_step m c ⟨0, h⟩ fun n _ e => absurd e (Nat.succ_ne_zero n)
  | succ n ih =>
    intro h
    refine inv_step m c ⟨n + 1, h⟩ fun k hk e => ?_
    obtain rfl : k = n := Nat.succ.inj e
    exact ih hk

theorem acc_last (c : Dev nD) (t : Fin cfg0.N) (h3 : t.val % 4 = 3) (r : Fin 512) (b : Fin 2048) :
    accC m c t (ix2 r b) = x3 m c (512 * (t.val / 4) + r.val) b.val :=
  acc_full m c t _ h3 (next_apply m c t (by omega) (inv_all m c (t.val - 1) _).1) r b

theorem rows_block (c : Dev nD) (t : Fin cfg0.N) (h3 : t.val % 4 = 3) :
    View.canon (List.ofFn fun k : Fin 64 => (⟨rowsUp k, rowsDx m c t (accC m c t) k⟩ : View.Piece (Elt Ideal) C512 .f32))
      = fun y : C512.Idx => dxAt m c (512 * (t.val / 4) + (y 0).val) (y 1) :=
  canon_rows (Val := Elt Ideal) (e := .f32) (rowsDx m c t (accC m c t)) _ fun k a b => rowsDx_apply m c t _ (acc_last m c t h3) k a b

/-- The gradient with respect to the norm's input at a row tile's last point. -/
theorem dx_block (c : Dev nD) (t : Fin cfg0.N) (h3 : t.val % 4 = 3) :
    (outsAt0 m c t.val t.isLt).1 = fun y : C512.Idx => dxAt m c (512 * (t.val / 4) + (y 0).val) (y 1) := by
  rw [outs_C_dx m c t h3, rows_block m c t h3]

/-- The same gradient rounded, which over the reals is the gradient. -/
theorem dxb_block (c : Dev nD) (t : Fin cfg0.N) (h3 : t.val % 4 = 3) :
    (outsAt0 m c t.val t.isLt).2.1 = fun y : C512.Idx => dxAt m c (512 * (t.val / 4) + (y 0).val) (y 1) := by
  rw [outs_C_dxb m c t h3]
  exact canon_rows (Val := Elt Ideal) (e := .bf16) (fun k => truncf (F := Ideal) .bf16 (rowsDx m c t (accC m c t) k) (by decide)) _
    fun k a b => rowsDx_apply m c t _ (acc_last m c t h3) k a b

/-! ## The arrays after the run -/

theorem dx_array (c : Dev nD) (R : Fin 8192) (b : Fin 2048) : (Value.G5 m c : Vec Ideal S8192x2048 .f32) (ix2 R b) = dxAt m c R.val b := by
  have e : Value.pt5Of (ix2 R b) = 4 * (R.val / 512) + 3 := by
    show 4 * (1 * (R.val / 512 - 0) + 1 * (b.val / 2048 - 0)) + 3 = _
    omega
  have hN : Value.pt5Of (ix2 R b) < cfg0.N := by rw [e, show cfg0.N = 64 from N_0]; omega
  have el : Value.loc5Of (ix2 R b) = ix2 (⟨R.val % 512, Nat.mod_lt _ (by decide)⟩ : Fin 512) b := by
    funext a
    match a with
    | ⟨0, _⟩ => rfl
    | ⟨1, _⟩ => exact Fin.ext (Nat.mod_eq_of_lt b.isLt)
  unfold Value.G5
  rw [dif_pos hN, ← Value.outsAt0_sweep m c _ hN, el]
  refine (congrFun (dx_block m c ⟨_, hN⟩ (by show Value.pt5Of (ix2 R b) % 4 = 3; omega)) (ix2 (⟨R.val % 512, Nat.mod_lt _ (by decide)⟩ : Fin 512) b)).trans ?_
  show dxAt m c (512 * (Value.pt5Of (ix2 R b) / 4) + R.val % 512) b = _
  rw [show 512 * (Value.pt5Of (ix2 R b) / 4) + R.val % 512 = R.val by omega]

theorem dxb_array (c : Dev nD) (R : Fin 8192) (b : Fin 2048) : (Value.G6 m c : Vec Ideal S8192x2048 .bf16) (ix2 R b) = dxAt m c R.val b := by
  have e : Value.pt6Of (ix2 R b) = 4 * (R.val / 512) + 3 := by
    show 4 * (1 * (R.val / 512 - 0) + 1 * (b.val / 2048 - 0)) + 3 = _
    omega
  have hN : Value.pt6Of (ix2 R b) < cfg0.N := by rw [e, show cfg0.N = 64 from N_0]; omega
  have el : Value.loc6Of (ix2 R b) = ix2 (⟨R.val % 512, Nat.mod_lt _ (by decide)⟩ : Fin 512) b := by
    funext a
    match a with
    | ⟨0, _⟩ => rfl
    | ⟨1, _⟩ => exact Fin.ext (Nat.mod_eq_of_lt b.isLt)
  unfold Value.G6
  rw [dif_pos hN, ← Value.outsAt0_sweep m c _ hN, el]
  refine (congrFun (dxb_block m c ⟨_, hN⟩ (by show Value.pt6Of (ix2 R b) % 4 = 3; omega)) (ix2 (⟨R.val % 512, Nat.mod_lt _ (by decide)⟩ : Fin 512) b)).trans ?_
  show dxAt m c (512 * (Value.pt6Of (ix2 R b) / 4) + R.val % 512) b = _
  rw [show 512 * (Value.pt6Of (ix2 R b) / 4) + R.val % 512 = R.val by omega]

theorem loss_array (c : Dev nD) (a : Fin 8) (b : Fin 128) : (Value.G7 m c : Vec Ideal S8x128 .f32) (ix2 a b)
    = Ideal.ofBits .f32 0x39800000#32 * ∑ R ∈ Finset.range 8192, sqTerm m c R := by
  rw [Value.G7_last, ← Value.outsAt0_sweep m c 63 (lt_of_lt_of_eq (by decide) N_0.symm)]
  exact (inv_all m c 63 _).2.1 a b

theorem dg_array (c : Dev nD) (b : Fin 2048) : (Value.G8 m c : Vec Ideal S1x2048 .f32) (ix2 0 b) = ∑ R ∈ Finset.range 8192, dgTerm m c b R := by
  rw [Value.G8_last, ← Value.outsAt0_sweep m c 63 (lt_of_lt_of_eq (by decide) N_0.symm)]
  exact (inv_all m c 63 _).2.2 b

end Cert.DownLoss

end
-- ==== Proof.DownLoss.Reference.lean ====
/- The last projection with the loss: the host lines and their chain rule give the same sums over rows and columns. -/
module

public import proofs.«01_k».proof.Proof.DownLoss.Value
public import proofs.«01_k».proof.Proof.Gen.Reference3Ideal.Run

@[expose] public section

set_option maxRecDepth 16384

noncomputable section

open scoped BigOperators

namespace Cert.DownLoss

open Cert.RowNorm Cert.Sums
open Idealize.ShloMosaic Idealize.ShloMosaic.TcCoe Idealize.SL.Sem

abbrev Z : Shape := ⟨2, ![8192, 6144]⟩
abbrev W : Shape := ⟨2, ![6144, 2048]⟩

section V
open Cert.Kernel3Ideal Cert.Kernel3Ideal.Gen
variable {F : FTy → Type} [FloatOps F]
variable (m : (ℓ : Loc nD τ sig) → Buf (Elt F) ℓ)

theorem V0 (c : Dev nD) : V m c main_v0 = truncf .bf16 (m ((c : Thread nD τ).loc main_arg1)) (by decide) := by
  unfold V
  after_results_simp <;> rfl
end V

section Lines
open Cert.Reference3Ideal Cert.Reference3Ideal.Gen
variable {F : FTy → Type} [FloatOps F]

/-- The rows that enter the norm, as the host lines compute them. -/
def x3H (z : FVec F Z .bf16) (w : FVec F W .f32) (x : FVec F H .f32) : FVec F H .f32 :=
  addf x (Host.dotGeneral dot_S8192x6144_S6144x2048_S8192x2048_1_0_0_1_n_n none (extf .f32 z (by decide)) w)

theorem x3H_apply (z : FVec Ideal Z .bf16) (w : FVec Ideal W .f32) (x : FVec Ideal H .f32) (R : Fin 8192) (b : Fin 2048) :
    x3H z w x (ix2 R b) = x (ix2 R b) + ∑ q : Fin 6144, z (ix2 R q) * w (ix2 q b) := by
  unfold x3H
  pointwise

/-- The reference's arguments and the rows made of them. -/
abbrev x3R (m : (ℓ : Loc nD τ sig) → Buf (Elt F) ℓ) (c : Dev nD) : FVec F H .f32 :=
  x3H (m ((c.tc : Thread nD τ).loc main_arg0)) (m ((c.tc : Thread nD τ).loc main_arg1)) (m ((c.tc : Thread nD τ).loc main_arg2))
abbrev gR (m : (ℓ : Loc nD τ sig) → Buf (Elt F) ℓ) (c : Dev nD) : FVec F C1 .f32 := m ((c.tc : Thread nD τ).loc main_arg4)
abbrev tR (m : (ℓ : Loc nD τ sig) → Buf (Elt F) ℓ) (c : Dev nD) : FVec F H .f32 := m ((c.tc : Thread nD τ).loc main_arg3)

theorem res_dx (m : (ℓ : Loc nD τ sig) → Buf (Elt F) ℓ) (c : Dev nD) :
    Cert.Reference3Ideal.Value.res_main_v54 m c = lossDxH (x3R m c) (gR m c) (tR m c) := rfl

theorem res_dxb (m : (ℓ : Loc nD τ sig) → Buf (Elt F) ℓ) (c : Dev nD) :
    Cert.Reference3Ideal.Value.res_main_v56 m c = truncf .bf16 (Cert.Reference3Ideal.Value.res_main_v54 m c) (by decide) := rfl

/-- The reference's results. -/
theorem run_ref (m : (ℓ : Loc nD τ sig) → Buf (Elt Ideal) ℓ) (ρ : Dev nD → PrngReg) :
    θ_run defs (onTc (τ := τ) (main (F := Ideal))) ⟨m, fun _ => 0, ρ⟩ fun r => ∀ c : Dev nD,
    r.2.mem ((c.tc : Thread nD τ).loc main_v55) = lossH (x3R m c) (gR m c) (tR m c)
    ∧ r.2.mem ((c.tc : Thread nD τ).loc main_v54) = lossDxH (x3R m c) (gR m c) (tR m c)
    ∧ r.2.mem ((c.tc : Thread nD τ).loc main_v56) = lossDxH (x3R m c) (gR m c) (tR m c)
    ∧ r.2.mem ((c.tc : Thread nD τ).loc main_v57) = dgH (x3R m c) (dyH (x3R m c) (gR m c) (tR m c))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1, (h c).2.1.trans (res_dx m c), (h c).2.2.1.trans ((res_dxb m c).trans (res_dx m c)),
    (h c).2.2.2.1, (h c).2.2.2.2⟩) (Cert.Reference3Ideal.Value.run m ρ)

end Lines

section Equal
open Cert.Kernel3Ideal Cert.Kernel3Ideal.Gen
variable (m : (ℓ : Loc nD τ sig) → Buf (Elt Ideal) ℓ)

/-- The kernel's arguments and the rows made of them. -/
abbrev x3K (c : Dev nD) : FVec Ideal H .f32 :=
  x3H (m ((c : Thread nD τ).loc main_arg0)) (m ((c : Thread nD τ).loc main_arg1)) (m ((c : Thread nD τ).loc main_arg2))
abbrev gK (c : Dev nD) : FVec Ideal C1 .f32 := m ((c : Thread nD τ).loc main_arg4)
abbrev tK (c : Dev nD) : FVec Ideal H .f32 := m ((c : Thread nD τ).loc main_arg3)

theorem x3_eq (c : Dev nD) (R : Fin 8192) (b : Fin 2048) : x3 m c R.val b.val = x3K m c (ix2 R b) := by
  refine Eq.trans ?_ (x3H_apply _ _ _ R b).symm
  unfold x3 term
  rw [← sum_first]
  refine congrArg₂ (· + ·) ?_ (Finset.sum_congr rfl fun q _ => ?_)
  · rw [V_main_arg2]; exact at2_fin _ R b
  · rw [at2_fin, at2_fin, V0, V_main_arg0]
    rfl

theorem rowX_eq (c : Dev nD) (R : Fin 8192) (j : Fin 2048) : rowX m c R.val j = x3K m c (ix2 R j) := x3_eq m c R j
theorem rowG_eq (c : Dev nD) (j : Fin 2048) : rowG m c j = gK m c (ix2 0 j) := by
  unfold rowG; rw [V_main_arg4]; exact at2_fin _ 0 j
theorem rowT_eq (c : Dev nD) (R : Fin 8192) (j : Fin 2048) : rowT m c R.val j = tK m c (ix2 R j) := by
  unfold rowT; rw [V_main_arg3]; exact at2_fin _ R j

theorem dxAt_eq (c : Dev nD) (R : Fin 8192) (b : Fin 2048) : dxAt m c R.val b = lossDxH (x3K m c) (gK m c) (tK m c) (ix2 R b) :=
  (rowLossDx_congr (rowG_eq m c) (rowX_eq m c R) (rowT_eq m c R) b).trans (lossDxH_apply _ _ _ R b).symm

/-- The gradient with respect to the norm's input is the chain rule's. -/
theorem dx_eq (c : Dev nD) : (Value.G5 m c : Vec Ideal S8192x2048 .f32) = lossDxH (x3K m c) (gK m c) (tK m c) := by
  funext y
  have ey : y = ix2 (y 0) (y 1) := by funext a; fin_cases a <;> rfl
  rw [ey]
  exact (dx_array m c (y 0) (y 1)).trans (dxAt_eq m c (y 0) (y 1))

theorem dxb_eq (c : Dev nD) : (Value.G6 m c : Vec Ideal S8192x2048 .bf16) = lossDxH (x3K m c) (gK m c) (tK m c) := by
  funext y
  have ey : y = ix2 (y 0) (y 1) := by funext a; fin_cases a <;> rfl
  rw [ey]
  exact (dxb_array m c (y 0) (y 1)).trans (dxAt_eq m c (y 0) (y 1))

/-- The loss is the reference's, in every place. -/
theorem loss_eq (c : Dev nD) : (Value.G7 m c : Vec Ideal S8x128 .f32) = lossH (x3K m c) (gK m c) (tK m c) := by
  funext y
  have ey : y = ix2 (y 0) (y 1) := by funext a; fin_cases a <;> rfl
  rw [ey]
  refine (loss_array m c (y 0) (y 1)).trans (Eq.trans ?_ (lossH_apply _ _ _ (y 0) (y 1)).symm)
  refine congrArg _ ?_
  rw [← sum_first]
  exact Finset.sum_congr rfl fun R _ => rowSq_congr (rowG_eq m c) (rowX_eq m c R) (rowT_eq m c R)

/-- The gradient with respect to the scale is the chain rule's. -/
theorem dg_eq (c : Dev nD) : (Value.G8 m c : Vec Ideal S1x2048 .f32) = dgH (x3K m c) (dyH (x3K m c) (gK m c) (tK m c)) := by
  funext y
  have ey : y = ix2 (0 : Fin 1) (y 1) := by
    funext a
    match a with
    | ⟨0, _⟩ => exact Subsingleton.elim (α := Fin 1) _ _
    | ⟨1, _⟩ => rfl
  rw [ey]
  refine (dg_array m c (y 1)).trans (Eq.trans ?_ (dgH_apply _ _ (y 1)).symm)
  show (∑ R ∈ Finset.range 8192, dgTerm m c (y 1) R : EReal) = _
  rw [← sum_first]
  refine Finset.sum_congr rfl fun R _ => (rowLossDg_congr (rowG_eq m c) (rowX_eq m c R) (rowT_eq m c R) (y 1)).trans ?_
  exact rowDg_congr (fun _ => rfl) (fun j => (dyH_apply _ _ _ R j).symm) (y 1)

end Equal

end Cert.DownLoss

end
-- ==== Proof.DownLoss.Claims.lean ====
/- The claims about the last projection with the loss. -/
module

public import proofs.«01_k».proof.Defs
public import proofs.«01_k».proof.Proof.DownLoss.Reference

@[expose] public section

noncomputable section

namespace Cert.DownLoss

open Idealize.ShloMosaic Idealize.SL.Sem

theorem frame_ref : Cert.quiescent_Reference3Ideal := fun m ρ _ =>
  (θ_run Cert.Reference3Ideal.defs _ _).mono
    (fun r h => ⟨fun c => (h c).2.2.2.2, Idealize.ShloMosaic.sem_eq_zero_of_no_sems (by decide) r.2⟩) (run_ref m ρ)

theorem algebraic : Cert.algebraic_Kernel3Ideal_Reference3Ideal := by
  intro m g m' g' _ hagree
  refine ⟨fun c => Cert.Kernel3Ideal.Value.G7 m c, fun c => Cert.Kernel3Ideal.Value.G5 m c, fun c => Cert.Kernel3Ideal.Value.G6 m c,
    fun c => Cert.Kernel3Ideal.Value.G8 m c, ?_, ?_⟩
  · exact (θ_run Cert.Kernel3Ideal.defs _ _).mono (fun r h c => ⟨(h c).2.2.1, (h c).1, (h c).2.1, (h c).2.2.2⟩) (Cert.Kernel3Ideal.Value.run m g)
  · refine (θ_run Cert.Reference3Ideal.defs _ _).mono (fun r h c => ?_) (run_ref m' g')
    obtain ⟨e0, e1, e2, e3, e4⟩ := hagree c
    refine ⟨(h c).1.trans ?_, (h c).2.1.trans ?_, (h c).2.2.1.trans ?_, (h c).2.2.2.1.trans ?_, (h c).2.2.2.2⟩
    · unfold x3R gR tR; rw [e0, e1, e2, e3, e4]; exact (loss_eq m c).symm
    · unfold x3R gR tR; rw [e0, e1, e2, e3, e4]; exact (dx_eq m c).symm
    · unfold x3R gR tR; rw [e0, e1, e2, e3, e4]; exact (dxb_eq m c).symm
    · unfold x3R gR tR; rw [e0, e1, e2, e3, e4]; exact (dg_eq m c).symm

end Cert.DownLoss

end
-- ==== Proof.Slab.Basic.lean ====
/- Blocks of 1024 columns visited in slabs of sixteen rows and 512 columns: what the stores of all the slabs leave, the
   slabs' sums over the rows, and the row of 1024 sums that two stores of 512 update. -/
module

public import proofs.«01_k».proof.Proof.Norm.Row
public import proofs.«01_k».proof.Proof.Base.Sums
public import Idealize.ShloMosaic.Lib.Pipeline.ReadBack

@[expose] public section

noncomputable section

open scoped BigOperators

namespace Cert.Slab

open Idealize.ShloMosaic Cert.RowNorm

/-- A slab's shape. -/
abbrev P16 : Shape := ⟨2, ![16, 512]⟩
/-- Half a slab. -/
abbrev P8 : Shape := ⟨2, ![8, 512]⟩
/-- A slab's row. -/
abbrev P1 : Shape := ⟨2, ![1, 512]⟩
/-- A block's row. -/
abbrev Q1 : Shape := ⟨2, ![1, 1024]⟩
/-- A block of `n` rows. -/
abbrev Q (n : ℕ) : Shape := ⟨2, ![n, 1024]⟩

theorem inbSlab {n ro co : ℕ} (h0 : ro + 16 ≤ n) (h1 : co + 512 ≤ 1024) :
    ∀ a, (![ro, co] : Fin 2 → ℕ) a + P16.size a ≤ (Q n).size a := by
  intro a; fin_cases a
  · exact h0
  · exact h1

/-- The slab that starts at row `ro` and column `co`. -/
abbrev slab {n : ℕ} (ro co : ℕ) (h0 : ro + 16 ≤ n) (h1 : co + 512 ≤ 1024) : Rect (Q n) :=
  Rect.unit (s := Q n) ![ro, co] P16.size (inbSlab h0 h1)

theorem inbHalf {co : ℕ} (h1 : co + 512 ≤ 1024) : ∀ a, (![0, co] : Fin 2 → ℕ) a + P1.size a ≤ Q1.size a := by
  intro a; fin_cases a
  · exact le_refl 1
  · exact h1

/-- The half of a row that starts at column `co`. -/
abbrev half (co : ℕ) (h1 : co + 512 ≤ 1024) : Rect Q1 := Rect.unit (s := Q1) ![0, co] P1.size (inbHalf h1)

theorem ld_slab {e : EltTy} {Val : EltTy → Type} {n ro co : ℕ} (h0 : ro + 16 ≤ n) (h1 : co + 512 ≤ 1024) (X : (Q n).Idx → Val e)
    (a : Fin 16) (b : Fin 512) :
    View.ld X (slab ro co h0 h1) (ix2 a b) = X (ix2 (⟨ro + a.val, by omega⟩ : Fin n) (⟨co + b.val, by omega⟩ : Fin 1024)) := by
  refine congrArg X ?_
  funext i; apply Fin.ext; fin_cases i
  · show ro + 1 * a.val = ro + a.val; omega
  · show co + 1 * b.val = co + b.val; omega

theorem ld_half {e : EltTy} {Val : EltTy → Type} {co : ℕ} (h1 : co + 512 ≤ 1024) (X : Q1.Idx → Val e) (a : Fin 1) (b : Fin 512) :
    View.ld X (half co h1) (ix2 a b) = X (ix2 (0 : Fin 1) (⟨co + b.val, by omega⟩ : Fin 1024)) := by
  refine congrArg X ?_
  funext i; apply Fin.ext; fin_cases i
  · show 0 + 1 * a.val = 0; omega
  · show co + 1 * b.val = co + b.val; omega

/-- Stores of slabs that reach every element leave the block whose slabs they are. -/
theorem canon_slabs {Val : EltTy → Type} [∀ e, Nonempty (Val e)] {e : EltTy} {N n : ℕ} (ro co : Fin N → ℕ)
    (h0 : ∀ k, ro k + 16 ≤ n) (h1 : ∀ k, co k + 512 ≤ 1024)
    (hcov : ∀ i j : ℕ, i < n → j < 1024 → ∃ k, (ro k ≤ i ∧ i < ro k + 16) ∧ co k ≤ j ∧ j < co k + 512)
    (P : Fin N → P16.Idx → Val e) (G : (Q n).Idx → Val e)
    (h : ∀ (k : Fin N) (a : Fin 16) (b : Fin 512), P k (ix2 a b) =
      G (ix2 (⟨ro k + a.val, by have := h0 k; omega⟩ : Fin n) (⟨co k + b.val, by have := h1 k; omega⟩ : Fin 1024))) :
    View.canon (List.ofFn fun k : Fin N => (⟨slab (ro k) (co k) (h0 k) (h1 k), P k⟩ : View.Piece Val (Q n) e)) = G := by
  funext y
  refine View.canon_ofFn_unit_eq_of_forall (S := Q n) (fun k : Fin N => ![ro k, co k]) P16.size
    (fun k => inbSlab (h0 k) (h1 k)) P y (G y) ?_ ?_
  · obtain ⟨k, hr, hc⟩ := hcov (y 0).val (y 1).val (y 0).isLt (y 1).isLt
    refine ⟨k, fun a => ?_⟩
    fin_cases a
    · exact hr
    · exact hc
  · intro k x hx
    have ex : x = ix2 (x 0) (x 1) := by funext a; fin_cases a <;> rfl
    rw [ex]
    refine (h k (x 0) (x 1)).trans (congrArg G ?_)
    funext a
    apply Fin.ext
    fin_cases a
    · exact (hx 0).symm
    · exact (hx 1).symm

/-- Two halves of a row. -/
def join {Val : EltTy → Type} {e : EltTy} (w0 w1 : P1.Idx → Val e) : Q1.Idx → Val e := fun y =>
  if h : (y 1).val < 512 then w0 (ix2 (0 : Fin 1) (⟨(y 1).val, h⟩ : Fin 512))
  else w1 (ix2 (0 : Fin 1) (⟨(y 1).val - 512, by have : (y 1).val < 1024 := (y 1).isLt; omega⟩ : Fin 512))

theorem canon_half_in {Val : EltTy → Type} [∀ e, Nonempty (Val e)] {e : EltTy} {co : ℕ} (h1 : co + 512 ≤ 1024) (w : P1.Idx → Val e)
    (L : List (View.Piece Val Q1 e)) (b : Fin 512) (y : Q1.Idx) (hy : (y 1).val = co + b.val) :
    View.canon (⟨half co h1, w⟩ :: L) y = w (ix2 (0 : Fin 1) b) := by
  have h0 : (y 0).val < 1 := (y 0).isLt
  have ey : (half co h1).emb (ix2 (0 : Fin 1) b) = y := by
    funext i; apply Fin.ext
    match i with
    | ⟨0, _⟩ => show 0 + 1 * 0 = (y 0).val; omega
    | ⟨1, _⟩ => show co + 1 * b.val = (y 1).val; omega
  subst ey
  exact View.canon_cons_emb (half co h1) w L _

theorem canon_half_out {Val : EltTy → Type} [∀ e, Nonempty (Val e)] {e : EltTy} {co : ℕ} (h1 : co + 512 ≤ 1024) (w : P1.Idx → Val e)
    (L : List (View.Piece Val Q1 e)) (y : Q1.Idx) (hy : (y 1).val < co) :
    View.canon (⟨half co h1, w⟩ :: L) y = View.canon L y := by
  refine View.canon_cons_of_not_mem _ _ fun hm => ?_
  have e : co ≤ (y 1).val := (Rect.mem_set_unit (s := Q1) (inb := inbHalf h1) |>.mp hm 1).1
  omega

/-- The stores of both halves of a row leave the two halves, whatever was stored before. -/
theorem canon_halves {Val : EltTy → Type} [∀ e, Nonempty (Val e)] {e : EltTy} (w0 w1 : P1.Idx → Val e)
    (L : List (View.Piece Val Q1 e)) :
    View.canon (⟨half 512 (by omega), w1⟩ :: ⟨half 0 (by omega), w0⟩ :: L) = join w0 w1 := by
  funext y
  have hy : (y 1).val < 1024 := (y 1).isLt
  by_cases h : (y 1).val < 512
  · refine ((canon_half_out _ w1 _ y h).trans (canon_half_in _ w0 L (⟨(y 1).val, h⟩ : Fin 512) y ?_)).trans ?_
    · exact (Nat.zero_add _).symm
    · unfold join; rw [dif_pos h]
  · refine (canon_half_in _ w1 _ (⟨(y 1).val - 512, by omega⟩ : Fin 512) y ?_).trans ?_
    · show (y 1).val = 512 + ((y 1).val - 512); omega
    · unfold join; rw [dif_neg h]

section Body
variable {F : FTy → Type} [FloatOps F]

/-- The slabs' two halves added to the running sums in turn, then summed over the eight rows. -/
def total {n : ℕ} (D : Fin n → FVec F P16 .f32) : FVec F P1 .f32 :=
  shapeCast P1 (multiReduction .add [0] ⟨1, ![512]⟩
    ((List.ofFn D).foldl (fun s d => addf s (addf (extractStridedSlice P8 ![0, 0] d (by decide)) (extractStridedSlice P8 ![8, 0] d (by decide))))
      (broadcast P8 (Scalar.ofBits .f32 0x00000000#32))) 0x00000000#32 (by decide) (.inl rfl) rfl) (by decide)

end Body

/-! ## Over the extended reals -/

open Cert.Sums

theorem ld_slab_f32 {n ro co : ℕ} (h0 : ro + 16 ≤ n) (h1 : co + 512 ≤ 1024) (X : Vec Ideal (Q n) .f32) (a : Fin 16) (b : Fin 512) :
    (View.ld X (slab ro co h0 h1) : FVec Ideal P16 .f32) (ix2 a b) = at2 X (ro + a.val) (co + b.val) :=
  (ld_slab h0 h1 X a b).trans (at2_of X _ _ _ _).symm

theorem ld_slab_bf16 {n ro co : ℕ} (h0 : ro + 16 ≤ n) (h1 : co + 512 ≤ 1024) (X : Vec Ideal (Q n) .bf16) (a : Fin 16) (b : Fin 512) :
    (View.ld X (slab ro co h0 h1) : FVec Ideal P16 .bf16) (ix2 a b) = at2 X (ro + a.val) (co + b.val) :=
  (ld_slab h0 h1 X a b).trans (at2_of X _ _ _ _).symm

theorem ld_half_f32 {co : ℕ} (h1 : co + 512 ≤ 1024) (X : Vec Ideal Q1 .f32) (a : Fin 1) (b : Fin 512) :
    (View.ld X (half co h1) : FVec Ideal P1 .f32) (ix2 a b) = at2 X 0 (co + b.val) :=
  (ld_half h1 X a b).trans (at2_of X _ _ (by decide) _).symm

theorem foldl_apply (L : List (FVec Ideal P16 .f32)) (z : FVec Ideal P8 .f32) (r : Fin 8) (b : Fin 512) :
    (L.foldl (fun s d => addf s (addf (extractStridedSlice P8 ![0, 0] d (by decide)) (extractStridedSlice P8 ![8, 0] d (by decide)))) z)
      (ix2 r b) = z (ix2 r b) + (L.map fun d => d (ix2 (⟨r.val, by omega⟩ : Fin 16) b) + d (ix2 (⟨8 + r.val, by omega⟩ : Fin 16) b)).sum := by
  induction L generalizing z with
  | nil => simp
  | cons d L ih =>
    rw [List.foldl_cons, ih, List.map_cons, List.sum_cons, ← add_assoc]
    refine congrArg (· + _) ?_
    pointwise

/-- The total at a column is the sum over all the slabs' rows. -/
theorem total_apply {n : ℕ} (D : Fin n → FVec Ideal P16 .f32) (a : Fin 1) (b : Fin 512) :
    total D (ix2 a b) = ∑ k : Fin n, ∑ r : Fin 16, D k (ix2 r b) := by
  unfold total
  pointwise [foldl_apply]
  simp only [List.map_ofFn, List.sum_ofFn, Function.comp_apply]
  rw [Finset.sum_comm]
  refine Finset.sum_congr rfl fun k _ => ?_
  rw [Finset.sum_add_distrib]
  exact (Fin.sum_univ_add (fun r : Fin (8 + 8) => D k (ix2 r b))).symm

end Cert.Slab

end
-- ==== Proof.MergeBwd.Points.lean ====
/- What one grid point of the merge's gradient leaves: the product's block is held, and slab by slab the two gates, the
   gradients of the two merged products and of the gates' logits are taken of it; the logits' gradients are also summed over
   the rows into a carried row. -/
module

public import proofs.«01_k».proof.Proof.Gen.Kernel4Ideal.Frame
public import proofs.«01_k».proof.Proof.Slab.Basic

@[expose] public section

set_option maxRecDepth 16384

noncomputable section

namespace Cert.MergeBwd

open Cert.Kernel4Ideal Cert.Kernel4Ideal.Gen Cert.RowNorm Cert.Slab
open Idealize.ShloMosaic Idealize.ShloMosaic.TcCoe Idealize.SL.Sem

variable {F : FTy → Type} [FloatOps F]

/-! ## One slab -/

/-- The gate of a slab of logits. -/
def gate16 (l : FVec F P16 .f32) (b : FVec F P1 .f32) : FVec F P16 .f32 :=
  logistic (addf l (broadcastTo P16 b (by decide)))

/-- The gradient of a merged product: the gate times the held product. -/
def dp16 (d l : FVec F P16 .f32) (b : FVec F P1 .f32) : FVec F P16 .bf16 :=
  truncf .bf16 (mulf (gate16 l b) d) (by decide)

/-- The gradient of the logits. -/
def dl16 (d : FVec F P16 .f32) (p : FVec F P16 .bf16) (l : FVec F P16 .f32) (b : FVec F P1 .f32) : FVec F P16 .f32 :=
  mulf (mulf d (extf .f32 (shapeCast P16 p (by decide)) (by decide)))
    (mulf (gate16 l b) (subf (broadcast P16 (Scalar.ofBits .f32 0x3F800000#32)) (gate16 l b)))

/-- Slab `k` from the end: its first row. -/
abbrev upR (k : Fin 64) : ℕ := 16 * (31 - k.val % 32)
/-- Its first column. -/
abbrev upC (k : Fin 64) : ℕ := 512 * (1 - k.val / 32)

theorem upR_le (k : Fin 64) : upR k + 16 ≤ 512 := by show 16 * (31 - k.val % 32) + 16 ≤ 512; omega
theorem upC_le (k : Fin 64) : upC k + 512 ≤ 1024 := by show 512 * (1 - k.val / 32) + 512 ≤ 1024; omega

/-- A slab's gradient of a merged product. -/
def dpAt (d l : Vec F (Q 512) .f32) (b : Vec F Q1 .f32) (ro co : ℕ) (h0 : ro + 16 ≤ 512) (h1 : co + 512 ≤ 1024) : FVec F P16 .bf16 :=
  dp16 (View.ld d (slab ro co h0 h1)) (View.ld l (slab ro co h0 h1)) (View.ld b (half co h1))

/-- A slab's gradient of the logits. -/
def dlAt (d : Vec F (Q 512) .f32) (p : Vec F (Q 512) .bf16) (l : Vec F (Q 512) .f32) (b : Vec F Q1 .f32) (ro co : ℕ)
    (h0 : ro + 16 ≤ 512) (h1 : co + 512 ≤ 1024) : FVec F P16 .f32 :=
  dl16 (View.ld d (slab ro co h0 h1)) (View.ld p (slab ro co h0 h1)) (View.ld l (slab ro co h0 h1)) (View.ld b (half co h1))

/-- The stores of all the slabs' gradients of a merged product, the last first. -/
abbrev dpStores (f : (ro co : ℕ) → ro + 16 ≤ 512 → co + 512 ≤ 1024 → FVec F P16 .bf16) : List (View.Piece (Elt F) (Q 512) .bf16) :=
  List.ofFn fun k : Fin 64 => ⟨slab (upR k) (upC k) (upR_le k) (upC_le k), f (upR k) (upC k) (upR_le k) (upC_le k)⟩

/-- The stores of all the slabs' gradients of the logits, rounded. -/
abbrev dlStores (f : (ro co : ℕ) → ro + 16 ≤ 512 → co + 512 ≤ 1024 → FVec F P16 .f32) : List (View.Piece (Elt F) (Q 512) .bf16) :=
  List.ofFn fun k : Fin 64 => ⟨slab (upR k) (upC k) (upR_le k) (upC_le k),
    truncf .bf16 (f (upR k) (upC k) (upR_le k) (upC_le k)) (by decide)⟩

theorem inR_le (k : Fin 32) : 16 * k.val + 16 ≤ 512 := by omega

/-- One half's sums. -/
def halfSum (f : (ro co : ℕ) → ro + 16 ≤ 512 → co + 512 ≤ 1024 → FVec F P16 .f32) (co : ℕ) (h1 : co + 512 ≤ 1024) : FVec F P1 .f32 :=
  total fun k : Fin 32 => f (16 * k.val) co (inR_le k) h1

/-- Half a carried row with the half's sums added. -/
def halfNext (z : Vec F P1 .f32) (f : (ro co : ℕ) → ro + 16 ≤ 512 → co + 512 ≤ 1024 → FVec F P16 .f32) (co : ℕ)
    (h1 : co + 512 ≤ 1024) : FVec F P1 .f32 :=
  addf (shapeCast P1 z (by decide)) (halfSum f co h1)

/-- The carried row with one point's sums added. -/
def sumNext (z : Vec F Q1 .f32) (f : (ro co : ℕ) → ro + 16 ≤ 512 → co + 512 ≤ 1024 → FVec F P16 .f32) : Vec F Q1 .f32 :=
  join (Val := Elt F) (e := .f32) (halfNext (View.ld z (half 0 (by omega))) f 0 (by omega))
    (halfNext (View.ld z (half 512 (by omega))) f 512 (by omega))

variable (m : (ℓ : Loc nD τ sig) → Buf (Elt F) ℓ)

/-- The held product. -/
abbrev dm (c : Dev nD) (t : Fin cfg0.N) : Vec F S512x1024 .f32 := k0_pay4 (iblk m c 0 t) (iblk m c 1 t)

/-- The store of the held product, as a run of the body finds it. -/
abbrev dmPiece (c : Dev nD) (t : Fin cfg0.N) : View.Piece (Elt F) (Q 512) .f32 :=
  ⟨Rect.unit ![0, 0] S512x1024.size inb_S512x1024_S512x1024_0_0, k0_pay4
    (View.readAt (Elt F) (ms0_0 t).view (Rect.unit ![0, 0] S512x2048.size inb_S512x2048_S512x2048_0_0).toLoadRect
      ((hs0_0 t).unread (iblk m c 0 t)))
    (View.readAt (Elt F) (ms0_1 t).view (Rect.unit ![0, 0] S1024x2048.size inb_S1024x2048_S1024x2048_0_0).toLoadRect
      ((hs0_1 t).unread (iblk m c 1 t)))⟩

theorem readCov_dm (c : Dev nD) (t : Fin cfg0.N) (r : Rect (Q 512)) :
    View.readCov (Val := Elt F) scM0_0.view [dmPiece m c t] r.toLoadRect = View.ld (dm m c t) r := by
  refine (View.readCov_fill _ _ _ _ r zero_off_apply).trans ?_
  refine congrArg (fun X => View.ld X r) ?_
  show k0_pay4 _ _ = k0_pay4 _ _
  rw [readAt_unread, readAt_unread, ld_zero, ld_zero]

/-- A slab of the first product's gradient as a run of the body finds it. -/
def dp0Found (c : Dev nD) (t : Fin cfg0.N) (ro co : ℕ) (h0 : ro + 16 ≤ 512) (h1 : co + 512 ≤ 1024) : FVec F P16 .bf16 :=
  dp16 (View.readCov (Val := Elt F) scM0_0.view [dmPiece m c t] (slab ro co h0 h1).toLoadRect)
    (View.readAt (Elt F) (ms0_4 t).view (slab ro co h0 h1).toLoadRect ((hs0_4 t).unread (iblk m c 4 t)))
    (View.readAt (Elt F) (ms0_6 t).view (half co h1).toLoadRect ((hs0_6 t).unread (iblk m c 6 t)))

/-- A slab of the first gate's logits' gradient, likewise. -/
def dl0Found (c : Dev nD) (t : Fin cfg0.N) (ro co : ℕ) (h0 : ro + 16 ≤ 512) (h1 : co + 512 ≤ 1024) : FVec F P16 .f32 :=
  dl16 (View.readCov (Val := Elt F) scM0_0.view [dmPiece m c t] (slab ro co h0 h1).toLoadRect)
    (View.readAt (Elt F) (ms0_2 t).view (slab ro co h0 h1).toLoadRect ((hs0_2 t).unread (iblk m c 2 t)))
    (View.readAt (Elt F) (ms0_4 t).view (slab ro co h0 h1).toLoadRect ((hs0_4 t).unread (iblk m c 4 t)))
    (View.readAt (Elt F) (ms0_6 t).view (half co h1).toLoadRect ((hs0_6 t).unread (iblk m c 6 t)))

theorem dp0Found_eq (c : Dev nD) (t : Fin cfg0.N) : dp0Found m c t = dpAt (dm m c t) (iblk m c 4 t) (iblk m c 6 t) := by
  funext ro co h0 h1
  unfold dp0Found dpAt
  rw [readCov_dm, readAt_unread, readAt_unread]

theorem dl0Found_eq (c : Dev nD) (t : Fin cfg0.N) :
    dl0Found m c t = dlAt (dm m c t) (iblk m c 2 t) (iblk m c 4 t) (iblk m c 6 t) := by
  funext ro co h0 h1
  unfold dl0Found dlAt
  rw [readCov_dm, readAt_unread, readAt_unread, readAt_unread]

/-- A slab of the second product's gradient as a run of the body finds it. -/
def dp1Found (c : Dev nD) (t : Fin cfg0.N) (ro co : ℕ) (h0 : ro + 16 ≤ 512) (h1 : co + 512 ≤ 1024) : FVec F P16 .bf16 :=
  dp16 (View.readCov (Val := Elt F) scM0_0.view [dmPiece m c t] (slab ro co h0 h1).toLoadRect)
    (View.readAt (Elt F) (ms0_5 t).view (slab ro co h0 h1).toLoadRect ((hs0_5 t).unread (iblk m c 5 t)))
    (View.readAt (Elt F) (ms0_7 t).view (half co h1).toLoadRect ((hs0_7 t).unread (iblk m c 7 t)))

/-- A slab of the second gate's logits' gradient, likewise. -/
def dl1Found (c : Dev nD) (t : Fin cfg0.N) (ro co : ℕ) (h0 : ro + 16 ≤ 512) (h1 : co + 512 ≤ 1024) : FVec F P16 .f32 :=
  dl16 (View.readCov (Val := Elt F) scM0_0.view [dmPiece m c t] (slab ro co h0 h1).toLoadRect)
    (View.readAt (Elt F) (ms0_3 t).view (slab ro co h0 h1).toLoadRect ((hs0_3 t).unread (iblk m c 3 t)))
    (View.readAt (Elt F) (ms0_5 t).view (slab ro co h0 h1).toLoadRect ((hs0_5 t).unread (iblk m c 5 t)))
    (View.readAt (Elt F) (ms0_7 t).view (half co h1).toLoadRect ((hs0_7 t).unread (iblk m c 7 t)))

theorem dp1Found_eq (c : Dev nD) (t : Fin cfg0.N) : dp1Found m c t = dpAt (dm m c t) (iblk m c 5 t) (iblk m c 7 t) := by
  funext ro co h0 h1
  unfold dp1Found dpAt
  rw [readCov_dm, readAt_unread, readAt_unread]

theorem dl1Found_eq (c : Dev nD) (t : Fin cfg0.N) :
    dl1Found m c t = dlAt (dm m c t) (iblk m c 3 t) (iblk m c 5 t) (iblk m c 7 t) := by
  funext ro co h0 h1
  unfold dl1Found dlAt
  rw [readCov_dm, readAt_unread, readAt_unread, readAt_unread]

/-- What the point before `t` left. -/
abbrev before (c : Dev nD) (t : Fin cfg0.N) :=
  outsAt0 m c (t.val - 1) (Nat.lt_of_le_of_lt (Nat.sub_le _ _) t.isLt)

/-- The row of zeros that a column tile's first point stores. -/
abbrev zeroRow : Vec F Q1 .f32 := broadcast Q1 (Scalar.ofBits .f32 0x00000000#32 : F .f32)

/-- Its store. -/
abbrev zeroPiece : View.Piece (Elt F) Q1 .f32 := ⟨Rect.unit ![0, 0] S1x1024.size inb_S1x1024_S1x1024_0_0, zeroRow⟩

theorem readCov_zero {κ : Kind} {sp : Space} (M : Memref sig κ sp Q1 .f32) (co : ℕ) (h1 : co + 512 ≤ 1024) :
    View.readCov (Val := Elt F) M.view [zeroPiece] (half co h1).toLoadRect = View.ld zeroRow (half co h1) :=
  View.readCov_fill _ _ _ _ (half co h1) zero_off_apply

/-- The load of a row's second half after the store of its first. -/
theorem readCov_second {κ : Kind} {sp : Space} (M : Memref sig κ sp Q1 .f32) (w : FVec F P1 .f32) :
    View.readCov (Val := Elt F) M.view [⟨half 0 (by omega), w⟩, zeroPiece] (half 512 (by omega)).toLoadRect =
      View.ld zeroRow (half 512 (by omega)) :=
  (View.readCov_skip _ _ _ _ _ (by decide)).trans (readCov_zero M 512 (by omega))

/-- What the last stores of a first point leave of a carried row. -/
theorem canon_first {κ : Kind} {sp : Space} (M : Memref sig κ sp Q1 .f32)
    (f : (ro co : ℕ) → ro + 16 ≤ 512 → co + 512 ≤ 1024 → FVec F P16 .f32) :
    View.canon [⟨half 512 (by omega), halfNext
        (View.readCov (Val := Elt F) M.view [⟨half 0 (by omega), halfNext
          (View.readCov (Val := Elt F) M.view [zeroPiece] (half 0 (by omega)).toLoadRect) f 0 (by omega)⟩, zeroPiece]
          (half 512 (by omega)).toLoadRect) f 512 (by omega)⟩,
      ⟨half 0 (by omega), halfNext (View.readCov (Val := Elt F) M.view [zeroPiece] (half 0 (by omega)).toLoadRect) f 0 (by omega)⟩,
      zeroPiece] = sumNext zeroRow f := by
  refine (canon_halves _ _ _).trans ?_
  rw [readCov_second, readCov_zero]
  rfl

/-- What the last stores of a later point leave of it. -/
theorem canon_later {κ : Kind} {sp : Space} (M : Memref sig κ sp Q1 .f32) (h : M.IsWhole) (z : Vec F Q1 .f32)
    (f : (ro co : ℕ) → ro + 16 ≤ 512 → co + 512 ≤ 1024 → FVec F P16 .f32) :
    View.canon [⟨half 512 (by omega), halfNext
        (View.readAt (Elt F) M.view (half 512 (by omega)).toLoadRect (h.unread z)) f 512 (by omega)⟩,
      ⟨half 0 (by omega), halfNext (View.readAt (Elt F) M.view (half 0 (by omega)).toLoadRect (h.unread z)) f 0 (by omega)⟩] =
      sumNext z f := by
  refine (canon_halves _ _ _).trans ?_
  rw [readAt_unread, readAt_unread]
  rfl

set_option maxHeartbeats 1600000 in
/-- The points that are not a column tile's first. -/
theorem outs_B (c : Dev nD) (t : Fin cfg0.N) (h0 : ¬t.val % 16 = 0) :
    outsAt0 m c t.val t.isLt =
      (View.canon (dpStores (dpAt (dm m c t) (iblk m c 4 t) (iblk m c 6 t))),
       View.canon (dpStores (dpAt (dm m c t) (iblk m c 5 t) (iblk m c 7 t))),
       View.canon (dlStores (dlAt (dm m c t) (iblk m c 2 t) (iblk m c 4 t) (iblk m c 6 t))),
       View.canon (dlStores (dlAt (dm m c t) (iblk m c 3 t) (iblk m c 5 t) (iblk m c 7 t))),
       sumNext (before m c t).2.2.2.2.1 (dlAt (dm m c t) (iblk m c 2 t) (iblk m c 4 t) (iblk m c 6 t)),
       sumNext (before m c t).2.2.2.2.2 (dlAt (dm m c t) (iblk m c 3 t) (iblk m c 5 t) (iblk m c 7 t))) := by
  rw [outsAt0_B m c t h0]
  unfold out0_B_8 out0_B_9 out0_B_10 out0_B_11 out0_B_12 out0_B_13
  simp only [View.read_writes_junk_eq_canon, ← dp0Found_eq, ← dp1Found_eq, ← dl0Found_eq, ← dl1Found_eq]
  generalize hr : kernelRun0_B (F := F) _ _ _ _ _ _ _ _ _ _ _ _ _ _ _ _ _ _ _ _ _ _ _ _ _ _ _ _ _ _ _ _ _ _ _ _ _ _ _ _ _ _ _ = r
  have e1 : r.1 = dpStores (dp0Found m c t) := by subst hr; sl_kernel_rfl
  have e2 : r.2.1 = dpStores (dp1Found m c t) := by subst hr; sl_kernel_rfl
  have e3 : r.2.2.1 = dlStores (dl0Found m c t) := by subst hr; sl_kernel_rfl
  have e4 : r.2.2.2.1 = dlStores (dl1Found m c t) := by subst hr; sl_kernel_rfl
  have e5 : r.2.2.2.2.1 = [⟨half 512 (by omega), halfNext
        (View.readAt (Elt F) (ms0_12 t).view (half 512 (by omega)).toLoadRect ((hs0_12 t).unread (before m c t).2.2.2.2.1))
        (dl0Found m c t) 512 (by omega)⟩,
      ⟨half 0 (by omega), halfNext
        (View.readAt (Elt F) (ms0_12 t).view (half 0 (by omega)).toLoadRect ((hs0_12 t).unread (before m c t).2.2.2.2.1))
        (dl0Found m c t) 0 (by omega)⟩] := by
    subst hr; sl_kernel_rfl
  have e6 : r.2.2.2.2.2.1 = [⟨half 512 (by omega), halfNext
        (View.readAt (Elt F) (ms0_13 t).view (half 512 (by omega)).toLoadRect ((hs0_13 t).unread (before m c t).2.2.2.2.2))
        (dl1Found m c t) 512 (by omega)⟩,
      ⟨half 0 (by omega), halfNext
        (View.readAt (Elt F) (ms0_13 t).view (half 0 (by omega)).toLoadRect ((hs0_13 t).unread (before m c t).2.2.2.2.2))
        (dl1Found m c t) 0 (by omega)⟩] := by
    subst hr; sl_kernel_rfl
  clear hr
  obtain ⟨L8, L9, L10, L11, L12, L13, hL⟩ := r
  dsimp only at e1 e2 e3 e4 e5 e6 ⊢
  clear hL
  subst e1 e2 e3 e4 e5 e6
  refine congrArg (Prod.mk _) (congrArg (Prod.mk _) (congrArg (Prod.mk _) (congrArg (Prod.mk _) (congrArg₂ Prod.mk ?_ ?_))))
  · exact canon_later (ms0_12 t) (hs0_12 t) _ _
  · exact canon_later (ms0_13 t) (hs0_13 t) _ _

set_option maxHeartbeats 1600000 in
/-- The points that are a column tile's first. -/
theorem outs_A (c : Dev nD) (t : Fin cfg0.N) (h0 : t.val % 16 = 0) :
    outsAt0 m c t.val t.isLt =
      (View.canon (dpStores (dpAt (dm m c t) (iblk m c 4 t) (iblk m c 6 t))),
       View.canon (dpStores (dpAt (dm m c t) (iblk m c 5 t) (iblk m c 7 t))),
       View.canon (dlStores (dlAt (dm m c t) (iblk m c 2 t) (iblk m c 4 t) (iblk m c 6 t))),
       View.canon (dlStores (dlAt (dm m c t) (iblk m c 3 t) (iblk m c 5 t) (iblk m c 7 t))),
       sumNext zeroRow (dlAt (dm m c t) (iblk m c 2 t) (iblk m c 4 t) (iblk m c 6 t)),
       sumNext zeroRow (dlAt (dm m c t) (iblk m c 3 t) (iblk m c 5 t) (iblk m c 7 t))) := by
  rw [outsAt0_A m c t h0]
  unfold out0_A_8 out0_A_9 out0_A_10 out0_A_11 out0_A_12 out0_A_13
  simp only [View.read_writes_junk_eq_canon, ← dp0Found_eq, ← dp1Found_eq, ← dl0Found_eq, ← dl1Found_eq]
  generalize hr : kernelRun0_A (F := F) _ _ _ _ _ _ _ _ _ _ _ _ _ _ _ _ _ _ _ _ _ _ _ _ _ _ _ _ _ _ _ _ _ _ _ _ _ _ _ _ _ = r
  have e1 : r.1 = dpStores (dp0Found m c t) := by subst hr; sl_kernel_rfl
  have e2 : r.2.1 = dpStores (dp1Found m c t) := by subst hr; sl_kernel_rfl
  have e3 : r.2.2.1 = dlStores (dl0Found m c t) := by subst hr; sl_kernel_rfl
  have e4 : r.2.2.2.1 = dlStores (dl1Found m c t) := by subst hr; sl_kernel_rfl
  have e5 : r.2.2.2.2.1 = [⟨half 512 (by omega), halfNext
        (View.readCov (Val := Elt F) (ms0_12 t).view [⟨half 0 (by omega), halfNext
          (View.readCov (Val := Elt F) (ms0_12 t).view [zeroPiece] (half 0 (by omega)).toLoadRect) (dl0Found m c t) 0 (by omega)⟩, zeroPiece]
          (half 512 (by omega)).toLoadRect) (dl0Found m c t) 512 (by omega)⟩,
      ⟨half 0 (by omega), halfNext (View.readCov (Val := Elt F) (ms0_12 t).view [zeroPiece] (half 0 (by omega)).toLoadRect)
        (dl0Found m c t) 0 (by omega)⟩, zeroPiece] := by
    subst hr; sl_kernel_rfl
  have e6 : r.2.2.2.2.2.1 = [⟨half 512 (by omega), halfNext
        (View.readCov (Val := Elt F) (ms0_13 t).view [⟨half 0 (by omega), halfNext
          (View.readCov (Val := Elt F) (ms0_13 t).view [zeroPiece] (half 0 (by omega)).toLoadRect) (dl1Found m c t) 0 (by omega)⟩, zeroPiece]
          (half 512 (by omega)).toLoadRect) (dl1Found m c t) 512 (by omega)⟩,
      ⟨half 0 (by omega), halfNext (View.readCov (Val := Elt F) (ms0_13 t).view [zeroPiece] (half 0 (by omega)).toLoadRect)
        (dl1Found m c t) 0 (by omega)⟩, zeroPiece] := by
    subst hr; sl_kernel_rfl
  clear hr
  obtain ⟨L8, L9, L10, L11, L12, L13, hL⟩ := r
  dsimp only at e1 e2 e3 e4 e5 e6 ⊢
  clear hL
  subst e1 e2 e3 e4 e5 e6
  refine congrArg (Prod.mk _) (congrArg (Prod.mk _) (congrArg (Prod.mk _) (congrArg (Prod.mk _) (congrArg₂ Prod.mk ?_ ?_))))
  · exact canon_first (ms0_12 t) _
  · exact canon_first (ms0_13 t) _

/-! ## One result at a time -/

theorem outs_dp0 (c : Dev nD) (t : Fin cfg0.N) : (outsAt0 m c t.val t.isLt).1 = View.canon (dpStores (dpAt (dm m c t) (iblk m c 4 t) (iblk m c 6 t))) := by
  by_cases h : t.val % 16 = 0
  · rw [outs_A m c t h]
  · rw [outs_B m c t h]

theorem outs_dp1 (c : Dev nD) (t : Fin cfg0.N) : (outsAt0 m c t.val t.isLt).2.1 = View.canon (dpStores (dpAt (dm m c t) (iblk m c 5 t) (iblk m c 7 t))) := by
  by_cases h : t.val % 16 = 0
  · rw [outs_A m c t h]
  · rw [outs_B m c t h]

theorem outs_dl0 (c : Dev nD) (t : Fin cfg0.N) : (outsAt0 m c t.val t.isLt).2.2.1 = View.canon (dlStores (dlAt (dm m c t) (iblk m c 2 t) (iblk m c 4 t) (iblk m c 6 t))) := by
  by_cases h : t.val % 16 = 0
  · rw [outs_A m c t h]
  · rw [outs_B m c t h]

theorem outs_dl1 (c : Dev nD) (t : Fin cfg0.N) : (outsAt0 m c t.val t.isLt).2.2.2.1 = View.canon (dlStores (dlAt (dm m c t) (iblk m c 3 t) (iblk m c 5 t) (iblk m c 7 t))) := by
  by_cases h : t.val % 16 = 0
  · rw [outs_A m c t h]
  · rw [outs_B m c t h]

theorem outs_A_db0 (c : Dev nD) (t : Fin cfg0.N) (h : t.val % 16 = 0) :
    (outsAt0 m c t.val t.isLt).2.2.2.2.1 = sumNext zeroRow (dlAt (dm m c t) (iblk m c 2 t) (iblk m c 4 t) (iblk m c 6 t)) := by
  rw [outs_A m c t h]

theorem outs_B_db0 (c : Dev nD) (t : Fin cfg0.N) (h : ¬t.val % 16 = 0) :
    (outsAt0 m c t.val t.isLt).2.2.2.2.1 = sumNext (before m c t).2.2.2.2.1 (dlAt (dm m c t) (iblk m c 2 t) (iblk m c 4 t) (iblk m c 6 t)) := by
  rw [outs_B m c t h]

theorem outs_A_db1 (c : Dev nD) (t : Fin cfg0.N) (h : t.val % 16 = 0) :
    (outsAt0 m c t.val t.isLt).2.2.2.2.2 = sumNext zeroRow (dlAt (dm m c t) (iblk m c 3 t) (iblk m c 5 t) (iblk m c 7 t)) := by
  rw [outs_A m c t h]

theorem outs_B_db1 (c : Dev nD) (t : Fin cfg0.N) (h : ¬t.val % 16 = 0) :
    (outsAt0 m c t.val t.isLt).2.2.2.2.2 = sumNext (before m c t).2.2.2.2.2 (dlAt (dm m c t) (iblk m c 3 t) (iblk m c 5 t) (iblk m c 7 t)) := by
  rw [outs_B m c t h]

end Cert.MergeBwd

end
-- ==== Proof.MergeBwd.Value.lean ====
/- What the merge's gradient leaves after every point, as expressions over its arguments' elements, and the arrays of it. -/
module

public import proofs.«01_k».proof.Proof.MergeBwd.Points
public import proofs.«01_k».proof.Proof.Gen.Kernel4Ideal.Value
public import Idealize.ShloMosaic.Lib.Pipeline.ValueKit.Geometry

@[expose] public section

set_option maxRecDepth 16384

noncomputable section

open scoped BigOperators

namespace Cert.MergeBwd

open Cert.Kernel4Ideal Cert.Kernel4Ideal.Gen Cert.RowNorm Cert.Sums Cert.Slab
open Idealize.ShloMosaic Idealize.ShloMosaic.TcCoe Idealize.SL.Sem

/-! ## One slab at an index -/

/-- A logit's gradient: of the held product `d`, the merged product `p` and the gate `g`. -/
def dlOf (d p g : EReal) : EReal := d * p * (g * (1 - g))

theorem dpAt_apply (d l : Vec Ideal (Q 512) .f32) (b : Vec Ideal Q1 .f32) (ro co : ℕ) (h0 : ro + 16 ≤ 512) (h1 : co + 512 ≤ 1024)
    (x : Fin 16) (y : Fin 512) :
    dpAt d l b ro co h0 h1 (ix2 x y) =
      Ideal.logistic (at2 l (ro + x.val) (co + y.val) + at2 b 0 (co + y.val)) * at2 d (ro + x.val) (co + y.val) := by
  rw [← ld_slab_f32 h0 h1, ← ld_slab_f32 h0 h1, ← ld_half_f32 h1 b 0 y]
  unfold dpAt dp16 gate16
  pointwise

theorem dlAt_apply (d : Vec Ideal (Q 512) .f32) (p : Vec Ideal (Q 512) .bf16) (l : Vec Ideal (Q 512) .f32) (b : Vec Ideal Q1 .f32)
    (ro co : ℕ) (h0 : ro + 16 ≤ 512) (h1 : co + 512 ≤ 1024) (x : Fin 16) (y : Fin 512) :
    dlAt d p l b ro co h0 h1 (ix2 x y) =
      dlOf (at2 d (ro + x.val) (co + y.val)) (at2 p (ro + x.val) (co + y.val))
        (Ideal.logistic (at2 l (ro + x.val) (co + y.val) + at2 b 0 (co + y.val))) := by
  rw [← ld_slab_f32 h0 h1, ← ld_slab_bf16 h0 h1, ← ld_slab_f32 h0 h1, ← ld_half_f32 h1 b 0 y]
  unfold dlAt dl16 gate16 dlOf
  pointwise

/-- The slabs cover a block. -/
theorem cover (i j : ℕ) (hi : i < 512) (hj : j < 1024) :
    ∃ k, (upR k ≤ i ∧ i < upR k + 16) ∧ upC k ≤ j ∧ j < upC k + 512 := by
  refine ⟨⟨32 * (1 - j / 512) + (31 - i / 16), by omega⟩, ?_⟩
  show (16 * (31 - (32 * (1 - j / 512) + (31 - i / 16)) % 32) ≤ i ∧ i < 16 * (31 - (32 * (1 - j / 512) + (31 - i / 16)) % 32) + 16)
    ∧ 512 * (1 - (32 * (1 - j / 512) + (31 - i / 16)) / 32) ≤ j ∧ j < 512 * (1 - (32 * (1 - j / 512) + (31 - i / 16)) / 32) + 512
  omega

/-- Stores of all the slabs of one function of row and column. -/
theorem dpStores_eq (f : (ro co : ℕ) → ro + 16 ≤ 512 → co + 512 ≤ 1024 → FVec Ideal P16 .bf16) (G : ℕ → ℕ → EReal)
    (h : ∀ ro co h0 h1 (x : Fin 16) (y : Fin 512), f ro co h0 h1 (ix2 x y) = G (ro + x.val) (co + y.val)) :
    View.canon (dpStores f) = fun y : (Q 512).Idx => G (y 0).val (y 1).val :=
  canon_slabs (Val := Elt Ideal) (e := .bf16) upR upC upR_le upC_le cover _ _ fun k a b => h _ _ (upR_le k) (upC_le k) a b

theorem dlStores_eq (f : (ro co : ℕ) → ro + 16 ≤ 512 → co + 512 ≤ 1024 → FVec Ideal P16 .f32) (G : ℕ → ℕ → EReal)
    (h : ∀ ro co h0 h1 (x : Fin 16) (y : Fin 512), f ro co h0 h1 (ix2 x y) = G (ro + x.val) (co + y.val)) :
    View.canon (dlStores f) = fun y : (Q 512).Idx => G (y 0).val (y 1).val :=
  canon_slabs (Val := Elt Ideal) (e := .bf16) upR upC upR_le upC_le cover _ _ fun k a b => h _ _ (upR_le k) (upC_le k) a b

theorem halfSum_apply (f : (ro co : ℕ) → ro + 16 ≤ 512 → co + 512 ≤ 1024 → FVec Ideal P16 .f32) (G : ℕ → ℕ → EReal)
    (h : ∀ ro co h0 h1 (x : Fin 16) (y : Fin 512), f ro co h0 h1 (ix2 x y) = G (ro + x.val) (co + y.val)) (co : ℕ) (h1 : co + 512 ≤ 1024)
    (b : Fin 512) : halfSum f co h1 (ix2 0 b) = ∑ r ∈ Finset.range 512, G r (co + b.val) := by
  unfold halfSum
  rw [total_apply]
  simp only [h]
  exact sum_runs 16 32 fun r => G r (co + b.val)

theorem sumNext_apply (z : Vec Ideal Q1 .f32) (f : (ro co : ℕ) → ro + 16 ≤ 512 → co + 512 ≤ 1024 → FVec Ideal P16 .f32) (G : ℕ → ℕ → EReal)
    (h : ∀ ro co h0 h1 (x : Fin 16) (y : Fin 512), f ro co h0 h1 (ix2 x y) = G (ro + x.val) (co + y.val)) (b : Fin 1024) :
    sumNext z f (ix2 0 b) = z (ix2 0 b) + ∑ r ∈ Finset.range 512, G r b.val := by
  have key : ∀ (co : ℕ) (h1 : co + 512 ≤ 1024) (y : Fin 512), b.val = co + y.val →
      halfNext (View.ld z (half co h1)) f co h1 (ix2 0 y) = z (ix2 0 b) + ∑ r ∈ Finset.range 512, G r b.val := by
    intro co h1 y e
    show _ + halfSum f co h1 (ix2 0 y) = _
    rw [halfSum_apply f G h, shapeCast_self, ld_half, e]
    exact congrArg (fun i => z (ix2 0 i) + _) (Fin.ext e.symm)
  by_cases hb : b.val < 512
  · refine Eq.trans ?_ (key 0 (by omega) ⟨b.val, hb⟩ (Nat.zero_add _).symm)
    unfold sumNext join
    exact dif_pos hb
  · refine Eq.trans ?_ (key 512 (by omega) ⟨b.val - 512, by omega⟩ (by show b.val = 512 + (b.val - 512); omega))
    unfold sumNext join
    exact dif_neg hb

theorem zeroRow_apply (b : Fin 1024) : (zeroRow : Vec Ideal Q1 .f32) (ix2 0 b) = 0 := by
  pointwise

theorem pay4_apply (a : Vec Ideal S512x2048 .bf16) (w : Vec Ideal S1024x2048 .bf16) (r : Fin 512) (b : Fin 1024) :
    k0_pay4 (F := Ideal) a w (ix2 r b) = ∑ j : Fin 2048, a (ix2 r j) * w (ix2 b j) := by
  unfold k0_pay4
  pointwise

variable (m : (ℓ : Loc nD τ sig) → Buf (Elt Ideal) ℓ)

/-! ## The windows' blocks -/

theorem lt_N (t : Fin cfg0.N) : t.val < 32 := t.isLt

theorem at0' : ∀ t : Fin cfg0.N, win0_0.index t 0 = t.val % 16 ∧ win0_0.index t 1 = 0 := by decide +kernel
theorem at1' : ∀ t : Fin cfg0.N, win0_1.index t 0 = t.val / 16 ∧ win0_1.index t 1 = 0 := by decide +kernel
theorem at2' : ∀ t : Fin cfg0.N, win0_2.index t 0 = t.val % 16 ∧ win0_2.index t 1 = t.val / 16 := by decide +kernel
theorem at3' : ∀ t : Fin cfg0.N, win0_3.index t 0 = t.val % 16 ∧ win0_3.index t 1 = t.val / 16 := by decide +kernel
theorem at4' : ∀ t : Fin cfg0.N, win0_4.index t 0 = t.val % 16 ∧ win0_4.index t 1 = 5 + t.val / 16 := by decide +kernel
theorem at5' : ∀ t : Fin cfg0.N, win0_5.index t 0 = t.val % 16 ∧ win0_5.index t 1 = 7 + t.val / 16 := by decide +kernel
theorem at6' : ∀ t : Fin cfg0.N, win0_6.index t 0 = 0 ∧ win0_6.index t 1 = t.val / 16 := by decide +kernel
theorem at7' : ∀ t : Fin cfg0.N, win0_7.index t 0 = 0 ∧ win0_7.index t 1 = 2 + t.val / 16 := by decide +kernel
theorem at8' : ∀ t : Fin cfg0.N, win0_8.index t 0 = t.val % 16 ∧ win0_8.index t 1 = t.val / 16 := by decide +kernel
theorem at9' : ∀ t : Fin cfg0.N, win0_9.index t 0 = t.val % 16 ∧ win0_9.index t 1 = t.val / 16 := by decide +kernel
theorem at10' : ∀ t : Fin cfg0.N, win0_10.index t 0 = t.val % 16 ∧ win0_10.index t 1 = t.val / 16 := by decide +kernel
theorem at11' : ∀ t : Fin cfg0.N, win0_11.index t 0 = t.val % 16 ∧ win0_11.index t 1 = t.val / 16 := by decide +kernel
theorem at12' : ∀ t : Fin cfg0.N, win0_12.index t 0 = 0 ∧ win0_12.index t 1 = t.val / 16 := by decide +kernel
theorem at13' : ∀ t : Fin cfg0.N, win0_13.index t 0 = 0 ∧ win0_13.index t 1 = t.val / 16 := by decide +kernel

/-- A block read at an index is the array read where the window's index map puts it. -/
theorem iblk0 (c : Dev nD) (t : Fin cfg0.N) (r : Fin 512) (j : Fin 2048) :
    (iblk m c 0 t : Vec Ideal S512x2048 .bf16) (ix2 r j) = at2 (V m c main_arg7) (512 * (t.val % 16) + r.val) (j.val) := by
  have ht := lt_N t
  rw [at2_of _ _ _ (by omega) (by omega)]
  unfold iblk
  rw [View.read_apply]
  show V m c main_arg7 _ = V m c main_arg7 _
  refine congrArg _ (funext fun a => Fin.ext ?_)
  match a with
  | ⟨0, _⟩ => show win0_0.index t 0 * 512 + 1 * r.val = 512 * (t.val % 16) + r.val; rw [(at0' t).1]; omega
  | ⟨1, _⟩ => show win0_0.index t 1 * 2048 + 1 * j.val = j.val; rw [(at0' t).2]; omega

theorem iblk1 (c : Dev nD) (t : Fin cfg0.N) (r : Fin 1024) (j : Fin 2048) :
    (iblk m c 1 t : Vec Ideal S1024x2048 .bf16) (ix2 r j) = at2 (V m c main_v6) (1024 * (t.val / 16) + r.val) (j.val) := by
  have ht := lt_N t
  rw [at2_of _ _ _ (by omega) (by omega)]
  unfold iblk
  rw [View.read_apply]
  show V m c main_v6 _ = V m c main_v6 _
  refine congrArg _ (funext fun a => Fin.ext ?_)
  match a with
  | ⟨0, _⟩ => show win0_1.index t 0 * 1024 + 1 * r.val = 1024 * (t.val / 16) + r.val; rw [(at1' t).1]; omega
  | ⟨1, _⟩ => show win0_1.index t 1 * 2048 + 1 * j.val = j.val; rw [(at1' t).2]; omega

theorem iblk2 (c : Dev nD) (t : Fin cfg0.N) (r : Fin 512) (j : Fin 1024) :
    (iblk m c 2 t : Vec Ideal S512x1024 .bf16) (ix2 r j) = at2 (V m c main_v2) (512 * (t.val % 16) + r.val) (1024 * (t.val / 16) + j.val) := by
  have ht := lt_N t
  rw [at2_of _ _ _ (by omega) (by omega)]
  unfold iblk
  rw [View.read_apply]
  show V m c main_v2 _ = V m c main_v2 _
  refine congrArg _ (funext fun a => Fin.ext ?_)
  match a with
  | ⟨0, _⟩ => show win0_2.index t 0 * 512 + 1 * r.val = 512 * (t.val % 16) + r.val; rw [(at2' t).1]; omega
  | ⟨1, _⟩ => show win0_2.index t 1 * 1024 + 1 * j.val = 1024 * (t.val / 16) + j.val; rw [(at2' t).2]; omega

theorem iblk3 (c : Dev nD) (t : Fin cfg0.N) (r : Fin 512) (j : Fin 1024) :
    (iblk m c 3 t : Vec Ideal S512x1024 .bf16) (ix2 r j) = at2 (V m c main_v5) (512 * (t.val % 16) + r.val) (1024 * (t.val / 16) + j.val) := by
  have ht := lt_N t
  rw [at2_of _ _ _ (by omega) (by omega)]
  unfold iblk
  rw [View.read_apply]
  show V m c main_v5 _ = V m c main_v5 _
  refine congrArg _ (funext fun a => Fin.ext ?_)
  match a with
  | ⟨0, _⟩ => show win0_3.index t 0 * 512 + 1 * r.val = 512 * (t.val % 16) + r.val; rw [(at3' t).1]; omega
  | ⟨1, _⟩ => show win0_3.index t 1 * 1024 + 1 * j.val = 1024 * (t.val / 16) + j.val; rw [(at3' t).2]; omega

theorem iblk4 (c : Dev nD) (t : Fin cfg0.N) (r : Fin 512) (j : Fin 1024) :
    (iblk m c 4 t : Vec Ideal S512x1024 .f32) (ix2 r j) = at2 (V m c main_arg4) (512 * (t.val % 16) + r.val) (1024 * (5 + t.val / 16) + j.val) := by
  have ht := lt_N t
  rw [at2_of _ _ _ (by omega) (by omega)]
  unfold iblk
  rw [View.read_apply]
  show V m c main_arg4 _ = V m c main_arg4 _
  refine congrArg _ (funext fun a => Fin.ext ?_)
  match a with
  | ⟨0, _⟩ => show win0_4.index t 0 * 512 + 1 * r.val = 512 * (t.val % 16) + r.val; rw [(at4' t).1]; omega
  | ⟨1, _⟩ => show win0_4.index t 1 * 1024 + 1 * j.val = 1024 * (5 + t.val / 16) + j.val; rw [(at4' t).2]; omega

theorem iblk5 (c : Dev nD) (t : Fin cfg0.N) (r : Fin 512) (j : Fin 1024) :
    (iblk m c 5 t : Vec Ideal S512x1024 .f32) (ix2 r j) = at2 (V m c main_arg4) (512 * (t.val % 16) + r.val) (1024 * (7 + t.val / 16) + j.val) := by
  have ht := lt_N t
  rw [at2_of _ _ _ (by omega) (by omega)]
  unfold iblk
  rw [View.read_apply]
  show V m c main_arg4 _ = V m c main_arg4 _
  refine congrArg _ (funext fun a => Fin.ext ?_)
  match a with
  | ⟨0, _⟩ => show win0_5.index t 0 * 512 + 1 * r.val = 512 * (t.val % 16) + r.val; rw [(at5' t).1]; omega
  | ⟨1, _⟩ => show win0_5.index t 1 * 1024 + 1 * j.val = 1024 * (7 + t.val / 16) + j.val; rw [(at5' t).2]; omega

theorem iblk6 (c : Dev nD) (t : Fin cfg0.N) (j : Fin 1024) :
    (iblk m c 6 t : Vec Ideal S1x1024 .f32) (ix2 0 j) = at2 (V m c main_arg5) (0) (1024 * (t.val / 16) + j.val) := by
  have ht := lt_N t
  rw [at2_of _ _ _ (by omega) (by omega)]
  unfold iblk
  rw [View.read_apply]
  show V m c main_arg5 _ = V m c main_arg5 _
  refine congrArg _ (funext fun a => Fin.ext ?_)
  match a with
  | ⟨0, _⟩ => show win0_6.index t 0 * 1 + 1 * 0 = 0; rw [(at6' t).1]
  | ⟨1, _⟩ => show win0_6.index t 1 * 1024 + 1 * j.val = 1024 * (t.val / 16) + j.val; rw [(at6' t).2]; omega

theorem iblk7 (c : Dev nD) (t : Fin cfg0.N) (j : Fin 1024) :
    (iblk m c 7 t : Vec Ideal S1x1024 .f32) (ix2 0 j) = at2 (V m c main_arg5) (0) (1024 * (2 + t.val / 16) + j.val) := by
  have ht := lt_N t
  rw [at2_of _ _ _ (by omega) (by omega)]
  unfold iblk
  rw [View.read_apply]
  show V m c main_arg5 _ = V m c main_arg5 _
  refine congrArg _ (funext fun a => Fin.ext ?_)
  match a with
  | ⟨0, _⟩ => show win0_7.index t 0 * 1 + 1 * 0 = 0; rw [(at7' t).1]
  | ⟨1, _⟩ => show win0_7.index t 1 * 1024 + 1 * j.val = 1024 * (2 + t.val / 16) + j.val; rw [(at7' t).2]; omega

/-! ## The values -/

/-- The product that all the results are made of, in row `R` and column `C`. -/
def prod (c : Dev nD) (R C : ℕ) : EReal := ∑ j : Fin 2048, at2 (V m c main_arg7) R j.val * at2 (V m c main_v6) C j.val

/-- The gate whose logits start at column `5120 + o`. -/
def gate (c : Dev nD) (o R C : ℕ) : EReal :=
  Ideal.logistic (at2 (V m c main_arg4) R (5120 + o + C) + at2 (V m c main_arg5) 0 (o + C))

/-- A merged product's gradient. -/
def dpV (c : Dev nD) (o R C : ℕ) : EReal := gate m c o R C * prod m c R C

/-- The first logits' gradient. -/
def dl0V (c : Dev nD) (R C : ℕ) : EReal := dlOf (prod m c R C) (at2 (V m c main_v2) R C) (gate m c 0 R C)
/-- The second logits' gradient. -/
def dl1V (c : Dev nD) (R C : ℕ) : EReal := dlOf (prod m c R C) (at2 (V m c main_v5) R C) (gate m c 2048 R C)

theorem dm_apply (c : Dev nD) (t : Fin cfg0.N) (r b : ℕ) (hr : r < 512) (hb : b < 1024) :
    at2 (dm m c t) r b = prod m c (512 * (t.val % 16) + r) (1024 * (t.val / 16) + b) := by
  rw [at2_of _ _ _ hr hb]
  refine (pay4_apply _ _ _ _).trans ?_
  unfold prod
  refine Finset.sum_congr rfl fun j _ => ?_
  rw [iblk0, iblk1]

theorem gate0_apply (c : Dev nD) (t : Fin cfg0.N) (r b : ℕ) (hr : r < 512) (hb : b < 1024) :
    Ideal.logistic (at2 (n0 := 512) (n1 := 1024) (iblk m c 4 t) r b + at2 (n0 := 1) (n1 := 1024) (iblk m c 6 t) 0 b) =
      gate m c 0 (512 * (t.val % 16) + r) (1024 * (t.val / 16) + b) := by
  rw [at2_of _ _ _ hr hb, at2_of _ _ _ (by decide) hb]
  refine congrArg Ideal.logistic (congrArg₂ (· + ·) ((iblk4 m c t ⟨r, hr⟩ ⟨b, hb⟩).trans ?_) ((iblk6 m c t ⟨b, hb⟩).trans ?_))
  · exact congrArg (at2 _ _) (by show 1024 * (5 + t.val / 16) + b = 5120 + 0 + (1024 * (t.val / 16) + b); omega)
  · exact congrArg (at2 _ _) (by show 1024 * (t.val / 16) + b = 0 + (1024 * (t.val / 16) + b); omega)

theorem dp0_eq (c : Dev nD) (t : Fin cfg0.N) (ro co h0 h1) (x : Fin 16) (y : Fin 512) :
    dpAt (dm m c t) (iblk m c 4 t) (iblk m c 6 t) ro co h0 h1 (ix2 x y) =
      dpV m c 0 (512 * (t.val % 16) + (ro + x.val)) (1024 * (t.val / 16) + (co + y.val)) := by
  rw [dpAt_apply, dm_apply _ _ _ _ _ (by omega) (by omega)]
  exact congrArg (· * _) (gate0_apply m c t _ _ (by omega) (by omega))

theorem dl0_eq (c : Dev nD) (t : Fin cfg0.N) (ro co h0 h1) (x : Fin 16) (y : Fin 512) :
    dlAt (dm m c t) (iblk m c 2 t) (iblk m c 4 t) (iblk m c 6 t) ro co h0 h1 (ix2 x y) =
      dl0V m c (512 * (t.val % 16) + (ro + x.val)) (1024 * (t.val / 16) + (co + y.val)) := by
  rw [dlAt_apply, dm_apply _ _ _ _ _ (by omega) (by omega)]
  refine congrArg₂ (dlOf _) ?_ (gate0_apply m c t _ _ (by omega) (by omega))
  rw [at2_of _ _ _ (by omega) (by omega)]
  exact iblk2 m c t ⟨ro + x.val, by omega⟩ ⟨co + y.val, by omega⟩

theorem gate1_apply (c : Dev nD) (t : Fin cfg0.N) (r b : ℕ) (hr : r < 512) (hb : b < 1024) :
    Ideal.logistic (at2 (n0 := 512) (n1 := 1024) (iblk m c 5 t) r b + at2 (n0 := 1) (n1 := 1024) (iblk m c 7 t) 0 b) =
      gate m c 2048 (512 * (t.val % 16) + r) (1024 * (t.val / 16) + b) := by
  rw [at2_of _ _ _ hr hb, at2_of _ _ _ (by decide) hb]
  refine congrArg Ideal.logistic (congrArg₂ (· + ·) ((iblk5 m c t ⟨r, hr⟩ ⟨b, hb⟩).trans ?_) ((iblk7 m c t ⟨b, hb⟩).trans ?_))
  · exact congrArg (at2 _ _) (by show 1024 * (7 + t.val / 16) + b = 5120 + 2048 + (1024 * (t.val / 16) + b); omega)
  · exact congrArg (at2 _ _) (by show 1024 * (2 + t.val / 16) + b = 2048 + (1024 * (t.val / 16) + b); omega)

theorem dp1_eq (c : Dev nD) (t : Fin cfg0.N) (ro co h0 h1) (x : Fin 16) (y : Fin 512) :
    dpAt (dm m c t) (iblk m c 5 t) (iblk m c 7 t) ro co h0 h1 (ix2 x y) =
      dpV m c 2048 (512 * (t.val % 16) + (ro + x.val)) (1024 * (t.val / 16) + (co + y.val)) := by
  rw [dpAt_apply, dm_apply _ _ _ _ _ (by omega) (by omega)]
  exact congrArg (· * _) (gate1_apply m c t _ _ (by omega) (by omega))

theorem dl1_eq (c : Dev nD) (t : Fin cfg0.N) (ro co h0 h1) (x : Fin 16) (y : Fin 512) :
    dlAt (dm m c t) (iblk m c 3 t) (iblk m c 5 t) (iblk m c 7 t) ro co h0 h1 (ix2 x y) =
      dl1V m c (512 * (t.val % 16) + (ro + x.val)) (1024 * (t.val / 16) + (co + y.val)) := by
  rw [dlAt_apply, dm_apply _ _ _ _ _ (by omega) (by omega)]
  refine congrArg₂ (dlOf _) ?_ (gate1_apply m c t _ _ (by omega) (by omega))
  rw [at2_of _ _ _ (by omega) (by omega)]
  exact iblk3 m c t ⟨ro + x.val, by omega⟩ ⟨co + y.val, by omega⟩

/-! ## What the points leave -/

theorem dp0_block (c : Dev nD) (t : Fin cfg0.N) :
    (outsAt0 m c t.val t.isLt).1 = fun y : (Q 512).Idx => dpV m c 0 (512 * (t.val % 16) + (y 0).val) (1024 * (t.val / 16) + (y 1).val) := by
  rw [outs_dp0]
  exact dpStores_eq _ (fun r b => dpV m c 0 (512 * (t.val % 16) + r) (1024 * (t.val / 16) + b)) (dp0_eq m c t)

theorem dp1_block (c : Dev nD) (t : Fin cfg0.N) :
    (outsAt0 m c t.val t.isLt).2.1 = fun y : (Q 512).Idx => dpV m c 2048 (512 * (t.val % 16) + (y 0).val) (1024 * (t.val / 16) + (y 1).val) := by
  rw [outs_dp1]
  exact dpStores_eq _ (fun r b => dpV m c 2048 (512 * (t.val % 16) + r) (1024 * (t.val / 16) + b)) (dp1_eq m c t)

theorem dl0_block (c : Dev nD) (t : Fin cfg0.N) :
    (outsAt0 m c t.val t.isLt).2.2.1 = fun y : (Q 512).Idx => dl0V m c (512 * (t.val % 16) + (y 0).val) (1024 * (t.val / 16) + (y 1).val) := by
  rw [outs_dl0]
  exact dlStores_eq _ (fun r b => dl0V m c (512 * (t.val % 16) + r) (1024 * (t.val / 16) + b)) (dl0_eq m c t)

theorem dl1_block (c : Dev nD) (t : Fin cfg0.N) :
    (outsAt0 m c t.val t.isLt).2.2.2.1 = fun y : (Q 512).Idx => dl1V m c (512 * (t.val % 16) + (y 0).val) (1024 * (t.val / 16) + (y 1).val) := by
  rw [outs_dl1]
  exact dlStores_eq _ (fun r b => dl1V m c (512 * (t.val % 16) + r) (1024 * (t.val / 16) + b)) (dl1_eq m c t)

/-- The carried rows after point `n`: sums over all the rows visited so far. -/
def Inv (c : Dev nD) (n : ℕ) (z0 z1 : Vec Ideal Q1 .f32) : Prop :=
  ∀ b : Fin 1024, z0 (ix2 0 b) = ∑ R ∈ Finset.range (512 * (n % 16 + 1)), dl0V m c R (1024 * (n / 16) + b.val)
    ∧ z1 (ix2 0 b) = ∑ R ∈ Finset.range (512 * (n % 16 + 1)), dl1V m c R (1024 * (n / 16) + b.val)

theorem inv_step (c : Dev nD) (t : Fin cfg0.N)
    (ih : ∀ (n : ℕ) (h : n < cfg0.N), n + 1 = t.val → Inv m c n (outsAt0 m c n h).2.2.2.2.1 (outsAt0 m c n h).2.2.2.2.2) :
    Inv m c t.val (outsAt0 m c t.val t.isLt).2.2.2.2.1 (outsAt0 m c t.val t.isLt).2.2.2.2.2 := by
  have ht := lt_N t
  intro b
  have s0 := fun z => sumNext_apply z _ (fun r b => dl0V m c (512 * (t.val % 16) + r) (1024 * (t.val / 16) + b)) (dl0_eq m c t) b
  have s1 := fun z => sumNext_apply z _ (fun r b => dl1V m c (512 * (t.val % 16) + r) (1024 * (t.val / 16) + b)) (dl1_eq m c t) b
  by_cases h : t.val % 16 = 0
  · rw [outs_A_db0 m c t h, outs_A_db1 m c t h]
    refine ⟨(s0 zeroRow).trans ?_, (s1 zeroRow).trans ?_⟩ <;>
    · rw [zeroRow_apply, zero_add, h]
      simp
  · rw [outs_B_db0 m c t h, outs_B_db1 m c t h]
    have ih := ih (t.val - 1) (by omega) (by omega) b
    have e1 : (t.val - 1) % 16 + 1 = t.val % 16 := by omega
    have e2 : (t.val - 1) / 16 = t.val / 16 := by omega
    rw [e1, e2] at ih
    refine ⟨(s0 _).trans ?_, (s1 _).trans ?_⟩
    · rw [ih.1, Nat.mul_succ, Finset.sum_range_add]
    · rw [ih.2, Nat.mul_succ, Finset.sum_range_add]

theorem inv_all (c : Dev nD) (n : ℕ) : ∀ h : n < cfg0.N, Inv m c n (outsAt0 m c n h).2.2.2.2.1 (outsAt0 m c n h).2.2.2.2.2 := by
  induction n with
  | zero => exact fun h => inv_step m c ⟨0, h⟩ fun n _ e => absurd e (Nat.succ_ne_zero n)
  | succ n ih =>
    intro h
    refine inv_step m c ⟨n + 1, h⟩ fun k hk e => ?_
    obtain rfl : k = n := Nat.succ.inj e
    exact ih hk

/-! ## The arrays after the run -/

theorem dp0_array (c : Dev nD) :
    (dats m 0 c).arrAt 8 cfg0.N = fun z : S8192x2048.Idx => dpV m c 0 (z 0).val (z 1).val := by
  refine (dats m 0 c).arrAt_eq_of_covers 8 _ (by decide +kernel) fun t hf y => ?_
  blk_simp
  rw [after0_8, dp0_block]
  refine congrArg₂ (dpV m c 0) ?_ ?_
  · rw [(at8' t).1]; show 512 * _ + _ = _ * 512 + _; omega
  · rw [(at8' t).2]; show 1024 * _ + _ = _ * 1024 + _; omega

theorem dp1_array (c : Dev nD) :
    (dats m 0 c).arrAt 9 cfg0.N = fun z : S8192x2048.Idx => dpV m c 2048 (z 0).val (z 1).val := by
  refine (dats m 0 c).arrAt_eq_of_covers 9 _ (by decide +kernel) fun t hf y => ?_
  blk_simp
  rw [after0_9, dp1_block]
  refine congrArg₂ (dpV m c 2048) ?_ ?_
  · rw [(at9' t).1]; show 512 * _ + _ = _ * 512 + _; omega
  · rw [(at9' t).2]; show 1024 * _ + _ = _ * 1024 + _; omega

theorem dl0_array (c : Dev nD) :
    (dats m 0 c).arrAt 10 cfg0.N = fun z : S8192x2048.Idx => dl0V m c (z 0).val (z 1).val := by
  refine (dats m 0 c).arrAt_eq_of_covers 10 _ (by decide +kernel) fun t hf y => ?_
  blk_simp
  rw [after0_10, dl0_block]
  refine congrArg₂ (dl0V m c) ?_ ?_
  · rw [(at10' t).1]; show 512 * _ + _ = _ * 512 + _; omega
  · rw [(at10' t).2]; show 1024 * _ + _ = _ * 1024 + _; omega

theorem dl1_array (c : Dev nD) :
    (dats m 0 c).arrAt 11 cfg0.N = fun z : S8192x2048.Idx => dl1V m c (z 0).val (z 1).val := by
  refine (dats m 0 c).arrAt_eq_of_covers 11 _ (by decide +kernel) fun t hf y => ?_
  blk_simp
  rw [after0_11, dl1_block]
  refine congrArg₂ (dl1V m c) ?_ ?_
  · rw [(at11' t).1]; show 512 * _ + _ = _ * 512 + _; omega
  · rw [(at11' t).2]; show 1024 * _ + _ = _ * 1024 + _; omega

theorem last12 : ∀ t : Fin cfg0.N, (cfg0.win 12).flush t = true → t.val % 16 = 15 := by decide +kernel

theorem db0_array (c : Dev nD) :
    (dats m 0 c).arrAt 12 cfg0.N = fun z : S1x2048.Idx => ∑ R ∈ Finset.range 8192, dl0V m c R (z 1).val := by
  refine (dats m 0 c).arrAt_eq_of_covers 12 _ (by decide +kernel) fun t hf y => ?_
  have h15 := last12 t hf
  blk_simp
  rw [after0_12]
  have hy : (y 0).val < 1 := (y 0).isLt
  have ey : y = ix2 (0 : Fin 1) (y 1) := by
    funext a
    match a with
    | ⟨0, _⟩ => exact Fin.ext (by show (y 0).val = 0; omega)
    | ⟨1, _⟩ => rfl
  have e := (inv_all m c t.val t.isLt (y 1)).1
  rw [h15] at e
  conv_lhs => rw [ey]
  refine e.trans (Finset.sum_congr rfl fun R _ => congrArg (dl0V m c R) ?_)
  rw [(at12' t).2]; show 1024 * _ + _ = _ * 1024 + _; omega

theorem last13 : ∀ t : Fin cfg0.N, (cfg0.win 13).flush t = true → t.val % 16 = 15 := by decide +kernel

theorem db1_array (c : Dev nD) :
    (dats m 0 c).arrAt 13 cfg0.N = fun z : S1x2048.Idx => ∑ R ∈ Finset.range 8192, dl1V m c R (z 1).val := by
  refine (dats m 0 c).arrAt_eq_of_covers 13 _ (by decide +kernel) fun t hf y => ?_
  have h15 := last13 t hf
  blk_simp
  rw [after0_13]
  have hy : (y 0).val < 1 := (y 0).isLt
  have ey : y = ix2 (0 : Fin 1) (y 1) := by
    funext a
    match a with
    | ⟨0, _⟩ => exact Fin.ext (by show (y 0).val = 0; omega)
    | ⟨1, _⟩ => rfl
  have e := (inv_all m c t.val t.isLt (y 1)).2
  rw [h15] at e
  conv_lhs => rw [ey]
  refine e.trans (Finset.sum_congr rfl fun R _ => congrArg (dl1V m c R) ?_)
  rw [(at13' t).2]; show 1024 * _ + _ = _ * 1024 + _; omega

end Cert.MergeBwd

end
-- ==== Proof.MergeBwd.Reference.lean ====
/- The merge's gradient: the host lines and their chain rule give the same expressions of the arguments' elements. -/
module

public import proofs.«01_k».proof.Proof.MergeBwd.Value
public import proofs.«01_k».proof.Proof.Gen.Reference4Ideal.Run

@[expose] public section

set_option maxRecDepth 16384

noncomputable section

open scoped BigOperators

namespace Cert.MergeBwd

open Cert.Sums
open Idealize.ShloMosaic Idealize.ShloMosaic.TcCoe Idealize.SL.Sem

/-- Rows of the model, rows of both gates' logits, one row of them, and all the projected rows. -/
abbrev H : Shape := ⟨2, ![8192, 2048]⟩
abbrev H2 : Shape := ⟨2, ![8192, 4096]⟩
abbrev H1 : Shape := ⟨2, ![1, 4096]⟩
abbrev HP : Shape := ⟨2, ![8192, 9216]⟩
abbrev HW : Shape := ⟨2, ![2048, 2048]⟩
abbrev A3 : Shape := ⟨3, ![8192, 2, 2048]⟩
abbrev B3 : Shape := ⟨3, ![8192, 1, 2048]⟩
abbrev Z0 : Shape := ⟨0, ![]⟩

section Lines
variable {F : FTy → Type} [FloatOps F]

abbrev oneH : FVec F H2 .f32 := broadcastInDim H2 ![] (by decide) (constant Z0 .f32 0x3F800000#32)

/-- Both gates. -/
def gateH (l : FVec F HP .f32) (b : FVec F H1 .f32) : FVec F H2 .f32 :=
  Host.divf oneH (addf oneH (Host.exp (Host.negf (addf (extractStridedSlice H2 ![0, 5120] l (by decide))
    (broadcastInDim H2 ![0, 1] (by decide) (broadcastInDim H1 ![1] (by decide) (shapeCast ⟨1, ![4096]⟩ b (by decide))))))))

/-- The gradient of a merged product: one of the gates times the product's gradient. -/
def dpH0 (g : FVec F H2 .f32) (d : FVec F H .f32) : FVec F H .bf16 :=
  truncf .bf16 (mulf (shapeCast H (extractStridedSlice B3 ![0, 0, 0] (shapeCast A3 g (by decide)) (by decide)) (by decide)) d) (by decide)
def dpH1 (g : FVec F H2 .f32) (d : FVec F H .f32) : FVec F H .bf16 :=
  truncf .bf16 (mulf (shapeCast H (extractStridedSlice B3 ![0, 1, 0] (shapeCast A3 g (by decide)) (by decide)) (by decide)) d) (by decide)

/-- The logits' gradients, both gates' together. -/
def dlH (g : FVec F H2 .f32) (d p q : FVec F H .f32) : FVec F H2 .f32 :=
  mulf (shapeCast H2 (addf
      (pad A3 ![0, 1, 0] ![0, 0, 0] ![0, 0, 0] (broadcastInDim B3 ![0, 2] (by decide) (mulf d q)) (constant Z0 .f32 0x00000000#32) (by decide) (by decide))
      (pad A3 ![0, 0, 0] ![0, 1, 0] ![0, 0, 0] (broadcastInDim B3 ![0, 2] (by decide) (mulf d p)) (constant Z0 .f32 0x00000000#32) (by decide) (by decide)))
    (by decide)) (mulf g (subf oneH g))

def dlH0 (x : FVec F H2 .f32) : FVec F H .bf16 := truncf .bf16 (extractStridedSlice H ![0, 0] x (by decide)) (by decide)
def dlH1 (x : FVec F H2 .f32) : FVec F H .bf16 := truncf .bf16 (extractStridedSlice H ![0, 2048] x (by decide)) (by decide)

/-- Their sums over the rows. -/
def dbH (x : FVec F H2 .f32) : FVec F ⟨1, ![4096]⟩ .f32 :=
  Host.reduceAdd (t := ⟨1, ![4096]⟩) (axes := [0]) (shapeCast H1 (Host.reduceAdd (t := ⟨1, ![4096]⟩) (axes := [0]) x
    (constant Z0 .f32 0x00000000#32) (by decide) (by decide)) (by decide)) (constant Z0 .f32 0x00000000#32) (by decide) (by decide)
def dbH0 (x : FVec F H2 .f32) : FVec F ⟨2, ![1, 2048]⟩ .f32 :=
  broadcastInDim ⟨2, ![1, 2048]⟩ ![1] (by decide) (extractStridedSlice ⟨1, ![2048]⟩ ![0] (dbH x) (by decide))
def dbH1 (x : FVec F H2 .f32) : FVec F ⟨2, ![1, 2048]⟩ .f32 :=
  broadcastInDim ⟨2, ![1, 2048]⟩ ![1] (by decide) (extractStridedSlice ⟨1, ![2048]⟩ ![2048] (dbH x) (by decide))

end Lines

/-! ## The lines at an index -/

theorem gateH_apply (l : FVec Ideal HP .f32) (b : FVec Ideal H1 .f32) (R : Fin 8192) (C : Fin 4096) :
    gateH l b (ix2 R C) = Ideal.logistic (l (ix2 R (⟨5120 + C.val, by omega⟩ : Fin 9216)) + b (ix2 0 C)) := by
  unfold gateH oneH
  pointwise
  rfl

theorem dpH0_apply (g : FVec Ideal H2 .f32) (d : FVec Ideal H .f32) (R : Fin 8192) (b : Fin 2048) :
    dpH0 g d (ix2 R b) = g (ix2 R (⟨b.val, by omega⟩ : Fin 4096)) * d (ix2 R b) := by
  unfold dpH0
  pointwise

theorem dpH1_apply (g : FVec Ideal H2 .f32) (d : FVec Ideal H .f32) (R : Fin 8192) (b : Fin 2048) :
    dpH1 g d (ix2 R b) = g (ix2 R (⟨2048 + b.val, by omega⟩ : Fin 4096)) * d (ix2 R b) := by
  unfold dpH1
  pointwise

theorem dlH_apply0 (g : FVec Ideal H2 .f32) (d p q : FVec Ideal H .f32) (R : Fin 8192) (b : Fin 2048) :
    dlH g d p q (ix2 R (⟨b.val, by omega⟩ : Fin 4096)) = dlOf (d (ix2 R b)) (p (ix2 R b)) (g (ix2 R (⟨b.val, by omega⟩ : Fin 4096))) := by
  unfold dlH dlOf oneH
  pointwise
  have hb := b.isLt
  simp (disch := omega) only [dif_pos, dif_neg, zero_add, add_zero, Nat.mod_eq_of_lt hb]

theorem dlH_apply1 (g : FVec Ideal H2 .f32) (d p q : FVec Ideal H .f32) (R : Fin 8192) (b : Fin 2048) :
    dlH g d p q (ix2 R (⟨2048 + b.val, by omega⟩ : Fin 4096)) =
      dlOf (d (ix2 R b)) (q (ix2 R b)) (g (ix2 R (⟨2048 + b.val, by omega⟩ : Fin 4096))) := by
  unfold dlH dlOf oneH
  pointwise
  simp (disch := omega) only [dif_pos, dif_neg, zero_add, add_zero]

theorem dlH0_apply (x : FVec Ideal H2 .f32) (R : Fin 8192) (b : Fin 2048) : dlH0 x (ix2 R b) = x (ix2 R (⟨b.val, by omega⟩ : Fin 4096)) := by
  unfold dlH0
  pointwise

theorem dlH1_apply (x : FVec Ideal H2 .f32) (R : Fin 8192) (b : Fin 2048) :
    dlH1 x (ix2 R b) = x (ix2 R (⟨2048 + b.val, by omega⟩ : Fin 4096)) := by
  unfold dlH1
  pointwise

theorem dbH0_apply (x : FVec Ideal H2 .f32) (b : Fin 2048) : dbH0 x (ix2 0 b) = ∑ R : Fin 8192, x (ix2 R (⟨b.val, by omega⟩ : Fin 4096)) := by
  unfold dbH0 dbH
  pointwise
  exact Fin.sum_univ_one _

theorem dbH1_apply (x : FVec Ideal H2 .f32) (b : Fin 2048) :
    dbH1 x (ix2 0 b) = ∑ R : Fin 8192, x (ix2 R (⟨2048 + b.val, by omega⟩ : Fin 4096)) := by
  unfold dbH1 dbH
  pointwise
  exact Fin.sum_univ_one _

section Results
open Cert.Reference4Ideal Cert.Reference4Ideal.Gen
variable {F : FTy → Type} [FloatOps F]

/-- The three products. -/
def prodH (d : FVec F H .bf16) (w : FVec F HW .f32) : FVec F H .f32 :=
  Host.dotGeneral dot_S8192x2048_S2048x2048_S8192x2048_1_1_0_0_n_n none (extf .f32 d (by decide)) w
def poolH (x : FVec F ⟨2, ![8192, 1024]⟩ .bf16) (w : FVec F ⟨2, ![1024, 2048]⟩ .f32) : FVec F H .f32 :=
  Host.dotGeneral dot_S8192x1024_S1024x2048_S8192x2048_1_0_0_1_n_n none (extf .f32 x (by decide)) w
def lruH (x : FVec F H .bf16) (w : FVec F HW .f32) : FVec F H .f32 :=
  Host.dotGeneral dot_S8192x2048_S2048x2048_S8192x2048_1_0_0_1_n_n none (extf .f32 x (by decide)) w

theorem prodH_apply (d : FVec Ideal H .bf16) (w : FVec Ideal HW .f32) (R : Fin 8192) (b : Fin 2048) :
    prodH d w (ix2 R b) = ∑ j : Fin 2048, d (ix2 R j) * w (ix2 b j) := by
  unfold prodH
  pointwise

/-- The gates, the product's gradient and the logits' gradients of the reference's arguments. -/
abbrev gR (m : (ℓ : Loc nD τ sig) → Buf (Elt F) ℓ) (c : Dev nD) : FVec F H2 .f32 :=
  gateH (m ((c.tc : Thread nD τ).loc main_arg4)) (m ((c.tc : Thread nD τ).loc main_arg5))
abbrev dR (m : (ℓ : Loc nD τ sig) → Buf (Elt F) ℓ) (c : Dev nD) : FVec F H .f32 :=
  prodH (m ((c.tc : Thread nD τ).loc main_arg7)) (m ((c.tc : Thread nD τ).loc main_arg6))
abbrev lR (m : (ℓ : Loc nD τ sig) → Buf (Elt F) ℓ) (c : Dev nD) : FVec F H2 .f32 :=
  dlH (gR m c) (dR m c) (poolH (m ((c.tc : Thread nD τ).loc main_arg0)) (m ((c.tc : Thread nD τ).loc main_arg2)))
    (lruH (m ((c.tc : Thread nD τ).loc main_arg1)) (m ((c.tc : Thread nD τ).loc main_arg3)))

/-- The reference's results. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v43) = dpH0 (gR m c) (dR m c)
    ∧ r.2.mem ((c.tc : Thread nD τ).loc main_v44) = dpH1 (gR m c) (dR m c)
    ∧ r.2.mem ((c.tc : Thread nD τ).loc main_v46) = dlH0 (lR m c)
    ∧ r.2.mem ((c.tc : Thread nD τ).loc main_v48) = dlH1 (lR m c)
    ∧ r.2.mem ((c.tc : Thread nD τ).loc main_v50) = dbH0 (lR m c)
    ∧ r.2.mem ((c.tc : Thread nD τ).loc main_v52) = dbH1 (lR m c)
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨(h c).1, (h c).2.1, (h c).2.2.1, (h c).2.2.2.1, (h c).2.2.2.2.1, (h c).2.2.2.2.2.1,
    (h c).2.2.2.2.2.2⟩) (Cert.Reference4Ideal.Value.run m ρ)

end Results

section Equal
open Cert.Kernel4Ideal Cert.Kernel4Ideal.Gen
variable (m : (ℓ : Loc nD τ sig) → Buf (Elt Ideal) ℓ)

/-- The same of the kernel's arguments. -/
abbrev gK (c : Dev nD) : FVec Ideal H2 .f32 := gateH (m ((c : Thread nD τ).loc main_arg4)) (m ((c : Thread nD τ).loc main_arg5))
abbrev dK (c : Dev nD) : FVec Ideal H .f32 := prodH (m ((c : Thread nD τ).loc main_arg7)) (m ((c : Thread nD τ).loc main_arg6))
abbrev pK (c : Dev nD) : FVec Ideal H .f32 := poolH (m ((c : Thread nD τ).loc main_arg0)) (m ((c : Thread nD τ).loc main_arg2))
abbrev qK (c : Dev nD) : FVec Ideal H .f32 := lruH (m ((c : Thread nD τ).loc main_arg1)) (m ((c : Thread nD τ).loc main_arg3))
abbrev lK (c : Dev nD) : FVec Ideal H2 .f32 := dlH (gK m c) (dK m c) (pK m c) (qK m c)

theorem V2 (c : Dev nD) : (V m c main_v2 : H.Idx → EReal) = pK m c := by
  unfold V
  after_results_simp <;> rfl

theorem V5 (c : Dev nD) : (V m c main_v5 : H.Idx → EReal) = qK m c := by
  unfold V
  after_results_simp <;> rfl

theorem V6 (c : Dev nD) : (V m c main_v6 : HW.Idx → EReal) = m ((c : Thread nD τ).loc main_arg6) := by
  unfold V
  after_results_simp <;> rfl

theorem prod_eq (c : Dev nD) (R : Fin 8192) (b : Fin 2048) : prod m c R.val b.val = dK m c (ix2 R b) := by
  refine Eq.trans ?_ (prodH_apply _ _ R b).symm
  unfold prod
  refine Finset.sum_congr rfl fun j _ => ?_
  rw [at2_fin, at2_fin, V6, V_main_arg7]

theorem gate0_eq (c : Dev nD) (R : Fin 8192) (b : Fin 2048) : gate m c 0 R.val b.val = gK m c (ix2 R (⟨b.val, by omega⟩ : Fin 4096)) := by
  refine Eq.trans ?_ (gateH_apply _ _ R _).symm
  unfold gate
  rw [at2_of _ _ _ R.isLt (by omega), at2_of _ _ _ (by decide) (by omega), V_main_arg4, V_main_arg5]
  refine congrArg Ideal.logistic (congrArg₂ (· + ·) (congrArg _ (congrArg (ix2 R) (Fin.ext ?_))) (congrArg _ (congrArg (ix2 0) (Fin.ext ?_))))
  · show 5120 + 0 + b.val = 5120 + b.val; omega
  · show 0 + b.val = b.val; omega

theorem gate1_eq (c : Dev nD) (R : Fin 8192) (b : Fin 2048) :
    gate m c 2048 R.val b.val = gK m c (ix2 R (⟨2048 + b.val, by omega⟩ : Fin 4096)) := by
  refine Eq.trans ?_ (gateH_apply _ _ R _).symm
  unfold gate
  rw [at2_of _ _ _ R.isLt (by omega), at2_of _ _ _ (by decide) (by omega), V_main_arg4, V_main_arg5]
  refine congrArg Ideal.logistic (congrArg (· + _) (congrArg _ (congrArg (ix2 R) (Fin.ext ?_))))
  show 5120 + 2048 + b.val = 5120 + (2048 + b.val); omega

theorem dl0V_eq (c : Dev nD) (R : Fin 8192) (b : Fin 2048) : dl0V m c R.val b.val = lK m c (ix2 R (⟨b.val, by omega⟩ : Fin 4096)) := by
  refine Eq.trans ?_ (dlH_apply0 _ _ _ _ R b).symm
  unfold dl0V
  rw [prod_eq, gate0_eq, at2_fin, V2]

theorem dl1V_eq (c : Dev nD) (R : Fin 8192) (b : Fin 2048) : dl1V m c R.val b.val = lK m c (ix2 R (⟨2048 + b.val, by omega⟩ : Fin 4096)) := by
  refine Eq.trans ?_ (dlH_apply1 _ _ _ _ R b).symm
  unfold dl1V
  rw [prod_eq, gate1_eq, at2_fin, V5]

/-- An array of rows given at its rows and columns. -/
theorem ext2 {X : H.Idx → EReal} {f : ℕ → ℕ → EReal} (h : ∀ (R : Fin 8192) (b : Fin 2048), f R.val b.val = X (ix2 R b)) :
    (fun z : H.Idx => f (z 0).val (z 1).val) = X := by
  funext z
  have ez : z = ix2 (z 0) (z 1) := by funext a; fin_cases a <;> rfl
  conv_rhs => rw [ez]
  exact h (z 0) (z 1)

theorem ext1 {X : (⟨2, ![1, 2048]⟩ : Shape).Idx → EReal} {f : ℕ → EReal} (h : ∀ b : Fin 2048, f b.val = X (ix2 0 b)) :
    (fun z : (⟨2, ![1, 2048]⟩ : Shape).Idx => f (z 1).val) = X := by
  funext z
  have ez : z = ix2 (0 : Fin 1) (z 1) := by
    funext a
    match a with
    | ⟨0, _⟩ => exact Subsingleton.elim (α := Fin 1) _ _
    | ⟨1, _⟩ => rfl
  conv_rhs => rw [ez]
  exact h (z 1)

theorem dp0_ref (c : Dev nD) : (dats m 0 c).arrAt 8 cfg0.N = dpH0 (gK m c) (dK m c) := by
  refine (dp0_array m c).trans (ext2 (f := dpV m c 0) fun R b => Eq.trans ?_ (dpH0_apply _ _ R b).symm)
  unfold dpV
  rw [gate0_eq, prod_eq]

theorem dp1_ref (c : Dev nD) : (dats m 0 c).arrAt 9 cfg0.N = dpH1 (gK m c) (dK m c) := by
  refine (dp1_array m c).trans (ext2 (f := dpV m c 2048) fun R b => Eq.trans ?_ (dpH1_apply _ _ R b).symm)
  unfold dpV
  rw [gate1_eq, prod_eq]

theorem dl0_ref (c : Dev nD) : (dats m 0 c).arrAt 10 cfg0.N = dlH0 (lK m c) :=
  (dl0_array m c).trans (ext2 (f := dl0V m c) fun R b => (dl0V_eq m c R b).trans (dlH0_apply _ R b).symm)

theorem dl1_ref (c : Dev nD) : (dats m 0 c).arrAt 11 cfg0.N = dlH1 (lK m c) :=
  (dl1_array m c).trans (ext2 (f := dl1V m c) fun R b => (dl1V_eq m c R b).trans (dlH1_apply _ R b).symm)

theorem db0_ref (c : Dev nD) : (dats m 0 c).arrAt 12 cfg0.N = dbH0 (lK m c) := by
  refine (db0_array m c).trans (ext1 (f := fun b => ∑ R ∈ Finset.range 8192, dl0V m c R b) fun b => Eq.trans ?_ (dbH0_apply _ b).symm)
  rw [← sum_first]
  exact Finset.sum_congr rfl fun R _ => dl0V_eq m c R b

theorem db1_ref (c : Dev nD) : (dats m 0 c).arrAt 13 cfg0.N = dbH1 (lK m c) := by
  refine (db1_array m c).trans (ext1 (f := fun b => ∑ R ∈ Finset.range 8192, dl1V m c R b) fun b => Eq.trans ?_ (dbH1_apply _ b).symm)
  rw [← sum_first]
  exact Finset.sum_congr rfl fun R _ => dl1V_eq m c R b

end Equal

end Cert.MergeBwd

end
-- ==== Proof.MergeBwd.Claims.lean ====
/- The claims about the merge's gradient. -/
module

public import proofs.«01_k».proof.Defs
public import proofs.«01_k».proof.Proof.MergeBwd.Reference

@[expose] public section

noncomputable section

namespace Cert.MergeBwd

open Idealize.ShloMosaic Idealize.SL.Sem

theorem frame_ref : Cert.quiescent_Reference4Ideal := fun m ρ _ =>
  (θ_run Cert.Reference4Ideal.defs _ _).mono
    (fun r h => ⟨fun c => (h c).2.2.2.2.2.2, Idealize.ShloMosaic.sem_eq_zero_of_no_sems (by decide) r.2⟩) (run_ref m ρ)

theorem algebraic : Cert.algebraic_Kernel4Ideal_Reference4Ideal := by
  intro m g m' g' _ hagree
  refine ⟨fun c => (Cert.Kernel4Ideal.Gen.dats m 0 c).arrAt 8 Cert.Kernel4Ideal.cfg0.N,
    fun c => (Cert.Kernel4Ideal.Gen.dats m 0 c).arrAt 9 Cert.Kernel4Ideal.cfg0.N,
    fun c => (Cert.Kernel4Ideal.Gen.dats m 0 c).arrAt 10 Cert.Kernel4Ideal.cfg0.N,
    fun c => (Cert.Kernel4Ideal.Gen.dats m 0 c).arrAt 11 Cert.Kernel4Ideal.cfg0.N,
    fun c => (Cert.Kernel4Ideal.Gen.dats m 0 c).arrAt 12 Cert.Kernel4Ideal.cfg0.N,
    fun c => (Cert.Kernel4Ideal.Gen.dats m 0 c).arrAt 13 Cert.Kernel4Ideal.cfg0.N, ?_, ?_⟩
  · exact Cert.Kernel4Ideal.Value.run_blocks m g
  · refine (θ_run Cert.Reference4Ideal.defs _ _).mono (fun r h c => ?_) (run_ref m' g')
    obtain ⟨e0, e1, e2, e3, e4, e5, e6, e7⟩ := hagree c
    refine ⟨(h c).1.trans ?_, (h c).2.1.trans ?_, (h c).2.2.1.trans ?_, (h c).2.2.2.1.trans ?_, (h c).2.2.2.2.1.trans ?_,
      (h c).2.2.2.2.2.1.trans ?_, (h c).2.2.2.2.2.2⟩
    · unfold gR dR; rw [e4, e5, e6, e7]; exact (dp0_ref m c).symm
    · unfold gR dR; rw [e4, e5, e6, e7]; exact (dp1_ref m c).symm
    · unfold lR gR dR; rw [e0, e1, e2, e3, e4, e5, e6, e7]; exact (dl0_ref m c).symm
    · unfold lR gR dR; rw [e0, e1, e2, e3, e4, e5, e6, e7]; exact (dl1_ref m c).symm
    · unfold lR gR dR; rw [e0, e1, e2, e3, e4, e5, e6, e7]; exact (db0_ref m c).symm
    · unfold lR gR dR; rw [e0, e1, e2, e3, e4, e5, e6, e7]; exact (db1_ref m c).symm

end Cert.MergeBwd

end
-- ==== Proof.FfnBwd.Visits.lean ====
/- Blocks of 1024 columns whose slabs are visited from the last rows to the first, one half of the columns after the other:
   what the slabs stored so far leave, with eight more rows kept below them, and what additions to rows leave that are made
   half by half. -/
module

public import proofs.«01_k».proof.Proof.Slab.Basic

@[expose] public section

noncomputable section

namespace Cert.FfnBwd

open Idealize.ShloMosaic Cert.RowNorm Cert.Slab

/-- The first row of the slab visited at step `n`. -/
abbrev posR (n : ℕ) : ℕ := 16 * (63 - n % 64)
/-- Its first column. -/
abbrev posC (n : ℕ) : ℕ := 512 * (n / 64 % 2)

theorem posR_le {N : ℕ} (d n : ℕ) (h : d + 1024 ≤ N) : posR n + d + 16 ≤ N := by
  show 16 * (63 - n % 64) + d + 16 ≤ N; omega
theorem posC_le (n : ℕ) : posC n + 512 ≤ 1024 := by show 512 * (n / 64 % 2) + 512 ≤ 1024; omega

/-- The slab visited at step `n`, taken `d` rows further down. -/
abbrev visit {N : ℕ} (d : ℕ) (h : d + 1024 ≤ N) (n : ℕ) : Rect (Q N) := slab (posR n + d) (posC n) (posR_le d n h) (posC_le n)

theorem mem_visit {N : ℕ} {d : ℕ} {h : d + 1024 ≤ N} {n : ℕ} {y : (Q N).Idx} (hy : y ∈ (visit d h n).set) :
    (posR n + d ≤ (y 0).val ∧ (y 0).val < posR n + d + 16) ∧ posC n ≤ (y 1).val ∧ (y 1).val < posC n + 512 :=
  ⟨Rect.mem_set_unit (s := Q N) (inb := inbSlab (posR_le d n h) (posC_le n)) |>.mp hy 0,
    Rect.mem_set_unit (s := Q N) (inb := inbSlab (posR_le d n h) (posC_le n)) |>.mp hy 1⟩

theorem le1032 : 0 + 1024 ≤ 1032 := by omega

section Stores
variable {Val : EltTy → Type} {e : EltTy}

/-- The stores of the first slabs, the last first, over earlier ones. -/
def soFar (base : List (View.Piece Val (Q 1032) e)) (P : ℕ → P16.Idx → Val e) : ℕ → List (View.Piece Val (Q 1032) e)
  | 0 => base
  | n + 1 => ⟨visit 0 le1032 n, P n⟩ :: soFar base P n

/-- The step that visits an element. -/
abbrev stepOf (i j : ℕ) : ℕ := 63 - i / 16 + 64 * (j / 512)

/-- All the slabs, over eight rows more. -/
def below (P : ℕ → P16.Idx → Val e) (T : (Q 8).Idx → Val e) : (Q 1032).Idx → Val e := fun y =>
  if h : (y 0).val < 1024 then
    P (stepOf (y 0).val (y 1).val) (ix2 (⟨(y 0).val % 16, Nat.mod_lt _ (by omega)⟩ : Fin 16) (⟨(y 1).val % 512, Nat.mod_lt _ (by omega)⟩ : Fin 512))
  else T (ix2 (⟨(y 0).val - 1024, by have : (y 0).val < 1032 := (y 0).isLt; omega⟩ : Fin 8) (y 1))

variable (V : List (View.Piece Val (Q 1032) e) → (Q 1032).Idx → Val e)
  (hin : ∀ (r : Rect (Q 1032)) (w : r.shape.Idx → Val e) (L : List (View.Piece Val (Q 1032) e)) (x : r.shape.Idx),
    V (⟨r, w⟩ :: L) (r.emb x) = w x)
  (hout : ∀ (p : View.Piece Val (Q 1032) e) (L : List (View.Piece Val (Q 1032) e)) (y : (Q 1032).Idx), y ∉ p.1.set → V (p :: L) y = V L y)

include hout in
theorem soFar_out (base : List (View.Piece Val (Q 1032) e)) (P : ℕ → P16.Idx → Val e) (y : (Q 1032).Idx) (hy : 1024 ≤ (y 0).val) :
    ∀ M : ℕ, V (soFar base P M) y = V base y := by
  intro M
  induction M with
  | zero => rfl
  | succ M ih =>
    have hm : y ∉ (visit (N := 1032) 0 le1032 M).set := fun hm => by
      have h : (y 0).val < posR M + 0 + 16 := (mem_visit hm).1.2
      simp only [posR] at h
      omega
    exact (hout ⟨visit 0 le1032 M, P M⟩ _ y hm).trans ih

include hin hout in
theorem soFar_in (base : List (View.Piece Val (Q 1032) e)) (P : ℕ → P16.Idx → Val e) (y : (Q 1032).Idx) (n : ℕ) (a : Fin 16) (b : Fin 512)
    (h0 : (y 0).val = posR n + a.val) (h1 : (y 1).val = posC n + b.val) :
    ∀ M : ℕ, M ≤ 128 → n < M → V (soFar base P M) y = P n (ix2 a b) := by
  intro M
  induction M with
  | zero => exact fun _ hn => absurd hn (Nat.not_lt_zero n)
  | succ M ih =>
    intro hM hn
    by_cases he : n = M
    · subst he
      have ey : (visit (N := 1032) 0 le1032 n).emb (ix2 a b) = y := by
        funext i; apply Fin.ext
        match i with
        | ⟨0, _⟩ => show posR n + 0 + 1 * a.val = (y 0).val; omega
        | ⟨1, _⟩ => show posC n + 1 * b.val = (y 1).val; omega
      exact (congrArg _ ey.symm).trans (hin _ _ _ _)
    · have hm : y ∉ (visit (N := 1032) 0 le1032 M).set := fun hm => by
        obtain ⟨⟨h2, h3⟩, h4, h5⟩ := mem_visit hm
        simp only [posR, posC] at h0 h1 h2 h3 h4 h5
        have := a.isLt
        have := b.isLt
        omega
      exact (hout ⟨visit 0 le1032 M, P M⟩ _ y hm).trans (ih (by omega) (by omega))

include hin hout in
/-- The slabs stored so far are those of all the slabs. -/
theorem soFar_below (base : List (View.Piece Val (Q 1032) e)) (P : ℕ → P16.Idx → Val e) (T : (Q 8).Idx → Val e)
    (y : (Q 1032).Idx)
    (hb : ∀ h : 1024 ≤ (y 0).val, V base y =
      T (ix2 (⟨(y 0).val - 1024, by have : (y 0).val < 1032 := (y 0).isLt; omega⟩ : Fin 8) (y 1)))
    (M : ℕ) (hM : M ≤ 128) (hy : (y 0).val < 1024 → stepOf (y 0).val (y 1).val < M) :
    V (soFar base P M) y = below P T y := by
  have hy1 : (y 1).val < 1024 := (y 1).isLt
  unfold below
  by_cases h : (y 0).val < 1024
  · rw [dif_pos h]
    have h0 : (y 0).val = posR (stepOf (y 0).val (y 1).val) + (y 0).val % 16 := by
      show (y 0).val = 16 * (63 - (63 - (y 0).val / 16 + 64 * ((y 1).val / 512)) % 64) + (y 0).val % 16
      omega
    have h1 : (y 1).val = posC (stepOf (y 0).val (y 1).val) + (y 1).val % 512 := by
      show (y 1).val = 512 * ((63 - (y 0).val / 16 + 64 * ((y 1).val / 512)) / 64 % 2) + (y 1).val % 512
      omega
    exact soFar_in V hin hout base P y _ (⟨(y 0).val % 16, Nat.mod_lt _ (by omega)⟩ : Fin 16)
      (⟨(y 1).val % 512, Nat.mod_lt _ (by omega)⟩ : Fin 512) h0 h1 M hM (hy h)
  · rw [dif_neg h]
    exact (soFar_out V hout base P y (Nat.le_of_not_lt h) M).trans (hb (Nat.le_of_not_lt h))

include hin hout in
/-- A load at step `n`, after its slab is stored, of the rows from `d` below the slab's first. -/
theorem load_soFar (base : List (View.Piece Val (Q 1032) e)) (P : ℕ → P16.Idx → Val e) (T : (Q 8).Idx → Val e) (n d : ℕ)
    (hn : n < 128) (hd : d ≤ 8)
    (hb : ∀ (y : (Q 1032).Idx) (h : 1024 ≤ (y 0).val), n % 64 = 0 → V base y =
      T (ix2 (⟨(y 0).val - 1024, by have : (y 0).val < 1032 := (y 0).isLt; omega⟩ : Fin 8) (y 1))) :
    (fun j => V (soFar base P (n + 1)) ((visit (N := 1032) d (by omega) n).emb j)) =
      View.ld (below P T) (visit (N := 1032) d (by omega) n) := by
  funext j
  have e0 : ((visit (N := 1032) d (by omega) n).emb j 0).val = 16 * (63 - n % 64) + d + 1 * (j 0).val := rfl
  have e1 : ((visit (N := 1032) d (by omega) n).emb j 1).val = 512 * (n / 64 % 2) + 1 * (j 1).val := rfl
  have hj0 : (j 0).val < 16 := (j 0).isLt
  have hj1 : (j 1).val < 512 := (j 1).isLt
  have hy : ((visit (N := 1032) d (by omega) n).emb j 0).val < 1024 →
      stepOf ((visit (N := 1032) d (by omega) n).emb j 0).val ((visit (N := 1032) d (by omega) n).emb j 1).val < n + 1 := by
    intro h
    rw [e0] at h ⊢
    rw [e1]
    show 63 - (16 * (63 - n % 64) + d + 1 * (j 0).val) / 16 + 64 * ((512 * (n / 64 % 2) + 1 * (j 1).val) / 512) < n + 1
    omega
  have hn0 : 1024 ≤ ((visit (N := 1032) d (by omega) n).emb j 0).val → n % 64 = 0 := by
    rw [e0]; omega
  exact soFar_below V hin hout base P T _ (fun h => hb _ h (hn0 h)) (n + 1) hn hy

end Stores

/-! ## Additions to rows, half by half -/

theorem inbRow {R k co : ℕ} (hk : k + 1 ≤ R) (h1 : co + 512 ≤ 1024) : ∀ a, (![k, co] : Fin 2 → ℕ) a + P1.size a ≤ (Q R).size a := by
  intro a; fin_cases a
  · exact hk
  · exact h1

theorem row_le {K R : ℕ} (hK : 0 < K ∧ K ≤ R) (n : ℕ) : n % K + 1 ≤ R := Nat.le_trans (Nat.mod_lt n hK.1) hK.2
theorem half_le (K n : ℕ) : 512 * (n / K % 2) + 512 ≤ 1024 := by omega

/-- Half a row of the first `K`: the one that step `n` adds to. -/
abbrev rowHalf {K R : ℕ} (hK : 0 < K ∧ K ≤ R) (n : ℕ) : Rect (Q R) :=
  Rect.unit (s := Q R) ![n % K, 512 * (n / K % 2)] P1.size (inbRow (row_le hK n) (half_le K n))

section Rows
variable {F : FTy → Type} [FloatOps F] {K R : ℕ} (hK : 0 < K ∧ K ≤ R)

/-- Half a row and what is added to it. -/
def plus (x : Vec F P1 .f32) (s : FVec F P1 .f32) : FVec F P1 .f32 := addf (shapeCast P1 x (by decide)) s

/-- The stores of the first additions, the last first. -/
def adds (base : List (View.Piece (Elt F) (Q R) .f32)) (X : List (View.Piece (Elt F) (Q R) .f32) → ℕ → Vec F P1 .f32)
    (s : ℕ → FVec F P1 .f32) : ℕ → List (View.Piece (Elt F) (Q R) .f32)
  | 0 => base
  | n + 1 => ⟨rowHalf hK n, plus (X (adds base X s n) n) (s n)⟩ :: adds base X s n

/-- The rows with everything added. -/
def added (z : Vec F (Q R) .f32) (s : ℕ → FVec F P1 .f32) : Vec F (Q R) .f32 := fun y =>
  if (y 0).val < K then
    plus (View.ld z (rowHalf hK ((y 0).val + K * ((y 1).val / 512))))
      (s ((y 0).val + K * ((y 1).val / 512))) (ix2 (0 : Fin 1) (⟨(y 1).val % 512, Nat.mod_lt _ (by omega)⟩ : Fin 512))
  else z y

variable (V : List (View.Piece (Elt F) (Q R) .f32) → (Q R).Idx → Elt F .f32)
  (hin : ∀ (r : Rect (Q R)) (w : r.shape.Idx → Elt F .f32) (L : List (View.Piece (Elt F) (Q R) .f32)) (x : r.shape.Idx),
    V (⟨r, w⟩ :: L) (r.emb x) = w x)
  (hout : ∀ (p : View.Piece (Elt F) (Q R) .f32) (L : List (View.Piece (Elt F) (Q R) .f32)) (y : (Q R).Idx), y ∉ p.1.set → V (p :: L) y = V L y)

theorem mem_rowHalf {n : ℕ} (hn : n < 2 * K) {y : (Q R).Idx} (hy : y ∈ (rowHalf hK n).set) :
    n = (y 0).val + K * ((y 1).val / 512) := by
  obtain ⟨h0, h1⟩ := Rect.mem_set_unit (s := Q R) (inb := inbRow (row_le hK n) (half_le K n)) |>.mp hy 0
  obtain ⟨h2, h3⟩ := Rect.mem_set_unit (s := Q R) (inb := inbRow (row_le hK n) (half_le K n)) |>.mp hy 1
  have h4 : n / K < 2 := Nat.div_lt_of_lt_mul (by omega)
  have h5 := Nat.mod_add_div n K
  have e0 : (y 0).val = n % K := by
    have a0 : n % K ≤ (y 0).val := h0
    have a1 : (y 0).val < n % K + 1 := h1
    omega
  have e1 : (y 1).val / 512 = n / K := by
    have a0 : 512 * (n / K % 2) ≤ (y 1).val := h2
    have a1 : (y 1).val < 512 * (n / K % 2) + 512 := h3
    clear h0 h1 h2 h3 e0 h5
    generalize n / K = q at *
    omega
  rw [e0, e1]
  exact h5.symm

include hout in
theorem adds_out (base : List (View.Piece (Elt F) (Q R) .f32)) (X : List (View.Piece (Elt F) (Q R) .f32) → ℕ → Vec F P1 .f32)
    (s : ℕ → FVec F P1 .f32) (y : (Q R).Idx) : ∀ M : ℕ, M ≤ 2 * K → M ≤ (y 0).val + K * ((y 1).val / 512) → V (adds hK base X s M) y = V base y := by
  intro M
  induction M with
  | zero => exact fun _ _ => rfl
  | succ M ih =>
    intro hM hy
    have hm : y ∉ (rowHalf hK M).set := fun hm => by
      have := mem_rowHalf hK (by omega) hm
      omega
    exact (hout ⟨rowHalf hK M, plus (X (adds hK base X s M) M) (s M)⟩ _ y hm).trans (ih (by omega) (by omega))

include hout in
/-- What an addition's load finds is what was there before all of them. -/
theorem adds_load (base : List (View.Piece (Elt F) (Q R) .f32)) (X : List (View.Piece (Elt F) (Q R) .f32) → ℕ → Vec F P1 .f32)
    (s : ℕ → FVec F P1 .f32) (z : Vec F (Q R) .f32) (hz : ∀ y, V base y = z y) (n : ℕ) (hn : n < 2 * K) :
    (fun j => V (adds hK base X s n) ((rowHalf hK n).emb j)) = View.ld z (rowHalf hK n) := by
  funext j
  have h := mem_rowHalf hK hn (LoadRect.idx_mem (rowHalf hK n).toLoadRect j)
  exact (adds_out hK V hout base X s ((rowHalf hK n).emb j) n (Nat.le_of_lt hn) (Nat.le_of_eq h)).trans (hz _)

include hin hout in
theorem adds_in (base : List (View.Piece (Elt F) (Q R) .f32)) (X : List (View.Piece (Elt F) (Q R) .f32) → ℕ → Vec F P1 .f32)
    (s : ℕ → FVec F P1 .f32) (n : ℕ) (x : P1.Idx) :
    ∀ M : ℕ, M ≤ 2 * K → n < M → V (adds hK base X s M) ((rowHalf hK n).emb x) =
      plus (X (adds hK base X s n) n) (s n) x := by
  intro M
  induction M with
  | zero => exact fun _ hn => absurd hn (Nat.not_lt_zero n)
  | succ M ih =>
    intro hM hn
    rcases Nat.lt_or_eq_of_le (Nat.le_of_lt_succ hn) with he | he
    rotate_left
    · subst he
      exact hin _ _ _ _
    · have hm : (rowHalf hK n).emb x ∉ (rowHalf hK M).set := fun hm => by
        have h1 := mem_rowHalf hK (by omega) hm
        have h2 : n = ((rowHalf hK n).emb x 0).val + K * (((rowHalf hK n).emb x 1).val / 512) := mem_rowHalf hK (by omega) (LoadRect.idx_mem (rowHalf hK n).toLoadRect x)
        omega
      exact (hout ⟨rowHalf hK M, plus (X (adds hK base X s M) M) (s M)⟩ _ _ hm).trans (ih (by omega) (by omega))

include hin hout in
theorem adds_eq (base : List (View.Piece (Elt F) (Q R) .f32)) (X : List (View.Piece (Elt F) (Q R) .f32) → ℕ → Vec F P1 .f32)
    (s : ℕ → FVec F P1 .f32) (z : Vec F (Q R) .f32) (hz : ∀ y, V base y = z y)
    (hX : ∀ n, n < 2 * K → X (adds hK base X s n) n = View.ld z (rowHalf hK n)) :
    V (adds hK base X s (2 * K)) = added hK z s := by
  funext y
  have hy1 : (y 1).val < 1024 := (y 1).isLt
  unfold added
  rcases Nat.lt_or_ge (y 0).val K with h | h
  · rw [if_pos h]
    have hq : (y 1).val / 512 < 2 := by omega
    have hn : (y 0).val + K * ((y 1).val / 512) < 2 * K := by
      have : K * ((y 1).val / 512) ≤ K * 1 := Nat.mul_le_mul_left K (by omega)
      omega
    have em : ((y 0).val + K * ((y 1).val / 512)) % K = (y 0).val := by
      rw [Nat.add_mul_mod_self_left]; exact Nat.mod_eq_of_lt h
    have ed : ((y 0).val + K * ((y 1).val / 512)) / K = (y 1).val / 512 := by
      rw [Nat.add_mul_div_left _ _ hK.1, Nat.div_eq_of_lt h, Nat.zero_add]
    have ey : (rowHalf hK ((y 0).val + K * ((y 1).val / 512))).emb
        (ix2 (0 : Fin 1) (⟨(y 1).val % 512, Nat.mod_lt _ (by omega)⟩ : Fin 512)) = y := by
      funext i; apply Fin.ext
      match i with
      | ⟨0, _⟩ =>
        show ((y 0).val + K * ((y 1).val / 512)) % K + 1 * 0 = (y 0).val
        rw [em]; omega
      | ⟨1, _⟩ =>
        show 512 * (((y 0).val + K * ((y 1).val / 512)) / K % 2) + 1 * ((y 1).val % 512) = (y 1).val
        rw [ed]; omega
    conv_lhs => rw [← ey]
    rw [adds_in hK V hin hout base X s _ _ (2 * K) (Nat.le_refl _) hn, hX _ hn]
  · rw [if_neg (Nat.not_lt_of_ge h)]
    have : ∀ M : ℕ, M ≤ 2 * K → V (adds hK base X s M) y = V base y := by
      intro M
      induction M with
      | zero => exact fun _ => rfl
      | succ M ih =>
        intro hM
        have hm : y ∉ (rowHalf hK M).set := fun hm => by
          have h1 : (y 0).val < M % K + 1 :=
            ((Rect.mem_set_unit (s := Q R) (inb := inbRow (row_le hK M) (half_le K M))).mp hm 0).2
          have := Nat.mod_lt M hK.1
          omega
        exact (hout ⟨rowHalf hK M, plus (X (adds hK base X s M) M) (s M)⟩ _ y hm).trans (ih (by omega))
    exact (this _ (Nat.le_refl _)).trans (hz y)

end Rows

end Cert.FfnBwd

end
-- ==== Proof.FfnBwd.Points.lean ====
/- What one grid point of the feed-forward block's gradient leaves: the product's block is held, the gate's rows are held under
   the eight rows before them, and slab by slab from the last rows up the convolved gate, its activation and the activation's
   derivative are taken; the gradients that enter the convolution are stored above the first rows of the point before, so that
   the gradient of the gate can look two rows down. -/
module

public import proofs.«01_k».proof.Proof.Gen.Kernel5Ideal.Frame
public import proofs.«01_k».proof.Proof.FfnBwd.Visits

@[expose] public section

set_option maxRecDepth 16384

noncomputable section

namespace Cert.FfnBwd

open Cert.Kernel5Ideal Cert.Kernel5Ideal.Gen Cert.RowNorm Cert.Slab
open Idealize.ShloMosaic Idealize.ShloMosaic.TcCoe Idealize.SL.Sem

variable {F : FTy → Type} [FloatOps F] [Named F]

/-! ## One slab -/

/-- A stored slab's shape. -/
abbrev P3 : Shape := ⟨3, ![1, 16, 512]⟩
/-- The stored block's shape. -/
abbrev Q3 : Shape := ⟨3, ![2, 1024, 1024]⟩

/-- What the slabs load, step by step: the gate's rows two and one above and in place, the three rows of the convolution's
    weights, its bias, the product and the value. -/
structure Loads (F : FTy → Type) where
  e : Fin 3 → ℕ → FVec F P16 .f32
  w : Fin 3 → ℕ → FVec F P1 .f32
  b : ℕ → FVec F P1 .f32
  z : ℕ → FVec F P16 .f32
  v : ℕ → FVec F P16 .f32

/-- A row of weights over a slab. -/
def row16 (w : FVec F P1 .f32) : FVec F P16 .f32 := broadcastTo P16 (shapeCast P1 w (by decide)) (by decide)

/-- The convolved gate. -/
def c16 (l : Loads F) (n : ℕ) : FVec F P16 .f32 :=
  addf (addf (addf (broadcastTo P16 (l.b n) (by decide)) (mulf (row16 (l.w 2 n)) (l.e 2 n))) (mulf (row16 (l.w 0 n)) (l.e 0 n)))
    (mulf (row16 (l.w 1 n)) (l.e 1 n))

/-- The hyperbolic tangent of the activation. -/
def t16 (c : FVec F P16 .f32) : FVec F P16 .f32 :=
  tanh (mulf c (addf (broadcast P16 (Scalar.ofBits .f32 0x3F4C422A#32))
    (mulf (broadcast P16 (Named.named κ "c01" 0x3D122279#32 : F .f32)) (mulf c c))))

/-- Half of one more than it. -/
def h16 (t : FVec F P16 .f32) : FVec F P16 .f32 :=
  addf (broadcast P16 (Scalar.ofBits .f32 0x3F000000#32)) (mulf (broadcast P16 (Scalar.ofBits .f32 0x3F000000#32)) t)

/-- The activation's derivative. -/
def g16 (c t : FVec F P16 .f32) : FVec F P16 .f32 :=
  addf (h16 t) (mulf (mulf c (subf (broadcast P16 (Scalar.ofBits .f32 0x3F800000#32)) (mulf t t)))
    (addf (broadcast P16 (Scalar.ofBits .f32 0x3ECC422A#32))
      (mulf (broadcast P16 (Named.named κ "tc01" 0x3D5B33B6#32 : F .f32)) (mulf c c))))

/-- The gradient of the convolved gate. -/
def dc16 (l : Loads F) (n : ℕ) : FVec F P16 .f32 :=
  mulf (mulf (l.z n) (l.v n)) (g16 (c16 l n) (t16 (c16 l n)))

/-- The gradient of the value. -/
def dv16 (l : Loads F) (n : ℕ) : FVec F P16 .f32 := mulf (l.z n) (mulf (c16 l n) (h16 (t16 (c16 l n))))

/-- The gradient of the gate, of the convolution's gradients in place and one and two rows down. -/
def dg16 (l : Loads F) (sh : ℕ → ℕ → FVec F P16 .f32) (n : ℕ) : FVec F P16 .f32 :=
  addf (addf (mulf (row16 (l.w 2 n)) (dc16 l n)) (mulf (row16 (l.w 0 n)) (sh 2 n))) (mulf (row16 (l.w 1 n)) (sh 1 n))

/-- What the sums over the rows add. -/
def dw16 (l : Loads F) (sh : ℕ → ℕ → FVec F P16 .f32) (k n : ℕ) : FVec F P16 .f32 :=
  mulf (l.e 2 n) (if k = 0 then sh 2 n else if k = 1 then sh 1 n else dc16 l n)

/-- A slab as it is stored. -/
def out3 (x : FVec F P16 .f32) : FVec F P3 .bf16 := shapeCast P3 (truncf .bf16 x (by decide)) (by decide)

theorem inb3 (q n : ℕ) (hq : q < 2) : ∀ a, (![q, posR n, posC n] : Fin 3 → ℕ) a + P3.size a ≤ Q3.size a := by
  intro a; fin_cases a
  · show q + 1 ≤ 2; omega
  · show 16 * (63 - n % 64) + 16 ≤ 1024; omega
  · exact posC_le n

/-- The slab visited at step `n` in plane `q`. -/
abbrev visit3 (q n : ℕ) (hq : q < 2) : Rect Q3 := Rect.unit (s := Q3) ![q, posR n, posC n] P3.size (inb3 q n hq)

/-- The stores of all the slabs, the last first: of the value's gradient and then of the gate's. -/
abbrev upStores (l : Loads F) (sh : ℕ → ℕ → FVec F P16 .f32) : List (View.Piece (Elt F) Q3 .bf16) :=
  List.ofFn fun k : Fin 256 => ⟨visit3 (k.val % 2) (127 - k.val / 2) (Nat.mod_lt _ (by omega)),
    out3 (if k.val % 2 = 0 then dg16 l sh (127 - k.val / 2) else dv16 l (127 - k.val / 2))⟩

/-- The sums of one half of the columns for one row of the convolution's weights. -/
def wSum (l : Loads F) (sh : ℕ → ℕ → FVec F P16 .f32) (n : ℕ) : FVec F P1 .f32 :=
  total fun k : Fin 64 => dw16 l sh (n % 3) (64 * (n / 3 % 2) + k.val)

/-- The sums of one half of the columns for the bias. -/
def bSum (l : Loads F) (n : ℕ) : FVec F P1 .f32 := total fun k : Fin 64 => dc16 l (64 * (n / 1 % 2) + k.val)

/-- The convolution's gradient as the slabs store it. -/
def dcSt (l : Loads F) (n : ℕ) : FVec F P16 .f32 := shapeCast P16 (dc16 l n) (by decide)

theorem le1024 : 0 + 1024 ≤ 1024 := by omega
theorem hw : 0 < 3 ∧ 3 ≤ 8 := by omega
theorem hb : 0 < 1 ∧ 1 ≤ 1 := by omega

/-- Eight rows of zeros, and one. -/
abbrev zero8 : Vec F (Q 8) .f32 := broadcast (Q 8) (Scalar.ofBits .f32 0x00000000#32 : F .f32)
abbrev zero1 : Vec F (Q 1) .f32 := broadcast (Q 1) (Scalar.ofBits .f32 0x00000000#32 : F .f32)

variable (m : (ℓ : Loc nD τ sig) → Buf (Elt F) ℓ)

/-! ## What a run of the body finds -/

/-- The store of the held product. -/
abbrev dzPiece (c : Dev nD) (t : Fin cfg0.N) : View.Piece (Elt F) (Q 1024) .f32 :=
  ⟨Rect.unit ![0, 0] S1024x1024.size inb_S1024x1024_S1024x1024_0_0, k0_pay9
    (View.readAt (Elt F) (ms0_0 t).view (Rect.unit ![0, 0] S1024x2048.size inb_S1024x2048_S1024x2048_0_0).toLoadRect
      ((hs0_0 t).unread (iblk m c 0 t)))
    (View.readAt (Elt F) (ms0_1 t).view (Rect.unit ![0, 0] S1024x2048.size inb_S1024x2048_S1024x2048_0_0).toLoadRect
      ((hs0_1 t).unread (iblk m c 1 t)))⟩

/-- The stores of the gate's rows and of the eight rows before them. -/
abbrev extPieces (c : Dev nD) (t : Fin cfg0.N) : List (View.Piece (Elt F) (Q 1032) .f32) :=
  [⟨Rect.unit ![8, 0] S1024x1024.size inb_S1032x1024_S1024x1024_8_0, k0_pay11
    (View.readAt (Elt F) (ms0_2 t).view (Rect.unit ![0, 0] S1024x1024.size inb_S1024x1024_S1024x1024_0_0).toLoadRect
      ((hs0_2 t).unread (iblk m c 2 t)))⟩,
   ⟨Rect.unit ![0, 0] S8x1024.size inb_S1032x1024_S8x1024_0_0, k0_pay10 (grid0.coords t)
    (View.readAt (Elt F) (ms0_4 t).view (Rect.unit ![0, 0] S8x1024.size inb_S8x1024_S8x1024_0_0).toLoadRect
      ((hs0_4 t).unread (iblk m c 4 t)))⟩]

theorem inbW (k : Fin 3) (n : ℕ) : ∀ a, (![k.val, posC n] : Fin 2 → ℕ) a + P1.size a ≤ (Q 8).size a := by
  intro a; fin_cases a
  · show k.val + 1 ≤ 8; omega
  · exact posC_le n

/-- Half a row of the weights. -/
abbrev wRow (k : Fin 3) (n : ℕ) : Rect (Q 8) := Rect.unit (s := Q 8) ![k.val, posC n] P1.size (inbW k n)

/-- The loads as a run of the body finds them. -/
def found (c : Dev nD) (t : Fin cfg0.N) : Loads F where
  e k n := View.readCov (Val := Elt F) scM0_0.view (extPieces m c t) (visit (N := 1032) (6 + k.val) (by omega) n).toLoadRect
  w k n := View.readAt (Elt F) (ms0_5 t).view (wRow k n).toLoadRect ((hs0_5 t).unread (iblk m c 5 t))
  b n := View.readAt (Elt F) (ms0_6 t).view (half (posC n) (posC_le n)).toLoadRect ((hs0_6 t).unread (iblk m c 6 t))
  z n := View.readCov (Val := Elt F) scM0_2.view [dzPiece m c t] (visit (N := 1024) 0 le1024 n).toLoadRect
  v n := View.readAt (Elt F) (ms0_3 t).view (visit (N := 1024) 0 le1024 n).toLoadRect ((hs0_3 t).unread (iblk m c 3 t))

/-- The loads of the convolution's gradients some rows down, of a column tile's first point. -/
def shA (base : List (View.Piece (Elt F) (Q 1032) .f32)) (l : Loads F) (d n : ℕ) : FVec F P16 .f32 :=
  if hd : d + 1024 ≤ 1032 then
    View.readCov (Val := Elt F) scM0_1.view (soFar (Val := Elt F) (e := .f32) base (dcSt l) (n % 128 + 1))
      (visit (N := 1032) d hd (n % 128)).toLoadRect
  else dc16 l n

/-- Those of a later point: the last rows' reach into what the point before left. -/
def shB (x : Vec F (Q 1032) .f32) (l : Loads F) (d n : ℕ) : FVec F P16 .f32 :=
  if n % 64 = 0 then
    if hd : d + 1024 ≤ 1032 then
      View.readAt (Elt F) scM0_1.view (visit (N := 1032) d hd (n % 128)).toLoadRect
        (scM0_1.view.writes (Elt F) ((Memref.isWhole_whole _).unread x)
          (soFar (Val := Elt F) (e := .f32) [] (dcSt l) (n % 128 + 1)))
    else dc16 l n
  else shA [] l d n

/-- What the point before `t` left. -/
abbrev before (c : Dev nD) (t : Fin cfg0.N) :=
  outsAt0 m c (t.val - 1) (Nat.lt_of_le_of_lt (Nat.sub_le _ _) t.isLt)

/-- The copy of the first rows' gradients for the next point. -/
abbrev copyPiece (L : List (View.Piece (Elt F) (Q 1032) .f32)) : View.Piece (Elt F) (Q 1032) .f32 :=
  ⟨Rect.unit ![1024, 0] S8x1024.size inb_S1032x1024_S8x1024_1024_0, k0_pay5
    (View.readCov (Val := Elt F) scM0_1.view L (Rect.unit (s := Q 1032) ![0, 0] S8x1024.size inb_S1032x1024_S8x1024_0_0).toLoadRect)⟩

set_option maxHeartbeats 3200000 in
theorem outs_B (c : Dev nD) (t : Fin cfg0.N) (h0 : ¬t.val % 8 = 0) :
    outsAt0 m c t.val t.isLt =
      (View.canon (upStores (found m c t) (shB (before m c t).2.2.2 (found m c t))),
       (ms0_8 t).view.read (Elt F) ((ms0_8 t).view.writes (Elt F) ((hs0_8 t).unread (before m c t).2.1)
         (adds hw [] (fun _ n => View.readAt (Elt F) (ms0_8 t).view (rowHalf hw n).toLoadRect ((hs0_8 t).unread (before m c t).2.1))
           (wSum (found m c t) (shB (before m c t).2.2.2 (found m c t))) 6)),
       View.canon (adds hb [] (fun _ n => View.readAt (Elt F) (ms0_9 t).view (rowHalf hb n).toLoadRect ((hs0_9 t).unread (before m c t).2.2.1))
           (bSum (found m c t)) 2),
       View.canon (copyPiece (soFar (Val := Elt F) (e := .f32) [] (dcSt (found m c t)) 128) ::
         soFar (Val := Elt F) (e := .f32) [] (dcSt (found m c t)) 128)) := by
  rw [outsAt0_B m c t h0]
  unfold out0_B_7 out0_B_8 out0_B_9 sout0_B_1
  simp only [View.read_writes_junk_eq_canon]
  generalize hr : kernelRun0_B (F := F) _ _ _ _ _ _ _ _ _ _ _ _ _ _ _ _ _ _ _ _ _ _ _ _ _ _ _ _ _ _ _ _ _ _ _ _ _ _ _ = r
  have e3 : r.2.2.1 = adds hb [] (fun _ n => View.readAt (Elt F) (ms0_9 t).view (rowHalf hb n).toLoadRect ((hs0_9 t).unread (before m c t).2.2.1))
      (bSum (found m c t)) 2 := by
    subst hr; sl_kernel_rfl
  have e4 : r.2.2.2.1 = copyPiece (soFar (Val := Elt F) (e := .f32) [] (dcSt (found m c t)) 128) ::
      soFar (Val := Elt F) (e := .f32) [] (dcSt (found m c t)) 128 := by
    subst hr; sl_kernel_rfl
  have e1 : r.1 = upStores (found m c t) (shB (before m c t).2.2.2 (found m c t)) := by
    subst hr; sl_kernel_rfl
  have e2 : r.2.1 = adds hw [] (fun _ n => View.readAt (Elt F) (ms0_8 t).view (rowHalf hw n).toLoadRect ((hs0_8 t).unread (before m c t).2.1))
      (wSum (found m c t) (shB (before m c t).2.2.2 (found m c t))) 6 := by
    subst hr; sl_kernel_rfl
  clear hr
  obtain ⟨L7, L8, L9, LS, hL⟩ := r
  dsimp only at e1 e2 e3 e4 ⊢
  clear hL
  subst e1 e2 e3 e4
  rfl

/-- The eight rows of zeros below a column tile's last rows. -/
abbrev tailPiece : View.Piece (Elt F) (Q 1032) .f32 :=
  ⟨Rect.unit ![1024, 0] S8x1024.size inb_S1032x1024_S8x1024_1024_0, shapeCast (Q 8) zero8 (by decide)⟩
/-- The zeros that the sums start from. -/
abbrev zeroPiece8 : View.Piece (Elt F) (Q 8) .f32 := ⟨Rect.unit ![0, 0] S8x1024.size inb_S8x1024_S8x1024_0_0, zero8⟩
abbrev zeroPiece1 : View.Piece (Elt F) (Q 1) .f32 := ⟨Rect.unit ![0, 0] S1x1024.size inb_S1x1024_S1x1024_0_0, zero1⟩

set_option maxHeartbeats 3200000 in
theorem outs_A (c : Dev nD) (t : Fin cfg0.N) (h0 : t.val % 8 = 0) :
    outsAt0 m c t.val t.isLt =
      (View.canon (upStores (found m c t) (shA [tailPiece] (found m c t))),
       View.canon (adds hw [zeroPiece8] (fun L n => View.readCov (Val := Elt F) (ms0_8 t).view L (rowHalf hw n).toLoadRect)
           (wSum (found m c t) (shA [tailPiece] (found m c t))) 6),
       View.canon (adds hb [zeroPiece1] (fun L n => View.readCov (Val := Elt F) (ms0_9 t).view L (rowHalf hb n).toLoadRect)
           (bSum (found m c t)) 2),
       View.canon (copyPiece (soFar (Val := Elt F) (e := .f32) [tailPiece] (dcSt (found m c t)) 128) ::
         soFar (Val := Elt F) (e := .f32) [tailPiece] (dcSt (found m c t)) 128)) := by
  rw [outsAt0_A m c t h0]
  unfold out0_A_7 out0_A_8 out0_A_9 sout0_A_1
  simp only [View.read_writes_junk_eq_canon]
  generalize hr : kernelRun0_A (F := F) _ _ _ _ _ _ _ _ _ _ _ _ _ _ _ _ _ _ _ _ _ _ _ _ _ _ _ _ _ _ _ _ _ _ _ _ = r
  have e3 : r.2.2.1 = adds hb [zeroPiece1] (fun L n => View.readCov (Val := Elt F) (ms0_9 t).view L (rowHalf hb n).toLoadRect)
      (bSum (found m c t)) 2 := by
    subst hr; sl_kernel_rfl
  have e4 : r.2.2.2.1 = copyPiece (soFar (Val := Elt F) (e := .f32) [tailPiece] (dcSt (found m c t)) 128) ::
      soFar (Val := Elt F) (e := .f32) [tailPiece] (dcSt (found m c t)) 128 := by
    subst hr; sl_kernel_rfl
  have e1 : r.1 = upStores (found m c t) (shA [tailPiece] (found m c t)) := by
    subst hr; sl_kernel_rfl
  have e2 : r.2.1 = adds hw [zeroPiece8] (fun L n => View.readCov (Val := Elt F) (ms0_8 t).view L (rowHalf hw n).toLoadRect)
      (wSum (found m c t) (shA [tailPiece] (found m c t))) 6 := by
    subst hr; sl_kernel_rfl
  clear hr
  obtain ⟨L7, L8, L9, LS, hL⟩ := r
  dsimp only at e1 e2 e3 e4 ⊢
  clear hL
  subst e1 e2 e3 e4
  rfl

/-! ## The loads of the blocks -/

/-- The held product. -/
abbrev dz (c : Dev nD) (t : Fin cfg0.N) : Vec F (Q 1024) .f32 := k0_pay9 (iblk m c 0 t) (iblk m c 1 t)

/-- The gate's rows under the eight before them. -/
def ext (c : Dev nD) (t : Fin cfg0.N) : Vec F (Q 1032) .f32 := fun y =>
  if h : (y 0).val < 8 then k0_pay10 (F := F) (grid0.coords t) (iblk m c 4 t) (ix2 (⟨(y 0).val, h⟩ : Fin 8) (y 1))
  else k0_pay11 (F := F) (iblk m c 2 t)
    (ix2 (⟨(y 0).val - 8, by have : (y 0).val < 1032 := (y 0).isLt; omega⟩ : Fin 1024) (y 1))

/-- The loads, of the blocks. -/
def loads (c : Dev nD) (t : Fin cfg0.N) : Loads F where
  e k n := View.ld (ext m c t) (visit (N := 1032) (6 + k.val) (by omega) n)
  w k n := View.ld (Val := Elt F) (e' := .f32) (iblk m c 5 t) (wRow k n)
  b n := View.ld (Val := Elt F) (e' := .f32) (iblk m c 6 t) (half (posC n) (posC_le n))
  z n := View.ld (dz m c t) (visit (N := 1024) 0 le1024 n)
  v n := View.ld (Val := Elt F) (e' := .f32) (iblk m c 3 t) (visit (N := 1024) 0 le1024 n)

theorem readCov_dz (c : Dev nD) (t : Fin cfg0.N) (r : Rect (Q 1024)) :
    View.readCov (Val := Elt F) scM0_2.view [dzPiece m c t] r.toLoadRect = View.ld (dz m c t) r := by
  refine (View.readCov_fill _ _ _ _ r zero_off_apply).trans ?_
  refine congrArg (fun X => View.ld X r) ?_
  show k0_pay9 _ _ = k0_pay9 _ _
  rw [readAt_unread, readAt_unread, ld_zero, ld_zero]

theorem canon_ext (c : Dev nD) (t : Fin cfg0.N) : View.canon (extPieces m c t) = ext m c t := by
  funext y
  unfold ext extPieces
  have hy : (y 0).val < 1032 := (y 0).isLt
  rcases Nat.lt_or_ge (y 0).val 8 with h | h
  · rw [dif_pos h]
    have ey : (Rect.unit (s := Q 1032) ![0, 0] S8x1024.size inb_S1032x1024_S8x1024_0_0).emb (ix2 (⟨(y 0).val, h⟩ : Fin 8) (y 1)) = y := by
      funext i; apply Fin.ext
      match i with
      | ⟨0, _⟩ => show 0 + 1 * (y 0).val = (y 0).val; omega
      | ⟨1, _⟩ => show 0 + 1 * (y 1).val = (y 1).val; omega
    refine (View.canon_cons_of_not_mem _ _ fun hm => ?_).trans ?_
    · have h8 : 8 ≤ (y 0).val := (Rect.mem_set_unit (s := Q 1032) (inb := inb_S1032x1024_S1024x1024_8_0) |>.mp hm 0).1
      omega
    · refine ((congrArg _ ey.symm).trans (View.canon_cons_emb _ _ _ _)).trans ?_
      rw [readAt_unread, ld_zero]
  · rw [dif_neg (Nat.not_lt_of_ge h)]
    have ey : (Rect.unit (s := Q 1032) ![8, 0] S1024x1024.size inb_S1032x1024_S1024x1024_8_0).emb
        (ix2 (⟨(y 0).val - 8, by omega⟩ : Fin 1024) (y 1)) = y := by
      funext i; apply Fin.ext
      match i with
      | ⟨0, _⟩ => show 8 + 1 * ((y 0).val - 8) = (y 0).val; omega
      | ⟨1, _⟩ => show 0 + 1 * (y 1).val = (y 1).val; omega
    refine ((congrArg _ ey.symm).trans (View.canon_cons_emb _ _ _ _)).trans ?_
    rw [readAt_unread, ld_zero]

theorem Loads.eq {a b : Loads F} (he : ∀ k n, a.e k n = b.e k n) (hw : ∀ k n, a.w k n = b.w k n) (hb : ∀ n, a.b n = b.b n)
    (hz : ∀ n, a.z n = b.z n) (hv : ∀ n, a.v n = b.v n) : a = b := by
  obtain ⟨ae, aw, ab, az, av⟩ := a
  obtain ⟨be, bw, bb, bz, bv⟩ := b
  have e1 : ae = be := funext fun k => funext fun n => he k n
  have e2 : aw = bw := funext fun k => funext fun n => hw k n
  have e3 : ab = bb := funext hb
  have e4 : az = bz := funext hz
  have e5 : av = bv := funext hv
  rw [e1, e2, e3, e4, e5]

theorem found_eq (c : Dev nD) (t : Fin cfg0.N) : found m c t = loads m c t := by
  apply Loads.eq
  · intro k n
    unfold found loads
    dsimp only
    rw [View.readCov_eq_canon', canon_ext]
  · intro k n
    unfold found loads
    exact readAt_unread (ms0_5 t) (hs0_5 t) (wRow k n) _
  · intro n
    unfold found loads
    exact readAt_unread (ms0_6 t) (hs0_6 t) (half (posC n) (posC_le n)) _
  · intro n
    unfold found loads
    dsimp only
    rw [readCov_dz]
  · intro n
    unfold found loads
    exact readAt_unread (ms0_3 t) (hs0_3 t) (visit (N := 1024) 0 le1024 n) _

/-! ## The gradients some rows down -/

/-- The loads some rows down of all the slabs over eight rows more. -/
def sh (T : Vec F (Q 8) .f32) (l : Loads F) (d n : ℕ) : FVec F P16 .f32 :=
  if hd : d + 1024 ≤ 1032 then
    View.ld (below (Val := Elt F) (e := .f32) (dcSt l) T) (visit (N := 1032) d hd (n % 128))
  else dc16 l n

/-- The last eight rows. -/
def tailOf (x : Vec F (Q 1032) .f32) : Vec F (Q 8) .f32 := fun y =>
  x (ix2 (⟨1024 + (y 0).val, by have : (y 0).val < 8 := (y 0).isLt; omega⟩ : Fin 1032) (y 1))

theorem canon_in {S : Shape} (r : Rect S) (w : r.shape.Idx → Elt F .f32) (L : List (View.Piece (Elt F) S .f32)) (x : r.shape.Idx) :
    View.canon (⟨r, w⟩ :: L) (r.emb x) = w x := View.canon_cons_emb r w L x

theorem canon_out {S : Shape} (p : View.Piece (Elt F) S .f32) (L : List (View.Piece (Elt F) S .f32)) (y : S.Idx) (hy : y ∉ p.1.set) :
    View.canon (p :: L) y = View.canon L y := View.canon_cons_of_not_mem p L hy

theorem tail_idx (y : (Q 1032).Idx) (h : 1024 ≤ (y 0).val) (h8 : (y 0).val - 1024 < 8) :
    (Rect.unit (s := Q 1032) ![1024, 0] S8x1024.size inb_S1032x1024_S8x1024_1024_0).emb (ix2 (⟨(y 0).val - 1024, h8⟩ : Fin 8) (y 1)) = y := by
  funext i; apply Fin.ext
  match i with
  | ⟨0, _⟩ => show 1024 + 1 * ((y 0).val - 1024) = (y 0).val; omega
  | ⟨1, _⟩ => show 0 + 1 * (y 1).val = (y 1).val; omega

theorem canon_tail (y : (Q 1032).Idx) (h : 1024 ≤ (y 0).val) (h8 : (y 0).val - 1024 < 8) :
    View.canon [tailPiece (F := F)] y = zero8 (ix2 (⟨(y 0).val - 1024, h8⟩ : Fin 8) (y 1)) :=
  (congrArg _ (tail_idx y h h8).symm).trans (View.canon_cons_emb _ _ _ _)

theorem shA_tail (l : Loads F) : shA [tailPiece] l = sh zero8 l := by
  funext d n
  unfold shA sh
  split_ifs with hd
  · refine (View.readCov_eq_canon' _ _ _).trans ?_
    exact load_soFar (Val := Elt F) (e := .f32) View.canon canon_in canon_out _ _ _ _ d (Nat.mod_lt _ (by omega)) (by omega)
      fun y h _ => canon_tail y h _
  · rfl

theorem shA_nil (l : Loads F) (T : Vec F (Q 8) .f32) (d n : ℕ) (h : ¬n % 64 = 0) : shA [] l d n = sh T l d n := by
  unfold shA sh
  split_ifs with hd
  · refine (View.readCov_eq_canon' _ _ _).trans ?_
    exact load_soFar (Val := Elt F) (e := .f32) View.canon canon_in canon_out _ _ _ _ d (Nat.mod_lt _ (by omega)) (by omega)
      fun y _ h64 => absurd h64 (by omega)
  · rfl

theorem shB_eq (x : Vec F (Q 1032) .f32) (l : Loads F) : shB x l = sh (tailOf x) l := by
  funext d n
  unfold shB
  split_ifs with hn hd
  · unfold sh
    rw [dif_pos hd]
    refine load_soFar (Val := Elt F) (e := .f32)
      (fun L => scM0_1.view.read (Elt F) (scM0_1.view.writes (Elt F) ((Memref.isWhole_whole _).unread x) L))
      (fun r w L z => View.read_writes_cons_emb _ _ r w L z) (fun p L y hy => View.read_writes_cons_miss _ _ p L y hy)
      [] _ _ _ d (Nat.mod_lt _ (by omega)) (by omega) fun y h _ => ?_
    have e0 : scM0_1.view.read (Elt F) ((Memref.isWhole_whole _).unread x) = x := Memref.IsWhole.read_unread _ x
    refine (congrFun e0 y).trans ?_
    refine congrArg x ?_
    funext i; apply Fin.ext
    match i with
    | ⟨0, _⟩ => show (y 0).val = 1024 + ((y 0).val - 1024); omega
    | ⟨1, _⟩ => rfl
  · unfold sh
    rw [dif_neg hd]
  · exact shA_nil l _ d n hn

/-- The first eight rows of the gradients. -/
def top (l : Loads F) : Vec F (Q 8) .f32 := fun y =>
  dcSt l (stepOf (y 0).val (y 1).val) (ix2 (⟨(y 0).val % 16, Nat.mod_lt _ (by omega)⟩ : Fin 16) (⟨(y 1).val % 512, Nat.mod_lt _ (by omega)⟩ : Fin 512))

theorem canon_copy (base : List (View.Piece (Elt F) (Q 1032) .f32)) (l : Loads F) :
    tailOf (View.canon (copyPiece (soFar (Val := Elt F) (e := .f32) base (dcSt l) 128) ::
      soFar (Val := Elt F) (e := .f32) base (dcSt l) 128)) = top l := by
  funext y
  have hy : (y 0).val < 8 := (y 0).isLt
  have hy1 : (y 1).val < 1024 := (y 1).isLt
  have ey : (Rect.unit (s := Q 1032) ![1024, 0] S8x1024.size inb_S1032x1024_S8x1024_1024_0).emb y =
      ix2 (⟨1024 + (y 0).val, by omega⟩ : Fin 1032) (y 1) := by
    funext i; apply Fin.ext
    match i with
    | ⟨0, _⟩ => show 1024 + 1 * (y 0).val = 1024 + (y 0).val; omega
    | ⟨1, _⟩ => show 0 + 1 * (y 1).val = (y 1).val; omega
  unfold tailOf
  refine ((congrArg _ ey.symm).trans (View.canon_cons_emb _ _ _ _)).trans ?_
  unfold k0_pay5
  rw [View.readCov_eq_canon', shapeCast_self]
  have hb0 : ((Rect.unit (s := Q 1032) ![0, 0] S8x1024.size inb_S1032x1024_S8x1024_0_0).toLoadRect.idx y 0).val = (y 0).val := by
    show 0 + 1 * (y 0).val = (y 0).val; omega
  have hb1 : ((Rect.unit (s := Q 1032) ![0, 0] S8x1024.size inb_S1032x1024_S8x1024_0_0).toLoadRect.idx y 1).val = (y 1).val := by
    show 0 + 1 * (y 1).val = (y 1).val; omega
  refine (soFar_below (Val := Elt F) (e := .f32) View.canon canon_in canon_out base (dcSt l) zero8 _
    (fun h => absurd h (by rw [hb0]; omega)) 128 (Nat.le_refl _) (fun _ => ?_)).trans ?_
  · show 63 - _ / 16 + 64 * (_ / 512) < 128
    rw [hb0, hb1]; omega
  · unfold below top
    rw [dif_pos (by rw [hb0]; omega)]
    simp only [hb0, hb1]

/-! ## One result at a time -/

theorem canon_zero8 (y : (Q 8).Idx) : View.canon [zeroPiece8 (F := F)] y = zero8 (F := F) y := by
  have ey : (Rect.unit (s := Q 8) ![0, 0] S8x1024.size inb_S8x1024_S8x1024_0_0).emb y = y := by
    funext i; apply Fin.ext
    match i with
    | ⟨0, _⟩ => show 0 + 1 * (y 0).val = (y 0).val; omega
    | ⟨1, _⟩ => show 0 + 1 * (y 1).val = (y 1).val; omega
  exact (congrArg _ ey.symm).trans (View.canon_cons_emb _ _ _ _)

theorem canon_zero1 (y : (Q 1).Idx) : View.canon [zeroPiece1 (F := F)] y = zero1 (F := F) y := by
  have ey : (Rect.unit (s := Q 1) ![0, 0] S1x1024.size inb_S1x1024_S1x1024_0_0).emb y = y := by
    funext i; apply Fin.ext
    match i with
    | ⟨0, _⟩ => show 0 + 1 * (y 0).val = (y 0).val; omega
    | ⟨1, _⟩ => show 0 + 1 * (y 1).val = (y 1).val; omega
  exact (congrArg _ ey.symm).trans (View.canon_cons_emb _ _ _ _)

/-- The additions of a column tile's first point. -/
theorem canon_adds {R K : ℕ} (hK : 0 < K ∧ K ≤ R) {κ : Kind} {sp : Space} (M : Memref sig κ sp (Q R) .f32)
    (p : View.Piece (Elt F) (Q R) .f32) (z : Vec F (Q R) .f32) (hz : ∀ y, View.canon [p] y = z y) (s : ℕ → FVec F P1 .f32) :
    View.canon (adds hK [p] (fun L n => View.readCov (Val := Elt F) M.view L (rowHalf hK n).toLoadRect) s (2 * K)) = added hK z s :=
  adds_eq hK View.canon canon_in canon_out _ _ s z hz fun n hn =>
    (View.readCov_eq_canon' _ _ _).trans (adds_load hK View.canon canon_out _ _ s z hz n hn)

/-- Those of a later point, over the rows that the point before left. -/
theorem read_adds {R K : ℕ} (hK : 0 < K ∧ K ≤ R) {κ : Kind} {sp : Space} (M : Memref sig κ sp (Q R) .f32) (h : M.IsWhole)
    (z : Vec F (Q R) .f32) (s : ℕ → FVec F P1 .f32) :
    M.view.read (Elt F) (M.view.writes (Elt F) (h.unread z)
      (adds hK [] (fun _ n => View.readAt (Elt F) M.view (rowHalf hK n).toLoadRect (h.unread z)) s (2 * K))) = added hK z s :=
  adds_eq hK (fun L => M.view.read (Elt F) (M.view.writes (Elt F) (h.unread z) L))
    (fun r w L x => View.read_writes_cons_emb _ _ r w L x) (fun p L y hy => View.read_writes_cons_miss _ _ p L y hy)
    _ _ s z (fun y => congrFun (h.read_unread z) y) fun n _ => readAt_unread M h (rowHalf hK n) z

theorem bias_covered (y : (Q 1).Idx) (X : List (View.Piece (Elt F) (Q 1) .f32) → ℕ → Vec F P1 .f32) (s : ℕ → FVec F P1 .f32) :
    ∃ p ∈ adds hb [] X s 2, y ∈ p.1.set := by
  have h0 : (y 0).val < 1 := (y 0).isLt
  have h1 : (y 1).val < 1024 := (y 1).isLt
  rcases Nat.lt_or_ge (y 1).val 512 with h | h
  · refine ⟨_, List.mem_cons_of_mem _ List.mem_cons_self, ?_⟩
    refine (Rect.mem_set_unit (s := Q 1) (inb := inbRow (row_le hb 0) (half_le 1 0))).mpr fun a => ?_
    fin_cases a
    · exact ⟨Nat.zero_le _, h0⟩
    · exact ⟨Nat.zero_le _, h⟩
  · refine ⟨_, List.mem_cons_self, ?_⟩
    refine (Rect.mem_set_unit (s := Q 1) (inb := inbRow (row_le hb 1) (half_le 1 1))).mpr fun a => ?_
    fin_cases a
    · exact ⟨Nat.zero_le _, h0⟩
    · exact ⟨h, h1⟩

/-- The eight rows below a point's last: zeros, or the first rows of the point before. -/
def tail (c : Dev nD) (t : Fin cfg0.N) : Vec F (Q 8) .f32 :=
  if t.val % 8 = 0 then zero8 else top (loads m c ⟨t.val - 1, Nat.lt_of_le_of_lt (Nat.sub_le _ _) t.isLt⟩)

theorem outs_tail (c : Dev nD) (t : Fin cfg0.N) : tailOf (outsAt0 m c t.val t.isLt).2.2.2 = top (loads m c t) := by
  by_cases h : t.val % 8 = 0
  · rw [outs_A m c t h]
    dsimp only
    rw [canon_copy, found_eq]
  · rw [outs_B m c t h]
    dsimp only
    rw [canon_copy, found_eq]

theorem outs_up (c : Dev nD) (t : Fin cfg0.N) :
    (outsAt0 m c t.val t.isLt).1 = View.canon (upStores (loads m c t) (sh (tail m c t) (loads m c t))) := by
  unfold tail
  by_cases h : t.val % 8 = 0
  · rw [outs_A m c t h, if_pos h]
    dsimp only
    rw [shA_tail, found_eq]
  · rw [outs_B m c t h, if_neg h]
    dsimp only
    rw [shB_eq, found_eq]
    rw [outs_tail m c ⟨t.val - 1, Nat.lt_of_le_of_lt (Nat.sub_le _ _) t.isLt⟩]

theorem outs_A_dw (c : Dev nD) (t : Fin cfg0.N) (h : t.val % 8 = 0) :
    (outsAt0 m c t.val t.isLt).2.1 = added hw zero8 (wSum (loads m c t) (sh (tail m c t) (loads m c t))) := by
  unfold tail
  rw [outs_A m c t h, if_pos h]
  dsimp only
  rw [shA_tail, found_eq]
  exact canon_adds hw (ms0_8 t) zeroPiece8 zero8 canon_zero8 _

theorem outs_B_dw (c : Dev nD) (t : Fin cfg0.N) (h : ¬t.val % 8 = 0) :
    (outsAt0 m c t.val t.isLt).2.1 = added hw (before m c t).2.1 (wSum (loads m c t) (sh (tail m c t) (loads m c t))) := by
  unfold tail
  rw [outs_B m c t h, if_neg h]
  dsimp only
  rw [shB_eq, found_eq]
  rw [outs_tail m c ⟨t.val - 1, Nat.lt_of_le_of_lt (Nat.sub_le _ _) t.isLt⟩]
  exact read_adds hw (ms0_8 t) (hs0_8 t) _ _

theorem outs_A_db (c : Dev nD) (t : Fin cfg0.N) (h : t.val % 8 = 0) :
    (outsAt0 m c t.val t.isLt).2.2.1 = added hb zero1 (bSum (loads m c t)) := by
  rw [outs_A m c t h]
  dsimp only
  rw [found_eq]
  exact canon_adds hb (ms0_9 t) zeroPiece1 zero1 canon_zero1 _

theorem outs_B_db (c : Dev nD) (t : Fin cfg0.N) (h : ¬t.val % 8 = 0) :
    (outsAt0 m c t.val t.isLt).2.2.1 = added hb (before m c t).2.2.1 (bSum (loads m c t)) := by
  rw [outs_B m c t h]
  dsimp only
  rw [found_eq]
  refine Eq.trans ?_ (read_adds hb (ms0_9 t) (hs0_9 t) (before m c t).2.2.1 (bSum (loads m c t)))
  funext y
  exact (View.read_writes_apply_eq_canon _ _ y _ (bias_covered y _ _)).symm

end Cert.FfnBwd

end
-- ==== Proof.FfnBwd.Value.lean ====
/- What the feed-forward block's gradient leaves after every point, as expressions over its arguments' elements, and the arrays
   of it. -/
module

public import proofs.«01_k».proof.Proof.FfnBwd.Points
public import proofs.«01_k».proof.Proof.Gen.Kernel5Ideal.Value
public import Idealize.ShloMosaic.Lib.Pipeline.ValueKit.Geometry

@[expose] public section

set_option maxRecDepth 16384

noncomputable section

open scoped BigOperators

namespace Cert.FfnBwd

open Cert.Kernel5Ideal Cert.Kernel5Ideal.Gen Cert.RowNorm Cert.Sums Cert.Slab
open Idealize.ShloMosaic Idealize.ShloMosaic.TcCoe Idealize.SL.Sem

/-! ## One slab at an index -/

/-- The constants: of the tangent's argument, of its square's term, the half, and of the derivative's two terms. -/
abbrev k0 : EReal := Ideal.ofBits .f32 0x3F4C422A#32
abbrev k1 : EReal := Named.named (F := Ideal) κ "c01" (φ := .f32) 0x3D122279#32
abbrev kh : EReal := Ideal.ofBits .f32 0x3F000000#32
abbrev ko : EReal := Ideal.ofBits .f32 0x3F800000#32
abbrev k2 : EReal := Ideal.ofBits .f32 0x3ECC422A#32
abbrev k3 : EReal := Named.named (F := Ideal) κ "tc01" (φ := .f32) 0x3D5B33B6#32

/-- The hyperbolic tangent, half of one more than it, and the activation's derivative. -/
def tOf (c : EReal) : EReal := Ideal.tanh (c * (k0 + k1 * (c * c)))
def hOf (c : EReal) : EReal := kh + kh * tOf c
def gOf (c : EReal) : EReal := hOf c + c * (ko - tOf c * tOf c) * (k2 + k3 * (c * c))
/-- The convolution of a row and the two above it. -/
def cOf (b w0 w1 w2 u0 u1 u2 : EReal) : EReal := ((b + w2 * u0) + w0 * u2) + w1 * u1

theorem c16_apply (l : Loads Ideal) (n : ℕ) (x : Fin 16) (y : Fin 512) :
    c16 l n (ix2 x y) = cOf (l.b n (ix2 0 y)) (l.w 0 n (ix2 0 y)) (l.w 1 n (ix2 0 y)) (l.w 2 n (ix2 0 y))
      (l.e 2 n (ix2 x y)) (l.e 1 n (ix2 x y)) (l.e 0 n (ix2 x y)) := by
  unfold c16 cOf row16
  pointwise

theorem h16_apply (c : FVec Ideal P16 .f32) (x : Fin 16) (y : Fin 512) : h16 (t16 c) (ix2 x y) = hOf (c (ix2 x y)) := by
  unfold h16 t16 hOf tOf
  pointwise
  try rfl

theorem g16_apply (c : FVec Ideal P16 .f32) (x : Fin 16) (y : Fin 512) : g16 c (t16 c) (ix2 x y) = gOf (c (ix2 x y)) := by
  unfold gOf g16
  pointwise [h16_apply]
  unfold t16 tOf
  pointwise
  try rfl

theorem dc16_apply (l : Loads Ideal) (n : ℕ) (x : Fin 16) (y : Fin 512) :
    dc16 l n (ix2 x y) = l.z n (ix2 x y) * l.v n (ix2 x y) * gOf (c16 l n (ix2 x y)) := by
  unfold dc16
  pointwise [g16_apply]

theorem dv16_apply (l : Loads Ideal) (n : ℕ) (x : Fin 16) (y : Fin 512) :
    dv16 l n (ix2 x y) = l.z n (ix2 x y) * (c16 l n (ix2 x y) * hOf (c16 l n (ix2 x y))) := by
  unfold dv16
  pointwise [h16_apply]

theorem dg16_apply (l : Loads Ideal) (s : ℕ → ℕ → FVec Ideal P16 .f32) (n : ℕ) (x : Fin 16) (y : Fin 512) :
    dg16 l s n (ix2 x y) = (l.w 2 n (ix2 0 y) * dc16 l n (ix2 x y) + l.w 0 n (ix2 0 y) * s 2 n (ix2 x y))
      + l.w 1 n (ix2 0 y) * s 1 n (ix2 x y) := by
  unfold dg16 row16
  pointwise

theorem out3_apply (d : FVec Ideal P16 .f32) (q : Fin 1) (x : Fin 16) (y : Fin 512) : out3 d (ix3 q x y) = d (ix2 x y) := by
  unfold out3
  pointwise

theorem pay9_apply (a : Vec Ideal S1024x2048 .bf16) (w : Vec Ideal S1024x2048 .bf16) (r b : Fin 1024) :
    k0_pay9 (F := Ideal) a w (ix2 r b) = ∑ j : Fin 2048, a (ix2 r j) * w (ix2 b j) := by
  unfold k0_pay9
  pointwise

theorem pay11_apply (a : Vec Ideal S1024x1024 .f32) (r b : Fin 1024) : k0_pay11 (F := Ideal) a (ix2 r b) = a (ix2 r b) := by
  unfold k0_pay11
  pointwise

theorem pay10_last (i : grid0.Coords) (h : (i 1).val = 7) (a : Vec Ideal S8x1024 .f32) (r : Fin 8) (b : Fin 1024) :
    k0_pay10 (F := Ideal) i a (ix2 r b) = 0 := by
  unfold k0_pay10
  rw [h]
  pointwise

theorem pay10_rest (i : grid0.Coords) (h : ¬(i 1).val = 7) (a : Vec Ideal S8x1024 .f32) (r : Fin 8) (b : Fin 1024) :
    k0_pay10 (F := Ideal) i a (ix2 r b) = a (ix2 r b) := by
  have h8 : (i 1).val < 8 := (i 1).isLt
  have e : Scalar.cmpi .eq (BitVec.ofNat 32 (i 1).val) 7#32 = 0#1 := by
    revert h h8
    generalize (i 1).val = n
    intro h h8
    interval_cases n <;> first | rfl | exact absurd rfl h
  unfold k0_pay10
  dsimp only
  rw [e]
  pointwise
  try rfl

variable (m : (ℓ : Loc nD τ sig) → Buf (Elt Ideal) ℓ)

/-! ## The windows' blocks -/

theorem lt_N (t : Fin cfg0.N) : t.val < 48 := t.isLt
theorem coord1 : ∀ t : Fin cfg0.N, (grid0.coords t 1).val = t.val % 8 := by decide +kernel

/-- A point's first row and first column. -/
abbrev R0 (n : ℕ) : ℕ := 1024 * (7 - n % 8)
abbrev C0 (n : ℕ) : ℕ := 1024 * (n / 8)

theorem at0' : ∀ t : Fin cfg0.N, win0_0.index t 0 = 7 - t.val % 8 ∧ win0_0.index t 1 = 0 := by decide +kernel
theorem at1' : ∀ t : Fin cfg0.N, win0_1.index t 0 = t.val / 8 ∧ win0_1.index t 1 = 0 := by decide +kernel
theorem at2' : ∀ t : Fin cfg0.N, win0_2.index t 0 = 7 - t.val % 8 ∧ win0_2.index t 1 = t.val / 8 := by decide +kernel
theorem at3' : ∀ t : Fin cfg0.N, win0_3.index t 0 = 7 - t.val % 8 ∧ win0_3.index t 1 = 6 + t.val / 8 := by decide +kernel
theorem at4' : ∀ t : Fin cfg0.N, win0_4.index t 0 = 128 * (7 - t.val % 8) - 1 ∧ win0_4.index t 1 = t.val / 8 := by decide +kernel
theorem at5' : ∀ t : Fin cfg0.N, win0_5.index t 0 = 0 ∧ win0_5.index t 1 = t.val / 8 := by decide +kernel
theorem at6' : ∀ t : Fin cfg0.N, win0_6.index t 0 = 0 ∧ win0_6.index t 1 = t.val / 8 := by decide +kernel
theorem at7' : ∀ t : Fin cfg0.N, win0_7.index t 0 = 0 ∧ win0_7.index t 1 = 7 - t.val % 8 ∧ win0_7.index t 2 = t.val / 8 := by decide +kernel
theorem at8' : ∀ t : Fin cfg0.N, win0_8.index t 0 = 0 ∧ win0_8.index t 1 = t.val / 8 := by decide +kernel
theorem at9' : ∀ t : Fin cfg0.N, win0_9.index t 0 = 0 ∧ win0_9.index t 1 = t.val / 8 := by decide +kernel

/-- A block read at an index is the array read where the window's index map puts it. -/
theorem iblk0 (c : Dev nD) (t : Fin cfg0.N) (r : Fin 1024) (j : Fin 2048) :
    (iblk m c 0 t : Vec Ideal S1024x2048 .bf16) (ix2 r j) = at2 (V m c main_arg4) (R0 t.val + r.val) (j.val) := by
  have ht := lt_N t
  rw [at2_of _ _ _ (by simp only [R0]; omega) (by omega)]
  unfold iblk
  rw [View.read_apply]
  show V m c main_arg4 _ = V m c main_arg4 _
  refine congrArg _ (funext fun a => Fin.ext ?_)
  match a with
  | ⟨0, _⟩ => show win0_0.index t 0 * 1024 + 1 * r.val = R0 t.val + r.val; rw [(at0' t).1]; simp only [R0]; omega
  | ⟨1, _⟩ => show win0_0.index t 1 * 2048 + 1 * j.val = j.val; rw [(at0' t).2]; omega

theorem iblk1 (c : Dev nD) (t : Fin cfg0.N) (r : Fin 1024) (j : Fin 2048) :
    (iblk m c 1 t : Vec Ideal S1024x2048 .bf16) (ix2 r j) = at2 (V m c main_v0) (C0 t.val + r.val) (j.val) := by
  have ht := lt_N t
  rw [at2_of _ _ _ (by simp only [C0]; omega) (by omega)]
  unfold iblk
  rw [View.read_apply]
  show V m c main_v0 _ = V m c main_v0 _
  refine congrArg _ (funext fun a => Fin.ext ?_)
  match a with
  | ⟨0, _⟩ => show win0_1.index t 0 * 1024 + 1 * r.val = C0 t.val + r.val; rw [(at1' t).1]; simp only [C0]; omega
  | ⟨1, _⟩ => show win0_1.index t 1 * 2048 + 1 * j.val = j.val; rw [(at1' t).2]; omega

theorem iblk2 (c : Dev nD) (t : Fin cfg0.N) (r : Fin 1024) (j : Fin 1024) :
    (iblk m c 2 t : Vec Ideal S1024x1024 .f32) (ix2 r j) = at2 (V m c main_arg0) (R0 t.val + r.val) (C0 t.val + j.val) := by
  have ht := lt_N t
  rw [at2_of _ _ _ (by simp only [R0]; omega) (by simp only [C0]; omega)]
  unfold iblk
  rw [View.read_apply]
  show V m c main_arg0 _ = V m c main_arg0 _
  refine congrArg _ (funext fun a => Fin.ext ?_)
  match a with
  | ⟨0, _⟩ => show win0_2.index t 0 * 1024 + 1 * r.val = R0 t.val + r.val; rw [(at2' t).1]; simp only [R0]; omega
  | ⟨1, _⟩ => show win0_2.index t 1 * 1024 + 1 * j.val = C0 t.val + j.val; rw [(at2' t).2]; simp only [C0]; omega

theorem iblk3 (c : Dev nD) (t : Fin cfg0.N) (r : Fin 1024) (j : Fin 1024) :
    (iblk m c 3 t : Vec Ideal S1024x1024 .f32) (ix2 r j) = at2 (V m c main_arg0) (R0 t.val + r.val) (6144 + (C0 t.val + j.val)) := by
  have ht := lt_N t
  rw [at2_of _ _ _ (by simp only [R0]; omega) (by simp only [C0]; omega)]
  unfold iblk
  rw [View.read_apply]
  show V m c main_arg0 _ = V m c main_arg0 _
  refine congrArg _ (funext fun a => Fin.ext ?_)
  match a with
  | ⟨0, _⟩ => show win0_3.index t 0 * 1024 + 1 * r.val = R0 t.val + r.val; rw [(at3' t).1]; simp only [R0]; omega
  | ⟨1, _⟩ => show win0_3.index t 1 * 1024 + 1 * j.val = 6144 + (C0 t.val + j.val); rw [(at3' t).2]; simp only [C0]; omega

theorem iblk4 (c : Dev nD) (t : Fin cfg0.N) (h : ¬t.val % 8 = 7) (r : Fin 8) (j : Fin 1024) :
    (iblk m c 4 t : Vec Ideal S8x1024 .f32) (ix2 r j) = at2 (V m c main_arg0) (R0 t.val - 8 + r.val) (C0 t.val + j.val) := by
  have ht := lt_N t
  rw [at2_of _ _ _ (by simp only [R0]; omega) (by simp only [C0]; omega)]
  unfold iblk
  rw [View.read_apply]
  show V m c main_arg0 _ = V m c main_arg0 _
  refine congrArg _ (funext fun a => Fin.ext ?_)
  match a with
  | ⟨0, _⟩ => show win0_4.index t 0 * 8 + 1 * r.val = R0 t.val - 8 + r.val; rw [(at4' t).1]; simp only [R0]; omega
  | ⟨1, _⟩ => show win0_4.index t 1 * 1024 + 1 * j.val = C0 t.val + j.val; rw [(at4' t).2]; simp only [C0]; omega

theorem iblk5 (c : Dev nD) (t : Fin cfg0.N) (r : Fin 8) (j : Fin 1024) :
    (iblk m c 5 t : Vec Ideal S8x1024 .f32) (ix2 r j) = at2 (V m c main_v1) (r.val) (C0 t.val + j.val) := by
  have ht := lt_N t
  rw [at2_of _ _ _ (by omega) (by simp only [C0]; omega)]
  unfold iblk
  rw [View.read_apply]
  show V m c main_v1 _ = V m c main_v1 _
  refine congrArg _ (funext fun a => Fin.ext ?_)
  match a with
  | ⟨0, _⟩ => show win0_5.index t 0 * 8 + 1 * r.val = r.val; rw [(at5' t).1]; omega
  | ⟨1, _⟩ => show win0_5.index t 1 * 1024 + 1 * j.val = C0 t.val + j.val; rw [(at5' t).2]; simp only [C0]; omega

theorem iblk6 (c : Dev nD) (t : Fin cfg0.N) (r : Fin 1) (j : Fin 1024) :
    (iblk m c 6 t : Vec Ideal S1x1024 .f32) (ix2 r j) = at2 (V m c main_arg2) (r.val) (C0 t.val + j.val) := by
  have ht := lt_N t
  rw [at2_of _ _ _ (by omega) (by simp only [C0]; omega)]
  unfold iblk
  rw [View.read_apply]
  show V m c main_arg2 _ = V m c main_arg2 _
  refine congrArg _ (funext fun a => Fin.ext ?_)
  match a with
  | ⟨0, _⟩ => show win0_6.index t 0 * 1 + 1 * r.val = r.val; rw [(at6' t).1]; omega
  | ⟨1, _⟩ => show win0_6.index t 1 * 1024 + 1 * j.val = C0 t.val + j.val; rw [(at6' t).2]; simp only [C0]; omega

/-! ## The values -/

/-- The product that all the results are made of, in row `R` and column `C`. -/
def prod (c : Dev nD) (R C : ℕ) : EReal := ∑ j : Fin 2048, at2 (V m c main_arg4) R j.val * at2 (V m c main_v0) C j.val

/-- The gate's element `d` rows above. -/
def uUp (c : Dev nD) (d R C : ℕ) : EReal := if d ≤ R then at2 (V m c main_arg0) (R - d) C else 0

/-- The weights' row `k`. -/
abbrev wt (c : Dev nD) (k C : ℕ) : EReal := at2 (V m c main_v1) k C

/-- The convolved gate. -/
def cV (c : Dev nD) (R C : ℕ) : EReal :=
  cOf (at2 (V m c main_arg2) 0 C) (wt m c 0 C) (wt m c 1 C) (wt m c 2 C) (uUp m c 0 R C) (uUp m c 1 R C) (uUp m c 2 R C)

/-- Its gradient. -/
def dcV (c : Dev nD) (R C : ℕ) : EReal := prod m c R C * at2 (V m c main_arg0) R (6144 + C) * gOf (cV m c R C)

/-- The gradients of the value and of the gate. -/
def dvV (c : Dev nD) (R C : ℕ) : EReal := prod m c R C * (cV m c R C * hOf (cV m c R C))
def dgV (c : Dev nD) (R C : ℕ) : EReal :=
  (wt m c 2 C * dcV m c R C + wt m c 0 C * dcV m c (R + 2) C) + wt m c 1 C * dcV m c (R + 1) C
/-- What row `R` adds to the weights' gradient. -/
def dwV (c : Dev nD) (k R C : ℕ) : EReal := at2 (V m c main_arg0) R C * dcV m c (R + (2 - k)) C

theorem dcV_out (c : Dev nD) (R C : ℕ) (h : 8192 ≤ R) : dcV m c R C = 0 := by
  have e : prod m c R C = 0 := by
    unfold prod
    refine Finset.sum_eq_zero fun j _ => ?_
    have : at2 (V m c main_arg4) R j.val = 0 := dif_neg (by omega)
    rw [this, zero_mul]
  unfold dcV
  rw [e, zero_mul, zero_mul]

/-! ## The loads at an index -/

theorem ext_apply (c : Dev nD) (t : Fin cfg0.N) (i : Fin 1032) (j : Fin 1024) :
    ext m c t (ix2 i j) = if 8 ≤ R0 t.val + i.val then at2 (V m c main_arg0) (R0 t.val + i.val - 8) (C0 t.val + j.val) else 0 := by
  have hi := i.isLt
  unfold ext
  by_cases h : i.val < 8
  · refine (dif_pos h).trans ?_
    by_cases h7 : t.val % 8 = 7
    · refine (pay10_last _ ((coord1 t).trans h7) _ _ _).trans ?_
      rw [if_neg (by simp only [R0]; omega)]
    · refine (pay10_rest _ (fun e => h7 ((coord1 t).symm.trans e)) _ _ _).trans ?_
      rw [if_pos (by simp only [R0]; omega)]
      refine (iblk4 m c t h7 _ _).trans (congrArg (fun R => at2 _ R _) ?_)
      show R0 t.val - 8 + i.val = R0 t.val + i.val - 8
      simp only [R0]; omega
  · refine (dif_neg h).trans ?_
    rw [if_pos (by simp only [R0]; omega)]
    refine (pay11_apply _ _ _).trans ((iblk2 m c t _ _).trans (congrArg (fun R => at2 _ R _) ?_))
    show R0 t.val + (i.val - 8) = R0 t.val + i.val - 8
    omega

theorem e_apply (c : Dev nD) (t : Fin cfg0.N) (k : Fin 3) (n : ℕ) (x : Fin 16) (y : Fin 512) :
    (loads m c t).e k n (ix2 x y) = uUp m c (2 - k.val) (R0 t.val + (posR n + x.val)) (C0 t.val + (posC n + y.val)) := by
  refine (ld_slab (posR_le (6 + k.val) n (by omega)) (posC_le n) (ext m c t) x y).trans ((ext_apply m c t _ _).trans ?_)
  unfold uUp
  show (if 8 ≤ R0 t.val + (posR n + (6 + k.val) + x.val) then _ else _) = _
  by_cases h : 2 - k.val ≤ R0 t.val + (posR n + x.val)
  · rw [if_pos h, if_pos (by omega)]
    refine congrArg (fun R => at2 _ R _) ?_
    show R0 t.val + (posR n + (6 + k.val) + x.val) - 8 = R0 t.val + (posR n + x.val) - (2 - k.val)
    omega
  · rw [if_neg h, if_neg (by omega)]

theorem w_apply (c : Dev nD) (t : Fin cfg0.N) (k : Fin 3) (n : ℕ) (y : Fin 512) :
    (loads m c t).w k n (ix2 0 y) = wt m c k.val (C0 t.val + (posC n + y.val)) := by
  have hc := posC_le n
  refine Eq.trans ?_ (iblk5 m c t (⟨k.val, by omega⟩ : Fin 8) (⟨posC n + y.val, by omega⟩ : Fin 1024))
  show iblk m c 5 t _ = iblk m c 5 t _
  refine congrArg _ (funext fun a => Fin.ext ?_)
  match a with
  | ⟨0, _⟩ => show k.val + 1 * 0 = k.val; omega
  | ⟨1, _⟩ => show posC n + 1 * y.val = posC n + y.val; omega

theorem b_apply (c : Dev nD) (t : Fin cfg0.N) (n : ℕ) (y : Fin 512) :
    (loads m c t).b n (ix2 0 y) = at2 (V m c main_arg2) 0 (C0 t.val + (posC n + y.val)) := by
  have hc := posC_le n
  refine Eq.trans ?_ (iblk6 m c t (0 : Fin 1) (⟨posC n + y.val, by omega⟩ : Fin 1024))
  exact ld_half (Val := Elt Ideal) (e := .f32) hc (iblk m c 6 t) 0 y

theorem z_apply (c : Dev nD) (t : Fin cfg0.N) (n : ℕ) (x : Fin 16) (y : Fin 512) :
    (loads m c t).z n (ix2 x y) = prod m c (R0 t.val + (posR n + x.val)) (C0 t.val + (posC n + y.val)) := by
  refine (ld_slab (posR_le 0 n le1024) (posC_le n) (dz m c t) x y).trans ((pay9_apply _ _ _ _).trans ?_)
  unfold prod
  refine Finset.sum_congr rfl fun j _ => ?_
  rw [iblk0, iblk1]

theorem v_apply (c : Dev nD) (t : Fin cfg0.N) (n : ℕ) (x : Fin 16) (y : Fin 512) :
    (loads m c t).v n (ix2 x y) = at2 (V m c main_arg0) (R0 t.val + (posR n + x.val)) (6144 + (C0 t.val + (posC n + y.val))) :=
  (ld_slab (Val := Elt Ideal) (e := .f32) (posR_le 0 n le1024) (posC_le n) (iblk m c 3 t) x y).trans (iblk3 m c t _ _)

theorem c_eq (c : Dev nD) (t : Fin cfg0.N) (n : ℕ) (x : Fin 16) (y : Fin 512) :
    c16 (loads m c t) n (ix2 x y) = cV m c (R0 t.val + (posR n + x.val)) (C0 t.val + (posC n + y.val)) := by
  rw [c16_apply, e_apply, e_apply, e_apply, w_apply, w_apply, w_apply, b_apply]
  rfl

theorem dc_eq (c : Dev nD) (t : Fin cfg0.N) (n : ℕ) (x : Fin 16) (y : Fin 512) :
    dc16 (loads m c t) n (ix2 x y) = dcV m c (R0 t.val + (posR n + x.val)) (C0 t.val + (posC n + y.val)) := by
  rw [dc16_apply, c_eq, z_apply, v_apply]
  rfl

theorem dv_eq (c : Dev nD) (t : Fin cfg0.N) (n : ℕ) (x : Fin 16) (y : Fin 512) :
    dv16 (loads m c t) n (ix2 x y) = dvV m c (R0 t.val + (posR n + x.val)) (C0 t.val + (posC n + y.val)) := by
  rw [dv16_apply, c_eq, z_apply]
  rfl

/-! ## The gradients some rows down -/

theorem dcSt_eq (c : Dev nD) (t : Fin cfg0.N) (i j : ℕ) (hi : i < 1024) (hj : j < 1024) (x : Fin 16) (y : Fin 512)
    (hx : x.val = i % 16) (hy : y.val = j % 512) :
    dcSt (loads m c t) (stepOf i j) (ix2 x y) = dcV m c (R0 t.val + i) (C0 t.val + j) := by
  unfold dcSt
  rw [shapeCast_self, dc_eq]
  have e1 : posR (stepOf i j) + x.val = i := by show 16 * (63 - (63 - i / 16 + 64 * (j / 512)) % 64) + x.val = i; omega
  have e2 : posC (stepOf i j) + y.val = j := by show 512 * ((63 - i / 16 + 64 * (j / 512)) / 64 % 2) + y.val = j; omega
  rw [e1, e2]

theorem tail_apply (c : Dev nD) (t : Fin cfg0.N) (r : Fin 8) (j : Fin 1024) :
    tail m c t (ix2 r j) = dcV m c (R0 t.val + (1024 + r.val)) (C0 t.val + j.val) := by
  have ht := lt_N t
  unfold tail
  by_cases h : t.val % 8 = 0
  · rw [if_pos h, dcV_out _ _ _ _ (by simp only [R0]; omega)]
    unfold zero8
    pointwise
  · rw [if_neg h]
    refine (dcSt_eq m c _ r.val j.val (by omega) j.isLt _ _ rfl rfl).trans (congrArg₂ (dcV m c) ?_ ?_)
    · show 1024 * (7 - (t.val - 1) % 8) + r.val = 1024 * (7 - t.val % 8) + (1024 + r.val); omega
    · show 1024 * ((t.val - 1) / 8) + j.val = 1024 * (t.val / 8) + j.val; omega

theorem below_apply (c : Dev nD) (t : Fin cfg0.N) (i : Fin 1032) (j : Fin 1024) :
    below (Val := Elt Ideal) (e := .f32) (dcSt (loads m c t)) (tail m c t) (ix2 i j) = dcV m c (R0 t.val + i.val) (C0 t.val + j.val) := by
  unfold below
  by_cases h : i.val < 1024
  · exact (dif_pos h).trans (dcSt_eq m c t i.val j.val h j.isLt _ _ rfl rfl)
  · refine (dif_neg h).trans ((tail_apply m c t _ j).trans (congrArg (fun R => dcV m c R _) ?_))
    show R0 t.val + (1024 + (i.val - 1024)) = R0 t.val + i.val
    omega

theorem sh_apply (c : Dev nD) (t : Fin cfg0.N) (d n : ℕ) (hd : d ≤ 2) (hn : n < 128) (x : Fin 16) (y : Fin 512) :
    sh (tail m c t) (loads m c t) d n (ix2 x y) = dcV m c (R0 t.val + (posR n + x.val) + d) (C0 t.val + (posC n + y.val)) := by
  unfold sh
  rw [dif_pos (by omega : d + 1024 ≤ 1032), Nat.mod_eq_of_lt hn]
  refine (ld_slab (Val := Elt Ideal) (e := .f32) (posR_le d n (by omega)) (posC_le n) _ x y).trans ((below_apply m c t _ _).trans
    (congrArg (fun R => dcV m c R _) ?_))
  show R0 t.val + (posR n + d + x.val) = R0 t.val + (posR n + x.val) + d
  omega

theorem dg_eq (c : Dev nD) (t : Fin cfg0.N) (n : ℕ) (hn : n < 128) (x : Fin 16) (y : Fin 512) :
    dg16 (loads m c t) (sh (tail m c t) (loads m c t)) n (ix2 x y) =
      dgV m c (R0 t.val + (posR n + x.val)) (C0 t.val + (posC n + y.val)) := by
  rw [dg16_apply, dc_eq, w_apply, w_apply, w_apply, sh_apply m c t 2 n (by omega) hn, sh_apply m c t 1 n (by omega) hn]
  rfl

theorem dw_eq (c : Dev nD) (t : Fin cfg0.N) (k n : ℕ) (hk : k < 3) (hn : n < 128) (x : Fin 16) (y : Fin 512) :
    dw16 (loads m c t) (sh (tail m c t) (loads m c t)) k n (ix2 x y) =
      dwV m c k (R0 t.val + (posR n + x.val)) (C0 t.val + (posC n + y.val)) := by
  have e : (loads m c t).e 2 n (ix2 x y) = at2 (V m c main_arg0) (R0 t.val + (posR n + x.val)) (C0 t.val + (posC n + y.val)) :=
    (e_apply m c t 2 n x y).trans (if_pos (Nat.zero_le _))
  have s : (if k = 0 then sh (tail m c t) (loads m c t) 2 n else if k = 1 then sh (tail m c t) (loads m c t) 1 n else dc16 (loads m c t) n)
      (ix2 x y) = dcV m c (R0 t.val + (posR n + x.val) + (2 - k)) (C0 t.val + (posC n + y.val)) := by
    interval_cases k
    · exact sh_apply m c t 2 n (by omega) hn x y
    · exact sh_apply m c t 1 n (by omega) hn x y
    · exact dc_eq m c t n x y
  unfold dwV
  rw [← e, ← s]
  rfl

/-! ## What the points leave -/

/-- The stored block's planes. -/
def upV (c : Dev nD) (q R C : ℕ) : EReal := if q = 0 then dgV m c R C else dvV m c R C

theorem up_block (c : Dev nD) (t : Fin cfg0.N) :
    (outsAt0 m c t.val t.isLt).1 = fun y : Q3.Idx => upV m c (y 0).val (R0 t.val + (y 1).val) (C0 t.val + (y 2).val) := by
  rw [outs_up]
  funext y
  refine View.canon_ofFn_unit_eq_of_forall (S := Q3) (fun k : Fin 256 => ![k.val % 2, posR (127 - k.val / 2), posC (127 - k.val / 2)]) P3.size
    (fun k => inb3 (k.val % 2) (127 - k.val / 2) (Nat.mod_lt _ (by omega))) _ y _ ?_ ?_
  · have h0 : (y 0).val < 2 := (y 0).isLt
    have h1 : (y 1).val < 1024 := (y 1).isLt
    have h2 : (y 2).val < 1024 := (y 2).isLt
    refine ⟨⟨2 * (127 - stepOf (y 1).val (y 2).val) + (y 0).val, by simp only [stepOf]; omega⟩, fun a => ?_⟩
    have e : 127 - (2 * (127 - stepOf (y 1).val (y 2).val) + (y 0).val) / 2 = stepOf (y 1).val (y 2).val := by
      simp only [stepOf]; omega
    match a with
    | ⟨0, _⟩ =>
      show (2 * (127 - stepOf (y 1).val (y 2).val) + (y 0).val) % 2 ≤ (y 0).val ∧
        (y 0).val < (2 * (127 - stepOf (y 1).val (y 2).val) + (y 0).val) % 2 + 1
      omega
    | ⟨1, _⟩ =>
      show posR (127 - (2 * (127 - stepOf (y 1).val (y 2).val) + (y 0).val) / 2) ≤ (y 1).val ∧
        (y 1).val < posR (127 - (2 * (127 - stepOf (y 1).val (y 2).val) + (y 0).val) / 2) + 16
      rw [e]
      simp only [posR, stepOf]; omega
    | ⟨2, _⟩ =>
      show posC (127 - (2 * (127 - stepOf (y 1).val (y 2).val) + (y 0).val) / 2) ≤ (y 2).val ∧
        (y 2).val < posC (127 - (2 * (127 - stepOf (y 1).val (y 2).val) + (y 0).val) / 2) + 512
      rw [e]
      simp only [posC, stepOf]; omega
  · intro k x hx
    have ex : x = ix3 (x 0) (x 1) (x 2) := by funext a; fin_cases a <;> rfl
    have x0 : (x 0).val < 1 := (x 0).isLt
    have e0 : (y 0).val = k.val % 2 + (x 0).val := hx 0
    have e1 : (y 1).val = posR (127 - k.val / 2) + (x 1).val := hx 1
    have e2 : (y 2).val = posC (127 - k.val / 2) + (x 2).val := hx 2
    have e0' : (y 0).val = k.val % 2 := by omega
    refine (congrArg _ ex).trans ((out3_apply _ (x 0) (x 1) (x 2)).trans ?_)
    rw [e0', e1, e2]
    unfold upV
    by_cases h : k.val % 2 = 0
    · rw [if_pos h, if_pos h]
      exact dg_eq m c t _ (by omega) _ _
    · rw [if_neg h, if_neg h]
      exact dv_eq m c t _ _ _

/-- Sums over the slabs of one half of the columns, from the last rows up. -/
theorem slabs_sum (D : ℕ → FVec Ideal P16 .f32) (G : ℕ → ℕ → EReal) (h : ∀ n < 128, ∀ (x : Fin 16) (y : Fin 512), D n (ix2 x y) = G (posR n + x.val) (posC n + y.val))
    (p : ℕ) (hp : p < 2) (b : Fin 512) :
    total (fun k : Fin 64 => D (64 * p + k.val)) (ix2 0 b) = ∑ r ∈ Finset.range 1024, G r (512 * p + b.val) := by
  rw [total_apply]
  have e : ∀ k : Fin 64, ∑ r : Fin 16, D (64 * p + k.val) (ix2 r b) = (fun q => ∑ r : Fin 16, G (16 * q + r.val) (512 * p + b.val)) (64 - 1 - k.val) := by
    intro k
    refine Finset.sum_congr rfl fun r _ => (h _ (by omega) r b).trans (congrArg₂ G ?_ ?_)
    · show 16 * (63 - (64 * p + k.val) % 64) + r.val = 16 * (64 - 1 - k.val) + r.val; omega
    · show 512 * ((64 * p + k.val) / 64 % 2) + b.val = 512 * p + b.val; omega
  rw [Finset.sum_congr rfl fun k _ => e k]
  rw [Fin.sum_univ_eq_sum_range (fun k => (fun q => ∑ r : Fin 16, G (16 * q + r.val) (512 * p + b.val)) (64 - 1 - k)) 64]
  refine (Finset.sum_range_reflect (fun q => ∑ r : Fin 16, G (16 * q + r.val) (512 * p + b.val)) 64).trans ?_
  rw [← Fin.sum_univ_eq_sum_range]
  exact sum_runs 16 64 fun r => G r (512 * p + b.val)

theorem added_apply {R K : ℕ} (hK : 0 < K ∧ K ≤ R) (z : Vec Ideal (Q R) .f32) (s : ℕ → FVec Ideal P1 .f32) (g : ℕ → ℕ → EReal)
    (hs : ∀ k < K, ∀ p < 2, ∀ b : Fin 512, s (k + K * p) (ix2 0 b) = g k (512 * p + b.val)) (k : Fin R) (b : Fin 1024) :
    added hK z s (ix2 k b) = if k.val < K then z (ix2 k b) + g k.val b.val else z (ix2 k b) := by
  unfold added
  show (if k.val < K then _ else _) = _
  by_cases h : k.val < K
  · rw [if_pos h, if_pos h]
    show shapeCast P1 _ _ _ + s (k.val + K * (b.val / 512)) (ix2 0 _) = _
    rw [hs _ h _ (by omega), shapeCast_self]
    refine congrArg₂ (· + ·) (congrArg z (funext fun a => Fin.ext ?_)) (congrArg (g _) ?_)
    · match a with
      | ⟨0, _⟩ => show (k.val + K * (b.val / 512)) % K + 1 * 0 = k.val; rw [Nat.add_mul_mod_self_left, Nat.mod_eq_of_lt h]; omega
      | ⟨1, _⟩ =>
        show 512 * ((k.val + K * (b.val / 512)) / K % 2) + 1 * (b.val % 512) = b.val
        rw [Nat.add_mul_div_left _ _ hK.1, Nat.div_eq_of_lt h]; omega
    · show 512 * (b.val / 512) + b.val % 512 = b.val; omega
  · rw [if_neg h, if_neg h]

theorem wSum_apply (c : Dev nD) (t : Fin cfg0.N) (k : ℕ) (hk : k < 3) (p : ℕ) (hp : p < 2) (b : Fin 512) :
    wSum (loads m c t) (sh (tail m c t) (loads m c t)) (k + 3 * p) (ix2 0 b) =
      ∑ r ∈ Finset.range 1024, dwV m c k (R0 t.val + r) (C0 t.val + (512 * p + b.val)) := by
  unfold wSum
  have e1 : (k + 3 * p) % 3 = k := by omega
  have e2 : (k + 3 * p) / 3 % 2 = p := by omega
  rw [e1, e2]
  exact slabs_sum (fun n => dw16 (loads m c t) (sh (tail m c t) (loads m c t)) k n) (fun r b => dwV m c k (R0 t.val + r) (C0 t.val + b))
    (fun n hn x y => dw_eq m c t k n hk hn x y) p hp b

theorem bSum_apply (c : Dev nD) (t : Fin cfg0.N) (k : ℕ) (hk : k < 1) (p : ℕ) (hp : p < 2) (b : Fin 512) :
    bSum (loads m c t) (k + 1 * p) (ix2 0 b) = ∑ r ∈ Finset.range 1024, dcV m c (R0 t.val + r) (C0 t.val + (512 * p + b.val)) := by
  unfold bSum
  have e2 : (k + 1 * p) / 1 % 2 = p := by omega
  rw [e2]
  exact slabs_sum (dc16 (loads m c t)) (fun r b => dcV m c (R0 t.val + r) (C0 t.val + b)) (fun n _ x y => dc_eq m c t n x y) p hp b

/-- Sums over the rows of the points `q` of a column tile visited so far. -/
def rows (f : ℕ → EReal) (n : ℕ) : EReal := ∑ q ∈ Finset.range n, ∑ r ∈ Finset.range 1024, f (R0 q + r)

theorem rows_all (f : ℕ → EReal) : rows f 8 = ∑ R ∈ Finset.range 8192, f R := by
  unfold rows
  have e : ∀ q ∈ Finset.range 8, ∑ r ∈ Finset.range 1024, f (R0 q + r) = (fun p => ∑ r : Fin 1024, f (1024 * p + r.val)) (8 - 1 - q) := by
    intro q hq
    have hq := Finset.mem_range.mp hq
    refine Eq.trans ?_ (Fin.sum_univ_eq_sum_range (fun r => f (1024 * (8 - 1 - q) + r)) 1024).symm
    refine Finset.sum_congr rfl fun r _ => congrArg f ?_
    show 1024 * (7 - q % 8) + r = 1024 * (8 - 1 - q) + r
    omega
  refine (Finset.sum_congr rfl e).trans ((Finset.sum_range_reflect (fun p => ∑ r : Fin 1024, f (1024 * p + r.val)) 8).trans ?_)
  rw [← Fin.sum_univ_eq_sum_range]
  exact sum_runs 1024 8 f

/-- The carried rows after point `n`. -/
def Inv (c : Dev nD) (n : ℕ) (z : Vec Ideal (Q 8) .f32) (z1 : Vec Ideal (Q 1) .f32) : Prop :=
  ∀ b : Fin 1024, (∀ k : Fin 8, z (ix2 k b) = if k.val < 3 then rows (fun R => dwV m c k.val R (C0 n + b.val)) (n % 8 + 1) else 0)
    ∧ ∀ k : Fin 1, z1 (ix2 k b) = rows (fun R => dcV m c R (C0 n + b.val)) (n % 8 + 1)

theorem inv_step (c : Dev nD) (t : Fin cfg0.N)
    (ih : ∀ (n : ℕ) (h : n < cfg0.N), n + 1 = t.val → Inv m c n (outsAt0 m c n h).2.1 (outsAt0 m c n h).2.2.1) :
    Inv m c t.val (outsAt0 m c t.val t.isLt).2.1 (outsAt0 m c t.val t.isLt).2.2.1 := by
  have ht := lt_N t
  intro b
  have sw := fun z k => added_apply hw z _ (fun k b => ∑ r ∈ Finset.range 1024, dwV m c k (R0 t.val + r) (C0 t.val + b)) (wSum_apply m c t) k b
  have sb := fun z k => added_apply hb z _ (fun _ b => ∑ r ∈ Finset.range 1024, dcV m c (R0 t.val + r) (C0 t.val + b)) (bSum_apply m c t) k b
  by_cases h : t.val % 8 = 0
  · rw [outs_A_dw m c t h, outs_A_db m c t h]
    have hr : R0 t.val = R0 0 := by simp only [R0]; omega
    refine ⟨fun k => (sw zero8 k).trans ?_, fun k => (sb zero1 k).trans ?_⟩
    · have z8 : (zero8 : Vec Ideal (Q 8) .f32) (ix2 k b) = 0 := by unfold zero8; pointwise
      rw [z8, h]
      unfold rows
      simp [hr]
    · have z1 : (zero1 : Vec Ideal (Q 1) .f32) (ix2 k b) = 0 := by unfold zero1; pointwise
      rw [z1, h, if_pos k.isLt]
      unfold rows
      simp [hr]
  · rw [outs_B_dw m c t h, outs_B_db m c t h]
    have ih := ih (t.val - 1) (by omega) (by omega) b
    have e1 : (t.val - 1) % 8 + 1 = t.val % 8 := by omega
    have e2 : C0 (t.val - 1) = C0 t.val := by simp only [C0]; omega
    have hr : R0 t.val = R0 (t.val % 8) := by simp only [R0]; omega
    rw [e1, e2] at ih
    refine ⟨fun k => (sw _ k).trans ?_, fun k => (sb _ k).trans ?_⟩
    · rw [ih.1 k]
      by_cases hk : k.val < 3
      · rw [if_pos hk, if_pos hk, if_pos hk, hr]
        exact (Finset.sum_range_succ _ _).symm
      · rw [if_neg hk, if_neg hk, if_neg hk]
    · rw [ih.2 k, if_pos k.isLt, hr]
      exact (Finset.sum_range_succ _ _).symm

theorem inv_all (c : Dev nD) (n : ℕ) : ∀ h : n < cfg0.N, Inv m c n (outsAt0 m c n h).2.1 (outsAt0 m c n h).2.2.1 := by
  induction n with
  | zero => exact fun h => inv_step m c ⟨0, h⟩ fun n _ e => absurd e (Nat.succ_ne_zero n)
  | succ n ih =>
    intro h
    refine inv_step m c ⟨n + 1, h⟩ fun k hk e => ?_
    obtain rfl : k = n := Nat.succ.inj e
    exact ih hk

/-! ## The arrays after the run -/

theorem up_array (c : Dev nD) :
    (dats m 0 c).arrAt 7 cfg0.N = fun z : (⟨3, ![2, 8192, 6144]⟩ : Shape).Idx => upV m c (z 0).val (z 1).val (z 2).val := by
  refine (dats m 0 c).arrAt_eq_of_covers 7 _ (by decide +kernel) fun t hf y => ?_
  blk_simp
  rw [after0_7, up_block]
  show upV m c (y 0).val (R0 t.val + (y 1).val) (C0 t.val + (y 2).val) = _
  have e0 : (y 0).val = win0_7.index t 0 * 2 + (y 0).val := by rw [(at7' t).1]; omega
  have e1 : R0 t.val + (y 1).val = win0_7.index t 1 * 1024 + (y 1).val := by rw [(at7' t).2.1]; simp only [R0]; omega
  have e2 : C0 t.val + (y 2).val = win0_7.index t 2 * 1024 + (y 2).val := by rw [(at7' t).2.2]; simp only [C0]; omega
  rw [e1, e2]
  exact congrArg (fun q => upV m c q _ _) e0

theorem last8 : ∀ t : Fin cfg0.N, (cfg0.win 8).flush t = true → t.val % 8 = 7 := by decide +kernel

theorem dw_array (c : Dev nD) :
    (dats m 0 c).arrAt 8 cfg0.N = fun z : S8x6144.Idx =>
      if (z 0).val < 3 then ∑ R ∈ Finset.range 8192, dwV m c (z 0).val R (z 1).val else 0 := by
  refine (dats m 0 c).arrAt_eq_of_covers 8 _ (by decide +kernel) fun t hf y => ?_
  have h7 := last8 t hf
  blk_simp
  rw [after0_8]
  have ey : y = ix2 (y 0) (y 1) := by funext a; fin_cases a <;> rfl
  have e := (inv_all m c t.val t.isLt (y 1)).1 (y 0)
  rw [h7, rows_all] at e
  conv_lhs => rw [ey]
  refine e.trans ?_
  have e0 : (y 0).val = win0_8.index t 0 * 8 + (y 0).val := by rw [(at8' t).1]; omega
  have e1 : C0 t.val + (y 1).val = win0_8.index t 1 * 1024 + (y 1).val := by rw [(at8' t).2]; simp only [C0]; omega
  rw [e1]
  exact congrArg (fun k => if k < 3 then ∑ R ∈ Finset.range 8192, dwV m c k R _ else 0) e0

theorem last9 : ∀ t : Fin cfg0.N, (cfg0.win 9).flush t = true → t.val % 8 = 7 := by decide +kernel

theorem db_array (c : Dev nD) :
    (dats m 0 c).arrAt 9 cfg0.N = fun z : S1x6144.Idx => ∑ R ∈ Finset.range 8192, dcV m c R (z 1).val := by
  refine (dats m 0 c).arrAt_eq_of_covers 9 _ (by decide +kernel) fun t hf y => ?_
  have h7 := last9 t hf
  blk_simp
  rw [after0_9]
  have ey : y = ix2 (y 0) (y 1) := by funext a; fin_cases a <;> rfl
  have e := (inv_all m c t.val t.isLt (y 1)).2 (y 0)
  rw [h7, rows_all] at e
  conv_lhs => rw [ey]
  refine e.trans ?_
  have e1 : C0 t.val + (y 1).val = win0_9.index t 1 * 1024 + (y 1).val := by rw [(at9' t).2]; simp only [C0]; omega
  rw [e1]

end Cert.FfnBwd

end
-- ==== Proof.Base.Finite.lean ====
/- The test that every element of an array is finite: where it is passed the elements are real numbers. -/
module

public import Idealize.ShloMosaic.Lib.ReduceAll
public import Idealize.ShloMosaic.Lib.Pointwise

@[expose] public section

noncomputable section

namespace Cert.Finite

open Idealize.ShloMosaic

abbrev Z0 : Shape := ⟨0, ![]⟩

theorem inf32 : Ideal.ofBits .f32 0x7F800000#32 = ⊤ := by simp [Ideal.ofBits, Ideal.ieee]
theorem inf16 : Ideal.ofBits .bf16 0x7F80#16 = ⊤ := by simp [Ideal.ofBits, Ideal.ieee]

theorem real_of_lt (x : EReal) (h : Ideal.cmp .olt (max x (-x)) ⊤ = 1#1) : ∃ r : ℝ, x = r := by
  rw [Ideal.cmp_olt] at h
  have hl : max x (-x) < ⊤ := by
    by_contra hn
    rw [decide_eq_false hn] at h
    exact absurd h (by decide)
  induction x with
  | bot => exact absurd hl (by simp)
  | top => exact absurd hl (by simp)
  | coe r => exact ⟨r, rfl⟩

/-- An array whose test is passed. -/
theorem real_of_test {φ : FTy} {S : Shape} (b : BitVec φ.bits) (hb : Ideal.ofBits φ b = ⊤) (x : FVec Ideal S φ)
    (hbc : Z0.BroadcastsInDim S (![] : Fin 0 → Fin S.rank)) (axes : List (Fin S.rank)) (hr : S.ReducesTo axes Z0) (h0 : 0 < Z0.numel)
    (h : Host.reduce IntOp.andi (cmpf .olt (Host.absf x) (broadcastInDim S ![] hbc (constant Z0 φ b))) (constantI Z0 1 1#1) hr h0
      = fun _ => 1#1) (i : S.Idx) : ∃ r : ℝ, x i = r := by
  have e := Host.reduce_andi_all _ _ _ _ (fun a => a.elim0) (congrFun h _) i
  refine real_of_lt (x i) ?_
  rw [← hb]
  exact e

theorem and_left {a b : IVec Z0 1} (h : andi a b = fun _ => 1#1) : a = fun _ => 1#1 := by
  funext i
  have e : a i &&& b i = 1#1 := congrFun h i
  revert e; generalize a i = p; generalize b i = q; revert p q; decide
theorem and_right {a b : IVec Z0 1} (h : andi a b = fun _ => 1#1) : b = fun _ => 1#1 := by
  funext i
  have e : a i &&& b i = 1#1 := congrFun h i
  revert e; generalize a i = p; generalize b i = q; revert p q; decide

end Cert.Finite

end
-- ==== Proof.FfnBwd.Reference.lean ====
/- The feed-forward block's gradient: the host lines and their chain rule give the same expressions of the arguments' elements
   wherever the arguments are real numbers. -/
module

public import proofs.«01_k».proof.Proof.FfnBwd.Value
public import proofs.«01_k».proof.Proof.Base.Finite
public import proofs.«01_k».proof.Proof.Gen.Reference5Ideal.Run

@[expose] public section

set_option maxRecDepth 16384

noncomputable section

open scoped BigOperators

namespace Cert.FfnBwd

open Cert.Sums
open Idealize.ShloMosaic Idealize.ShloMosaic.TcCoe Idealize.SL.Sem

/-- The gate's rows, with two more above them, both halves of the projected rows, a row, three and eight rows. -/
abbrev HG : Shape := ⟨2, ![8192, 6144]⟩
abbrev HX : Shape := ⟨2, ![8194, 6144]⟩
abbrev HU : Shape := ⟨2, ![8192, 12288]⟩
abbrev H1 : Shape := ⟨2, ![1, 6144]⟩
abbrev H2 : Shape := ⟨2, ![2, 6144]⟩
abbrev H3 : Shape := ⟨2, ![3, 6144]⟩
abbrev H8 : Shape := ⟨2, ![8, 6144]⟩
abbrev HL : Shape := ⟨1, ![6144]⟩
abbrev HP : Shape := ⟨3, ![1, 8192, 6144]⟩
abbrev HQ : Shape := ⟨3, ![2, 8192, 6144]⟩
abbrev Z0 : Shape := ⟨0, ![]⟩

theorem catX : Shape.Concatenates [H2, HG] HX 0 := by decide
theorem catQ : Shape.Concatenates [HP, HP] HQ 0 := by decide

section Lines
variable {F : FTy → Type} [FloatOps F]

abbrev con (b : BitVec 32) : FVec F HG .f32 := broadcastInDim HG ![] (by decide) (constant Z0 .f32 b)
abbrev zeroS : FVec F Z0 .f32 := constant Z0 .f32 0x00000000#32

def gateH (u : FVec F HU .f32) : FVec F HG .f32 := extractStridedSlice HG ![0, 0] u (by decide)
def valH (u : FVec F HU .f32) : FVec F HG .f32 := extractStridedSlice HG ![0, 6144] u (by decide)

/-- The gate under two rows of zeros, and its rows two and one above and in place. -/
def padH (u : FVec F HU .f32) : FVec F HX .f32 :=
  concatenate HX 0 [⟨H2, broadcastInDim H2 ![] (by decide) (zeroS (F := F))⟩, ⟨HG, gateH u⟩] catX
def xH0 (u : FVec F HU .f32) : FVec F HG .f32 := extractStridedSlice HG ![0, 0] (padH u) (by decide)
def xH1 (u : FVec F HU .f32) : FVec F HG .f32 := extractStridedSlice HG ![1, 0] (padH u) (by decide)
def xH2 (u : FVec F HU .f32) : FVec F HG .f32 := extractStridedSlice HG ![2, 0] (padH u) (by decide)

/-- A row over the rows. -/
def over (r : FVec F H1 .f32) : FVec F HG .f32 := broadcastInDim HG ![0, 1] (by decide) r
def asRow (x : FVec F HL .f32) : FVec F H1 .f32 := broadcastInDim H1 ![1] (by decide) x
def flat (r : FVec F H1 .f32) : FVec F HL .f32 := shapeCast HL r (by decide)

/-- The weights' rows. -/
def wH0 (w : FVec F H3 .f32) : FVec F HG .f32 := over (asRow (flat (extractStridedSlice H1 ![0, 0] w (by decide))))
def wH1 (w : FVec F H3 .f32) : FVec F HG .f32 := over (asRow (flat (extractStridedSlice H1 ![1, 0] w (by decide))))
def wH2 (w : FVec F H3 .f32) : FVec F HG .f32 := over (asRow (flat (extractStridedSlice H1 ![2, 0] w (by decide))))

/-- The convolved gate. -/
def convH (u : FVec F HU .f32) (w : FVec F H3 .f32) (b : FVec F H1 .f32) : FVec F HG .f32 :=
  addf (addf (addf (over (asRow (flat b))) (mulf (xH0 u) (wH0 w))) (mulf (xH1 u) (wH1 w))) (mulf (xH2 u) (wH2 w))

/-- The activation: the hyperbolic tangent and half of one more than it. -/
def tanhH (c : FVec F HG .f32) : FVec F HG .f32 :=
  Host.tanh (mulf (con 0x3F4C422A#32) (addf c (mulf (con 0x3D372713#32) (mulf (mulf c c) c))))
def halfH (t : FVec F HG .f32) : FVec F HG .f32 := mulf (con 0x3F000000#32) (addf (con 0x3F800000#32) t)

/-- What reaches the cube's argument. -/
def innerH (c t d : FVec F HG .f32) : FVec F HG .f32 :=
  mulf (con 0x3F4C422A#32) (mulf (mulf (con 0x3F000000#32) (mulf c d)) (mulf (addf (con 0x3F800000#32) t) (subf (con 0x3F800000#32) t)))

/-- The gradient of the convolved gate, of the activation's gradient `d`. -/
def dcH (c t d : FVec F HG .f32) : FVec F HG .f32 :=
  addf (addf (mulf d (halfH t)) (innerH c t d))
    (mulf (mulf (con 0x3D372713#32) (innerH c t d)) (mulf (con 0x40400000#32) (mulf c c)))

/-- The gradient of the gate: the three shifted products added and the two rows above dropped. -/
def dgH (w : FVec F H3 .f32) (dc : FVec F HG .f32) : FVec F HG .f32 :=
  extractStridedSlice HG ![2, 0] (addf (addf
      (pad HX ![2, 0] ![0, 0] ![0, 0] (mulf dc (wH2 w)) zeroS (by decide) (by decide))
      (pad HX ![1, 0] ![1, 0] ![0, 0] (mulf dc (wH1 w)) zeroS (by decide) (by decide)))
    (pad HX ![0, 0] ![2, 0] ![0, 0] (mulf dc (wH0 w)) zeroS (by decide) (by decide))) (by decide)

/-- Both gradients side by side, then as two planes. -/
def upH (dv dg : FVec F HG .f32) : FVec F HU .f32 :=
  addf (pad HU ![0, 6144] ![0, 0] ![0, 0] dv zeroS (by decide) (by decide)) (pad HU ![0, 0] ![0, 6144] ![0, 0] dg zeroS (by decide) (by decide))
def planesH (x : FVec F HU .f32) : FVec F HQ .bf16 :=
  truncf .bf16 (concatenate HQ 0 [⟨HP, broadcastInDim HP ![1, 2] (by decide) (gateH x)⟩, ⟨HP, broadcastInDim HP ![1, 2] (by decide) (valH x)⟩]
    catQ) (by decide)

/-- Sums over the rows. -/
def sumH (x : FVec F HG .f32) : FVec F HL .f32 :=
  Host.reduceAdd (t := HL) (axes := [0]) (shapeCast H1 (Host.reduceAdd (t := HL) (axes := [0]) x zeroS (by decide) (by decide)) (by decide))
    zeroS (by decide) (by decide)

/-- The weights' gradient, under which five rows of zeros are put. -/
def dwH (u : FVec F HU .f32) (dc : FVec F HG .f32) : FVec F H3 .f32 :=
  addf (addf
      (pad H3 ![2, 0] ![0, 0] ![0, 0] (asRow (sumH (mulf (xH2 u) dc))) zeroS (by decide) (by decide))
      (pad H3 ![1, 0] ![1, 0] ![0, 0] (asRow (sumH (mulf (xH1 u) dc))) zeroS (by decide) (by decide)))
    (pad H3 ![0, 0] ![2, 0] ![0, 0] (asRow (sumH (mulf (xH0 u) dc))) zeroS (by decide) (by decide))
def eightH (x : FVec F H3 .f32) : FVec F H8 .f32 :=
  pad H8 ![0, 0] ![5, 0] ![0, 0] x (sitofp .f32 (constantI Z0 32 0#32)) (by decide) (by decide)

end Lines

/-! ## The lines at an index -/

/-- The element `d` rows above. -/
def upRow (u : HU.Idx → EReal) (d R C : ℕ) : EReal := if d ≤ R then at2 u (R - d) C else 0

theorem padH_apply (u : FVec Ideal HU .f32) (R : Fin 8194) (C : Fin 6144) : padH u (ix2 R C) = upRow u 2 R.val C.val := by
  unfold padH gateH
  pointwise
  unfold upRow
  by_cases h : R.val < 2
  · rw [dif_pos h, if_neg (by omega)]
  · rw [dif_neg h]
    refine Eq.trans ?_ (if_pos (by omega)).symm
    exact (at2_of u _ _ (by omega) (by omega)).symm

theorem xH0_apply (u : FVec Ideal HU .f32) (R : Fin 8192) (C : Fin 6144) : xH0 u (ix2 R C) = upRow u 2 R.val C.val := by
  unfold xH0
  pointwise [padH_apply]

theorem upRow_down (u : HU.Idx → EReal) (d e R C : ℕ) (h : e ≤ d) : upRow u d (e + R) C = upRow u (d - e) R C := by
  unfold upRow
  by_cases hr : d ≤ e + R
  · rw [if_pos hr, if_pos (by omega)]
    exact congrArg (fun R => at2 u R C) (by omega)
  · rw [if_neg hr, if_neg (by omega)]

theorem xH1_apply (u : FVec Ideal HU .f32) (R : Fin 8192) (C : Fin 6144) : xH1 u (ix2 R C) = upRow u 1 R.val C.val := by
  unfold xH1
  pointwise [padH_apply]
  exact upRow_down u 2 1 _ _ (by omega)

theorem xH2_apply (u : FVec Ideal HU .f32) (R : Fin 8192) (C : Fin 6144) : xH2 u (ix2 R C) = upRow u 0 R.val C.val := by
  unfold xH2
  pointwise [padH_apply]
  exact upRow_down u 2 2 _ _ (by omega)

theorem eightH_apply (x : FVec Ideal H3 .f32) (k : Fin 8) (b : Fin 6144) : eightH x (ix2 k b) = at2 x k.val b.val := by
  unfold eightH at2
  pointwise
  by_cases h : k.val < 3
  · rw [dif_pos h, dif_pos h]
  · rw [dif_neg h, dif_neg h]
    show ((((0#32 : BitVec 32).toInt : ℤ) : ℝ) : EReal) = 0
    simp

theorem wH_apply (w : FVec Ideal H3 .f32) (R : Fin 8192) (C : Fin 6144) :
    wH0 w (ix2 R C) = w (ix2 0 C) ∧ wH1 w (ix2 R C) = w (ix2 1 C) ∧ wH2 w (ix2 R C) = w (ix2 2 C) := by
  unfold wH0 wH1 wH2 over asRow flat
  refine ⟨?_, ?_, ?_⟩ <;> pointwise

theorem convH_apply (u : FVec Ideal HU .f32) (w : FVec Ideal H3 .f32) (b : FVec Ideal H1 .f32) (R : Fin 8192) (C : Fin 6144) :
    convH u w b (ix2 R C) = b (ix2 0 C) + upRow u 2 R.val C.val * w (ix2 0 C) + upRow u 1 R.val C.val * w (ix2 1 C)
      + upRow u 0 R.val C.val * w (ix2 2 C) := by
  have h := wH_apply w R C
  rw [← h.1, ← h.2.1, ← h.2.2]
  unfold convH over asRow flat
  pointwise [xH0_apply, xH1_apply, xH2_apply]

theorem dgH_apply (w : FVec Ideal H3 .f32) (dc : FVec Ideal HG .f32) (R : Fin 8192) (C : Fin 6144) :
    dgH w dc (ix2 R C) = at2 dc R C * w (ix2 2 C) + at2 dc (R + 1) C * w (ix2 1 C) + at2 dc (R + 2) C * w (ix2 0 C) := by
  have h1 : (if h : 1 ≤ 2 + R.val ∧ 2 + R.val - 1 < 8192 then dc (ix2 (⟨2 + R.val - 1, h.2⟩ : Fin 8192) C) * w (ix2 1 C) else 0)
      = at2 dc (R + 1) C * w (ix2 1 C) := by
    by_cases h : R.val + 1 < 8192
    · rw [dif_pos (by omega), at2_of _ _ _ h C.isLt]
      exact congrArg (fun i => dc (ix2 i C) * _) (Fin.ext (by show 2 + R.val - 1 = R.val + 1; omega))
    · have e : at2 dc (R + 1) C = 0 := dif_neg (by omega)
      rw [dif_neg (by omega), e, zero_mul]
  have h2 : (if h : 2 + R.val < 8192 then dc (ix2 (⟨2 + R.val, h⟩ : Fin 8192) C) * w (ix2 0 C) else 0) = at2 dc (R + 2) C * w (ix2 0 C) := by
    by_cases h : R.val + 2 < 8192
    · rw [dif_pos (by omega), at2_of _ _ _ h C.isLt]
      exact congrArg (fun i => dc (ix2 i C) * _) (Fin.ext (by show 2 + R.val = R.val + 2; omega))
    · have e : at2 dc (R + 2) C = 0 := dif_neg (by omega)
      rw [dif_neg (by omega), e, zero_mul]
  rw [← h1, ← h2, at2_fin]
  unfold dgH wH0 wH1 wH2 over asRow flat
  pointwise

theorem planesH_apply (x : FVec Ideal HU .f32) (q : Fin 2) (R : Fin 8192) (C : Fin 6144) :
    planesH x (ix3 q R C) = if q.val = 0 then x (ix2 R (⟨C.val, by omega⟩ : Fin 12288)) else x (ix2 R (⟨6144 + C.val, by omega⟩ : Fin 12288)) := by
  unfold planesH gateH valH
  pointwise
  by_cases h : q.val < 1
  · rw [dif_pos h, if_pos (by omega)]
  · rw [dif_neg h, if_neg (by omega)]

theorem upH_left (dv dg : FVec Ideal HG .f32) (R : Fin 8192) (C : Fin 6144) :
    upH dv dg (ix2 R (⟨C.val, by omega⟩ : Fin 12288)) = dg (ix2 R C) := by
  have hb := C.isLt
  unfold upH
  pointwise
  rw [dif_neg fun h => h.1, zero_add]

theorem upH_right (dv dg : FVec Ideal HG .f32) (R : Fin 8192) (C : Fin 6144) :
    upH dv dg (ix2 R (⟨6144 + C.val, by omega⟩ : Fin 12288)) = dv (ix2 R C) := by
  have hb := C.isLt
  unfold upH
  pointwise

theorem sumH_apply (x : FVec Ideal HG .f32) (C : Fin 6144) : sumH x (ix1 C) = ∑ R : Fin 8192, x (ix2 R C) := by
  unfold sumH
  pointwise
  exact Fin.sum_univ_one _

theorem dwH_apply (u : FVec Ideal HU .f32) (dc : FVec Ideal HG .f32) (k : Fin 3) (C : Fin 6144) :
    dwH u dc (ix2 k C) = ∑ R : Fin 8192, upRow u (2 - k.val) R.val C.val * dc (ix2 R C) := by
  unfold dwH asRow
  pointwise [sumH_apply]
  have hk := k.isLt
  rcases (by omega : k.val = 0 ∨ k.val = 1 ∨ k.val = 2) with h | h | h
  · rw [dif_neg (by omega), dif_neg (by omega), dif_pos (by omega), zero_add, zero_add, h]
    exact Finset.sum_congr rfl fun R _ => by rw [xH0_apply]
  · rw [dif_neg (by omega), dif_pos (by omega), dif_neg (by omega), zero_add, add_zero, h]
    exact Finset.sum_congr rfl fun R _ => by rw [xH1_apply]
  · rw [dif_pos (by omega), dif_neg (by omega), dif_neg (by omega), add_zero, add_zero, h]
    exact Finset.sum_congr rfl fun R _ => by rw [xH2_apply]

/-! ## The activation and its derivative over the real numbers -/

/-- The two constants of the activation. -/
abbrev rA : ℝ := 6693141 / 8388608
abbrev rB : ℝ := 12003091 / 268435456

theorem k0_eq : k0 = ((rA : ℝ) : EReal) := by
  simp [Ideal.ofBits, Ideal.ieee, -EReal.coe_mul]; norm_num
theorem kq_eq : Ideal.ofBits .f32 0x3D372713#32 = ((rB : ℝ) : EReal) := by
  simp [Ideal.ofBits, Ideal.ieee, -EReal.coe_mul]; norm_num
theorem kh_eq : kh = ((1 / 2 : ℝ) : EReal) := by
  simp [Ideal.ofBits, Ideal.ieee, -EReal.coe_mul]; norm_num
theorem ko_eq : ko = ((1 : ℝ) : EReal) := by
  simp [Ideal.ofBits, Ideal.ieee, -EReal.coe_mul]
theorem k2_eq : k2 = ((1 / 2 * rA : ℝ) : EReal) := by
  simp [Ideal.ofBits, Ideal.ieee, -EReal.coe_mul]; norm_num
theorem kt_eq : Ideal.ofBits .f32 0x40400000#32 = ((3 : ℝ) : EReal) := by
  simp [Ideal.ofBits, Ideal.ieee, -EReal.coe_mul]; norm_num
theorem k1_eq : k1 = ((rA * rB : ℝ) : EReal) := IdealRules.named_const.ideal_named_scalar _ _ _ _ rfl
theorem k3_eq : k3 = ((3 / 2 * rA * rB : ℝ) : EReal) := IdealRules.named_const.ideal_named_scalar _ _ _ _ rfl

/-- The tangent of the lines, half of one more, and the derivative's terms. -/
def tR (c : EReal) : EReal := Ideal.tanh (k0 * (c + Ideal.ofBits .f32 0x3D372713#32 * (c * c * c)))
def hR (c : EReal) : EReal := kh * (ko + tR c)
def iR (c d : EReal) : EReal := k0 * (kh * (c * d) * ((ko + tR c) * (ko - tR c)))
def dcR (c d : EReal) : EReal :=
  d * hR c + iR c d + Ideal.ofBits .f32 0x3D372713#32 * iR c d * (Ideal.ofBits .f32 0x40400000#32 * (c * c))

theorem t_real (c : ℝ) : tOf c = ((Real.tanh (rA * (c + rB * (c * c * c))) : ℝ) : EReal) ∧ tR c = tOf c := by
  unfold tR tOf
  rw [k0_eq, k1_eq, kq_eq]
  simp only [← EReal.coe_mul, ← EReal.coe_add, Ideal.tanh_coe]
  refine ⟨congrArg (fun x => ((Real.tanh x : ℝ) : EReal)) ?_, congrArg (fun x => ((Real.tanh x : ℝ) : EReal)) ?_⟩ <;> ring

theorem h_real (c : ℝ) : hR c = hOf c := by
  unfold hR hOf
  rw [(t_real c).2, (t_real c).1, kh_eq, ko_eq]
  generalize Real.tanh _ = t
  simp only [← EReal.coe_mul, ← EReal.coe_add]
  refine congrArg _ ?_
  ring

theorem dc_real (c d : ℝ) : dcR c d = d * gOf c := by
  unfold dcR iR gOf
  rw [h_real]
  unfold hOf
  rw [(t_real c).2, (t_real c).1, kh_eq, ko_eq, k0_eq, kq_eq, kt_eq, k2_eq, k3_eq]
  generalize Real.tanh _ = t
  simp only [← EReal.coe_mul, ← EReal.coe_add, ← EReal.coe_sub]
  refine congrArg _ ?_
  ring

theorem tanhH_apply (c : FVec Ideal HG .f32) (R : Fin 8192) (C : Fin 6144) : tanhH c (ix2 R C) = tR (c (ix2 R C)) := by
  unfold tanhH con tR
  pointwise
  try rfl

theorem halfH_apply (c : FVec Ideal HG .f32) (R : Fin 8192) (C : Fin 6144) : halfH (tanhH c) (ix2 R C) = hR (c (ix2 R C)) := by
  unfold halfH con hR
  pointwise [tanhH_apply]

theorem innerH_apply (c d : FVec Ideal HG .f32) (R : Fin 8192) (C : Fin 6144) :
    innerH c (tanhH c) d (ix2 R C) = iR (c (ix2 R C)) (d (ix2 R C)) := by
  unfold innerH con iR
  pointwise [tanhH_apply]

theorem dcH_apply (c d : FVec Ideal HG .f32) (R : Fin 8192) (C : Fin 6144) :
    dcH c (tanhH c) d (ix2 R C) = dcR (c (ix2 R C)) (d (ix2 R C)) := by
  unfold dcH con dcR
  pointwise [halfH_apply, innerH_apply]

section Results
open Cert.Reference5Ideal Cert.Reference5Ideal.Gen
variable {F : FTy → Type} [FloatOps F]

/-- The product that reaches the activated gate. -/
def prodH (d : FVec F ⟨2, ![8192, 2048]⟩ .bf16) (w : FVec F ⟨2, ![6144, 2048]⟩ .f32) : FVec F HG .f32 :=
  Host.dotGeneral dot_S8192x2048_S6144x2048_S8192x6144_1_1_0_0_n_n none (extf .f32 d (by decide)) w

theorem prodH_apply (d : FVec Ideal ⟨2, ![8192, 2048]⟩ .bf16) (w : FVec Ideal ⟨2, ![6144, 2048]⟩ .f32) (R : Fin 8192) (C : Fin 6144) :
    prodH d w (ix2 R C) = ∑ j : Fin 2048, d (ix2 R j) * w (ix2 C j) := by
  unfold prodH
  pointwise

/-- The convolved gate, the product and the convolved gate's gradient of the reference's arguments. -/
abbrev cR (m : (ℓ : Loc nD τ sig) → Buf (Elt F) ℓ) (c : Dev nD) : FVec F HG .f32 :=
  convH (m ((c.tc : Thread nD τ).loc main_arg0)) (m ((c.tc : Thread nD τ).loc main_arg1)) (m ((c.tc : Thread nD τ).loc main_arg2))
abbrev zR (m : (ℓ : Loc nD τ sig) → Buf (Elt F) ℓ) (c : Dev nD) : FVec F HG .f32 :=
  prodH (m ((c.tc : Thread nD τ).loc main_arg4)) (m ((c.tc : Thread nD τ).loc main_arg3))
abbrev gR (m : (ℓ : Loc nD τ sig) → Buf (Elt F) ℓ) (c : Dev nD) : FVec F HG .f32 :=
  dcH (cR m c) (tanhH (cR m c)) (mulf (zR m c) (valH (m ((c.tc : Thread nD τ).loc main_arg0))))

/-- The reference's results. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v112) =
      planesH (upH (mulf (mulf (cR m c) (halfH (tanhH (cR m c)))) (zR m c)) (dgH (m ((c.tc : Thread nD τ).loc main_arg1)) (gR m c)))
    ∧ r.2.mem ((c.tc : Thread nD τ).loc main_v113) = eightH (dwH (m ((c.tc : Thread nD τ).loc main_arg0)) (gR m c))
    ∧ r.2.mem ((c.tc : Thread nD τ).loc main_v114) = asRow (sumH (gR m c))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c).1, (h c).2.1, (h c).2.2.1, (h c).2.2.2⟩) (Cert.Reference5Ideal.Value.run m ρ)

end Results

/-! ## Real numbers among the extended -/

/-- A real number. -/
def IsReal (x : EReal) : Prop := ∃ r : ℝ, x = r

theorem IsReal.add {x y : EReal} (hx : IsReal x) (hy : IsReal y) : IsReal (x + y) := by
  obtain ⟨a, rfl⟩ := hx; obtain ⟨b, rfl⟩ := hy; exact ⟨a + b, by simp⟩
theorem IsReal.mul {x y : EReal} (hx : IsReal x) (hy : IsReal y) : IsReal (x * y) := by
  obtain ⟨a, rfl⟩ := hx; obtain ⟨b, rfl⟩ := hy; exact ⟨a * b, by simp⟩
theorem IsReal.zero : IsReal 0 := ⟨0, rfl⟩
theorem IsReal.sum {n : ℕ} {f : Fin n → EReal} (h : ∀ i, IsReal (f i)) : IsReal (∑ i, f i) := by
  classical
  refine Finset.sum_induction f IsReal (fun _ _ => IsReal.add) IsReal.zero fun i _ => h i
theorem at2_out {n0 n1 : ℕ} (X : (⟨2, ![n0, n1]⟩ : Shape).Idx → EReal) {i j : ℕ} (h : ¬(i < n0 ∧ j < n1)) : at2 X i j = 0 := by
  unfold Sums.at2
  exact dif_neg h
theorem IsReal.at2 {n0 n1 : ℕ} {X : (⟨2, ![n0, n1]⟩ : Shape).Idx → EReal} (h : ∀ i, IsReal (X i)) (i j : ℕ) : IsReal (at2 X i j) := by
  unfold Sums.at2
  by_cases e : i < n0 ∧ j < n1
  · rw [dif_pos e]; exact h _
  · rw [dif_neg e]; exact IsReal.zero
theorem IsReal.upRow {u : HU.Idx → EReal} (h : ∀ i, IsReal (u i)) (d R C : ℕ) : IsReal (upRow u d R C) := by
  unfold FfnBwd.upRow
  by_cases e : d ≤ R
  · rw [if_pos e]; exact IsReal.at2 h _ _
  · rw [if_neg e]; exact IsReal.zero

section Equal
open Cert.Kernel5Ideal Cert.Kernel5Ideal.Gen
variable (m : (ℓ : Loc nD τ sig) → Buf (Elt Ideal) ℓ)

/-- The kernel's arguments. -/
abbrev uK (c : Dev nD) : FVec Ideal HU .f32 := m ((c : Thread nD τ).loc main_arg0)
abbrev wK (c : Dev nD) : FVec Ideal H3 .f32 := m ((c : Thread nD τ).loc main_arg1)
abbrev bK (c : Dev nD) : FVec Ideal H1 .f32 := m ((c : Thread nD τ).loc main_arg2)
abbrev dK (c : Dev nD) : FVec Ideal ⟨2, ![6144, 2048]⟩ .f32 := m ((c : Thread nD τ).loc main_arg3)
abbrev xK (c : Dev nD) : FVec Ideal ⟨2, ![8192, 2048]⟩ .bf16 := m ((c : Thread nD τ).loc main_arg4)
abbrev cK (c : Dev nD) : FVec Ideal HG .f32 := convH (uK m c) (wK m c) (bK m c)
abbrev zK (c : Dev nD) : FVec Ideal HG .f32 := prodH (xK m c) (dK m c)
abbrev gK (c : Dev nD) : FVec Ideal HG .f32 := dcH (cK m c) (tanhH (cK m c)) (mulf (zK m c) (valH (uK m c)))

/-- Every argument's elements are real numbers. -/
structure AllReal (c : Dev nD) : Prop where
  u : ∀ i, IsReal (uK m c i)
  w : ∀ i, IsReal (wK m c i)
  b : ∀ i, IsReal (bK m c i)
  d : ∀ i, IsReal (dK m c i)
  x : ∀ i, IsReal (xK m c i)

theorem V0 (c : Dev nD) : (V m c main_v0 : (⟨2, ![6144, 2048]⟩ : Shape).Idx → EReal) = dK m c := by
  unfold V
  simp only [List.flatten_cons, List.flatten_nil, List.append_nil, List.cons_append, List.nil_append]
  after_results_simp <;> rfl

theorem V1 (c : Dev nD) : (V m c main_v1 : H8.Idx → EReal) = eightH (wK m c) := by
  unfold V
  simp only [List.flatten_cons, List.flatten_nil, List.append_nil, List.cons_append, List.nil_append]
  after_results_simp <;> rfl

theorem prod_eq (c : Dev nD) (R : Fin 8192) (C : Fin 6144) : prod m c R.val C.val = zK m c (ix2 R C) := by
  refine Eq.trans ?_ (prodH_apply _ _ R C).symm
  unfold prod
  refine Finset.sum_congr rfl fun j _ => ?_
  rw [at2_fin, at2_fin, V0, V_main_arg4]

theorem wt_eq (c : Dev nD) (k : Fin 3) (C : Fin 6144) : wt m c k.val C.val = wK m c (ix2 k C) := by
  unfold wt
  rw [at2_of _ _ _ (by omega) C.isLt, V1]
  exact (eightH_apply _ _ C).trans (at2_fin _ k C)

theorem uUp_eq (c : Dev nD) (d R C : ℕ) : uUp m c d R C = upRow (uK m c) d R C := by
  unfold uUp upRow
  rw [V_main_arg0]

theorem cV_eq (c : Dev nD) (R : Fin 8192) (C : Fin 6144) : cV m c R.val C.val = cK m c (ix2 R C) := by
  refine Eq.trans ?_ (convH_apply _ _ _ R C).symm
  unfold cV cOf
  rw [uUp_eq, uUp_eq, uUp_eq, V_main_arg2]
  rw [show wt m c 0 C.val = _ from wt_eq m c 0 C, show wt m c 1 C.val = _ from wt_eq m c 1 C, show wt m c 2 C.val = _ from wt_eq m c 2 C]
  rw [at2_of _ _ _ (by decide) C.isLt, mul_comm (wK m c _), mul_comm (wK m c _), mul_comm (wK m c _)]
  show bK m c (ix2 0 C) + _ + _ + _ = _
  rw [add_right_comm (bK m c (ix2 0 C)), add_right_comm (bK m c (ix2 0 C) + _)]

variable {m}

theorem c_real {c : Dev nD} (h : AllReal m c) (R : Fin 8192) (C : Fin 6144) : IsReal (cK m c (ix2 R C)) := by
  show IsReal (convH (uK m c) (wK m c) (bK m c) (ix2 R C))
  rw [convH_apply]
  exact (((h.b _).add ((IsReal.upRow h.u _ _ _).mul (h.w _))).add ((IsReal.upRow h.u _ _ _).mul (h.w _))).add
    ((IsReal.upRow h.u _ _ _).mul (h.w _))

theorem z_real {c : Dev nD} (h : AllReal m c) (R : Fin 8192) (C : Fin 6144) : IsReal (zK m c (ix2 R C)) := by
  show IsReal (prodH (xK m c) (dK m c) (ix2 R C))
  rw [prodH_apply]
  exact IsReal.sum fun j => (h.x _).mul (h.d _)

theorem dcV_eq {c : Dev nD} (h : AllReal m c) (R : Fin 8192) (C : Fin 6144) : dcV m c R.val C.val = gK m c (ix2 R C) := by
  refine Eq.trans ?_ (dcH_apply _ _ R C).symm
  have ev : valH (uK m c) (ix2 R C) = at2 (uK m c) R.val (6144 + C.val) := by
    rw [at2_of _ _ _ R.isLt (by omega)]
    unfold valH
    pointwise
  have hv : IsReal (valH (uK m c) (ix2 R C)) := ev ▸ IsReal.at2 h.u _ _
  show _ = dcR (cK m c (ix2 R C)) (zK m c (ix2 R C) * valH (uK m c) (ix2 R C))
  unfold dcV
  rw [cV_eq, prod_eq, V_main_arg0]
  show _ * at2 (uK m c) R.val (6144 + C.val) * _ = _
  rw [← ev]
  obtain ⟨a, ea⟩ := c_real h R C
  obtain ⟨d, ed⟩ := (z_real h R C).mul hv
  rw [ed, ea]
  exact (dc_real a d).symm

theorem dcV_at {c : Dev nD} (h : AllReal m c) (R : ℕ) (C : Fin 6144) : dcV m c R C.val = at2 (gK m c) R C.val := by
  by_cases hR : R < 8192
  · exact (dcV_eq h ⟨R, hR⟩ C).trans (at2_of _ _ _ hR C.isLt).symm
  · exact (dcV_out m c R _ (by omega)).trans (at2_out _ fun e => hR e.1).symm

theorem dvV_eq {c : Dev nD} (h : AllReal m c) (R : Fin 8192) (C : Fin 6144) :
    dvV m c R.val C.val = mulf (mulf (cK m c) (halfH (tanhH (cK m c)))) (zK m c) (ix2 R C) := by
  show _ = cK m c (ix2 R C) * halfH (tanhH (cK m c)) (ix2 R C) * zK m c (ix2 R C)
  unfold dvV
  rw [halfH_apply, cV_eq, prod_eq]
  obtain ⟨a, ea⟩ := c_real h R C
  rw [ea, h_real, mul_comm]

theorem dgV_eq {c : Dev nD} (h : AllReal m c) (R : Fin 8192) (C : Fin 6144) :
    dgV m c R.val C.val = dgH (wK m c) (gK m c) (ix2 R C) := by
  refine Eq.trans ?_ (dgH_apply _ _ R C).symm
  unfold dgV
  rw [show wt m c 0 C.val = _ from wt_eq m c 0 C, show wt m c 1 C.val = _ from wt_eq m c 1 C, show wt m c 2 C.val = _ from wt_eq m c 2 C,
    dcV_at h, dcV_at h, dcV_at h, mul_comm (wK m c _), mul_comm (wK m c _), mul_comm (wK m c _), add_right_comm]

/-- A sum over rows of products with rows further down is one with rows further up. -/
theorem sum_down (d : ℕ) (f g : ℕ → EReal) (hg : ∀ R, 8192 ≤ R → g R = 0) :
    ∑ R ∈ Finset.range 8192, f R * g (R + d) = ∑ R ∈ Finset.range 8192, (if d ≤ R then f (R - d) else 0) * g R := by
  have h1 : ∑ R ∈ Finset.range (d + 8192), (if d ≤ R then f (R - d) else 0) * g R = ∑ R ∈ Finset.range 8192, f R * g (R + d) := by
    rw [Finset.sum_range_add, Finset.sum_eq_zero fun R hR => ?_, zero_add]
    · refine Finset.sum_congr rfl fun R _ => ?_
      rw [if_pos (by omega), Nat.add_sub_cancel_left, Nat.add_comm d R]
    · rw [if_neg (by have := Finset.mem_range.mp hR; omega), zero_mul]
  rw [← h1, Nat.add_comm d, Finset.sum_range_add, Finset.sum_eq_zero (s := Finset.range d) fun R _ => ?_, add_zero]
  rw [hg _ (by omega), mul_zero]

theorem dw_eq' {c : Dev nD} (h : AllReal m c) (k : Fin 3) (C : Fin 6144) :
    ∑ R ∈ Finset.range 8192, dwV m c k.val R C.val = dwH (uK m c) (gK m c) (ix2 k C) := by
  refine Eq.trans ?_ (dwH_apply _ _ k C).symm
  unfold dwV
  refine (sum_down (2 - k.val) (fun R => Sums.at2 (V m c main_arg0) R C.val) (fun R => dcV m c R C.val) fun R hR => dcV_out m c R _ hR).trans ?_
  rw [← sum_first]
  refine Finset.sum_congr rfl fun R _ => ?_
  rw [dcV_eq h]
  exact congrArg (· * _) (uUp_eq m c (2 - k.val) R.val C.val)

theorem up_at {c : Dev nD} (h : AllReal m c) (q : Fin 2) (R : Fin 8192) (C : Fin 6144) : upV m c q.val R.val C.val =
    planesH (upH (mulf (mulf (cK m c) (halfH (tanhH (cK m c)))) (zK m c)) (dgH (wK m c) (gK m c))) (ix3 q R C) := by
  refine Eq.trans ?_ (planesH_apply _ q R C).symm
  rw [upH_left, upH_right]
  unfold upV
  by_cases hq : q.val = 0
  · rw [if_pos hq, if_pos hq]
    exact dgV_eq h R C
  · rw [if_neg hq, if_neg hq]
    exact dvV_eq h R C

theorem up_ref {c : Dev nD} (h : AllReal m c) : (dats m 0 c).arrAt 7 cfg0.N =
    planesH (upH (mulf (mulf (cK m c) (halfH (tanhH (cK m c)))) (zK m c)) (dgH (wK m c) (gK m c))) := by
  refine (up_array m c).trans (funext fun z => ?_)
  have ez : z = ix3 (z 0) (z 1) (z 2) := by funext a; fin_cases a <;> rfl
  exact (up_at h (z 0) (z 1) (z 2)).trans (congrArg _ ez).symm

theorem dw_at {c : Dev nD} (h : AllReal m c) (k : Fin 8) (C : Fin 6144) :
    (if k.val < 3 then ∑ R ∈ Finset.range 8192, dwV m c k.val R C.val else 0) = eightH (dwH (uK m c) (gK m c)) (ix2 k C) := by
  refine Eq.trans ?_ (eightH_apply _ k C).symm
  by_cases hk : k.val < 3
  · rw [if_pos hk, at2_of _ _ _ hk C.isLt]
    exact dw_eq' h ⟨k.val, hk⟩ C
  · rw [if_neg hk]
    exact (at2_out _ fun e => hk e.1).symm

theorem dw_ref {c : Dev nD} (h : AllReal m c) : (dats m 0 c).arrAt 8 cfg0.N = eightH (dwH (uK m c) (gK m c)) := by
  refine (dw_array m c).trans (funext fun z => ?_)
  have ez : z = ix2 (z 0) (z 1) := by funext a; fin_cases a <;> rfl
  exact (dw_at h (z 0) (z 1)).trans (congrArg _ ez).symm

theorem db_at {c : Dev nD} (h : AllReal m c) (k : Fin 1) (C : Fin 6144) :
    ∑ R ∈ Finset.range 8192, dcV m c R C.val = asRow (sumH (gK m c)) (ix2 k C) := by
  have e : asRow (sumH (gK m c)) (ix2 k C) = sumH (gK m c) (ix1 C) := by
    unfold asRow
    pointwise
  rw [e, sumH_apply, ← sum_first]
  exact Finset.sum_congr rfl fun R _ => dcV_eq h R C

theorem db_ref {c : Dev nD} (h : AllReal m c) : (dats m 0 c).arrAt 9 cfg0.N = asRow (sumH (gK m c)) := by
  refine (db_array m c).trans (funext fun z => ?_)
  have ez : z = ix2 (z 0) (z 1) := by funext a; fin_cases a <;> rfl
  exact (db_at h (z 0) (z 1)).trans (congrArg _ ez).symm

end Equal

end Cert.FfnBwd

end
-- ==== Proof.FfnBwd.Claims.lean ====
/- The claims about the gated convolution's gradient. -/
module

public import proofs.«01_k».proof.Defs
public import proofs.«01_k».proof.Proof.FfnBwd.Reference
public import proofs.«01_k».proof.Proof.Gen.Kernel5Ideal.Frame
public import proofs.«01_k».proof.Proof.Gen.Pre_finite5

@[expose] public section

noncomputable section

namespace Cert.FfnBwd

open Idealize.ShloMosaic Idealize.SL.Sem

theorem preserves : Cert.preserves_Kernel5_Kernel5Ideal :=
  ⟨IdealRules.named_const.statement _ _ _ _ _ rfl, IdealRules.named_const.statement _ _ _ _ _ rfl⟩

theorem frame_ref : Cert.quiescent_Reference5Ideal := fun m ρ _ =>
  (θ_run Cert.Reference5Ideal.defs _ _).mono
    (fun r h => ⟨fun c => (h c).2.2.2, Idealize.ShloMosaic.sem_eq_zero_of_no_sems (by decide) r.2⟩) (run_ref m ρ)

/-- Arguments that pass the test are real. -/
theorem allReal {m : (ℓ : Loc Cert.Kernel5Ideal.nD Cert.Kernel5Ideal.τ Cert.Kernel5Ideal.sig) → Buf (Elt Ideal) ℓ}
    (h : Cert.Pre_Kernel5Ideal_finite5 m) (c : Dev Cert.Kernel5Ideal.nD) : AllReal m c := by
  have h4 := h c
  have h3 := Finite.and_left h4
  have h2 := Finite.and_left h3
  have h1 := Finite.and_left h2
  exact ⟨Finite.real_of_test _ Finite.inf32 (uK m c) _ _ _ _ (Finite.and_left h1),
    Finite.real_of_test _ Finite.inf32 (wK m c) _ _ _ _ (Finite.and_right h1),
    Finite.real_of_test _ Finite.inf32 (bK m c) _ _ _ _ (Finite.and_right h2),
    Finite.real_of_test _ Finite.inf32 (dK m c) _ _ _ _ (Finite.and_right h3),
    Finite.real_of_test _ Finite.inf16 (xK m c) _ _ _ _ (Finite.and_right h4)⟩

theorem algebraic : Cert.algebraic_Kernel5Ideal_Reference5Ideal_pre_finite5 := by
  intro m g m' g' hp hagree
  refine ⟨fun c => (Cert.Kernel5Ideal.Gen.dats m 0 c).arrAt 7 Cert.Kernel5Ideal.cfg0.N,
    fun c => (Cert.Kernel5Ideal.Gen.dats m 0 c).arrAt 8 Cert.Kernel5Ideal.cfg0.N,
    fun c => (Cert.Kernel5Ideal.Gen.dats m 0 c).arrAt 9 Cert.Kernel5Ideal.cfg0.N, ?_, ?_⟩
  · exact Cert.Kernel5Ideal.Value.run_blocks m g
  · refine (θ_run Cert.Reference5Ideal.defs _ _).mono (fun r h c => ?_) (run_ref m' g')
    obtain ⟨e0, e1, e2, e3, e4⟩ := hagree c
    refine ⟨(h c).1.trans ?_, (h c).2.1.trans ?_, (h c).2.2.1.trans ?_, (h c).2.2.2⟩
    · unfold gR zR cR; rw [e0, e1, e2, e3, e4]; exact (up_ref (allReal hp c)).symm
    · unfold gR zR cR; rw [e0, e1, e2, e3, e4]; exact (dw_ref (allReal hp c)).symm
    · unfold gR zR cR; rw [e0, e1, e2, e3, e4]; exact (db_ref (allReal hp c)).symm

end Cert.FfnBwd

end
-- ==== Proof.PoolBwd.Points.lean ====
/- What one grid point of the pooling mixer's gradient leaves. The points run from the last rows to the first. A point holds its
   256 rows of the input under the sixteen rows before them and takes, group by group of 256 columns, the mean of the last 2, 4,
   8 or 16 rows by doubling sums of rotated columns; the gradient of the mean, divided by its count, is held above the first
   sixteen rows of the point before, so that the sums can look down. -/
module

public import proofs.«01_k».proof.Proof.Gen.Kernel6Ideal.Frame
public import proofs.«01_k».proof.Proof.Slab.Basic

@[expose] public section

set_option maxRecDepth 16384

noncomputable section

namespace Cert.PoolBwd

open Cert.Kernel6Ideal Cert.Kernel6Ideal.Gen Cert.RowNorm Cert.Slab
open Idealize.ShloMosaic Idealize.ShloMosaic.TcCoe Idealize.SL.Sem

/-! ## Stores of the four groups, one after another -/

section Stores
variable {Val : EltTy → Type} {e : EltTy} {S : Shape}

/-- The stores of the first groups, the last first, over earlier ones; what a group stores may depend on the stores so far. -/
def stores (r : ℕ → Rect S) (f : List (View.Piece Val S e) → (n : ℕ) → (r n).shape.Idx → Val e) (base : List (View.Piece Val S e)) :
    ℕ → List (View.Piece Val S e)
  | 0 => base
  | n + 1 => ⟨r n, f (stores r f base n) n⟩ :: stores r f base n

variable (V : List (View.Piece Val S e) → S.Idx → Val e)
  (hin : ∀ (r : Rect S) (w : r.shape.Idx → Val e) (L : List (View.Piece Val S e)) (x : r.shape.Idx), V (⟨r, w⟩ :: L) (r.emb x) = w x)
  (hout : ∀ (p : View.Piece Val S e) (L : List (View.Piece Val S e)) (y : S.Idx), y ∉ p.1.set → V (p :: L) y = V L y)
  (r : ℕ → Rect S) (f : List (View.Piece Val S e) → (n : ℕ) → (r n).shape.Idx → Val e) (base : List (View.Piece Val S e))

include hout in
/-- An element of none of the first groups. -/
theorem stores_out (y : S.Idx) : ∀ n : ℕ, (∀ k, k < n → y ∉ (r k).set) → V (stores r f base n) y = V base y := by
  intro n
  induction n with
  | zero => exact fun _ => rfl
  | succ n ih =>
    intro h
    exact (hout ⟨r n, f (stores r f base n) n⟩ _ y (h n (Nat.lt_succ_self n))).trans (ih fun k hk => h k (Nat.lt_succ_of_lt hk))

include hin hout in
/-- An element of group `g`. -/
theorem stores_in (g : ℕ) (x : (r g).shape.Idx) (h : ∀ k, g < k → k < 4 → (r g).emb x ∉ (r k).set) :
    ∀ n : ℕ, n ≤ 4 → g < n → V (stores r f base n) ((r g).emb x) = f (stores r f base g) g x := by
  intro n
  induction n with
  | zero => exact fun _ hg => absurd hg (Nat.not_lt_zero g)
  | succ n ih =>
    intro hn hg
    rcases Nat.lt_or_ge g n with h1 | h1
    · exact (hout ⟨r n, f (stores r f base n) n⟩ _ _ (h n h1 hn)).trans (ih (Nat.le_of_succ_le hn) h1)
    · obtain rfl : g = n := Nat.le_antisymm (Nat.le_of_lt_succ hg) h1
      exact hin (r g) (f (stores r f base g) g) _ x

end Stores

/-! ## The groups' columns -/

/-- `n` rows of a group. -/
abbrev G (n : ℕ) : Shape := ⟨2, ![n, 256]⟩
/-- A plane of the groups' matrices, and the four of them. -/
abbrev G3 : Shape := ⟨3, ![1, 256, 256]⟩
abbrev W3 : Shape := ⟨3, ![4, 256, 256]⟩

theorem inbGrp {N n ro : ℕ} (h : ro + n ≤ N) (g : ℕ) : ∀ a, (![ro, 256 * (g % 4)] : Fin 2 → ℕ) a + (G n).size a ≤ (Q N).size a := by
  intro a; fin_cases a
  · exact h
  · show 256 * (g % 4) + 256 ≤ 1024; omega

/-- `n` rows from row `ro` on of the columns of group `g`. -/
abbrev grp {N : ℕ} (n ro : ℕ) (h : ro + n ≤ N) (g : ℕ) : Rect (Q N) :=
  Rect.unit (s := Q N) ![ro, 256 * (g % 4)] (G n).size (inbGrp h g)

theorem inbPlane (g : ℕ) : ∀ a, (![g % 4, 0, 0] : Fin 3 → ℕ) a + G3.size a ≤ W3.size a := by
  intro a; fin_cases a
  · show g % 4 + 1 ≤ 4; omega
  · exact le_refl 256
  · exact le_refl 256

/-- The plane of group `g`. -/
abbrev plane (g : ℕ) : Rect W3 := Rect.unit (s := W3) ![g % 4, 0, 0] G3.size (inbPlane g)

theorem h272 : 0 + 272 ≤ 272 := by omega
theorem h16_272 : 16 + 256 ≤ 272 := by omega
theorem h0_272 : 0 + 256 ≤ 272 := by omega
theorem h256 : 0 + 256 ≤ 256 := by omega
theorem h1 : 0 + 1 ≤ 1 := by omega

variable {F : FTy → Type} [FloatOps F] [Named F]

/-! ## One group -/

/-- What the groups load: their columns of the input under the rows before, the input's rows in place, the rows of the
    cotangent, the matrix and the scale. -/
structure Loads (F : FTy → Type) where
  e : ℕ → FVec F (G 272) .f32
  u : ℕ → FVec F (G 256) .f32
  y : ℕ → FVec F (G 256) .f32
  w : ℕ → FVec F G3 .bf16
  s : ℕ → FVec F (G 1) .f32

/-- Doubling sums over the rows above: of 2, 4, 8, … rows. -/
def sumUp (E : FVec F (G 272) .f32) : ℕ → FVec F (G 272) .f32
  | 0 => addf E (dynamicRotate 0 1#32 none E rotates_S272x256_d0)
  | k + 1 => addf (sumUp E k) (dynamicRotate 0 (BitVec.ofNat 32 (2 ^ (k + 1))) none (sumUp E k) rotates_S272x256_d0)

/-- The same over the rows below. -/
def sumDown (E : FVec F (G 272) .f32) : ℕ → FVec F (G 272) .f32
  | 0 => addf E (dynamicRotate 0 271#32 none E rotates_S272x256_d0)
  | k + 1 => addf (sumDown E k) (dynamicRotate 0 (BitVec.ofNat 32 (272 - 2 ^ (k + 1))) none (sumDown E k) rotates_S272x256_d0)

/-- How many rows a mean is over. -/
def count (i : grid0.Coords) (g : ℕ) : FVec F (G 256) .f32 :=
  broadcastTo (G 256) (sitofp .f32 (minsi (addi (k0_pay7 i) (broadcast (⟨2, ![256, 1]⟩ : Shape) 1#32))
    (broadcast (⟨2, ![256, 1]⟩ : Shape) (BitVec.ofNat 32 (2 ^ (g + 1)))))) (by decide)

/-- The mean less the input. -/
def diff (i : grid0.Coords) (l : Loads F) (g : ℕ) : FVec F (G 256) .bf16 :=
  truncf .bf16 (subf (divf (extractStridedSlice (G 256) ![16, 0] (sumUp (l.e g) g) slices_S272x256_o16_0_S256x256) (count i g)) (l.u g)) (by decide)

/-- A group's matrix. -/
def mat (l : Loads F) (g : ℕ) : FVec F (G 256) .bf16 := shapeCast (G 256) (l.w g) (by decide)

/-- What a group adds to the gradient of the scale. -/
def sSum (i : grid0.Coords) (l : Loads F) (g : ℕ) (old : FVec F (G 1) .f32) : FVec F (G 1) .f32 :=
  addf (shapeCast (G 1) old (by decide)) (shapeCast (G 1) (multiReduction .add [0] (⟨1, ![256]⟩ : Shape)
    (mulf (l.y g) (matmul dot_S256x256_S256x256_S256x256_1_0_0_1_n_n none (diff i l g) (mat l g) (constant (G 256) .f32 0x00000000#32)))
    0x00000000#32 reduces_S256x256_S256 (.inl rfl) rfl) (by decide))

/-- The scaled cotangent. -/
def ys (l : Loads F) (g : ℕ) : FVec F (G 256) .bf16 := truncf .bf16 (mulf (l.y g) (broadcastTo (G 256) (l.s g) (by decide))) (by decide)

/-- The gradient of the mean less the input. -/
def dd (l : Loads F) (g : ℕ) : FVec F (G 256) .f32 :=
  matmul dot_S256x256_S256x256_S256x256_1_1_0_0_n_n none (ys l g) (mat l g) (constant (G 256) .f32 0x00000000#32)

/-- What a group adds to the gradient of its matrix. -/
def wSum (i : grid0.Coords) (l : Loads F) (g : ℕ) (old : FVec F G3 .f32) : FVec F G3 .f32 :=
  shapeCast G3 (addf (shapeCast (G 256) old (by decide))
    (matmul dot_S256x256_S256x256_S256x256_0_0_1_1_n_n none (diff i l g) (ys l g) (constant (G 256) .f32 0x00000000#32))) (by decide)

/-- The gradient of every row that the mean is over. -/
def share (i : grid0.Coords) (l : Loads F) (g : ℕ) : FVec F (G 256) .f32 := shapeCast (G 256) (divf (dd l g) (count i g)) (by decide)

/-- The gradient of the input, of the held shares. -/
def du (l : Loads F) (E : FVec F (G 272) .f32) (g : ℕ) : FVec F (G 256) .bf16 :=
  truncf .bf16 (subf (extractStridedSlice (G 256) ![0, 0] (sumDown E g) slices_S272x256_o0_0_S256x256) (dd l g)) (by decide)

/-! ## A point's stores -/

/-- The held shares. -/
abbrev shareSt (i : grid0.Coords) (l : Loads F) (base : List (View.Piece (Elt F) (Q 272) .f32)) : List (View.Piece (Elt F) (Q 272) .f32) :=
  stores (grp 256 0 h0_272) (fun _ g => share i l g) base 4

/-- The gradient of the input. -/
abbrev duSt (l : Loads F) (E : ℕ → FVec F (G 272) .f32) : List (View.Piece (Elt F) (Q 256) .bf16) :=
  stores (grp 256 0 h256) (fun _ g => du l (E g) g) [] 4

/-- The sums for the matrices, of what is found before each. -/
abbrev wSt (i : grid0.Coords) (l : Loads F) (base : List (View.Piece (Elt F) W3 .f32))
    (old : List (View.Piece (Elt F) W3 .f32) → ℕ → FVec F G3 .f32) : List (View.Piece (Elt F) W3 .f32) :=
  stores plane (fun L g => wSum i l g (old L g)) base 4

/-- The sums for the scale. -/
abbrev sSt (i : grid0.Coords) (l : Loads F) (base : List (View.Piece (Elt F) (Q 1) .f32))
    (old : List (View.Piece (Elt F) (Q 1) .f32) → ℕ → FVec F (G 1) .f32) : List (View.Piece (Elt F) (Q 1) .f32) :=
  stores (grp 1 0 h1) (fun L g => sSum i l g (old L g)) base 4

variable (m : (ℓ : Loc nD τ sig) → Buf (Elt F) ℓ)

/-- The stores of the input's rows and of the sixteen rows before them. -/
abbrev extPieces (c : Dev nD) (t : Fin cfg0.N) : List (View.Piece (Elt F) (Q 272) .f32) :=
  [⟨Rect.unit ![16, 0] S256x1024.size inb_S272x1024_S256x1024_16_0, k0_pay6
    (View.readAt (Elt F) (ms0_1 t).view (Rect.unit ![0, 0] S256x1024.size inb_S256x1024_S256x1024_0_0).toLoadRect
      ((hs0_1 t).unread (iblk m c 1 t)))⟩,
   ⟨Rect.unit ![0, 0] S16x1024.size inb_S272x1024_S16x1024_0_0, k0_pay5 (grid0.coords t)
    (View.readAt (Elt F) (ms0_2 t).view (Rect.unit ![0, 0] S16x1024.size inb_S16x1024_S16x1024_0_0).toLoadRect
      ((hs0_2 t).unread (iblk m c 2 t)))⟩]

/-- The loads as a run of the body finds them. -/
def found (c : Dev nD) (t : Fin cfg0.N) : Loads F where
  e g := View.readCov (Val := Elt F) scM0_0.view (extPieces m c t) (grp 272 0 h272 g).toLoadRect
  u g := View.readCov (Val := Elt F) scM0_0.view (extPieces m c t) (grp 256 16 h16_272 g).toLoadRect
  y g := View.readAt (Elt F) (ms0_0 t).view (grp 256 0 h256 g).toLoadRect ((hs0_0 t).unread (iblk m c 0 t))
  w g := View.readAt (Elt F) (ms0_3 t).view (plane g).toLoadRect ((hs0_3 t).unread (iblk m c 3 t))
  s g := View.readAt (Elt F) (ms0_4 t).view (grp 1 0 h1 g).toLoadRect ((hs0_4 t).unread (iblk m c 4 t))

/-- What the point before `t` left. -/
abbrev before (c : Dev nD) (t : Fin cfg0.N) :=
  outsAt0 m c (t.val - 1) (Nat.lt_of_le_of_lt (Nat.sub_le _ _) t.isLt)

/-- The copy of the first sixteen rows' shares for the next point. -/
abbrev copyPiece (L : List (View.Piece (Elt F) (Q 272) .f32)) : View.Piece (Elt F) (Q 272) .f32 :=
  ⟨Rect.unit ![256, 0] S16x1024.size inb_S272x1024_S16x1024_256_0, k0_pay1
    (View.readCov (Val := Elt F) scM0_1.view L (Rect.unit (s := Q 272) ![0, 0] S16x1024.size inb_S272x1024_S16x1024_0_0).toLoadRect)⟩

set_option maxHeartbeats 3200000 in
theorem outs_B (c : Dev nD) (t : Fin cfg0.N) (h0 : ¬t.val % 32 = 0) :
    outsAt0 m c t.val t.isLt =
      (View.canon (duSt (found m c t) (fun g => View.readAt (Elt F) scM0_1.view (grp 272 0 h272 g).toLoadRect
          (scM0_1.view.writes (Elt F) ((Memref.isWhole_whole _).unread (before m c t).2.2.2) (shareSt (grid0.coords t) (found m c t) [])))),
       View.canon (wSt (grid0.coords t) (found m c t) []
          (fun _ g => View.readAt (Elt F) (ms0_6 t).view (plane g).toLoadRect ((hs0_6 t).unread (before m c t).2.1))),
       View.canon (sSt (grid0.coords t) (found m c t) []
          (fun _ g => View.readAt (Elt F) (ms0_7 t).view (grp 1 0 h1 g).toLoadRect ((hs0_7 t).unread (before m c t).2.2.1))),
       View.canon (copyPiece (shareSt (grid0.coords t) (found m c t) []) :: shareSt (grid0.coords t) (found m c t) [])) := by
  rw [outsAt0_B m c t h0]
  unfold out0_B_5 out0_B_6 out0_B_7 sout0_B_1
  simp only [View.read_writes_junk_eq_canon]
  generalize hr : kernelRun0_B (F := F) _ _ _ _ _ _ _ _ _ _ _ _ _ _ _ _ _ _ _ _ _ _ _ _ _ _ _ _ _ _ _ = r
  have e3 : r.2.2.1 = sSt (grid0.coords t) (found m c t) []
      (fun _ g => View.readAt (Elt F) (ms0_7 t).view (grp 1 0 h1 g).toLoadRect ((hs0_7 t).unread (before m c t).2.2.1)) := by
    subst hr; sl_kernel_rfl
  have e4 : r.2.2.2.1 = copyPiece (shareSt (grid0.coords t) (found m c t) []) :: shareSt (grid0.coords t) (found m c t) [] := by
    subst hr; sl_kernel_rfl
  have e2 : r.2.1 = wSt (grid0.coords t) (found m c t) []
      (fun _ g => View.readAt (Elt F) (ms0_6 t).view (plane g).toLoadRect ((hs0_6 t).unread (before m c t).2.1)) := by
    subst hr; sl_kernel_rfl
  have e1 : r.1 = duSt (found m c t) (fun g => View.readAt (Elt F) scM0_1.view (grp 272 0 h272 g).toLoadRect
      (scM0_1.view.writes (Elt F) ((Memref.isWhole_whole _).unread (before m c t).2.2.2) (shareSt (grid0.coords t) (found m c t) []))) := by
    subst hr; sl_kernel_rfl
  clear hr
  obtain ⟨L5, L6, L7, LS, hL⟩ := r
  dsimp only at e1 e2 e3 e4 ⊢
  clear hL
  subst e1 e2 e3 e4
  rfl

/-- Sixteen rows of zeros below the last rows, and the zeros that the sums start from. -/
abbrev tailPiece : View.Piece (Elt F) (Q 272) .f32 :=
  ⟨Rect.unit ![256, 0] S16x1024.size inb_S272x1024_S16x1024_256_0, k0_pay2⟩
abbrev zeroPieceW : View.Piece (Elt F) W3 .f32 := ⟨Rect.unit ![0, 0, 0] S4x256x256.size inb_S4x256x256_S4x256x256_0_0_0, k0_pay3⟩
abbrev zeroPieceS : View.Piece (Elt F) (Q 1) .f32 := ⟨Rect.unit ![0, 0] S1x1024.size inb_S1x1024_S1x1024_0_0, k0_pay4⟩

set_option maxHeartbeats 3200000 in
theorem outs_A (c : Dev nD) (t : Fin cfg0.N) (h0 : t.val % 32 = 0) :
    outsAt0 m c t.val t.isLt =
      (View.canon (duSt (found m c t) (fun g => View.readCov (Val := Elt F) scM0_1.view
          (shareSt (grid0.coords t) (found m c t) [tailPiece]) (grp 272 0 h272 g).toLoadRect)),
       View.canon (wSt (grid0.coords t) (found m c t) [zeroPieceW]
          (fun L g => View.readCov (Val := Elt F) (ms0_6 t).view L (plane g).toLoadRect)),
       View.canon (sSt (grid0.coords t) (found m c t) [zeroPieceS]
          (fun L g => View.readCov (Val := Elt F) (ms0_7 t).view L (grp 1 0 h1 g).toLoadRect)),
       View.canon (copyPiece (shareSt (grid0.coords t) (found m c t) [tailPiece]) ::
         shareSt (grid0.coords t) (found m c t) [tailPiece])) := by
  rw [outsAt0_A m c t h0]
  unfold out0_A_5 out0_A_6 out0_A_7 sout0_A_1
  simp only [View.read_writes_junk_eq_canon]
  generalize hr : kernelRun0_A (F := F) _ _ _ _ _ _ _ _ _ _ _ _ _ _ _ _ _ _ _ _ _ _ _ _ _ _ _ _ = r
  have e3 : r.2.2.1 = sSt (grid0.coords t) (found m c t) [zeroPieceS]
      (fun L g => View.readCov (Val := Elt F) (ms0_7 t).view L (grp 1 0 h1 g).toLoadRect) := by
    subst hr; sl_kernel_rfl
  have e4 : r.2.2.2.1 = copyPiece (shareSt (grid0.coords t) (found m c t) [tailPiece]) ::
      shareSt (grid0.coords t) (found m c t) [tailPiece] := by
    subst hr; sl_kernel_rfl
  have e2 : r.2.1 = wSt (grid0.coords t) (found m c t) [zeroPieceW]
      (fun L g => View.readCov (Val := Elt F) (ms0_6 t).view L (plane g).toLoadRect) := by
    subst hr; sl_kernel_rfl
  have e1 : r.1 = duSt (found m c t) (fun g => View.readCov (Val := Elt F) scM0_1.view
      (shareSt (grid0.coords t) (found m c t) [tailPiece]) (grp 272 0 h272 g).toLoadRect) := by
    subst hr; sl_kernel_rfl
  clear hr
  obtain ⟨L5, L6, L7, LS, hL⟩ := r
  dsimp only at e1 e2 e3 e4 ⊢
  clear hL
  subst e1 e2 e3 e4
  rfl

end Cert.PoolBwd
-- ==== Proof.PoolBwd.Blocks.lean ====
/- The blocks of the pooling mixer's gradient after a grid point, of the windows' blocks and of what the point before left. -/
module

public import proofs.«01_k».proof.Proof.PoolBwd.Points

@[expose] public section

set_option maxRecDepth 16384

noncomputable section

namespace Cert.PoolBwd

open Cert.Kernel6Ideal Cert.Kernel6Ideal.Gen Cert.RowNorm Cert.Slab
open Idealize.ShloMosaic Idealize.ShloMosaic.TcCoe Idealize.SL.Sem

/-! ## Where the groups lie -/

theorem grp_emb {N n ro : ℕ} (h : ro + n ≤ N) (g : ℕ) (hg : g < 4) (a : Fin n) (b : Fin 256) :
    (grp n ro h g).emb (ix2 a b) = ix2 (⟨ro + a.val, by omega⟩ : Fin N) (⟨256 * g + b.val, by omega⟩ : Fin 1024) := by
  funext i; apply Fin.ext
  match i with
  | ⟨0, _⟩ => show ro + 1 * a.val = ro + a.val; omega
  | ⟨1, _⟩ => show 256 * (g % 4) + 1 * b.val = 256 * g + b.val; omega

theorem mem_grp {N n ro : ℕ} {h : ro + n ≤ N} {g : ℕ} {y : (Q N).Idx} (hy : y ∈ (grp n ro h g).set) :
    (ro ≤ (y 0).val ∧ (y 0).val < ro + n) ∧ 256 * (g % 4) ≤ (y 1).val ∧ (y 1).val < 256 * (g % 4) + 256 :=
  ⟨Rect.mem_set_unit (s := Q N) (inb := inbGrp h g) |>.mp hy 0, Rect.mem_set_unit (s := Q N) (inb := inbGrp h g) |>.mp hy 1⟩

theorem plane_emb (g : ℕ) (hg : g < 4) (a b : Fin 256) : (plane g).emb (ix3 (0 : Fin 1) a b) = ix3 (⟨g, hg⟩ : Fin 4) a b := by
  funext i; apply Fin.ext
  match i with
  | ⟨0, _⟩ => show g % 4 + 1 * 0 = g; omega
  | ⟨1, _⟩ => show 0 + 1 * a.val = a.val; omega
  | ⟨2, _⟩ => show 0 + 1 * b.val = b.val; omega

theorem mem_plane {g : ℕ} {y : W3.Idx} (hy : y ∈ (plane g).set) : (y 0).val = g % 4 := by
  have h := Rect.mem_set_unit (s := W3) (inb := inbPlane g) |>.mp hy 0
  have h1 : g % 4 ≤ (y 0).val := h.1
  have h2 : (y 0).val < g % 4 + 1 := h.2
  omega

section Stores
variable {Val : EltTy → Type} {e : EltTy}

/-- The four groups' columns side by side. -/
def joined {α : Type} {n : ℕ} (f : ℕ → (G n).Idx → α) : (Q n).Idx → α := fun y =>
  f ((y 1).val / 256) (ix2 (y 0) (⟨(y 1).val % 256, Nat.mod_lt _ (by omega)⟩ : Fin 256))

/-- The same over sixteen rows more. -/
def held {α : Type} (f : ℕ → (G 256).Idx → α) (T : (Q 16).Idx → α) : (Q 272).Idx → α := fun y =>
  if h : (y 0).val < 256 then joined f (ix2 (⟨(y 0).val, h⟩ : Fin 256) (y 1))
  else T (ix2 (⟨(y 0).val - 256, by have : (y 0).val < 272 := (y 0).isLt; omega⟩ : Fin 16) (y 1))

variable (V : List (View.Piece Val (Q 272) e) → (Q 272).Idx → Val e)
  (hin : ∀ (r : Rect (Q 272)) (w : r.shape.Idx → Val e) (L : List (View.Piece Val (Q 272) e)) (x : r.shape.Idx),
    V (⟨r, w⟩ :: L) (r.emb x) = w x)
  (hout : ∀ (p : View.Piece Val (Q 272) e) (L : List (View.Piece Val (Q 272) e)) (y : (Q 272).Idx), y ∉ p.1.set → V (p :: L) y = V L y)

include hin hout in
theorem stores_held (f : ℕ → (G 256).Idx → Val e) (base : List (View.Piece Val (Q 272) e)) (T : (Q 16).Idx → Val e) (y : (Q 272).Idx)
    (hT : ∀ h : (y 0).val - 256 < 16, 256 ≤ (y 0).val → V base y = T (ix2 (⟨(y 0).val - 256, h⟩ : Fin 16) (y 1))) :
    V (stores (grp 256 0 h0_272) (fun _ g => f g) base 4) y = held f T y := by
  have h0 : (y 0).val < 272 := (y 0).isLt
  have h1 : (y 1).val < 1024 := (y 1).isLt
  unfold held
  split_ifs with h
  · have ey : (grp 256 0 h0_272 ((y 1).val / 256)).emb (ix2 (⟨(y 0).val, h⟩ : Fin 256)
        (⟨(y 1).val % 256, Nat.mod_lt _ (by omega)⟩ : Fin 256)) = y := by
      rw [grp_emb _ _ (by omega)]
      funext i; apply Fin.ext
      match i with
      | ⟨0, _⟩ => show 0 + (y 0).val = (y 0).val; omega
      | ⟨1, _⟩ => show 256 * ((y 1).val / 256) + (y 1).val % 256 = (y 1).val; omega
    refine (congrArg (V _) ey.symm).trans ?_
    refine (stores_in V hin hout (grp 256 0 h0_272) (fun _ g => f g) base _ _ (fun k hk hk4 hm => ?_) 4 (Nat.le_refl _) (by omega)).trans rfl
    rw [ey] at hm
    have h2 := (mem_grp hm).2.1
    omega
  · refine (stores_out V hout (grp 256 0 h0_272) (fun _ g => f g) base y 4 fun k _ hm => ?_).trans (hT (by omega) (by omega))
    have h2 := (mem_grp hm).1.2
    omega

end Stores

section Canon
variable {Val : EltTy → Type} [∀ e, Nonempty (Val e)] {e : EltTy}

theorem canon_in {S : Shape} (r : Rect S) (w : r.shape.Idx → Val e) (L : List (View.Piece Val S e)) (x : r.shape.Idx) :
    View.canon (⟨r, w⟩ :: L) (r.emb x) = w x := View.canon_cons_emb r w L x

theorem canon_out {S : Shape} (p : View.Piece Val S e) (L : List (View.Piece Val S e)) (y : S.Idx) (hy : y ∉ p.1.set) :
    View.canon (p :: L) y = View.canon L y := View.canon_cons_of_not_mem p L hy

/-- What stores of the four groups leave when each depends on what is found before it. -/
theorem canon_joined {N : ℕ} (h : 0 + N ≤ N) (f : List (View.Piece Val (Q N) e) → ℕ → (G N).Idx → Val e) (f' : ℕ → (G N).Idx → Val e)
    (base : List (View.Piece Val (Q N) e)) (hf : ∀ g, g < 4 → f (stores (grp N 0 h) f base g) g = f' g) :
    View.canon (stores (grp N 0 h) f base 4) = joined f' := by
  funext y
  have h1 : (y 1).val < 1024 := (y 1).isLt
  have ey : (grp N 0 h ((y 1).val / 256)).emb (ix2 (y 0) (⟨(y 1).val % 256, Nat.mod_lt _ (by omega)⟩ : Fin 256)) = y := by
    refine (grp_emb h _ (by omega) (y 0) _).trans ?_
    funext i; apply Fin.ext
    match i with
    | ⟨0, _⟩ => show 0 + (y 0).val = (y 0).val; omega
    | ⟨1, _⟩ => show 256 * ((y 1).val / 256) + (y 1).val % 256 = (y 1).val; omega
  refine (congrArg (View.canon _) ey.symm).trans ?_
  refine (stores_in View.canon canon_in canon_out (grp N 0 h) f base _ _ (fun k hk hk4 hm => ?_) 4 (Nat.le_refl _) (by omega)).trans
    (congrFun (hf _ (by omega)) _)
  rw [ey] at hm
  have h2 := (mem_grp hm).2.1
  omega

theorem canon_planes (f : List (View.Piece Val W3 e) → ℕ → G3.Idx → Val e) (f' : ℕ → G3.Idx → Val e)
    (base : List (View.Piece Val W3 e)) (hf : ∀ g, g < 4 → f (stores plane f base g) g = f' g) :
    View.canon (stores plane f base 4) = fun y => f' (y 0).val (ix3 (0 : Fin 1) (y 1) (y 2)) := by
  funext y
  have h0 : (y 0).val < 4 := (y 0).isLt
  have ey : (plane (y 0).val).emb (ix3 (0 : Fin 1) (y 1) (y 2)) = y := by
    refine (plane_emb _ h0 (y 1) (y 2)).trans ?_
    funext i; apply Fin.ext
    match i with
    | ⟨0, _⟩ => rfl
    | ⟨1, _⟩ => rfl
    | ⟨2, _⟩ => rfl
  refine (congrArg (View.canon _) ey.symm).trans ?_
  refine (stores_in View.canon canon_in canon_out plane f base _ _ (fun k hk hk4 hm => ?_) 4 (Nat.le_refl _) h0).trans
    (congrFun (hf _ h0) _)
  rw [ey] at hm
  have h2 := mem_plane hm
  omega

/-- Before a group's store its elements are as they were. -/
theorem found_grp {N : ℕ} (h : 0 + N ≤ N) (f : List (View.Piece Val (Q N) e) → ℕ → (G N).Idx → Val e)
    (base : List (View.Piece Val (Q N) e)) (X : (Q N).Idx → Val e) (hX : View.canon base = X) (g : ℕ) (hg : g < 4) :
    (fun j => View.canon (stores (grp N 0 h) f base g) ((grp N 0 h g).toLoadRect.idx j)) = View.ld X (grp N 0 h g) := by
  funext j
  have hj : (grp N 0 h g).toLoadRect.idx j = (grp N 0 h g).emb j := rfl
  subst hX
  refine stores_out View.canon canon_out (grp N 0 h) f base _ g fun k hk hm => ?_
  rw [hj] at hm
  have ej : j = ix2 (j 0) (j 1) := by funext a; fin_cases a <;> rfl
  have e := congrArg (fun z : (Q N).Idx => (z 1).val) ((congrArg (grp N 0 h g).emb ej).trans (grp_emb h g hg (j 0) (j 1)))
  have h2 := (mem_grp hm).2.2
  have e' : ((grp N 0 h g).emb j 1).val = 256 * g + (j 1).val := e
  omega

theorem found_plane (f : List (View.Piece Val W3 e) → ℕ → G3.Idx → Val e)
    (base : List (View.Piece Val W3 e)) (X : W3.Idx → Val e) (hX : View.canon base = X) (g : ℕ) (hg : g < 4) :
    (fun j => View.canon (stores plane f base g) ((plane g).toLoadRect.idx j)) = View.ld X (plane g) := by
  funext j
  have hj : (plane g).toLoadRect.idx j = (plane g).emb j := rfl
  subst hX
  refine stores_out View.canon canon_out plane f base _ g fun k hk hm => ?_
  rw [hj] at hm
  have j0 : (j 0).val < 1 := (j 0).isLt
  have h2 := mem_plane hm
  have e' : ((plane g).emb j 0).val = g % 4 + 1 * (j 0).val := rfl
  omega

end Canon

variable {F : FTy → Type} [FloatOps F] [Named F]
variable (m : (ℓ : Loc nD τ sig) → Buf (Elt F) ℓ)

/-! ## The loads -/

/-- The input's rows under the sixteen before them. -/
def ext (c : Dev nD) (t : Fin cfg0.N) : Vec F (Q 272) .f32 := fun y =>
  if h : (y 0).val < 16 then k0_pay5 (F := F) (grid0.coords t) (iblk m c 2 t) (ix2 (⟨(y 0).val, h⟩ : Fin 16) (y 1))
  else k0_pay6 (F := F) (iblk m c 1 t)
    (ix2 (⟨(y 0).val - 16, by have : (y 0).val < 272 := (y 0).isLt; omega⟩ : Fin 256) (y 1))

/-- The loads, of the blocks. -/
def loads (c : Dev nD) (t : Fin cfg0.N) : Loads F where
  e g := View.ld (ext m c t) (grp 272 0 h272 g)
  u g := View.ld (ext m c t) (grp 256 16 h16_272 g)
  y g := View.ld (Val := Elt F) (e' := .f32) (iblk m c 0 t) (grp 256 0 h256 g)
  w g := View.ld (Val := Elt F) (e' := .bf16) (iblk m c 3 t) (plane g)
  s g := View.ld (Val := Elt F) (e' := .f32) (iblk m c 4 t) (grp 1 0 h1 g)

theorem canon_ext (c : Dev nD) (t : Fin cfg0.N) : View.canon (extPieces m c t) = ext m c t := by
  funext y
  unfold ext extPieces
  have hy : (y 0).val < 272 := (y 0).isLt
  rcases Nat.lt_or_ge (y 0).val 16 with h | h
  · rw [dif_pos h]
    have ey : (Rect.unit (s := Q 272) ![0, 0] S16x1024.size inb_S272x1024_S16x1024_0_0).emb (ix2 (⟨(y 0).val, h⟩ : Fin 16) (y 1)) = y := by
      funext i; apply Fin.ext
      match i with
      | ⟨0, _⟩ => show 0 + 1 * (y 0).val = (y 0).val; omega
      | ⟨1, _⟩ => show 0 + 1 * (y 1).val = (y 1).val; omega
    refine (View.canon_cons_of_not_mem _ _ fun hm => ?_).trans ?_
    · have h8 : 16 ≤ (y 0).val := (Rect.mem_set_unit (s := Q 272) (inb := inb_S272x1024_S256x1024_16_0) |>.mp hm 0).1
      omega
    · refine ((congrArg _ ey.symm).trans (View.canon_cons_emb _ _ _ _)).trans ?_
      rw [readAt_unread, ld_zero]
  · rw [dif_neg (Nat.not_lt_of_ge h)]
    have ey : (Rect.unit (s := Q 272) ![16, 0] S256x1024.size inb_S272x1024_S256x1024_16_0).emb
        (ix2 (⟨(y 0).val - 16, by omega⟩ : Fin 256) (y 1)) = y := by
      funext i; apply Fin.ext
      match i with
      | ⟨0, _⟩ => show 16 + 1 * ((y 0).val - 16) = (y 0).val; omega
      | ⟨1, _⟩ => show 0 + 1 * (y 1).val = (y 1).val; omega
    refine ((congrArg _ ey.symm).trans (View.canon_cons_emb _ _ _ _)).trans ?_
    rw [readAt_unread, ld_zero]

theorem Loads.eq {a b : Loads F} (he : ∀ g, a.e g = b.e g) (hu : ∀ g, a.u g = b.u g) (hy : ∀ g, a.y g = b.y g)
    (hw : ∀ g, a.w g = b.w g) (hs : ∀ g, a.s g = b.s g) : a = b := by
  obtain ⟨ae, au, ay, aw, az⟩ := a
  obtain ⟨be, bu, bb, bw, bz⟩ := b
  have e1 : ae = be := funext he
  have e2 : au = bu := funext hu
  have e3 : ay = bb := funext hy
  have e4 : aw = bw := funext hw
  have e5 : az = bz := funext hs
  rw [e1, e2, e3, e4, e5]

theorem found_eq (c : Dev nD) (t : Fin cfg0.N) : found m c t = loads m c t := by
  apply Loads.eq
  · intro g
    unfold found loads
    dsimp only
    rw [View.readCov_eq_canon', canon_ext]
  · intro g
    unfold found loads
    dsimp only
    rw [View.readCov_eq_canon', canon_ext]
  · intro g
    unfold found loads
    exact readAt_unread (ms0_0 t) (hs0_0 t) (grp 256 0 h256 g) _
  · intro g
    unfold found loads
    exact readAt_unread (ms0_3 t) (hs0_3 t) (plane g) _
  · intro g
    unfold found loads
    exact readAt_unread (ms0_4 t) (hs0_4 t) (grp 1 0 h1 g) _

/-! ## The held shares -/

/-- The last sixteen rows. -/
def tailOf (x : Vec F (Q 272) .f32) : Vec F (Q 16) .f32 := fun y =>
  x (ix2 (⟨256 + (y 0).val, by have : (y 0).val < 16 := (y 0).isLt; omega⟩ : Fin 272) (y 1))

/-- The first sixteen rows of the shares. -/
def top (i : grid0.Coords) (l : Loads F) : Vec F (Q 16) .f32 := fun y =>
  joined (share i l) (ix2 (⟨(y 0).val, by have : (y 0).val < 16 := (y 0).isLt; omega⟩ : Fin 256) (y 1))

theorem tail_idx (y : (Q 272).Idx) (h : 256 ≤ (y 0).val) (h8 : (y 0).val - 256 < 16) :
    (Rect.unit (s := Q 272) ![256, 0] S16x1024.size inb_S272x1024_S16x1024_256_0).emb (ix2 (⟨(y 0).val - 256, h8⟩ : Fin 16) (y 1)) = y := by
  funext i; apply Fin.ext
  match i with
  | ⟨0, _⟩ => show 256 + 1 * ((y 0).val - 256) = (y 0).val; omega
  | ⟨1, _⟩ => show 0 + 1 * (y 1).val = (y 1).val; omega

theorem canon_copy (base : List (View.Piece (Elt F) (Q 272) .f32)) (i : grid0.Coords) (l : Loads F) :
    tailOf (View.canon (copyPiece (shareSt i l base) :: shareSt i l base)) = top i l := by
  funext y
  have hy : (y 0).val < 16 := (y 0).isLt
  have hy1 : (y 1).val < 1024 := (y 1).isLt
  have ey : (Rect.unit (s := Q 272) ![256, 0] S16x1024.size inb_S272x1024_S16x1024_256_0).emb y =
      ix2 (⟨256 + (y 0).val, by omega⟩ : Fin 272) (y 1) := by
    funext i; apply Fin.ext
    match i with
    | ⟨0, _⟩ => show 256 + 1 * (y 0).val = 256 + (y 0).val; omega
    | ⟨1, _⟩ => show 0 + 1 * (y 1).val = (y 1).val; omega
  unfold tailOf
  refine ((congrArg _ ey.symm).trans (View.canon_cons_emb _ _ _ _)).trans ?_
  unfold k0_pay1
  rw [View.readCov_eq_canon', shapeCast_self]
  have hb : (Rect.unit (s := Q 272) ![0, 0] S16x1024.size inb_S272x1024_S16x1024_0_0).toLoadRect.idx y =
      ix2 (⟨(y 0).val, by omega⟩ : Fin 272) (y 1) := by
    funext i; apply Fin.ext
    match i with
    | ⟨0, _⟩ => show 0 + 1 * (y 0).val = (y 0).val; omega
    | ⟨1, _⟩ => show 0 + 1 * (y 1).val = (y 1).val; omega
  refine (congrArg (View.canon _) hb).trans ?_
  refine (stores_held (Val := Elt F) (e := .f32) View.canon canon_in canon_out (share i l) base (fun _ => share i l 0 (ix2 0 0)) _
    (fun _ h => absurd h (Nat.not_le_of_lt (Nat.lt_of_lt_of_le hy (by omega))))).trans ?_
  exact dif_pos (show (y 0).val < 256 by omega)

/-- The sixteen rows below a point's last: zeros, or the first rows of the point before. -/
def tail (c : Dev nD) (t : Fin cfg0.N) : Vec F (Q 16) .f32 :=
  if t.val % 32 = 0 then k0_pay2 else
    top (grid0.coords ⟨t.val - 1, Nat.lt_of_le_of_lt (Nat.sub_le _ _) t.isLt⟩) (loads m c ⟨t.val - 1, Nat.lt_of_le_of_lt (Nat.sub_le _ _) t.isLt⟩)

theorem outs_tail (c : Dev nD) (t : Fin cfg0.N) : tailOf (outsAt0 m c t.val t.isLt).2.2.2 = top (grid0.coords t) (loads m c t) := by
  by_cases h : t.val % 32 = 0
  · rw [outs_A m c t h]
    dsimp only
    rw [canon_copy, found_eq]
  · rw [outs_B m c t h]
    dsimp only
    rw [canon_copy, found_eq]

/-- The held shares of a point and the rows below. -/
abbrev shares (c : Dev nD) (t : Fin cfg0.N) : Vec F (Q 272) .f32 := held (share (grid0.coords t) (loads m c t)) (tail m c t)

theorem outs_du (c : Dev nD) (t : Fin cfg0.N) :
    (outsAt0 m c t.val t.isLt).1 = joined fun g => du (loads m c t) (View.ld (shares m c t) (grp 272 0 h272 g)) g := by
  by_cases h : t.val % 32 = 0
  · rw [outs_A m c t h]
    dsimp only
    rw [found_eq]
    refine canon_joined h256 _ _ _ fun g hg => congrArg (fun E => du (loads m c t) E g) ?_
    refine (View.readCov_eq_canon' _ _ _).trans ?_
    funext j
    refine stores_held (Val := Elt F) (e := .f32) View.canon canon_in canon_out _ _ _ _ fun h16 hy => ?_
    unfold tail
    rw [if_pos h]
    exact (congrArg _ (tail_idx _ hy h16).symm).trans (View.canon_cons_emb _ _ _ _)
  · rw [outs_B m c t h]
    dsimp only
    rw [found_eq]
    refine canon_joined h256 _ _ _ fun g hg => congrArg (fun E => du (loads m c t) E g) ?_
    funext j
    refine stores_held (Val := Elt F) (e := .f32)
      (fun L => scM0_1.view.read (Elt F) (scM0_1.view.writes (Elt F) ((Memref.isWhole_whole _).unread (before m c t).2.2.2) L))
      (fun r w L z => View.read_writes_cons_emb _ _ r w L z) (fun p L y hy => View.read_writes_cons_miss _ _ p L y hy)
      _ _ (tail m c t) _ fun h16 hy => ?_
    unfold tail
    rw [if_neg h, ← outs_tail m c ⟨t.val - 1, Nat.lt_of_le_of_lt (Nat.sub_le _ _) t.isLt⟩]
    have e0 : scM0_1.view.read (Elt F) ((Memref.isWhole_whole _).unread (before m c t).2.2.2) = (before m c t).2.2.2 :=
      Memref.IsWhole.read_unread _ _
    refine (congrFun e0 _).trans ?_
    refine congrArg (before m c t).2.2.2 ?_
    generalize (grp 272 0 h272 g).toLoadRect.idx j = y at hy h16
    funext i; apply Fin.ext
    match i with
    | ⟨0, _⟩ => show (y 0).val = 256 + ((y 0).val - 256); omega
    | ⟨1, _⟩ => rfl

/-! ## The sums -/

/-- The sums for the matrices after a point, of those before it. -/
abbrev wNew (c : Dev nD) (t : Fin cfg0.N) (X : Vec F W3 .f32) : Vec F W3 .f32 := fun y =>
  wSum (grid0.coords t) (loads m c t) (y 0).val (View.ld X (plane (y 0).val)) (ix3 (0 : Fin 1) (y 1) (y 2))

/-- The sums for the scale. -/
abbrev sNew (c : Dev nD) (t : Fin cfg0.N) (X : Vec F (Q 1) .f32) : Vec F (Q 1) .f32 :=
  joined fun g => sSum (grid0.coords t) (loads m c t) g (View.ld X (grp 1 0 h1 g))

theorem canon_zeroW : View.canon [zeroPieceW (F := F)] = k0_pay3 := by
  funext y
  have ey : (Rect.unit (s := W3) ![0, 0, 0] S4x256x256.size inb_S4x256x256_S4x256x256_0_0_0).emb y = y := by
    funext i; apply Fin.ext
    match i with
    | ⟨0, _⟩ => show 0 + 1 * (y 0).val = (y 0).val; omega
    | ⟨1, _⟩ => show 0 + 1 * (y 1).val = (y 1).val; omega
    | ⟨2, _⟩ => show 0 + 1 * (y 2).val = (y 2).val; omega
  exact (congrArg _ ey.symm).trans (View.canon_cons_emb _ _ _ _)

theorem canon_zeroS : View.canon [zeroPieceS (F := F)] = k0_pay4 := by
  funext y
  have ey : (Rect.unit (s := Q 1) ![0, 0] S1x1024.size inb_S1x1024_S1x1024_0_0).emb y = y := by
    funext i; apply Fin.ext
    match i with
    | ⟨0, _⟩ => show 0 + 1 * (y 0).val = (y 0).val; omega
    | ⟨1, _⟩ => show 0 + 1 * (y 1).val = (y 1).val; omega
  exact (congrArg _ ey.symm).trans (View.canon_cons_emb _ _ _ _)

theorem outs_A_w (c : Dev nD) (t : Fin cfg0.N) (h : t.val % 32 = 0) : (outsAt0 m c t.val t.isLt).2.1 = wNew m c t k0_pay3 := by
  rw [outs_A m c t h]
  dsimp only
  rw [found_eq]
  refine canon_planes (Val := Elt F) (e := .f32)
    (fun L g => wSum (grid0.coords t) (loads m c t) g (View.readCov (Val := Elt F) (ms0_6 t).view L (plane g).toLoadRect))
    (fun g => wSum (grid0.coords t) (loads m c t) g (View.ld (Val := Elt F) (e' := .f32) k0_pay3 (plane g))) _
    fun g hg => congrArg (wSum (grid0.coords t) (loads m c t) g) ?_
  exact (View.readCov_eq_canon' _ _ _).trans (found_plane _ _ _ canon_zeroW g hg)

theorem outs_B_w (c : Dev nD) (t : Fin cfg0.N) (h : ¬t.val % 32 = 0) :
    (outsAt0 m c t.val t.isLt).2.1 = wNew m c t (before m c t).2.1 := by
  rw [outs_B m c t h]
  dsimp only
  rw [found_eq]
  exact canon_planes (Val := Elt F) (e := .f32)
    (fun _ g => wSum (grid0.coords t) (loads m c t) g
      (View.readAt (Elt F) (ms0_6 t).view (plane g).toLoadRect ((hs0_6 t).unread (before m c t).2.1)))
    (fun g => wSum (grid0.coords t) (loads m c t) g (View.ld (Val := Elt F) (e' := .f32) (before m c t).2.1 (plane g))) _
    fun g hg => congrArg (wSum (grid0.coords t) (loads m c t) g) (readAt_unread (ms0_6 t) (hs0_6 t) (plane g) _)

theorem outs_A_s (c : Dev nD) (t : Fin cfg0.N) (h : t.val % 32 = 0) : (outsAt0 m c t.val t.isLt).2.2.1 = sNew m c t k0_pay4 := by
  rw [outs_A m c t h]
  dsimp only
  rw [found_eq]
  refine canon_joined h1 _ _ _ fun g hg => congrArg (sSum _ _ g) ?_
  exact (View.readCov_eq_canon' _ _ _).trans (found_grp h1 _ _ _ canon_zeroS g hg)

theorem outs_B_s (c : Dev nD) (t : Fin cfg0.N) (h : ¬t.val % 32 = 0) :
    (outsAt0 m c t.val t.isLt).2.2.1 = sNew m c t (before m c t).2.2.1 := by
  rw [outs_B m c t h]
  dsimp only
  rw [found_eq]
  exact canon_joined h1 _ _ _ fun g hg => congrArg (sSum _ _ g) (readAt_unread (ms0_7 t) (hs0_7 t) (grp 1 0 h1 g) _)

end Cert.PoolBwd
-- ==== Proof.PoolBwd.Value.lean ====
/- What the pooling mixer's gradient leaves after every point, as expressions over its arguments' elements, and the arrays of
   it. -/
module

public import proofs.«01_k».proof.Proof.PoolBwd.Blocks
public import proofs.«01_k».proof.Proof.Gen.Kernel6Ideal.Value
public import Idealize.ShloMosaic.Lib.Pipeline.ValueKit.Geometry

@[expose] public section

set_option maxRecDepth 16384

noncomputable section

open scoped BigOperators

namespace Cert.PoolBwd

open Cert.Kernel6Ideal Cert.Kernel6Ideal.Gen Cert.RowNorm Cert.Sums Cert.Slab
open Idealize.ShloMosaic Idealize.ShloMosaic.TcCoe Idealize.SL.Sem

/-! ## Sums of rotated rows -/

theorem roll_apply (E : FVec Ideal (G 272) .f32) (n : ℕ) (hn : n < 272) (i : Fin 272) (j : Fin 256) :
    dynamicRotate 0 (BitVec.ofNat 32 n) none E rotates_S272x256_d0 (ix2 i j) =
      E (ix2 (⟨(i.val + 272 - n) % 272, Nat.mod_lt _ (by omega)⟩ : Fin 272) j) := by
  rw [Pointwise.dynamicRotate_apply]
  refine congrArg E ?_
  have hb : (BitVec.ofNat 32 n).toNat = n := by rw [BitVec.toNat_ofNat]; exact Nat.mod_eq_of_lt (by omega)
  funext a; apply Fin.ext
  match a with
  | ⟨0, _⟩ =>
    show (i.val + 272 - ((BitVec.ofNat 32 n).toNat + 0) % 272) % 272 = (i.val + 272 - n) % 272
    rw [hb, Nat.add_zero]
    exact congrArg (fun k => (i.val + 272 - k) % 272) (Nat.mod_eq_of_lt hn)
  | ⟨1, _⟩ => rfl

/-- A sum over twice as many numbers. -/
theorem sum_double (n : ℕ) (f : ℕ → EReal) : ∑ d ∈ Finset.range n, f d + ∑ d ∈ Finset.range n, f (n + d) = ∑ d ∈ Finset.range (2 * n), f d := by
  rw [two_mul, Finset.sum_range_add]

theorem pow_le (k : ℕ) (hk : k < 4) : 2 ^ (k + 1) ≤ 16 :=
  (Nat.pow_le_pow_right (by omega) (by omega : k + 1 ≤ 4)).trans (by norm_num)

theorem sumUp_apply (E : FVec Ideal (G 272) .f32) (k : ℕ) (hk : k < 4) (i : Fin 272) (j : Fin 256) (hi : 2 ^ (k + 1) ≤ i.val + 1) :
    sumUp E k (ix2 i j) = ∑ d ∈ Finset.range (2 ^ (k + 1)), at2 E (i.val - d) j.val := by
  induction k generalizing i with
  | zero =>
    have h1 := i.isLt
    have hi : 2 ≤ i.val + 1 := hi
    show E (ix2 i j) + dynamicRotate 0 (BitVec.ofNat 32 1) none E rotates_S272x256_d0 (ix2 i j) = _
    rw [roll_apply E 1 (by omega)]
    show _ = ∑ d ∈ Finset.range 2, at2 E (i.val - d) j.val
    rw [Finset.sum_range_succ, Finset.sum_range_one]
    refine congrArg₂ (· + ·) (at2_fin E i j).symm ?_
    rw [at2_of E _ _ (by omega) j.isLt]
    exact congrArg (fun r => E (ix2 r j)) (Fin.ext (by show (i.val + 272 - 1) % 272 = i.val - 1; omega))
  | succ k ih =>
    have h1 := i.isLt
    have hp := pow_le (k + 1) hk
    have e2 : 2 ^ (k + 1 + 1) = 2 * 2 ^ (k + 1) := by rw [pow_succ]; ring
    show sumUp E k (ix2 i j) + dynamicRotate 0 (BitVec.ofNat 32 (2 ^ (k + 1))) none (sumUp E k) rotates_S272x256_d0 (ix2 i j) = _
    generalize 2 ^ (k + 1) = n at *
    rw [e2] at hi hp ⊢
    rw [roll_apply _ n (by omega), ih (by omega) i (by omega), ih (by omega) _ (by show n ≤ (i.val + 272 - n) % 272 + 1; omega), ← sum_double]
    refine congrArg _ (Finset.sum_congr rfl fun d hd => congrArg (fun r => at2 E r _) ?_)
    have hd := Finset.mem_range.mp hd
    show (i.val + 272 - n) % 272 - d = i.val - (n + d)
    omega

theorem sumDown_apply (E : FVec Ideal (G 272) .f32) (k : ℕ) (hk : k < 4) (i : Fin 272) (j : Fin 256) (hi : i.val + 2 ^ (k + 1) ≤ 272) :
    sumDown E k (ix2 i j) = ∑ d ∈ Finset.range (2 ^ (k + 1)), at2 E (i.val + d) j.val := by
  induction k generalizing i with
  | zero =>
    have hi : i.val + 2 ≤ 272 := hi
    show E (ix2 i j) + dynamicRotate 0 (BitVec.ofNat 32 271) none E rotates_S272x256_d0 (ix2 i j) = _
    rw [roll_apply E 271 (by omega)]
    show _ = ∑ d ∈ Finset.range 2, at2 E (i.val + d) j.val
    rw [Finset.sum_range_succ, Finset.sum_range_one]
    refine congrArg₂ (· + ·) (at2_fin E i j).symm ?_
    rw [at2_of E _ _ (by omega) j.isLt]
    exact congrArg (fun r => E (ix2 r j)) (Fin.ext (by show (i.val + 272 - 271) % 272 = i.val + 1; omega))
  | succ k ih =>
    have hp := pow_le (k + 1) hk
    have hn : 0 < 2 ^ (k + 1) := Nat.pow_pos (by omega)
    have e2 : 2 ^ (k + 1 + 1) = 2 * 2 ^ (k + 1) := by rw [pow_succ]; ring
    show sumDown E k (ix2 i j) + dynamicRotate 0 (BitVec.ofNat 32 (272 - 2 ^ (k + 1))) none (sumDown E k) rotates_S272x256_d0 (ix2 i j) = _
    generalize 2 ^ (k + 1) = n at *
    rw [e2] at hi hp ⊢
    rw [roll_apply _ (272 - n) (by omega), ih (by omega) i (by omega),
      ih (by omega) _ (by show (i.val + 272 - (272 - n)) % 272 + n ≤ 272; omega), ← sum_double]
    refine congrArg _ (Finset.sum_congr rfl fun d hd => congrArg (fun r => at2 E r _) ?_)
    have hd := Finset.mem_range.mp hd
    show (i.val + 272 - (272 - n)) % 272 + d = i.val + (n + d)
    omega

/-! ## One group at an index -/

/-- How many rows the mean of row `R` in group `g` is over. -/
def cnt (g R : ℕ) : ℝ := ((min (R + 1) (2 ^ (g + 1)) : ℕ) : ℝ)

theorem cnt_pos (g R : ℕ) : cnt g R ≠ 0 := by
  unfold cnt
  have h : 0 < min (R + 1) (2 ^ (g + 1)) := lt_min (Nat.succ_pos R) (Nat.pow_pos (by omega))
  exact_mod_cast Nat.pos_iff_ne_zero.mp h

theorem count_apply (i : grid0.Coords) (g : ℕ) (hg : g < 4) (r b : Fin 256) :
    count (F := Ideal) i g (ix2 r b) = (cnt g (256 * (31 - (i 0).val) + r.val) : EReal) := by
  have hi : (i 0).val < 32 := (i 0).isLt
  have hr := r.isLt
  have hp := pow_le g hg
  unfold count k0_pay7
  pointwise
  show ((BitVec.toInt _ : ℝ) : EReal) = _
  unfold cnt
  refine congrArg _ ?_
  generalize (i 0).val = n at *
  generalize r.val = q at *
  generalize 2 ^ (g + 1) = p at *
  have e1 : IntOp.addi (IntOp.addi (Scalar.muli (Scalar.subi (31#32) (BitVec.ofNat 32 n)) 256#32) (BitVec.ofNat 32 q)) 1#32 =
      BitVec.ofNat 32 (256 * (31 - n) + q + 1) := by
    apply BitVec.eq_of_toNat_eq
    show (BitVec.toNat (((31#32 - BitVec.ofNat 32 n) * 256#32 + BitVec.ofNat 32 q) + 1#32)) = _
    simp only [BitVec.toNat_add, BitVec.toNat_mul, BitVec.toNat_sub, BitVec.toNat_ofNat]
    omega
  rw [e1]
  have t1 : (BitVec.ofNat 32 (256 * (31 - n) + q + 1)).toInt = ((256 * (31 - n) + q + 1 : ℕ) : ℤ) := by
    rw [BitVec.toInt_eq_toNat_of_lt (by rw [BitVec.toNat_ofNat]; omega), BitVec.toNat_ofNat, Nat.mod_eq_of_lt (by omega)]
  have t2 : (BitVec.ofNat 32 p).toInt = ((p : ℕ) : ℤ) := by
    rw [BitVec.toInt_eq_toNat_of_lt (by rw [BitVec.toNat_ofNat]; omega), BitVec.toNat_ofNat, Nat.mod_eq_of_lt (by omega)]
  have e2 : (IntOp.minsi (BitVec.ofNat 32 (256 * (31 - n) + q + 1)) (BitVec.ofNat 32 p)).toInt =
      ((min (256 * (31 - n) + q + 1) p : ℕ) : ℤ) := by
    unfold IntOp.minsi
    split_ifs with h
    · rw [t1]
      rw [BitVec.slt_iff_toInt_lt, t1, t2] at h
      omega
    · rw [t2]
      rw [BitVec.slt_iff_toInt_lt, t1, t2] at h
      omega
  rw [e2]
  norm_cast

theorem diff_apply (i : grid0.Coords) (l : Loads Ideal) (g : ℕ) (hg : g < 4) (r b : Fin 256) :
    diff i l g (ix2 r b) = Ideal.div (∑ d ∈ Finset.range (2 ^ (g + 1)), at2 (l.e g) (16 + r.val - d) b.val)
      (cnt g (256 * (31 - (i 0).val) + r.val)) - l.u g (ix2 r b) := by
  have hr := r.isLt
  have hp := pow_le g hg
  unfold diff
  pointwise
  rw [count_apply i g hg, sumUp_apply _ g hg _ _ (by show 2 ^ (g + 1) ≤ 16 + r.val + 1; omega)]

theorem dd_apply (l : Loads Ideal) (g : ℕ) (r b : Fin 256) :
    dd l g (ix2 r b) = ∑ x : Fin 256, l.y g (ix2 r x) * l.s g (ix2 0 x) * l.w g (ix3 0 b x) := by
  unfold dd ys mat
  pointwise

theorem sSum_apply (i : grid0.Coords) (l : Loads Ideal) (g : ℕ) (old : FVec Ideal (G 1) .f32) (b : Fin 256) :
    sSum i l g old (ix2 0 b) =
      old (ix2 0 b) + ∑ r : Fin 256, l.y g (ix2 r b) * ∑ x : Fin 256, diff i l g (ix2 r x) * l.w g (ix3 0 x b) := by
  unfold sSum mat
  pointwise

theorem wSum_apply (i : grid0.Coords) (l : Loads Ideal) (g : ℕ) (old : FVec Ideal G3 .f32) (a b : Fin 256) :
    wSum i l g old (ix3 0 a b) =
      old (ix3 0 a b) + ∑ r : Fin 256, diff i l g (ix2 r a) * (l.y g (ix2 r b) * l.s g (ix2 0 b)) := by
  unfold wSum ys
  pointwise

theorem share_apply (i : grid0.Coords) (l : Loads Ideal) (g : ℕ) (hg : g < 4) (r b : Fin 256) :
    share i l g (ix2 r b) = Ideal.div (dd l g (ix2 r b)) (cnt g (256 * (31 - (i 0).val) + r.val)) := by
  unfold share
  pointwise
  rw [count_apply i g hg]

theorem du_apply (l : Loads Ideal) (E : FVec Ideal (G 272) .f32) (g : ℕ) (hg : g < 4) (r b : Fin 256) :
    du l E g (ix2 r b) = ∑ d ∈ Finset.range (2 ^ (g + 1)), at2 E (r.val + d) b.val - dd l g (ix2 r b) := by
  have hr := r.isLt
  have hp := pow_le g hg
  unfold du
  pointwise
  rw [sumDown_apply _ g hg _ _ (by show r.val + 2 ^ (g + 1) ≤ 272; omega)]

theorem pay5_last (i : grid0.Coords) (h : (i 0).val = 31) (a : Vec Ideal S16x1024 .f32) (r : Fin 16) (b : Fin 1024) :
    k0_pay5 (F := Ideal) i a (ix2 r b) = 0 := by
  unfold k0_pay5
  rw [h]
  pointwise

theorem pay5_rest (i : grid0.Coords) (h : ¬(i 0).val = 31) (a : Vec Ideal S16x1024 .f32) (r : Fin 16) (b : Fin 1024) :
    k0_pay5 (F := Ideal) i a (ix2 r b) = a (ix2 r b) := by
  have h8 : (i 0).val < 32 := (i 0).isLt
  have e : Scalar.cmpi .eq (BitVec.ofNat 32 (i 0).val) 31#32 = 0#1 := by
    revert h h8
    generalize (i 0).val = n
    intro h h8
    interval_cases n <;> first | rfl | exact absurd rfl h
  unfold k0_pay5
  dsimp only
  rw [e]
  pointwise
  try rfl

theorem pay6_apply (a : Vec Ideal S256x1024 .f32) (r : Fin 256) (b : Fin 1024) : k0_pay6 (F := Ideal) a (ix2 r b) = a (ix2 r b) := by
  unfold k0_pay6
  pointwise

variable (m : (ℓ : Loc nD τ sig) → Buf (Elt Ideal) ℓ)

/-! ## The windows' blocks -/

theorem lt_N (t : Fin cfg0.N) : t.val < 32 := t.isLt
theorem coord0 : ∀ t : Fin cfg0.N, (grid0.coords t 0).val = t.val := by decide +kernel

/-- A point's first row. -/
abbrev R0 (n : ℕ) : ℕ := 256 * (31 - n)

theorem at0' : ∀ t : Fin cfg0.N, win0_0.index t 0 = 31 - t.val ∧ win0_0.index t 1 = 0 := by decide +kernel
theorem at1' : ∀ t : Fin cfg0.N, win0_1.index t 0 = 31 - t.val ∧ win0_1.index t 1 = 0 := by decide +kernel
theorem at2' : ∀ t : Fin cfg0.N, win0_2.index t 0 = 16 * (31 - t.val) - 1 ∧ win0_2.index t 1 = 0 := by decide +kernel
theorem at3' : ∀ t : Fin cfg0.N, win0_3.index t 0 = 0 ∧ win0_3.index t 1 = 0 ∧ win0_3.index t 2 = 0 := by decide +kernel
theorem at4' : ∀ t : Fin cfg0.N, win0_4.index t 0 = 0 ∧ win0_4.index t 1 = 0 := by decide +kernel
theorem at5' : ∀ t : Fin cfg0.N, win0_5.index t 0 = 31 - t.val ∧ win0_5.index t 1 = 0 := by decide +kernel
theorem at6' : ∀ t : Fin cfg0.N, win0_6.index t 0 = 0 ∧ win0_6.index t 1 = 0 ∧ win0_6.index t 2 = 0 := by decide +kernel
theorem at7' : ∀ t : Fin cfg0.N, win0_7.index t 0 = 0 ∧ win0_7.index t 1 = 0 := by decide +kernel

theorem iblk0 (c : Dev nD) (t : Fin cfg0.N) (r : Fin 256) (j : Fin 1024) :
    (iblk m c 0 t : Vec Ideal S256x1024 .f32) (ix2 r j) = at2 (V m c main_arg3) (R0 t.val + r.val) j.val := by
  have ht := lt_N t
  rw [at2_of _ _ _ (by simp only [R0]; omega) j.isLt]
  unfold iblk
  rw [View.read_apply]
  show V m c main_arg3 _ = V m c main_arg3 _
  refine congrArg _ (funext fun a => Fin.ext ?_)
  match a with
  | ⟨0, _⟩ => show win0_0.index t 0 * 256 + 1 * r.val = R0 t.val + r.val; rw [(at0' t).1]; simp only [R0]; omega
  | ⟨1, _⟩ => show win0_0.index t 1 * 1024 + 1 * j.val = j.val; rw [(at0' t).2]; omega

theorem iblk1 (c : Dev nD) (t : Fin cfg0.N) (r : Fin 256) (j : Fin 1024) :
    (iblk m c 1 t : Vec Ideal S256x1024 .f32) (ix2 r j) = at2 (V m c main_arg0) (R0 t.val + r.val) j.val := by
  have ht := lt_N t
  rw [at2_of _ _ _ (by simp only [R0]; omega) (by omega)]
  unfold iblk
  rw [View.read_apply]
  show V m c main_arg0 _ = V m c main_arg0 _
  refine congrArg _ (funext fun a => Fin.ext ?_)
  match a with
  | ⟨0, _⟩ => show win0_1.index t 0 * 256 + 1 * r.val = R0 t.val + r.val; rw [(at1' t).1]; simp only [R0]; omega
  | ⟨1, _⟩ => show win0_1.index t 1 * 1024 + 1 * j.val = j.val; rw [(at1' t).2]; omega

theorem iblk2 (c : Dev nD) (t : Fin cfg0.N) (h : ¬t.val = 31) (r : Fin 16) (j : Fin 1024) :
    (iblk m c 2 t : Vec Ideal S16x1024 .f32) (ix2 r j) = at2 (V m c main_arg0) (R0 t.val - 16 + r.val) j.val := by
  have ht := lt_N t
  rw [at2_of _ _ _ (by simp only [R0]; omega) (by omega)]
  unfold iblk
  rw [View.read_apply]
  show V m c main_arg0 _ = V m c main_arg0 _
  refine congrArg _ (funext fun a => Fin.ext ?_)
  match a with
  | ⟨0, _⟩ => show win0_2.index t 0 * 16 + 1 * r.val = R0 t.val - 16 + r.val; rw [(at2' t).1]; simp only [R0]; omega
  | ⟨1, _⟩ => show win0_2.index t 1 * 1024 + 1 * j.val = j.val; rw [(at2' t).2]; omega

theorem iblk3 (c : Dev nD) (t : Fin cfg0.N) (y : W3.Idx) : (iblk m c 3 t : Vec Ideal W3 .bf16) y = (V m c main_v1 : Vec Ideal W3 .bf16) y := by
  unfold iblk
  rw [View.read_apply]
  show V m c main_v1 _ = V m c main_v1 _
  refine congrArg _ (funext fun a => Fin.ext ?_)
  match a with
  | ⟨0, _⟩ => show win0_3.index t 0 * 4 + 1 * (y 0).val = (y 0).val; rw [(at3' t).1]; omega
  | ⟨1, _⟩ => show win0_3.index t 1 * 256 + 1 * (y 1).val = (y 1).val; rw [(at3' t).2.1]; omega
  | ⟨2, _⟩ => show win0_3.index t 2 * 256 + 1 * (y 2).val = (y 2).val; rw [(at3' t).2.2]; omega

theorem iblk4 (c : Dev nD) (t : Fin cfg0.N) (y : (Q 1).Idx) : (iblk m c 4 t : Vec Ideal (Q 1) .f32) y = (V m c main_arg2 : Vec Ideal (Q 1) .f32) y := by
  unfold iblk
  rw [View.read_apply]
  show V m c main_arg2 _ = V m c main_arg2 _
  refine congrArg _ (funext fun a => Fin.ext ?_)
  match a with
  | ⟨0, _⟩ => show win0_4.index t 0 * 1 + 1 * (y 0).val = (y 0).val; rw [(at4' t).1]; omega
  | ⟨1, _⟩ => show win0_4.index t 1 * 1024 + 1 * (y 1).val = (y 1).val; rw [(at4' t).2]; omega

/-! ## The values, by group, row and column -/

/-- The input's row `d` rows up, zero above the first. -/
def upU (c : Dev nD) (g d R b : ℕ) : EReal := if d ≤ R then at2 (V m c main_arg0) (R - d) (256 * g + b) else 0

/-- The mean less the input. -/
def diffV (c : Dev nD) (g R b : ℕ) : EReal :=
  Ideal.div (∑ d ∈ Finset.range (2 ^ (g + 1)), upU m c g d R b) (cnt g R) - at2 (V m c main_arg0) R (256 * g + b)

/-- A matrix's element. -/
def wV (c : Dev nD) (g a b : ℕ) : EReal :=
  if h : g < 4 ∧ a < 256 ∧ b < 256 then (V m c main_v1 : Vec Ideal W3 .bf16) (ix3 ⟨g, h.1⟩ ⟨a, h.2.1⟩ ⟨b, h.2.2⟩) else 0

/-- The scaled cotangent. -/
def ysV (c : Dev nD) (g R b : ℕ) : EReal := at2 (V m c main_arg3) R (256 * g + b) * at2 (V m c main_arg2) 0 (256 * g + b)

/-- The gradient of the mean less the input. -/
def ddV (c : Dev nD) (g R b : ℕ) : EReal := ∑ x : Fin 256, ysV m c g R x.val * wV m c g b x.val

/-- The gradient of every row that the mean is over. -/
def shV (c : Dev nD) (g R b : ℕ) : EReal := Ideal.div (ddV m c g R b) (cnt g R)

/-- The gradient of the input. -/
def duV (c : Dev nD) (g R b : ℕ) : EReal := ∑ d ∈ Finset.range (2 ^ (g + 1)), shV m c g (R + d) b - ddV m c g R b

/-- What a row adds to the gradient of the scale and to that of a matrix. -/
def dsV (c : Dev nD) (g R b : ℕ) : EReal := at2 (V m c main_arg3) R (256 * g + b) * ∑ x : Fin 256, diffV m c g R x.val * wV m c g x.val b
def dwV (c : Dev nD) (g R a b : ℕ) : EReal := diffV m c g R a * ysV m c g R b

theorem shV_out (c : Dev nD) (g R b : ℕ) (h : 8192 ≤ R) : shV m c g R b = 0 := by
  have e : ddV m c g R b = 0 := by
    refine Finset.sum_eq_zero fun x _ => ?_
    have e0 : at2 (V m c main_arg3) R (256 * g + x.val) = 0 := dif_neg fun e => absurd e.1 (Nat.not_lt_of_ge h)
    unfold ysV
    rw [e0, zero_mul, zero_mul]
  unfold shV
  rw [e, Ideal.div_coe (cnt_pos g R), zero_mul]

/-! ## A point's loads -/

theorem ext_apply (c : Dev nD) (t : Fin cfg0.N) (i : Fin 272) (j : Fin 1024) :
    ext m c t (ix2 i j) = if 16 ≤ R0 t.val + i.val then at2 (V m c main_arg0) (R0 t.val + i.val - 16) j.val else 0 := by
  have hi := i.isLt
  have ht := lt_N t
  unfold ext
  by_cases h : i.val < 16
  · refine (dif_pos h).trans ?_
    by_cases h7 : t.val = 31
    · refine (pay5_last _ ((coord0 t).trans h7) _ _ _).trans ?_
      rw [if_neg (by simp only [R0]; omega)]
    · refine (pay5_rest _ (fun e => h7 ((coord0 t).symm.trans e)) _ _ _).trans ?_
      rw [if_pos (by simp only [R0]; omega)]
      refine (iblk2 m c t h7 _ _).trans (congrArg (fun R => at2 _ R _) ?_)
      show R0 t.val - 16 + i.val = R0 t.val + i.val - 16
      simp only [R0]; omega
  · refine (dif_neg h).trans ?_
    rw [if_pos (by simp only [R0]; omega)]
    refine (pay6_apply _ _ _).trans ((iblk1 m c t _ _).trans (congrArg (fun R => at2 _ R _) ?_))
    show R0 t.val + (i.val - 16) = R0 t.val + i.val - 16
    omega

theorem e_apply (c : Dev nD) (t : Fin cfg0.N) (g : ℕ) (hg : g < 4) (i : ℕ) (hi : i < 272) (b : Fin 256) :
    at2 ((loads m c t).e g) i b.val = if 16 ≤ R0 t.val + i then at2 (V m c main_arg0) (R0 t.val + i - 16) (256 * g + b.val) else 0 := by
  rw [at2_of _ _ _ hi b.isLt]
  refine Eq.trans (congrArg (ext m c t) ((grp_emb h272 g hg (⟨i, hi⟩ : Fin 272) b).trans ?_)) (ext_apply m c t ⟨i, hi⟩ ⟨256 * g + b.val, by omega⟩)
  exact congrArg (fun r => ix2 r _) (Fin.ext (Nat.zero_add i))

theorem u_apply (c : Dev nD) (t : Fin cfg0.N) (g : ℕ) (hg : g < 4) (r b : Fin 256) :
    (loads m c t).u g (ix2 r b) = at2 (V m c main_arg0) (R0 t.val + r.val) (256 * g + b.val) := by
  refine (congrArg (ext m c t) (grp_emb h16_272 g hg r b)).trans ((ext_apply m c t _ _).trans ?_)
  refine (if_pos (by show 16 ≤ R0 t.val + (16 + r.val); omega)).trans (congrArg (fun R => at2 _ R _) ?_)
  show R0 t.val + (16 + r.val) - 16 = R0 t.val + r.val
  omega

theorem y_apply (c : Dev nD) (t : Fin cfg0.N) (g : ℕ) (hg : g < 4) (r b : Fin 256) :
    (loads m c t).y g (ix2 r b) = at2 (V m c main_arg3) (R0 t.val + r.val) (256 * g + b.val) := by
  refine (congrArg (iblk m c 0 t : Vec Ideal S256x1024 .f32) (grp_emb h256 g hg r b)).trans ((iblk0 m c t _ _).trans ?_)
  exact congrArg (fun R => at2 _ (R0 t.val + R) _) (Nat.zero_add r.val)

theorem w_apply (c : Dev nD) (t : Fin cfg0.N) (g : ℕ) (hg : g < 4) (a b : Fin 256) :
    (loads m c t).w g (ix3 0 a b) = wV m c g a.val b.val := by
  unfold wV
  rw [dif_pos (⟨hg, a.isLt, b.isLt⟩ : g < 4 ∧ a.val < 256 ∧ b.val < 256)]
  exact (congrArg (iblk m c 3 t : Vec Ideal W3 .bf16) (plane_emb g hg a b)).trans (iblk3 m c t _)

theorem s_apply (c : Dev nD) (t : Fin cfg0.N) (g : ℕ) (hg : g < 4) (b : Fin 256) :
    (loads m c t).s g (ix2 0 b) = at2 (V m c main_arg2) 0 (256 * g + b.val) := by
  rw [at2_of _ _ _ (by omega) (by omega)]
  exact (congrArg (iblk m c 4 t : Vec Ideal (Q 1) .f32) (grp_emb h1 g hg 0 b)).trans (iblk4 m c t _)

/-! ## A point's results -/

theorem diff_eq (c : Dev nD) (t : Fin cfg0.N) (g : ℕ) (hg : g < 4) (r b : Fin 256) :
    diff (grid0.coords t) (loads m c t) g (ix2 r b) = diffV m c g (R0 t.val + r.val) b.val := by
  have hp := pow_le g hg
  have hr := r.isLt
  rw [diff_apply _ _ g hg, coord0, u_apply m c t g hg]
  unfold diffV
  refine congrArg (fun s => Ideal.div s _ - _) (Finset.sum_congr rfl fun d hd => ?_)
  have hd := Finset.mem_range.mp hd
  rw [e_apply m c t g hg _ (by omega)]
  unfold upU
  by_cases h : d ≤ R0 t.val + r.val
  · rw [if_pos h, if_pos (by omega)]
    exact congrArg (fun R => at2 _ R _) (by omega)
  · rw [if_neg h, if_neg (by omega)]

theorem dd_eq (c : Dev nD) (t : Fin cfg0.N) (g : ℕ) (hg : g < 4) (r b : Fin 256) :
    dd (loads m c t) g (ix2 r b) = ddV m c g (R0 t.val + r.val) b.val := by
  rw [dd_apply]
  refine Finset.sum_congr rfl fun x _ => ?_
  rw [y_apply m c t g hg, s_apply m c t g hg, w_apply m c t g hg]
  rfl

theorem share_eq (c : Dev nD) (t : Fin cfg0.N) (g : ℕ) (hg : g < 4) (r b : Fin 256) :
    share (grid0.coords t) (loads m c t) g (ix2 r b) = shV m c g (R0 t.val + r.val) b.val := by
  rw [share_apply _ _ g hg, coord0, dd_eq m c t g hg]
  rfl

theorem tail_apply (c : Dev nD) (t : Fin cfg0.N) (r : Fin 16) (g : ℕ) (hg : g < 4) (b : Fin 256) :
    tail m c t (ix2 r (⟨256 * g + b.val, by omega⟩ : Fin 1024)) = shV m c g (R0 t.val + (256 + r.val)) b.val := by
  have ht := lt_N t
  have hb := b.isLt
  unfold tail
  by_cases h : t.val % 32 = 0
  · rw [if_pos h, shV_out _ _ _ _ _ (by simp only [R0]; omega)]
    unfold k0_pay2
    pointwise
  · rw [if_neg h]
    unfold top joined
    have e1 : (256 * g + b.val) / 256 = g := by omega
    have e2 : (256 * g + b.val) % 256 = b.val := by omega
    show share _ _ ((256 * g + b.val) / 256) (ix2 _ (⟨(256 * g + b.val) % 256, _⟩ : Fin 256)) = _
    simp only [e1, e2]
    refine (share_eq m c _ g hg _ _).trans (congrArg (fun R => shV m c g R _) ?_)
    show 256 * (31 - (t.val - 1)) + r.val = 256 * (31 - t.val) + (256 + r.val)
    omega

theorem shares_apply (c : Dev nD) (t : Fin cfg0.N) (g : ℕ) (hg : g < 4) (i : ℕ) (hi : i < 272) (b : Fin 256) :
    at2 (View.ld (shares m c t) (grp 272 0 h272 g)) i b.val = shV m c g (R0 t.val + i) b.val := by
  have hb := b.isLt
  rw [at2_of _ _ _ hi b.isLt]
  refine (congrArg (shares m c t) (grp_emb h272 g hg (⟨i, hi⟩ : Fin 272) b)).trans ?_
  show held _ _ _ = _
  unfold held
  have e0 : (0 + i) = i := Nat.zero_add i
  by_cases h : i < 256
  · refine (dif_pos (by show 0 + i < 256; omega)).trans ?_
    unfold joined
    have e1 : (256 * g + b.val) / 256 = g := by omega
    have e2 : (256 * g + b.val) % 256 = b.val := by omega
    show share _ _ ((256 * g + b.val) / 256) (ix2 (⟨0 + i, _⟩ : Fin 256) (⟨(256 * g + b.val) % 256, _⟩ : Fin 256)) = _
    simp only [e1, e2, e0]
    exact share_eq m c t g hg ⟨i, h⟩ b
  · refine (dif_neg (by show ¬0 + i < 256; omega)).trans ?_
    refine (tail_apply m c t (⟨0 + i - 256, by omega⟩ : Fin 16) g hg b).trans (congrArg (fun R => shV m c g R _) ?_)
    show R0 t.val + (256 + (0 + i - 256)) = R0 t.val + i
    omega

theorem du_block (c : Dev nD) (t : Fin cfg0.N) :
    (outsAt0 m c t.val t.isLt).1 = fun y : (Q 256).Idx => duV m c ((y 1).val / 256) (R0 t.val + (y 0).val) ((y 1).val % 256) := by
  rw [outs_du]
  funext y
  have h1 : (y 1).val < 1024 := (y 1).isLt
  have h0 : (y 0).val < 256 := (y 0).isLt
  have hg : (y 1).val / 256 < 4 := by omega
  have hp := pow_le _ hg
  unfold joined
  refine (du_apply _ _ _ hg (y 0) _).trans ?_
  unfold duV
  refine congrArg₂ (fun p q : EReal => p - q) (Finset.sum_congr rfl fun d hd => ?_) (dd_eq m c t _ hg (y 0) _)
  have hd := Finset.mem_range.mp hd
  exact (shares_apply m c t _ hg _ (by omega) _).trans (congrArg (fun R => shV m c _ R _) (Nat.add_assoc _ _ _).symm)

/-! ## The sums over the points -/

/-- The sum over the rows of the first points. -/
def rows (f : ℕ → EReal) (n : ℕ) : EReal := ∑ q ∈ Finset.range n, ∑ r : Fin 256, f (R0 q + r.val)

theorem rows_all (f : ℕ → EReal) : rows f 32 = ∑ R ∈ Finset.range 8192, f R := by
  unfold rows
  have e : ∀ q ∈ Finset.range 32, ∑ r : Fin 256, f (R0 q + r.val) = (fun p => ∑ r : Fin 256, f (256 * p + r.val)) (32 - 1 - q) := fun q _ => rfl
  refine (Finset.sum_congr rfl e).trans ((Finset.sum_range_reflect (fun p => ∑ r : Fin 256, f (256 * p + r.val)) 32).trans ?_)
  rw [← Fin.sum_univ_eq_sum_range]
  exact sum_runs 256 32 f

/-- The sums after point `n`. -/
def Inv (c : Dev nD) (n : ℕ) (W : Vec Ideal W3 .f32) (S : Vec Ideal (Q 1) .f32) : Prop :=
  (∀ (g : Fin 4) (a b : Fin 256), W (ix3 g a b) = rows (fun R => dwV m c g.val R a.val b.val) (n + 1)) ∧
    ∀ (j : Fin 1024), S (ix2 0 j) = rows (fun R => dsV m c (j.val / 256) R (j.val % 256)) (n + 1)

theorem wNew_apply (c : Dev nD) (t : Fin cfg0.N) (X : Vec Ideal W3 .f32) (g : Fin 4) (a b : Fin 256) :
    wNew m c t X (ix3 g a b) = X (ix3 g a b) + ∑ r : Fin 256, dwV m c g.val (R0 t.val + r.val) a.val b.val := by
  show wSum _ _ g.val _ (ix3 (0 : Fin 1) a b) = _
  rw [wSum_apply]
  refine congrArg₂ (· + ·) (congrArg X (plane_emb g.val g.isLt a b)) (Finset.sum_congr rfl fun r _ => ?_)
  rw [diff_eq m c t _ g.isLt, y_apply m c t _ g.isLt, s_apply m c t _ g.isLt]
  rfl

theorem sNew_apply (c : Dev nD) (t : Fin cfg0.N) (X : Vec Ideal (Q 1) .f32) (j : Fin 1024) :
    sNew m c t X (ix2 0 j) = X (ix2 0 j) + ∑ r : Fin 256, dsV m c (j.val / 256) (R0 t.val + r.val) (j.val % 256) := by
  have hj := j.isLt
  have hg : j.val / 256 < 4 := by omega
  show sSum _ _ (j.val / 256) _ (ix2 (0 : Fin 1) (⟨j.val % 256, _⟩ : Fin 256)) = _
  rw [sSum_apply]
  refine congrArg₂ (· + ·) (congrArg X ((grp_emb h1 (j.val / 256) hg 0 (⟨j.val % 256, Nat.mod_lt _ (by omega)⟩ : Fin 256)).trans ?_)) (Finset.sum_congr rfl fun r _ => ?_)
  · exact congrArg (fun q => ix2 (0 : Fin 1) q) (Fin.ext (by show 256 * (j.val / 256) + j.val % 256 = j.val; omega))
  · rw [y_apply m c t _ hg]
    unfold dsV
    refine congrArg _ (Finset.sum_congr rfl fun x _ => ?_)
    rw [diff_eq m c t _ hg, w_apply m c t _ hg]

theorem inv_step (c : Dev nD) (t : Fin cfg0.N)
    (ih : ∀ (n : ℕ) (h : n < cfg0.N), n + 1 = t.val → Inv m c n (outsAt0 m c n h).2.1 (outsAt0 m c n h).2.2.1) :
    Inv m c t.val (outsAt0 m c t.val t.isLt).2.1 (outsAt0 m c t.val t.isLt).2.2.1 := by
  have ht := lt_N t
  by_cases h : t.val % 32 = 0
  · have h0 : t.val = 0 := by omega
    rw [outs_A_w m c t h, outs_A_s m c t h]
    refine ⟨fun g a b => (wNew_apply m c t _ g a b).trans ?_, fun j => (sNew_apply m c t _ j).trans ?_⟩
    · have z : (k0_pay3 (F := Ideal)) (ix3 g a b) = 0 := by unfold k0_pay3; pointwise
      rw [z, h0]
      unfold rows
      simp
    · have z : (k0_pay4 (F := Ideal)) (ix2 0 j) = 0 := by unfold k0_pay4; pointwise
      rw [z, h0]
      unfold rows
      simp
  · rw [outs_B_w m c t h, outs_B_s m c t h]
    have ih := ih (t.val - 1) (by omega) (by omega)
    have e1 : t.val - 1 + 1 = t.val := by omega
    unfold Inv at ih
    rw [e1] at ih
    refine ⟨fun g a b => (wNew_apply m c t _ g a b).trans ?_, fun j => (sNew_apply m c t _ j).trans ?_⟩
    · rw [ih.1 g a b]
      exact (Finset.sum_range_succ _ _).symm
    · rw [ih.2 j]
      exact (Finset.sum_range_succ _ _).symm

theorem inv_all (c : Dev nD) (n : ℕ) : ∀ h : n < cfg0.N, Inv m c n (outsAt0 m c n h).2.1 (outsAt0 m c n h).2.2.1 := by
  induction n with
  | zero => exact fun h => inv_step m c ⟨0, h⟩ fun n _ e => absurd e (Nat.succ_ne_zero n)
  | succ n ih =>
    intro h
    refine inv_step m c ⟨n + 1, h⟩ fun k hk e => ?_
    obtain rfl : k = n := Nat.succ.inj e
    exact ih hk

/-! ## The arrays after the run -/

theorem du_array (c : Dev nD) :
    (dats m 0 c).arrAt 5 cfg0.N = fun z : (Q 8192).Idx => duV m c ((z 1).val / 256) (z 0).val ((z 1).val % 256) := by
  refine (dats m 0 c).arrAt_eq_of_covers 5 _ (by decide +kernel) fun t hf y => ?_
  have ht := lt_N t
  blk_simp
  rw [after0_5, du_block]
  show duV m c ((y 1).val / 256) (R0 t.val + (y 0).val) ((y 1).val % 256) = _
  have e0 : R0 t.val + (y 0).val = win0_5.index t 0 * 256 + (y 0).val := by rw [(at5' t).1]; simp only [R0]; omega
  have e1 : (y 1).val = win0_5.index t 1 * 1024 + (y 1).val := by rw [(at5' t).2]; omega
  rw [e0]
  exact congrArg (fun q => duV m c (q / 256) _ (q % 256)) e1

theorem last6 : ∀ t : Fin cfg0.N, (cfg0.win 6).flush t = true → t.val = 31 := by decide +kernel

theorem dw_array (c : Dev nD) :
    (dats m 0 c).arrAt 6 cfg0.N = fun z : W3.Idx => ∑ R ∈ Finset.range 8192, dwV m c (z 0).val R (z 1).val (z 2).val := by
  refine (dats m 0 c).arrAt_eq_of_covers 6 _ (by decide +kernel) fun t hf y => ?_
  have h7 := last6 t hf
  blk_simp
  rw [after0_6]
  have ey : y = ix3 (y 0) (y 1) (y 2) := by funext a; fin_cases a <;> rfl
  have e := ((inv_all m c t.val t.isLt).1 (y 0) (y 1) (y 2)).trans ((congrArg (rows _) (congrArg Nat.succ h7)).trans (rows_all _))
  conv_lhs => rw [ey]
  refine e.trans ?_
  have e0 : (y 0).val = win0_6.index t 0 * 4 + (y 0).val := by rw [(at6' t).1]; omega
  have e1 : (y 1).val = win0_6.index t 1 * 256 + (y 1).val := by rw [(at6' t).2.1]; omega
  have e2 : (y 2).val = win0_6.index t 2 * 256 + (y 2).val := by rw [(at6' t).2.2]; omega
  refine Finset.sum_congr rfl fun R _ => ?_
  exact (congrArg (fun q => dwV m c q R _ _) e0).trans ((congrArg (fun q => dwV m c _ R q _) e1).trans (congrArg (fun q => dwV m c _ R _ q) e2))

theorem last7 : ∀ t : Fin cfg0.N, (cfg0.win 7).flush t = true → t.val = 31 := by decide +kernel

theorem ds_array (c : Dev nD) :
    (dats m 0 c).arrAt 7 cfg0.N = fun z : (Q 1).Idx => ∑ R ∈ Finset.range 8192, dsV m c ((z 1).val / 256) R ((z 1).val % 256) := by
  refine (dats m 0 c).arrAt_eq_of_covers 7 _ (by decide +kernel) fun t hf y => ?_
  have h7 := last7 t hf
  blk_simp
  rw [after0_7]
  have h0 : (y 0).val < 1 := (y 0).isLt
  have ey : y = ix2 (0 : Fin 1) (y 1) := by
    funext a
    match a with
    | ⟨0, _⟩ => exact Fin.ext (by show (y 0).val = 0; omega)
    | ⟨1, _⟩ => rfl
  have e := ((inv_all m c t.val t.isLt).2 (y 1)).trans ((congrArg (rows _) (congrArg Nat.succ h7)).trans (rows_all _))
  conv_lhs => rw [ey]
  refine e.trans ?_
  have e1 : (y 1).val = win0_7.index t 1 * 1024 + (y 1).val := by rw [(at7' t).2]; omega
  exact congrArg (fun q => ∑ R ∈ Finset.range 8192, dsV m c (q / 256) R (q % 256)) e1

end Cert.PoolBwd

end
-- ==== Proof.PoolBwd.Reference.lean ====
/- The pooling mixer's gradient: the host lines and their chain rule give the same expressions of the arguments' elements wherever
   the arguments are real numbers. -/
module

public import proofs.«01_k».proof.Proof.PoolBwd.Value
public import proofs.«01_k».proof.Proof.FfnBwd.Reference
public import proofs.«01_k».proof.Proof.Gen.Reference6Ideal.Run

@[expose] public section

set_option maxRecDepth 16384

noncomputable section

open scoped BigOperators

namespace Cert.PoolBwd

open Cert.Sums
open Cert.FfnBwd (IsReal at2_out)
open Idealize.ShloMosaic Idealize.ShloMosaic.TcCoe Idealize.SL.Sem

/-- The projected rows, the pooled columns of them, those under a leading axis, one group's, `n` rows of one group, the groups on
    an axis of their own, one of them, and the matrices. -/
abbrev HU : Shape := ⟨2, ![8192, 9216]⟩
abbrev HD : Shape := ⟨2, ![8192, 1024]⟩
abbrev H3 : Shape := ⟨3, ![1, 8192, 1024]⟩
abbrev HG (n : ℕ) : Shape := ⟨3, ![1, n, 256]⟩
abbrev H4 : Shape := ⟨4, ![1, 8192, 4, 256]⟩
abbrev H41 : Shape := ⟨4, ![1, 8192, 1, 256]⟩
abbrev HW : Shape := ⟨3, ![4, 256, 256]⟩
abbrev HW4 : Shape := ⟨4, ![1, 4, 256, 256]⟩
abbrev HT : Shape := ⟨4, ![4, 256, 1, 8192]⟩
abbrev HC : Shape := ⟨3, ![1, 8192, 1]⟩
abbrev HN : Shape := ⟨1, ![8192]⟩
abbrev HL : Shape := ⟨1, ![1024]⟩
abbrev H1 : Shape := ⟨2, ![1, 1024]⟩
abbrev H11 : Shape := ⟨3, ![1, 1, 1024]⟩
abbrev Z0 : Shape := ⟨0, ![]⟩

section Lines
open Cert.Reference6Ideal
variable [Facts] {F : FTy → Type} [FloatOps F]

abbrev zeroS : FVec F Z0 .f32 := constant Z0 .f32 0x00000000#32

/-- The pooled columns, and their running sums down the rows. -/
def uH (a : FVec F HU .f32) : FVec F H3 .f32 :=
  broadcastInDim H3 ![1, 2] (by decide) (extractStridedSlice HD ![0, 0] a (by decide))
def sumsDown (x : FVec F H3 .f32) : FVec F H3 .f32 :=
  Host.reduceWindowAdd ![1, 8192, 1] ![1, 1, 1] ![0, 8191, 0] ![0, 0, 0] x (broadcastInDim Z0 ![] (by decide) (zeroS (F := F)))
    (by decide) (by decide)
/-- The running sums up the rows. -/
def sumsUp (x : FVec F H3 .f32) : FVec F H3 .f32 :=
  Host.reduceWindowAdd ![1, 8192, 1] ![1, 1, 1] ![0, 0, 0] ![0, 8191, 0] x (broadcastInDim Z0 ![] (by decide) (zeroS (F := F)))
    (by decide) (by decide)

/-- The number of rows each mean is over, `b` the float of the group's window. -/
def countH (b : BitVec 32) : FVec F HC .f32 :=
  broadcastInDim HC ![1] (by decide)
    (minimumf (addf (broadcastInDim HN ![] (by decide) (constant Z0 .f32 0x3F800000#32)) (sitofp .f32 (iotaInDim HN 32 0)))
      (broadcastInDim HN ![] (by decide) (constant Z0 .f32 b)))
def countG (b : BitVec 32) : FVec F (HG 8192) .f32 := broadcastInDim (HG 8192) ![0, 1, 2] (by decide) (countH (F := F) b)

/-- A group's columns from `o` on, and `w` rows of zeros above all but the last `w` of its rows. -/
def colsH (o : ℕ) (x : FVec F H3 .f32) (h : H3.Slices ![0, 0, o] (HG 8192)) : FVec F (HG 8192) .f32 :=
  extractStridedSlice (HG 8192) ![0, 0, o] x h
def lagH (w v : ℕ) (x : FVec F (HG 8192) .f32) (hb : Z0.BroadcastsInDim (HG w) (![] : Fin 0 → Fin 3)) (hs : (HG 8192).Slices ![0, 0, 0] (HG v))
    (hc : Shape.Concatenates [HG w, HG v] (HG 8192) 1) : FVec F (HG 8192) .f32 :=
  concatenate (HG 8192) 1 [⟨HG w, broadcastInDim (HG w) ![] hb (zeroS (F := F))⟩, ⟨HG v, extractStridedSlice (HG v) ![0, 0, 0] x hs⟩] hc

/-- A group as one of four. -/
def memberH (x : FVec F (HG 8192) .f32) : FVec F H41 .f32 := broadcastInDim H41 ![0, 1, 3] (by decide) x
def mean0 (x : FVec F H3 .f32) : FVec F (HG 8192) .f32 :=
  Host.divf (subf (colsH 0 x (by decide)) (lagH 2 8190 (colsH 0 x (by decide)) (by decide) (by decide) (by decide))) (countG 0x40000000#32)
def mean1 (x : FVec F H3 .f32) : FVec F (HG 8192) .f32 :=
  Host.divf (subf (colsH 256 x (by decide)) (lagH 4 8188 (colsH 256 x (by decide)) (by decide) (by decide) (by decide))) (countG 0x40800000#32)
def mean2 (x : FVec F H3 .f32) : FVec F (HG 8192) .f32 :=
  Host.divf (subf (colsH 512 x (by decide)) (lagH 8 8184 (colsH 512 x (by decide)) (by decide) (by decide) (by decide))) (countG 0x41000000#32)
def mean3 (x : FVec F H3 .f32) : FVec F (HG 8192) .f32 :=
  Host.divf (subf (colsH 768 x (by decide)) (lagH 16 8176 (colsH 768 x (by decide)) (by decide) (by decide) (by decide))) (countG 0x41800000#32)

theorem catM : Shape.Concatenates [H41, H41, H41, H41] H4 2 := by decide
def stackH (a b c d : FVec F H41 .f32) : FVec F H4 .f32 := concatenate H4 2 [⟨H41, a⟩, ⟨H41, b⟩, ⟨H41, c⟩, ⟨H41, d⟩] catM
def splitH (x : FVec F H3 .f32) : FVec F H4 .f32 := shapeCast H4 x (by decide)
def joinH (x : FVec F H4 .f32) : FVec F H3 .f32 := shapeCast H3 x (by decide)

/-- The means less the input. -/
def diffH (a : FVec F HU .f32) : FVec F H4 .f32 :=
  subf (stackH (memberH (mean0 (sumsDown (uH a)))) (memberH (mean1 (sumsDown (uH a)))) (memberH (mean2 (sumsDown (uH a)))) (memberH (mean3 (sumsDown (uH a)))))
    (splitH (uH a))

/-- The matrices, the scale and the cotangent over the rows. -/
def matsH (w : FVec F HW4 .f32) : FVec F HW .f32 := shapeCast HW w (by decide)
def scaleH (s : FVec F H1 .f32) : FVec F H3 .f32 :=
  broadcastInDim H3 ![0, 1, 2] (by decide) (broadcastInDim H11 ![2] (by decide) (shapeCast HL s (by decide)))
def cotH (y : FVec F HD .f32) : FVec F H3 .f32 := broadcastInDim H3 ![1, 2] (by decide) y

/-- The pooled rows before the scale, and the gradients of the scale, the matrices and the means less the input. -/
def mixH (w : FVec F HW .f32) (d : FVec F H4 .f32) : FVec F H3 .f32 :=
  joinH (transpose H4 [2, 3, 0, 1] (Host.dotGeneral dot_S4x256x256_S1x8192x4x256_S4x256x1x8192_1_3_2_01_0_2 none w d) (by decide))
def dsH (y : FVec F H3 .f32) : FVec F H1 .f32 :=
  broadcastInDim H1 ![1] (by decide)
    (Host.reduceAdd (shapeCast H11 (Host.reduceAdd y zeroS (by decide : H3.ReducesTo [1] H1) (by decide)) (by decide)) zeroS
      (by decide : H11.ReducesTo [0, 1] HL) (by decide))
def turnH (x : FVec F H3 .f32) : FVec F HT .f32 := transpose HT [2, 3, 0, 1] (splitH x) (by decide)
def ddH (t : FVec F HT .f32) (w : FVec F HW .f32) : FVec F H4 .f32 :=
  transpose H4 [1, 2, 0, 3] (Host.dotGeneral dot_S4x256x1x8192_S4x256x256_S4x1x8192x256_1_2_23_1_0_0 none t w) (by decide)
def dwH (t : FVec F HT .f32) (d : FVec F H4 .f32) : FVec F HW .f32 :=
  transpose HW [0, 2, 1] (Host.dotGeneral dot_S4x256x1x8192_S1x8192x4x256_S4x256x256_23_01_1_3_0_2 none t d) (by decide)

/-- A group's gradient over its counts, and that less its own values `w` rows below. -/
def pickH (g : ℕ) (x : FVec F H4 .f32) (h : H4.Slices ![0, 0, g, 0] H41) : FVec F (HG 8192) .f32 :=
  shapeCast (HG 8192) (extractStridedSlice H41 ![0, 0, g, 0] x h) (by decide)
def leadH (w v : ℕ) (x : FVec F (HG 8192) .f32) (hs : (HG 8192).Slices ![0, w, 0] (HG v))
    (hp : (HG v).Pads (![0, 0, 0] : Fin 3 → ℕ) ![0, w, 0] ![0, 0, 0] (HG 8192)) : FVec F (HG 8192) .f32 :=
  addf x (pad (HG 8192) ![0, 0, 0] ![0, w, 0] ![0, 0, 0] (extractStridedSlice (HG v) ![0, w, 0] (Host.negf x) hs) zeroS hp (by decide))
def wideH (o q : ℕ) (x : FVec F (HG 8192) .f32) (hp : (HG 8192).Pads (![0, 0, o] : Fin 3 → ℕ) ![0, 0, q] ![0, 0, 0] H3) : FVec F H3 .f32 :=
  pad H3 ![0, 0, o] ![0, 0, q] ![0, 0, 0] x zeroS hp (by decide)
def lead0 (x : FVec F H4 .f32) : FVec F H3 .f32 :=
  wideH 0 768 (leadH 2 8190 (Host.divf (pickH 0 x (by decide)) (countG 0x40000000#32)) (by decide) (by decide)) (by decide)
def lead1 (x : FVec F H4 .f32) : FVec F H3 .f32 :=
  wideH 256 512 (leadH 4 8188 (Host.divf (pickH 1 x (by decide)) (countG 0x40800000#32)) (by decide) (by decide)) (by decide)
def lead2 (x : FVec F H4 .f32) : FVec F H3 .f32 :=
  wideH 512 256 (leadH 8 8184 (Host.divf (pickH 2 x (by decide)) (countG 0x41000000#32)) (by decide) (by decide)) (by decide)
def lead3 (x : FVec F H4 .f32) : FVec F H3 .f32 :=
  wideH 768 0 (leadH 16 8176 (Host.divf (pickH 3 x (by decide)) (countG 0x41800000#32)) (by decide) (by decide)) (by decide)

/-- The gradient of the input. -/
def duH (x : FVec F H4 .f32) : FVec F HD .bf16 :=
  truncf .bf16 (shapeCast HD (addf (joinH (Host.negf x)) (sumsUp (addf (addf (addf (lead3 x) (lead2 x)) (lead1 x)) (lead0 x)))) (by decide)) (by decide)

end Lines

/-! ## The results the reference's run leaves -/

section Results
open Cert.Reference6Ideal Cert.Reference6Ideal.Gen
variable {F : FTy → Type} [FloatOps F]

abbrev tR (m : (ℓ : Loc nD τ sig) → Buf (Elt F) ℓ) (c : Dev nD) : FVec F HT .f32 :=
  turnH (mulf (cotH (m ((c.tc : Thread nD τ).loc main_arg3))) (scaleH (m ((c.tc : Thread nD τ).loc main_arg2))))
abbrev wR (m : (ℓ : Loc nD τ sig) → Buf (Elt F) ℓ) (c : Dev nD) : FVec F HW .f32 := matsH (m ((c.tc : Thread nD τ).loc main_arg1))
abbrev fR (m : (ℓ : Loc nD τ sig) → Buf (Elt F) ℓ) (c : Dev nD) : FVec F H4 .f32 := diffH (m ((c.tc : Thread nD τ).loc main_arg0))

set_option maxHeartbeats 4000000 in
/-- The reference's results. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v126) = duH (ddH (tR m c) (wR m c))
    ∧ r.2.mem ((c.tc : Thread nD τ).loc main_v77) = dwH (tR m c) (fR m c)
    ∧ r.2.mem ((c.tc : Thread nD τ).loc main_v127) = dsH (mulf (mixH (wR m c) (fR m c)) (cotH (m ((c.tc : Thread nD τ).loc main_arg3))))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1, (h c).2.1, (h c).2.2.1, (h c).2.2.2⟩) (Cert.Reference6Ideal.Value.run m ρ)

end Results

/-! ## Sums of real numbers -/

theorem coe_sum (n : ℕ) (f : ℕ → ℝ) : ∑ d ∈ Finset.range n, (f d : EReal) = ((∑ d ∈ Finset.range n, f d : ℝ) : EReal) := by
  induction n with
  | zero => simp
  | succ n ih => rw [Finset.sum_range_succ, Finset.sum_range_succ, ih, EReal.coe_add]

/-- The last `w` numbers up to `R` are those up to `R` less those up to `R - w`. -/
theorem sum_last (f : ℕ → ℝ) (R w : ℕ) :
    ∑ d ∈ Finset.range w, (if d ≤ R then f (R - d) else 0) =
      ∑ d ∈ Finset.range (R + 1), f d - if R < w then 0 else ∑ d ∈ Finset.range (R - w + 1), f d := by
  induction w with
  | zero => simp
  | succ w ih =>
    rw [Finset.sum_range_succ, ih]
    by_cases h : R < w
    · rw [if_pos h, if_neg (by omega : ¬w ≤ R), if_pos (by omega : R < w + 1), add_zero]
    · rw [if_neg h, if_pos (by omega : w ≤ R)]
      by_cases h1 : R = w
      · rw [if_pos (by omega : R < w + 1), h1, Nat.sub_self, Finset.sum_range_one]; ring
      · rw [if_neg (by omega : ¬R < w + 1), show R - w + 1 = R - (w + 1) + 1 + 1 by omega, Finset.sum_range_succ _ (R - (w + 1) + 1),
          show R - (w + 1) + 1 = R - w by omega]; ring

/-- A sum of differences `w` apart keeps the first `w` numbers and the `w` past its end. -/
theorem sum_apart (e : ℕ → ℝ) (w N : ℕ) :
    ∑ n ∈ Finset.range N, (e n - e (n + w)) = ∑ n ∈ Finset.range w, e n - ∑ n ∈ Finset.range w, e (N + n) := by
  induction N with
  | zero => simp
  | succ N ih =>
    have h := (Finset.sum_range_succ (fun n => e (N + n)) w).symm.trans (Finset.sum_range_succ' (fun n => e (N + n)) w)
    have h2 : ∑ n ∈ Finset.range w, e (N + 1 + n) = ∑ n ∈ Finset.range w, e (N + (n + 1)) :=
      Finset.sum_congr rfl fun n _ => congrArg e (by omega)
    rw [Finset.sum_range_succ, ih, h2]
    simp only [Nat.add_zero] at h
    linarith

theorem foldl_add {α : Type} (l : List α) (f : α → EReal) (v : EReal) : l.foldl (fun r n => r + f n) v = v + (l.map f).sum := by
  induction l generalizing v with
  | nil => simp
  | cons a l ih => rw [List.foldl_cons, ih, List.map_cons, List.sum_cons, add_assoc]

/-! ## The lines at an index -/

/-- The rows of a column's window. -/
abbrev Win : Shape := ⟨3, ![1, 8192, 1]⟩

theorem window_sum (lo hi : ℕ) (x : FVec Ideal H3 .f32) (h : H3.ReduceWindows (![1, 8192, 1] : Fin 3 → ℕ) ![1, 1, 1] ![0, lo, 0] ![0, hi, 0] H3)
    (R : Fin 8192) (C : Fin 1024) :
    Ideal.hostReduceWindowAdd ![1, 8192, 1] ![1, 1, 1] ![0, lo, 0] ![0, hi, 0] h x 0 (ix3 0 R C) =
      ∑ n : Fin 8192, if hn : lo ≤ R.val + n.val ∧ R.val + n.val - lo < 8192 then x (ix3 0 ⟨R.val + n.val - lo, hn.2⟩ C) else 0 := by
  unfold Ideal.hostReduceWindowAdd Host.reduceWindow
  dsimp only
  refine (foldl_add _ _ _).trans ?_
  rw [zero_add, ← Fin.sum_univ_def]
  refine (Finset.sum_congr rfl fun i _ => ?_).trans ((Equiv.sum_comp (Win.rowMajor.symm) (fun y : Win.Idx => if hin : ∀ a : Fin 3, (![0, lo, 0] : Fin 3 → ℕ) a ≤ (ix3 (0 : Fin 1) R C a).val * (![1, 1, 1] : Fin 3 → ℕ) a + (y a).val ∧
      (ix3 (0 : Fin 1) R C a).val * (![1, 1, 1] : Fin 3 → ℕ) a + (y a).val - (![0, lo, 0] : Fin 3 → ℕ) a < H3.size a
    then x (fun a => ⟨(ix3 (0 : Fin 1) R C a).val * (![1, 1, 1] : Fin 3 → ℕ) a + (y a).val - (![0, lo, 0] : Fin 3 → ℕ) a, (hin a).2⟩) else 0)).trans ?_)
  · by_cases hin : ∀ a : Fin 3, (![0, lo, 0] : Fin 3 → ℕ) a ≤ (ix3 (0 : Fin 1) R C a).val * (![1, 1, 1] : Fin 3 → ℕ) a + (Win.rowMajor.symm i a).val ∧
      (ix3 (0 : Fin 1) R C a).val * (![1, 1, 1] : Fin 3 → ℕ) a + (Win.rowMajor.symm i a).val - (![0, lo, 0] : Fin 3 → ℕ) a < H3.size a
    · refine (dif_pos hin).trans (Eq.symm ?_)
      exact dif_pos hin
    · refine (dif_neg hin).trans (Eq.symm ?_)
      exact dif_neg hin
  refine (Fintype.sum_bijective (fun n : Fin 8192 => (ix3 (0 : Fin 1) n (0 : Fin 1) : Win.Idx)) ⟨fun a b e => congrFun e 1, fun y => ⟨y 1, ?_⟩⟩ _ _ fun n => ?_).symm
  · funext a
    match a with
    | ⟨0, _⟩ => exact Subsingleton.elim (α := Fin 1) _ _
    | ⟨1, _⟩ => rfl
    | ⟨2, _⟩ => exact Subsingleton.elim (α := Fin 1) _ _
  · have hC := C.isLt
    by_cases hn : lo ≤ R.val + n.val ∧ R.val + n.val - lo < 8192
    · have hin : ∀ a : Fin 3, (![0, lo, 0] : Fin 3 → ℕ) a ≤ (ix3 (0 : Fin 1) R C a).val * (![1, 1, 1] : Fin 3 → ℕ) a + (ix3 (0 : Fin 1) n (0 : Fin 1) a).val ∧
          (ix3 (0 : Fin 1) R C a).val * (![1, 1, 1] : Fin 3 → ℕ) a + (ix3 (0 : Fin 1) n (0 : Fin 1) a).val - (![0, lo, 0] : Fin 3 → ℕ) a < H3.size a := by
        intro a
        match a with
        | ⟨0, _⟩ => show 0 ≤ 0 * 1 + 0 ∧ 0 * 1 + 0 - 0 < 1; omega
        | ⟨1, _⟩ => show lo ≤ R.val * 1 + n.val ∧ R.val * 1 + n.val - lo < 8192; omega
        | ⟨2, _⟩ => show 0 ≤ C.val * 1 + 0 ∧ C.val * 1 + 0 - 0 < 1024; omega
      rw [dif_pos hn, dif_pos hin]
      refine congrArg x (funext fun a => Fin.ext ?_)
      match a with
      | ⟨0, _⟩ => rfl
      | ⟨1, _⟩ => show R.val + n.val - lo = R.val * 1 + n.val - lo; omega
      | ⟨2, _⟩ => show C.val = C.val * 1 + 0 - 0; omega
    · rw [dif_neg hn, dif_neg fun hin => hn ?_]
      have h1 : lo ≤ R.val * 1 + n.val ∧ R.val * 1 + n.val - lo < 8192 := hin 1
      omega

section At
open Cert.Reference6Ideal Cert.Reference6Ideal.Gen

theorem sum_tail (f : ℕ → EReal) (N r : ℕ) (h : r ≤ N) :
    ∑ n ∈ Finset.range (N + 1), (if N ≤ r + n then f (r + n - N) else 0) = ∑ d ∈ Finset.range (r + 1), f d := by
  rw [show N + 1 = (N - r) + (r + 1) by omega, Finset.sum_range_add]
  refine (congrArg₂ (· + ·) (Finset.sum_eq_zero fun n hn => ?_) (Finset.sum_congr rfl fun n hn => ?_)).trans (zero_add _)
  · have hn := Finset.mem_range.mp hn
    rw [if_neg (by omega)]
  · rw [if_pos (by omega)]
    exact congrArg f (by omega)

theorem window_eq (lo hi : ℕ) (x : FVec Ideal H3 .f32) (v : FVec Ideal Z0 .f32) (hu : 0 < Z0.numel) (hv : v (Shape.Idx.first hu) = 0)
    (h : H3.ReduceWindows (![1, 8192, 1] : Fin 3 → ℕ) ![1, 1, 1] ![0, lo, 0] ![0, hi, 0] H3) :
    Host.reduceWindowAdd ![1, 8192, 1] ![1, 1, 1] ![0, lo, 0] ![0, hi, 0] x v h hu =
      Ideal.hostReduceWindowAdd ![1, 8192, 1] ![1, 1, 1] ![0, lo, 0] ![0, hi, 0] h x 0 := by
  unfold Host.reduceWindowAdd
  show Ideal.hostReduceWindowAdd _ _ _ _ _ _ (v _) = _
  rw [hv]

theorem sumsDown_apply (x : FVec Ideal H3 .f32) (f : ℕ → ℝ) (R : Fin 8192) (C : Fin 1024) (hx : ∀ R : Fin 8192, x (ix3 0 R C) = (f R.val : EReal)) :
    sumsDown x (ix3 0 R C) = ((∑ d ∈ Finset.range (R.val + 1), f d : ℝ) : EReal) := by
  have hR := R.isLt
  unfold sumsDown
  rw [window_eq _ _ _ _ _ Ideal.ofBits_zero_f32, window_sum, ← coe_sum]
  refine Eq.trans (?_ : _ = ∑ n : Fin 8192, if 8191 ≤ R.val + n.val then (f (R.val + n.val - 8191) : EReal) else 0) ?_
  · refine Finset.sum_congr rfl fun n _ => ?_
    have hn := n.isLt
    by_cases h : 8191 ≤ R.val + n.val
    · rw [dif_pos ⟨h, by omega⟩, if_pos h]; exact hx _
    · rw [dif_neg fun e => h e.1, if_neg h]
  rw [Fin.sum_univ_eq_sum_range (fun n => if 8191 ≤ R.val + n then (f (R.val + n - 8191) : EReal) else 0)]
  exact sum_tail (fun k => (f k : EReal)) 8191 R.val (by omega)

theorem sumsUp_apply (x : FVec Ideal H3 .f32) (f : ℕ → ℝ) (hf : ∀ R, 8192 ≤ R → f R = 0) (R : Fin 8192) (C : Fin 1024)
    (hx : ∀ R : Fin 8192, x (ix3 0 R C) = (f R.val : EReal)) :
    sumsUp x (ix3 0 R C) = ((∑ n ∈ Finset.range 8192, f (R.val + n) : ℝ) : EReal) := by
  unfold sumsUp
  rw [window_eq _ _ _ _ _ Ideal.ofBits_zero_f32, window_sum, ← coe_sum, ← Fin.sum_univ_eq_sum_range (fun n => (f (R.val + n) : EReal))]
  refine Finset.sum_congr rfl fun n _ => ?_
  by_cases h : 0 ≤ R.val + n.val ∧ R.val + n.val - 0 < 8192
  · rw [dif_pos h]; exact hx _
  · rw [dif_neg h, hf _ (by omega), EReal.coe_zero]

theorem uH_apply (a : FVec Ideal HU .f32) (R : Fin 8192) (C : Fin 1024) : uH a (ix3 0 R C) = at2 a R.val C.val := by
  refine Eq.trans ?_ (at2_of a _ _ R.isLt (by omega)).symm
  unfold uH
  pointwise

theorem countG_apply (b : BitVec 32) (g : ℕ) (hb : Ideal.ofBits .f32 b = (((2 ^ (g + 1) : ℕ) : ℝ) : EReal)) (R : Fin 8192) (C : Fin 256) :
    countG (F := Ideal) b (ix3 0 R C) = (cnt g R.val : EReal) := by
  have hR := R.isLt
  unfold countG countH
  pointwise
  show min (1 + ((((BitVec.ofNat 32 R.val).toInt : ℤ) : ℝ) : EReal)) _ = _
  rw [hb, BitVec.toInt_eq_toNat_of_lt (by rw [BitVec.toNat_ofNat]; omega), BitVec.toNat_ofNat, Nat.mod_eq_of_lt (by omega)]
  unfold cnt
  rw [show (1 : EReal) = ((1 : ℝ) : EReal) from rfl, ← EReal.coe_add, ← EReal.coe_strictMono.monotone.map_min]
  refine congrArg _ ?_
  push_cast
  rw [add_comm]

theorem two0 : Ideal.ofBits .f32 0x40000000#32 = (((2 ^ (0 + 1) : ℕ) : ℝ) : EReal) := by
  simp [Ideal.ofBits, Ideal.ieee]
  rw [← EReal.coe_mul]
  exact congrArg _ (by norm_num)
theorem two1 : Ideal.ofBits .f32 0x40800000#32 = (((2 ^ (1 + 1) : ℕ) : ℝ) : EReal) := by
  simp [Ideal.ofBits, Ideal.ieee]
  rw [← EReal.coe_mul]
  exact congrArg _ (by norm_num)
theorem two2 : Ideal.ofBits .f32 0x41000000#32 = (((2 ^ (2 + 1) : ℕ) : ℝ) : EReal) := by
  simp [Ideal.ofBits, Ideal.ieee]
  rw [← EReal.coe_mul]
  exact congrArg _ (by norm_num)
theorem two3 : Ideal.ofBits .f32 0x41800000#32 = (((2 ^ (3 + 1) : ℕ) : ℝ) : EReal) := by
  simp [Ideal.ofBits, Ideal.ieee]
  rw [← EReal.coe_mul]
  exact congrArg _ (by norm_num)

theorem colsH_apply (o : ℕ) (x : FVec Ideal H3 .f32) (h : H3.Slices ![0, 0, o] (HG 8192)) (R : Fin 8192) (C : Fin 256) (hC : o + C.val < 1024) :
    colsH o x h (ix3 0 R C) = x (ix3 0 R (⟨o + C.val, hC⟩ : Fin 1024)) := by
  unfold colsH
  pointwise

theorem lagH_apply (w v : ℕ) (x : FVec Ideal (HG 8192) .f32) (hb : Z0.BroadcastsInDim (HG w) (![] : Fin 0 → Fin 3)) (hs : (HG 8192).Slices ![0, 0, 0] (HG v))
    (hc : Shape.Concatenates [HG w, HG v] (HG 8192) 1) (R : Fin 8192) (C : Fin 256) :
    lagH w v x hb hs hc (ix3 0 R C) = if R.val < w then 0 else x (ix3 0 (⟨R.val - w, by omega⟩ : Fin 8192) C) := by
  unfold lagH
  pointwise
  by_cases h : R.val < w
  · rw [dif_pos h, if_pos h]
  · rw [dif_neg h, if_neg h]
    rfl

/-- A group's mean. -/
theorem mean_apply (a : FVec Ideal HU .f32) (ha : ∀ i, IsReal (a i)) (g w v o : ℕ) (b : BitVec 32) (hg : g < 4) (hw : w = 2 ^ (g + 1)) (ho : o = 256 * g)
    (hb : Ideal.ofBits .f32 b = (((2 ^ (g + 1) : ℕ) : ℝ) : EReal)) (h : H3.Slices ![0, 0, o] (HG 8192))
    (hz : Z0.BroadcastsInDim (HG w) (![] : Fin 0 → Fin 3)) (hs : (HG 8192).Slices ![0, 0, 0] (HG v))
    (hc : Shape.Concatenates [HG w, HG v] (HG 8192) 1) (R : Fin 8192) (C : Fin 256) :
    Host.divf (subf (colsH o (sumsDown (uH a)) h) (lagH w v (colsH o (sumsDown (uH a)) h) hz hs hc)) (countG b) (ix3 0 R C) =
      Ideal.div (∑ d ∈ Finset.range (2 ^ (g + 1)), if d ≤ R.val then at2 a (R.val - d) (256 * g + C.val) else 0) (cnt g R.val) := by
  have hC := C.isLt
  obtain ⟨f, hf⟩ : ∃ f : ℕ → ℝ, ∀ R, at2 a R (256 * g + C.val) = (f R : EReal) :=
    ⟨fun R => (IsReal.at2 ha R (256 * g + C.val)).choose, fun R => (IsReal.at2 ha R (256 * g + C.val)).choose_spec⟩
  have hu : ∀ R : Fin 8192, uH a (ix3 0 R (⟨256 * g + C.val, by omega⟩ : Fin 1024)) = (f R.val : EReal) := fun R => (uH_apply a R _).trans (hf R.val)
  subst ho
  show Ideal.div (colsH (F := Ideal) _ _ _ (ix3 0 R C) - lagH (F := Ideal) _ _ _ _ _ _ (ix3 0 R C)) (countG (F := Ideal) b (ix3 0 R C)) = _
  rw [countG_apply b g hb, lagH_apply, colsH_apply _ _ _ _ _ (by omega), sumsDown_apply _ f _ _ hu, colsH_apply _ _ _ _ _ (by omega),
    sumsDown_apply _ f _ _ hu, ← hw]
  refine congrArg (fun s => Ideal.div s _) ?_
  have e : (∑ d ∈ Finset.range w, if d ≤ R.val then at2 a (R.val - d) (256 * g + C.val) else 0) =
      ∑ d ∈ Finset.range w, (((if d ≤ R.val then f (R.val - d) else 0 : ℝ)) : EReal) := by
    refine Finset.sum_congr rfl fun d _ => ?_
    by_cases h : d ≤ R.val
    · rw [if_pos h, if_pos h, hf]
    · rw [if_neg h, if_neg h, EReal.coe_zero]
  rw [e, coe_sum, sum_last f R.val w, EReal.coe_sub]
  refine congrArg _ ?_
  by_cases h : R.val < w
  · rw [if_pos h, if_pos h, EReal.coe_zero]
  · rw [if_neg h, if_neg h]

/-- A mean, as a sum over the rows it is over. -/
def meanV (a : FVec Ideal HU .f32) (g R C : ℕ) : EReal :=
  Ideal.div (∑ d ∈ Finset.range (2 ^ (g + 1)), if d ≤ R then at2 a (R - d) (256 * g + C) else 0) (cnt g R)

theorem mean0_apply (a : FVec Ideal HU .f32) (ha : ∀ i, IsReal (a i)) (R : Fin 8192) (C : Fin 256) :
    mean0 (sumsDown (uH a)) (ix3 0 R C) = meanV a 0 R.val C.val := mean_apply a ha 0 2 8190 0 _ (by decide) rfl rfl two0 _ _ _ _ R C
theorem mean1_apply (a : FVec Ideal HU .f32) (ha : ∀ i, IsReal (a i)) (R : Fin 8192) (C : Fin 256) :
    mean1 (sumsDown (uH a)) (ix3 0 R C) = meanV a 1 R.val C.val := mean_apply a ha 1 4 8188 256 _ (by decide) rfl rfl two1 _ _ _ _ R C
theorem mean2_apply (a : FVec Ideal HU .f32) (ha : ∀ i, IsReal (a i)) (R : Fin 8192) (C : Fin 256) :
    mean2 (sumsDown (uH a)) (ix3 0 R C) = meanV a 2 R.val C.val := mean_apply a ha 2 8 8184 512 _ (by decide) rfl rfl two2 _ _ _ _ R C
theorem mean3_apply (a : FVec Ideal HU .f32) (ha : ∀ i, IsReal (a i)) (R : Fin 8192) (C : Fin 256) :
    mean3 (sumsDown (uH a)) (ix3 0 R C) = meanV a 3 R.val C.val := mean_apply a ha 3 16 8176 768 _ (by decide) rfl rfl two3 _ _ _ _ R C

theorem every {P : Fin 4 → Prop} (h0 : P 0) (h1 : P 1) (h2 : P 2) (h3 : P 3) (g : Fin 4) : P g := by
  fin_cases g <;> assumption

theorem stack_apply (a b c d : FVec Ideal (HG 8192) .f32) (R : Fin 8192) (g : Fin 4) (C : Fin 256) :
    stackH (memberH a) (memberH b) (memberH c) (memberH d) (ix4 0 R g C) = (![a, b, c, d] g) (ix3 0 R C) := by
  unfold stackH memberH
  fin_cases g <;> pointwise <;> rfl

theorem diffH_apply (a : FVec Ideal HU .f32) (ha : ∀ i, IsReal (a i)) (R : Fin 8192) (g : Fin 4) (C : Fin 256) :
    diffH a (ix4 0 R g C) = meanV a g.val R.val C.val - at2 a R.val (256 * g.val + C.val) := by
  have e : splitH (uH a) (ix4 0 R g C) = at2 a R.val (256 * g.val + C.val) := by
    unfold splitH
    pointwise
    refine (uH_apply a R _).trans (congrArg (at2 a R.val) ?_)
    show g.val * 256 + C.val = 256 * g.val + C.val
    omega
  show stackH _ _ _ _ (ix4 0 R g C) - splitH (uH a) (ix4 0 R g C) = _
  rw [e, stack_apply]
  exact congrArg (fun s : EReal => s - _)
    (every (P := fun g => (![mean0 (sumsDown (uH a)), mean1 (sumsDown (uH a)), mean2 (sumsDown (uH a)), mean3 (sumsDown (uH a))] g) (ix3 0 R C) =
      meanV a g.val R.val C.val) (mean0_apply a ha R C) (mean1_apply a ha R C) (mean2_apply a ha R C) (mean3_apply a ha R C) g)

theorem mixH_apply (w : FVec Ideal HW .f32) (d : FVec Ideal H4 .f32) (R : Fin 8192) (C : Fin 1024) :
    mixH w d (ix3 0 R C) = ∑ x : Fin 256, w (ix3 ⟨C.val / 256, by omega⟩ x ⟨C.val % 256, by omega⟩) * d (ix4 0 R ⟨C.val / 256, by omega⟩ x) := by
  unfold mixH joinH
  pointwise

theorem drop_one (h : H11.ReducesTo [0, 1] HL) (C : Fin 1024) : h.drop (ix3 0 0 C) = ix1 C := by
  funext a
  match a with
  | ⟨0, _⟩ => rfl

theorem dsH_apply (y : FVec Ideal H3 .f32) (C : Fin 1024) : dsH y (ix2 0 C) = ∑ R : Fin 8192, y (ix3 0 R C) := by
  unfold dsH
  pointwise
  unfold Ideal.hostReduceAdd
  rw [zero_add, Finset.sum_eq_single (ix3 0 0 C)]
  · pointwise
  · intro i hi hne
    refine absurd ?_ hne
    obtain ⟨k, rfl⟩ : ∃ k : Fin 1024, i = ix3 0 0 k := ⟨i 2, by
      funext a
      match a with
      | ⟨0, _⟩ => exact Subsingleton.elim (α := Fin 1) _ _
      | ⟨1, _⟩ => exact Subsingleton.elim (α := Fin 1) _ _
      | ⟨2, _⟩ => rfl⟩
    have hd := (drop_one _ k).symm.trans (Finset.mem_filter.mp hi).2
    exact congrArg (fun k => ix3 0 0 k) (congrFun hd 0)
  · intro hn
    exact (hn (Finset.mem_filter.mpr ⟨Finset.mem_univ _, drop_one _ C⟩)).elim

theorem turn_apply (x : FVec Ideal H3 .f32) (R : Fin 8192) (g : Fin 4) (C : Fin 256) :
    splitH x (ix4 0 R g C) = x (ix3 0 R ⟨g.val * 256 + C.val, by omega⟩) := by
  unfold splitH
  pointwise

theorem ddH_apply (x : FVec Ideal H3 .f32) (w : FVec Ideal HW .f32) (R : Fin 8192) (g : Fin 4) (C : Fin 256) :
    ddH (turnH x) w (ix4 0 R g C) = ∑ k : Fin 256, splitH x (ix4 0 R g k) * w (ix3 g C k) := by
  unfold ddH turnH
  pointwise

theorem dwH_apply (x : FVec Ideal H3 .f32) (d : FVec Ideal H4 .f32) (g : Fin 4) (a b : Fin 256) :
    dwH (turnH x) d (ix3 g a b) = ∑ R : Fin 8192, splitH x (ix4 0 R g b) * d (ix4 0 R g a) := by
  unfold dwH turnH
  pointwise
  simp

theorem pickH_apply (g : ℕ) (hg : g < 4) (x : FVec Ideal H4 .f32) (h : H4.Slices ![0, 0, g, 0] H41) (R : Fin 8192) (C : Fin 256) :
    pickH g x h (ix3 0 R C) = x (ix4 0 R ⟨g, hg⟩ C) := by
  unfold pickH
  pointwise

theorem leadH_apply (w v : ℕ) (x : FVec Ideal (HG 8192) .f32) (hs : (HG 8192).Slices ![0, w, 0] (HG v))
    (hp : (HG v).Pads (![0, 0, 0] : Fin 3 → ℕ) ![0, w, 0] ![0, 0, 0] (HG 8192)) (hv : w + v = 8192) (R : Fin 8192) (C : Fin 256) :
    leadH w v x hs hp (ix3 0 R C) = x (ix3 0 R C) + if h : R.val + w < 8192 then -x (ix3 0 ⟨R.val + w, h⟩ C) else 0 := by
  unfold leadH
  pointwise
  refine congrArg _ ?_
  by_cases h : R.val < v
  · rw [dif_pos h, dif_pos (by omega)]
    refine congrArg (fun y => -x y) (funext fun a => Fin.ext ?_)
    match a with
    | ⟨0, _⟩ => rfl
    | ⟨1, _⟩ => show w + (R.val - 0) / (0 + 1) = R.val + w; rw [Nat.sub_zero, Nat.zero_add, Nat.div_one, add_comm]
    | ⟨2, _⟩ => show (C.val - 0) / (0 + 1) = C.val; rw [Nat.sub_zero, Nat.zero_add, Nat.div_one]
  · rw [dif_neg h, dif_neg (by omega)]

theorem wideH_apply (o q : ℕ) (x : FVec Ideal (HG 8192) .f32) (hp : (HG 8192).Pads (![0, 0, o] : Fin 3 → ℕ) ![0, 0, q] ![0, 0, 0] H3) (R : Fin 8192) (C : Fin 1024) :
    wideH o q x hp (ix3 0 R C) = if h : o ≤ C.val ∧ C.val - o < 256 then x (ix3 0 R ⟨C.val - o, h.2⟩) else 0 := by
  unfold wideH
  pointwise

/-- A group's gradient over its counts, less its own values below, in its columns among zeros. -/
theorem lead_at (x : FVec Ideal H4 .f32) (k w v o q : ℕ) (bits : BitVec 32) (hk : k < 4) (ho : o = 256 * k) (hv : w + v = 8192)
    (hb : Ideal.ofBits .f32 bits = (((2 ^ (k + 1) : ℕ) : ℝ) : EReal)) (h : H4.Slices ![0, 0, k, 0] H41) (hs : (HG 8192).Slices ![0, w, 0] (HG v))
    (hp : (HG v).Pads (![0, 0, 0] : Fin 3 → ℕ) ![0, w, 0] ![0, 0, 0] (HG 8192))
    (hq : (HG 8192).Pads (![0, 0, o] : Fin 3 → ℕ) ![0, 0, q] ![0, 0, 0] H3) (g : Fin 4) (b : Fin 256) (e : ℕ → ℝ)
    (he : ∀ R : Fin 8192, Ideal.div (x (ix4 0 R g b)) (cnt g.val R.val) = (e R.val : EReal)) (h0 : ∀ R, 8192 ≤ R → e R = 0) (R : Fin 8192) :
    wideH o q (leadH w v (Host.divf (pickH k x h) (countG bits)) hs hp) hq (ix3 0 R (⟨256 * g.val + b.val, by omega⟩ : Fin 1024)) =
      if g.val = k then ((e R.val - e (R.val + w) : ℝ) : EReal) else 0 := by
  have hbl := b.isLt
  subst ho
  rw [wideH_apply]
  by_cases hg : g.val = k
  · have hd : ∀ R : Fin 8192, Host.divf (pickH k x h) (countG bits) (ix3 0 R b) = (e R.val : EReal) := by
      intro R
      show Ideal.div (pickH (F := Ideal) k x h (ix3 0 R b)) (countG (F := Ideal) bits (ix3 0 R b)) = _
      rw [pickH_apply k hk, countG_apply bits k hb, ← he R, hg]
      exact congrArg (fun g => Ideal.div (x (ix4 0 R g b)) _) (Fin.ext hg.symm)
    refine (dif_pos (by show 256 * k ≤ 256 * g.val + b.val ∧ 256 * g.val + b.val - 256 * k < 256; omega)).trans ?_
    rw [if_pos hg]
    refine Eq.trans (congrArg (fun y => leadH w v _ hs hp (ix3 0 R y)) (Fin.ext (by show 256 * g.val + b.val - 256 * k = b.val; omega) : _ = b)) ?_
    rw [leadH_apply _ _ _ _ _ hv, hd, EReal.coe_sub, sub_eq_add_neg]
    refine congrArg _ ?_
    by_cases hr : R.val + w < 8192
    · rw [dif_pos hr, hd]
    · rw [dif_neg hr, h0 _ (by omega), EReal.coe_zero, neg_zero]
  · rw [if_neg hg]
    exact dif_neg (by show ¬(256 * k ≤ 256 * g.val + b.val ∧ 256 * g.val + b.val - 256 * k < 256); omega)

theorem leads_apply (x : FVec Ideal H4 .f32) (g : Fin 4) (b : Fin 256) (e : ℕ → ℝ)
    (he : ∀ R : Fin 8192, Ideal.div (x (ix4 0 R g b)) (cnt g.val R.val) = (e R.val : EReal)) (h0 : ∀ R, 8192 ≤ R → e R = 0) (R : Fin 8192) :
    addf (addf (addf (lead3 x) (lead2 x)) (lead1 x)) (lead0 x) (ix3 0 R (⟨256 * g.val + b.val, by omega⟩ : Fin 1024)) =
      ((e R.val - e (R.val + 2 ^ (g.val + 1)) : ℝ) : EReal) := by
  show lead3 (F := Ideal) x _ + lead2 (F := Ideal) x _ + lead1 (F := Ideal) x _ + lead0 (F := Ideal) x _ = _
  unfold lead0 lead1 lead2 lead3
  rw [lead_at x 0 2 8190 0 768 _ (by decide) rfl rfl two0 _ _ _ _ g b e he h0, lead_at x 1 4 8188 256 512 _ (by decide) rfl rfl two1 _ _ _ _ g b e he h0,
    lead_at x 2 8 8184 512 256 _ (by decide) rfl rfl two2 _ _ _ _ g b e he h0, lead_at x 3 16 8176 768 0 _ (by decide) rfl rfl two3 _ _ _ _ g b e he h0]
  rcases (by omega : g.val = 0 ∨ g.val = 1 ∨ g.val = 2 ∨ g.val = 3) with h | h | h | h <;> rw [h] <;> norm_num

theorem duH_apply (x : FVec Ideal H4 .f32) (g : Fin 4) (b : Fin 256) (e : ℕ → ℝ)
    (he : ∀ R : Fin 8192, Ideal.div (x (ix4 0 R g b)) (cnt g.val R.val) = (e R.val : EReal)) (h0 : ∀ R, 8192 ≤ R → e R = 0) (R : Fin 8192) :
    duH x (ix2 R (⟨256 * g.val + b.val, by omega⟩ : Fin 1024)) = ∑ d ∈ Finset.range (2 ^ (g.val + 1)), (e (R.val + d) : EReal) - x (ix4 0 R g b) := by
  have hb := b.isLt
  unfold duH
  pointwise
  rw [sumsUp_apply _ (fun R => e R - e (R + 2 ^ (g.val + 1))) (fun R h => by rw [h0 R h, h0 _ (h.trans (Nat.le_add_right _ _)), sub_zero]) R _ (leads_apply x g b e he h0)]
  have hs : ∑ n ∈ Finset.range 8192, (e (R.val + n) - e (R.val + n + 2 ^ (g.val + 1))) = ∑ n ∈ Finset.range (2 ^ (g.val + 1)), e (R.val + n) := by
    have h := sum_apart (fun n => e (R.val + n)) (2 ^ (g.val + 1)) 8192
    rw [Finset.sum_eq_zero (fun n _ => h0 (R.val + (8192 + n)) (by omega) : ∀ n ∈ Finset.range (2 ^ (g.val + 1)), e (R.val + (8192 + n)) = 0), sub_zero] at h
    rw [← h]
    exact Finset.sum_congr rfl fun n _ => by rw [Nat.add_assoc]
  rw [hs, coe_sum, sub_eq_add_neg, add_comm]
  refine congrArg _ ?_
  unfold joinH
  pointwise

end At

/-! ## Both runs' arrays -/

section Equal
open Cert.Kernel6Ideal Cert.Kernel6Ideal.Gen
variable (m : (ℓ : Loc nD τ sig) → Buf (Elt Ideal) ℓ)

/-- The kernel's arguments. -/
abbrev aK (c : Dev nD) : FVec Ideal HU .f32 := m ((c : Thread nD τ).loc main_arg0)
abbrev wK (c : Dev nD) : FVec Ideal HW4 .f32 := m ((c : Thread nD τ).loc main_arg1)
abbrev sK (c : Dev nD) : FVec Ideal H1 .f32 := m ((c : Thread nD τ).loc main_arg2)
abbrev yK (c : Dev nD) : FVec Ideal HD .f32 := m ((c : Thread nD τ).loc main_arg3)
abbrev tK (c : Dev nD) : FVec Ideal HT .f32 := turnH (mulf (cotH (yK m c)) (scaleH (sK m c)))

/-- Every argument's elements are real numbers. -/
structure AllReal (c : Dev nD) : Prop where
  a : ∀ i, IsReal (aK m c i)
  w : ∀ i, IsReal (wK m c i)
  s : ∀ i, IsReal (sK m c i)
  y : ∀ i, IsReal (yK m c i)

theorem V1 (c : Dev nD) : (V m c main_v1 : HW.Idx → EReal) = matsH (wK m c) := by
  unfold V
  after_results_simp <;> rfl

theorem mats_apply (c : Dev nD) (g : Fin 4) (a b : Fin 256) : matsH (wK m c) (ix3 g a b) = wV m c g.val a.val b.val := by
  unfold wV
  rw [dif_pos ⟨g.isLt, a.isLt, b.isLt⟩]
  exact (congrFun (V1 m c) _).symm

theorem ys_apply (c : Dev nD) (R : Fin 8192) (g : Fin 4) (b : Fin 256) :
    splitH (mulf (cotH (yK m c)) (scaleH (sK m c))) (ix4 0 R g b) = ysV m c g.val R.val b.val := by
  have hb := b.isLt
  rw [turn_apply]
  unfold ysV cotH scaleH
  pointwise
  rw [V_main_arg3, V_main_arg2, at2_of _ _ _ R.isLt (by omega), at2_of _ _ _ (by omega) (by omega)]
  exact congrArg (fun q : Fin 1024 => yK m c (ix2 R q) * sK m c (ix2 0 q)) (Fin.ext (by show g.val * 256 + b.val = 256 * g.val + b.val; omega))

theorem dd_ref (c : Dev nD) (R : Fin 8192) (g : Fin 4) (b : Fin 256) :
    ddH (tK m c) (matsH (wK m c)) (ix4 0 R g b) = ddV m c g.val R.val b.val := by
  rw [ddH_apply]
  exact Finset.sum_congr rfl fun k _ => congrArg₂ (· * ·) (ys_apply m c R g k) (mats_apply m c g b k)

variable {m}

theorem diff_ref {c : Dev nD} (h : AllReal m c) (R : Fin 8192) (g : Fin 4) (b : Fin 256) :
    diffH (aK m c) (ix4 0 R g b) = diffV m c g.val R.val b.val := by
  rw [diffH_apply _ h.a]
  unfold diffV meanV upU
  rw [V_main_arg0]

theorem real_ys {c : Dev nD} (h : AllReal m c) (g R b : ℕ) : IsReal (ysV m c g R b) := by
  unfold ysV
  rw [V_main_arg3, V_main_arg2]
  exact (IsReal.at2 h.y _ _).mul (IsReal.at2 h.s _ _)

theorem real_w {c : Dev nD} (h : AllReal m c) (g a b : ℕ) : IsReal (wV m c g a b) := by
  unfold wV
  by_cases e : g < 4 ∧ a < 256 ∧ b < 256
  · rw [dif_pos e]
    refine (congrArg IsReal (congrFun (V1 m c) _)).mpr ?_
    exact h.w _
  · rw [dif_neg e]; exact IsReal.zero

theorem real_dd {c : Dev nD} (h : AllReal m c) (g R b : ℕ) : IsReal (ddV m c g R b) := IsReal.sum fun _ => (real_ys h _ _ _).mul (real_w h _ _ _)

theorem real_sh {c : Dev nD} (h : AllReal m c) (g R b : ℕ) : IsReal (shV m c g R b) := by
  unfold shV
  rw [Ideal.div_coe (cnt_pos g R)]
  exact (real_dd h g R b).mul ⟨_, rfl⟩

theorem du_ref {c : Dev nD} (h : AllReal m c) : duH (ddH (tK m c) (matsH (wK m c))) = (dats m 0 c).arrAt 5 cfg0.N := by
  rw [du_array]
  funext z
  have h1 : (z 1).val < 1024 := (z 1).isLt
  have hg : (z 1).val / 256 < 4 := by omega
  have hb : (z 1).val % 256 < 256 := by omega
  have ez : z = ix2 (z 0) (⟨256 * ((z 1).val / 256) + (z 1).val % 256, by omega⟩ : Fin 1024) := by
    funext a
    match a with
    | ⟨0, _⟩ => rfl
    | ⟨1, _⟩ => exact Fin.ext (by show (z 1).val = 256 * ((z 1).val / 256) + (z 1).val % 256; omega)
  let e : ℕ → ℝ := fun R => (real_sh h ((z 1).val / 256) R ((z 1).val % 256)).choose
  have he : ∀ R, shV m c ((z 1).val / 256) R ((z 1).val % 256) = (e R : EReal) := fun R => (real_sh h _ R _).choose_spec
  refine (congrArg _ ez).trans ((duH_apply _ (⟨(z 1).val / 256, hg⟩ : Fin 4) (⟨(z 1).val % 256, hb⟩ : Fin 256) e (fun R => ?_) (fun R hR => ?_) (z 0)).trans ?_)
  · rw [dd_ref]
    exact he R.val
  · have := (he R).symm.trans (shV_out m c _ R _ hR)
    exact_mod_cast this
  · show _ = duV m c _ _ _
    unfold duV
    exact congrArg₂ (fun p q : EReal => p - q) (Finset.sum_congr rfl fun d _ => (he _).symm) (dd_ref m c (z 0) _ _)

theorem dw_ref {c : Dev nD} (h : AllReal m c) : dwH (tK m c) (diffH (aK m c)) = (dats m 0 c).arrAt 6 cfg0.N := by
  rw [dw_array]
  funext z
  have ez : z = ix3 (z 0) (z 1) (z 2) := by funext a; fin_cases a <;> rfl
  refine (congrArg _ ez).trans ((dwH_apply _ _ (z 0) (z 1) (z 2)).trans ?_)
  show _ = ∑ R ∈ Finset.range 8192, dwV m c (z 0).val R (z 1).val (z 2).val
  rw [← Fin.sum_univ_eq_sum_range (fun R => dwV m c (z 0).val R (z 1).val (z 2).val)]
  refine Finset.sum_congr rfl fun R _ => ?_
  unfold dwV
  rw [mul_comm]
  exact congrArg₂ (· * ·) (diff_ref h R (z 0) (z 1)) (ys_apply m c R (z 0) (z 2))

theorem ds_row {c : Dev nD} (h : AllReal m c) (R : Fin 8192) (C : Fin 1024) :
    mulf (mixH (matsH (wK m c)) (diffH (aK m c))) (cotH (yK m c)) (ix3 0 R C) = dsV m c (C.val / 256) R.val (C.val % 256) := by
  show mixH (F := Ideal) _ _ (ix3 0 R C) * cotH (F := Ideal) _ (ix3 0 R C) = _
  unfold dsV
  rw [mixH_apply, mul_comm]
  refine congrArg₂ (· * ·) ?_ (Finset.sum_congr rfl fun x _ => ?_)
  · rw [V_main_arg3, at2_of _ _ _ R.isLt (by omega)]
    unfold cotH
    pointwise
    exact congrArg (fun q : Fin 1024 => yK m c (ix2 R q)) (Fin.ext (by show C.val = 256 * (C.val / 256) + C.val % 256; omega))
  · rw [mul_comm]
    exact congrArg₂ (· * ·) (diff_ref h R _ x) (mats_apply m c _ x _)

theorem ds_ref {c : Dev nD} (h : AllReal m c) : dsH (mulf (mixH (matsH (wK m c)) (diffH (aK m c))) (cotH (yK m c))) = (dats m 0 c).arrAt 7 cfg0.N := by
  rw [ds_array]
  funext z
  have h0 : (z 0).val < 1 := (z 0).isLt
  have h1 : (z 1).val < 1024 := (z 1).isLt
  have ez : z = ix2 (0 : Fin 1) (z 1) := by
    funext a
    match a with
    | ⟨0, _⟩ => exact Fin.ext (by show (z 0).val = 0; omega)
    | ⟨1, _⟩ => rfl
  refine (congrArg _ ez).trans ((dsH_apply _ (z 1)).trans ?_)
  show _ = ∑ R ∈ Finset.range 8192, dsV m c ((z 1).val / 256) R ((z 1).val % 256)
  rw [← Fin.sum_univ_eq_sum_range (fun R => dsV m c ((z 1).val / 256) R ((z 1).val % 256))]
  exact Finset.sum_congr rfl fun R _ => ds_row h R (z 1)

end Equal

end Cert.PoolBwd

end
-- ==== Proof.PoolBwd.Claims.lean ====
/- The claims about the pooling mixer's gradient. -/
module

public import proofs.«01_k».proof.Defs
public import proofs.«01_k».proof.Proof.PoolBwd.Reference
public import proofs.«01_k».proof.Proof.Gen.Kernel6Ideal.Frame
public import proofs.«01_k».proof.Proof.Gen.Pre_finite6

@[expose] public section

noncomputable section

namespace Cert.PoolBwd

open Idealize.ShloMosaic Idealize.SL.Sem

theorem frame_ref : Cert.quiescent_Reference6Ideal := fun m ρ _ =>
  (θ_run Cert.Reference6Ideal.defs _ _).mono
    (fun r h => ⟨fun c => (h c).2.2.2, Idealize.ShloMosaic.sem_eq_zero_of_no_sems (by decide) r.2⟩) (run_ref m ρ)

/-- Arguments that pass the test are real. -/
theorem allReal {m : (ℓ : Loc Cert.Kernel6Ideal.nD Cert.Kernel6Ideal.τ Cert.Kernel6Ideal.sig) → Buf (Elt Ideal) ℓ}
    (h : Cert.Pre_Kernel6Ideal_finite6 m) (c : Dev Cert.Kernel6Ideal.nD) : AllReal m c := by
  have h3 := h c
  have h2 := Finite.and_left h3
  have h1 := Finite.and_left h2
  exact ⟨Finite.real_of_test _ Finite.inf32 (aK m c) _ _ _ _ (Finite.and_left h1),
    Finite.real_of_test _ Finite.inf32 (wK m c) _ _ _ _ (Finite.and_right h1),
    Finite.real_of_test _ Finite.inf32 (sK m c) _ _ _ _ (Finite.and_right h2),
    Finite.real_of_test _ Finite.inf32 (yK m c) _ _ _ _ (Finite.and_right h3)⟩

theorem algebraic : Cert.algebraic_Kernel6Ideal_Reference6Ideal_pre_finite6 := by
  intro m g m' g' hp hagree
  refine ⟨fun c => (Cert.Kernel6Ideal.Gen.dats m 0 c).arrAt 5 Cert.Kernel6Ideal.cfg0.N,
    fun c => (Cert.Kernel6Ideal.Gen.dats m 0 c).arrAt 6 Cert.Kernel6Ideal.cfg0.N,
    fun c => (Cert.Kernel6Ideal.Gen.dats m 0 c).arrAt 7 Cert.Kernel6Ideal.cfg0.N, ?_, ?_⟩
  · exact Cert.Kernel6Ideal.Value.run_blocks m g
  · refine (θ_run Cert.Reference6Ideal.defs _ _).mono (fun r h c => ?_) (run_ref m' g')
    obtain ⟨e0, e1, e2, e3⟩ := hagree c
    refine ⟨(h c).1.trans ?_, (h c).2.1.trans ?_, (h c).2.2.1.trans ?_, (h c).2.2.2⟩
    · unfold tR wR; rw [e1, e2, e3]; exact du_ref (allReal hp c)
    · unfold tR fR; rw [e0, e2, e3]; exact dw_ref (allReal hp c)
    · unfold wR fR; rw [e0, e1, e3]; exact ds_ref (allReal hp c)

end Cert.PoolBwd

end
-- ==== Proof.FfnFwd.Points.lean ====
/- What one grid point of the feed-forward block's gated convolution leaves. A column tile's points run from the first rows to the
   last. A point holds its rows of the gate under the last eight rows of the point before, zeros at the tile's first point, and
   visits them in slabs of sixteen rows: the convolved gate is activated and multiplied by the value. -/
module

public import proofs.«01_k».proof.Proof.Gen.Kernel7Ideal.Frame
public import proofs.«01_k».proof.Proof.FfnBwd.Points

@[expose] public section

set_option maxRecDepth 16384

noncomputable section

namespace Cert.FfnFwd

open Cert.Kernel7Ideal Cert.Kernel7Ideal.Gen Cert.RowNorm Cert.Slab
open Cert.FfnBwd (posC posC_le row16 h16 inbW wRow)
open Idealize.ShloMosaic Idealize.ShloMosaic.TcCoe Idealize.SL.Sem

variable {F : FTy → Type} [FloatOps F] [Named F]

/-! ## One slab -/

/-- The first row of the slab visited at step `n`. -/
abbrev rowOf (n : ℕ) : ℕ := 16 * (n % 64)

theorem rowOf_le {N : ℕ} (d n : ℕ) (h : d + 1024 ≤ N) : rowOf n + d + 16 ≤ N := by
  show 16 * (n % 64) + d + 16 ≤ N; omega

/-- The slab visited at step `n`, taken `d` rows further down. -/
abbrev at16 {N : ℕ} (d : ℕ) (h : d + 1024 ≤ N) (n : ℕ) : Rect (Q N) := slab (rowOf n + d) (posC n) (rowOf_le d n h) (posC_le n)

/-- What the slabs load: the gate's rows two and one above and in place, the weights' rows, the bias and the value. -/
structure Slabs (F : FTy → Type) where
  e : Fin 3 → ℕ → FVec F P16 .f32
  w : Fin 3 → ℕ → FVec F P1 .f32
  b : ℕ → FVec F P1 .f32
  v : ℕ → FVec F P16 .f32

/-- The convolved gate. -/
def conv (l : Slabs F) (n : ℕ) : FVec F P16 .f32 :=
  FfnBwd.c16 ⟨l.e, l.w, l.b, l.v, l.v⟩ n

/-- The activation's hyperbolic tangent. -/
def tan16 (x : FVec F P16 .f32) : FVec F P16 .f32 :=
  tanh (mulf x (addf (broadcast P16 (Scalar.ofBits .f32 0x3F4C422A#32))
    (mulf (broadcast P16 (Named.named κ "c01" 0x3D122279#32 : F .f32)) (mulf x x))))

/-- The activated gate times the value. -/
def gated (l : Slabs F) (n : ℕ) : FVec F P16 .bf16 :=
  truncf .bf16 (mulf (mulf (conv l n) (h16 (tan16 (conv l n)))) (l.v n)) (by decide)

theorem le0 : 0 + 1024 ≤ 1024 := Nat.le_of_eq (Nat.zero_add 1024)
theorem le6 (k : Fin 3) : 6 + k.val + 1024 ≤ 1032 := by omega

/-- The stores of all the slabs, the last first. -/
abbrev zStores (l : Slabs F) : List (View.Piece (Elt F) (Q 1024) .bf16) :=
  List.ofFn fun k : Fin 128 => ⟨at16 0 le0 (127 - k.val), gated l (127 - k.val)⟩

variable (m : (ℓ : Loc nD τ sig) → Buf (Elt F) ℓ)

/-! ## What a run of the body finds -/

/-- The store of the gate's rows. -/
abbrev gatePiece (c : Dev nD) (t : Fin cfg0.N) : View.Piece (Elt F) (Q 1032) .f32 :=
  ⟨Rect.unit ![8, 0] S1024x1024.size inb_S1032x1024_S1024x1024_8_0, k0_pay4
    (View.readAt (Elt F) (ms0_0 t).view (Rect.unit ![0, 0] S1024x1024.size inb_S1024x1024_S1024x1024_0_0).toLoadRect
      ((hs0_0 t).unread (iblk m c 0 t)))⟩

/-- The eight rows of zeros above a column tile's first rows. -/
abbrev headPiece : View.Piece (Elt F) (Q 1032) .f32 := ⟨Rect.unit ![0, 0] S8x1024.size inb_S1032x1024_S8x1024_0_0, k0_pay3⟩

/-- The copy of the last eight rows for the next point. -/
abbrev keepPiece (L : List (View.Piece (Elt F) (Q 1032) .f32)) : View.Piece (Elt F) (Q 1032) .f32 :=
  ⟨Rect.unit ![0, 0] S8x1024.size inb_S1032x1024_S8x1024_0_0, k0_pay2
    (View.readCov (Val := Elt F) scM0_0.view L (Rect.unit (s := Q 1032) ![1024, 0] S8x1024.size inb_S1032x1024_S8x1024_1024_0).toLoadRect)⟩

/-- The loads, of the gate's rows as they are found. -/
def found (c : Dev nD) (t : Fin cfg0.N) (E : Fin 3 → ℕ → FVec F P16 .f32) : Slabs F where
  e := E
  w k n := View.readAt (Elt F) (ms0_2 t).view (wRow k n).toLoadRect ((hs0_2 t).unread (iblk m c 2 t))
  b n := View.readAt (Elt F) (ms0_3 t).view (half (posC n) (posC_le n)).toLoadRect ((hs0_3 t).unread (iblk m c 3 t))
  v n := View.readAt (Elt F) (ms0_1 t).view (at16 (N := 1024) 0 le0 n).toLoadRect ((hs0_1 t).unread (iblk m c 1 t))

/-- The gate's rows that a column tile's first point finds. -/
def rowsA (L : List (View.Piece (Elt F) (Q 1032) .f32)) (k : Fin 3) (n : ℕ) : FVec F P16 .f32 :=
  View.readCov (Val := Elt F) scM0_0.view L (at16 (N := 1032) (6 + k.val) (le6 k) n).toLoadRect

/-- Those that a later point finds: the first slabs' reach into what the point before left. -/
def rowsB (c : Dev nD) (t : Fin cfg0.N) (x : Vec F (Q 1032) .f32) (k : Fin 3) (n : ℕ) : FVec F P16 .f32 :=
  if n % 64 = 0 ∧ k.val < 2 then
    View.readAt (Elt F) scM0_0.view (at16 (N := 1032) (6 + k.val) (le6 k) n).toLoadRect
      (scM0_0.view.writes (Elt F) ((Memref.isWhole_whole _).unread x) [gatePiece m c t])
  else rowsA [gatePiece m c t] k n

/-- What the point before `t` left. -/
abbrev before (c : Dev nD) (t : Fin cfg0.N) :=
  outsAt0 m c (t.val - 1) (Nat.lt_of_le_of_lt (Nat.sub_le _ _) t.isLt)

set_option maxHeartbeats 3200000 in
theorem outs_B (c : Dev nD) (t : Fin cfg0.N) (h0 : ¬t.val % 8 = 0) :
    outsAt0 m c t.val t.isLt =
      (View.canon (zStores (found m c t (rowsB m c t (before m c t).2))),
       View.canon [keepPiece [gatePiece m c t], gatePiece m c t]) := by
  rw [outsAt0_B m c t h0]
  unfold out0_B_4 sout0_B_0
  simp only [View.read_writes_junk_eq_canon]
  generalize hr : kernelRun0_B (F := F) _ _ _ _ _ _ _ _ _ _ _ _ _ _ _ _ _ _ _ _ = r
  have e2 : r.2.1 = [keepPiece [gatePiece m c t], gatePiece m c t] := by
    subst hr; sl_kernel_rfl
  have e1 : r.1 = zStores (found m c t (rowsB m c t (before m c t).2)) := by
    subst hr; sl_kernel_rfl
  clear hr
  obtain ⟨L4, LS, hL⟩ := r
  dsimp only at e1 e2 ⊢
  clear hL
  subst e1 e2
  rfl

set_option maxHeartbeats 3200000 in
theorem outs_A (c : Dev nD) (t : Fin cfg0.N) (h0 : t.val % 8 = 0) :
    outsAt0 m c t.val t.isLt =
      (View.canon (zStores (found m c t (rowsA [gatePiece m c t, headPiece]))),
       View.canon [keepPiece [gatePiece m c t, headPiece], gatePiece m c t, headPiece]) := by
  rw [outsAt0_A m c t h0]
  unfold out0_A_4 sout0_A_0
  simp only [View.read_writes_junk_eq_canon]
  generalize hr : kernelRun0_A (F := F) _ _ _ _ _ _ _ _ _ _ _ _ _ _ _ _ _ _ _ = r
  have e2 : r.2.1 = [keepPiece [gatePiece m c t, headPiece], gatePiece m c t, headPiece] := by
    subst hr; sl_kernel_rfl
  have e1 : r.1 = zStores (found m c t (rowsA [gatePiece m c t, headPiece])) := by
    subst hr; sl_kernel_rfl
  clear hr
  obtain ⟨L4, LS, hL⟩ := r
  dsimp only at e1 e2 ⊢
  clear hL
  subst e1 e2
  rfl

/-! ## The rows of the blocks -/

/-- The last eight rows of the gate's rows. -/
def lastRows (X : Vec F (Q 1024) .f32) : Vec F (Q 8) .f32 := fun y =>
  X (ix2 (⟨1016 + (y 0).val, by have : (y 0).val < 8 := (y 0).isLt; omega⟩ : Fin 1024) (y 1))

/-- The gate's rows under eight others. -/
def under (T : Vec F (Q 8) .f32) (X : Vec F (Q 1024) .f32) : Vec F (Q 1032) .f32 := fun y =>
  if h : (y 0).val < 8 then T (ix2 (⟨(y 0).val, h⟩ : Fin 8) (y 1))
  else X (ix2 (⟨(y 0).val - 8, by have : (y 0).val < 1032 := (y 0).isLt; omega⟩ : Fin 1024) (y 1))

/-- The first eight rows. -/
def firstRows (x : Vec F (Q 1032) .f32) : Vec F (Q 8) .f32 := fun y =>
  x (ix2 (⟨(y 0).val, by have : (y 0).val < 8 := (y 0).isLt; omega⟩ : Fin 1032) (y 1))

/-- The loads, of the blocks. -/
def loads (c : Dev nD) (t : Fin cfg0.N) (T : Vec F (Q 8) .f32) : Slabs F where
  e k n := View.ld (Val := Elt F) (e' := .f32) (under T (iblk m c 0 t)) (at16 (N := 1032) (6 + k.val) (le6 k) n)
  w k n := View.ld (Val := Elt F) (e' := .f32) (iblk m c 2 t) (wRow k n)
  b n := View.ld (Val := Elt F) (e' := .f32) (iblk m c 3 t) (half (posC n) (posC_le n))
  v n := View.ld (Val := Elt F) (e' := .f32) (iblk m c 1 t) (at16 (N := 1024) 0 le0 n)

theorem found_eq (c : Dev nD) (t : Fin cfg0.N) (T : Vec F (Q 8) .f32) (E : Fin 3 → ℕ → FVec F P16 .f32)
    (h : ∀ k n, E k n = View.ld (Val := Elt F) (e' := .f32) (under T (iblk m c 0 t)) (at16 (N := 1032) (6 + k.val) (le6 k) n)) :
    found m c t E = loads m c t T := by
  obtain rfl : E = (loads m c t T).e := funext fun k => funext fun n => h k n
  have ew : (fun k n => View.readAt (Elt F) (ms0_2 t).view (wRow k n).toLoadRect ((hs0_2 t).unread (iblk m c 2 t))) =
      (loads m c t T).w := funext fun k => funext fun n => readAt_unread (ms0_2 t) (hs0_2 t) (wRow k n) _
  have eb : (fun n => View.readAt (Elt F) (ms0_3 t).view (half (posC n) (posC_le n)).toLoadRect ((hs0_3 t).unread (iblk m c 3 t))) =
      (loads m c t T).b := funext fun n => readAt_unread (ms0_3 t) (hs0_3 t) (half (posC n) (posC_le n)) _
  have ev : (fun n => View.readAt (Elt F) (ms0_1 t).view (at16 (N := 1024) 0 le0 n).toLoadRect ((hs0_1 t).unread (iblk m c 1 t))) =
      (loads m c t T).v := funext fun n => readAt_unread (ms0_1 t) (hs0_1 t) (at16 (N := 1024) 0 le0 n) _
  unfold found
  rw [ew, eb, ev]

section Views
variable (V : List (View.Piece (Elt F) (Q 1032) .f32) → (Q 1032).Idx → Elt F .f32)
  (hin : ∀ (r : Rect (Q 1032)) (w : r.shape.Idx → Elt F .f32) (L : List (View.Piece (Elt F) (Q 1032) .f32)) (x : r.shape.Idx),
    V (⟨r, w⟩ :: L) (r.emb x) = w x)
  (hout : ∀ (p : View.Piece (Elt F) (Q 1032) .f32) (L : List (View.Piece (Elt F) (Q 1032) .f32)) (y : (Q 1032).Idx),
    y ∉ p.1.set → V (p :: L) y = V L y)

include hin in
/-- An element of the gate's rows, whatever was stored before. -/
theorem gate_in (c : Dev nD) (t : Fin cfg0.N) (T : Vec F (Q 8) .f32) (L : List (View.Piece (Elt F) (Q 1032) .f32)) (y : (Q 1032).Idx)
    (h : 8 ≤ (y 0).val) : V (gatePiece m c t :: L) y = under T (iblk m c 0 t) y := by
  have hy : (y 0).val < 1032 := (y 0).isLt
  have ey : (Rect.unit (s := Q 1032) ![8, 0] S1024x1024.size inb_S1032x1024_S1024x1024_8_0).emb
      (ix2 (⟨(y 0).val - 8, by omega⟩ : Fin 1024) (y 1)) = y := by
    funext i; apply Fin.ext
    match i with
    | ⟨0, _⟩ => show 8 + 1 * ((y 0).val - 8) = (y 0).val; omega
    | ⟨1, _⟩ => show 0 + 1 * (y 1).val = (y 1).val; omega
  refine ((congrArg _ ey.symm).trans (hin _ _ _ _)).trans ?_
  unfold k0_pay4 under
  rw [shapeCast_self, readAt_unread, ld_zero, dif_neg (Nat.not_lt_of_ge h)]

include hout in
/-- An element of the eight rows above them. -/
theorem gate_out (c : Dev nD) (t : Fin cfg0.N) (L : List (View.Piece (Elt F) (Q 1032) .f32)) (y : (Q 1032).Idx) (h : (y 0).val < 8) :
    V (gatePiece m c t :: L) y = V L y := by
  refine hout _ _ _ fun hm => ?_
  have h8 : 8 ≤ (y 0).val := (Rect.mem_set_unit (s := Q 1032) (inb := inb_S1032x1024_S1024x1024_8_0) |>.mp hm 0).1
  omega

end Views

theorem first_idx (y : (Q 1032).Idx) (h : (y 0).val < 8) :
    (Rect.unit (s := Q 1032) ![0, 0] S8x1024.size inb_S1032x1024_S8x1024_0_0).emb (ix2 (⟨(y 0).val, h⟩ : Fin 8) (y 1)) = y := by
  funext i; apply Fin.ext
  match i with
  | ⟨0, _⟩ => show 0 + 1 * (y 0).val = (y 0).val; omega
  | ⟨1, _⟩ => show 0 + 1 * (y 1).val = (y 1).val; omega

/-- Eight rows of zeros. -/
abbrev zeros : Vec F (Q 8) .f32 := k0_pay3

theorem rowsA_eq (c : Dev nD) (t : Fin cfg0.N) (k : Fin 3) (n : ℕ) : rowsA [gatePiece m c t, headPiece] k n =
    View.ld (Val := Elt F) (e' := .f32) (under zeros (iblk m c 0 t)) (at16 (N := 1032) (6 + k.val) (le6 k) n) := by
  unfold rowsA
  refine (View.readCov_eq_canon' _ _ _).trans (funext fun j => ?_)
  show View.canon [gatePiece m c t, headPiece] ((at16 (N := 1032) (6 + k.val) (le6 k) n).emb j) =
    under zeros (iblk m c 0 t) ((at16 (N := 1032) (6 + k.val) (le6 k) n).emb j)
  generalize (at16 (N := 1032) (6 + k.val) (le6 k) n).emb j = y
  rcases Nat.lt_or_ge (y 0).val 8 with h | h
  · refine (gate_out m View.canon FfnBwd.canon_out c t _ y h).trans ?_
    refine ((congrArg _ (first_idx y h).symm).trans (View.canon_cons_emb _ _ _ _)).trans ?_
    unfold under
    rw [dif_pos h]
  · exact gate_in m View.canon FfnBwd.canon_in c t _ _ y h

theorem rowsB_eq (c : Dev nD) (t : Fin cfg0.N) (x : Vec F (Q 1032) .f32) (k : Fin 3) (n : ℕ) : rowsB m c t x k n =
    View.ld (Val := Elt F) (e' := .f32) (under (firstRows x) (iblk m c 0 t)) (at16 (N := 1032) (6 + k.val) (le6 k) n) := by
  unfold rowsB
  split_ifs with hn
  · funext j
    show scM0_0.view.read (Elt F) (scM0_0.view.writes (Elt F) ((Memref.isWhole_whole _).unread x) [gatePiece m c t])
        ((at16 (N := 1032) (6 + k.val) (le6 k) n).emb j) =
      under (firstRows x) (iblk m c 0 t) ((at16 (N := 1032) (6 + k.val) (le6 k) n).emb j)
    generalize (at16 (N := 1032) (6 + k.val) (le6 k) n).emb j = y
    rcases Nat.lt_or_ge (y 0).val 8 with h | h
    · refine (gate_out m (fun L => scM0_0.view.read (Elt F) (scM0_0.view.writes (Elt F) ((Memref.isWhole_whole _).unread x) L))
        (fun p L y hy => View.read_writes_cons_miss _ _ p L y hy) c t _ y h).trans ?_
      have e0 : scM0_0.view.read (Elt F) ((Memref.isWhole_whole _).unread x) = x := Memref.IsWhole.read_unread _ x
      refine (congrFun e0 y).trans ?_
      unfold under firstRows
      rw [dif_pos h]
      refine congrArg x ?_
      funext i; apply Fin.ext
      match i with
      | ⟨0, _⟩ => rfl
      | ⟨1, _⟩ => rfl
    · exact gate_in m (fun L => scM0_0.view.read (Elt F) (scM0_0.view.writes (Elt F) ((Memref.isWhole_whole _).unread x) L))
        (fun r w L z => View.read_writes_cons_emb _ _ r w L z) c t _ _ y h
  · unfold rowsA
    refine (View.readCov_eq_canon' _ _ _).trans (funext fun j => ?_)
    have h8 : 8 ≤ ((at16 (N := 1032) (6 + k.val) (le6 k) n).emb j 0).val := by
      have e0 : ((at16 (N := 1032) (6 + k.val) (le6 k) n).emb j 0).val = 16 * (n % 64) + (6 + k.val) + 1 * (j 0).val := rfl
      omega
    exact gate_in m View.canon FfnBwd.canon_in c t _ _ _ h8

/-- What a point keeps of the last eight rows. -/
theorem keep_eq (c : Dev nD) (t : Fin cfg0.N) (L L' : List (View.Piece (Elt F) (Q 1032) .f32)) :
    firstRows (View.canon (keepPiece (gatePiece m c t :: L) :: L')) = lastRows (iblk m c 0 t) := by
  funext y
  have hy : (y 0).val < 8 := (y 0).isLt
  have ey : (Rect.unit (s := Q 1032) ![0, 0] S8x1024.size inb_S1032x1024_S8x1024_0_0).emb y =
      ix2 (⟨(y 0).val, by omega⟩ : Fin 1032) (y 1) := by
    funext i; apply Fin.ext
    match i with
    | ⟨0, _⟩ => show 0 + 1 * (y 0).val = (y 0).val; omega
    | ⟨1, _⟩ => show 0 + 1 * (y 1).val = (y 1).val; omega
  unfold firstRows
  refine ((congrArg _ ey.symm).trans (View.canon_cons_emb _ _ _ _)).trans ?_
  unfold k0_pay2
  rw [View.readCov_eq_canon', shapeCast_self]
  have h0 : ((Rect.unit (s := Q 1032) ![1024, 0] S8x1024.size inb_S1032x1024_S8x1024_1024_0).toLoadRect.idx y 0).val = 1024 + (y 0).val := by
    show 1024 + 1 * (y 0).val = 1024 + (y 0).val; omega
  refine (gate_in m View.canon FfnBwd.canon_in c t zeros _ _ (by rw [h0]; omega)).trans ?_
  unfold under lastRows
  rw [dif_neg (by rw [h0]; omega)]
  refine congrArg (iblk m c 0 t) ?_
  funext i; apply Fin.ext
  match i with
  | ⟨0, _⟩ => show 1024 + 1 * (y 0).val - 8 = 1016 + (y 0).val; omega
  | ⟨1, _⟩ => show 0 + 1 * (y 1).val = (y 1).val; omega

/-- The rows above a point's. -/
def above (c : Dev nD) (t : Fin cfg0.N) : Vec F (Q 8) .f32 :=
  if t.val % 8 = 0 then zeros
  else lastRows (iblk m c 0 ⟨t.val - 1, Nat.lt_of_le_of_lt (Nat.sub_le _ _) t.isLt⟩)

theorem outs_A1 (c : Dev nD) (t : Fin cfg0.N) (h : t.val % 8 = 0) :
    (outsAt0 m c t.val t.isLt).1 = View.canon (zStores (found m c t (rowsA [gatePiece m c t, headPiece]))) := by rw [outs_A m c t h]

theorem outs_A2 (c : Dev nD) (t : Fin cfg0.N) (h : t.val % 8 = 0) : (outsAt0 m c t.val t.isLt).2 =
    View.canon [keepPiece [gatePiece m c t, headPiece], gatePiece m c t, headPiece] := by rw [outs_A m c t h]

theorem outs_B1 (c : Dev nD) (t : Fin cfg0.N) (h : ¬t.val % 8 = 0) :
    (outsAt0 m c t.val t.isLt).1 = View.canon (zStores (found m c t (rowsB m c t (before m c t).2))) := by rw [outs_B m c t h]

theorem outs_B2 (c : Dev nD) (t : Fin cfg0.N) (h : ¬t.val % 8 = 0) : (outsAt0 m c t.val t.isLt).2 =
    View.canon [keepPiece [gatePiece m c t], gatePiece m c t] := by rw [outs_B m c t h]

theorem kept (c : Dev nD) (t : Fin cfg0.N) : firstRows (outsAt0 m c t.val t.isLt).2 = lastRows (iblk m c 0 t) := by
  by_cases h : t.val % 8 = 0
  · exact (congrArg firstRows (outs_A2 m c t h)).trans (keep_eq m c t [headPiece] [gatePiece m c t, headPiece])
  · exact (congrArg firstRows (outs_B2 m c t h)).trans (keep_eq m c t [] [gatePiece m c t])

theorem kept_before (c : Dev nD) (t : Fin cfg0.N) : firstRows (before m c t).2 =
    lastRows (iblk m c 0 ⟨t.val - 1, Nat.lt_of_le_of_lt (Nat.sub_le _ _) t.isLt⟩) :=
  kept m c ⟨t.val - 1, Nat.lt_of_le_of_lt (Nat.sub_le _ _) t.isLt⟩

/-- What a point stores: its slabs, of the blocks. -/
theorem stored (c : Dev nD) (t : Fin cfg0.N) :
    (outsAt0 m c t.val t.isLt).1 = View.canon (zStores (loads m c t (above m c t))) := by
  by_cases h : t.val % 8 = 0
  · have ea : above m c t = zeros := if_pos h
    rw [ea]
    exact (outs_A1 m c t h).trans (congrArg (fun l => View.canon (zStores l)) (found_eq m c t zeros _ (rowsA_eq m c t)))
  · have ea : above m c t = firstRows (before m c t).2 := (if_neg h).trans (kept_before m c t).symm
    rw [ea]
    exact (outs_B1 m c t h).trans (congrArg (fun l => View.canon (zStores l)) (found_eq m c t _ _ (rowsB_eq m c t _)))

end Cert.FfnFwd

end
-- ==== Proof.FfnFwd.Value.lean ====
/- What the gated convolution leaves after every point, as an expression over its arguments' elements, and the array of it. -/
module

public import proofs.«01_k».proof.Proof.FfnFwd.Points
public import proofs.«01_k».proof.Proof.FfnBwd.Reference
public import proofs.«01_k».proof.Proof.Gen.Kernel7Ideal.Value
public import Idealize.ShloMosaic.Lib.Pipeline.ValueKit.Geometry

@[expose] public section

set_option maxRecDepth 16384

noncomputable section

namespace Cert.FfnFwd

open Cert.Kernel7Ideal Cert.Kernel7Ideal.Gen Cert.RowNorm Cert.Sums Cert.Slab
open Cert.FfnBwd (posC posC_le cOf upRow HU H3 H8 H1)
open Idealize.ShloMosaic Idealize.ShloMosaic.TcCoe Idealize.SL.Sem

/-! ## One slab at an index -/

/-- The constants of the tangent's argument, and the half. -/
abbrev kA : EReal := Ideal.ofBits .f32 0x3F4C422A#32
abbrev kB : EReal := Named.named (F := Ideal) κ "c01" (φ := .f32) 0x3D122279#32

/-- The activation of a number. -/
def act (x : EReal) : EReal :=
  x * (FfnBwd.kh + FfnBwd.kh * Ideal.tanh (x * (kA + kB * (x * x))))

theorem gated_apply (l : Slabs Ideal) (n : ℕ) (i : Fin 16) (j : Fin 512) :
    gated l n (ix2 i j) = act (conv l n (ix2 i j)) * l.v n (ix2 i j) := by
  unfold gated act FfnBwd.h16 tan16
  pointwise
  try rfl

theorem conv_apply (l : Slabs Ideal) (n : ℕ) (i : Fin 16) (j : Fin 512) :
    conv l n (ix2 i j) = cOf (l.b n (ix2 0 j)) (l.w 0 n (ix2 0 j)) (l.w 1 n (ix2 0 j)) (l.w 2 n (ix2 0 j))
      (l.e 2 n (ix2 i j)) (l.e 1 n (ix2 i j)) (l.e 0 n (ix2 i j)) :=
  FfnBwd.c16_apply _ n i j

theorem zeros_apply (i : Fin 8) (j : Fin 1024) : (zeros : Vec Ideal (Q 8) .f32) (ix2 i j) = 0 := by
  unfold zeros k0_pay3
  pointwise

variable (m : (ℓ : Loc nD τ sig) → Buf (Elt Ideal) ℓ)

/-! ## The windows' blocks -/

theorem lt_N (t : Fin cfg0.N) : t.val < 48 := t.isLt

/-- A point's first row and first column. -/
abbrev rowAt (n : ℕ) : ℕ := 1024 * (n % 8)
abbrev colAt (n : ℕ) : ℕ := 1024 * (n / 8)

theorem gate_at : ∀ t : Fin cfg0.N, win0_0.index t 0 = t.val % 8 ∧ win0_0.index t 1 = t.val / 8 := by decide +kernel
theorem value_at : ∀ t : Fin cfg0.N, win0_1.index t 0 = t.val % 8 ∧ win0_1.index t 1 = 6 + t.val / 8 := by decide +kernel
theorem weight_at : ∀ t : Fin cfg0.N, win0_2.index t 0 = 0 ∧ win0_2.index t 1 = t.val / 8 := by decide +kernel
theorem bias_at : ∀ t : Fin cfg0.N, win0_3.index t 0 = 0 ∧ win0_3.index t 1 = t.val / 8 := by decide +kernel
theorem out_at : ∀ t : Fin cfg0.N, win0_4.index t 0 = t.val % 8 ∧ win0_4.index t 1 = t.val / 8 := by decide +kernel

theorem gate_blk (c : Dev nD) (t : Fin cfg0.N) (i j : Fin 1024) :
    (iblk m c 0 t : Vec Ideal (Q 1024) .f32) (ix2 i j) = at2 (V m c main_arg0) (rowAt t.val + i.val) (colAt t.val + j.val) := by
  have ht := lt_N t
  rw [at2_of _ _ _ (by simp only [rowAt]; omega) (by simp only [colAt]; omega)]
  unfold iblk
  rw [View.read_apply]
  show V m c main_arg0 _ = V m c main_arg0 _
  refine congrArg _ (funext fun a => Fin.ext ?_)
  match a with
  | ⟨0, _⟩ => show win0_0.index t 0 * 1024 + 1 * i.val = rowAt t.val + i.val; rw [(gate_at t).1]; simp only [rowAt]; omega
  | ⟨1, _⟩ => show win0_0.index t 1 * 1024 + 1 * j.val = colAt t.val + j.val; rw [(gate_at t).2]; simp only [colAt]; omega

theorem value_blk (c : Dev nD) (t : Fin cfg0.N) (i j : Fin 1024) :
    (iblk m c 1 t : Vec Ideal (Q 1024) .f32) (ix2 i j) = at2 (V m c main_arg0) (rowAt t.val + i.val) (6144 + (colAt t.val + j.val)) := by
  have ht := lt_N t
  rw [at2_of _ _ _ (by simp only [rowAt]; omega) (by simp only [colAt]; omega)]
  unfold iblk
  rw [View.read_apply]
  show V m c main_arg0 _ = V m c main_arg0 _
  refine congrArg _ (funext fun a => Fin.ext ?_)
  match a with
  | ⟨0, _⟩ => show win0_1.index t 0 * 1024 + 1 * i.val = rowAt t.val + i.val; rw [(value_at t).1]; simp only [rowAt]; omega
  | ⟨1, _⟩ => show win0_1.index t 1 * 1024 + 1 * j.val = 6144 + (colAt t.val + j.val); rw [(value_at t).2]; simp only [colAt]; omega

theorem weight_blk (c : Dev nD) (t : Fin cfg0.N) (k : Fin 8) (j : Fin 1024) :
    (iblk m c 2 t : Vec Ideal (Q 8) .f32) (ix2 k j) = at2 (V m c main_v0) k.val (colAt t.val + j.val) := by
  have ht := lt_N t
  rw [at2_of _ _ _ k.isLt (by simp only [colAt]; omega)]
  unfold iblk
  rw [View.read_apply]
  show V m c main_v0 _ = V m c main_v0 _
  refine congrArg _ (funext fun a => Fin.ext ?_)
  match a with
  | ⟨0, _⟩ => show win0_2.index t 0 * 8 + 1 * k.val = k.val; rw [(weight_at t).1]; omega
  | ⟨1, _⟩ => show win0_2.index t 1 * 1024 + 1 * j.val = colAt t.val + j.val; rw [(weight_at t).2]; simp only [colAt]; omega

theorem bias_blk (c : Dev nD) (t : Fin cfg0.N) (k : Fin 1) (j : Fin 1024) :
    (iblk m c 3 t : Vec Ideal Q1 .f32) (ix2 k j) = at2 (V m c main_arg2) k.val (colAt t.val + j.val) := by
  have ht := lt_N t
  rw [at2_of _ _ _ k.isLt (by simp only [colAt]; omega)]
  unfold iblk
  rw [View.read_apply]
  show V m c main_arg2 _ = V m c main_arg2 _
  refine congrArg _ (funext fun a => Fin.ext ?_)
  match a with
  | ⟨0, _⟩ => show win0_3.index t 0 * 1 + 1 * k.val = k.val; rw [(bias_at t).1]; omega
  | ⟨1, _⟩ => show win0_3.index t 1 * 1024 + 1 * j.val = colAt t.val + j.val; rw [(bias_at t).2]; simp only [colAt]; omega

/-! ## The values -/

/-- The convolved gate, and the result. -/
def convV (c : Dev nD) (R C : ℕ) : EReal :=
  cOf (at2 (V m c main_arg2) 0 C) (at2 (V m c main_v0) 0 C) (at2 (V m c main_v0) 1 C) (at2 (V m c main_v0) 2 C)
    (upRow (V m c main_arg0) 0 R C) (upRow (V m c main_arg0) 1 R C) (upRow (V m c main_arg0) 2 R C)
def zV (c : Dev nD) (R C : ℕ) : EReal := act (convV m c R C) * at2 (V m c main_arg0) R (6144 + C)

/-- The gate's rows under those above them. -/
theorem under_apply (c : Dev nD) (t : Fin cfg0.N) (i : Fin 1032) (j : Fin 1024) :
    under (above m c t) (iblk m c 0 t) (ix2 i j) =
      if 8 ≤ rowAt t.val + i.val then at2 (V m c main_arg0) (rowAt t.val + i.val - 8) (colAt t.val + j.val) else 0 := by
  have hi := i.isLt
  unfold under
  by_cases h : i.val < 8
  · refine (dif_pos h).trans ?_
    unfold above
    by_cases h7 : t.val % 8 = 0
    · rw [if_pos h7, if_neg (by simp only [rowAt]; omega)]
      exact zeros_apply _ _
    · rw [if_neg h7, if_pos (by simp only [rowAt]; omega)]
      refine (gate_blk m c _ _ _).trans ?_
      refine congrArg₂ (at2 _) ?_ ?_
      · show 1024 * ((t.val - 1) % 8) + (1016 + i.val) = 1024 * (t.val % 8) + i.val - 8
        omega
      · show 1024 * ((t.val - 1) / 8) + j.val = 1024 * (t.val / 8) + j.val
        omega
  · refine (dif_neg h).trans ?_
    rw [if_pos (by simp only [rowAt]; omega)]
    refine (gate_blk m c _ _ _).trans (congrArg (fun R => at2 _ R _) ?_)
    show rowAt t.val + (i.val - 8) = rowAt t.val + i.val - 8
    omega

theorem e_at (c : Dev nD) (t : Fin cfg0.N) (k : Fin 3) (n : ℕ) (i : Fin 16) (j : Fin 512) :
    (loads m c t (above m c t)).e k n (ix2 i j) =
      upRow (V m c main_arg0) (2 - k.val) (rowAt t.val + (rowOf n + i.val)) (colAt t.val + (posC n + j.val)) := by
  refine (ld_slab (rowOf_le (6 + k.val) n (by omega)) (posC_le n) (under (above m c t) (iblk m c 0 t)) i j).trans
    ((under_apply m c t _ _).trans ?_)
  unfold upRow
  show (if 8 ≤ rowAt t.val + (rowOf n + (6 + k.val) + i.val) then _ else _) = _
  by_cases h : 2 - k.val ≤ rowAt t.val + (rowOf n + i.val)
  · rw [if_pos h, if_pos (by omega)]
    refine congrArg (fun R => at2 _ R _) ?_
    show rowAt t.val + (rowOf n + (6 + k.val) + i.val) - 8 = rowAt t.val + (rowOf n + i.val) - (2 - k.val)
    omega
  · rw [if_neg h, if_neg (by omega)]

theorem w_at (c : Dev nD) (t : Fin cfg0.N) (k : Fin 3) (n : ℕ) (j : Fin 512) :
    (loads m c t (above m c t)).w k n (ix2 0 j) = at2 (V m c main_v0) k.val (colAt t.val + (posC n + j.val)) := by
  have hc := posC_le n
  refine Eq.trans ?_ (weight_blk m c t (⟨k.val, by omega⟩ : Fin 8) (⟨posC n + j.val, by omega⟩ : Fin 1024))
  show iblk m c 2 t _ = iblk m c 2 t _
  refine congrArg _ (funext fun a => Fin.ext ?_)
  match a with
  | ⟨0, _⟩ => show k.val + 1 * 0 = k.val; omega
  | ⟨1, _⟩ => show posC n + 1 * j.val = posC n + j.val; omega

theorem b_at (c : Dev nD) (t : Fin cfg0.N) (n : ℕ) (j : Fin 512) :
    (loads m c t (above m c t)).b n (ix2 0 j) = at2 (V m c main_arg2) 0 (colAt t.val + (posC n + j.val)) := by
  have hc := posC_le n
  refine Eq.trans ?_ (bias_blk m c t (0 : Fin 1) (⟨posC n + j.val, by omega⟩ : Fin 1024))
  exact ld_half (Val := Elt Ideal) (e := .f32) hc (iblk m c 3 t) 0 j

theorem v_at (c : Dev nD) (t : Fin cfg0.N) (n : ℕ) (i : Fin 16) (j : Fin 512) :
    (loads m c t (above m c t)).v n (ix2 i j) =
      at2 (V m c main_arg0) (rowAt t.val + (rowOf n + i.val)) (6144 + (colAt t.val + (posC n + j.val))) :=
  (ld_slab (Val := Elt Ideal) (e := .f32) (rowOf_le 0 n le0) (posC_le n) (iblk m c 1 t) i j).trans (value_blk m c t _ _)

theorem gated_at (c : Dev nD) (t : Fin cfg0.N) (n : ℕ) (i : Fin 16) (j : Fin 512) :
    gated (loads m c t (above m c t)) n (ix2 i j) = zV m c (rowAt t.val + (rowOf n + i.val)) (colAt t.val + (posC n + j.val)) := by
  rw [gated_apply, conv_apply, e_at, e_at, e_at, w_at, w_at, w_at, b_at, v_at]
  rfl

/-- A point's block. -/
theorem block (c : Dev nD) (t : Fin cfg0.N) : (outsAt0 m c t.val t.isLt).1 =
    fun y : (Q 1024).Idx => zV m c (rowAt t.val + (y 0).val) (colAt t.val + (y 1).val) := by
  rw [stored]
  refine canon_slabs (fun k : Fin 128 => rowOf (127 - k.val) + 0) (fun k => posC (127 - k.val)) (fun k => rowOf_le 0 _ le0)
    (fun k => posC_le _) (fun i j hi hj => ?_) _ _ fun k i j => ?_
  · refine ⟨⟨127 - (i / 16 + 64 * (j / 512)), by omega⟩, ?_⟩
    have e : 127 - (127 - (i / 16 + 64 * (j / 512))) = i / 16 + 64 * (j / 512) := by omega
    dsimp only
    rw [e]
    refine ⟨⟨?_, ?_⟩, ?_, ?_⟩
    · show 16 * ((i / 16 + 64 * (j / 512)) % 64) + 0 ≤ i; omega
    · show i < 16 * ((i / 16 + 64 * (j / 512)) % 64) + 0 + 16; omega
    · show 512 * ((i / 16 + 64 * (j / 512)) / 64 % 2) ≤ j; omega
    · show j < 512 * ((i / 16 + 64 * (j / 512)) / 64 % 2) + 512; omega
  · exact gated_at m c t (127 - k.val) i j

/-- The array after the run. -/
theorem array (c : Dev nD) :
    (dats m 0 c).arrAt 4 cfg0.N = fun z : (⟨2, ![8192, 6144]⟩ : Shape).Idx => zV m c (z 0).val (z 1).val := by
  refine (dats m 0 c).arrAt_eq_of_covers 4 _ (by decide +kernel) fun t hf y => ?_
  blk_simp
  rw [after0_4, block]
  show zV m c (rowAt t.val + (y 0).val) (colAt t.val + (y 1).val) = _
  have e0 : rowAt t.val + (y 0).val = win0_4.index t 0 * 1024 + (y 0).val := by rw [(out_at t).1]; simp only [rowAt]; omega
  have e1 : colAt t.val + (y 1).val = win0_4.index t 1 * 1024 + (y 1).val := by rw [(out_at t).2]; simp only [colAt]; omega
  rw [e0, e1]

/-! ## The reference -/

theorem kB_eq : kB = ((FfnBwd.rA * FfnBwd.rB : ℝ) : EReal) := IdealRules.named_const.ideal_named_scalar _ _ _ _ rfl

/-- The activation of the lines is that of the body, at the infinities too. -/
theorem act_eq (x : EReal) : x * FfnBwd.hR x = act x := by
  refine congrArg (x * ·) ?_
  unfold FfnBwd.hR
  have e : FfnBwd.tR x = Ideal.tanh (x * (kA + kB * (x * x))) := by
    unfold FfnBwd.tR
    rw [kB_eq, FfnBwd.kq_eq, show kA = _ from FfnBwd.k0_eq, FfnBwd.k0_eq]
    have pA : (0 : ℝ) < FfnBwd.rA := by unfold FfnBwd.rA; norm_num
    have pB : (0 : ℝ) < FfnBwd.rB := by unfold FfnBwd.rB; norm_num
    induction x with
    | bot =>
      rw [EReal.bot_mul_bot, EReal.top_mul_bot, EReal.coe_mul_bot_of_pos pB, EReal.bot_add, EReal.coe_mul_bot_of_pos pA,
        EReal.coe_mul_top_of_pos (mul_pos pA pB), EReal.coe_add_top, EReal.bot_mul_top]
    | top =>
      rw [EReal.top_mul_top, EReal.top_mul_top, EReal.coe_mul_top_of_pos pB, EReal.top_add_top, EReal.coe_mul_top_of_pos pA,
        EReal.coe_mul_top_of_pos (mul_pos pA pB), EReal.coe_add_top, EReal.top_mul_top]
    | coe x =>
      simp only [← EReal.coe_mul, ← EReal.coe_add]
      refine congrArg Ideal.tanh (congrArg _ ?_)
      ring
  rw [e]
  have hr : ∃ y : ℝ, Ideal.tanh (x * (kA + kB * (x * x))) = y := by
    generalize x * (kA + kB * (x * x)) = z
    induction z with
    | bot => exact ⟨-1, rfl⟩
    | top => exact ⟨1, rfl⟩
    | coe z => exact ⟨_, Ideal.tanh_coe z⟩
  obtain ⟨y, hy⟩ := hr
  rw [hy, FfnBwd.kh_eq, FfnBwd.ko_eq]
  simp only [← EReal.coe_mul, ← EReal.coe_add]
  refine congrArg _ ?_
  ring

/-- The arguments. -/
abbrev uA (c : Dev nD) : FVec Ideal HU .f32 := m ((c : Thread nD τ).loc main_arg0)
abbrev wA (c : Dev nD) : FVec Ideal H3 .f32 := m ((c : Thread nD τ).loc main_arg1)
abbrev bA (c : Dev nD) : FVec Ideal H1 .f32 := m ((c : Thread nD τ).loc main_arg2)

theorem padded (c : Dev nD) : (V m c main_v0 : H8.Idx → EReal) = FfnBwd.eightH (wA m c) := by
  unfold V
  simp only [List.flatten_cons, List.flatten_nil, List.append_nil, List.cons_append, List.nil_append]
  after_results_simp <;> rfl

theorem weight_eq (c : Dev nD) (k : Fin 3) (C : Fin 6144) : at2 (V m c main_v0) k.val C.val = wA m c (ix2 k C) := by
  rw [at2_of _ _ _ (by omega) C.isLt, padded]
  exact (FfnBwd.eightH_apply _ _ C).trans (at2_fin _ k C)

theorem conv_eq (c : Dev nD) (R : Fin 8192) (C : Fin 6144) : convV m c R.val C.val = FfnBwd.convH (uA m c) (wA m c) (bA m c) (ix2 R C) := by
  refine Eq.trans ?_ (FfnBwd.convH_apply _ _ _ R C).symm
  unfold convV cOf
  rw [V_main_arg0, V_main_arg2]
  rw [show at2 (V m c main_v0) 0 C.val = _ from weight_eq m c 0 C, show at2 (V m c main_v0) 1 C.val = _ from weight_eq m c 1 C,
    show at2 (V m c main_v0) 2 C.val = _ from weight_eq m c 2 C]
  rw [at2_of _ _ _ (by decide) C.isLt, mul_comm (wA m c _), mul_comm (wA m c _), mul_comm (wA m c _)]
  show bA m c (ix2 0 C) + _ + _ + _ = _
  rw [add_right_comm (bA m c (ix2 0 C)), add_right_comm (bA m c (ix2 0 C) + _)]

/-- The lines' result. -/
def lines {F : FTy → Type} [FloatOps F] (u : FVec F HU .f32) (w : FVec F H3 .f32) (b : FVec F H1 .f32) : FVec F FfnBwd.HG .bf16 :=
  truncf .bf16 (mulf (mulf (FfnBwd.convH u w b) (FfnBwd.halfH (FfnBwd.tanhH (FfnBwd.convH u w b)))) (FfnBwd.valH u)) (by decide)

theorem lines_apply (u : FVec Ideal HU .f32) (w : FVec Ideal H3 .f32) (b : FVec Ideal H1 .f32) (R : Fin 8192) (C : Fin 6144) :
    lines u w b (ix2 R C) = act (FfnBwd.convH u w b (ix2 R C)) * at2 u R.val (6144 + C.val) := by
  have ev : FfnBwd.valH u (ix2 R C) = at2 u R.val (6144 + C.val) := by
    rw [at2_of _ _ _ R.isLt (by omega)]
    unfold FfnBwd.valH
    pointwise
  refine Eq.trans ?_ (congrArg₂ (· * ·) (act_eq _) ev)
  show FfnBwd.convH u w b (ix2 R C) * FfnBwd.halfH (FfnBwd.tanhH (FfnBwd.convH u w b)) (ix2 R C) * FfnBwd.valH u (ix2 R C) = _
  rw [FfnBwd.halfH_apply]

theorem at_idx (c : Dev nD) (R : Fin 8192) (C : Fin 6144) : zV m c R.val C.val = lines (uA m c) (wA m c) (bA m c) (ix2 R C) := by
  refine Eq.trans ?_ (lines_apply _ _ _ R C).symm
  unfold zV
  rw [conv_eq, V_main_arg0]

theorem result (c : Dev nD) : (dats m 0 c).arrAt 4 cfg0.N = lines (uA m c) (wA m c) (bA m c) := by
  refine (array m c).trans (funext fun z => ?_)
  have ez : z = ix2 (z 0) (z 1) := by funext a; fin_cases a <;> rfl
  exact (at_idx m c (z 0) (z 1)).trans (congrArg _ ez.symm)

end Cert.FfnFwd

end
-- ==== Proof.FfnFwd.Claims.lean ====
/- The claims about the gated convolution. -/
module

public import proofs.«01_k».proof.Defs
public import proofs.«01_k».proof.Proof.FfnFwd.Value
public import proofs.«01_k».proof.Proof.Gen.Reference7Ideal.Run

@[expose] public section

set_option maxRecDepth 16384

noncomputable section

namespace Cert.FfnFwd

open Idealize.ShloMosaic Idealize.SL.Sem

section Reference
open Cert.Reference7Ideal Cert.Reference7Ideal.Gen
variable {F : FTy → Type} [FloatOps F]

theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v42) =
      lines (m ((c.tc : Thread nD τ).loc main_arg0)) (m ((c.tc : Thread nD τ).loc main_arg1)) (m ((c.tc : Thread nD τ).loc main_arg2))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1, (h c).2⟩) (Cert.Reference7Ideal.Value.run m ρ)

end Reference

theorem preserves : Cert.preserves_Kernel7_Kernel7Ideal := IdealRules.named_const.statement _ _ _ _ _ rfl

theorem frame_ref : Cert.quiescent_Reference7Ideal := fun m ρ _ =>
  (θ_run Cert.Reference7Ideal.defs _ _).mono
    (fun r h => ⟨fun c => (h c).2, Idealize.ShloMosaic.sem_eq_zero_of_no_sems (by decide) r.2⟩) (run_ref m ρ)

theorem algebraic : Cert.algebraic_Kernel7Ideal_Reference7Ideal := by
  intro m g m' g' _ hagree
  refine ⟨fun c => (Cert.Kernel7Ideal.Gen.dats m 0 c).arrAt 4 Cert.Kernel7Ideal.cfg0.N, ?_, ?_⟩
  · exact Cert.Kernel7Ideal.Value.run_blocks m g
  · refine (θ_run Cert.Reference7Ideal.defs _ _).mono (fun r h c => ?_) (run_ref m' g')
    obtain ⟨e0, e1, e2⟩ := hagree c
    refine ⟨(h c).1.trans ?_, (h c).2⟩
    rw [e0, e1, e2]
    exact (result m c).symm

end Cert.FfnFwd

end
-- ==== Proof.MergeFwd.Points.lean ====
/- What one grid point of the merge leaves: two products' blocks are held, and slab by slab both are gated and added. -/
module

public import proofs.«01_k».proof.Proof.Gen.Kernel8Ideal.Frame
public import proofs.«01_k».proof.Proof.MergeBwd.Points

@[expose] public section

set_option maxRecDepth 16384

noncomputable section

namespace Cert.MergeFwd

open Cert.Kernel8Ideal Cert.Kernel8Ideal.Gen Cert.RowNorm Cert.Slab
open Cert.MergeBwd (gate16 upR upC upR_le upC_le dpStores)
open Idealize.ShloMosaic Idealize.ShloMosaic.TcCoe Idealize.SL.Sem

variable {F : FTy → Type} [FloatOps F]

/-! ## One slab -/

/-- Two held products, each times its gate, added. -/
def both16 (p q l0 l1 : FVec F P16 .f32) (b0 b1 : FVec F P1 .f32) : FVec F P16 .bf16 :=
  truncf .bf16 (addf (mulf (gate16 l0 b0) p) (mulf (gate16 l1 b1) q)) (by decide)

/-- A slab of a held product, rounded. -/
def roundAt (p : Vec F (Q 512) .f32) (ro co : ℕ) (h0 : ro + 16 ≤ 512) (h1 : co + 512 ≤ 1024) : FVec F P16 .bf16 :=
  truncf .bf16 (View.ld p (slab ro co h0 h1)) (by decide)

/-- A slab of the merged rows. -/
def bothAt (p q l0 l1 : Vec F (Q 512) .f32) (b0 b1 : Vec F Q1 .f32) (ro co : ℕ) (h0 : ro + 16 ≤ 512) (h1 : co + 512 ≤ 1024) :
    FVec F P16 .bf16 :=
  both16 (View.ld p (slab ro co h0 h1)) (View.ld q (slab ro co h0 h1)) (View.ld l0 (slab ro co h0 h1)) (View.ld l1 (slab ro co h0 h1))
    (View.ld b0 (half co h1)) (View.ld b1 (half co h1))

variable (m : (ℓ : Loc nD τ sig) → Buf (Elt F) ℓ)

/-- The held products. -/
abbrev pm (c : Dev nD) (t : Fin cfg0.N) : Vec F S512x1024 .f32 := k0_pay2 (iblk m c 0 t) (iblk m c 2 t)
abbrev qm (c : Dev nD) (t : Fin cfg0.N) : Vec F S512x1024 .f32 := k0_pay3 (iblk m c 1 t) (iblk m c 3 t)

/-- Their stores, as a run of the body finds them. -/
abbrev pPiece (c : Dev nD) (t : Fin cfg0.N) : View.Piece (Elt F) (Q 512) .f32 :=
  ⟨Rect.unit ![0, 0] S512x1024.size inb_S512x1024_S512x1024_0_0, k0_pay2
    (View.readAt (Elt F) (ms0_0 t).view (Rect.unit ![0, 0] S512x1024.size inb_S512x1024_S512x1024_0_0).toLoadRect
      ((hs0_0 t).unread (iblk m c 0 t)))
    (View.readAt (Elt F) (ms0_2 t).view (Rect.unit ![0, 0] S1024x1024.size inb_S1024x1024_S1024x1024_0_0).toLoadRect
      ((hs0_2 t).unread (iblk m c 2 t)))⟩
abbrev qPiece (c : Dev nD) (t : Fin cfg0.N) : View.Piece (Elt F) (Q 512) .f32 :=
  ⟨Rect.unit ![0, 0] S512x1024.size inb_S512x1024_S512x1024_0_0, k0_pay3
    (View.readAt (Elt F) (ms0_1 t).view (Rect.unit ![0, 0] S512x2048.size inb_S512x2048_S512x2048_0_0).toLoadRect
      ((hs0_1 t).unread (iblk m c 1 t)))
    (View.readAt (Elt F) (ms0_3 t).view (Rect.unit ![0, 0] S2048x1024.size inb_S2048x1024_S2048x1024_0_0).toLoadRect
      ((hs0_3 t).unread (iblk m c 3 t)))⟩

theorem readCov_p (c : Dev nD) (t : Fin cfg0.N) (r : Rect (Q 512)) :
    View.readCov (Val := Elt F) scM0_0.view [pPiece m c t] r.toLoadRect = View.ld (pm m c t) r := by
  refine (View.readCov_fill _ _ _ _ r zero_off_apply).trans ?_
  refine congrArg (fun X => View.ld X r) ?_
  show k0_pay2 _ _ = k0_pay2 _ _
  rw [readAt_unread, readAt_unread, ld_zero, ld_zero]

theorem readCov_q (c : Dev nD) (t : Fin cfg0.N) (r : Rect (Q 512)) :
    View.readCov (Val := Elt F) scM0_1.view [qPiece m c t] r.toLoadRect = View.ld (qm m c t) r := by
  refine (View.readCov_fill _ _ _ _ r zero_off_apply).trans ?_
  refine congrArg (fun X => View.ld X r) ?_
  show k0_pay3 _ _ = k0_pay3 _ _
  rw [readAt_unread, readAt_unread, ld_zero, ld_zero]

/-- The slabs as a run of the body finds them. -/
def pFound (c : Dev nD) (t : Fin cfg0.N) (ro co : ℕ) (h0 : ro + 16 ≤ 512) (h1 : co + 512 ≤ 1024) : FVec F P16 .bf16 :=
  truncf .bf16 (View.readCov (Val := Elt F) scM0_0.view [pPiece m c t] (slab ro co h0 h1).toLoadRect : FVec F P16 .f32) (by decide)

def qFound (c : Dev nD) (t : Fin cfg0.N) (ro co : ℕ) (h0 : ro + 16 ≤ 512) (h1 : co + 512 ≤ 1024) : FVec F P16 .bf16 :=
  truncf .bf16 (View.readCov (Val := Elt F) scM0_1.view [qPiece m c t] (slab ro co h0 h1).toLoadRect : FVec F P16 .f32) (by decide)

def bothFound (c : Dev nD) (t : Fin cfg0.N) (ro co : ℕ) (h0 : ro + 16 ≤ 512) (h1 : co + 512 ≤ 1024) : FVec F P16 .bf16 :=
  both16 (View.readCov (Val := Elt F) scM0_0.view [pPiece m c t] (slab ro co h0 h1).toLoadRect)
    (View.readCov (Val := Elt F) scM0_1.view [qPiece m c t] (slab ro co h0 h1).toLoadRect)
    (View.readAt (Elt F) (ms0_4 t).view (slab ro co h0 h1).toLoadRect ((hs0_4 t).unread (iblk m c 4 t)))
    (View.readAt (Elt F) (ms0_5 t).view (slab ro co h0 h1).toLoadRect ((hs0_5 t).unread (iblk m c 5 t)))
    (View.readAt (Elt F) (ms0_6 t).view (half co h1).toLoadRect ((hs0_6 t).unread (iblk m c 6 t)))
    (View.readAt (Elt F) (ms0_7 t).view (half co h1).toLoadRect ((hs0_7 t).unread (iblk m c 7 t)))

theorem pFound_eq (c : Dev nD) (t : Fin cfg0.N) : pFound m c t = roundAt (pm m c t) := by
  funext ro co h0 h1
  unfold pFound roundAt
  rw [readCov_p]

theorem qFound_eq (c : Dev nD) (t : Fin cfg0.N) : qFound m c t = roundAt (qm m c t) := by
  funext ro co h0 h1
  unfold qFound roundAt
  rw [readCov_q]

theorem bothFound_eq (c : Dev nD) (t : Fin cfg0.N) :
    bothFound m c t = bothAt (pm m c t) (qm m c t) (iblk m c 4 t) (iblk m c 5 t) (iblk m c 6 t) (iblk m c 7 t) := by
  funext ro co h0 h1
  unfold bothFound bothAt
  rw [readCov_p, readCov_q, readAt_unread, readAt_unread, readAt_unread, readAt_unread]

set_option maxHeartbeats 1600000 in
/-- What every point leaves. -/
theorem outs (c : Dev nD) (t : Fin cfg0.N) :
    outsAt0 m c t =
      (View.canon (dpStores (roundAt (pm m c t))), View.canon (dpStores (roundAt (qm m c t))),
       View.canon (dpStores (bothAt (pm m c t) (qm m c t) (iblk m c 4 t) (iblk m c 5 t) (iblk m c 6 t) (iblk m c 7 t)))) := by
  unfold outsAt0 out0_A_8 out0_A_9 out0_A_10
  simp only [View.read_writes_junk_eq_canon, ← pFound_eq, ← qFound_eq, ← bothFound_eq]
  generalize hr : kernelRun0_A (F := F) _ _ _ _ _ _ _ _ _ _ _ _ _ _ _ _ _ _ _ _ _ _ _ _ _ _ _ _ _ _ _ _ _ _ _ _ = r
  have e1 : r.1 = dpStores (pFound m c t) := by subst hr; sl_kernel_rfl
  have e2 : r.2.1 = dpStores (qFound m c t) := by subst hr; sl_kernel_rfl
  have e3 : r.2.2.1 = dpStores (bothFound m c t) := by subst hr; sl_kernel_rfl
  clear hr
  obtain ⟨L8, L9, L10, hL⟩ := r
  dsimp only at e1 e2 e3 ⊢
  clear hL
  subst e1 e2 e3
  rfl

end Cert.MergeFwd

end
-- ==== Proof.MergeFwd.Value.lean ====
/- What the merge leaves after every point, as expressions over its arguments' elements, and the arrays of it. -/
module

public import proofs.«01_k».proof.Proof.MergeFwd.Points
public import proofs.«01_k».proof.Proof.MergeBwd.Reference
public import proofs.«01_k».proof.Proof.Gen.Kernel8Ideal.Value

@[expose] public section

set_option maxRecDepth 16384

noncomputable section

open scoped BigOperators

namespace Cert.MergeFwd

open Cert.Kernel8Ideal Cert.Kernel8Ideal.Gen Cert.RowNorm Cert.Sums Cert.Slab
open Cert.MergeBwd (gate16 upR upC upR_le upC_le dpStores dpStores_eq H H2 H1 HP HW A3 B3 gateH gateH_apply poolH lruH ext2)
open Idealize.ShloMosaic Idealize.ShloMosaic.TcCoe Idealize.SL.Sem

/-! ## One slab at an index -/

theorem roundAt_apply (p : Vec Ideal (Q 512) .f32) (ro co : ℕ) (h0 : ro + 16 ≤ 512) (h1 : co + 512 ≤ 1024) (x : Fin 16) (y : Fin 512) :
    roundAt p ro co h0 h1 (ix2 x y) = at2 p (ro + x.val) (co + y.val) := by
  rw [← ld_slab_f32 h0 h1]
  unfold roundAt
  pointwise

theorem bothAt_apply (p q l0 l1 : Vec Ideal (Q 512) .f32) (b0 b1 : Vec Ideal Q1 .f32) (ro co : ℕ) (h0 : ro + 16 ≤ 512)
    (h1 : co + 512 ≤ 1024) (x : Fin 16) (y : Fin 512) :
    bothAt p q l0 l1 b0 b1 ro co h0 h1 (ix2 x y) =
      Ideal.logistic (at2 l0 (ro + x.val) (co + y.val) + at2 b0 0 (co + y.val)) * at2 p (ro + x.val) (co + y.val)
        + Ideal.logistic (at2 l1 (ro + x.val) (co + y.val) + at2 b1 0 (co + y.val)) * at2 q (ro + x.val) (co + y.val) := by
  rw [← ld_slab_f32 h0 h1, ← ld_slab_f32 h0 h1, ← ld_slab_f32 h0 h1, ← ld_slab_f32 h0 h1, ← ld_half_f32 h1 b0 0 y,
    ← ld_half_f32 h1 b1 0 y]
  unfold bothAt both16 gate16
  pointwise

theorem pay2_apply (a : Vec Ideal S512x1024 .bf16) (w : Vec Ideal S1024x1024 .bf16) (r : Fin 512) (b : Fin 1024) :
    k0_pay2 (F := Ideal) a w (ix2 r b) = ∑ j : Fin 1024, a (ix2 r j) * w (ix2 j b) := by
  unfold k0_pay2
  pointwise

theorem pay3_apply (a : Vec Ideal S512x2048 .bf16) (w : Vec Ideal S2048x1024 .bf16) (r : Fin 512) (b : Fin 1024) :
    k0_pay3 (F := Ideal) a w (ix2 r b) = ∑ j : Fin 2048, a (ix2 r j) * w (ix2 j b) := by
  unfold k0_pay3
  pointwise

variable (m : (ℓ : Loc nD τ sig) → Buf (Elt Ideal) ℓ)

/-! ## The windows' blocks -/

theorem lt_N (t : Fin cfg0.N) : t.val < 32 := t.isLt

theorem at0' : ∀ t : Fin cfg0.N, win0_0.index t 0 = t.val % 16 ∧ win0_0.index t 1 = 0 := by decide +kernel
theorem at1' : ∀ t : Fin cfg0.N, win0_1.index t 0 = t.val % 16 ∧ win0_1.index t 1 = 0 := by decide +kernel
theorem at2' : ∀ t : Fin cfg0.N, win0_2.index t 0 = 0 ∧ win0_2.index t 1 = t.val / 16 := by decide +kernel
theorem at3' : ∀ t : Fin cfg0.N, win0_3.index t 0 = 0 ∧ win0_3.index t 1 = t.val / 16 := by decide +kernel
theorem at4' : ∀ t : Fin cfg0.N, win0_4.index t 0 = t.val % 16 ∧ win0_4.index t 1 = 5 + t.val / 16 := by decide +kernel
theorem at5' : ∀ t : Fin cfg0.N, win0_5.index t 0 = t.val % 16 ∧ win0_5.index t 1 = 7 + t.val / 16 := by decide +kernel
theorem at6' : ∀ t : Fin cfg0.N, win0_6.index t 0 = 0 ∧ win0_6.index t 1 = t.val / 16 := by decide +kernel
theorem at7' : ∀ t : Fin cfg0.N, win0_7.index t 0 = 0 ∧ win0_7.index t 1 = 2 + t.val / 16 := by decide +kernel
theorem at8' : ∀ t : Fin cfg0.N, win0_8.index t 0 = t.val % 16 ∧ win0_8.index t 1 = t.val / 16 := by decide +kernel
theorem at9' : ∀ t : Fin cfg0.N, win0_9.index t 0 = t.val % 16 ∧ win0_9.index t 1 = t.val / 16 := by decide +kernel
theorem at10' : ∀ t : Fin cfg0.N, win0_10.index t 0 = t.val % 16 ∧ win0_10.index t 1 = t.val / 16 := by decide +kernel

/-- A block read at an index is the array read where the window's index map puts it. -/
theorem iblk0 (c : Dev nD) (t : Fin cfg0.N) (r : Fin 512) (j : Fin 1024) :
    (iblk m c 0 t : Vec Ideal S512x1024 .bf16) (ix2 r j) = at2 (V m c main_arg0) (512 * (t.val % 16) + r.val) (j.val) := by
  have ht := lt_N t
  rw [at2_of _ _ _ (by omega) (by omega)]
  unfold iblk
  rw [View.read_apply]
  show V m c main_arg0 _ = V m c main_arg0 _
  refine congrArg _ (funext fun a => Fin.ext ?_)
  match a with
  | ⟨0, _⟩ => show win0_0.index t 0 * 512 + 1 * r.val = 512 * (t.val % 16) + r.val; rw [(at0' t).1]; omega
  | ⟨1, _⟩ => show win0_0.index t 1 * 1024 + 1 * j.val = j.val; rw [(at0' t).2]; omega

theorem iblk1 (c : Dev nD) (t : Fin cfg0.N) (r : Fin 512) (j : Fin 2048) :
    (iblk m c 1 t : Vec Ideal S512x2048 .bf16) (ix2 r j) = at2 (V m c main_arg1) (512 * (t.val % 16) + r.val) (j.val) := by
  have ht := lt_N t
  rw [at2_of _ _ _ (by omega) (by omega)]
  unfold iblk
  rw [View.read_apply]
  show V m c main_arg1 _ = V m c main_arg1 _
  refine congrArg _ (funext fun a => Fin.ext ?_)
  match a with
  | ⟨0, _⟩ => show win0_1.index t 0 * 512 + 1 * r.val = 512 * (t.val % 16) + r.val; rw [(at1' t).1]; omega
  | ⟨1, _⟩ => show win0_1.index t 1 * 2048 + 1 * j.val = j.val; rw [(at1' t).2]; omega

theorem iblk2 (c : Dev nD) (t : Fin cfg0.N) (r : Fin 1024) (j : Fin 1024) :
    (iblk m c 2 t : Vec Ideal S1024x1024 .bf16) (ix2 r j) = at2 (V m c main_v0) (r.val) (1024 * (t.val / 16) + j.val) := by
  have ht := lt_N t
  rw [at2_of _ _ _ (by omega) (by omega)]
  unfold iblk
  rw [View.read_apply]
  show V m c main_v0 _ = V m c main_v0 _
  refine congrArg _ (funext fun a => Fin.ext ?_)
  match a with
  | ⟨0, _⟩ => show win0_2.index t 0 * 1024 + 1 * r.val = r.val; rw [(at2' t).1]; omega
  | ⟨1, _⟩ => show win0_2.index t 1 * 1024 + 1 * j.val = 1024 * (t.val / 16) + j.val; rw [(at2' t).2]; omega

theorem iblk3 (c : Dev nD) (t : Fin cfg0.N) (r : Fin 2048) (j : Fin 1024) :
    (iblk m c 3 t : Vec Ideal S2048x1024 .bf16) (ix2 r j) = at2 (V m c main_v1) (r.val) (1024 * (t.val / 16) + j.val) := by
  have ht := lt_N t
  rw [at2_of _ _ _ (by omega) (by omega)]
  unfold iblk
  rw [View.read_apply]
  show V m c main_v1 _ = V m c main_v1 _
  refine congrArg _ (funext fun a => Fin.ext ?_)
  match a with
  | ⟨0, _⟩ => show win0_3.index t 0 * 2048 + 1 * r.val = r.val; rw [(at3' t).1]; omega
  | ⟨1, _⟩ => show win0_3.index t 1 * 1024 + 1 * j.val = 1024 * (t.val / 16) + j.val; rw [(at3' t).2]; omega

theorem iblk4 (c : Dev nD) (t : Fin cfg0.N) (r : Fin 512) (j : Fin 1024) :
    (iblk m c 4 t : Vec Ideal S512x1024 .f32) (ix2 r j) = at2 (V m c main_arg4) (512 * (t.val % 16) + r.val) (1024 * (5 + t.val / 16) + j.val) := by
  have ht := lt_N t
  rw [at2_of _ _ _ (by omega) (by omega)]
  unfold iblk
  rw [View.read_apply]
  show V m c main_arg4 _ = V m c main_arg4 _
  refine congrArg _ (funext fun a => Fin.ext ?_)
  match a with
  | ⟨0, _⟩ => show win0_4.index t 0 * 512 + 1 * r.val = 512 * (t.val % 16) + r.val; rw [(at4' t).1]; omega
  | ⟨1, _⟩ => show win0_4.index t 1 * 1024 + 1 * j.val = 1024 * (5 + t.val / 16) + j.val; rw [(at4' t).2]; omega

theorem iblk5 (c : Dev nD) (t : Fin cfg0.N) (r : Fin 512) (j : Fin 1024) :
    (iblk m c 5 t : Vec Ideal S512x1024 .f32) (ix2 r j) = at2 (V m c main_arg4) (512 * (t.val % 16) + r.val) (1024 * (7 + t.val / 16) + j.val) := by
  have ht := lt_N t
  rw [at2_of _ _ _ (by omega) (by omega)]
  unfold iblk
  rw [View.read_apply]
  show V m c main_arg4 _ = V m c main_arg4 _
  refine congrArg _ (funext fun a => Fin.ext ?_)
  match a with
  | ⟨0, _⟩ => show win0_5.index t 0 * 512 + 1 * r.val = 512 * (t.val % 16) + r.val; rw [(at5' t).1]; omega
  | ⟨1, _⟩ => show win0_5.index t 1 * 1024 + 1 * j.val = 1024 * (7 + t.val / 16) + j.val; rw [(at5' t).2]; omega

theorem iblk6 (c : Dev nD) (t : Fin cfg0.N) (j : Fin 1024) :
    (iblk m c 6 t : Vec Ideal S1x1024 .f32) (ix2 0 j) = at2 (V m c main_arg5) (0) (1024 * (t.val / 16) + j.val) := by
  have ht := lt_N t
  rw [at2_of _ _ _ (by omega) (by omega)]
  unfold iblk
  rw [View.read_apply]
  show V m c main_arg5 _ = V m c main_arg5 _
  refine congrArg _ (funext fun a => Fin.ext ?_)
  match a with
  | ⟨0, _⟩ => show win0_6.index t 0 * 1 + 1 * 0 = 0; rw [(at6' t).1]
  | ⟨1, _⟩ => show win0_6.index t 1 * 1024 + 1 * j.val = 1024 * (t.val / 16) + j.val; rw [(at6' t).2]; omega

theorem iblk7 (c : Dev nD) (t : Fin cfg0.N) (j : Fin 1024) :
    (iblk m c 7 t : Vec Ideal S1x1024 .f32) (ix2 0 j) = at2 (V m c main_arg5) (0) (1024 * (2 + t.val / 16) + j.val) := by
  have ht := lt_N t
  rw [at2_of _ _ _ (by omega) (by omega)]
  unfold iblk
  rw [View.read_apply]
  show V m c main_arg5 _ = V m c main_arg5 _
  refine congrArg _ (funext fun a => Fin.ext ?_)
  match a with
  | ⟨0, _⟩ => show win0_7.index t 0 * 1 + 1 * 0 = 0; rw [(at7' t).1]
  | ⟨1, _⟩ => show win0_7.index t 1 * 1024 + 1 * j.val = 1024 * (2 + t.val / 16) + j.val; rw [(at7' t).2]; omega

/-! ## The values -/

/-- The two products in row `R` and column `C`. -/
def pV (c : Dev nD) (R C : ℕ) : EReal := ∑ j : Fin 1024, at2 (V m c main_arg0) R j.val * at2 (V m c main_v0) j.val C
def qV (c : Dev nD) (R C : ℕ) : EReal := ∑ j : Fin 2048, at2 (V m c main_arg1) R j.val * at2 (V m c main_v1) j.val C

/-- The gate whose logits start at column `5120 + o`. -/
def gate (c : Dev nD) (o R C : ℕ) : EReal :=
  Ideal.logistic (at2 (V m c main_arg4) R (5120 + o + C) + at2 (V m c main_arg5) 0 (o + C))

/-- The merged rows. -/
def bothV (c : Dev nD) (R C : ℕ) : EReal := gate m c 0 R C * pV m c R C + gate m c 2048 R C * qV m c R C

theorem pm_apply (c : Dev nD) (t : Fin cfg0.N) (r b : ℕ) (hr : r < 512) (hb : b < 1024) :
    at2 (pm m c t) r b = pV m c (512 * (t.val % 16) + r) (1024 * (t.val / 16) + b) := by
  rw [at2_of _ _ _ hr hb]
  refine (pay2_apply _ _ _ _).trans ?_
  unfold pV
  refine Finset.sum_congr rfl fun j _ => ?_
  rw [iblk0, iblk2]

theorem qm_apply (c : Dev nD) (t : Fin cfg0.N) (r b : ℕ) (hr : r < 512) (hb : b < 1024) :
    at2 (qm m c t) r b = qV m c (512 * (t.val % 16) + r) (1024 * (t.val / 16) + b) := by
  rw [at2_of _ _ _ hr hb]
  refine (pay3_apply _ _ _ _).trans ?_
  unfold qV
  refine Finset.sum_congr rfl fun j _ => ?_
  rw [iblk1, iblk3]

theorem gate0_apply (c : Dev nD) (t : Fin cfg0.N) (r b : ℕ) (hr : r < 512) (hb : b < 1024) :
    Ideal.logistic (at2 (n0 := 512) (n1 := 1024) (iblk m c 4 t) r b + at2 (n0 := 1) (n1 := 1024) (iblk m c 6 t) 0 b) =
      gate m c 0 (512 * (t.val % 16) + r) (1024 * (t.val / 16) + b) := by
  rw [at2_of _ _ _ hr hb, at2_of _ _ _ (by decide) hb]
  refine congrArg Ideal.logistic (congrArg₂ (· + ·) ((iblk4 m c t ⟨r, hr⟩ ⟨b, hb⟩).trans ?_) ((iblk6 m c t ⟨b, hb⟩).trans ?_))
  · exact congrArg (at2 _ _) (by show 1024 * (5 + t.val / 16) + b = 5120 + 0 + (1024 * (t.val / 16) + b); omega)
  · exact congrArg (at2 _ _) (by show 1024 * (t.val / 16) + b = 0 + (1024 * (t.val / 16) + b); omega)

theorem gate1_apply (c : Dev nD) (t : Fin cfg0.N) (r b : ℕ) (hr : r < 512) (hb : b < 1024) :
    Ideal.logistic (at2 (n0 := 512) (n1 := 1024) (iblk m c 5 t) r b + at2 (n0 := 1) (n1 := 1024) (iblk m c 7 t) 0 b) =
      gate m c 2048 (512 * (t.val % 16) + r) (1024 * (t.val / 16) + b) := by
  rw [at2_of _ _ _ hr hb, at2_of _ _ _ (by decide) hb]
  refine congrArg Ideal.logistic (congrArg₂ (· + ·) ((iblk5 m c t ⟨r, hr⟩ ⟨b, hb⟩).trans ?_) ((iblk7 m c t ⟨b, hb⟩).trans ?_))
  · exact congrArg (at2 _ _) (by show 1024 * (7 + t.val / 16) + b = 5120 + 2048 + (1024 * (t.val / 16) + b); omega)
  · exact congrArg (at2 _ _) (by show 1024 * (2 + t.val / 16) + b = 2048 + (1024 * (t.val / 16) + b); omega)

theorem both_eq (c : Dev nD) (t : Fin cfg0.N) (ro co h0 h1) (x : Fin 16) (y : Fin 512) :
    bothAt (pm m c t) (qm m c t) (iblk m c 4 t) (iblk m c 5 t) (iblk m c 6 t) (iblk m c 7 t) ro co h0 h1 (ix2 x y) =
      bothV m c (512 * (t.val % 16) + (ro + x.val)) (1024 * (t.val / 16) + (co + y.val)) := by
  rw [bothAt_apply, pm_apply _ _ _ _ _ (by omega) (by omega), qm_apply _ _ _ _ _ (by omega) (by omega)]
  exact congrArg₂ (· + ·) (congrArg (· * _) (gate0_apply m c t _ _ (by omega) (by omega)))
    (congrArg (· * _) (gate1_apply m c t _ _ (by omega) (by omega)))

/-! ## What the points leave, and the arrays after the run -/

theorem outs_p (c : Dev nD) (t : Fin cfg0.N) : (outsAt0 m c t).1 = View.canon (dpStores (roundAt (pm m c t))) := by
  rw [outs]

theorem p_block (c : Dev nD) (t : Fin cfg0.N) :
    (outsAt0 m c t).1 = fun y : (Q 512).Idx => pV m c (512 * (t.val % 16) + (y 0).val) (1024 * (t.val / 16) + (y 1).val) := by
  rw [outs_p]
  exact dpStores_eq _ (fun r b => pV m c (512 * (t.val % 16) + r) (1024 * (t.val / 16) + b))
    (fun ro co h0 h1 x y => (roundAt_apply _ ro co h0 h1 x y).trans (pm_apply m c t _ _ (by omega) (by omega)))

theorem p_array (c : Dev nD) : (dats m 0 c).arrAt 8 cfg0.N = fun z : H.Idx => pV m c (z 0).val (z 1).val := by
  refine (dats m 0 c).arrAt_eq_of_covers 8 _ (by decide +kernel) fun t hf y => ?_
  blk_simp
  rw [after0_8, p_block]
  refine congrArg₂ (pV m c) ?_ ?_
  · rw [(at8' t).1]; show 512 * _ + _ = _ * 512 + _; omega
  · rw [(at8' t).2]; show 1024 * _ + _ = _ * 1024 + _; omega

theorem outs_q (c : Dev nD) (t : Fin cfg0.N) : (outsAt0 m c t).2.1 = View.canon (dpStores (roundAt (qm m c t))) := by
  rw [outs]

theorem q_block (c : Dev nD) (t : Fin cfg0.N) :
    (outsAt0 m c t).2.1 = fun y : (Q 512).Idx => qV m c (512 * (t.val % 16) + (y 0).val) (1024 * (t.val / 16) + (y 1).val) := by
  rw [outs_q]
  exact dpStores_eq _ (fun r b => qV m c (512 * (t.val % 16) + r) (1024 * (t.val / 16) + b))
    (fun ro co h0 h1 x y => (roundAt_apply _ ro co h0 h1 x y).trans (qm_apply m c t _ _ (by omega) (by omega)))

theorem q_array (c : Dev nD) : (dats m 0 c).arrAt 9 cfg0.N = fun z : H.Idx => qV m c (z 0).val (z 1).val := by
  refine (dats m 0 c).arrAt_eq_of_covers 9 _ (by decide +kernel) fun t hf y => ?_
  blk_simp
  rw [after0_9, q_block]
  refine congrArg₂ (qV m c) ?_ ?_
  · rw [(at9' t).1]; show 512 * _ + _ = _ * 512 + _; omega
  · rw [(at9' t).2]; show 1024 * _ + _ = _ * 1024 + _; omega

theorem outs_both (c : Dev nD) (t : Fin cfg0.N) : (outsAt0 m c t).2.2 = View.canon (dpStores (bothAt (pm m c t) (qm m c t) (iblk m c 4 t) (iblk m c 5 t) (iblk m c 6 t) (iblk m c 7 t))) := by
  rw [outs]

theorem both_block (c : Dev nD) (t : Fin cfg0.N) :
    (outsAt0 m c t).2.2 = fun y : (Q 512).Idx => bothV m c (512 * (t.val % 16) + (y 0).val) (1024 * (t.val / 16) + (y 1).val) := by
  rw [outs_both]
  exact dpStores_eq _ (fun r b => bothV m c (512 * (t.val % 16) + r) (1024 * (t.val / 16) + b))
    (both_eq m c t)

theorem both_array (c : Dev nD) : (dats m 0 c).arrAt 10 cfg0.N = fun z : H.Idx => bothV m c (z 0).val (z 1).val := by
  refine (dats m 0 c).arrAt_eq_of_covers 10 _ (by decide +kernel) fun t hf y => ?_
  blk_simp
  rw [after0_10, both_block]
  refine congrArg₂ (bothV m c) ?_ ?_
  · rw [(at10' t).1]; show 512 * _ + _ = _ * 512 + _; omega
  · rw [(at10' t).2]; show 1024 * _ + _ = _ * 1024 + _; omega

/-! ## The reference's lines -/

section Lines
variable {F : FTy → Type} [FloatOps F]

/-- A product of the model's width, rounded. -/
def roundH (p : FVec F H .f32) : FVec F H .bf16 := truncf .bf16 p (by decide)

/-- Both products, each times its gate, added. -/
def bothH (g : FVec F H2 .f32) (p q : FVec F H .f32) : FVec F H .bf16 :=
  truncf .bf16 (addf (mulf (shapeCast H (extractStridedSlice B3 ![0, 0, 0] (shapeCast A3 g (by decide)) (by decide)) (by decide)) p)
    (mulf (shapeCast H (extractStridedSlice B3 ![0, 1, 0] (shapeCast A3 g (by decide)) (by decide)) (by decide)) q)) (by decide)

end Lines

theorem bothH_apply (g : FVec Ideal H2 .f32) (p q : FVec Ideal H .f32) (R : Fin 8192) (b : Fin 2048) :
    bothH g p q (ix2 R b) = g (ix2 R (⟨b.val, by omega⟩ : Fin 4096)) * p (ix2 R b)
      + g (ix2 R (⟨2048 + b.val, by omega⟩ : Fin 4096)) * q (ix2 R b) := by
  unfold bothH
  pointwise

theorem poolH_apply (x : FVec Ideal ⟨2, ![8192, 1024]⟩ .bf16) (w : FVec Ideal ⟨2, ![1024, 2048]⟩ .f32) (R : Fin 8192) (b : Fin 2048) :
    poolH x w (ix2 R b) = ∑ j : Fin 1024, x (ix2 R j) * w (ix2 j b) := by
  unfold poolH
  pointwise

theorem lruH_apply (x : FVec Ideal H .bf16) (w : FVec Ideal HW .f32) (R : Fin 8192) (b : Fin 2048) :
    lruH x w (ix2 R b) = ∑ j : Fin 2048, x (ix2 R j) * w (ix2 j b) := by
  unfold lruH
  pointwise

/-- The gates and the products of the kernel's arguments. -/
abbrev gK (c : Dev nD) : FVec Ideal H2 .f32 := gateH (m ((c : Thread nD τ).loc main_arg4)) (m ((c : Thread nD τ).loc main_arg5))
abbrev pK (c : Dev nD) : FVec Ideal H .f32 := poolH (m ((c : Thread nD τ).loc main_arg0)) (m ((c : Thread nD τ).loc main_arg2))
abbrev qK (c : Dev nD) : FVec Ideal H .f32 := lruH (m ((c : Thread nD τ).loc main_arg1)) (m ((c : Thread nD τ).loc main_arg3))

theorem V0 (c : Dev nD) : (V m c main_v0 : (⟨2, ![1024, 2048]⟩ : Shape).Idx → EReal) = m ((c : Thread nD τ).loc main_arg2) := by
  unfold V
  after_results_simp <;> rfl

theorem V1 (c : Dev nD) : (V m c main_v1 : HW.Idx → EReal) = m ((c : Thread nD τ).loc main_arg3) := by
  unfold V
  after_results_simp <;> rfl

theorem p_eq (c : Dev nD) (R : Fin 8192) (b : Fin 2048) : pV m c R.val b.val = pK m c (ix2 R b) := by
  refine Eq.trans ?_ (poolH_apply _ _ R b).symm
  unfold pV
  refine Finset.sum_congr rfl fun j _ => ?_
  rw [at2_fin, at2_fin, V0, V_main_arg0]

theorem q_eq (c : Dev nD) (R : Fin 8192) (b : Fin 2048) : qV m c R.val b.val = qK m c (ix2 R b) := by
  refine Eq.trans ?_ (lruH_apply _ _ R b).symm
  unfold qV
  refine Finset.sum_congr rfl fun j _ => ?_
  rw [at2_fin, at2_fin, V1, V_main_arg1]

theorem gate0_eq (c : Dev nD) (R : Fin 8192) (b : Fin 2048) : gate m c 0 R.val b.val = gK m c (ix2 R (⟨b.val, by omega⟩ : Fin 4096)) := by
  refine Eq.trans ?_ (gateH_apply _ _ R _).symm
  unfold gate
  rw [at2_of _ _ _ R.isLt (by omega), at2_of _ _ _ (by decide) (by omega), V_main_arg4, V_main_arg5]
  refine congrArg Ideal.logistic (congrArg₂ (· + ·) (congrArg _ (congrArg (ix2 R) (Fin.ext ?_))) (congrArg _ (congrArg (ix2 0) (Fin.ext ?_))))
  · show 5120 + 0 + b.val = 5120 + b.val; omega
  · show 0 + b.val = b.val; omega

theorem gate1_eq (c : Dev nD) (R : Fin 8192) (b : Fin 2048) :
    gate m c 2048 R.val b.val = gK m c (ix2 R (⟨2048 + b.val, by omega⟩ : Fin 4096)) := by
  refine Eq.trans ?_ (gateH_apply _ _ R _).symm
  unfold gate
  rw [at2_of _ _ _ R.isLt (by omega), at2_of _ _ _ (by decide) (by omega), V_main_arg4, V_main_arg5]
  refine congrArg Ideal.logistic (congrArg (· + _) (congrArg _ (congrArg (ix2 R) (Fin.ext ?_))))
  show 5120 + 2048 + b.val = 5120 + (2048 + b.val); omega

theorem p_ref (c : Dev nD) : (dats m 0 c).arrAt 8 cfg0.N = roundH (pK m c) :=
  (p_array m c).trans (ext2 (f := pV m c) (p_eq m c))

theorem q_ref (c : Dev nD) : (dats m 0 c).arrAt 9 cfg0.N = roundH (qK m c) :=
  (q_array m c).trans (ext2 (f := qV m c) (q_eq m c))

theorem both_ref (c : Dev nD) : (dats m 0 c).arrAt 10 cfg0.N = bothH (gK m c) (pK m c) (qK m c) := by
  refine (both_array m c).trans (ext2 (f := bothV m c) fun R b => Eq.trans ?_ (bothH_apply _ _ _ R b).symm)
  unfold bothV
  rw [gate0_eq, gate1_eq, p_eq, q_eq]

end Cert.MergeFwd

end
-- ==== Proof.MergeFwd.Claims.lean ====
/- The claims about the merge. -/
module

public import proofs.«01_k».proof.Defs
public import proofs.«01_k».proof.Proof.MergeFwd.Value
public import proofs.«01_k».proof.Proof.Gen.Reference8Ideal.Run

@[expose] public section

noncomputable section

namespace Cert.MergeFwd

open Idealize.ShloMosaic Idealize.SL.Sem
open Cert.MergeBwd (gateH poolH lruH)

section Reference
open Cert.Reference8Ideal Cert.Reference8Ideal.Gen
variable {F : FTy → Type} [FloatOps F]

/-- The reference's results. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v5) = roundH (poolH (m ((c.tc : Thread nD τ).loc main_arg0)) (m ((c.tc : Thread nD τ).loc main_arg2)))
    ∧ r.2.mem ((c.tc : Thread nD τ).loc main_v6) = roundH (lruH (m ((c.tc : Thread nD τ).loc main_arg1)) (m ((c.tc : Thread nD τ).loc main_arg3)))
    ∧ r.2.mem ((c.tc : Thread nD τ).loc main_v25) = bothH
        (gateH (m ((c.tc : Thread nD τ).loc main_arg4)) (m ((c.tc : Thread nD τ).loc main_arg5)))
        (poolH (m ((c.tc : Thread nD τ).loc main_arg0)) (m ((c.tc : Thread nD τ).loc main_arg2)))
        (lruH (m ((c.tc : Thread nD τ).loc main_arg1)) (m ((c.tc : Thread nD τ).loc main_arg3)))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1, (h c).2.1, (h c).2.2.1, (h c).2.2.2⟩) (Cert.Reference8Ideal.Value.run m ρ)

end Reference

theorem frame_ref : Cert.quiescent_Reference8Ideal := fun m ρ _ =>
  (θ_run Cert.Reference8Ideal.defs _ _).mono
    (fun r h => ⟨fun c => (h c).2.2.2, Idealize.ShloMosaic.sem_eq_zero_of_no_sems (by decide) r.2⟩) (run_ref m ρ)

theorem algebraic : Cert.algebraic_Kernel8Ideal_Reference8Ideal := by
  intro m g m' g' _ hagree
  refine ⟨fun c => (Cert.Kernel8Ideal.Gen.dats m 0 c).arrAt 8 Cert.Kernel8Ideal.cfg0.N,
    fun c => (Cert.Kernel8Ideal.Gen.dats m 0 c).arrAt 9 Cert.Kernel8Ideal.cfg0.N,
    fun c => (Cert.Kernel8Ideal.Gen.dats m 0 c).arrAt 10 Cert.Kernel8Ideal.cfg0.N, ?_, ?_⟩
  · exact Cert.Kernel8Ideal.Value.run_blocks m g
  · refine (θ_run Cert.Reference8Ideal.defs _ _).mono (fun r h c => ?_) (run_ref m' g')
    obtain ⟨e0, e1, e2, e3, e4, e5⟩ := hagree c
    refine ⟨(h c).1.trans ?_, (h c).2.1.trans ?_, (h c).2.2.1.trans ?_, (h c).2.2.2⟩
    · rw [e0, e2]; exact (p_ref m c).symm
    · rw [e1, e3]; exact (q_ref m c).symm
    · rw [e0, e1, e2, e3, e4, e5]; exact (both_ref m c).symm

end Cert.MergeFwd

end
-- ==== Proof.Norm.Scaled.lean ====
/- The root-mean-square norm of a block of rows, sixteen rows and 512 columns at a time. -/
module

public import proofs.«01_k».proof.Proof.Norm.Host
public import proofs.«01_k».proof.Proof.Slab.Basic

@[expose] public section

noncomputable section

open scoped BigOperators

namespace Cert.RowNorm

open Cert.Slab Cert.Sums
open Idealize.ShloMosaic

/-- Sixteen whole rows, and one number for each. -/
abbrev W16 : Shape := ⟨2, ![16, 2048]⟩
abbrev W16x1 : Shape := ⟨2, ![16, 1]⟩

theorem inbRows {ro : ℕ} (h0 : ro + 16 ≤ 512) : ∀ a, (![ro, 0] : Fin 2 → ℕ) a + W16.size a ≤ C512.size a := by
  intro a; fin_cases a
  · exact h0
  · show 0 + 2048 ≤ 2048; omega

theorem inbTile {ro co : ℕ} (h0 : ro + 16 ≤ 512) (h1 : co + 512 ≤ 2048) :
    ∀ a, (![ro, co] : Fin 2 → ℕ) a + P16.size a ≤ C512.size a := by
  intro a; fin_cases a
  · exact h0
  · exact h1

theorem inbPart {co : ℕ} (h1 : co + 512 ≤ 2048) : ∀ a, (![0, co] : Fin 2 → ℕ) a + P1.size a ≤ C1.size a := by
  intro a; fin_cases a
  · show 0 + 1 ≤ 1; omega
  · exact h1

/-- Sixteen rows of a block, 512 of their columns, and the same columns of one row. -/
abbrev rows (ro : ℕ) (h0 : ro + 16 ≤ 512) : Rect C512 := Rect.unit (s := C512) ![ro, 0] W16.size (inbRows h0)
abbrev tile (ro co : ℕ) (h0 : ro + 16 ≤ 512) (h1 : co + 512 ≤ 2048) : Rect C512 := Rect.unit (s := C512) ![ro, co] P16.size (inbTile h0 h1)
abbrev part (co : ℕ) (h1 : co + 512 ≤ 2048) : Rect C1 := Rect.unit (s := C1) ![0, co] P1.size (inbPart h1)

/-- Tile `k` from the end: its first row and its first column. -/
abbrev endR (k : Fin 128) : ℕ := 16 * (31 - k.val / 4)
abbrev endC (k : Fin 128) : ℕ := 512 * (3 - k.val % 4)

theorem endR_le (k : Fin 128) : endR k + 16 ≤ 512 := by show 16 * (31 - k.val / 4) + 16 ≤ 512; omega
theorem endC_le (k : Fin 128) : endC k + 512 ≤ 2048 := by show 512 * (3 - k.val % 4) + 512 ≤ 2048; omega

section Body
variable {F : FTy → Type} [FloatOps F]

/-- The reciprocal root of sixteen rows' mean squares. -/
def rinv16 (x : FVec F W16 .f32) : FVec F W16x1 .f32 :=
  rsqrt (addf (divf (shapeCast W16x1 (multiReduction .add [1] ⟨1, ![16]⟩ (mulf x x) 0x00000000#32 (by decide) (.inl rfl) rfl) (by decide))
    (broadcast W16x1 (Scalar.ofBits .f32 0x45000000#32))) (broadcast W16x1 (Scalar.ofBits .f32 0x358637BD#32)))

/-- A tile of the normed rows: of the whole rows, the tile's own columns and those of the scale. -/
def scaled16 (x : FVec F W16 .f32) (y : FVec F P16 .f32) (g : FVec F P1 .f32) : FVec F P16 .bf16 :=
  truncf .bf16 (mulf (mulf (shapeCast P16 y (by decide)) (broadcastTo P16 (rinv16 (shapeCast W16 x (by decide))) (by decide)))
    (broadcastTo P16 g (by decide))) (by decide)

/-- A tile of a block's normed rows. -/
def scaledAt (x : Vec F C512 .f32) (g : Vec F C1 .f32) (ro co : ℕ) (h0 : ro + 16 ≤ 512) (h1 : co + 512 ≤ 2048) : FVec F P16 .bf16 :=
  scaled16 (View.ld x (rows ro h0)) (View.ld x (tile ro co h0 h1)) (View.ld g (part co h1))

/-- The stores of all the tiles, the last first. -/
abbrev tileStores (f : (ro co : ℕ) → ro + 16 ≤ 512 → co + 512 ≤ 2048 → FVec F P16 .bf16) : List (View.Piece (Elt F) C512 .bf16) :=
  List.ofFn fun k : Fin 128 => ⟨tile (endR k) (endC k) (endR_le k) (endC_le k), f (endR k) (endC k) (endR_le k) (endC_le k)⟩

end Body

theorem ld_rows {ro : ℕ} (h0 : ro + 16 ≤ 512) (X : Vec Ideal C512 .f32) (a : Fin 16) (b : Fin 2048) :
    (View.ld X (rows ro h0) : FVec Ideal W16 .f32) (ix2 a b) = at2 X (ro + a.val) b.val := by
  rw [at2_of _ _ _ (by omega) b.isLt, View.ld_apply]
  refine congrArg X (funext fun i => Fin.ext ?_)
  match i with
  | ⟨0, _⟩ => show ro + 1 * a.val = ro + a.val; omega
  | ⟨1, _⟩ => show 0 + 1 * b.val = b.val; omega

theorem ld_tile {ro co : ℕ} (h0 : ro + 16 ≤ 512) (h1 : co + 512 ≤ 2048) (X : Vec Ideal C512 .f32) (a : Fin 16) (b : Fin 512) :
    (View.ld X (tile ro co h0 h1) : FVec Ideal P16 .f32) (ix2 a b) = at2 X (ro + a.val) (co + b.val) := by
  rw [at2_of _ _ _ (by omega) (by omega), View.ld_apply]
  refine congrArg X (funext fun i => Fin.ext ?_)
  match i with
  | ⟨0, _⟩ => show ro + 1 * a.val = ro + a.val; omega
  | ⟨1, _⟩ => show co + 1 * b.val = co + b.val; omega

theorem ld_part {co : ℕ} (h1 : co + 512 ≤ 2048) (X : Vec Ideal C1 .f32) (b : Fin 512) :
    (View.ld X (part co h1) : FVec Ideal P1 .f32) (ix2 0 b) = at2 X 0 (co + b.val) := by
  rw [at2_of _ _ _ (by decide) (by omega), View.ld_apply]
  refine congrArg X (funext fun i => Fin.ext ?_)
  match i with
  | ⟨0, _⟩ => rfl
  | ⟨1, _⟩ => show co + 1 * b.val = co + b.val; omega

theorem rinv16_apply (x : FVec Ideal W16 .f32) (a : Fin 16) (b : Fin 1) : rinv16 x (ix2 a b) = rinv fun j => x (ix2 a j) := by
  unfold rinv16 rinv msq
  pointwise

/-- A normed row times the scale, at a column. -/
def scaledRow (x : Fin 2048 → EReal) (g : EReal) (v : EReal) : EReal := v * rinv x * g

theorem scaledAt_apply (x : Vec Ideal C512 .f32) (g : Vec Ideal C1 .f32) (ro co : ℕ) (h0 : ro + 16 ≤ 512) (h1 : co + 512 ≤ 2048)
    (a : Fin 16) (b : Fin 512) :
    scaledAt x g ro co h0 h1 (ix2 a b) =
      scaledRow (fun j => at2 x (ro + a.val) j.val) (at2 g 0 (co + b.val)) (at2 x (ro + a.val) (co + b.val)) := by
  simp only [← ld_rows h0]
  rw [← ld_tile h0 h1, ← ld_part h1]
  unfold scaledAt scaled16 scaledRow
  pointwise [rinv16_apply]

/-- Stores of tiles that meet every element of the rows. -/
theorem canon_tiles {Val : EltTy → Type} [∀ e, Nonempty (Val e)] {e : EltTy} {N : ℕ} (ro co : Fin N → ℕ) (h0 : ∀ k, ro k + 16 ≤ 512) (h1 : ∀ k, co k + 512 ≤ 2048)
    (hcov : ∀ i j : ℕ, i < 512 → j < 2048 → ∃ k, (ro k ≤ i ∧ i < ro k + 16) ∧ co k ≤ j ∧ j < co k + 512)
    (P : Fin N → P16.Idx → Val e) (G : ℕ → ℕ → Val e)
    (h : ∀ (k : Fin N) (a : Fin 16) (b : Fin 512), P k (ix2 a b) = G (ro k + a.val) (co k + b.val)) :
    View.canon (List.ofFn fun k : Fin N => (⟨tile (ro k) (co k) (h0 k) (h1 k), P k⟩ : View.Piece Val C512 e)) =
      fun y : C512.Idx => G (y 0).val (y 1).val := by
  funext y
  refine View.canon_ofFn_unit_eq_of_forall (S := C512) (fun k : Fin N => ![ro k, co k]) P16.size
    (fun k => inbTile (h0 k) (h1 k)) P y (G (y 0).val (y 1).val) ?_ ?_
  · obtain ⟨k, hr, hc⟩ := hcov (y 0).val (y 1).val (y 0).isLt (y 1).isLt
    refine ⟨k, fun a => ?_⟩
    fin_cases a
    · exact hr
    · exact hc
  · intro k x hx
    have ex : x = ix2 (x 0) (x 1) := by funext a; fin_cases a <;> rfl
    rw [ex]
    refine (h k (x 0) (x 1)).trans (congrArg₂ G ?_ ?_)
    · exact (hx 0).symm
    · exact (hx 1).symm

theorem tiles_cover (i j : ℕ) (hi : i < 512) (hj : j < 2048) :
    ∃ k : Fin 128, (endR k ≤ i ∧ i < endR k + 16) ∧ endC k ≤ j ∧ j < endC k + 512 := by
  refine ⟨⟨4 * (31 - i / 16) + (3 - j / 512), by omega⟩, ?_⟩
  show (16 * (31 - (4 * (31 - i / 16) + (3 - j / 512)) / 4) ≤ i ∧ i < 16 * (31 - (4 * (31 - i / 16) + (3 - j / 512)) / 4) + 16)
    ∧ 512 * (3 - (4 * (31 - i / 16) + (3 - j / 512)) % 4) ≤ j ∧ j < 512 * (3 - (4 * (31 - i / 16) + (3 - j / 512)) % 4) + 512
  have e1 : (4 * (31 - i / 16) + (3 - j / 512)) / 4 = 31 - i / 16 := by omega
  have e2 : (4 * (31 - i / 16) + (3 - j / 512)) % 4 = 3 - j / 512 := by omega
  rw [e1, e2]
  omega

/-- Stores of all the tiles of one function of row and column. -/
theorem tileStores_eq (f : (ro co : ℕ) → ro + 16 ≤ 512 → co + 512 ≤ 2048 → FVec Ideal P16 .bf16) (G : ℕ → ℕ → EReal)
    (h : ∀ ro co h0 h1 (x : Fin 16) (y : Fin 512), f ro co h0 h1 (ix2 x y) = G (ro + x.val) (co + y.val)) :
    View.canon (tileStores f) = fun y : C512.Idx => G (y 0).val (y 1).val :=
  canon_tiles (Val := Elt Ideal) (e := .bf16) endR endC endR_le endC_le tiles_cover _ G fun k => h _ _ (endR_le k) (endC_le k)

section Lines
variable {F : FTy → Type} [FloatOps F]

/-- The normed rows times the scale, rounded, as host lines compute them. -/
def normedH (x : FVec F H .f32) (g : FVec F C1 .f32) : FVec F H .bf16 := truncf .bf16 (mulf (unitH x) (scaleH g)) (by decide)

end Lines

theorem normedH_apply (x : FVec Ideal H .f32) (g : FVec Ideal C1 .f32) (R : Fin 8192) (b : Fin 2048) :
    normedH x g (ix2 R b) = scaledRow (fun j => x (ix2 R j)) (g (ix2 0 b)) (x (ix2 R b)) := by
  unfold normedH scaledRow
  pointwise [unitH_apply, scaleH_apply]

end Cert.RowNorm

end
-- ==== Proof.OutProj.Points.lean ====
/- What one grid point of the second residual and its norm leaves. -/
module

public import proofs.«01_k».proof.Proof.Gen.Kernel9Ideal.Frame
public import proofs.«01_k».proof.Proof.Norm.Scaled

@[expose] public section

set_option maxRecDepth 16384

noncomputable section

namespace Cert.OutProj

open Cert.Kernel9Ideal Cert.Kernel9Ideal.Gen Cert.RowNorm Cert.Slab
open Idealize.ShloMosaic Idealize.ShloMosaic.TcCoe Idealize.SL.Sem

variable {F : FTy → Type} [FloatOps F]
variable (m : (ℓ : Loc nD τ sig) → Buf (Elt F) ℓ)

/-- The rows with the product added. -/
abbrev xm (c : Dev nD) (t : Fin cfg0.N) : Vec F S512x2048 .f32 := k0_pay2 (iblk m c 2 t) (iblk m c 0 t) (iblk m c 1 t)

/-- Their store, as a run of the body finds it. -/
abbrev xPiece (c : Dev nD) (t : Fin cfg0.N) : View.Piece (Elt F) C512 .f32 :=
  ⟨Rect.unit ![0, 0] S512x2048.size inb_S512x2048_S512x2048_0_0, k0_pay2
    (View.readAt (Elt F) (ms0_2 t).view (Rect.unit ![0, 0] S512x2048.size inb_S512x2048_S512x2048_0_0).toLoadRect
      ((hs0_2 t).unread (iblk m c 2 t)))
    (View.readAt (Elt F) (ms0_0 t).view (Rect.unit ![0, 0] S512x2048.size inb_S512x2048_S512x2048_0_0).toLoadRect
      ((hs0_0 t).unread (iblk m c 0 t)))
    (View.readAt (Elt F) (ms0_1 t).view (Rect.unit ![0, 0] S2048x2048.size inb_S2048x2048_S2048x2048_0_0).toLoadRect
      ((hs0_1 t).unread (iblk m c 1 t)))⟩

theorem xPiece_snd (c : Dev nD) (t : Fin cfg0.N) : (xPiece m c t).2 = xm m c t := by
  show k0_pay2 _ _ _ = k0_pay2 _ _ _
  rw [readAt_unread, readAt_unread, readAt_unread, ld_zero, ld_zero, ld_zero]

theorem readCov_x (c : Dev nD) (t : Fin cfg0.N) (r : Rect C512) :
    View.readCov (Val := Elt F) (ms0_4 t).view [xPiece m c t] r.toLoadRect = View.ld (xm m c t) r :=
  (View.readCov_fill _ _ _ _ r zero_off_apply).trans (congrArg (fun X => View.ld X r) (xPiece_snd m c t))

/-- A tile as a run of the body finds it. -/
def found (c : Dev nD) (t : Fin cfg0.N) (ro co : ℕ) (h0 : ro + 16 ≤ 512) (h1 : co + 512 ≤ 2048) : FVec F P16 .bf16 :=
  scaled16 (View.readCov (Val := Elt F) (ms0_4 t).view [xPiece m c t] (rows ro h0).toLoadRect)
    (View.readCov (Val := Elt F) (ms0_4 t).view [xPiece m c t] (tile ro co h0 h1).toLoadRect)
    (View.readAt (Elt F) (ms0_3 t).view (part co h1).toLoadRect ((hs0_3 t).unread (iblk m c 3 t)))

theorem found_eq (c : Dev nD) (t : Fin cfg0.N) : found m c t = scaledAt (xm m c t) (iblk m c 3 t) := by
  funext ro co h0 h1
  unfold found scaledAt
  rw [readCov_x, readCov_x, readAt_unread]

set_option maxHeartbeats 1600000 in
/-- What every point leaves. -/
theorem outs (c : Dev nD) (t : Fin cfg0.N) :
    outsAt0 m c t = (xm m c t, View.canon (tileStores (scaledAt (xm m c t) (iblk m c 3 t)))) := by
  unfold outsAt0 out0_A_4 out0_A_5
  simp only [View.read_writes_junk_eq_canon, ← found_eq]
  generalize hr : kernelRun0_A (F := F) _ _ _ _ _ _ _ _ _ _ _ _ _ _ _ _ _ _ = r
  have e1 : r.1 = [xPiece m c t] := by subst hr; sl_kernel_rfl
  have e2 : r.2.1 = tileStores (found m c t) := by subst hr; sl_kernel_rfl
  clear hr
  obtain ⟨L4, L5, hL⟩ := r
  dsimp only at e1 e2 ⊢
  clear hL
  subst e1 e2
  refine congrArg (Prod.mk · _) ((View.canon_unit_zero zero_off _ _).trans (xPiece_snd m c t))

theorem outs_x (c : Dev nD) (t : Fin cfg0.N) : (outsAt0 m c t).1 = xm m c t := by rw [outs]

theorem outs_h (c : Dev nD) (t : Fin cfg0.N) :
    (outsAt0 m c t).2 = View.canon (tileStores (scaledAt (xm m c t) (iblk m c 3 t))) := by rw [outs]

end Cert.OutProj

end
-- ==== Proof.OutProj.Value.lean ====
/- What the second residual and its norm leave after every point, as expressions over the arguments' elements, the arrays of
   it, and the reference's lines. -/
module

public import proofs.«01_k».proof.Proof.OutProj.Points
public import proofs.«01_k».proof.Proof.Gen.Kernel9Ideal.Value
public import Idealize.ShloMosaic.Lib.Pipeline.ValueKit.Geometry

@[expose] public section

set_option maxRecDepth 16384

noncomputable section

open scoped BigOperators

namespace Cert.OutProj

open Cert.Kernel9Ideal Cert.Kernel9Ideal.Gen Cert.RowNorm Cert.Sums Cert.Slab
open Idealize.ShloMosaic Idealize.ShloMosaic.TcCoe Idealize.SL.Sem

theorem pay2_apply (x : Vec Ideal S512x2048 .f32) (a : Vec Ideal S512x2048 .bf16) (w : Vec Ideal S2048x2048 .bf16) (r : Fin 512) (b : Fin 2048) :
    k0_pay2 (F := Ideal) x a w (ix2 r b) = x (ix2 r b) + ∑ j : Fin 2048, a (ix2 r j) * w (ix2 j b) := by
  unfold k0_pay2
  pointwise

variable (m : (ℓ : Loc nD τ sig) → Buf (Elt Ideal) ℓ)

/-! ## The windows' blocks -/

theorem lt_N (t : Fin cfg0.N) : t.val < 16 := t.isLt

theorem at0' : ∀ t : Fin cfg0.N, win0_0.index t 0 = t.val ∧ win0_0.index t 1 = 0 := by decide +kernel
theorem at1' : ∀ t : Fin cfg0.N, win0_1.index t 0 = 0 ∧ win0_1.index t 1 = 0 := by decide +kernel
theorem at2' : ∀ t : Fin cfg0.N, win0_2.index t 0 = t.val ∧ win0_2.index t 1 = 0 := by decide +kernel
theorem at3' : ∀ t : Fin cfg0.N, win0_3.index t 0 = 0 ∧ win0_3.index t 1 = 0 := by decide +kernel
theorem at4' : ∀ t : Fin cfg0.N, win0_4.index t 0 = t.val ∧ win0_4.index t 1 = 0 := by decide +kernel
theorem at5' : ∀ t : Fin cfg0.N, win0_5.index t 0 = t.val ∧ win0_5.index t 1 = 0 := by decide +kernel

/-- A block read at an index is the array read where the window's index map puts it. -/
theorem iblk0 (c : Dev nD) (t : Fin cfg0.N) (r : Fin 512) (j : Fin 2048) :
    (iblk m c 0 t : Vec Ideal S512x2048 .bf16) (ix2 r j) = at2 (V m c main_arg0) (512 * t.val + r.val) j.val := by
  have ht := lt_N t
  rw [at2_of _ _ _ (by omega) (by omega)]
  unfold iblk
  rw [View.read_apply]
  show V m c main_arg0 _ = V m c main_arg0 _
  refine congrArg _ (funext fun a => Fin.ext ?_)
  match a with
  | ⟨0, _⟩ => show win0_0.index t 0 * 512 + 1 * r.val = 512 * t.val + r.val; rw [(at0' t).1]; omega
  | ⟨1, _⟩ => show win0_0.index t 1 * 2048 + 1 * j.val = j.val; rw [(at0' t).2]; omega

theorem iblk1 (c : Dev nD) (t : Fin cfg0.N) (r j : Fin 2048) :
    (iblk m c 1 t : Vec Ideal S2048x2048 .bf16) (ix2 r j) = at2 (V m c main_v0) r.val j.val := by
  rw [at2_of _ _ _ r.isLt j.isLt]
  unfold iblk
  rw [View.read_apply]
  show V m c main_v0 _ = V m c main_v0 _
  refine congrArg _ (funext fun a => Fin.ext ?_)
  match a with
  | ⟨0, _⟩ => show win0_1.index t 0 * 2048 + 1 * r.val = r.val; rw [(at1' t).1]; omega
  | ⟨1, _⟩ => show win0_1.index t 1 * 2048 + 1 * j.val = j.val; rw [(at1' t).2]; omega

theorem iblk2 (c : Dev nD) (t : Fin cfg0.N) (r : Fin 512) (j : Fin 2048) :
    (iblk m c 2 t : Vec Ideal S512x2048 .f32) (ix2 r j) = at2 (V m c main_arg2) (512 * t.val + r.val) j.val := by
  have ht := lt_N t
  rw [at2_of _ _ _ (by omega) (by omega)]
  unfold iblk
  rw [View.read_apply]
  show V m c main_arg2 _ = V m c main_arg2 _
  refine congrArg _ (funext fun a => Fin.ext ?_)
  match a with
  | ⟨0, _⟩ => show win0_2.index t 0 * 512 + 1 * r.val = 512 * t.val + r.val; rw [(at2' t).1]; omega
  | ⟨1, _⟩ => show win0_2.index t 1 * 2048 + 1 * j.val = j.val; rw [(at2' t).2]; omega

theorem iblk3 (c : Dev nD) (t : Fin cfg0.N) (j : Fin 2048) :
    (iblk m c 3 t : Vec Ideal S1x2048 .f32) (ix2 0 j) = at2 (V m c main_arg3) 0 j.val := by
  rw [at2_of _ _ _ (by decide) j.isLt]
  unfold iblk
  rw [View.read_apply]
  show V m c main_arg3 _ = V m c main_arg3 _
  refine congrArg _ (funext fun a => Fin.ext ?_)
  match a with
  | ⟨0, _⟩ => show win0_3.index t 0 * 1 + 1 * 0 = 0; rw [(at3' t).1]
  | ⟨1, _⟩ => show win0_3.index t 1 * 2048 + 1 * j.val = j.val; rw [(at3' t).2]; omega

/-! ## The values -/

/-- The rows with the product added. -/
def xV (c : Dev nD) (R C : ℕ) : EReal :=
  at2 (V m c main_arg2) R C + ∑ j : Fin 2048, at2 (V m c main_arg0) R j.val * at2 (V m c main_v0) j.val C

/-- Their norm times the scale. -/
def hV (c : Dev nD) (R C : ℕ) : EReal := scaledRow (fun j => xV m c R j.val) (at2 (V m c main_arg3) 0 C) (xV m c R C)

theorem xm_apply (c : Dev nD) (t : Fin cfg0.N) (r : Fin 512) (b : Fin 2048) : xm m c t (ix2 r b) = xV m c (512 * t.val + r.val) b.val := by
  refine (pay2_apply _ _ _ _ _).trans ?_
  unfold xV
  refine congrArg₂ (· + ·) (iblk2 m c t r b) (Finset.sum_congr rfl fun j _ => ?_)
  rw [iblk0, iblk1]

theorem xm_at (c : Dev nD) (t : Fin cfg0.N) (r b : ℕ) (hr : r < 512) (hb : b < 2048) : at2 (xm m c t) r b = xV m c (512 * t.val + r) b := by
  rw [at2_of _ _ _ hr hb]
  exact xm_apply m c t ⟨r, hr⟩ ⟨b, hb⟩

theorem g_at (c : Dev nD) (t : Fin cfg0.N) (b : ℕ) (hb : b < 2048) :
    at2 (n0 := 1) (n1 := 2048) (iblk m c 3 t) 0 b = at2 (V m c main_arg3) 0 b := by
  rw [at2_of _ _ _ (by decide) hb]
  exact iblk3 m c t ⟨b, hb⟩

theorem h_eq (c : Dev nD) (t : Fin cfg0.N) (ro co h0 h1) (x : Fin 16) (y : Fin 512) :
    scaledAt (xm m c t) (iblk m c 3 t) ro co h0 h1 (ix2 x y) = hV m c (512 * t.val + (ro + x.val)) (co + y.val) := by
  refine (scaledAt_apply _ _ ro co h0 h1 x y).trans ?_
  unfold hV
  rw [xm_at _ _ _ _ _ (by omega) (by omega)]
  exact congrArg₂ (fun f g => scaledRow f g _) (funext fun j => xm_at m c t _ _ (by omega) j.isLt) (g_at m c t _ (by omega))

theorem x_block (c : Dev nD) (t : Fin cfg0.N) :
    (outsAt0 m c t).1 = fun y : C512.Idx => xV m c (512 * t.val + (y 0).val) (y 1).val := by
  rw [outs_x]
  funext y
  have ey : y = ix2 (y 0) (y 1) := by funext a; fin_cases a <;> rfl
  conv_lhs => rw [ey]
  exact xm_apply m c t (y 0) (y 1)

theorem h_block (c : Dev nD) (t : Fin cfg0.N) :
    (outsAt0 m c t).2 = fun y : C512.Idx => hV m c (512 * t.val + (y 0).val) (y 1).val := by
  rw [outs_h]
  exact tileStores_eq _ (fun r b => hV m c (512 * t.val + r) b) (h_eq m c t)

theorem x_array (c : Dev nD) : (dats m 0 c).arrAt 4 cfg0.N = fun z : H.Idx => xV m c (z 0).val (z 1).val := by
  refine (dats m 0 c).arrAt_eq_of_covers 4 _ (by decide +kernel) fun t hf y => ?_
  blk_simp
  rw [after0_4, x_block]
  refine congrArg₂ (xV m c) ?_ ?_
  · rw [(at4' t).1]; show 512 * _ + _ = _ * 512 + _; omega
  · rw [(at4' t).2]; show _ = 0 * 2048 + _; omega

theorem h_array (c : Dev nD) : (dats m 0 c).arrAt 5 cfg0.N = fun z : H.Idx => hV m c (z 0).val (z 1).val := by
  refine (dats m 0 c).arrAt_eq_of_covers 5 _ (by decide +kernel) fun t hf y => ?_
  blk_simp
  rw [after0_5, h_block]
  refine congrArg₂ (hV m c) ?_ ?_
  · rw [(at5' t).1]; show 512 * _ + _ = _ * 512 + _; omega
  · rw [(at5' t).2]; show _ = 0 * 2048 + _; omega

theorem V0 (c : Dev nD) : (V m c main_v0 : (⟨2, ![2048, 2048]⟩ : Shape).Idx → EReal) = m ((c : Thread nD τ).loc main_arg1) := by
  unfold V
  after_results_simp <;> rfl

end Cert.OutProj

end
-- ==== Proof.OutProj.Claims.lean ====
/- The claims about the second residual and its norm. -/
module

public import proofs.«01_k».proof.Defs
public import proofs.«01_k».proof.Proof.OutProj.Value
public import proofs.«01_k».proof.Proof.Gen.Reference9Ideal.Run

@[expose] public section

noncomputable section

open scoped BigOperators

namespace Cert.OutProj

open Cert.RowNorm Cert.Sums
open Idealize.ShloMosaic Idealize.ShloMosaic.TcCoe Idealize.SL.Sem

section Reference
open Cert.Reference9Ideal Cert.Reference9Ideal.Gen
variable {F : FTy → Type} [FloatOps F]

/-- The rows with the product added, as the reference's lines compute them. -/
def addedH (a : FVec F H .bf16) (w : FVec F ⟨2, ![2048, 2048]⟩ .f32) (x : FVec F H .f32) : FVec F H .f32 :=
  addf x (Host.dotGeneral dot_S8192x2048_S2048x2048_S8192x2048_1_0_0_1_n_n none (extf .f32 a (by decide)) w)

theorem addedH_apply (a : FVec Ideal H .bf16) (w : FVec Ideal ⟨2, ![2048, 2048]⟩ .f32) (x : FVec Ideal H .f32) (R : Fin 8192) (b : Fin 2048) :
    addedH a w x (ix2 R b) = x (ix2 R b) + ∑ j : Fin 2048, a (ix2 R j) * w (ix2 j b) := by
  unfold addedH
  pointwise

/-- The reference's results. -/
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v2) =
      addedH (m ((c.tc : Thread nD τ).loc main_arg0)) (m ((c.tc : Thread nD τ).loc main_arg1)) (m ((c.tc : Thread nD τ).loc main_arg2))
    ∧ r.2.mem ((c.tc : Thread nD τ).loc main_v17) =
      normedH (addedH (m ((c.tc : Thread nD τ).loc main_arg0)) (m ((c.tc : Thread nD τ).loc main_arg1)) (m ((c.tc : Thread nD τ).loc main_arg2)))
        (m ((c.tc : Thread nD τ).loc main_arg3))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1, (h c).2.1, (h c).2.2⟩) (Cert.Reference9Ideal.Value.run m ρ)

end Reference

section Equal
open Cert.Kernel9Ideal Cert.Kernel9Ideal.Gen
variable (m : (ℓ : Loc nD τ sig) → Buf (Elt Ideal) ℓ)

/-- The same rows of the kernel's arguments. -/
abbrev xK (c : Dev nD) : FVec Ideal H .f32 :=
  addedH (m ((c : Thread nD τ).loc main_arg0)) (m ((c : Thread nD τ).loc main_arg1)) (m ((c : Thread nD τ).loc main_arg2))

theorem xV_eq (c : Dev nD) (R : Fin 8192) (b : Fin 2048) : xV m c R.val b.val = xK m c (ix2 R b) := by
  refine Eq.trans ?_ (addedH_apply _ _ _ R b).symm
  unfold xV
  rw [at2_fin, V_main_arg2]
  refine congrArg₂ (fun a b : EReal => a + b) rfl (Finset.sum_congr rfl fun j _ => ?_)
  rw [at2_fin, at2_fin, V0, V_main_arg0]

theorem x_ref (c : Dev nD) : (dats m 0 c).arrAt 4 cfg0.N = xK m c := by
  refine (x_array m c).trans (funext fun z => ?_)
  have ez : z = ix2 (z 0) (z 1) := by funext a; fin_cases a <;> rfl
  conv_rhs => rw [ez]
  exact xV_eq m c (z 0) (z 1)

theorem hV_eq (c : Dev nD) (R : Fin 8192) (b : Fin 2048) :
    hV m c R.val b.val = normedH (xK m c) (m ((c : Thread nD τ).loc main_arg3)) (ix2 R b) := by
  refine Eq.trans ?_ (normedH_apply _ _ R b).symm
  unfold hV
  rw [xV_eq]
  refine congrArg₂ (fun f g => scaledRow f g _) (funext fun j => xV_eq m c R j) ?_
  rw [← V_main_arg3 m c]
  exact at2_fin _ (0 : Fin 1) b

theorem h_ref (c : Dev nD) : (dats m 0 c).arrAt 5 cfg0.N = normedH (xK m c) (m ((c : Thread nD τ).loc main_arg3)) := by
  refine (h_array m c).trans (funext fun z => ?_)
  have ez : z = ix2 (z 0) (z 1) := by funext a; fin_cases a <;> rfl
  conv_rhs => rw [ez]
  exact hV_eq m c (z 0) (z 1)

end Equal

theorem frame_ref : Cert.quiescent_Reference9Ideal := fun m ρ _ =>
  (θ_run Cert.Reference9Ideal.defs _ _).mono
    (fun r h => ⟨fun c => (h c).2.2, Idealize.ShloMosaic.sem_eq_zero_of_no_sems (by decide) r.2⟩) (run_ref m ρ)

theorem algebraic : Cert.algebraic_Kernel9Ideal_Reference9Ideal := by
  intro m g m' g' _ hagree
  refine ⟨fun c => (Cert.Kernel9Ideal.Gen.dats m 0 c).arrAt 4 Cert.Kernel9Ideal.cfg0.N,
    fun c => (Cert.Kernel9Ideal.Gen.dats m 0 c).arrAt 5 Cert.Kernel9Ideal.cfg0.N, ?_, ?_⟩
  · exact Cert.Kernel9Ideal.Value.run_blocks m g
  · refine (θ_run Cert.Reference9Ideal.defs _ _).mono (fun r h c => ?_) (run_ref m' g')
    obtain ⟨e0, e1, e2, e3⟩ := hagree c
    refine ⟨(h c).1.trans ?_, (h c).2.1.trans ?_, (h c).2.2⟩
    · rw [e0, e1, e2]; exact (x_ref m c).symm
    · rw [e0, e1, e2, e3]; exact (h_ref m c).symm

end Cert.OutProj

end
-- ==== Proof.PoolFwd.Points.lean ====
/- What one grid point of the pooling mixer leaves. The points run down the rows. A point holds its 256 rows of the input under
   the last sixteen rows of the point before, or under zeros, takes the mean of the last 2, 4, 8 or 16 rows group by group, and
   multiplies what the mean is more than the input by the group's matrix and by the scale. -/
module

public import proofs.«01_k».proof.Proof.Gen.Kernel10Ideal.Frame
public import proofs.«01_k».proof.Proof.PoolBwd.Value

@[expose] public section

set_option maxRecDepth 16384

noncomputable section

namespace Cert.PoolFwd

open Cert.Kernel10Ideal Cert.Kernel10Ideal.Gen Cert.RowNorm Cert.Slab
open Cert.PoolBwd (G G3 W3 grp plane stores sumUp joined h272 h16_272 h256 h1 canon_in canon_out canon_joined)
open Idealize.ShloMosaic Idealize.ShloMosaic.TcCoe Idealize.SL.Sem

variable {F : FTy → Type} [FloatOps F] [Named F]

/-! ## One group -/

/-- How many rows a mean is over. -/
def count (i : grid0.Coords) (g : ℕ) : FVec F (G 256) .f32 :=
  broadcastTo (G 256) (sitofp .f32 (minsi (addi (k0_pay5 i) (broadcast (⟨2, ![256, 1]⟩ : Shape) 1#32))
    (broadcast (⟨2, ![256, 1]⟩ : Shape) (BitVec.ofNat 32 (2 ^ (g + 1)))))) (by decide)

/-- The mean less the input, of the rows under those before and of the rows alone. -/
def diff (i : grid0.Coords) (g : ℕ) (e : FVec F (G 272) .f32) (u : FVec F (G 256) .f32) : FVec F (G 256) .bf16 :=
  truncf .bf16 (subf (divf (extractStridedSlice (G 256) ![16, 0] (sumUp e g) slices_S272x256_o16_0_S256x256) (count i g)) u) (by decide)

/-- That times a matrix and a scale. -/
def mixed (d : FVec F (G 256) .bf16) (w : FVec F G3 .bf16) (s : FVec F (G 1) .f32) : FVec F (G 256) .bf16 :=
  truncf .bf16 (mulf (matmul dot_S256x256_S256x256_S256x256_1_0_0_1_n_n none d (shapeCast (G 256) w (by decide)) (constant (G 256) .f32 0x00000000#32))
    (broadcastTo (G 256) s (by decide))) (by decide)

/-! ## A point's stores -/

variable (m : (ℓ : Loc nD τ sig) → Buf (Elt F) ℓ)

/-- The stores of the four groups, of the rows as they are loaded. -/
abbrev mixSt (c : Dev nD) (t : Fin cfg0.N) (e : ℕ → FVec F (G 272) .f32) (u : ℕ → FVec F (G 256) .f32) : List (View.Piece (Elt F) (Q 256) .bf16) :=
  stores (grp 256 0 h256) (fun _ g => mixed (diff (grid0.coords t) g (e g) (u g))
    (View.readAt (Elt F) (ms0_1 t).view (plane g).toLoadRect ((hs0_1 t).unread (iblk m c 1 t)))
    (View.readAt (Elt F) (ms0_2 t).view (grp 1 0 h1 g).toLoadRect ((hs0_2 t).unread (iblk m c 2 t)))) [] 4

/-- The input's rows put under sixteen others. -/
abbrev rowsPiece (w : (Q 256).Idx → Elt F .f32) : View.Piece (Elt F) (Q 272) .f32 :=
  ⟨Rect.unit ![16, 0] S256x1024.size inb_S272x1024_S256x1024_16_0, w⟩

/-- The store of the input's rows, as a run of the body finds it. -/
abbrev inPiece (c : Dev nD) (t : Fin cfg0.N) : View.Piece (Elt F) (Q 272) .f32 :=
  rowsPiece (k0_pay4 (View.readAt (Elt F) (ms0_0 t).view (Rect.unit ![0, 0] S256x1024.size inb_S256x1024_S256x1024_0_0).toLoadRect
    ((hs0_0 t).unread (iblk m c 0 t))))

/-- The copy of the last sixteen rows for the next point. -/
abbrev copyPiece (L : List (View.Piece (Elt F) (Q 272) .f32)) : View.Piece (Elt F) (Q 272) .f32 :=
  ⟨Rect.unit ![0, 0] S16x1024.size inb_S272x1024_S16x1024_0_0, k0_pay2
    (View.readCov (Val := Elt F) scM0_0.view L (Rect.unit (s := Q 272) ![256, 0] S16x1024.size inb_S272x1024_S16x1024_256_0).toLoadRect)⟩

/-- Sixteen rows of zeros above the first rows. -/
abbrev zeroPiece : View.Piece (Elt F) (Q 272) .f32 := ⟨Rect.unit ![0, 0] S16x1024.size inb_S272x1024_S16x1024_0_0, k0_pay3⟩

/-- What the point before `t` left. -/
abbrev before (c : Dev nD) (t : Fin cfg0.N) :=
  outsAt0 m c (t.val - 1) (Nat.lt_of_le_of_lt (Nat.sub_le _ _) t.isLt)

set_option maxHeartbeats 1600000 in
theorem outs_A (c : Dev nD) (t : Fin cfg0.N) (h0 : t.val % 32 = 0) :
    outsAt0 m c t.val t.isLt =
      (View.canon (mixSt m c t
        (fun g => View.readCov (Val := Elt F) scM0_0.view [inPiece m c t, zeroPiece] (grp 272 0 h272 g).toLoadRect)
        (fun g => View.readCov (Val := Elt F) scM0_0.view [inPiece m c t, zeroPiece] (grp 256 16 h16_272 g).toLoadRect)),
       View.canon [copyPiece [inPiece m c t, zeroPiece], inPiece m c t, zeroPiece]) := by
  rw [outsAt0_A m c t h0]
  unfold out0_A_3 sout0_A_0
  simp only [View.read_writes_junk_eq_canon]
  generalize hr : kernelRun0_A (F := F) _ _ _ _ _ _ _ _ _ _ _ _ _ _ _ _ = r
  have e1 : r.1 = mixSt m c t
      (fun g => View.readCov (Val := Elt F) scM0_0.view [inPiece m c t, zeroPiece] (grp 272 0 h272 g).toLoadRect)
      (fun g => View.readCov (Val := Elt F) scM0_0.view [inPiece m c t, zeroPiece] (grp 256 16 h16_272 g).toLoadRect) := by
    subst hr; sl_kernel_rfl
  have e2 : r.2.1 = [copyPiece [inPiece m c t, zeroPiece], inPiece m c t, zeroPiece] := by subst hr; sl_kernel_rfl
  clear hr
  obtain ⟨L3, LS, hL⟩ := r
  dsimp only at e1 e2 ⊢
  clear hL
  subst e1 e2
  rfl

/-- What the held rows are after the store of the input's. -/
abbrev heldB (c : Dev nD) (t : Fin cfg0.N) :=
  scM0_0.view.writes (Elt F) ((Memref.isWhole_whole _).unread (before m c t).2) [inPiece m c t]

set_option maxHeartbeats 1600000 in
theorem outs_B (c : Dev nD) (t : Fin cfg0.N) (h0 : ¬t.val % 32 = 0) :
    outsAt0 m c t.val t.isLt =
      (View.canon (mixSt m c t
        (fun g => View.readAt (Elt F) scM0_0.view (grp 272 0 h272 g).toLoadRect (heldB m c t))
        (fun g => View.readCov (Val := Elt F) scM0_0.view [inPiece m c t] (grp 256 16 h16_272 g).toLoadRect)),
       View.canon [copyPiece [inPiece m c t], inPiece m c t]) := by
  rw [outsAt0_B m c t h0]
  unfold out0_B_3 sout0_B_0
  simp only [View.read_writes_junk_eq_canon]
  generalize hr : kernelRun0_B (F := F) _ _ _ _ _ _ _ _ _ _ _ _ _ _ _ _ _ = r
  have e2 : r.2.1 = [copyPiece [inPiece m c t], inPiece m c t] := by subst hr; sl_kernel_rfl
  have e1 : r.1 = mixSt m c t
      (fun g => View.readAt (Elt F) scM0_0.view (grp 272 0 h272 g).toLoadRect (heldB m c t))
      (fun g => View.readCov (Val := Elt F) scM0_0.view [inPiece m c t] (grp 256 16 h16_272 g).toLoadRect) := by
    subst hr; sl_kernel_rfl
  clear hr
  obtain ⟨L3, LS, hL⟩ := r
  dsimp only at e1 e2 ⊢
  clear hL
  subst e1 e2
  rfl

end Cert.PoolFwd

end
-- ==== Proof.PoolFwd.Value.lean ====
/- What the pooling mixer leaves after every point, as expressions over its arguments' elements, and its array. -/
module

public import proofs.«01_k».proof.Proof.PoolFwd.Points
public import proofs.«01_k».proof.Proof.Gen.Kernel10Ideal.Value
public import Idealize.ShloMosaic.Lib.Pipeline.ValueKit.Geometry

@[expose] public section

set_option maxRecDepth 16384

noncomputable section

open scoped BigOperators

namespace Cert.PoolFwd

open Cert.Kernel10Ideal Cert.Kernel10Ideal.Gen Cert.RowNorm Cert.Sums Cert.Slab
open Cert.PoolBwd (G G3 W3 grp plane joined h272 h16_272 h256 h1 canon_in canon_out canon_joined grp_emb plane_emb pow_le cnt)
open Idealize.ShloMosaic Idealize.ShloMosaic.TcCoe Idealize.SL.Sem

/-! ## The held rows -/

section Held
variable {Val : EltTy → Type}

/-- Rows under sixteen others. -/
def under (T : (Q 16).Idx → Val .f32) (w : (Q 256).Idx → Val .f32) : (Q 272).Idx → Val .f32 := fun y =>
  if h : (y 0).val < 16 then T (ix2 (⟨(y 0).val, h⟩ : Fin 16) (y 1))
  else w (ix2 (⟨(y 0).val - 16, by have : (y 0).val < 272 := (y 0).isLt; omega⟩ : Fin 256) (y 1))

variable (V : List (View.Piece Val (Q 272) .f32) → (Q 272).Idx → Val .f32)
  (hin : ∀ (r : Rect (Q 272)) (w : r.shape.Idx → Val .f32) (L : List (View.Piece Val (Q 272) .f32)) (x : r.shape.Idx),
    V (⟨r, w⟩ :: L) (r.emb x) = w x)
  (hout : ∀ (p : View.Piece Val (Q 272) .f32) (L : List (View.Piece Val (Q 272) .f32)) (y : (Q 272).Idx), y ∉ p.1.set → V (p :: L) y = V L y)

include hin hout in
theorem under_eq (w : (Q 256).Idx → Val .f32) (base : List (View.Piece Val (Q 272) .f32)) (T : (Q 16).Idx → Val .f32) (y : (Q 272).Idx)
    (hT : ∀ h : (y 0).val < 16, V base y = T (ix2 (⟨(y 0).val, h⟩ : Fin 16) (y 1))) :
    V (⟨Rect.unit ![16, 0] S256x1024.size inb_S272x1024_S256x1024_16_0, w⟩ :: base) y = under T w y := by
  have hy : (y 0).val < 272 := (y 0).isLt
  unfold under
  split_ifs with h
  · refine (hout _ _ _ fun hm => ?_).trans (hT h)
    have h8 : 16 ≤ (y 0).val := (Rect.mem_set_unit (s := Q 272) (inb := inb_S272x1024_S256x1024_16_0) |>.mp hm 0).1
    omega
  · have ey : (Rect.unit (s := Q 272) ![16, 0] S256x1024.size inb_S272x1024_S256x1024_16_0).emb
        (ix2 (⟨(y 0).val - 16, by omega⟩ : Fin 256) (y 1)) = y := by
      funext i; apply Fin.ext
      match i with
      | ⟨0, _⟩ => show 16 + 1 * ((y 0).val - 16) = (y 0).val; omega
      | ⟨1, _⟩ => show 0 + 1 * (y 1).val = (y 1).val; omega
    exact (congrArg (V _) ey.symm).trans (hin (Rect.unit (s := Q 272) ![16, 0] S256x1024.size inb_S272x1024_S256x1024_16_0) w base _)

end Held

section Blocks
variable {F : FTy → Type} [FloatOps F] [Named F]
variable (m : (ℓ : Loc nD τ sig) → Buf (Elt F) ℓ)

/-- A point's rows of the input. -/
abbrev rowsAt (c : Dev nD) (t : Fin cfg0.N) : Vec F (Q 256) .f32 := iblk m c 0 t

/-- The point before `t`. -/
abbrev prev (t : Fin cfg0.N) : Fin cfg0.N := ⟨t.val - 1, Nat.lt_of_le_of_lt (Nat.sub_le _ _) t.isLt⟩

/-- The sixteen rows above a point's first: zeros, or the last rows of the point before. -/
def above (c : Dev nD) (t : Fin cfg0.N) : Vec F (Q 16) .f32 := fun y =>
  if t.val % 32 = 0 then k0_pay3 (F := F) y
  else rowsAt m c (prev t) (ix2 (⟨240 + (y 0).val, by have : (y 0).val < 16 := (y 0).isLt; omega⟩ : Fin 256) (y 1))

/-- A point's rows under those. -/
abbrev ext (c : Dev nD) (t : Fin cfg0.N) : Vec F (Q 272) .f32 := under (Val := Elt F) (above m c t) (rowsAt m c t)

theorem pay4_eq (x : Vec F S256x1024 .f32) : k0_pay4 x = x := by unfold k0_pay4; exact shapeCast_self _ _
theorem pay2_eq (x : Vec F S16x1024 .f32) : k0_pay2 x = x := by unfold k0_pay2; exact shapeCast_self _ _

theorem inPiece_eq (c : Dev nD) (t : Fin cfg0.N) : inPiece m c t = rowsPiece (rowsAt m c t) := by
  unfold inPiece
  rw [pay4_eq, readAt_unread, ld_zero]

theorem canon_A (c : Dev nD) (t : Fin cfg0.N) (h : t.val % 32 = 0) : View.canon [inPiece m c t, zeroPiece] = ext m c t := by
  funext y
  rw [inPiece_eq]
  refine under_eq (Val := Elt F) View.canon canon_in canon_out _ _ _ y fun h0 => ?_
  have ey : (Rect.unit (s := Q 272) ![0, 0] S16x1024.size inb_S272x1024_S16x1024_0_0).emb (ix2 (⟨(y 0).val, h0⟩ : Fin 16) (y 1)) = y := by
    funext i; apply Fin.ext
    match i with
    | ⟨0, _⟩ => show 0 + 1 * (y 0).val = (y 0).val; omega
    | ⟨1, _⟩ => show 0 + 1 * (y 1).val = (y 1).val; omega
  refine (congrArg _ ey.symm).trans ((View.canon_cons_emb _ _ _ _).trans ?_)
  unfold above
  exact (if_pos h).symm

/-- The copied rows are the last of the point's. -/
theorem copy_apply (c : Dev nD) (t : Fin cfg0.N) (base : List (View.Piece (Elt F) (Q 272) .f32)) (y : (Q 272).Idx) (h : (y 0).val < 16) :
    View.canon (copyPiece (inPiece m c t :: base) :: inPiece m c t :: base) y =
      rowsAt m c t (ix2 (⟨240 + (y 0).val, by omega⟩ : Fin 256) (y 1)) := by
  have ey : (Rect.unit (s := Q 272) ![0, 0] S16x1024.size inb_S272x1024_S16x1024_0_0).emb (ix2 (⟨(y 0).val, h⟩ : Fin 16) (y 1)) = y := by
    funext i; apply Fin.ext
    match i with
    | ⟨0, _⟩ => show 0 + 1 * (y 0).val = (y 0).val; omega
    | ⟨1, _⟩ => show 0 + 1 * (y 1).val = (y 1).val; omega
  refine (congrArg _ ey.symm).trans ((View.canon_cons_emb _ _ _ _).trans ?_)
  rw [pay2_eq, View.readCov_eq_canon', inPiece_eq]
  have eb : (Rect.unit (s := Q 272) ![256, 0] S16x1024.size inb_S272x1024_S16x1024_256_0).toLoadRect.idx (ix2 (⟨(y 0).val, h⟩ : Fin 16) (y 1)) =
      (Rect.unit (s := Q 272) ![16, 0] S256x1024.size inb_S272x1024_S256x1024_16_0).emb (ix2 (⟨240 + (y 0).val, by omega⟩ : Fin 256) (y 1)) := by
    funext i; apply Fin.ext
    match i with
    | ⟨0, _⟩ => show 256 + 1 * (y 0).val = 16 + 1 * (240 + (y 0).val); omega
    | ⟨1, _⟩ => rfl
  exact (congrArg (View.canon _) eb).trans (View.canon_cons_emb _ _ _ _)

theorem outs_copy (c : Dev nD) (t : Fin cfg0.N) (y : (Q 272).Idx) (h : (y 0).val < 16) :
    (outsAt0 m c t.val t.isLt).2 y = rowsAt m c t (ix2 (⟨240 + (y 0).val, by omega⟩ : Fin 256) (y 1)) := by
  by_cases h0 : t.val % 32 = 0
  · have e := congrArg Prod.snd (outs_A m c t h0)
    dsimp only at e
    rw [e]
    exact copy_apply m c t [zeroPiece] y h
  · have e := congrArg Prod.snd (outs_B m c t h0)
    dsimp only at e
    rw [e]
    exact copy_apply m c t [] y h

theorem read_B (c : Dev nD) (t : Fin cfg0.N) (h : ¬t.val % 32 = 0) (y : (Q 272).Idx) :
    scM0_0.view.read (Elt F) (heldB m c t) y = ext m c t y := by
  unfold heldB
  rw [inPiece_eq]
  refine under_eq (Val := Elt F)
    (fun L => scM0_0.view.read (Elt F) (scM0_0.view.writes (Elt F) ((Memref.isWhole_whole _).unread (before m c t).2) L))
    (fun r w L z => View.read_writes_cons_emb _ _ r w L z) (fun p L y hy => View.read_writes_cons_miss _ _ p L y hy) _ _ _ y fun h0 => ?_
  have e0 : scM0_0.view.read (Elt F) ((Memref.isWhole_whole _).unread (before m c t).2) = (before m c t).2 := Memref.IsWhole.read_unread _ _
  refine (congrFun e0 _).trans ((outs_copy m c (prev t) y h0).trans ?_)
  unfold above
  exact (if_neg h).symm

/-- The rows alone, of a group. -/
theorem canon_rows (c : Dev nD) (t : Fin cfg0.N) (base : List (View.Piece (Elt F) (Q 272) .f32)) (g : ℕ) :
    View.readCov (Val := Elt F) scM0_0.view (inPiece m c t :: base) (grp 256 16 h16_272 g).toLoadRect = View.ld (ext m c t) (grp 256 16 h16_272 g) := by
  rw [View.readCov_eq_canon', inPiece_eq]
  funext j
  have hj : 16 ≤ ((grp 256 16 h16_272 g).toLoadRect.idx j 0).val := by
    show 16 ≤ 16 + 1 * (j 0).val
    omega
  exact (under_eq (Val := Elt F) View.canon canon_in canon_out _ base (above m c t) _ fun h0 => absurd h0 (Nat.not_lt_of_ge hj))

theorem outs_y (c : Dev nD) (t : Fin cfg0.N) :
    (outsAt0 m c t.val t.isLt).1 = joined fun g => mixed
      (diff (grid0.coords t) g (View.ld (ext m c t) (grp 272 0 h272 g)) (View.ld (ext m c t) (grp 256 16 h16_272 g)))
      (View.ld (Val := Elt F) (e' := .bf16) (iblk m c 1 t) (plane g)) (View.ld (Val := Elt F) (e' := .f32) (iblk m c 2 t) (grp 1 0 h1 g)) := by
  by_cases h : t.val % 32 = 0
  · rw [outs_A m c t h]
    dsimp only
    refine canon_joined h256 _ _ _ fun g hg => ?_
    show mixed (diff _ g (View.readCov (Val := Elt F) scM0_0.view [inPiece m c t, zeroPiece] (grp 272 0 h272 g).toLoadRect)
      (View.readCov (Val := Elt F) scM0_0.view [inPiece m c t, zeroPiece] (grp 256 16 h16_272 g).toLoadRect)) _ _ = _
    rw [canon_rows, View.readCov_eq_canon', canon_A m c t h, readAt_unread, readAt_unread]
    rfl
  · rw [outs_B m c t h]
    dsimp only
    refine canon_joined h256 _ _ _ fun g hg => ?_
    show mixed (diff _ g (View.readAt (Elt F) scM0_0.view (grp 272 0 h272 g).toLoadRect (heldB m c t))
      (View.readCov (Val := Elt F) scM0_0.view [inPiece m c t] (grp 256 16 h16_272 g).toLoadRect)) _ _ = _
    rw [canon_rows, readAt_unread, readAt_unread]
    have e : View.readAt (Elt F) scM0_0.view (grp 272 0 h272 g).toLoadRect (heldB m c t) = View.ld (ext m c t) (grp 272 0 h272 g) :=
      funext fun j => read_B m c t h _
    rw [e]
    rfl

end Blocks

/-! ## One group at an index -/

variable (m : (ℓ : Loc nD τ sig) → Buf (Elt Ideal) ℓ)

theorem lt_N (t : Fin cfg0.N) : t.val < 32 := t.isLt
theorem coord0 : ∀ t : Fin cfg0.N, (grid0.coords t 0).val = t.val := by decide +kernel

/-- The gradient's point that holds the same rows. -/
abbrev mirror (t : Fin cfg0.N) : Fin Cert.Kernel6Ideal.cfg0.N := ⟨31 - t.val, by have := lt_N t; show 31 - t.val < 32; omega⟩

theorem pay5_eq (t : Fin cfg0.N) : k0_pay5 (grid0.coords t) = Cert.Kernel6Ideal.Gen.k0_pay7 (Cert.Kernel6Ideal.grid0.coords (mirror t)) := by
  have ht := lt_N t
  unfold k0_pay5 Cert.Kernel6Ideal.Gen.k0_pay7
  rw [coord0, PoolBwd.coord0]
  have e : BitVec.ofNat 32 t.val = Scalar.subi (31#32) (BitVec.ofNat 32 (31 - t.val)) := by
    apply BitVec.eq_of_toNat_eq
    show _ = BitVec.toNat (31#32 - BitVec.ofNat 32 (31 - t.val))
    simp only [BitVec.toNat_sub, BitVec.toNat_ofNat]
    omega
  dsimp only
  rw [e]

theorem diff_apply (t : Fin cfg0.N) (g : ℕ) (hg : g < 4) (e : FVec Ideal (G 272) .f32) (u : FVec Ideal (G 256) .f32) (r b : Fin 256) :
    diff (grid0.coords t) g e u (ix2 r b) = Ideal.div (∑ d ∈ Finset.range (2 ^ (g + 1)), at2 e (16 + r.val - d) b.val)
      (cnt g (256 * t.val + r.val)) - u (ix2 r b) := by
  have ht := lt_N t
  have k : diff (grid0.coords t) g e u = PoolBwd.diff (Cert.Kernel6Ideal.grid0.coords (mirror t))
      ⟨fun _ => e, fun _ => u, fun _ => u, fun _ => constant G3 .bf16 0#16, fun _ => constant (G 1) .f32 0#32⟩ g := by
    unfold diff PoolBwd.diff count PoolBwd.count
    rw [pay5_eq]
  rw [k, PoolBwd.diff_apply _ _ g hg, PoolBwd.coord0]
  show Ideal.div _ (cnt g (256 * (31 - (31 - t.val)) + r.val) : EReal) - _ = _
  rw [show 31 - (31 - t.val) = t.val by omega]

theorem mixed_apply (d : FVec Ideal (G 256) .bf16) (w : FVec Ideal G3 .bf16) (s : FVec Ideal (G 1) .f32) (r b : Fin 256) :
    mixed d w s (ix2 r b) = (∑ x : Fin 256, d (ix2 r x) * w (ix3 0 x b)) * s (ix2 0 b) := by
  unfold mixed
  pointwise

/-! ## The windows' blocks -/

theorem at0' : ∀ t : Fin cfg0.N, win0_0.index t 0 = t.val ∧ win0_0.index t 1 = 0 := by decide +kernel
theorem at1' : ∀ t : Fin cfg0.N, win0_1.index t 0 = 0 ∧ win0_1.index t 1 = 0 ∧ win0_1.index t 2 = 0 := by decide +kernel
theorem at2' : ∀ t : Fin cfg0.N, win0_2.index t 0 = 0 ∧ win0_2.index t 1 = 0 := by decide +kernel
theorem at3' : ∀ t : Fin cfg0.N, win0_3.index t 0 = t.val ∧ win0_3.index t 1 = 0 := by decide +kernel

theorem iblk0 (c : Dev nD) (t : Fin cfg0.N) (r : Fin 256) (j : Fin 1024) :
    rowsAt m c t (ix2 r j) = at2 (V m c main_arg0) (256 * t.val + r.val) j.val := by
  have ht := lt_N t
  rw [at2_of _ _ _ (by omega) (by omega)]
  unfold rowsAt iblk
  rw [View.read_apply]
  show V m c main_arg0 _ = V m c main_arg0 _
  refine congrArg _ (funext fun a => Fin.ext ?_)
  match a with
  | ⟨0, _⟩ => show win0_0.index t 0 * 256 + 1 * r.val = 256 * t.val + r.val; rw [(at0' t).1]; omega
  | ⟨1, _⟩ => show win0_0.index t 1 * 1024 + 1 * j.val = j.val; rw [(at0' t).2]; omega

theorem iblk1 (c : Dev nD) (t : Fin cfg0.N) (y : W3.Idx) : (iblk m c 1 t : Vec Ideal W3 .bf16) y = (V m c main_v1 : Vec Ideal W3 .bf16) y := by
  unfold iblk
  rw [View.read_apply]
  show V m c main_v1 _ = V m c main_v1 _
  refine congrArg _ (funext fun a => Fin.ext ?_)
  match a with
  | ⟨0, _⟩ => show win0_1.index t 0 * 4 + 1 * (y 0).val = (y 0).val; rw [(at1' t).1]; omega
  | ⟨1, _⟩ => show win0_1.index t 1 * 256 + 1 * (y 1).val = (y 1).val; rw [(at1' t).2.1]; omega
  | ⟨2, _⟩ => show win0_1.index t 2 * 256 + 1 * (y 2).val = (y 2).val; rw [(at1' t).2.2]; omega

theorem iblk2 (c : Dev nD) (t : Fin cfg0.N) (y : (Q 1).Idx) : (iblk m c 2 t : Vec Ideal (Q 1) .f32) y = (V m c main_arg2 : Vec Ideal (Q 1) .f32) y := by
  unfold iblk
  rw [View.read_apply]
  show V m c main_arg2 _ = V m c main_arg2 _
  refine congrArg _ (funext fun a => Fin.ext ?_)
  match a with
  | ⟨0, _⟩ => show win0_2.index t 0 * 1 + 1 * (y 0).val = (y 0).val; rw [(at2' t).1]; omega
  | ⟨1, _⟩ => show win0_2.index t 1 * 1024 + 1 * (y 1).val = (y 1).val; rw [(at2' t).2]; omega

/-! ## The values -/

theorem ext_apply (c : Dev nD) (t : Fin cfg0.N) (i : Fin 272) (j : Fin 1024) :
    ext m c t (ix2 i j) = if 16 ≤ 256 * t.val + i.val then at2 (V m c main_arg0) (256 * t.val + i.val - 16) j.val else 0 := by
  have hi := i.isLt
  have ht := lt_N t
  unfold ext under
  by_cases h : i.val < 16
  · refine (dif_pos h).trans ?_
    unfold above
    by_cases h0 : t.val % 32 = 0
    · rw [if_pos h0, if_neg (by omega)]
      unfold k0_pay3
      pointwise
    · rw [if_neg h0, if_pos (by omega)]
      refine (iblk0 m c (prev t) _ _).trans (congrArg (fun R => at2 _ R _) ?_)
      show 256 * (t.val - 1) + (240 + i.val) = 256 * t.val + i.val - 16
      omega
  · refine (dif_neg h).trans ?_
    rw [if_pos (by omega)]
    refine (iblk0 m c t _ _).trans (congrArg (fun R => at2 _ R _) ?_)
    show 256 * t.val + (i.val - 16) = 256 * t.val + i.val - 16
    omega

/-- The mean less the input. -/
def diffV (c : Dev nD) (g R b : ℕ) : EReal := Ideal.div
  (∑ d ∈ Finset.range (2 ^ (g + 1)), if d ≤ R then at2 (V m c main_arg0) (R - d) (256 * g + b) else 0) (cnt g R) -
    at2 (V m c main_arg0) R (256 * g + b)

/-- The pooled rows. -/
def yV (c : Dev nD) (g : Fin 4) (R : ℕ) (b : Fin 256) : EReal :=
  (∑ x : Fin 256, diffV m c g.val R x.val * (V m c main_v1 : Vec Ideal W3 .bf16) (ix3 g x b)) *
    at2 (n0 := 1) (n1 := 1024) (V m c main_arg2) 0 (256 * g.val + b.val)

theorem diff_eq (c : Dev nD) (t : Fin cfg0.N) (g : ℕ) (hg : g < 4) (r b : Fin 256) :
    (diff (grid0.coords t) g (View.ld (ext m c t) (grp 272 0 h272 g)) (View.ld (ext m c t) (grp 256 16 h16_272 g)) : FVec Ideal (G 256) .bf16) (ix2 r b) =
      diffV m c g (256 * t.val + r.val) b.val := by
  have hp := pow_le g hg
  have hr := r.isLt
  have hb := b.isLt
  rw [diff_apply t g hg]
  unfold diffV
  refine congrArg₂ (fun s u : EReal => Ideal.div s _ - u) (Finset.sum_congr rfl fun d hd => ?_) ?_
  · have hd := Finset.mem_range.mp hd
    rw [at2_of _ _ _ (by omega) b.isLt]
    refine (congrArg (ext m c t) (grp_emb h272 g hg (⟨16 + r.val - d, by omega⟩ : Fin 272) b)).trans ((ext_apply m c t _ _).trans ?_)
    by_cases h : d ≤ 256 * t.val + r.val
    · rw [if_pos h, if_pos (by show 16 ≤ 256 * t.val + (0 + (16 + r.val - d)); omega)]
      refine congrArg (fun R => at2 _ R _) ?_
      show 256 * t.val + (0 + (16 + r.val - d)) - 16 = 256 * t.val + r.val - d
      omega
    · rw [if_neg h, if_neg (by show ¬16 ≤ 256 * t.val + (0 + (16 + r.val - d)); omega)]
  · refine (congrArg (ext m c t) (grp_emb h16_272 g hg r b)).trans ((ext_apply m c t _ _).trans ?_)
    refine (if_pos (by show 16 ≤ 256 * t.val + (16 + r.val); omega)).trans (congrArg (fun R => at2 _ R _) ?_)
    show 256 * t.val + (16 + r.val) - 16 = 256 * t.val + r.val
    omega

theorem y_at (c : Dev nD) (t : Fin cfg0.N) (g : Fin 4) (r b : Fin 256) :
    (mixed (diff (grid0.coords t) g.val (View.ld (ext m c t) (grp 272 0 h272 g.val)) (View.ld (ext m c t) (grp 256 16 h16_272 g.val)))
      (View.ld (Val := Elt Ideal) (e' := .bf16) (iblk m c 1 t) (plane g.val))
      (View.ld (Val := Elt Ideal) (e' := .f32) (iblk m c 2 t) (grp 1 0 h1 g.val)) : FVec Ideal (G 256) .bf16) (ix2 r b) = yV m c g (256 * t.val + r.val) b := by
  have hb := b.isLt
  have hg := g.isLt
  rw [mixed_apply]
  unfold yV
  refine congrArg₂ (fun s u : EReal => s * u) (Finset.sum_congr rfl fun x _ => congrArg₂ (fun s u : EReal => s * u) (diff_eq m c t g.val hg r x) ?_) ?_
  · exact (congrArg (iblk m c 1 t : Vec Ideal W3 .bf16) (plane_emb g.val hg x b)).trans (iblk1 m c t _)
  · rw [at2_of _ _ _ (by omega) (by omega)]
    exact (congrArg (iblk m c 2 t : Vec Ideal (Q 1) .f32) (grp_emb h1 g.val hg 0 b)).trans (iblk2 m c t _)

theorem y_block (c : Dev nD) (t : Fin cfg0.N) :
    (outsAt0 m c t.val t.isLt).1 = fun y : (Q 256).Idx => yV m c ⟨(y 1).val / 256, by have : (y 1).val < 1024 := (y 1).isLt; omega⟩
      (256 * t.val + (y 0).val) ⟨(y 1).val % 256, Nat.mod_lt _ (by omega)⟩ := by
  rw [outs_y]
  funext y
  have h1 : (y 1).val < 1024 := (y 1).isLt
  exact y_at m c t ⟨(y 1).val / 256, by omega⟩ (y 0) ⟨(y 1).val % 256, Nat.mod_lt _ (by omega)⟩

theorem y_array (c : Dev nD) :
    (dats m 0 c).arrAt 3 cfg0.N = fun z : (Q 8192).Idx => yV m c ⟨(z 1).val / 256, by have : (z 1).val < 1024 := (z 1).isLt; omega⟩
      (z 0).val ⟨(z 1).val % 256, Nat.mod_lt _ (by omega)⟩ := by
  refine (dats m 0 c).arrAt_eq_of_covers 3 _ (by decide +kernel) fun t hf y => ?_
  have ht := lt_N t
  have hy : (y 1).val < 1024 := (y 1).isLt
  blk_simp
  rw [after0_3, y_block]
  have e0 : 256 * t.val + (y 0).val = win0_3.index t 0 * 256 + (y 0).val := by rw [(at3' t).1]; omega
  have e1 : (y 1).val = win0_3.index t 1 * 1024 + (y 1).val := by rw [(at3' t).2]; omega
  have key : ∀ (p q : ℕ) (hp : p < 1024) (hq : q < 1024) (R S : ℕ), p = q → R = S →
      yV m c ⟨p / 256, by omega⟩ R ⟨p % 256, Nat.mod_lt _ (by omega)⟩ = yV m c ⟨q / 256, by omega⟩ S ⟨q % 256, Nat.mod_lt _ (by omega)⟩ := by
    intro p q hp hq R S h h'
    subst h h'
    rfl
  exact key _ _ hy (by rw [← e1]; exact hy) _ _ e1 e0

end Cert.PoolFwd

end
-- ==== Proof.PoolFwd.Claims.lean ====
/- The pooling mixer's rows: the host lines give the same values wherever the arguments are real numbers; and the claims. -/
module

public import proofs.«01_k».proof.Defs
public import proofs.«01_k».proof.Proof.PoolBwd.Reference
public import proofs.«01_k».proof.Proof.PoolFwd.Value
public import proofs.«01_k».proof.Proof.Gen.Reference10Ideal.Run
public import proofs.«01_k».proof.Proof.Gen.Pre_finite10

@[expose] public section

set_option maxRecDepth 16384

noncomputable section

open scoped BigOperators

namespace Cert.PoolFwd

open Cert.Sums
open Cert.FfnBwd (IsReal)
open Cert.PoolBwd (HU HD H3 H4 HW HW4 H1 matsH diffH mixH scaleH diffH_apply mixH_apply meanV)
open Idealize.ShloMosaic Idealize.ShloMosaic.TcCoe Idealize.SL.Sem

/-- The host lines' result. -/
def poolH {F : FTy → Type} [FloatOps F] (a : FVec F HU .f32) (w : FVec F HW4 .f32) (s : FVec F H1 .f32) : FVec F HD .bf16 :=
  truncf .bf16 (shapeCast HD (mulf (mixH (matsH w) (diffH a)) (scaleH s)) (by decide)) (by decide)

section Results
open Cert.Reference10Ideal Cert.Reference10Ideal.Gen
variable {F : FTy → Type} [FloatOps F] [Named F]

set_option maxHeartbeats 4000000 in
theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v62) =
      poolH (m ((c.tc : Thread nD τ).loc main_arg0)) (m ((c.tc : Thread nD τ).loc main_arg1)) (m ((c.tc : Thread nD τ).loc main_arg2))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1, (h c).2⟩) (Cert.Reference10Ideal.Value.run m ρ)

end Results

theorem scaleH_apply (s : FVec Ideal H1 .f32) (R : Fin 8192) (C : Fin 1024) : scaleH s (ix3 0 R C) = at2 s 0 C.val := by
  rw [at2_of _ _ _ (by omega) C.isLt]
  unfold scaleH
  pointwise

theorem poolH_apply (a : FVec Ideal HU .f32) (w : FVec Ideal HW4 .f32) (s : FVec Ideal H1 .f32) (R : Fin 8192) (C : Fin 1024) :
    poolH a w s (ix2 R C) = (∑ x : Fin 256, matsH w (ix3 ⟨C.val / 256, by omega⟩ x ⟨C.val % 256, by omega⟩) *
      diffH a (ix4 0 R ⟨C.val / 256, by omega⟩ x)) * at2 s 0 C.val := by
  rw [← scaleH_apply s R C, ← mixH_apply]
  unfold poolH
  pointwise

section Equal
open Cert.Kernel10Ideal Cert.Kernel10Ideal.Gen
variable (m : (ℓ : Loc nD τ sig) → Buf (Elt Ideal) ℓ)

abbrev aK (c : Dev nD) : FVec Ideal HU .f32 := m ((c : Thread nD τ).loc main_arg0)
abbrev wK (c : Dev nD) : FVec Ideal HW4 .f32 := m ((c : Thread nD τ).loc main_arg1)
abbrev sK (c : Dev nD) : FVec Ideal H1 .f32 := m ((c : Thread nD τ).loc main_arg2)

theorem V1 (c : Dev nD) : (V m c main_v1 : HW.Idx → EReal) = matsH (wK m c) := by
  unfold V
  after_results_simp <;> rfl

variable {m}

theorem y_ref {c : Dev nD} (h : ∀ i, IsReal (aK m c i)) : poolH (aK m c) (wK m c) (sK m c) = (dats m 0 c).arrAt 3 cfg0.N := by
  rw [y_array]
  funext z
  have h1 : (z 1).val < 1024 := (z 1).isLt
  have ez : z = ix2 (z 0) (z 1) := by funext a; fin_cases a <;> rfl
  refine (congrArg _ ez).trans ((poolH_apply _ _ _ (z 0) (z 1)).trans ?_)
  unfold yV
  refine congrArg₂ (fun p q : EReal => p * q) (Finset.sum_congr rfl fun x _ => (mul_comm _ _).trans (congrArg₂ (fun p q : EReal => p * q) ?_ ?_)) ?_
  · refine (diffH_apply (aK m c) h (z 0) ⟨(z 1).val / 256, by omega⟩ x).trans ?_
    unfold diffV meanV
    rw [V_main_arg0]
  · exact (congrFun (V1 m c) _).symm
  · rw [V_main_arg2]
    exact congrArg (at2 (sK m c) 0) (Nat.div_add_mod (z 1).val 256).symm

end Equal

theorem frame_ref : Cert.quiescent_Reference10Ideal := fun m ρ _ =>
  (θ_run Cert.Reference10Ideal.defs _ _).mono
    (fun r h => ⟨fun c => (h c).2, Idealize.ShloMosaic.sem_eq_zero_of_no_sems (by decide) r.2⟩) (run_ref m ρ)

/-- Projected rows that pass the test are real. -/
theorem real_rows {m : (ℓ : Loc Cert.Kernel10Ideal.nD Cert.Kernel10Ideal.τ Cert.Kernel10Ideal.sig) → Buf (Elt Ideal) ℓ}
    (h : Cert.Pre_Kernel10Ideal_finite10 m) (c : Dev Cert.Kernel10Ideal.nD) : ∀ i, IsReal (aK m c i) :=
  Finite.real_of_test _ Finite.inf32 (aK m c) _ _ _ _ (Finite.and_left (Finite.and_left (h c)))

theorem algebraic : Cert.algebraic_Kernel10Ideal_Reference10Ideal_pre_finite10 := by
  intro m g m' g' hp hagree
  refine ⟨fun c => (Cert.Kernel10Ideal.Gen.dats m 0 c).arrAt 3 Cert.Kernel10Ideal.cfg0.N, ?_, ?_⟩
  · exact Cert.Kernel10Ideal.Value.run_blocks m g
  · refine (θ_run Cert.Reference10Ideal.defs _ _).mono (fun r h c => ?_) (run_ref m' g')
    obtain ⟨e0, e1, e2⟩ := hagree c
    refine ⟨(h c).1.trans ?_, (h c).2⟩
    rw [e0, e1, e2]
    exact y_ref (real_rows hp c)

end Cert.PoolFwd

end
-- ==== Proof.Base.Whole.lean ====
/- A store over a whole two-dimensional buffer leaves exactly what it stores. -/
module

public import proofs.«01_k».proof.Proof.Norm.Row

@[expose] public section

noncomputable section

namespace Cert.Whole

open Cert.RowNorm
open Idealize.ShloMosaic

theorem canon_whole {Val : EltTy → Type} [∀ e, Nonempty (Val e)] {e : EltTy} {n0 n1 : ℕ} (inb) (p : (⟨2, ![n0, n1]⟩ : Shape).Idx → Val e) :
    View.canon [(⟨Rect.unit (s := ⟨2, ![n0, n1]⟩) ![0, 0] ![n0, n1] inb, p⟩ : View.Piece Val ⟨2, ![n0, n1]⟩ e)] = p := by
  funext y
  have ey : (Rect.unit (s := ⟨2, ![n0, n1]⟩) ![0, 0] ![n0, n1] inb).emb y = y := by
    funext i; apply Fin.ext
    match i with
    | ⟨0, _⟩ => show 0 + 1 * (y 0).val = (y 0).val; omega
    | ⟨1, _⟩ => show 0 + 1 * (y 1).val = (y 1).val; omega
  exact (congrArg _ ey.symm).trans (View.canon_cons_emb _ _ _ _)

end Cert.Whole

end
-- ==== Proof.UpProj.Claims.lean ====
/- The up projection, a product of a row tile by a column tile: the values and the claims. -/
module

public import proofs.«01_k».proof.Defs
public import proofs.«01_k».proof.Proof.Base.Sums
public import proofs.«01_k».proof.Proof.Base.Whole
public import proofs.«01_k».proof.Proof.Gen.Kernel11Ideal.Value
public import proofs.«01_k».proof.Proof.Gen.Reference11Ideal.Run
public import Idealize.ShloMosaic.Lib.Pipeline.ValueKit.Geometry

@[expose] public section

set_option maxRecDepth 16384

noncomputable section

open scoped BigOperators

namespace Cert.UpProj

open Cert.RowNorm Cert.Sums Cert.Whole
open Idealize.ShloMosaic Idealize.ShloMosaic.TcCoe Idealize.SL.Sem

/-- The left factor, the right one and the product. -/
abbrev LA : Shape := ⟨2, ![8192, 2048]⟩
abbrev LB : Shape := ⟨2, ![2048, 12288]⟩
abbrev LC : Shape := ⟨2, ![8192, 12288]⟩

section Reference
open Cert.Reference11Ideal Cert.Reference11Ideal.Gen
variable {F : FTy → Type} [FloatOps F]

/-- The product on the host. -/
def hostProduct (a : FVec F LA .bf16) (w : FVec F LB .f32) : FVec F LC .f32 :=
  Host.dotGeneral dot_S8192x2048_S2048x12288_S8192x12288_1_0_0_1_n_n none (extf .f32 a (by decide)) w

theorem host_apply (a : FVec Ideal LA .bf16) (w : FVec Ideal LB .f32) (R : Fin 8192) (C : Fin 12288) :
    hostProduct a w (ix2 R C) = ∑ j : Fin 2048, a (ix2 R j) * w (ix2 j C) := by
  unfold hostProduct
  pointwise

theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v1) = hostProduct (m ((c.tc : Thread nD τ).loc main_arg0)) (m ((c.tc : Thread nD τ).loc main_arg1))
    ∧ (r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2⟩) (Cert.Reference11Ideal.Value.run m ρ)

end Reference

section Equal
open Cert.Kernel11Ideal Cert.Kernel11Ideal.Gen

theorem pay_apply (a : Vec Ideal S1024x2048 .bf16) (w : Vec Ideal S2048x1536 .bf16) (r : Fin 1024) (b : Fin 1536) :
    k0_pay1 (F := Ideal) a w (ix2 r b) = ∑ j : Fin 2048, a (ix2 r j) * w (ix2 j b) := by
  unfold k0_pay1
  pointwise

variable (m : (ℓ : Loc nD τ sig) → Buf (Elt Ideal) ℓ)

theorem lt_N (t : Fin cfg0.N) : t.val < 64 := t.isLt
theorem at0' : ∀ t : Fin cfg0.N, win0_0.index t 0 = t.val / 8 ∧ win0_0.index t 1 = 0 := by decide +kernel
theorem at1' : ∀ t : Fin cfg0.N, win0_1.index t 1 = t.val % 8 ∧ win0_1.index t 0 = 0 := by decide +kernel
theorem at2' : ∀ t : Fin cfg0.N, win0_2.index t 0 = t.val / 8 ∧ win0_2.index t 1 = t.val % 8 := by decide +kernel

theorem iblk0 (c : Dev nD) (t : Fin cfg0.N) (r : Fin 1024) (j : Fin 2048) :
    (iblk m c 0 t : Vec Ideal S1024x2048 .bf16) (ix2 r j) = at2 (V m c main_arg0) (1024 * (t.val / 8) + r.val) j.val := by
  have ht := lt_N t
  rw [at2_of _ _ _ (by omega) (by omega)]
  unfold iblk
  rw [View.read_apply]
  show V m c main_arg0 _ = V m c main_arg0 _
  refine congrArg _ (funext fun a => Fin.ext ?_)
  match a with
  | ⟨0, _⟩ => show win0_0.index t 0 * 1024 + 1 * r.val = 1024 * (t.val / 8) + r.val; rw [(at0' t).1]; omega
  | ⟨1, _⟩ => show win0_0.index t 1 * 2048 + 1 * j.val = j.val; rw [(at0' t).2]; omega

theorem iblk1 (c : Dev nD) (t : Fin cfg0.N) (j : Fin 2048) (b : Fin 1536) :
    (iblk m c 1 t : Vec Ideal S2048x1536 .bf16) (ix2 j b) = at2 (V m c main_v0) j.val (1536 * (t.val % 8) + b.val) := by
  rw [at2_of _ _ _ j.isLt (by omega)]
  unfold iblk
  rw [View.read_apply]
  show V m c main_v0 _ = V m c main_v0 _
  refine congrArg _ (funext fun a => Fin.ext ?_)
  match a with
  | ⟨0, _⟩ => show win0_1.index t 0 * 2048 + 1 * j.val = j.val; rw [(at1' t).2]; omega
  | ⟨1, _⟩ => show win0_1.index t 1 * 1536 + 1 * b.val = 1536 * (t.val % 8) + b.val; rw [(at1' t).1]; omega

/-- The product's element. -/
def productV (c : Dev nD) (R C : ℕ) : EReal := ∑ j : Fin 2048, at2 (V m c main_arg0) R j.val * at2 (V m c main_v0) j.val C

theorem block_eq (c : Dev nD) (t : Fin cfg0.N) :
    out0_2 (iblk m c 0 t) (iblk m c 1 t) = fun y : (⟨2, ![1024, 1536]⟩ : Shape).Idx =>
      productV m c (1024 * (t.val / 8) + (y 0).val) (1536 * (t.val % 8) + (y 1).val) := by
  unfold out0_2
  rw [ld_zero, ld_zero]
  refine (canon_whole _ _).trans (funext fun y => ?_)
  have ey : y = ix2 (y 0) (y 1) := by funext a; fin_cases a <;> rfl
  refine (congrArg _ ey).trans ((pay_apply _ _ (y 0) (y 1)).trans (Finset.sum_congr rfl fun j _ => ?_))
  exact congrArg₂ (fun p q : EReal => p * q) (iblk0 m c t (y 0) j) (iblk1 m c t j (y 1))

theorem array_eq (c : Dev nD) : (dats m 0 c).arrAt 2 cfg0.N = fun z : LC.Idx => productV m c (z 0).val (z 1).val := by
  refine (dats m 0 c).arrAt_eq_of_covers 2 _ (by decide +kernel) fun t hf y => ?_
  blk_simp
  rw [after0_2, block_eq]
  refine congrArg₂ (productV m c) ?_ ?_
  · rw [(at2' t).1]; show 1024 * _ + _ = _ * 1024 + _; omega
  · rw [(at2' t).2]; show 1536 * _ + _ = _ * 1536 + _; omega

theorem V0 (c : Dev nD) : (V m c main_v0 : LB.Idx → EReal) = m ((c : Thread nD τ).loc main_arg1) := by
  unfold V
  after_results_simp <;> rfl

theorem product_ref (c : Dev nD) :
    hostProduct (F := Ideal) (m ((c : Thread nD τ).loc main_arg0)) (m ((c : Thread nD τ).loc main_arg1)) = (dats m 0 c).arrAt 2 cfg0.N := by
  rw [array_eq]
  funext z
  have ez : z = ix2 (z 0) (z 1) := by funext a; fin_cases a <;> rfl
  refine (congrArg _ ez).trans ((host_apply _ _ (z 0) (z 1)).trans ?_)
  unfold productV
  refine Finset.sum_congr rfl fun j _ => congrArg₂ (fun p q : EReal => p * q) ?_ ?_
  · rw [V_main_arg0]
    exact (at2_fin _ _ _).symm
  · exact ((at2_fin (V m c main_v0) j (z 1)).trans (congrFun (V0 m c) _)).symm

end Equal

theorem frame_ref : Cert.quiescent_Reference11Ideal := fun m ρ _ =>
  (θ_run Cert.Reference11Ideal.defs _ _).mono
    (fun r h => ⟨fun c => (h c).2, Idealize.ShloMosaic.sem_eq_zero_of_no_sems (by decide) r.2⟩) (run_ref m ρ)

theorem algebraic : Cert.algebraic_Kernel11Ideal_Reference11Ideal := by
  intro m g m' g' _ hagree
  refine ⟨fun c => (Cert.Kernel11Ideal.Gen.dats m 0 c).arrAt 2 Cert.Kernel11Ideal.cfg0.N, ?_, ?_⟩
  · exact Cert.Kernel11Ideal.Value.run_blocks m g
  · refine (θ_run Cert.Reference11Ideal.defs _ _).mono (fun r h c => ?_) (run_ref m' g')
    obtain ⟨e0, e1⟩ := hagree c
    refine ⟨(h c).1.trans ?_, (h c).2⟩
    rw [e0, e1]
    exact product_ref m c

end Cert.UpProj

end
-- ==== Proof.DyLru.Claims.lean ====
/- The recurrence's output gradient, a product by a transposed matrix: the values and the claims. -/
module

public import proofs.«01_k».proof.Defs
public import proofs.«01_k».proof.Proof.Base.Sums
public import proofs.«01_k».proof.Proof.Base.Whole
public import proofs.«01_k».proof.Proof.Gen.Kernel12Ideal.Value
public import proofs.«01_k».proof.Proof.Gen.Reference12Ideal.Run
public import Idealize.ShloMosaic.Lib.Pipeline.ValueKit.Geometry

@[expose] public section

set_option maxRecDepth 16384

noncomputable section

open scoped BigOperators

namespace Cert.DyLru

open Cert.RowNorm Cert.Sums Cert.Whole
open Idealize.ShloMosaic Idealize.ShloMosaic.TcCoe Idealize.SL.Sem

/-- The left factor, the right one and the product. -/
abbrev LA : Shape := ⟨2, ![8192, 2048]⟩
abbrev LB : Shape := ⟨2, ![2048, 2048]⟩
abbrev LC : Shape := ⟨2, ![8192, 2048]⟩

section Reference
open Cert.Reference12Ideal Cert.Reference12Ideal.Gen
variable {F : FTy → Type} [FloatOps F]

/-- The product on the host. -/
def hostProduct (a : FVec F LA .bf16) (w : FVec F LB .f32) : FVec F LC .f32 :=
  Host.dotGeneral dot_S8192x2048_S2048x2048_S8192x2048_1_0_0_1_n_n none (extf .f32 a (by decide)) (transpose LB [1, 0] w (by decide))

theorem host_apply (a : FVec Ideal LA .bf16) (w : FVec Ideal LB .f32) (R : Fin 8192) (C : Fin 2048) :
    hostProduct a w (ix2 R C) = ∑ j : Fin 2048, a (ix2 R j) * w (ix2 C j) := by
  unfold hostProduct
  pointwise

theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v2) = hostProduct (m ((c.tc : Thread nD τ).loc main_arg0)) (m ((c.tc : Thread nD τ).loc main_arg1))
    ∧ (r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2⟩) (Cert.Reference12Ideal.Value.run m ρ)

end Reference

section Equal
open Cert.Kernel12Ideal Cert.Kernel12Ideal.Gen

theorem pay_apply (a : Vec Ideal S1024x2048 .bf16) (w : Vec Ideal S1024x2048 .bf16) (r : Fin 1024) (b : Fin 1024) :
    k0_pay1 (F := Ideal) a w (ix2 r b) = ∑ j : Fin 2048, a (ix2 r j) * w (ix2 b j) := by
  unfold k0_pay1
  pointwise

variable (m : (ℓ : Loc nD τ sig) → Buf (Elt Ideal) ℓ)

theorem lt_N (t : Fin cfg0.N) : t.val < 16 := t.isLt
theorem at0' : ∀ t : Fin cfg0.N, win0_0.index t 0 = t.val / 2 ∧ win0_0.index t 1 = 0 := by decide +kernel
theorem at1' : ∀ t : Fin cfg0.N, win0_1.index t 0 = t.val % 2 ∧ win0_1.index t 1 = 0 := by decide +kernel
theorem at2' : ∀ t : Fin cfg0.N, win0_2.index t 0 = t.val / 2 ∧ win0_2.index t 1 = t.val % 2 := by decide +kernel

theorem iblk0 (c : Dev nD) (t : Fin cfg0.N) (r : Fin 1024) (j : Fin 2048) :
    (iblk m c 0 t : Vec Ideal S1024x2048 .bf16) (ix2 r j) = at2 (V m c main_arg0) (1024 * (t.val / 2) + r.val) j.val := by
  have ht := lt_N t
  rw [at2_of _ _ _ (by omega) (by omega)]
  unfold iblk
  rw [View.read_apply]
  show V m c main_arg0 _ = V m c main_arg0 _
  refine congrArg _ (funext fun a => Fin.ext ?_)
  match a with
  | ⟨0, _⟩ => show win0_0.index t 0 * 1024 + 1 * r.val = 1024 * (t.val / 2) + r.val; rw [(at0' t).1]; omega
  | ⟨1, _⟩ => show win0_0.index t 1 * 2048 + 1 * j.val = j.val; rw [(at0' t).2]; omega

theorem iblk1 (c : Dev nD) (t : Fin cfg0.N) (b : Fin 1024) (j : Fin 2048) :
    (iblk m c 1 t : Vec Ideal S1024x2048 .bf16) (ix2 b j) = at2 (V m c main_v0) (1024 * (t.val % 2) + b.val) j.val := by
  rw [at2_of _ _ _ (by omega) j.isLt]
  unfold iblk
  rw [View.read_apply]
  show V m c main_v0 _ = V m c main_v0 _
  refine congrArg _ (funext fun a => Fin.ext ?_)
  match a with
  | ⟨0, _⟩ => show win0_1.index t 0 * 1024 + 1 * b.val = 1024 * (t.val % 2) + b.val; rw [(at1' t).1]; omega
  | ⟨1, _⟩ => show win0_1.index t 1 * 2048 + 1 * j.val = j.val; rw [(at1' t).2]; omega

/-- The product's element. -/
def productV (c : Dev nD) (R C : ℕ) : EReal := ∑ j : Fin 2048, at2 (V m c main_arg0) R j.val * at2 (V m c main_v0) C j.val

theorem block_eq (c : Dev nD) (t : Fin cfg0.N) :
    out0_2 (iblk m c 0 t) (iblk m c 1 t) = fun y : (⟨2, ![1024, 1024]⟩ : Shape).Idx =>
      productV m c (1024 * (t.val / 2) + (y 0).val) (1024 * (t.val % 2) + (y 1).val) := by
  unfold out0_2
  rw [ld_zero, ld_zero]
  refine (canon_whole _ _).trans (funext fun y => ?_)
  have ey : y = ix2 (y 0) (y 1) := by funext a; fin_cases a <;> rfl
  refine (congrArg _ ey).trans ((pay_apply _ _ (y 0) (y 1)).trans (Finset.sum_congr rfl fun j _ => ?_))
  exact congrArg₂ (fun p q : EReal => p * q) (iblk0 m c t (y 0) j) (iblk1 m c t (y 1) j)

theorem array_eq (c : Dev nD) : (dats m 0 c).arrAt 2 cfg0.N = fun z : LC.Idx => productV m c (z 0).val (z 1).val := by
  refine (dats m 0 c).arrAt_eq_of_covers 2 _ (by decide +kernel) fun t hf y => ?_
  blk_simp
  rw [after0_2, block_eq]
  refine congrArg₂ (productV m c) ?_ ?_
  · rw [(at2' t).1]; show 1024 * _ + _ = _ * 1024 + _; omega
  · rw [(at2' t).2]; show 1024 * _ + _ = _ * 1024 + _; omega

theorem V0 (c : Dev nD) : (V m c main_v0 : LB.Idx → EReal) = m ((c : Thread nD τ).loc main_arg1) := by
  unfold V
  after_results_simp <;> rfl

theorem product_ref (c : Dev nD) :
    hostProduct (F := Ideal) (m ((c : Thread nD τ).loc main_arg0)) (m ((c : Thread nD τ).loc main_arg1)) = (dats m 0 c).arrAt 2 cfg0.N := by
  rw [array_eq]
  funext z
  have ez : z = ix2 (z 0) (z 1) := by funext a; fin_cases a <;> rfl
  refine (congrArg _ ez).trans ((host_apply _ _ (z 0) (z 1)).trans ?_)
  unfold productV
  refine Finset.sum_congr rfl fun j _ => congrArg₂ (fun p q : EReal => p * q) ?_ ?_
  · rw [V_main_arg0]
    exact (at2_fin _ _ _).symm
  · exact ((at2_fin (V m c main_v0) (z 1) j).trans (congrFun (V0 m c) _)).symm

end Equal

theorem frame_ref : Cert.quiescent_Reference12Ideal := fun m ρ _ =>
  (θ_run Cert.Reference12Ideal.defs _ _).mono
    (fun r h => ⟨fun c => (h c).2, Idealize.ShloMosaic.sem_eq_zero_of_no_sems (by decide) r.2⟩) (run_ref m ρ)

theorem algebraic : Cert.algebraic_Kernel12Ideal_Reference12Ideal := by
  intro m g m' g' _ hagree
  refine ⟨fun c => (Cert.Kernel12Ideal.Gen.dats m 0 c).arrAt 2 Cert.Kernel12Ideal.cfg0.N, ?_, ?_⟩
  · exact Cert.Kernel12Ideal.Value.run_blocks m g
  · refine (θ_run Cert.Reference12Ideal.defs _ _).mono (fun r h c => ?_) (run_ref m' g')
    obtain ⟨e0, e1⟩ := hagree c
    refine ⟨(h c).1.trans ?_, (h c).2⟩
    rw [e0, e1]
    exact product_ref m c

end Cert.DyLru

end
-- ==== Proof.AdamW.Claims.lean ====
/- The optimiser's step of the up projection's weights on one device: the values and the claims. -/
module

public import proofs.«01_k».proof.Defs
public import proofs.«01_k».proof.Proof.Base.Sums
public import proofs.«01_k».proof.Proof.Base.Whole
public import proofs.«01_k».proof.Proof.Gen.Kernel13Ideal.Value
public import proofs.«01_k».proof.Proof.Gen.Reference13Ideal.Run
public import Idealize.ShloMosaic.Lib.Pipeline.ValueKit.Geometry

@[expose] public section

set_option maxRecDepth 16384

noncomputable section

open scoped BigOperators

namespace Cert.AdamW

open Cert.RowNorm Cert.Sums Cert.Whole
open Idealize.ShloMosaic Idealize.ShloMosaic.TcCoe Idealize.SL.Sem

/-- `n` rows, and eight devices' parts of them. -/
abbrev A (n : ℕ) : Shape := ⟨2, ![n, 1536]⟩
abbrev P (n : ℕ) : Shape := ⟨3, ![8, n, 1536]⟩

/-! ## One element -/

/-- The number that a word stands for. -/
abbrev num (b : BitVec 32) : EReal := (Scalar.ofBits .f32 b : Ideal .f32)

/-- The new first and second moment of the gradient `g`, and the weight's change. -/
def firstOf (g x : EReal) : EReal := num 0x3F666666#32 * x + num 0x3DCCCCCD#32 * g
def secondOf (g x : EReal) : EReal := num 0x3F7FBE77#32 * x + num 0x3A83126F#32 * (g * g)
def changeOf (g w x y : EReal) : EReal :=
  num 0xBA83126F#32 * (Ideal.div (Ideal.div (firstOf g x) (num 0x3F26BD02#32))
    (Ideal.sqrt (Ideal.div (secondOf g y) (num 0x3C231ACC#32)) + num 0x322BCC77#32) + num 0x3C23D70A#32 * w)

/-! ## The host lines -/

section Reference
open Cert.Reference13Ideal Cert.Reference13Ideal.Gen
variable {F : FTy → Type} [FloatOps F]

abbrev numH (b : BitVec 32) : FVec F (A 2048) .f32 := broadcastInDim (A 2048) ![] (by decide) (constant ⟨0, ![]⟩ .f32 b)

def sumH (p : FVec F (P 2048) .bf16) : FVec F (A 2048) .f32 :=
  Host.reduceAdd (extf .f32 p (by decide)) (constant ⟨0, ![]⟩ .f32 0x00000000#32) (by decide : (P 2048).ReducesTo [0] (A 2048)) (by decide)
def firstH (g x : FVec F (A 2048) .f32) : FVec F (A 2048) .f32 := addf (mulf (numH 0x3F666666#32) x) (mulf (numH 0x3DCCCCCD#32) g)
def secondH (g x : FVec F (A 2048) .f32) : FVec F (A 2048) .f32 := addf (mulf (numH 0x3F7FBE77#32) x) (mulf (numH 0x3A83126F#32) (mulf g g))
def changeH (g w x y : FVec F (A 2048) .f32) : FVec F (A 2048) .f32 :=
  mulf (numH 0xBA83126F#32) (addf (Host.divf (Host.divf (firstH g x) (numH 0x3F26BD02#32))
    (addf (Host.sqrt (Host.divf (secondH g y) (numH 0x3C231ACC#32))) (numH 0x322BCC77#32))) (mulf (numH 0x3C23D70A#32) w))

theorem sumH_apply (p : FVec Ideal (P 2048) .bf16) (R : Fin 2048) (C : Fin 1536) : sumH p (ix2 R C) = ∑ s : Fin 8, p (ix3 s R C) := by
  unfold sumH
  pointwise
theorem firstH_apply (g x : FVec Ideal (A 2048) .f32) (z : (A 2048).Idx) : firstH g x z = firstOf (g z) (x z) := rfl
theorem secondH_apply (g x : FVec Ideal (A 2048) .f32) (z : (A 2048).Idx) : secondH g x z = secondOf (g z) (x z) := rfl
theorem changeH_apply (g w x y : FVec Ideal (A 2048) .f32) (z : (A 2048).Idx) : changeH g w x y z = changeOf (g z) (w z) (x z) (y z) := rfl

theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v1) = sumH (m ((c.tc : Thread nD τ).loc main_arg3))
    ∧ r.2.mem ((c.tc : Thread nD τ).loc main_v25) = changeH (sumH (m ((c.tc : Thread nD τ).loc main_arg3))) (m ((c.tc : Thread nD τ).loc main_arg0))
      (m ((c.tc : Thread nD τ).loc main_arg1)) (m ((c.tc : Thread nD τ).loc main_arg2))
    ∧ r.2.mem ((c.tc : Thread nD τ).loc main_v6) = firstH (sumH (m ((c.tc : Thread nD τ).loc main_arg3))) (m ((c.tc : Thread nD τ).loc main_arg1))
    ∧ r.2.mem ((c.tc : Thread nD τ).loc main_v12) = secondH (sumH (m ((c.tc : Thread nD τ).loc main_arg3))) (m ((c.tc : Thread nD τ).loc main_arg2))
    ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1, (h c).2.1, (h c).2.2.1, (h c).2.2.2.1, (h c).2.2.2.2⟩) (Cert.Reference13Ideal.Value.run m ρ)

end Reference

/-! ## The kernel's blocks -/

section Equal
open Cert.Kernel13Ideal Cert.Kernel13Ideal.Gen

theorem first_pay (g x : FVec Ideal (A 256) .f32) (y : (A 256).Idx) : k0_pay1 (F := Ideal) g x (Scalar.ofBits .f32 0x3F666666#32) y = firstOf (g y) (x y) := rfl
theorem second_pay (g x : FVec Ideal (A 256) .f32) (y : (A 256).Idx) : k0_pay2 (F := Ideal) g x y = secondOf (g y) (x y) := rfl
theorem change_pay (g w x v : FVec Ideal (A 256) .f32) (y : (A 256).Idx) :
    k0_pay3 (F := Ideal) g x (Scalar.ofBits .f32 0x3F666666#32) v w y = changeOf (g y) (w y) (x y) (v y) := rfl

theorem plane_apply {e : EltTy} (p : (P 256).Idx → Elt Ideal e) (s : ℕ) (hs : s < 8) (inb) (r : Fin 256) (b : Fin 1536) :
    View.ld (Val := Elt Ideal) p (Rect.unit (s := P 256) ![s, 0, 0] S1x256x1536.size inb) (ix3 0 r b) = p (ix3 ⟨s, hs⟩ r b) := by
  refine congrArg p (funext fun i => Fin.ext ?_)
  match i with
  | ⟨0, _⟩ => show s + 1 * 0 = s; omega
  | ⟨1, _⟩ => show 0 + 1 * r.val = r.val; omega
  | ⟨2, _⟩ => show 0 + 1 * b.val = b.val; omega

theorem sum_pay (w x v : Vec Ideal (A 256) .f32) (p : Vec Ideal (P 256) .bf16) (r : Fin 256) (b : Fin 1536) :
    k0_pay5 (F := Ideal) w x v p (ix2 r b) = ∑ s : Fin 8, (p (ix3 s r b) : EReal) := by
  have e (a0 a1 a2 a3 a4 a5 a6 a7 : Vec Ideal S1x256x1536 .bf16) : k0_pay4 (F := Ideal) a0 a1 a2 a3 a4 a5 a6 a7 (ix2 r b) =
      a0 (ix3 0 r b) + a1 (ix3 0 r b) + a2 (ix3 0 r b) + a3 (ix3 0 r b) + a4 (ix3 0 r b) + a5 (ix3 0 r b) + a6 (ix3 0 r b) + a7 (ix3 0 r b) := by
    unfold k0_pay4
    pointwise
  unfold k0_pay5
  rw [e, Fin.sum_univ_eight]
  simp only [plane_apply p _ (by decide : 0 < 8), plane_apply p _ (by decide : 1 < 8), plane_apply p _ (by decide : 2 < 8), plane_apply p _ (by decide : 3 < 8),
    plane_apply p _ (by decide : 4 < 8), plane_apply p _ (by decide : 5 < 8), plane_apply p _ (by decide : 6 < 8), plane_apply p _ (by decide : 7 < 8)]
  rfl

variable (m : (ℓ : Loc nD τ sig) → Buf (Elt Ideal) ℓ)

theorem lt_N (t : Fin cfg0.N) : t.val < 8 := t.isLt
theorem at0' : ∀ t : Fin cfg0.N, win0_0.index t 0 = t.val ∧ win0_0.index t 1 = 0 := by decide +kernel
theorem at1' : ∀ t : Fin cfg0.N, win0_1.index t 0 = t.val ∧ win0_1.index t 1 = 0 := by decide +kernel
theorem at2' : ∀ t : Fin cfg0.N, win0_2.index t 0 = t.val ∧ win0_2.index t 1 = 0 := by decide +kernel
theorem at3' : ∀ t : Fin cfg0.N, win0_3.index t 0 = 0 ∧ win0_3.index t 1 = t.val ∧ win0_3.index t 2 = 0 := by decide +kernel
theorem atOut : ∀ t : Fin cfg0.N, (win0_4.index t 0 = t.val ∧ win0_4.index t 1 = 0) ∧ (win0_5.index t 0 = t.val ∧ win0_5.index t 1 = 0) ∧
    (win0_6.index t 0 = t.val ∧ win0_6.index t 1 = 0) ∧ (win0_7.index t 0 = t.val ∧ win0_7.index t 1 = 0) := by decide +kernel

/-- A row of a point, and an index of a point's block in the array. -/
abbrev row (t : Fin cfg0.N) (r : Fin 256) : Fin 2048 := ⟨256 * t.val + r.val, by have := lt_N t; omega⟩
abbrev place (t : Fin cfg0.N) (y : (A 256).Idx) : (A 2048).Idx := ix2 (row t (y 0)) (y 1)

theorem place_eq (t : Fin cfg0.N) (y : (A 256).Idx) (p q : ℕ) (hp : p = t.val) (hq : q = 0) (z : (A 2048).Idx)
    (h0 : (z 0).val = p * 256 + 1 * (y 0).val) (h1 : (z 1).val = q * 1536 + 1 * (y 1).val) : z = place t y := by
  funext a; apply Fin.ext
  match a with
  | ⟨0, _⟩ => show (z 0).val = 256 * t.val + (y 0).val; omega
  | ⟨1, _⟩ => show (z 1).val = (y 1).val; omega

theorem iblk0 (c : Dev nD) (t : Fin cfg0.N) (y : (A 256).Idx) : (iblk m c 0 t : Vec Ideal (A 256) .f32) y = (V m c main_arg0 : Vec Ideal (A 2048) .f32) (place t y) := by
  unfold iblk
  rw [View.read_apply]
  show V m c main_arg0 _ = V m c main_arg0 _
  exact congrArg _ (place_eq t y _ _ (at0' t).1 (at0' t).2 _ rfl rfl)
theorem iblk1 (c : Dev nD) (t : Fin cfg0.N) (y : (A 256).Idx) : (iblk m c 1 t : Vec Ideal (A 256) .f32) y = (V m c main_arg1 : Vec Ideal (A 2048) .f32) (place t y) := by
  unfold iblk
  rw [View.read_apply]
  show V m c main_arg1 _ = V m c main_arg1 _
  exact congrArg _ (place_eq t y _ _ (at1' t).1 (at1' t).2 _ rfl rfl)
theorem iblk2 (c : Dev nD) (t : Fin cfg0.N) (y : (A 256).Idx) : (iblk m c 2 t : Vec Ideal (A 256) .f32) y = (V m c main_arg2 : Vec Ideal (A 2048) .f32) (place t y) := by
  unfold iblk
  rw [View.read_apply]
  show V m c main_arg2 _ = V m c main_arg2 _
  exact congrArg _ (place_eq t y _ _ (at2' t).1 (at2' t).2 _ rfl rfl)
theorem iblk3 (c : Dev nD) (t : Fin cfg0.N) (s : Fin 8) (r : Fin 256) (b : Fin 1536) :
    (iblk m c 3 t : Vec Ideal (P 256) .bf16) (ix3 s r b) = (V m c main_arg3 : Vec Ideal (P 2048) .bf16) (ix3 s (row t r) b) := by
  unfold iblk
  rw [View.read_apply]
  show V m c main_arg3 _ = V m c main_arg3 _
  refine congrArg _ (funext fun a => Fin.ext ?_)
  match a with
  | ⟨0, _⟩ => show win0_3.index t 0 * 8 + 1 * s.val = s.val; rw [(at3' t).1]; omega
  | ⟨1, _⟩ => show win0_3.index t 1 * 256 + 1 * r.val = 256 * t.val + r.val; rw [(at3' t).2.1]; omega
  | ⟨2, _⟩ => show win0_3.index t 2 * 1536 + 1 * b.val = b.val; rw [(at3' t).2.2]; omega

/-! ## The arrays -/

/-- The weights, both moments and the summed gradient, of the arguments. -/
abbrev wK (c : Dev nD) : FVec Ideal (A 2048) .f32 := m ((c : Thread nD τ).loc main_arg0)
abbrev xK (c : Dev nD) : FVec Ideal (A 2048) .f32 := m ((c : Thread nD τ).loc main_arg1)
abbrev vK (c : Dev nD) : FVec Ideal (A 2048) .f32 := m ((c : Thread nD τ).loc main_arg2)
abbrev gK (c : Dev nD) : FVec Ideal (A 2048) .f32 := sumH (m ((c : Thread nD τ).loc main_arg3))

abbrev gAt (c : Dev nD) (t : Fin cfg0.N) : Vec Ideal (A 256) .f32 := k0_pay5 (iblk m c 0 t) (iblk m c 1 t) (iblk m c 2 t) (iblk m c 3 t)

theorem gAt_eq (c : Dev nD) (t : Fin cfg0.N) (y : (A 256).Idx) : gAt m c t y = gK m c (place t y) := by
  have ey : y = ix2 (y 0) (y 1) := by funext a; fin_cases a <;> rfl
  refine (congrArg _ ey).trans ((sum_pay _ _ _ _ (y 0) (y 1)).trans (Eq.trans ?_ (sumH_apply _ (row t (y 0)) (y 1)).symm))
  refine Finset.sum_congr rfl fun s _ => ?_
  refine (iblk3 m c t s (y 0) (y 1)).trans ?_
  rw [V_main_arg3]

theorem wAt_eq (c : Dev nD) (t : Fin cfg0.N) (y : (A 256).Idx) : (iblk m c 0 t : Vec Ideal (A 256) .f32) y = wK m c (place t y) :=
  (iblk0 m c t y).trans (by rw [V_main_arg0])
theorem xAt_eq (c : Dev nD) (t : Fin cfg0.N) (y : (A 256).Idx) : (iblk m c 1 t : Vec Ideal (A 256) .f32) y = xK m c (place t y) :=
  (iblk1 m c t y).trans (by rw [V_main_arg1])
theorem vAt_eq (c : Dev nD) (t : Fin cfg0.N) (y : (A 256).Idx) : (iblk m c 2 t : Vec Ideal (A 256) .f32) y = vK m c (place t y) :=
  (iblk2 m c t y).trans (by rw [V_main_arg2])

theorem g_block (c : Dev nD) (t : Fin cfg0.N) : out0_4 (iblk m c 0 t) (iblk m c 1 t) (iblk m c 2 t) (iblk m c 3 t) = fun y : (A 256).Idx => gK m c (place t y) := by
  unfold out0_4
  exact (canon_whole _ _).trans (funext (gAt_eq m c t))
theorem d_block (c : Dev nD) (t : Fin cfg0.N) :
    out0_5 (iblk m c 0 t) (iblk m c 1 t) (iblk m c 2 t) (iblk m c 3 t) = fun y : (A 256).Idx => changeH (gK m c) (wK m c) (xK m c) (vK m c) (place t y) := by
  unfold out0_5
  rw [ld_zero, ld_zero, ld_zero]
  refine (canon_whole _ _).trans (funext fun y => (change_pay _ _ _ _ y).trans ?_)
  rw [changeH_apply, wAt_eq, xAt_eq, vAt_eq]
  exact congrArg (fun q => changeOf q _ _ _) (gAt_eq m c t y)
theorem m_block (c : Dev nD) (t : Fin cfg0.N) :
    out0_6 (iblk m c 0 t) (iblk m c 1 t) (iblk m c 2 t) (iblk m c 3 t) = fun y : (A 256).Idx => firstH (gK m c) (xK m c) (place t y) := by
  unfold out0_6
  rw [ld_zero]
  refine (canon_whole _ _).trans (funext fun y => (first_pay _ _ y).trans ?_)
  rw [firstH_apply, xAt_eq]
  exact congrArg (fun q => firstOf q _) (gAt_eq m c t y)
theorem v_block (c : Dev nD) (t : Fin cfg0.N) :
    out0_7 (iblk m c 0 t) (iblk m c 1 t) (iblk m c 2 t) (iblk m c 3 t) = fun y : (A 256).Idx => secondH (gK m c) (vK m c) (place t y) := by
  unfold out0_7
  rw [ld_zero]
  refine (canon_whole _ _).trans (funext fun y => (second_pay _ _ y).trans ?_)
  rw [secondH_apply, vAt_eq]
  exact congrArg (fun q => secondOf q _) (gAt_eq m c t y)

theorem g_array (c : Dev nD) : (dats m 0 c).arrAt 4 cfg0.N = gK m c := by
  refine (dats m 0 c).arrAt_eq_of_covers 4 _ (by decide +kernel) fun t hf y => ?_
  blk_simp
  rw [after0_4, g_block]
  exact congrArg (gK m c) (place_eq t y _ _ (atOut t).1.1 (atOut t).1.2 _ rfl rfl).symm
theorem d_array (c : Dev nD) : (dats m 0 c).arrAt 5 cfg0.N = changeH (gK m c) (wK m c) (xK m c) (vK m c) := by
  refine (dats m 0 c).arrAt_eq_of_covers 5 _ (by decide +kernel) fun t hf y => ?_
  blk_simp
  rw [after0_5, d_block]
  exact congrArg (changeH (gK m c) (wK m c) (xK m c) (vK m c)) (place_eq t y _ _ (atOut t).2.1.1 (atOut t).2.1.2 _ rfl rfl).symm
theorem m_array (c : Dev nD) : (dats m 0 c).arrAt 6 cfg0.N = firstH (gK m c) (xK m c) := by
  refine (dats m 0 c).arrAt_eq_of_covers 6 _ (by decide +kernel) fun t hf y => ?_
  blk_simp
  rw [after0_6, m_block]
  exact congrArg (firstH (gK m c) (xK m c)) (place_eq t y _ _ (atOut t).2.2.1.1 (atOut t).2.2.1.2 _ rfl rfl).symm
theorem v_array (c : Dev nD) : (dats m 0 c).arrAt 7 cfg0.N = secondH (gK m c) (vK m c) := by
  refine (dats m 0 c).arrAt_eq_of_covers 7 _ (by decide +kernel) fun t hf y => ?_
  blk_simp
  rw [after0_7, v_block]
  exact congrArg (secondH (gK m c) (vK m c)) (place_eq t y _ _ (atOut t).2.2.2.1 (atOut t).2.2.2.2 _ rfl rfl).symm

end Equal

theorem frame_ref : Cert.quiescent_Reference13Ideal := fun m ρ _ =>
  (θ_run Cert.Reference13Ideal.defs _ _).mono
    (fun r h => ⟨fun c => (h c).2.2.2.2, Idealize.ShloMosaic.sem_eq_zero_of_no_sems (by decide) r.2⟩) (run_ref m ρ)

theorem algebraic : Cert.algebraic_Kernel13Ideal_Reference13Ideal := by
  intro m g m' g' _ hagree
  refine ⟨fun c => (Cert.Kernel13Ideal.Gen.dats m 0 c).arrAt 4 Cert.Kernel13Ideal.cfg0.N, fun c => (Cert.Kernel13Ideal.Gen.dats m 0 c).arrAt 5 Cert.Kernel13Ideal.cfg0.N,
    fun c => (Cert.Kernel13Ideal.Gen.dats m 0 c).arrAt 6 Cert.Kernel13Ideal.cfg0.N, fun c => (Cert.Kernel13Ideal.Gen.dats m 0 c).arrAt 7 Cert.Kernel13Ideal.cfg0.N, ?_, ?_⟩
  · exact Cert.Kernel13Ideal.Value.run_blocks m g
  · refine (θ_run Cert.Reference13Ideal.defs _ _).mono (fun r h c => ?_) (run_ref m' g')
    obtain ⟨e0, e1, e2, e3⟩ := hagree c
    refine ⟨(h c).1.trans ?_, (h c).2.1.trans ?_, (h c).2.2.1.trans ?_, (h c).2.2.2.1.trans ?_, (h c).2.2.2.2⟩
    · rw [e3]; exact (g_array m c).symm
    · rw [e0, e1, e2, e3]; exact (d_array m c).symm
    · rw [e1, e3]; exact (m_array m c).symm
    · rw [e2, e3]; exact (v_array m c).symm

end Cert.AdamW

end
-- ==== Proof.DwIn.Claims.lean ====
/- The input projection's weights' gradient, a product summed over blocks of rows in a carried buffer: the values and the claims. -/
module

public import proofs.«01_k».proof.Defs
public import proofs.«01_k».proof.Proof.Base.Sums
public import proofs.«01_k».proof.Proof.Norm.Row
public import proofs.«01_k».proof.Proof.Gen.Kernel14Ideal.Value
public import proofs.«01_k».proof.Proof.Gen.Reference14Ideal.Run
public import Idealize.ShloMosaic.Lib.Pipeline.ValueKit.Geometry

@[expose] public section

set_option maxRecDepth 16384

noncomputable section

open scoped BigOperators

namespace Cert.DwIn

open Cert.RowNorm Cert.Sums
open Idealize.ShloMosaic Idealize.ShloMosaic.TcCoe Idealize.SL.Sem

/-- The rows, their cotangents and the gradient. -/
abbrev TA : Shape := ⟨2, ![8192, 2048]⟩
abbrev TB : Shape := ⟨2, ![8192, 9216]⟩
abbrev TC : Shape := ⟨2, ![2048, 9216]⟩
/-- A column tile of the gradient. -/
abbrev Tile : Shape := ⟨2, ![2048, 1536]⟩

section Reference
open Cert.Reference14Ideal Cert.Reference14Ideal.Gen
variable {F : FTy → Type} [FloatOps F]

/-- The gradient on the host. -/
def gradH (a : FVec F TA .bf16) (b : FVec F TB .bf16) : FVec F TC .bf16 :=
  truncf .bf16 (Host.dotGeneral dot_S2048x8192_S8192x9216_S2048x9216_1_0_0_1_n_n none
    (transpose ⟨2, ![2048, 8192]⟩ [1, 0] (extf .f32 a (by decide)) (by decide)) (extf .f32 b (by decide))) (by decide)

theorem gradH_apply (a : FVec Ideal TA .bf16) (b : FVec Ideal TB .bf16) (i : Fin 2048) (C : Fin 9216) :
    gradH a b (ix2 i C) = ∑ q : Fin 8192, a (ix2 q i) * b (ix2 q C) := by
  unfold gradH
  pointwise

theorem run_ref (m : (ℓ : Loc nD τ sig) → Buf (Elt F) ℓ) (ρ : Dev nD → PrngReg) :
    θ_run defs (onTc (τ := τ) (main (F := F))) ⟨m, fun _ => 0, ρ⟩ fun r => ∀ c : Dev nD,
    r.2.mem ((c.tc : Thread nD τ).loc main_v4) = gradH (m ((c.tc : Thread nD τ).loc main_arg0)) (m ((c.tc : Thread nD τ).loc main_arg1))
    ∧ (r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2⟩) (Cert.Reference14Ideal.Value.run m ρ)

end Reference

section Points
open Cert.Kernel14Ideal Cert.Kernel14Ideal.Gen
variable {F : FTy → Type} [FloatOps F] [Named F]
variable (m : (ℓ : Loc nD τ sig) → Buf (Elt F) ℓ)

/-- The sum carried into a point. -/
abbrev carried (c : Dev nD) (t : Fin cfg0.N) : Vec F Tile .f32 :=
  (outsAt0 m c (t.val - 1) (Nat.lt_of_le_of_lt (Nat.sub_le _ _) t.isLt)).2

theorem first_point (c : Dev nD) (t : Fin cfg0.N) (h0 : t.val % 8 = 0) : (outsAt0 m c t.val t.isLt).2 = k0_pay1 (iblk m c 0 t) (iblk m c 1 t) := by
  rw [outsAt0_A m c t h0 (by omega) (by omega)]
  dsimp only
  unfold sout0_A_0
  simp only [View.read_writes_junk_eq_canon]
  unfold kernelRun0_A
  dsimp only
  sl_unfold_words
  refine (View.canon_unit_zero (S := Tile) zero_off _ _).trans ?_
  rw [readAt_unread, readAt_unread, ld_zero, ld_zero]

theorem middle_point (c : Dev nD) (t : Fin cfg0.N) (h1 : 1 ≤ t.val % 8 ∧ t.val % 8 ≤ 6) :
    (outsAt0 m c t.val t.isLt).2 = k0_pay2 (carried m c t) (iblk m c 0 t) (iblk m c 1 t) := by
  rw [outsAt0_B m c t (by omega) h1 (by omega)]
  dsimp only
  unfold sout0_B_0
  simp only [View.read_writes_junk_eq_canon]
  unfold kernelRun0_B
  dsimp only
  sl_unfold_words
  refine (View.canon_unit_zero (S := Tile) zero_off _ _).trans ?_
  rw [readAt_unread, readAt_unread, ld_zero, ld_zero]
  show k0_pay2 (View.readAt (Elt F) scM0_0.view (Rect.unit (s := Tile) ![0, 0] ![2048, 1536] inb_S2048x1536_S2048x1536_0_0).toLoadRect
    ((Memref.isWhole_whole _).unread (carried m c t))) _ _ = _
  rw [readAt_unread, ld_zero]

theorem last_point (c : Dev nD) (t : Fin cfg0.N) (h2 : t.val % 8 = 7) :
    (outsAt0 m c t.val t.isLt).1 = k0_pay3 (carried m c t) (iblk m c 0 t) (iblk m c 1 t) := by
  rw [outsAt0_C m c t (by omega) (by omega) h2]
  dsimp only
  unfold out0_C_2
  simp only [View.read_writes_junk_eq_canon]
  unfold kernelRun0_C
  dsimp only
  sl_unfold_words
  refine (View.canon_unit_zero (S := Tile) zero_off _ _).trans ?_
  rw [readAt_unread, readAt_unread, ld_zero, ld_zero]
  show k0_pay3 (View.readAt (Elt F) scM0_0.view (Rect.unit (s := Tile) ![0, 0] ![2048, 1536] inb_S2048x1536_S2048x1536_0_0).toLoadRect
    ((Memref.isWhole_whole _).unread (carried m c t))) _ _ = _
  rw [readAt_unread, ld_zero]

end Points

section Equal
open Cert.Kernel14Ideal Cert.Kernel14Ideal.Gen

theorem pay1_apply (a : Vec Ideal S1024x2048 .bf16) (w : Vec Ideal S1024x1536 .bf16) (i : Fin 2048) (b : Fin 1536) :
    k0_pay1 (F := Ideal) a w (ix2 i b) = ∑ r : Fin 1024, a (ix2 r i) * w (ix2 r b) := by
  unfold k0_pay1
  pointwise
theorem pay2_apply (s : Vec Ideal Tile .f32) (a : Vec Ideal S1024x2048 .bf16) (w : Vec Ideal S1024x1536 .bf16) (i : Fin 2048) (b : Fin 1536) :
    k0_pay2 (F := Ideal) s a w (ix2 i b) = s (ix2 i b) + ∑ r : Fin 1024, a (ix2 r i) * w (ix2 r b) := by
  unfold k0_pay2
  pointwise
theorem pay3_apply (s : Vec Ideal Tile .f32) (a : Vec Ideal S1024x2048 .bf16) (w : Vec Ideal S1024x1536 .bf16) (i : Fin 2048) (b : Fin 1536) :
    k0_pay3 (F := Ideal) s a w (ix2 i b) = s (ix2 i b) + ∑ r : Fin 1024, a (ix2 r i) * w (ix2 r b) := by
  unfold k0_pay3
  pointwise

variable (m : (ℓ : Loc nD τ sig) → Buf (Elt Ideal) ℓ)

theorem lt_N (t : Fin cfg0.N) : t.val < 48 := t.isLt
theorem at0' : ∀ t : Fin cfg0.N, win0_0.index t 0 = t.val % 8 ∧ win0_0.index t 1 = 0 := by decide +kernel
theorem at1' : ∀ t : Fin cfg0.N, win0_1.index t 0 = t.val % 8 ∧ win0_1.index t 1 = t.val / 8 := by decide +kernel
theorem at2' : ∀ t : Fin cfg0.N, win0_2.index t 0 = 0 ∧ win0_2.index t 1 = t.val / 8 := by decide +kernel

theorem iblk0 (c : Dev nD) (t : Fin cfg0.N) (r : Fin 1024) (i : Fin 2048) :
    (iblk m c 0 t : Vec Ideal S1024x2048 .bf16) (ix2 r i) = at2 (V m c main_arg0) (1024 * (t.val % 8) + r.val) i.val := by
  rw [at2_of _ _ _ (by omega) i.isLt]
  unfold iblk
  rw [View.read_apply]
  show V m c main_arg0 _ = V m c main_arg0 _
  refine congrArg _ (funext fun a => Fin.ext ?_)
  match a with
  | ⟨0, _⟩ => show win0_0.index t 0 * 1024 + 1 * r.val = 1024 * (t.val % 8) + r.val; rw [(at0' t).1]; omega
  | ⟨1, _⟩ => show win0_0.index t 1 * 2048 + 1 * i.val = i.val; rw [(at0' t).2]; omega

theorem iblk1 (c : Dev nD) (t : Fin cfg0.N) (r : Fin 1024) (b : Fin 1536) :
    (iblk m c 1 t : Vec Ideal S1024x1536 .bf16) (ix2 r b) = at2 (V m c main_arg1) (1024 * (t.val % 8) + r.val) (1536 * (t.val / 8) + b.val) := by
  have ht := lt_N t
  rw [at2_of _ _ _ (by omega) (by omega)]
  unfold iblk
  rw [View.read_apply]
  show V m c main_arg1 _ = V m c main_arg1 _
  refine congrArg _ (funext fun a => Fin.ext ?_)
  match a with
  | ⟨0, _⟩ => show win0_1.index t 0 * 1024 + 1 * r.val = 1024 * (t.val % 8) + r.val; rw [(at1' t).1]; omega
  | ⟨1, _⟩ => show win0_1.index t 1 * 1536 + 1 * b.val = 1536 * (t.val / 8) + b.val; rw [(at1' t).2]; omega

/-- One row's part of the gradient, and the first `n` blocks' of rows. -/
def part (c : Dev nD) (i C q : ℕ) : EReal := at2 (V m c main_arg0) q i * at2 (V m c main_arg1) q C
def blocks (c : Dev nD) (i C n : ℕ) : EReal := ∑ k ∈ Finset.range n, ∑ r : Fin 1024, part m c i C (1024 * k + r.val)

abbrev aAt (c : Dev nD) (t : Fin cfg0.N) : FVec Ideal S1024x2048 .bf16 := iblk m c 0 t
abbrev wAt (c : Dev nD) (t : Fin cfg0.N) : FVec Ideal S1024x1536 .bf16 := iblk m c 1 t

theorem block_sum (c : Dev nD) (t : Fin cfg0.N) (i : Fin 2048) (b : Fin 1536) :
    ∑ r : Fin 1024, aAt m c t (ix2 r i) * wAt m c t (ix2 r b) =
      ∑ r : Fin 1024, part m c i.val (1536 * (t.val / 8) + b.val) (1024 * (t.val % 8) + r.val) :=
  Finset.sum_congr rfl fun r _ => congrArg₂ (fun p q : EReal => p * q) (iblk0 m c t r i) (iblk1 m c t r b)

theorem carried_eq (c : Dev nD) (i : Fin 2048) (b : Fin 1536) (n : ℕ) : ∀ hn : n < cfg0.N, n % 8 ≤ 6 →
    ((outsAt0 m c n hn).2 : Vec Ideal Tile .f32) (ix2 i b) = blocks m c i.val (1536 * (n / 8) + b.val) (n % 8 + 1) := by
  induction n with
  | zero =>
    intro hn _
    refine (congrFun (first_point m c ⟨0, hn⟩ rfl) _).trans ((pay1_apply _ _ i b).trans ((block_sum m c ⟨0, hn⟩ i b).trans ?_))
    unfold blocks
    rw [Finset.sum_range_one]
    rfl
  | succ n ih =>
    intro hn h6
    by_cases h0 : (n + 1) % 8 = 0
    · refine (congrFun (first_point m c ⟨n + 1, hn⟩ h0) _).trans ((pay1_apply _ _ i b).trans ((block_sum m c ⟨n + 1, hn⟩ i b).trans ?_))
      unfold blocks
      dsimp only
      rw [h0, Finset.sum_range_one]
    · refine (congrFun (middle_point m c ⟨n + 1, hn⟩ ⟨by show 1 ≤ (n + 1) % 8; omega, h6⟩) _).trans ((pay2_apply _ _ _ i b).trans ?_)
      refine (congrArg₂ (fun p q : EReal => p + q) (ih (Nat.lt_of_succ_lt hn) (by omega)) (block_sum m c ⟨n + 1, hn⟩ i b)).trans ?_
      dsimp only
      have e1 : n / 8 = (n + 1) / 8 := by omega
      have e2 : n % 8 + 1 = (n + 1) % 8 := by omega
      rw [e1, e2]
      unfold blocks
      exact (Finset.sum_range_succ _ _).symm

/-- The gradient's element. -/
def gradV (c : Dev nD) (i C : ℕ) : EReal := ∑ q ∈ Finset.range 8192, part m c i C q

theorem last_eq (c : Dev nD) (t : Fin cfg0.N) (h : t.val % 8 = 7) :
    (outsAt0 m c t.val t.isLt).1 = fun y : Tile.Idx => gradV m c (y 0).val (1536 * (t.val / 8) + (y 1).val) := by
  have ht := lt_N t
  rw [last_point m c t h]
  funext y
  have ey : y = ix2 (y 0) (y 1) := by funext a; fin_cases a <;> rfl
  refine (congrArg _ ey).trans ((pay3_apply _ _ _ (y 0) (y 1)).trans ?_)
  refine (congrArg₂ (fun p q : EReal => p + q) (carried_eq m c (y 0) (y 1) (t.val - 1) (Nat.lt_of_le_of_lt (Nat.sub_le _ _) t.isLt) (by omega)) (block_sum m c t (y 0) (y 1))).trans ?_
  have e1 : (t.val - 1) / 8 = t.val / 8 := by omega
  have e2 : (t.val - 1) % 8 + 1 = 7 := by omega
  rw [e1, e2, h]
  refine (Finset.sum_range_succ (fun k => ∑ r : Fin 1024, part m c (y 0).val (1536 * (t.val / 8) + (y 1).val) (1024 * k + r.val)) 7).symm.trans ?_
  refine (Finset.sum_range (fun k => ∑ r : Fin 1024, part m c (y 0).val (1536 * (t.val / 8) + (y 1).val) (1024 * k + r.val))).trans ?_
  exact sum_runs 1024 8 (part m c (y 0).val (1536 * (t.val / 8) + (y 1).val))

theorem last2 : ∀ t : Fin cfg0.N, (cfg0.win 2).flush t = true → t.val % 8 = 7 := by decide +kernel

theorem array_eq (c : Dev nD) : (dats m 0 c).arrAt 2 cfg0.N = fun z : TC.Idx => gradV m c (z 0).val (z 1).val := by
  refine (dats m 0 c).arrAt_eq_of_covers 2 _ (by decide +kernel) fun t hf y => ?_
  have h7 : t.val % 8 = 7 := last2 t hf
  blk_simp
  rw [after0_2, last_eq m c t h7]
  refine congrArg₂ (gradV m c) ?_ ?_
  · rw [(at2' t).1]; show _ = 0 * 2048 + _; omega
  · rw [(at2' t).2]; show 1536 * _ + _ = _ * 1536 + _; omega

theorem grad_ref (c : Dev nD) :
    gradH (F := Ideal) (m ((c : Thread nD τ).loc main_arg0)) (m ((c : Thread nD τ).loc main_arg1)) = (dats m 0 c).arrAt 2 cfg0.N := by
  rw [array_eq]
  funext z
  have ez : z = ix2 (z 0) (z 1) := by funext a; fin_cases a <;> rfl
  refine (congrArg _ ez).trans ((gradH_apply _ _ (z 0) (z 1)).trans ?_)
  unfold gradV
  rw [Finset.sum_range]
  refine Finset.sum_congr rfl fun q _ => ?_
  unfold part
  rw [V_main_arg0, V_main_arg1]
  exact congrArg₂ (fun p q : EReal => p * q) (at2_fin (m ((c : Thread nD τ).loc main_arg0)) q (z 0)).symm (at2_fin (m ((c : Thread nD τ).loc main_arg1)) q (z 1)).symm

end Equal

theorem frame_ref : Cert.quiescent_Reference14Ideal := fun m ρ _ =>
  (θ_run Cert.Reference14Ideal.defs _ _).mono
    (fun r h => ⟨fun c => (h c).2, Idealize.ShloMosaic.sem_eq_zero_of_no_sems (by decide) r.2⟩) (run_ref m ρ)

theorem algebraic : Cert.algebraic_Kernel14Ideal_Reference14Ideal := by
  intro m g m' g' _ hagree
  refine ⟨fun c => (Cert.Kernel14Ideal.Gen.dats m 0 c).arrAt 2 Cert.Kernel14Ideal.cfg0.N, ?_, ?_⟩
  · exact Cert.Kernel14Ideal.Value.run_blocks m g
  · refine (θ_run Cert.Reference14Ideal.defs _ _).mono (fun r h c => ?_) (run_ref m' g')
    obtain ⟨e0, e1⟩ := hagree c
    refine ⟨(h c).1.trans ?_, (h c).2⟩
    rw [e0, e1]
    exact grad_ref m c

end Cert.DwIn

end
-- ==== Proof.lean ====
/- The proof of every claim of this directory (Defs.lean): the frames, and that each kernel computes its reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite5
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Pre_finite6
public import proofs.«01_k».proof.Proof.Gen.Pre_finite10
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Dh1.Claims
public import proofs.«01_k».proof.Proof.Dh2.Claims
public import proofs.«01_k».proof.Proof.DownLoss.Claims
public import proofs.«01_k».proof.Proof.MergeBwd.Claims
public import proofs.«01_k».proof.Proof.FfnBwd.Claims
public import proofs.«01_k».proof.Proof.PoolBwd.Claims
public import proofs.«01_k».proof.Proof.FfnFwd.Claims
public import proofs.«01_k».proof.Proof.MergeFwd.Claims
public import proofs.«01_k».proof.Proof.OutProj.Claims
public import proofs.«01_k».proof.Proof.PoolFwd.Claims
public import proofs.«01_k».proof.Proof.UpProj.Claims
public import proofs.«01_k».proof.Proof.DyLru.Claims
public import proofs.«01_k».proof.Proof.AdamW.Claims
public import proofs.«01_k».proof.Proof.DwIn.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Pre_finite5.Gen.facts, Cert.Pre_finite6.Gen.facts, Cert.Pre_finite10.Gen.facts,
  fun m ρ _ => Cert.Kernel.Gen.frame m ρ, fun m ρ _ => Cert.KernelIdeal.Gen.frame m ρ, Cert.Dh1.frame_ref,
  fun m ρ _ => Cert.Kernel2.Gen.frame m ρ, fun m ρ _ => Cert.Kernel2Ideal.Gen.frame m ρ, Cert.Dh2.frame_ref,
  fun m ρ _ => Cert.Kernel3.Gen.frame m ρ, fun m ρ _ => Cert.Kernel3Ideal.Gen.frame m ρ, Cert.DownLoss.frame_ref,
  fun m ρ _ => Cert.Kernel4.Gen.frame m ρ, fun m ρ _ => Cert.Kernel4Ideal.Gen.frame m ρ, Cert.MergeBwd.frame_ref,
  fun m ρ _ => Cert.Kernel5.Gen.frame m ρ, fun m ρ _ => Cert.Kernel5Ideal.Gen.frame m ρ, fun m ρ _ => Cert.Kernel5Ideal.Gen.frame m ρ,
  Cert.FfnBwd.frame_ref, fun m ρ _ => Cert.FfnBwd.frame_ref m ρ trivial,
  fun m ρ _ => Cert.Kernel6.Gen.frame m ρ, fun m ρ _ => Cert.Kernel6Ideal.Gen.frame m ρ, fun m ρ _ => Cert.Kernel6Ideal.Gen.frame m ρ,
  Cert.PoolBwd.frame_ref, fun m ρ _ => Cert.PoolBwd.frame_ref m ρ trivial,
  fun m ρ _ => Cert.Kernel7.Gen.frame m ρ, fun m ρ _ => Cert.Kernel7Ideal.Gen.frame m ρ, Cert.FfnFwd.frame_ref,
  fun m ρ _ => Cert.Kernel8.Gen.frame m ρ, fun m ρ _ => Cert.Kernel8Ideal.Gen.frame m ρ, Cert.MergeFwd.frame_ref,
  fun m ρ _ => Cert.Kernel9.Gen.frame m ρ, fun m ρ _ => Cert.Kernel9Ideal.Gen.frame m ρ, Cert.OutProj.frame_ref,
  fun m ρ _ => Cert.Kernel10.Gen.frame m ρ, fun m ρ _ => Cert.Kernel10Ideal.Gen.frame m ρ, fun m ρ _ => Cert.Kernel10Ideal.Gen.frame m ρ,
  Cert.PoolFwd.frame_ref, fun m ρ _ => Cert.PoolFwd.frame_ref m ρ trivial,
  fun m ρ _ => Cert.Kernel11.Gen.frame m ρ, fun m ρ _ => Cert.Kernel11Ideal.Gen.frame m ρ, Cert.UpProj.frame_ref,
  fun m ρ _ => Cert.Kernel12.Gen.frame m ρ, fun m ρ _ => Cert.Kernel12Ideal.Gen.frame m ρ, Cert.DyLru.frame_ref,
  fun m ρ _ => Cert.Kernel13.Gen.frame m ρ, fun m ρ _ => Cert.Kernel13Ideal.Gen.frame m ρ, Cert.AdamW.frame_ref,
  fun m ρ _ => Cert.Kernel14.Gen.frame m ρ, fun m ρ _ => Cert.Kernel14Ideal.Gen.frame m ρ, Cert.DwIn.frame_ref,
  trivial, Cert.Dh1.algebraic, trivial, Cert.Dh2.algebraic, trivial, Cert.DownLoss.algebraic,
  trivial, Cert.MergeBwd.algebraic,
  Cert.FfnBwd.preserves, Cert.FfnBwd.algebraic,
  trivial, Cert.PoolBwd.algebraic,
  Cert.FfnFwd.preserves, Cert.FfnFwd.algebraic,
  trivial, Cert.MergeFwd.algebraic,
  trivial, Cert.OutProj.algebraic,
  trivial, Cert.PoolFwd.algebraic,
  trivial, Cert.UpProj.algebraic, trivial, Cert.DyLru.algebraic, trivial, Cert.AdamW.algebraic, trivial, Cert.DwIn.algebraic⟩

end Cert.Proof

end
